-- ==== Defs.lean ====
def Pre_XaBwd [hPre_finite_q_k : Cert.Pre_finite_q_k.Facts] (m : (ℓ : Loc Cert.XaBwd.nD Cert.XaBwd.τ Cert.XaBwd.sig) → Buf (Elt Bits) ℓ) : Prop :=
  ∀ c : Dev Cert.XaBwd.nD,
    (Cert.Pre_finite_q_k.fn (F := Bits) (m ((c.tc : Thread Cert.XaBwd.nD Cert.XaBwd.τ).loc Cert.XaBwd.main_arg0)) (m ((c.tc : Thread Cert.XaBwd.nD Cert.XaBwd.τ).loc Cert.XaBwd.main_arg1)) (m ((c.tc : Thread Cert.XaBwd.nD Cert.XaBwd.τ).loc Cert.XaBwd.main_arg2)) (m ((c.tc : Thread Cert.XaBwd.nD Cert.XaBwd.τ).loc Cert.XaBwd.main_arg3))).1 = (fun _ => 1#1)
    ∧ (Cert.Pre_finite_q_k.fn (F := Bits) (m ((c.tc : Thread Cert.XaBwd.nD Cert.XaBwd.τ).loc Cert.XaBwd.main_arg0)) (m ((c.tc : Thread Cert.XaBwd.nD Cert.XaBwd.τ).loc Cert.XaBwd.main_arg1)) (m ((c.tc : Thread Cert.XaBwd.nD Cert.XaBwd.τ).loc Cert.XaBwd.main_arg2)) (m ((c.tc : Thread Cert.XaBwd.nD Cert.XaBwd.τ).loc Cert.XaBwd.main_arg3))).2 = (fun _ => 1#1)

def Pre_XaBwdIdeal [hPre_finite_q_k : Cert.Pre_finite_q_k.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_finite_q_k.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3))).1 = (fun _ => 1#1)
    ∧ (Cert.Pre_finite_q_k.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2)) (m ((c.tc : Thread Cert.XaBwdIdeal.nD Cert.XaBwdIdeal.τ).loc Cert.XaBwdIdeal.main_arg3))).2 = (fun _ => 1#1)

def Pre_XaRefIdeal [hPre_finite_q_k : Cert.Pre_finite_q_k.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_q_k.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3))).1 = (fun _ => 1#1)
    ∧ (Cert.Pre_finite_q_k.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3))).2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_XqDxRefIdeal (m : (ℓ : Loc Cert.XqDxRefIdeal.nD Cert.XqDxRefIdeal.τ Cert.XqDxRefIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwARefIdeal (m : (ℓ : Loc Cert.InDwARefIdeal.nD Cert.InDwARefIdeal.τ Cert.InDwARefIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBRefIdeal (m : (ℓ : Loc Cert.InDwBRefIdeal.nD Cert.InDwBRefIdeal.τ Cert.InDwBRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamXq (m : (ℓ : Loc Cert.AdamXq.nD Cert.AdamXq.τ Cert.AdamXq.sig) → Buf (Elt Bits) ℓ) : Prop :=
  True

def Pre_AdamXqIdeal (m : (ℓ : Loc Cert.AdamXqIdeal.nD Cert.AdamXqIdeal.τ Cert.AdamXqIdeal.sig) → Buf (Elt Ideal) ℓ) : Prop :=
  True

def Pre_AdamXqRefIdeal (m : (ℓ : Loc Cert.AdamXqRefIdeal.nD Cert.AdamXqRefIdeal.τ Cert.AdamXqRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamXo (m : (ℓ : Loc Cert.AdamXo.nD Cert.AdamXo.τ Cert.AdamXo.sig) → Buf (Elt Bits) ℓ) : Prop :=
  True

def Pre_AdamXoIdeal (m : (ℓ : Loc Cert.AdamXoIdeal.nD Cert.AdamXoIdeal.τ Cert.AdamXoIdeal.sig) → Buf (Elt Ideal) ℓ) : Prop :=
  True

def Pre_AdamXoRefIdeal (m : (ℓ : Loc Cert.AdamXoRefIdeal.nD Cert.AdamXoRefIdeal.τ Cert.AdamXoRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_XaBwd [hXaBwd : Cert.XaBwd.Facts] [hPre_finite_q_k : Cert.Pre_finite_q_k.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3))
      ∧ r.2.sem = fun _ => 0)

def quiescent_XaBwdIdeal [hXaBwdIdeal : Cert.XaBwdIdeal.Facts] [hPre_finite_q_k : Cert.Pre_finite_q_k.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ r.2.sem = fun _ => 0)

def quiescent_XaRefIdeal [hXaRefIdeal : Cert.XaRefIdeal.Facts] [hPre_finite_q_k : Cert.Pre_finite_q_k.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1)
      ∧ r.2.mem ((c.tc : Thread Cert.XqDx.nD Cert.XqDx.τ).loc Cert.XqDx.main_arg2) = m ((c.tc : Thread Cert.XqDx.nD Cert.XqDx.τ).loc Cert.XqDx.main_arg2)
      ∧ r.2.mem ((c.tc : Thread Cert.XqDx.nD Cert.XqDx.τ).loc Cert.XqDx.main_arg3) = m ((c.tc : Thread Cert.XqDx.nD Cert.XqDx.τ).loc Cert.XqDx.main_arg3)
      ∧ r.2.mem ((c.tc : Thread Cert.XqDx.nD Cert.XqDx.τ).loc Cert.XqDx.main_arg4) = m ((c.tc : Thread Cert.XqDx.nD Cert.XqDx.τ).loc Cert.XqDx.main_arg4))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1)
      ∧ r.2.mem ((c.tc : Thread Cert.XqDxIdeal.nD Cert.XqDxIdeal.τ).loc Cert.XqDxIdeal.main_arg2) = m ((c.tc : Thread Cert.XqDxIdeal.nD Cert.XqDxIdeal.τ).loc Cert.XqDxIdeal.main_arg2)
      ∧ r.2.mem ((c.tc : Thread Cert.XqDxIdeal.nD Cert.XqDxIdeal.τ).loc Cert.XqDxIdeal.main_arg3) = m ((c.tc : Thread Cert.XqDxIdeal.nD Cert.XqDxIdeal.τ).loc Cert.XqDxIdeal.main_arg3)
      ∧ r.2.mem ((c.tc : Thread Cert.XqDxIdeal.nD Cert.XqDxIdeal.τ).loc Cert.XqDxIdeal.main_arg4) = m ((c.tc : Thread Cert.XqDxIdeal.nD Cert.XqDxIdeal.τ).loc Cert.XqDxIdeal.main_arg4))
      ∧ r.2.sem = fun _ => 0)

def quiescent_XqDxRefIdeal [hXqDxRefIdeal : Cert.XqDxRefIdeal.Facts] : Prop :=
  ∀ (m : (ℓ : Loc Cert.XqDxRefIdeal.nD Cert.XqDxRefIdeal.τ Cert.XqDxRefIdeal.sig) → Buf (Elt Ideal) ℓ) (g : Dev Cert.XqDxRefIdeal.nD → PrngReg), Pre_XqDxRefIdeal m →
    θ_run (Cert.XqDxRefIdeal.defs (F := Ideal)) (onTc (τ := Cert.XqDxRefIdeal.τ) (Cert.XqDxRefIdeal.main (F := Ideal))) ⟨m, fun _ => 0, g⟩ (fun r => (∀ c : Dev Cert.XqDxRefIdeal.nD,
      r.2.mem ((c.tc : Thread Cert.XqDxRefIdeal.nD Cert.XqDxRefIdeal.τ).loc Cert.XqDxRefIdeal.main_arg0) = m ((c.tc : Thread Cert.XqDxRefIdeal.nD Cert.XqDxRefIdeal.τ).loc Cert.XqDxRefIdeal.main_arg0)
      ∧ r.2.mem ((c.tc : Thread Cert.XqDxRefIdeal.nD Cert.XqDxRefIdeal.τ).loc Cert.XqDxRefIdeal.main_arg1) = m ((c.tc : Thread Cert.XqDxRefIdeal.nD Cert.XqDxRefIdeal.τ).loc Cert.XqDxRefIdeal.main_arg1)
      ∧ r.2.mem ((c.tc : Thread Cert.XqDxRefIdeal.nD Cert.XqDxRefIdeal.τ).loc Cert.XqDxRefIdeal.main_arg2) = m ((c.tc : Thread Cert.XqDxRefIdeal.nD Cert.XqDxRefIdeal.τ).loc Cert.XqDxRefIdeal.main_arg2)
      ∧ r.2.mem ((c.tc : Thread Cert.XqDxRefIdeal.nD Cert.XqDxRefIdeal.τ).loc Cert.XqDxRefIdeal.main_arg3) = m ((c.tc : Thread Cert.XqDxRefIdeal.nD Cert.XqDxRefIdeal.τ).loc Cert.XqDxRefIdeal.main_arg3)
      ∧ r.2.mem ((c.tc : Thread Cert.XqDxRefIdeal.nD Cert.XqDxRefIdeal.τ).loc Cert.XqDxRefIdeal.main_arg4) = m ((c.tc : Thread Cert.XqDxRefIdeal.nD Cert.XqDxRefIdeal.τ).loc Cert.XqDxRefIdeal.main_arg4))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ r.2.sem = fun _ => 0)

def quiescent_InDwARefIdeal [hInDwARefIdeal : Cert.InDwARefIdeal.Facts] : Prop :=
  ∀ (m : (ℓ : Loc Cert.InDwARefIdeal.nD Cert.InDwARefIdeal.τ Cert.InDwARefIdeal.sig) → Buf (Elt Ideal) ℓ) (g : Dev Cert.InDwARefIdeal.nD → PrngReg), Pre_InDwARefIdeal m →
    θ_run (Cert.InDwARefIdeal.defs (F := Ideal)) (onTc (τ := Cert.InDwARefIdeal.τ) (Cert.InDwARefIdeal.main (F := Ideal))) ⟨m, fun _ => 0, g⟩ (fun r => (∀ c : Dev Cert.InDwARefIdeal.nD,
      r.2.mem ((c.tc : Thread Cert.InDwARefIdeal.nD Cert.InDwARefIdeal.τ).loc Cert.InDwARefIdeal.main_arg0) = m ((c.tc : Thread Cert.InDwARefIdeal.nD Cert.InDwARefIdeal.τ).loc Cert.InDwARefIdeal.main_arg0)
      ∧ r.2.mem ((c.tc : Thread Cert.InDwARefIdeal.nD Cert.InDwARefIdeal.τ).loc Cert.InDwARefIdeal.main_arg1) = m ((c.tc : Thread Cert.InDwARefIdeal.nD Cert.InDwARefIdeal.τ).loc Cert.InDwARefIdeal.main_arg1)
      ∧ r.2.mem ((c.tc : Thread Cert.InDwARefIdeal.nD Cert.InDwARefIdeal.τ).loc Cert.InDwARefIdeal.main_arg2) = m ((c.tc : Thread Cert.InDwARefIdeal.nD Cert.InDwARefIdeal.τ).loc Cert.InDwARefIdeal.main_arg2))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1)
      ∧ r.2.mem ((c.tc : Thread Cert.InDwB.nD Cert.InDwB.τ).loc Cert.InDwB.main_arg2) = m ((c.tc : Thread Cert.InDwB.nD Cert.InDwB.τ).loc Cert.InDwB.main_arg2))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
      ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ r.2.sem = fun _ => 0)

def quiescent_InDwBRefIdeal [hInDwBRefIdeal : Cert.InDwBRefIdeal.Facts] : Prop :=
  ∀ (m : (ℓ : Loc Cert.InDwBRefIdeal.nD Cert.InDwBRefIdeal.τ Cert.InDwBRefIdeal.sig) → Buf (Elt Ideal) ℓ) (g : Dev Cert.InDwBRefIdeal.nD → PrngReg), Pre_InDwBRefIdeal m →
    θ_run (Cert.InDwBRefIdeal.defs (F := Ideal)) (onTc (τ := Cert.InDwBRefIdeal.τ) (Cert.InDwBRefIdeal.main (F := Ideal))) ⟨m, fun _ => 0, g⟩ (fun r => (∀ c : Dev Cert.InDwBRefIdeal.nD,
      r.2.mem ((c.tc : Thread Cert.InDwBRefIdeal.nD Cert.InDwBRefIdeal.τ).loc Cert.InDwBRefIdeal.main_arg0) = m ((c.tc : Thread Cert.InDwBRefIdeal.nD Cert.InDwBRefIdeal.τ).loc Cert.InDwBRefIdeal.main_arg0)
      ∧ r.2.mem ((c.tc : Thread Cert.InDwBRefIdeal.nD Cert.InDwBRefIdeal.τ).loc Cert.InDwBRefIdeal.main_arg1) = m ((c.tc : Thread Cert.InDwBRefIdeal.nD Cert.InDwBRefIdeal.τ).loc Cert.InDwBRefIdeal.main_arg1)
      ∧ r.2.mem ((c.tc : Thread Cert.InDwBRefIdeal.nD Cert.InDwBRefIdeal.τ).loc Cert.InDwBRefIdeal.main_arg2) = m ((c.tc : Thread Cert.InDwBRefIdeal.nD Cert.InDwBRefIdeal.τ).loc Cert.InDwBRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2)
      ∧ r.2.mem ((c.tc : Thread Cert.UpDwRefIdeal.nD Cert.UpDwRefIdeal.τ).loc Cert.UpDwRefIdeal.main_arg3) = m ((c.tc : Thread Cert.UpDwRefIdeal.nD Cert.UpDwRefIdeal.τ).loc Cert.UpDwRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2)
      ∧ r.2.mem ((c.tc : Thread Cert.DownDw.nD Cert.DownDw.τ).loc Cert.DownDw.main_arg3) = m ((c.tc : Thread Cert.DownDw.nD Cert.DownDw.τ).loc Cert.DownDw.main_arg3))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
      ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2)
      ∧ r.2.mem ((c.tc : Thread Cert.DownDwRefIdeal.nD Cert.DownDwRefIdeal.τ).loc Cert.DownDwRefIdeal.main_arg3) = m ((c.tc : Thread Cert.DownDwRefIdeal.nD Cert.DownDwRefIdeal.τ).loc Cert.DownDwRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3)
      ∧ r.2.mem ((c.tc : Thread Cert.XaFwd.nD Cert.XaFwd.τ).loc Cert.XaFwd.main_arg4) = m ((c.tc : Thread Cert.XaFwd.nD Cert.XaFwd.τ).loc Cert.XaFwd.main_arg4)
      ∧ r.2.mem ((c.tc : Thread Cert.XaFwd.nD Cert.XaFwd.τ).loc Cert.XaFwd.main_arg5) = m ((c.tc : Thread Cert.XaFwd.nD Cert.XaFwd.τ).loc Cert.XaFwd.main_arg5))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
      ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4)
      ∧ r.2.mem ((c.tc : Thread Cert.XaFwdIdeal.nD Cert.XaFwdIdeal.τ).loc Cert.XaFwdIdeal.main_arg5) = m ((c.tc : Thread Cert.XaFwdIdeal.nD Cert.XaFwdIdeal.τ).loc Cert.XaFwdIdeal.main_arg5))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3)
      ∧ r.2.mem ((c.tc : Thread Cert.XaFwdRefIdeal.nD Cert.XaFwdRefIdeal.τ).loc Cert.XaFwdRefIdeal.main_arg4) = m ((c.tc : Thread Cert.XaFwdRefIdeal.nD Cert.XaFwdRefIdeal.τ).loc Cert.XaFwdRefIdeal.main_arg4)
      ∧ r.2.mem ((c.tc : Thread Cert.XaFwdRefIdeal.nD Cert.XaFwdRefIdeal.τ).loc Cert.XaFwdRefIdeal.main_arg5) = m ((c.tc : Thread Cert.XaFwdRefIdeal.nD Cert.XaFwdRefIdeal.τ).loc Cert.XaFwdRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamXq [hAdamXq : Cert.AdamXq.Facts] : Prop :=
  ∀ (m : (ℓ : Loc Cert.AdamXq.nD Cert.AdamXq.τ Cert.AdamXq.sig) → Buf (Elt Bits) ℓ) (g : Dev Cert.AdamXq.nD → PrngReg), Pre_AdamXq m →
    θ_run (Cert.AdamXq.defs (F := Bits)) (onTc (τ := Cert.AdamXq.τ) (Cert.AdamXq.main (F := Bits))) ⟨m, fun _ => 0, g⟩ (fun r => (∀ c : Dev Cert.AdamXq.nD,
      r.2.mem ((c.tc : Thread Cert.AdamXq.nD Cert.AdamXq.τ).loc Cert.AdamXq.main_arg0) = m ((c.tc : Thread Cert.AdamXq.nD Cert.AdamXq.τ).loc Cert.AdamXq.main_arg0)
      ∧ r.2.mem ((c.tc : Thread Cert.AdamXq.nD Cert.AdamXq.τ).loc Cert.AdamXq.main_arg1) = m ((c.tc : Thread Cert.AdamXq.nD Cert.AdamXq.τ).loc Cert.AdamXq.main_arg1)
      ∧ r.2.mem ((c.tc : Thread Cert.AdamXq.nD Cert.AdamXq.τ).loc Cert.AdamXq.main_arg2) = m ((c.tc : Thread Cert.AdamXq.nD Cert.AdamXq.τ).loc Cert.AdamXq.main_arg2)
      ∧ r.2.mem ((c.tc : Thread Cert.AdamXq.nD Cert.AdamXq.τ).loc Cert.AdamXq.main_arg3) = m ((c.tc : Thread Cert.AdamXq.nD Cert.AdamXq.τ).loc Cert.AdamXq.main_arg3))
      ∧ r.2.sem = fun _ => 0)

def quiescent_AdamXqIdeal [hAdamXqIdeal : Cert.AdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg), Pre_AdamXqIdeal m →
    θ_run (Cert.AdamXqIdeal.defs (F := Ideal)) (onTc (τ := Cert.AdamXqIdeal.τ) (Cert.AdamXqIdeal.main (F := Ideal))) ⟨m, fun _ => 0, g⟩ (fun r => (∀ c : Dev Cert.AdamXqIdeal.nD,
      r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
      ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
      ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
      ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ r.2.sem = fun _ => 0)

def quiescent_AdamXqRefIdeal [hAdamXqRefIdeal : Cert.AdamXqRefIdeal.Facts] : Prop :=
  ∀ (m : (ℓ : Loc Cert.AdamXqRefIdeal.nD Cert.AdamXqRefIdeal.τ Cert.AdamXqRefIdeal.sig) → Buf (Elt Ideal) ℓ) (g : Dev Cert.AdamXqRefIdeal.nD → PrngReg), Pre_AdamXqRefIdeal m →
    θ_run (Cert.AdamXqRefIdeal.defs (F := Ideal)) (onTc (τ := Cert.AdamXqRefIdeal.τ) (Cert.AdamXqRefIdeal.main (F := Ideal))) ⟨m, fun _ => 0, g⟩ (fun r => (∀ c : Dev Cert.AdamXqRefIdeal.nD,
      r.2.mem ((c.tc : Thread Cert.AdamXqRefIdeal.nD Cert.AdamXqRefIdeal.τ).loc Cert.AdamXqRefIdeal.main_arg0) = m ((c.tc : Thread Cert.AdamXqRefIdeal.nD Cert.AdamXqRefIdeal.τ).loc Cert.AdamXqRefIdeal.main_arg0)
      ∧ r.2.mem ((c.tc : Thread Cert.AdamXqRefIdeal.nD Cert.AdamXqRefIdeal.τ).loc Cert.AdamXqRefIdeal.main_arg1) = m ((c.tc : Thread Cert.AdamXqRefIdeal.nD Cert.AdamXqRefIdeal.τ).loc Cert.AdamXqRefIdeal.main_arg1)
      ∧ r.2.mem ((c.tc : Thread Cert.AdamXqRefIdeal.nD Cert.AdamXqRefIdeal.τ).loc Cert.AdamXqRefIdeal.main_arg2) = m ((c.tc : Thread Cert.AdamXqRefIdeal.nD Cert.AdamXqRefIdeal.τ).loc Cert.AdamXqRefIdeal.main_arg2)
      ∧ r.2.mem ((c.tc : Thread Cert.AdamXqRefIdeal.nD Cert.AdamXqRefIdeal.τ).loc Cert.AdamXqRefIdeal.main_arg3) = m ((c.tc : Thread Cert.AdamXqRefIdeal.nD Cert.AdamXqRefIdeal.τ).loc Cert.AdamXqRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamXo [hAdamXo : Cert.AdamXo.Facts] : Prop :=
  ∀ (m : (ℓ : Loc Cert.AdamXo.nD Cert.AdamXo.τ Cert.AdamXo.sig) → Buf (Elt Bits) ℓ) (g : Dev Cert.AdamXo.nD → PrngReg), Pre_AdamXo m →
    θ_run (Cert.AdamXo.defs (F := Bits)) (onTc (τ := Cert.AdamXo.τ) (Cert.AdamXo.main (F := Bits))) ⟨m, fun _ => 0, g⟩ (fun r => (∀ c : Dev Cert.AdamXo.nD,
      r.2.mem ((c.tc : Thread Cert.AdamXo.nD Cert.AdamXo.τ).loc Cert.AdamXo.main_arg0) = m ((c.tc : Thread Cert.AdamXo.nD Cert.AdamXo.τ).loc Cert.AdamXo.main_arg0)
      ∧ r.2.mem ((c.tc : Thread Cert.AdamXo.nD Cert.AdamXo.τ).loc Cert.AdamXo.main_arg1) = m ((c.tc : Thread Cert.AdamXo.nD Cert.AdamXo.τ).loc Cert.AdamXo.main_arg1)
      ∧ r.2.mem ((c.tc : Thread Cert.AdamXo.nD Cert.AdamXo.τ).loc Cert.AdamXo.main_arg2) = m ((c.tc : Thread Cert.AdamXo.nD Cert.AdamXo.τ).loc Cert.AdamXo.main_arg2)
      ∧ r.2.mem ((c.tc : Thread Cert.AdamXo.nD Cert.AdamXo.τ).loc Cert.AdamXo.main_arg3) = m ((c.tc : Thread Cert.AdamXo.nD Cert.AdamXo.τ).loc Cert.AdamXo.main_arg3))
      ∧ r.2.sem = fun _ => 0)

def quiescent_AdamXoIdeal [hAdamXoIdeal : Cert.AdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg), Pre_AdamXoIdeal m →
    θ_run (Cert.AdamXoIdeal.defs (F := Ideal)) (onTc (τ := Cert.AdamXoIdeal.τ) (Cert.AdamXoIdeal.main (F := Ideal))) ⟨m, fun _ => 0, g⟩ (fun r => (∀ c : Dev Cert.AdamXoIdeal.nD,
      r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
      ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
      ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
      ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ r.2.sem = fun _ => 0)

def quiescent_AdamXoRefIdeal [hAdamXoRefIdeal : Cert.AdamXoRefIdeal.Facts] : Prop :=
  ∀ (m : (ℓ : Loc Cert.AdamXoRefIdeal.nD Cert.AdamXoRefIdeal.τ Cert.AdamXoRefIdeal.sig) → Buf (Elt Ideal) ℓ) (g : Dev Cert.AdamXoRefIdeal.nD → PrngReg), Pre_AdamXoRefIdeal m →
    θ_run (Cert.AdamXoRefIdeal.defs (F := Ideal)) (onTc (τ := Cert.AdamXoRefIdeal.τ) (Cert.AdamXoRefIdeal.main (F := Ideal))) ⟨m, fun _ => 0, g⟩ (fun r => (∀ c : Dev Cert.AdamXoRefIdeal.nD,
      r.2.mem ((c.tc : Thread Cert.AdamXoRefIdeal.nD Cert.AdamXoRefIdeal.τ).loc Cert.AdamXoRefIdeal.main_arg0) = m ((c.tc : Thread Cert.AdamXoRefIdeal.nD Cert.AdamXoRefIdeal.τ).loc Cert.AdamXoRefIdeal.main_arg0)
      ∧ r.2.mem ((c.tc : Thread Cert.AdamXoRefIdeal.nD Cert.AdamXoRefIdeal.τ).loc Cert.AdamXoRefIdeal.main_arg1) = m ((c.tc : Thread Cert.AdamXoRefIdeal.nD Cert.AdamXoRefIdeal.τ).loc Cert.AdamXoRefIdeal.main_arg1)
      ∧ r.2.mem ((c.tc : Thread Cert.AdamXoRefIdeal.nD Cert.AdamXoRefIdeal.τ).loc Cert.AdamXoRefIdeal.main_arg2) = m ((c.tc : Thread Cert.AdamXoRefIdeal.nD Cert.AdamXoRefIdeal.τ).loc Cert.AdamXoRefIdeal.main_arg2)
      ∧ r.2.mem ((c.tc : Thread Cert.AdamXoRefIdeal.nD Cert.AdamXoRefIdeal.τ).loc Cert.AdamXoRefIdeal.main_arg3) = m ((c.tc : Thread Cert.AdamXoRefIdeal.nD Cert.AdamXoRefIdeal.τ).loc Cert.AdamXoRefIdeal.main_arg3))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def preserves_XaBwd_XaBwdIdeal : Prop :=
  True

def algebraic_XaBwdIdeal_XaRefIdeal [hXaBwdIdeal : Cert.XaBwdIdeal.Facts] [hXaRefIdeal : Cert.XaRefIdeal.Facts] [hPre_finite_q_k : Cert.Pre_finite_q_k.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaBwdIdeal m →
    (∀ c : Dev Cert.XaBwdIdeal.nD,
      m' ((c.tc : Thread Cert.XaRefIdeal.nD Cert.XaRefIdeal.τ).loc Cert.XaRefIdeal.main_arg0) = m ((c.tc : Thread Cert.XaBwdIdeal.nD Cert.XaBwdIdeal.τ).loc Cert.XaBwdIdeal.main_arg0)
      ∧ m' ((c.tc : Thread Cert.XaRefIdeal.nD Cert.XaRefIdeal.τ).loc Cert.XaRefIdeal.main_arg1) = m ((c.tc : Thread Cert.XaBwdIdeal.nD Cert.XaBwdIdeal.τ).loc Cert.XaBwdIdeal.main_arg1)
      ∧ m' ((c.tc : Thread Cert.XaRefIdeal.nD Cert.XaRefIdeal.τ).loc Cert.XaRefIdeal.main_arg2) = m ((c.tc : Thread Cert.XaBwdIdeal.nD Cert.XaBwdIdeal.τ).loc Cert.XaBwdIdeal.main_arg2)
      ∧ m' ((c.tc : Thread Cert.XaRefIdeal.nD Cert.XaRefIdeal.τ).loc Cert.XaRefIdeal.main_arg3) = m ((c.tc : Thread Cert.XaBwdIdeal.nD Cert.XaBwdIdeal.τ).loc Cert.XaBwdIdeal.main_arg3)) →
    ∃ (v0 : (c : Dev Cert.XaBwdIdeal.nD) → Buf (Elt Ideal) ((c.tc : Thread Cert.XaBwdIdeal.nD Cert.XaBwdIdeal.τ).loc Cert.XaBwdIdeal.main_v0_0)) (v1 : (c : Dev Cert.XaBwdIdeal.nD) → Buf (Elt Ideal) ((c.tc : Thread Cert.XaBwdIdeal.nD Cert.XaBwdIdeal.τ).loc Cert.XaBwdIdeal.main_v0_1)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v0_0) = v0 c
          ∧ r.2.mem ((c.tc : Thread Cert.XaBwdIdeal.nD Cert.XaBwdIdeal.τ).loc Cert.XaBwdIdeal.main_v0_1) = v1 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v72) = v0 c
          ∧ r.2.mem ((c.tc : Thread Cert.XaRefIdeal.nD Cert.XaRefIdeal.τ).loc Cert.XaRefIdeal.main_v71) = v1 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v9)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v9) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v12) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v6_0)) (v1 : (c : Dev Cert.UpDxIdeal.nD) → Buf (Elt Ideal) ((c.tc : Thread Cert.UpDxIdeal.nD Cert.UpDxIdeal.τ).loc Cert.UpDxIdeal.main_v6_1)) (v2 : (c : Dev Cert.UpDxIdeal.nD) → Buf (Elt Ideal) ((c.tc : Thread Cert.UpDxIdeal.nD Cert.UpDxIdeal.τ).loc Cert.UpDxIdeal.main_v6_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6_0) = v0 c
          ∧ r.2.mem ((c.tc : Thread Cert.UpDxIdeal.nD Cert.UpDxIdeal.τ).loc Cert.UpDxIdeal.main_v6_1) = v1 c
          ∧ r.2.mem ((c.tc : Thread Cert.UpDxIdeal.nD Cert.UpDxIdeal.τ).loc Cert.UpDxIdeal.main_v6_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v36) = v0 c
          ∧ r.2.mem ((c.tc : Thread Cert.UpDxRefIdeal.nD Cert.UpDxRefIdeal.τ).loc Cert.UpDxRefIdeal.main_v37) = v1 c
          ∧ r.2.mem ((c.tc : Thread Cert.UpDxRefIdeal.nD Cert.UpDxRefIdeal.τ).loc Cert.UpDxRefIdeal.main_v19) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v19_0)) (v1 : (c : Dev Cert.InDxIdeal.nD) → Buf (Elt Ideal) ((c.tc : Thread Cert.InDxIdeal.nD Cert.InDxIdeal.τ).loc Cert.InDxIdeal.main_v19_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v19_0) = v0 c
          ∧ r.2.mem ((c.tc : Thread Cert.InDxIdeal.nD Cert.InDxIdeal.τ).loc Cert.InDxIdeal.main_v19_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v36) = v0 c
          ∧ r.2.mem ((c.tc : Thread Cert.InDxRefIdeal.nD Cert.InDxRefIdeal.τ).loc Cert.InDxRefIdeal.main_v19) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_XqDx_XqDxIdeal : Prop :=
  True

def algebraic_XqDxIdeal_XqDxRefIdeal [hXqDxIdeal : Cert.XqDxIdeal.Facts] [hXqDxRefIdeal : Cert.XqDxRefIdeal.Facts] : Prop :=
  ∀ (m : (ℓ : Loc Cert.XqDxIdeal.nD Cert.XqDxIdeal.τ Cert.XqDxIdeal.sig) → Buf (Elt Ideal) ℓ) (g : Dev Cert.XqDxIdeal.nD → PrngReg)
    (m' : (ℓ : Loc Cert.XqDxRefIdeal.nD Cert.XqDxRefIdeal.τ Cert.XqDxRefIdeal.sig) → Buf (Elt Ideal) ℓ) (g' : Dev Cert.XqDxRefIdeal.nD → PrngReg), Pre_XqDxIdeal m →
    (∀ c : Dev Cert.XqDxIdeal.nD,
      m' ((c.tc : Thread Cert.XqDxRefIdeal.nD Cert.XqDxRefIdeal.τ).loc Cert.XqDxRefIdeal.main_arg0) = m ((c.tc : Thread Cert.XqDxIdeal.nD Cert.XqDxIdeal.τ).loc Cert.XqDxIdeal.main_arg0)
      ∧ m' ((c.tc : Thread Cert.XqDxRefIdeal.nD Cert.XqDxRefIdeal.τ).loc Cert.XqDxRefIdeal.main_arg1) = m ((c.tc : Thread Cert.XqDxIdeal.nD Cert.XqDxIdeal.τ).loc Cert.XqDxIdeal.main_arg1)
      ∧ m' ((c.tc : Thread Cert.XqDxRefIdeal.nD Cert.XqDxRefIdeal.τ).loc Cert.XqDxRefIdeal.main_arg2) = m ((c.tc : Thread Cert.XqDxIdeal.nD Cert.XqDxIdeal.τ).loc Cert.XqDxIdeal.main_arg2)
      ∧ m' ((c.tc : Thread Cert.XqDxRefIdeal.nD Cert.XqDxRefIdeal.τ).loc Cert.XqDxRefIdeal.main_arg3) = m ((c.tc : Thread Cert.XqDxIdeal.nD Cert.XqDxIdeal.τ).loc Cert.XqDxIdeal.main_arg3)
      ∧ m' ((c.tc : Thread Cert.XqDxRefIdeal.nD Cert.XqDxRefIdeal.τ).loc Cert.XqDxRefIdeal.main_arg4) = m ((c.tc : Thread Cert.XqDxIdeal.nD Cert.XqDxIdeal.τ).loc Cert.XqDxIdeal.main_arg4)) →
    ∃ (v0 : (c : Dev Cert.XqDxIdeal.nD) → Buf (Elt Ideal) ((c.tc : Thread Cert.XqDxIdeal.nD Cert.XqDxIdeal.τ).loc Cert.XqDxIdeal.main_v2_0)) (v1 : (c : Dev Cert.XqDxIdeal.nD) → Buf (Elt Ideal) ((c.tc : Thread Cert.XqDxIdeal.nD Cert.XqDxIdeal.τ).loc Cert.XqDxIdeal.main_v2_1)) (v2 : (c : Dev Cert.XqDxIdeal.nD) → Buf (Elt Ideal) ((c.tc : Thread Cert.XqDxIdeal.nD Cert.XqDxIdeal.τ).loc Cert.XqDxIdeal.main_v2_2)),
      θ_run (Cert.XqDxIdeal.defs (F := Ideal)) (onTc (τ := Cert.XqDxIdeal.τ) (Cert.XqDxIdeal.main (F := Ideal))) ⟨m, fun _ => 0, g⟩ (fun r => ∀ c : Dev Cert.XqDxIdeal.nD,
          r.2.mem ((c.tc : Thread Cert.XqDxIdeal.nD Cert.XqDxIdeal.τ).loc Cert.XqDxIdeal.main_v2_0) = v0 c
          ∧ r.2.mem ((c.tc : Thread Cert.XqDxIdeal.nD Cert.XqDxIdeal.τ).loc Cert.XqDxIdeal.main_v2_1) = v1 c
          ∧ r.2.mem ((c.tc : Thread Cert.XqDxIdeal.nD Cert.XqDxIdeal.τ).loc Cert.XqDxIdeal.main_v2_2) = v2 c
          ∧ r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
          ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1)
          ∧ r.2.mem ((c.tc : Thread Cert.XqDxIdeal.nD Cert.XqDxIdeal.τ).loc Cert.XqDxIdeal.main_arg2) = m ((c.tc : Thread Cert.XqDxIdeal.nD Cert.XqDxIdeal.τ).loc Cert.XqDxIdeal.main_arg2)
          ∧ r.2.mem ((c.tc : Thread Cert.XqDxIdeal.nD Cert.XqDxIdeal.τ).loc Cert.XqDxIdeal.main_arg3) = m ((c.tc : Thread Cert.XqDxIdeal.nD Cert.XqDxIdeal.τ).loc Cert.XqDxIdeal.main_arg3)
          ∧ r.2.mem ((c.tc : Thread Cert.XqDxIdeal.nD Cert.XqDxIdeal.τ).loc Cert.XqDxIdeal.main_arg4) = m ((c.tc : Thread Cert.XqDxIdeal.nD Cert.XqDxIdeal.τ).loc Cert.XqDxIdeal.main_arg4))
      ∧ θ_run (Cert.XqDxRefIdeal.defs (F := Ideal)) (onTc (τ := Cert.XqDxRefIdeal.τ) (Cert.XqDxRefIdeal.main (F := Ideal))) ⟨m', fun _ => 0, g'⟩ (fun r => ∀ c : Dev Cert.XqDxRefIdeal.nD,
          r.2.mem ((c.tc : Thread Cert.XqDxRefIdeal.nD Cert.XqDxRefIdeal.τ).loc Cert.XqDxRefIdeal.main_v36) = v0 c
          ∧ r.2.mem ((c.tc : Thread Cert.XqDxRefIdeal.nD Cert.XqDxRefIdeal.τ).loc Cert.XqDxRefIdeal.main_v37) = v1 c
          ∧ r.2.mem ((c.tc : Thread Cert.XqDxRefIdeal.nD Cert.XqDxRefIdeal.τ).loc Cert.XqDxRefIdeal.main_v19) = v2 c
          ∧ r.2.mem ((c.tc : Thread Cert.XqDxRefIdeal.nD Cert.XqDxRefIdeal.τ).loc Cert.XqDxRefIdeal.main_arg0) = m' ((c.tc : Thread Cert.XqDxRefIdeal.nD Cert.XqDxRefIdeal.τ).loc Cert.XqDxRefIdeal.main_arg0)
          ∧ r.2.mem ((c.tc : Thread Cert.XqDxRefIdeal.nD Cert.XqDxRefIdeal.τ).loc Cert.XqDxRefIdeal.main_arg1) = m' ((c.tc : Thread Cert.XqDxRefIdeal.nD Cert.XqDxRefIdeal.τ).loc Cert.XqDxRefIdeal.main_arg1)
          ∧ r.2.mem ((c.tc : Thread Cert.XqDxRefIdeal.nD Cert.XqDxRefIdeal.τ).loc Cert.XqDxRefIdeal.main_arg2) = m' ((c.tc : Thread Cert.XqDxRefIdeal.nD Cert.XqDxRefIdeal.τ).loc Cert.XqDxRefIdeal.main_arg2)
          ∧ r.2.mem ((c.tc : Thread Cert.XqDxRefIdeal.nD Cert.XqDxRefIdeal.τ).loc Cert.XqDxRefIdeal.main_arg3) = m' ((c.tc : Thread Cert.XqDxRefIdeal.nD Cert.XqDxRefIdeal.τ).loc Cert.XqDxRefIdeal.main_arg3)
          ∧ r.2.mem ((c.tc : Thread Cert.XqDxRefIdeal.nD Cert.XqDxRefIdeal.τ).loc Cert.XqDxRefIdeal.main_arg4) = m' ((c.tc : Thread Cert.XqDxRefIdeal.nD Cert.XqDxRefIdeal.τ).loc Cert.XqDxRefIdeal.main_arg4))

def preserves_InDwA_InDwAIdeal : Prop :=
  True

def algebraic_InDwAIdeal_InDwARefIdeal [hInDwAIdeal : Cert.InDwAIdeal.Facts] [hInDwARefIdeal : Cert.InDwARefIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwARefIdeal.nD Cert.InDwARefIdeal.τ Cert.InDwARefIdeal.sig) → Buf (Elt Ideal) ℓ) (g' : Dev Cert.InDwARefIdeal.nD → PrngReg), Pre_InDwAIdeal m →
    (∀ c : Dev Cert.InDwAIdeal.nD,
      m' ((c.tc : Thread Cert.InDwARefIdeal.nD Cert.InDwARefIdeal.τ).loc Cert.InDwARefIdeal.main_arg0) = m ((c.tc : Thread Cert.InDwAIdeal.nD Cert.InDwAIdeal.τ).loc Cert.InDwAIdeal.main_arg0)
      ∧ m' ((c.tc : Thread Cert.InDwARefIdeal.nD Cert.InDwARefIdeal.τ).loc Cert.InDwARefIdeal.main_arg1) = m ((c.tc : Thread Cert.InDwAIdeal.nD Cert.InDwAIdeal.τ).loc Cert.InDwAIdeal.main_arg1)
      ∧ m' ((c.tc : Thread Cert.InDwARefIdeal.nD Cert.InDwARefIdeal.τ).loc Cert.InDwARefIdeal.main_arg2) = m ((c.tc : Thread Cert.InDwAIdeal.nD Cert.InDwAIdeal.τ).loc Cert.InDwAIdeal.main_arg2)) →
    ∃ (v0 : (c : Dev Cert.InDwAIdeal.nD) → Buf (Elt Ideal) ((c.tc : Thread Cert.InDwAIdeal.nD Cert.InDwAIdeal.τ).loc Cert.InDwAIdeal.main_v22)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v22) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ θ_run (Cert.InDwARefIdeal.defs (F := Ideal)) (onTc (τ := Cert.InDwARefIdeal.τ) (Cert.InDwARefIdeal.main (F := Ideal))) ⟨m', fun _ => 0, g'⟩ (fun r => ∀ c : Dev Cert.InDwARefIdeal.nD,
          r.2.mem ((c.tc : Thread Cert.InDwARefIdeal.nD Cert.InDwARefIdeal.τ).loc Cert.InDwARefIdeal.main_v19) = v0 c
          ∧ r.2.mem ((c.tc : Thread Cert.InDwARefIdeal.nD Cert.InDwARefIdeal.τ).loc Cert.InDwARefIdeal.main_arg0) = m' ((c.tc : Thread Cert.InDwARefIdeal.nD Cert.InDwARefIdeal.τ).loc Cert.InDwARefIdeal.main_arg0)
          ∧ r.2.mem ((c.tc : Thread Cert.InDwARefIdeal.nD Cert.InDwARefIdeal.τ).loc Cert.InDwARefIdeal.main_arg1) = m' ((c.tc : Thread Cert.InDwARefIdeal.nD Cert.InDwARefIdeal.τ).loc Cert.InDwARefIdeal.main_arg1)
          ∧ r.2.mem ((c.tc : Thread Cert.InDwARefIdeal.nD Cert.InDwARefIdeal.τ).loc Cert.InDwARefIdeal.main_arg2) = m' ((c.tc : Thread Cert.InDwARefIdeal.nD Cert.InDwARefIdeal.τ).loc Cert.InDwARefIdeal.main_arg2))

def preserves_InDwB_InDwBIdeal : Prop :=
  True

def algebraic_InDwBIdeal_InDwBRefIdeal [hInDwBIdeal : Cert.InDwBIdeal.Facts] [hInDwBRefIdeal : Cert.InDwBRefIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBRefIdeal.nD Cert.InDwBRefIdeal.τ Cert.InDwBRefIdeal.sig) → Buf (Elt Ideal) ℓ) (g' : Dev Cert.InDwBRefIdeal.nD → PrngReg), Pre_InDwBIdeal m →
    (∀ c : Dev Cert.InDwBIdeal.nD,
      m' ((c.tc : Thread Cert.InDwBRefIdeal.nD Cert.InDwBRefIdeal.τ).loc Cert.InDwBRefIdeal.main_arg0) = m ((c.tc : Thread Cert.InDwBIdeal.nD Cert.InDwBIdeal.τ).loc Cert.InDwBIdeal.main_arg0)
      ∧ m' ((c.tc : Thread Cert.InDwBRefIdeal.nD Cert.InDwBRefIdeal.τ).loc Cert.InDwBRefIdeal.main_arg1) = m ((c.tc : Thread Cert.InDwBIdeal.nD Cert.InDwBIdeal.τ).loc Cert.InDwBIdeal.main_arg1)
      ∧ m' ((c.tc : Thread Cert.InDwBRefIdeal.nD Cert.InDwBRefIdeal.τ).loc Cert.InDwBRefIdeal.main_arg2) = m ((c.tc : Thread Cert.InDwBIdeal.nD Cert.InDwBIdeal.τ).loc Cert.InDwBIdeal.main_arg2)) →
    ∃ (v0 : (c : Dev Cert.InDwBIdeal.nD) → Buf (Elt Ideal) ((c.tc : Thread Cert.InDwBIdeal.nD Cert.InDwBIdeal.τ).loc Cert.InDwBIdeal.main_v22)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v22) = v0 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
          ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ θ_run (Cert.InDwBRefIdeal.defs (F := Ideal)) (onTc (τ := Cert.InDwBRefIdeal.τ) (Cert.InDwBRefIdeal.main (F := Ideal))) ⟨m', fun _ => 0, g'⟩ (fun r => ∀ c : Dev Cert.InDwBRefIdeal.nD,
          r.2.mem ((c.tc : Thread Cert.InDwBRefIdeal.nD Cert.InDwBRefIdeal.τ).loc Cert.InDwBRefIdeal.main_v21) = v0 c
          ∧ r.2.mem ((c.tc : Thread Cert.InDwBRefIdeal.nD Cert.InDwBRefIdeal.τ).loc Cert.InDwBRefIdeal.main_arg0) = m' ((c.tc : Thread Cert.InDwBRefIdeal.nD Cert.InDwBRefIdeal.τ).loc Cert.InDwBRefIdeal.main_arg0)
          ∧ r.2.mem ((c.tc : Thread Cert.InDwBRefIdeal.nD Cert.InDwBRefIdeal.τ).loc Cert.InDwBRefIdeal.main_arg1) = m' ((c.tc : Thread Cert.InDwBRefIdeal.nD Cert.InDwBRefIdeal.τ).loc Cert.InDwBRefIdeal.main_arg1)
          ∧ r.2.mem ((c.tc : Thread Cert.InDwBRefIdeal.nD Cert.InDwBRefIdeal.τ).loc Cert.InDwBRefIdeal.main_arg2) = m' ((c.tc : Thread Cert.InDwBRefIdeal.nD Cert.InDwBRefIdeal.τ).loc Cert.InDwBRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)
      ∧ m' ((c.tc : Thread Cert.UpDwRefIdeal.nD Cert.UpDwRefIdeal.τ).loc Cert.UpDwRefIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v0_0)) (v1 : (c : Dev Cert.UpDwIdeal.nD) → Buf (Elt Ideal) ((c.tc : Thread Cert.UpDwIdeal.nD Cert.UpDwIdeal.τ).loc Cert.UpDwIdeal.main_v0_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0_0) = v0 c
          ∧ r.2.mem ((c.tc : Thread Cert.UpDwIdeal.nD Cert.UpDwIdeal.τ).loc Cert.UpDwIdeal.main_v0_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_v12) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2)
          ∧ r.2.mem ((c.tc : Thread Cert.UpDwRefIdeal.nD Cert.UpDwRefIdeal.τ).loc Cert.UpDwRefIdeal.main_arg3) = m' ((c.tc : Thread Cert.UpDwRefIdeal.nD Cert.UpDwRefIdeal.τ).loc Cert.UpDwRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)
      ∧ m' ((c.tc : Thread Cert.DownDwRefIdeal.nD Cert.DownDwRefIdeal.τ).loc Cert.DownDwRefIdeal.main_arg3) = m ((c.tc : Thread Cert.DownDwIdeal.nD Cert.DownDwIdeal.τ).loc Cert.DownDwIdeal.main_arg3)) →
    ∃ (v0 : (c : Dev Cert.DownDwIdeal.nD) → Buf (Elt Ideal) ((c.tc : Thread Cert.DownDwIdeal.nD Cert.DownDwIdeal.τ).loc Cert.DownDwIdeal.main_v5_0)) (v1 : (c : Dev Cert.DownDwIdeal.nD) → Buf (Elt Ideal) ((c.tc : Thread Cert.DownDwIdeal.nD Cert.DownDwIdeal.τ).loc Cert.DownDwIdeal.main_v5_1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5_0) = v0 c
          ∧ r.2.mem ((c.tc : Thread Cert.DownDwIdeal.nD Cert.DownDwIdeal.τ).loc Cert.DownDwIdeal.main_v5_1) = v1 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2)
          ∧ r.2.mem ((c.tc : Thread Cert.DownDwIdeal.nD Cert.DownDwIdeal.τ).loc Cert.DownDwIdeal.main_arg3) = m ((c.tc : Thread Cert.DownDwIdeal.nD Cert.DownDwIdeal.τ).loc Cert.DownDwIdeal.main_arg3))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_v11) = v1 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2)
          ∧ r.2.mem ((c.tc : Thread Cert.DownDwRefIdeal.nD Cert.DownDwRefIdeal.τ).loc Cert.DownDwRefIdeal.main_arg3) = m' ((c.tc : Thread Cert.DownDwRefIdeal.nD Cert.DownDwRefIdeal.τ).loc Cert.DownDwRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v9_0)) (v1 : (c : Dev Cert.LossIdeal.nD) → Buf (Elt Ideal) ((c.tc : Thread Cert.LossIdeal.nD Cert.LossIdeal.τ).loc Cert.LossIdeal.main_v9_1)) (v2 : (c : Dev Cert.LossIdeal.nD) → Buf (Elt Ideal) ((c.tc : Thread Cert.LossIdeal.nD Cert.LossIdeal.τ).loc Cert.LossIdeal.main_v9_2)) (v3 : (c : Dev Cert.LossIdeal.nD) → Buf (Elt Ideal) ((c.tc : Thread Cert.LossIdeal.nD Cert.LossIdeal.τ).loc Cert.LossIdeal.main_v9_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v9_0) = v0 c
          ∧ r.2.mem ((c.tc : Thread Cert.LossIdeal.nD Cert.LossIdeal.τ).loc Cert.LossIdeal.main_v9_1) = v1 c
          ∧ r.2.mem ((c.tc : Thread Cert.LossIdeal.nD Cert.LossIdeal.τ).loc Cert.LossIdeal.main_v9_2) = v2 c
          ∧ r.2.mem ((c.tc : Thread Cert.LossIdeal.nD Cert.LossIdeal.τ).loc Cert.LossIdeal.main_v9_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v36) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v18_0)) (v1 : (c : Dev Cert.UpIdeal.nD) → Buf (Elt Ideal) ((c.tc : Thread Cert.UpIdeal.nD Cert.UpIdeal.τ).loc Cert.UpIdeal.main_v18_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v18_0) = v0 c
          ∧ r.2.mem ((c.tc : Thread Cert.UpIdeal.nD Cert.UpIdeal.τ).loc Cert.UpIdeal.main_v18_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_v16) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v23_0)) (v1 : (c : Dev Cert.InIdeal.nD) → Buf (Elt Ideal) ((c.tc : Thread Cert.InIdeal.nD Cert.InIdeal.τ).loc Cert.InIdeal.main_v23_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v23_0) = v0 c
          ∧ r.2.mem ((c.tc : Thread Cert.InIdeal.nD Cert.InIdeal.τ).loc Cert.InIdeal.main_v23_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v15) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)
      ∧ m' ((c.tc : Thread Cert.XaFwdRefIdeal.nD Cert.XaFwdRefIdeal.τ).loc Cert.XaFwdRefIdeal.main_arg4) = m ((c.tc : Thread Cert.XaFwdIdeal.nD Cert.XaFwdIdeal.τ).loc Cert.XaFwdIdeal.main_arg4)
      ∧ m' ((c.tc : Thread Cert.XaFwdRefIdeal.nD Cert.XaFwdRefIdeal.τ).loc Cert.XaFwdRefIdeal.main_arg5) = m ((c.tc : Thread Cert.XaFwdIdeal.nD Cert.XaFwdIdeal.τ).loc Cert.XaFwdIdeal.main_arg5)) →
    ∃ (v0 : (c : Dev Cert.XaFwdIdeal.nD) → Buf (Elt Ideal) ((c.tc : Thread Cert.XaFwdIdeal.nD Cert.XaFwdIdeal.τ).loc Cert.XaFwdIdeal.main_v16_0)) (v1 : (c : Dev Cert.XaFwdIdeal.nD) → Buf (Elt Ideal) ((c.tc : Thread Cert.XaFwdIdeal.nD Cert.XaFwdIdeal.τ).loc Cert.XaFwdIdeal.main_v16_1)) (v2 : (c : Dev Cert.XaFwdIdeal.nD) → Buf (Elt Ideal) ((c.tc : Thread Cert.XaFwdIdeal.nD Cert.XaFwdIdeal.τ).loc Cert.XaFwdIdeal.main_v16_2)) (v3 : (c : Dev Cert.XaFwdIdeal.nD) → Buf (Elt Ideal) ((c.tc : Thread Cert.XaFwdIdeal.nD Cert.XaFwdIdeal.τ).loc Cert.XaFwdIdeal.main_v16_3)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v16_0) = v0 c
          ∧ r.2.mem ((c.tc : Thread Cert.XaFwdIdeal.nD Cert.XaFwdIdeal.τ).loc Cert.XaFwdIdeal.main_v16_1) = v1 c
          ∧ r.2.mem ((c.tc : Thread Cert.XaFwdIdeal.nD Cert.XaFwdIdeal.τ).loc Cert.XaFwdIdeal.main_v16_2) = v2 c
          ∧ r.2.mem ((c.tc : Thread Cert.XaFwdIdeal.nD Cert.XaFwdIdeal.τ).loc Cert.XaFwdIdeal.main_v16_3) = v3 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3)
          ∧ r.2.mem ((c.tc : Thread Cert.XaFwdIdeal.nD Cert.XaFwdIdeal.τ).loc Cert.XaFwdIdeal.main_arg4) = m ((c.tc : Thread Cert.XaFwdIdeal.nD Cert.XaFwdIdeal.τ).loc Cert.XaFwdIdeal.main_arg4)
          ∧ r.2.mem ((c.tc : Thread Cert.XaFwdIdeal.nD Cert.XaFwdIdeal.τ).loc Cert.XaFwdIdeal.main_arg5) = m ((c.tc : Thread Cert.XaFwdIdeal.nD Cert.XaFwdIdeal.τ).loc Cert.XaFwdIdeal.main_arg5))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v37) = v0 c
          ∧ r.2.mem ((c.tc : Thread Cert.XaFwdRefIdeal.nD Cert.XaFwdRefIdeal.τ).loc Cert.XaFwdRefIdeal.main_v38) = v1 c
          ∧ r.2.mem ((c.tc : Thread Cert.XaFwdRefIdeal.nD Cert.XaFwdRefIdeal.τ).loc Cert.XaFwdRefIdeal.main_v51) = v2 c
          ∧ r.2.mem ((c.tc : Thread Cert.XaFwdRefIdeal.nD Cert.XaFwdRefIdeal.τ).loc Cert.XaFwdRefIdeal.main_v36) = v3 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3)
          ∧ r.2.mem ((c.tc : Thread Cert.XaFwdRefIdeal.nD Cert.XaFwdRefIdeal.τ).loc Cert.XaFwdRefIdeal.main_arg4) = m' ((c.tc : Thread Cert.XaFwdRefIdeal.nD Cert.XaFwdRefIdeal.τ).loc Cert.XaFwdRefIdeal.main_arg4)
          ∧ r.2.mem ((c.tc : Thread Cert.XaFwdRefIdeal.nD Cert.XaFwdRefIdeal.τ).loc Cert.XaFwdRefIdeal.main_arg5) = m' ((c.tc : Thread Cert.XaFwdRefIdeal.nD Cert.XaFwdRefIdeal.τ).loc Cert.XaFwdRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v14) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v15)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v15) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v13) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v3)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v3) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v26) = v0 c
          ∧ r.2.mem ((c.tc : Thread Cert.AdamInRefIdeal.nD Cert.AdamInRefIdeal.τ).loc Cert.AdamInRefIdeal.main_v27) = v1 c
          ∧ r.2.mem ((c.tc : Thread Cert.AdamInRefIdeal.nD Cert.AdamInRefIdeal.τ).loc Cert.AdamInRefIdeal.main_v28) = v2 c
          ∧ r.2.mem ((c.tc : Thread Cert.AdamInRefIdeal.nD Cert.AdamInRefIdeal.τ).loc Cert.AdamInRefIdeal.main_v29) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamXq_AdamXqIdeal : Prop :=
  True

def algebraic_AdamXqIdeal_AdamXqRefIdeal [hAdamXqIdeal : Cert.AdamXqIdeal.Facts] [hAdamXqRefIdeal : Cert.AdamXqRefIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg)
    (m' : (ℓ : Loc Cert.AdamXqRefIdeal.nD Cert.AdamXqRefIdeal.τ Cert.AdamXqRefIdeal.sig) → Buf (Elt Ideal) ℓ) (g' : Dev Cert.AdamXqRefIdeal.nD → PrngReg), Pre_AdamXqIdeal m →
    (∀ c : Dev Cert.AdamXqIdeal.nD,
      m' ((c.tc : Thread Cert.AdamXqRefIdeal.nD Cert.AdamXqRefIdeal.τ).loc Cert.AdamXqRefIdeal.main_arg0) = m ((c.tc : Thread Cert.AdamXqIdeal.nD Cert.AdamXqIdeal.τ).loc Cert.AdamXqIdeal.main_arg0)
      ∧ m' ((c.tc : Thread Cert.AdamXqRefIdeal.nD Cert.AdamXqRefIdeal.τ).loc Cert.AdamXqRefIdeal.main_arg1) = m ((c.tc : Thread Cert.AdamXqIdeal.nD Cert.AdamXqIdeal.τ).loc Cert.AdamXqIdeal.main_arg1)
      ∧ m' ((c.tc : Thread Cert.AdamXqRefIdeal.nD Cert.AdamXqRefIdeal.τ).loc Cert.AdamXqRefIdeal.main_arg2) = m ((c.tc : Thread Cert.AdamXqIdeal.nD Cert.AdamXqIdeal.τ).loc Cert.AdamXqIdeal.main_arg2)
      ∧ m' ((c.tc : Thread Cert.AdamXqRefIdeal.nD Cert.AdamXqRefIdeal.τ).loc Cert.AdamXqRefIdeal.main_arg3) = m ((c.tc : Thread Cert.AdamXqIdeal.nD Cert.AdamXqIdeal.τ).loc Cert.AdamXqIdeal.main_arg3)) →
    ∃ (v0 : (c : Dev Cert.AdamXqIdeal.nD) → Buf (Elt Ideal) ((c.tc : Thread Cert.AdamXqIdeal.nD Cert.AdamXqIdeal.τ).loc Cert.AdamXqIdeal.main_v0_0)) (v1 : (c : Dev Cert.AdamXqIdeal.nD) → Buf (Elt Ideal) ((c.tc : Thread Cert.AdamXqIdeal.nD Cert.AdamXqIdeal.τ).loc Cert.AdamXqIdeal.main_v0_1)) (v2 : (c : Dev Cert.AdamXqIdeal.nD) → Buf (Elt Ideal) ((c.tc : Thread Cert.AdamXqIdeal.nD Cert.AdamXqIdeal.τ).loc Cert.AdamXqIdeal.main_v0_2)) (v3 : (c : Dev Cert.AdamXqIdeal.nD) → Buf (Elt Ideal) ((c.tc : Thread Cert.AdamXqIdeal.nD Cert.AdamXqIdeal.τ).loc Cert.AdamXqIdeal.main_v0_3)),
      θ_run (Cert.AdamXqIdeal.defs (F := Ideal)) (onTc (τ := Cert.AdamXqIdeal.τ) (Cert.AdamXqIdeal.main (F := Ideal))) ⟨m, fun _ => 0, g⟩ (fun r => ∀ c : Dev Cert.AdamXqIdeal.nD,
          r.2.mem ((c.tc : Thread Cert.AdamXqIdeal.nD Cert.AdamXqIdeal.τ).loc Cert.AdamXqIdeal.main_v0_0) = v0 c
          ∧ r.2.mem ((c.tc : Thread Cert.AdamXqIdeal.nD Cert.AdamXqIdeal.τ).loc Cert.AdamXqIdeal.main_v0_1) = v1 c
          ∧ r.2.mem ((c.tc : Thread Cert.AdamXqIdeal.nD Cert.AdamXqIdeal.τ).loc Cert.AdamXqIdeal.main_v0_2) = v2 c
          ∧ r.2.mem ((c.tc : Thread Cert.AdamXqIdeal.nD Cert.AdamXqIdeal.τ).loc Cert.AdamXqIdeal.main_v0_3) = v3 c
          ∧ r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
          ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
          ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
          ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ θ_run (Cert.AdamXqRefIdeal.defs (F := Ideal)) (onTc (τ := Cert.AdamXqRefIdeal.τ) (Cert.AdamXqRefIdeal.main (F := Ideal))) ⟨m', fun _ => 0, g'⟩ (fun r => ∀ c : Dev Cert.AdamXqRefIdeal.nD,
          r.2.mem ((c.tc : Thread Cert.AdamXqRefIdeal.nD Cert.AdamXqRefIdeal.τ).loc Cert.AdamXqRefIdeal.main_v0) = v0 c
          ∧ r.2.mem ((c.tc : Thread Cert.AdamXqRefIdeal.nD Cert.AdamXqRefIdeal.τ).loc Cert.AdamXqRefIdeal.main_v24) = v1 c
          ∧ r.2.mem ((c.tc : Thread Cert.AdamXqRefIdeal.nD Cert.AdamXqRefIdeal.τ).loc Cert.AdamXqRefIdeal.main_v5) = v2 c
          ∧ r.2.mem ((c.tc : Thread Cert.AdamXqRefIdeal.nD Cert.AdamXqRefIdeal.τ).loc Cert.AdamXqRefIdeal.main_v11) = v3 c
          ∧ r.2.mem ((c.tc : Thread Cert.AdamXqRefIdeal.nD Cert.AdamXqRefIdeal.τ).loc Cert.AdamXqRefIdeal.main_arg0) = m' ((c.tc : Thread Cert.AdamXqRefIdeal.nD Cert.AdamXqRefIdeal.τ).loc Cert.AdamXqRefIdeal.main_arg0)
          ∧ r.2.mem ((c.tc : Thread Cert.AdamXqRefIdeal.nD Cert.AdamXqRefIdeal.τ).loc Cert.AdamXqRefIdeal.main_arg1) = m' ((c.tc : Thread Cert.AdamXqRefIdeal.nD Cert.AdamXqRefIdeal.τ).loc Cert.AdamXqRefIdeal.main_arg1)
          ∧ r.2.mem ((c.tc : Thread Cert.AdamXqRefIdeal.nD Cert.AdamXqRefIdeal.τ).loc Cert.AdamXqRefIdeal.main_arg2) = m' ((c.tc : Thread Cert.AdamXqRefIdeal.nD Cert.AdamXqRefIdeal.τ).loc Cert.AdamXqRefIdeal.main_arg2)
          ∧ r.2.mem ((c.tc : Thread Cert.AdamXqRefIdeal.nD Cert.AdamXqRefIdeal.τ).loc Cert.AdamXqRefIdeal.main_arg3) = m' ((c.tc : Thread Cert.AdamXqRefIdeal.nD Cert.AdamXqRefIdeal.τ).loc Cert.AdamXqRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v0_0)) (v1 : (c : Dev Cert.AdamXkvIdeal.nD) → Buf (Elt Ideal) ((c.tc : Thread Cert.AdamXkvIdeal.nD Cert.AdamXkvIdeal.τ).loc Cert.AdamXkvIdeal.main_v0_1)) (v2 : (c : Dev Cert.AdamXkvIdeal.nD) → Buf (Elt Ideal) ((c.tc : Thread Cert.AdamXkvIdeal.nD Cert.AdamXkvIdeal.τ).loc Cert.AdamXkvIdeal.main_v0_2)) (v3 : (c : Dev Cert.AdamXkvIdeal.nD) → Buf (Elt Ideal) ((c.tc : Thread Cert.AdamXkvIdeal.nD Cert.AdamXkvIdeal.τ).loc Cert.AdamXkvIdeal.main_v0_3)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v0_0) = v0 c
          ∧ r.2.mem ((c.tc : Thread Cert.AdamXkvIdeal.nD Cert.AdamXkvIdeal.τ).loc Cert.AdamXkvIdeal.main_v0_1) = v1 c
          ∧ r.2.mem ((c.tc : Thread Cert.AdamXkvIdeal.nD Cert.AdamXkvIdeal.τ).loc Cert.AdamXkvIdeal.main_v0_2) = v2 c
          ∧ r.2.mem ((c.tc : Thread Cert.AdamXkvIdeal.nD Cert.AdamXkvIdeal.τ).loc Cert.AdamXkvIdeal.main_v0_3) = v3 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v1) = v0 c
          ∧ r.2.mem ((c.tc : Thread Cert.AdamXkvRefIdeal.nD Cert.AdamXkvRefIdeal.τ).loc Cert.AdamXkvRefIdeal.main_v25) = v1 c
          ∧ r.2.mem ((c.tc : Thread Cert.AdamXkvRefIdeal.nD Cert.AdamXkvRefIdeal.τ).loc Cert.AdamXkvRefIdeal.main_v6) = v2 c
          ∧ r.2.mem ((c.tc : Thread Cert.AdamXkvRefIdeal.nD Cert.AdamXkvRefIdeal.τ).loc Cert.AdamXkvRefIdeal.main_v12) = v3 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamXo_AdamXoIdeal : Prop :=
  True

def algebraic_AdamXoIdeal_AdamXoRefIdeal [hAdamXoIdeal : Cert.AdamXoIdeal.Facts] [hAdamXoRefIdeal : Cert.AdamXoRefIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg)
    (m' : (ℓ : Loc Cert.AdamXoRefIdeal.nD Cert.AdamXoRefIdeal.τ Cert.AdamXoRefIdeal.sig) → Buf (Elt Ideal) ℓ) (g' : Dev Cert.AdamXoRefIdeal.nD → PrngReg), Pre_AdamXoIdeal m →
    (∀ c : Dev Cert.AdamXoIdeal.nD,
      m' ((c.tc : Thread Cert.AdamXoRefIdeal.nD Cert.AdamXoRefIdeal.τ).loc Cert.AdamXoRefIdeal.main_arg0) = m ((c.tc : Thread Cert.AdamXoIdeal.nD Cert.AdamXoIdeal.τ).loc Cert.AdamXoIdeal.main_arg0)
      ∧ m' ((c.tc : Thread Cert.AdamXoRefIdeal.nD Cert.AdamXoRefIdeal.τ).loc Cert.AdamXoRefIdeal.main_arg1) = m ((c.tc : Thread Cert.AdamXoIdeal.nD Cert.AdamXoIdeal.τ).loc Cert.AdamXoIdeal.main_arg1)
      ∧ m' ((c.tc : Thread Cert.AdamXoRefIdeal.nD Cert.AdamXoRefIdeal.τ).loc Cert.AdamXoRefIdeal.main_arg2) = m ((c.tc : Thread Cert.AdamXoIdeal.nD Cert.AdamXoIdeal.τ).loc Cert.AdamXoIdeal.main_arg2)
      ∧ m' ((c.tc : Thread Cert.AdamXoRefIdeal.nD Cert.AdamXoRefIdeal.τ).loc Cert.AdamXoRefIdeal.main_arg3) = m ((c.tc : Thread Cert.AdamXoIdeal.nD Cert.AdamXoIdeal.τ).loc Cert.AdamXoIdeal.main_arg3)) →
    ∃ (v0 : (c : Dev Cert.AdamXoIdeal.nD) → Buf (Elt Ideal) ((c.tc : Thread Cert.AdamXoIdeal.nD Cert.AdamXoIdeal.τ).loc Cert.AdamXoIdeal.main_v0_0)) (v1 : (c : Dev Cert.AdamXoIdeal.nD) → Buf (Elt Ideal) ((c.tc : Thread Cert.AdamXoIdeal.nD Cert.AdamXoIdeal.τ).loc Cert.AdamXoIdeal.main_v0_1)) (v2 : (c : Dev Cert.AdamXoIdeal.nD) → Buf (Elt Ideal) ((c.tc : Thread Cert.AdamXoIdeal.nD Cert.AdamXoIdeal.τ).loc Cert.AdamXoIdeal.main_v0_2)) (v3 : (c : Dev Cert.AdamXoIdeal.nD) → Buf (Elt Ideal) ((c.tc : Thread Cert.AdamXoIdeal.nD Cert.AdamXoIdeal.τ).loc Cert.AdamXoIdeal.main_v0_3)),
      θ_run (Cert.AdamXoIdeal.defs (F := Ideal)) (onTc (τ := Cert.AdamXoIdeal.τ) (Cert.AdamXoIdeal.main (F := Ideal))) ⟨m, fun _ => 0, g⟩ (fun r => ∀ c : Dev Cert.AdamXoIdeal.nD,
          r.2.mem ((c.tc : Thread Cert.AdamXoIdeal.nD Cert.AdamXoIdeal.τ).loc Cert.AdamXoIdeal.main_v0_0) = v0 c
          ∧ r.2.mem ((c.tc : Thread Cert.AdamXoIdeal.nD Cert.AdamXoIdeal.τ).loc Cert.AdamXoIdeal.main_v0_1) = v1 c
          ∧ r.2.mem ((c.tc : Thread Cert.AdamXoIdeal.nD Cert.AdamXoIdeal.τ).loc Cert.AdamXoIdeal.main_v0_2) = v2 c
          ∧ r.2.mem ((c.tc : Thread Cert.AdamXoIdeal.nD Cert.AdamXoIdeal.τ).loc Cert.AdamXoIdeal.main_v0_3) = v3 c
          ∧ r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
          ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
          ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
          ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ θ_run (Cert.AdamXoRefIdeal.defs (F := Ideal)) (onTc (τ := Cert.AdamXoRefIdeal.τ) (Cert.AdamXoRefIdeal.main (F := Ideal))) ⟨m', fun _ => 0, g'⟩ (fun r => ∀ c : Dev Cert.AdamXoRefIdeal.nD,
          r.2.mem ((c.tc : Thread Cert.AdamXoRefIdeal.nD Cert.AdamXoRefIdeal.τ).loc Cert.AdamXoRefIdeal.main_v0) = v0 c
          ∧ r.2.mem ((c.tc : Thread Cert.AdamXoRefIdeal.nD Cert.AdamXoRefIdeal.τ).loc Cert.AdamXoRefIdeal.main_v24) = v1 c
          ∧ r.2.mem ((c.tc : Thread Cert.AdamXoRefIdeal.nD Cert.AdamXoRefIdeal.τ).loc Cert.AdamXoRefIdeal.main_v5) = v2 c
          ∧ r.2.mem ((c.tc : Thread Cert.AdamXoRefIdeal.nD Cert.AdamXoRefIdeal.τ).loc Cert.AdamXoRefIdeal.main_v11) = v3 c
          ∧ r.2.mem ((c.tc : Thread Cert.AdamXoRefIdeal.nD Cert.AdamXoRefIdeal.τ).loc Cert.AdamXoRefIdeal.main_arg0) = m' ((c.tc : Thread Cert.AdamXoRefIdeal.nD Cert.AdamXoRefIdeal.τ).loc Cert.AdamXoRefIdeal.main_arg0)
          ∧ r.2.mem ((c.tc : Thread Cert.AdamXoRefIdeal.nD Cert.AdamXoRefIdeal.τ).loc Cert.AdamXoRefIdeal.main_arg1) = m' ((c.tc : Thread Cert.AdamXoRefIdeal.nD Cert.AdamXoRefIdeal.τ).loc Cert.AdamXoRefIdeal.main_arg1)
          ∧ r.2.mem ((c.tc : Thread Cert.AdamXoRefIdeal.nD Cert.AdamXoRefIdeal.τ).loc Cert.AdamXoRefIdeal.main_arg2) = m' ((c.tc : Thread Cert.AdamXoRefIdeal.nD Cert.AdamXoRefIdeal.τ).loc Cert.AdamXoRefIdeal.main_arg2)
          ∧ r.2.mem ((c.tc : Thread Cert.AdamXoRefIdeal.nD Cert.AdamXoRefIdeal.τ).loc Cert.AdamXoRefIdeal.main_arg3) = m' ((c.tc : Thread Cert.AdamXoRefIdeal.nD Cert.AdamXoRefIdeal.τ).loc Cert.AdamXoRefIdeal.main_arg3))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v12) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v12) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)) →
    ∃ (v0 : (c : Dev Cert.NormMemBwdIdeal.nD) → Buf (Elt Ideal) ((c.tc : Thread Cert.NormMemBwdIdeal.nD Cert.NormMemBwdIdeal.τ).loc Cert.NormMemBwdIdeal.main_v0)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0) = v0 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v15) = v0 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v8_0)) (v1 : (c : Dev Cert.GatesIdeal.nD) → Buf (Elt Ideal) ((c.tc : Thread Cert.GatesIdeal.nD Cert.GatesIdeal.τ).loc Cert.GatesIdeal.main_v8_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v8_0) = v0 c
          ∧ r.2.mem ((c.tc : Thread Cert.GatesIdeal.nD Cert.GatesIdeal.τ).loc Cert.GatesIdeal.main_v8_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v16) = v0 c
          ∧ r.2.mem ((c.tc : Thread Cert.GatesRefIdeal.nD Cert.GatesRefIdeal.τ).loc Cert.GatesRefIdeal.main_v21) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def Claim : Prop :=
  ∃ (hXaBwd : Cert.XaBwd.Facts) (hXaBwdIdeal : Cert.XaBwdIdeal.Facts) (hXaRefIdeal : Cert.XaRefIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hXqDx : Cert.XqDx.Facts) (hXqDxIdeal : Cert.XqDxIdeal.Facts) (hXqDxRefIdeal : Cert.XqDxRefIdeal.Facts) (hInDwA : Cert.InDwA.Facts) (hInDwAIdeal : Cert.InDwAIdeal.Facts) (hInDwARefIdeal : Cert.InDwARefIdeal.Facts) (hInDwB : Cert.InDwB.Facts) (hInDwBIdeal : Cert.InDwBIdeal.Facts) (hInDwBRefIdeal : Cert.InDwBRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hLoss : Cert.Loss.Facts) (hLossIdeal : Cert.LossIdeal.Facts) (hLossRefIdeal : Cert.LossRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hXaFwd : Cert.XaFwd.Facts) (hXaFwdIdeal : Cert.XaFwdIdeal.Facts) (hXaFwdRefIdeal : Cert.XaFwdRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hKv : Cert.Kv.Facts) (hKvIdeal : Cert.KvIdeal.Facts) (hKvRefIdeal : Cert.KvRefIdeal.Facts) (hKvDx : Cert.KvDx.Facts) (hKvDxIdeal : Cert.KvDxIdeal.Facts) (hKvDxRefIdeal : Cert.KvDxRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamXq : Cert.AdamXq.Facts) (hAdamXqIdeal : Cert.AdamXqIdeal.Facts) (hAdamXqRefIdeal : Cert.AdamXqRefIdeal.Facts) (hAdamXkv : Cert.AdamXkv.Facts) (hAdamXkvIdeal : Cert.AdamXkvIdeal.Facts) (hAdamXkvRefIdeal : Cert.AdamXkvRefIdeal.Facts) (hAdamXo : Cert.AdamXo.Facts) (hAdamXoIdeal : Cert.AdamXoIdeal.Facts) (hAdamXoRefIdeal : Cert.AdamXoRefIdeal.Facts) (hNormMix : Cert.NormMix.Facts) (hNormMixIdeal : Cert.NormMixIdeal.Facts) (hNormMixRefIdeal : Cert.NormMixRefIdeal.Facts) (hNormMem : Cert.NormMem.Facts) (hNormMemIdeal : Cert.NormMemIdeal.Facts) (hNormMemRefIdeal : Cert.NormMemRefIdeal.Facts) (hNormMemBwd : Cert.NormMemBwd.Facts) (hNormMemBwdIdeal : Cert.NormMemBwdIdeal.Facts) (hNormMemBwdRefIdeal : Cert.NormMemBwdRefIdeal.Facts) (hGates : Cert.Gates.Facts) (hGatesIdeal : Cert.GatesIdeal.Facts) (hGatesRefIdeal : Cert.GatesRefIdeal.Facts) (hPre_finite_q_k : Cert.Pre_finite_q_k.Facts),
    quiescent_XaBwd (hXaBwd := hXaBwd) (hPre_finite_q_k := hPre_finite_q_k)
    ∧ quiescent_XaBwdIdeal (hXaBwdIdeal := hXaBwdIdeal) (hPre_finite_q_k := hPre_finite_q_k)
    ∧ quiescent_XaRefIdeal (hXaRefIdeal := hXaRefIdeal) (hPre_finite_q_k := hPre_finite_q_k)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_XqDx (hXqDx := hXqDx)
    ∧ quiescent_XqDxIdeal (hXqDxIdeal := hXqDxIdeal)
    ∧ quiescent_XqDxRefIdeal (hXqDxRefIdeal := hXqDxRefIdeal)
    ∧ quiescent_InDwA (hInDwA := hInDwA)
    ∧ quiescent_InDwAIdeal (hInDwAIdeal := hInDwAIdeal)
    ∧ quiescent_InDwARefIdeal (hInDwARefIdeal := hInDwARefIdeal)
    ∧ quiescent_InDwB (hInDwB := hInDwB)
    ∧ quiescent_InDwBIdeal (hInDwBIdeal := hInDwBIdeal)
    ∧ quiescent_InDwBRefIdeal (hInDwBRefIdeal := hInDwBRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Loss (hLoss := hLoss)
    ∧ quiescent_LossIdeal (hLossIdeal := hLossIdeal)
    ∧ quiescent_LossRefIdeal (hLossRefIdeal := hLossRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Kv (hKv := hKv)
    ∧ quiescent_KvIdeal (hKvIdeal := hKvIdeal)
    ∧ quiescent_KvRefIdeal (hKvRefIdeal := hKvRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamXq (hAdamXq := hAdamXq)
    ∧ quiescent_AdamXqIdeal (hAdamXqIdeal := hAdamXqIdeal)
    ∧ quiescent_AdamXqRefIdeal (hAdamXqRefIdeal := hAdamXqRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamXo (hAdamXo := hAdamXo)
    ∧ quiescent_AdamXoIdeal (hAdamXoIdeal := hAdamXoIdeal)
    ∧ quiescent_AdamXoRefIdeal (hAdamXoRefIdeal := hAdamXoRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_Gates (hGates := hGates)
    ∧ quiescent_GatesIdeal (hGatesIdeal := hGatesIdeal)
    ∧ quiescent_GatesRefIdeal (hGatesRefIdeal := hGatesRefIdeal)
    ∧ preserves_XaBwd_XaBwdIdeal
    ∧ algebraic_XaBwdIdeal_XaRefIdeal (hXaBwdIdeal := hXaBwdIdeal) (hXaRefIdeal := hXaRefIdeal) (hPre_finite_q_k := hPre_finite_q_k)
    ∧ preserves_DownDx_DownDxIdeal
    ∧ algebraic_DownDxIdeal_DownDxRefIdeal (hDownDxIdeal := hDownDxIdeal) (hDownDxRefIdeal := hDownDxRefIdeal)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_XqDx_XqDxIdeal
    ∧ algebraic_XqDxIdeal_XqDxRefIdeal (hXqDxIdeal := hXqDxIdeal) (hXqDxRefIdeal := hXqDxRefIdeal)
    ∧ preserves_InDwA_InDwAIdeal
    ∧ algebraic_InDwAIdeal_InDwARefIdeal (hInDwAIdeal := hInDwAIdeal) (hInDwARefIdeal := hInDwARefIdeal)
    ∧ preserves_InDwB_InDwBIdeal
    ∧ algebraic_InDwBIdeal_InDwBRefIdeal (hInDwBIdeal := hInDwBIdeal) (hInDwBRefIdeal := hInDwBRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_Loss_LossIdeal
    ∧ algebraic_LossIdeal_LossRefIdeal (hLossIdeal := hLossIdeal) (hLossRefIdeal := hLossRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_XaFwd_XaFwdIdeal
    ∧ algebraic_XaFwdIdeal_XaFwdRefIdeal (hXaFwdIdeal := hXaFwdIdeal) (hXaFwdRefIdeal := hXaFwdRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_Kv_KvIdeal
    ∧ algebraic_KvIdeal_KvRefIdeal (hKvIdeal := hKvIdeal) (hKvRefIdeal := hKvRefIdeal)
    ∧ preserves_KvDx_KvDxIdeal
    ∧ algebraic_KvDxIdeal_KvDxRefIdeal (hKvDxIdeal := hKvDxIdeal) (hKvDxRefIdeal := hKvDxRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamXq_AdamXqIdeal
    ∧ algebraic_AdamXqIdeal_AdamXqRefIdeal (hAdamXqIdeal := hAdamXqIdeal) (hAdamXqRefIdeal := hAdamXqRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamXo_AdamXoIdeal
    ∧ algebraic_AdamXoIdeal_AdamXoRefIdeal (hAdamXoIdeal := hAdamXoIdeal) (hAdamXoRefIdeal := hAdamXoRefIdeal)
    ∧ preserves_NormMix_NormMixIdeal
    ∧ algebraic_NormMixIdeal_NormMixRefIdeal (hNormMixIdeal := hNormMixIdeal) (hNormMixRefIdeal := hNormMixRefIdeal)
    ∧ preserves_NormMem_NormMemIdeal
    ∧ algebraic_NormMemIdeal_NormMemRefIdeal (hNormMemIdeal := hNormMemIdeal) (hNormMemRefIdeal := hNormMemRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_Gates_GatesIdeal
    ∧ algebraic_GatesIdeal_GatesRefIdeal (hGatesIdeal := hGatesIdeal) (hGatesRefIdeal := hGatesRefIdeal)
-- ==== Pre_finite_q_k.lean ====
abbrev S8192x1024 : Shape := ⟨2, ![8192, 1024]⟩
abbrev S256x2048 : Shape := ⟨2, ![256, 2048]⟩
abbrev S1024x1024 : Shape := ⟨2, ![1024, 1024]⟩
abbrev S_ : Shape := ⟨0, ![]⟩
abbrev S256x1024 : Shape := ⟨2, ![256, 1024]⟩

class Facts : Prop where
  bitsLt_bf16_f32 : FTy.bits .bf16 < FTy.bits .f32
  bcast_S_S8192x1024 : S_.BroadcastsInDim S8192x1024 (![] : Fin 0 → Fin S8192x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x2048 .bf16) (main_arg2 : FVec F S8192x1024 .bf16) (main_arg3 : FVec F S1024x1024 .bf16) : IVec S8192x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .bf16 := (extractStridedSlice S256x1024 ![0, 0] · slices_S256x2048_S256x1024_0_0) main_arg1
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v3, main_v8)
-- ==== XaBwd.lean ====
abbrev S8192x1024 : Shape := ⟨2, ![8192, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S1024x1024, .bf16⟩
  | .hbm, ⟨4, _⟩ => ⟨S8192x1024, .bf16⟩
  | .hbm, ⟨5, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_62 : BitVec 32 := 0#32
  let v134 : BitVec 1 := Scalar.cmpi .ne v133 c0_i32_62
  v134

def k0_cond2 (i : grid0.Coords) : BitVec 1 :=
  let arg0 : BitVec 32 := BitVec.ofNat 32 (i 0).val
  let c0_i32_63 : BitVec 32 := 0#32
  let v135 : BitVec 1 := Scalar.cmpi .sgt arg0 c0_i32_63
  let v136 : BitVec 32 := Scalar.extui v135
  let c0_i32_64 : BitVec 32 := 0#32
  let v137 : BitVec 1 := Scalar.cmpi .ne v136 c0_i32_64
  v137

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== XaRefIdeal.lean ====
abbrev S8192x1024 : Shape := ⟨2, ![8192, 1024]⟩
abbrev S256x2048 : Shape := ⟨2, ![256, 2048]⟩
abbrev S1024x1024 : Shape := ⟨2, ![1024, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x4x256, .f32⟩
  | .hbm, ⟨61, _⟩ => ⟨S4x256x8192, .f32⟩
  | .hbm, ⟨62, _⟩ => ⟨S4x8192x256, .f32⟩
  | .hbm, ⟨63, _⟩ => ⟨S4x256x256, .f32⟩
  | .hbm, ⟨64, _⟩ => ⟨S256x4x256, .f32⟩
  | .hbm, ⟨65, _⟩ => ⟨S4x8192x256, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S4x8192x1, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192, .f32⟩
  | .hbm, ⟨76, _⟩ => ⟨S4x8192x256, .f32⟩
  | .hbm, ⟨77, _⟩ => ⟨S4x8192x256, .f32⟩
  | .hbm, ⟨78, _⟩ => ⟨S4x8192x256, .f32⟩
  | .hbm, ⟨79, _⟩ => ⟨S_, .f32⟩
  | .hbm, ⟨80, _⟩ => ⟨S4x8192x256, .f32⟩
  | .hbm, ⟨81, _⟩ => ⟨S4x8192x256, .f32⟩
  | .hbm, ⟨82, _⟩ => ⟨S4x256x256, .f32⟩
  | .hbm, ⟨83, _⟩ => ⟨S256x4x256, .f32⟩
  | .hbm, ⟨84, _⟩ => ⟨S4x8192x256, .f32⟩
  | .hbm, ⟨85, _⟩ => ⟨S8192x4x256, .f32⟩
  | .hbm, ⟨86, _⟩ => ⟨S256x1024, .f32⟩
  | .hbm, ⟨87, _⟩ => ⟨S256x1024, .f32⟩
  | .hbm, ⟨88, _⟩ => ⟨S8192x1024, .f32⟩
  | .hbm, ⟨89, _⟩ => ⟨S256x2048, .f32⟩
  | .hbm, ⟨90, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== DownDx.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S4x1024x1024 : Shape := ⟨3, ![4, 1024, 1024]⟩
abbrev S4x1536x1024 : Shape := ⟨3, ![4, 1536, 1024]⟩
abbrev S4x3584x1024 : Shape := ⟨3, ![4, 3584, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .hbm, ⟨9, _⟩ => ⟨S4x1024x1024, .bf16⟩
  | .hbm, ⟨10, _⟩ => ⟨S_, .bf16⟩
  | .hbm, ⟨11, _⟩ => ⟨S4x1024x1024, .bf16⟩
  | .hbm, ⟨12, _⟩ => ⟨S_, .bf16⟩
  | .hbm, ⟨13, _⟩ => ⟨S4x1536x1024, .bf16⟩
  | .hbm, ⟨14, _⟩ => ⟨S4x3584x1024, .bf16⟩
  | .hbm, ⟨15, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== UpDx.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S4096x1024 : Shape := ⟨2, ![4096, 1024]⟩
abbrev S4x1024x1024 : Shape := ⟨3, ![4, 1024, 1024]⟩
abbrev S_ : Shape := ⟨0, ![]⟩
abbrev S4x2560x1024 : Shape := ⟨3, ![4, 2560, 1024]⟩
abbrev S4x3584x1024 : Shape := ⟨3, ![4, 3584, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S4096x1024, .f32⟩
  | .hbm, ⟨7, _⟩ => ⟨S4096x1024, .bf16⟩
  | .hbm, ⟨8, _⟩ => ⟨S4x1024x1024, .bf16⟩
  | .hbm, ⟨9, _⟩ => ⟨S_, .bf16⟩
  | .hbm, ⟨10, _⟩ => ⟨S4x2560x1024, .bf16⟩
  | .hbm, ⟨11, _⟩ => ⟨S4x3584x1024, .bf16⟩
  | .hbm, ⟨12, _⟩ => ⟨S8192x1024, .f32⟩
  | .hbm, ⟨13, _⟩ => ⟨S8192x1024, .bf16⟩
  | .hbm, ⟨14, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_38 : BitVec 32 := 0#32
  let v76 : BitVec 1 := Scalar.cmpi .ne v75 c0_i32_38
  v76

def k0_cond2 (i : grid0.Coords) : BitVec 1 :=
  let arg0 : BitVec 32 := BitVec.ofNat 32 (i 0).val
  let c0_i32 : BitVec 32 := 0#32
  let v74 : BitVec 1 := Scalar.cmpi .eq arg0 c0_i32
  let v_true : BitVec 1 := 1#1
  let v77 : BitVec 1 := Scalar.xori v74 v_true
  let v78 : BitVec 32 := Scalar.extui v77
  let c0_i32_39 : BitVec 32 := 0#32
  let v79 : BitVec 1 := Scalar.cmpi .ne v78 c0_i32_39
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDxRefIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InDx.lean ====
abbrev S8192x1024 : Shape := ⟨2, ![8192, 1024]⟩
abbrev S1x1024 : Shape := ⟨2, ![1, 1024]⟩
abbrev S1024x3104 : Shape := ⟨2, ![1024, 3104]⟩
abbrev S8192x3104 : Shape := ⟨2, ![8192, 3104]⟩
abbrev S8192x1536 : Shape := ⟨2, ![8192, 1536]⟩
abbrev S8192x512 : Shape := ⟨2, ![8192, 512]⟩
abbrev S8192x2048 : Shape := ⟨2, ![8192, 2048]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x1152 : Shape := ⟨2, ![8192, 1152]⟩
abbrev S3104x1024 : Shape := ⟨2, ![3104, 1024]⟩
abbrev S1536x1024 : Shape := ⟨2, ![1536, 1024]⟩
abbrev S512x1024 : Shape := ⟨2, ![512, 1024]⟩
abbrev S2048x1024 : Shape := ⟨2, ![2048, 1024]⟩
abbrev S1024x1024 : Shape := ⟨2, ![1024, 1024]⟩
abbrev S32x1024 : Shape := ⟨2, ![32, 1024]⟩
abbrev S96x1024 : Shape := ⟨2, ![96, 1024]⟩
abbrev S128x1024 : Shape := ⟨2, ![128, 1024]⟩
abbrev S1152x1024 : Shape := ⟨2, ![1152, 1024]⟩
abbrev S512x2048 : Shape := ⟨2, ![512, 2048]⟩
abbrev S512x1152 : Shape := ⟨2, ![512, 1152]⟩
abbrev S256x2048 : Shape := ⟨2, ![256, 2048]⟩
abbrev S256x1024 : Shape := ⟨2, ![256, 1024]⟩
abbrev S256x1152 : Shape := ⟨2, ![256, 1152]⟩
abbrev S256 : Shape := ⟨1, ![256]⟩
abbrev S256x1 : Shape := ⟨2, ![256, 1]⟩
abbrev S1024 : Shape := ⟨1, ![1024]⟩

abbrev nBuf : Space → Nat
  | .hbm => 28
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S8192x3104, .bf16⟩
  | .hbm, ⟨6, _⟩ => ⟨S8192x1536, .bf16⟩
  | .hbm, ⟨7, _⟩ => ⟨S8192x512, .bf16⟩
  | .hbm, ⟨8, _⟩ => ⟨S8192x2048, .bf16⟩
  | .hbm, ⟨9, _⟩ => ⟨S8192x1024, .bf16⟩
  | .hbm, ⟨10, _⟩ => ⟨S8192x32, .bf16⟩
  | .hbm, ⟨11, _⟩ => ⟨S_, .bf16⟩
  | .hbm, ⟨12, _⟩ => ⟨S8192x96, .bf16⟩
  | .hbm, ⟨13, _⟩ => ⟨S8192x128, .bf16⟩
  | .hbm, ⟨14, _⟩ => ⟨S8192x1152, .bf16⟩
  | .hbm, ⟨15, _⟩ => ⟨S1024x3104, .bf16⟩
  | .hbm, ⟨16, _⟩ => ⟨S3104x1024, .bf16⟩
  | .hbm, ⟨17, _⟩ => ⟨S1536x1024, .bf16⟩
  | .hbm, ⟨18, _⟩ => ⟨S512x1024, .bf16⟩
  | .hbm, ⟨19, _⟩ => ⟨S2048x1024, .bf16⟩
  | .hbm, ⟨20, _⟩ => ⟨S1024x1024, .bf16⟩
  | .hbm, ⟨21, _⟩ => ⟨S32x1024, .bf16⟩
  | .hbm, ⟨22, _⟩ => ⟨S_, .bf16⟩
  | .hbm, ⟨23, _⟩ => ⟨S96x1024, .bf16⟩
  | .hbm, ⟨24, _⟩ => ⟨S128x1024, .bf16⟩
  | .hbm, ⟨25, _⟩ => ⟨S1152x1024, .bf16⟩
  | .hbm, ⟨26, _⟩ => ⟨S8192x1024, .f32⟩
  | .hbm, ⟨27, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1152, .bf16⟩
  | .local _ .vmem, ⟨4, _⟩ => ⟨S512x1152, .bf16⟩
  | .local _ .vmem, ⟨5, _⟩ => ⟨S1152x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_43 : BitVec 32 := 0#32
  let v83 : BitVec 1 := Scalar.cmpi .ne v82 c0_i32_43
  v83

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let v_true : BitVec 1 := 1#1
  let v84 : BitVec 1 := Scalar.xori v81 v_true
  let v85 : BitVec 32 := Scalar.extui v84
  let c0_i32_44 : BitVec 32 := 0#32
  let v86 : BitVec 1 := Scalar.cmpi .ne v85 c0_i32_44
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InDxRefIdeal.lean ====
abbrev S8192x1024 : Shape := ⟨2, ![8192, 1024]⟩
abbrev S1x1024 : Shape := ⟨2, ![1, 1024]⟩
abbrev S1024x3104 : Shape := ⟨2, ![1024, 3104]⟩
abbrev S8192x3104 : Shape := ⟨2, ![8192, 3104]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3104, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== XqDx.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_37 : BitVec 32 := 0#32
  let v75 : BitVec 1 := Scalar.cmpi .ne v74 c0_i32_37
  v75

def k0_cond2 (i : grid0.Coords) : BitVec 1 :=
  let arg0 : BitVec 32 := BitVec.ofNat 32 (i 0).val
  let c0_i32 : BitVec 32 := 0#32
  let v73 : BitVec 1 := Scalar.cmpi .eq arg0 c0_i32
  let v_true : BitVec 1 := 1#1
  let v76 : BitVec 1 := Scalar.xori v73 v_true
  let v77 : BitVec 32 := Scalar.extui v76
  let c0_i32_38 : BitVec 32 := 0#32
  let v78 : BitVec 1 := Scalar.cmpi .ne v77 c0_i32_38
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== XqDxRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InDwA.lean ====
abbrev S8192x1024 : Shape := ⟨2, ![8192, 1024]⟩
abbrev S1x1024 : Shape := ⟨2, ![1, 1024]⟩
abbrev S8192x3104 : Shape := ⟨2, ![8192, 3104]⟩
abbrev S8192x1536 : Shape := ⟨2, ![8192, 1536]⟩
abbrev S8192x512 : Shape := ⟨2, ![8192, 512]⟩
abbrev S8192x2048 : Shape := ⟨2, ![8192, 2048]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x1152 : Shape := ⟨2, ![8192, 1152]⟩
abbrev S8192 : Shape := ⟨1, ![8192]⟩
abbrev S8192x1 : Shape := ⟨2, ![8192, 1]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 30
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3104, .f32⟩
  | .hbm, ⟨3, _⟩ => ⟨S8192x3104, .bf16⟩
  | .hbm, ⟨4, _⟩ => ⟨S8192x1536, .bf16⟩
  | .hbm, ⟨5, _⟩ => ⟨S8192x512, .bf16⟩
  | .hbm, ⟨6, _⟩ => ⟨S8192x2048, .bf16⟩
  | .hbm, ⟨7, _⟩ => ⟨S8192x1024, .bf16⟩
  | .hbm, ⟨8, _⟩ => ⟨S8192x32, .bf16⟩
  | .hbm, ⟨9, _⟩ => ⟨S_, .bf16⟩
  | .hbm, ⟨10, _⟩ => ⟨S8192x96, .bf16⟩
  | .hbm, ⟨11, _⟩ => ⟨S8192x128, .bf16⟩
  | .hbm, ⟨12, _⟩ => ⟨S8192x1152, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwARefIdeal.lean ====
abbrev S8192x1024 : Shape := ⟨2, ![8192, 1024]⟩
abbrev S1x1024 : Shape := ⟨2, ![1, 1024]⟩
abbrev S8192x3104 : Shape := ⟨2, ![8192, 3104]⟩
abbrev S_ : Shape := ⟨0, ![]⟩
abbrev S1024x3104 : Shape := ⟨2, ![1024, 3104]⟩
abbrev S8192 : Shape := ⟨1, ![8192]⟩
abbrev S8192x1 : Shape := ⟨2, ![8192, 1]⟩
abbrev S3104x1024 : Shape := ⟨2, ![3104, 1024]⟩
abbrev S1024x1536 : Shape := ⟨2, ![1024, 1536]⟩
abbrev S1024x512 : Shape := ⟨2, ![1024, 512]⟩
abbrev S1024x2048 : Shape := ⟨2, ![1024, 2048]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3104, .f32⟩
  | .hbm, ⟨3, _⟩ => ⟨S_, .f32⟩
  | .hbm, ⟨4, _⟩ => ⟨S1024x3104, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x3104, .f32⟩
  | .hbm, ⟨21, _⟩ => ⟨S3104x1024, .f32⟩
  | .hbm, ⟨22, _⟩ => ⟨S1024x3104, .f32⟩
  | .hbm, ⟨23, _⟩ => ⟨S1024x1536, .f32⟩
  | .hbm, ⟨24, _⟩ => ⟨S1024x512, .f32⟩
  | .hbm, ⟨25, _⟩ => ⟨S1024x2048, .f32⟩
  | .hbm, ⟨26, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InDwB.lean ====
abbrev S8192x1024 : Shape := ⟨2, ![8192, 1024]⟩
abbrev S1x1024 : Shape := ⟨2, ![1, 1024]⟩
abbrev S8192x3104 : Shape := ⟨2, ![8192, 3104]⟩
abbrev S8192x1536 : Shape := ⟨2, ![8192, 1536]⟩
abbrev S8192x512 : Shape := ⟨2, ![8192, 512]⟩
abbrev S8192x2048 : Shape := ⟨2, ![8192, 2048]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x1152 : Shape := ⟨2, ![8192, 1152]⟩
abbrev S8192 : Shape := ⟨1, ![8192]⟩
abbrev S8192x1 : Shape := ⟨2, ![8192, 1]⟩
abbrev S1152x1024 : Shape := ⟨2, ![1152, 1024]⟩
abbrev S4096x384 : Shape := ⟨2, ![4096, 384]⟩
abbrev S4096x1024 : Shape := ⟨2, ![4096, 1024]⟩
abbrev S384x1024 : Shape := ⟨2, ![384, 1024]⟩

abbrev nBuf : Space → Nat
  | .hbm => 30
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3104, .f32⟩
  | .hbm, ⟨3, _⟩ => ⟨S8192x3104, .bf16⟩
  | .hbm, ⟨4, _⟩ => ⟨S8192x1536, .bf16⟩
  | .hbm, ⟨5, _⟩ => ⟨S8192x512, .bf16⟩
  | .hbm, ⟨6, _⟩ => ⟨S8192x2048, .bf16⟩
  | .hbm, ⟨7, _⟩ => ⟨S8192x1024, .bf16⟩
  | .hbm, ⟨8, _⟩ => ⟨S8192x32, .bf16⟩
  | .hbm, ⟨9, _⟩ => ⟨S_, .bf16⟩
  | .hbm, ⟨10, _⟩ => ⟨S8192x96, .bf16⟩
  | .hbm, ⟨11, _⟩ => ⟨S8192x128, .bf16⟩
  | .hbm, ⟨12, _⟩ => ⟨S8192x1152, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S1152x1024, .f32⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S4096x1024, .bf16⟩
  | .local _ .vmem, ⟨4, _⟩ => ⟨S384x1024, .f32⟩
  | .local _ .vmem, ⟨5, _⟩ => ⟨S384x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwBRefIdeal.lean ====
abbrev S8192x1024 : Shape := ⟨2, ![8192, 1024]⟩
abbrev S1x1024 : Shape := ⟨2, ![1, 1024]⟩
abbrev S8192x3104 : Shape := ⟨2, ![8192, 3104]⟩
abbrev S_ : Shape := ⟨0, ![]⟩
abbrev S1024x3104 : Shape := ⟨2, ![1024, 3104]⟩
abbrev S8192 : Shape := ⟨1, ![8192]⟩
abbrev S8192x1 : Shape := ⟨2, ![8192, 1]⟩
abbrev S3104x1024 : Shape := ⟨2, ![3104, 1024]⟩
abbrev S1024x1024 : Shape := ⟨2, ![1024, 1024]⟩
abbrev S1024x32 : Shape := ⟨2, ![1024, 32]⟩
abbrev S1024x1056 : Shape := ⟨2, ![1024, 1056]⟩
abbrev S1056x1024 : Shape := ⟨2, ![1056, 1024]⟩
abbrev S96x1024 : Shape := ⟨2, ![96, 1024]⟩
abbrev S1152x1024 : Shape := ⟨2, ![1152, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3104, .f32⟩
  | .hbm, ⟨3, _⟩ => ⟨S_, .f32⟩
  | .hbm, ⟨4, _⟩ => ⟨S1024x3104, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x3104, .f32⟩
  | .hbm, ⟨21, _⟩ => ⟨S3104x1024, .f32⟩
  | .hbm, ⟨22, _⟩ => ⟨S1024x3104, .f32⟩
  | .hbm, ⟨23, _⟩ => ⟨S1024x1024, .f32⟩
  | .hbm, ⟨24, _⟩ => ⟨S1024x32, .f32⟩
  | .hbm, ⟨25, _⟩ => ⟨S1024x1056, .f32⟩
  | .hbm, ⟨26, _⟩ => ⟨S1056x1024, .f32⟩
  | .hbm, ⟨27, _⟩ => ⟨S_, .f32⟩
  | .hbm, ⟨28, _⟩ => ⟨S96x1024, .f32⟩
  | .hbm, ⟨29, _⟩ => ⟨S1152x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== UpDw.lean ====
abbrev S8192x4096 : Shape := ⟨2, ![8192, 4096]⟩
abbrev S8192x1024 : Shape := ⟨2, ![8192, 1024]⟩
abbrev S4x2048x1024 : Shape := ⟨3, ![4, 2048, 1024]⟩
abbrev S1x1024x1024 : Shape := ⟨3, ![1, 1024, 1024]⟩
abbrev S3x2048x1024 : Shape := ⟨3, ![3, 2048, 1024]⟩
abbrev S2x3 : Shape := ⟨2, ![2, 3]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2048x1024, .f32⟩
  | .hbm, ⟨3, _⟩ => ⟨S4x2048x1024, .bf16⟩
  | .hbm, ⟨4, _⟩ => ⟨S4x2048x1024, .f32⟩
  | .hbm, ⟨5, _⟩ => ⟨S4x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S3x2048x1024, .bf16⟩
  | .local _ .vmem, ⟨5, _⟩ => ⟨S3x2048x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_44 : BitVec 32 := 0#32
  let c0_i32_46 : BitVec 32 := 0#32
  let v88 : BitVec 1 := Scalar.cmpi .sgt c0_i32_44 c0_i32_46
  let v89 : BitVec 32 := Scalar.extui v88
  let c0_i32_47 : BitVec 32 := 0#32
  let v90 : BitVec 1 := Scalar.cmpi .slt c0_i32_44 c0_i32_47
  let v91 : BitVec 32 := Scalar.extui v90
  let v92 : BitVec 32 := Scalar.subi v89 v91
  let c4_i32_45 : BitVec 32 := 4#32
  let c0_i32_48 : BitVec 32 := 0#32
  let v93 : BitVec 1 := Scalar.cmpi .sgt c4_i32_45 c0_i32_48
  let v94 : BitVec 32 := Scalar.extui v93
  let c0_i32_49 : BitVec 32 := 0#32
  let v95 : BitVec 1 := Scalar.cmpi .slt c4_i32_45 c0_i32_49
  let v96 : BitVec 32 := Scalar.extui v95
  let v97 : BitVec 32 := Scalar.subi v94 v96
  let v98 : BitVec 1 := Scalar.cmpi .ne v92 v97
  let v99 : BitVec 32 := Scalar.remsi c0_i32_44 c4_i32_45
  let c0_i32_50 : BitVec 32 := 0#32
  let v100 : BitVec 1 := Scalar.cmpi .ne v99 c0_i32_50
  let v101 : BitVec 1 := Scalar.andi v98 v100
  let v87 : BitVec 32 := Scalar.divsi c0_i32_44 c4_i32_45
  let c1_i32_51 : BitVec 32 := 1#32
  let v102 : BitVec 32 := Scalar.subi v87 c1_i32_51
  let v103 : BitVec 32 := Scalar.select v101 v102 v87
  let c1024_i32_67 : BitVec 32 := 1024#32
  let v125 : BitVec 32 := Scalar.muli v103 c1024_i32_67
  v125
def k0_off1 (c0_i32_59 : BitVec 32) : Fin 2 → Nat :=
  let c0_i32_69 : BitVec 32 := 0#32
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  ![0, v123.toNat]
def k0_off2 (c0_i32_59 : BitVec 32) : Fin 3 → Nat :=
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c0_i32_70 : BitVec 32 := 0#32
  let c0_i32_71 : BitVec 32 := 0#32
  ![v123.toNat, 0, 0]
def k0_off3 (c0_i32_52 : BitVec 32) (c0_i32_44 : BitVec 32) : Fin 2 → Nat :=
  let c4_i32_53 : BitVec 32 := 4#32
  let c0_i32_54 : BitVec 32 := 0#32
  let v104 : BitVec 1 := Scalar.cmpi .eq c4_i32_53 c0_i32_54
  let c1_i32_55 : BitVec 32 := 1#32
  let v105 : BitVec 32 := Scalar.select v104 c1_i32_55 c4_i32_53
  let v106 : BitVec 32 := Scalar.remsi c0_i32_52 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c2048_i32_66 : BitVec 32 := 2048#32
  let v124 : BitVec 32 := Scalar.muli v113 c2048_i32_66
  let c0_i32_46 : BitVec 32 := 0#32
  let v88 : BitVec 1 := Scalar.cmpi .sgt c0_i32_44 c0_i32_46
  let v89 : BitVec 32 := Scalar.extui v88
  let c0_i32_47 : BitVec 32 := 0#32
  let v90 : BitVec 1 := Scalar.cmpi .slt c0_i32_44 c0_i32_47
  let v91 : BitVec 32 := Scalar.extui v90
  let v92 : BitVec 32 := Scalar.subi v89 v91
  let c4_i32_45 : BitVec 32 := 4#32
  let c0_i32_48 : BitVec 32 := 0#32
  let v93 : BitVec 1 := Scalar.cmpi .sgt c4_i32_45 c0_i32_48
  let v94 : BitVec 32 := Scalar.extui v93
  let c0_i32_49 : BitVec 32 := 0#32
  let v95 : BitVec 1 := Scalar.cmpi .slt c4_i32_45 c0_i32_49
  let v96 : BitVec 32 := Scalar.extui v95
  let v97 : BitVec 32 := Scalar.subi v94 v96
  let v98 : BitVec 1 := Scalar.cmpi .ne v92 v97
  let v99 : BitVec 32 := Scalar.remsi c0_i32_44 c4_i32_45
  let c0_i32_50 : BitVec 32 := 0#32
  let v100 : BitVec 1 := Scalar.cmpi .ne v99 c0_i32_50
  let v101 : BitVec 1 := Scalar.andi v98 v100
  let v87 : BitVec 32 := Scalar.divsi c0_i32_44 c4_i32_45
  let c1_i32_51 : BitVec 32 := 1#32
  let v102 : BitVec 32 := Scalar.subi v87 c1_i32_51
  let v103 : BitVec 32 := Scalar.select v101 v102 v87
  let c1024_i32_67 : BitVec 32 := 1024#32
  let v125 : BitVec 32 := Scalar.muli v103 c1024_i32_67
  let v126 : BitVec 32 := v125
  ![v124.toNat, v126.toNat]
def k0_off3_at (r : Fin 2) : BitVec 32 × BitVec 32 :=
  if r.val < 1 then
    (0#32, 0#32)
  else
    (1#32, 1#32)
def k0_off4 (c0_i32_59 : BitVec 32) : Fin 2 → Nat :=
  let c1_i32_72 : BitVec 32 := 1#32
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  ![1, v123.toNat]
def k0_off5 (c0_i32_52 : BitVec 32) : Fin 2 → Nat :=
  let c4_i32_53 : BitVec 32 := 4#32
  let c0_i32_54 : BitVec 32 := 0#32
  let v104 : BitVec 1 := Scalar.cmpi .eq c4_i32_53 c0_i32_54
  let c1_i32_55 : BitVec 32 := 1#32
  let v105 : BitVec 32 := Scalar.select v104 c1_i32_55 c4_i32_53
  let v106 : BitVec 32 := Scalar.remsi c0_i32_52 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c2048_i32_68 : BitVec 32 := 2048#32
  let v127 : BitVec 32 := Scalar.muli v113 c2048_i32_68
  let c0_i32_75 : BitVec 32 := 0#32
  ![v127.toNat, 0]
def k0_mult2 : BitVec 32 :=
  let c1_i32_76 : BitVec 32 := 1#32
  let c0_i32_78 : BitVec 32 := 0#32
  let v139 : BitVec 1 := Scalar.cmpi .sgt c1_i32_76 c0_i32_78
  let v140 : BitVec 32 := Scalar.extui v139
  let c0_i32_79 : BitVec 32 := 0#32
  let v141 : BitVec 1 := Scalar.cmpi .slt c1_i32_76 c0_i32_79
  let v142 : BitVec 32 := Scalar.extui v141
  let v143 : BitVec 32 := Scalar.subi v140 v142
  let c4_i32_77 : BitVec 32 := 4#32
  let c0_i32_80 : BitVec 32 := 0#32
  let v144 : BitVec 1 := Scalar.cmpi .sgt c4_i32_77 c0_i32_80
  let v145 : BitVec 32 := Scalar.extui v144
  let c0_i32_81 : BitVec 32 := 0#32
  let v146 : BitVec 1 := Scalar.cmpi .slt c4_i32_77 c0_i32_81
  let v147 : BitVec 32 := Scalar.extui v146
  let v148 : BitVec 32 := Scalar.subi v145 v147
  let v149 : BitVec 1 := Scalar.cmpi .ne v143 v148
  let v150 : BitVec 32 := Scalar.remsi c1_i32_76 c4_i32_77
  let c0_i32_82 : BitVec 32 := 0#32
  let v151 : BitVec 1 := Scalar.cmpi .ne v150 c0_i32_82
  let v152 : BitVec 1 := Scalar.andi v149 v151
  let v138 : BitVec 32 := Scalar.divsi c1_i32_76 c4_i32_77
  let c1_i32_83 : BitVec 32 := 1#32
  let v153 : BitVec 32 := Scalar.subi v138 c1_i32_83
  let v154 : BitVec 32 := Scalar.select v152 v153 v138
  let c1024_i32_99 : BitVec 32 := 1024#32
  let v176 : BitVec 32 := Scalar.muli v154 c1024_i32_99
  v176
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c16_i32 : BitVec 32 := 16#32
  let v7 : BitVec 1 := Scalar.cmpi .slt v6 c16_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c0_i32_47 : BitVec 32 := 0#32
  let v90 : BitVec 1 := Scalar.cmpi .sgt v88 c0_i32_47
  let v91 : BitVec 32 := Scalar.extui v90
  let c0_i32_48 : BitVec 32 := 0#32
  let v92 : BitVec 1 := Scalar.cmpi .slt v88 c0_i32_48
  let v93 : BitVec 32 := Scalar.extui v92
  let v94 : BitVec 32 := Scalar.subi v91 v93
  let c4_i32_46 : BitVec 32 := 4#32
  let c0_i32_49 : BitVec 32 := 0#32
  let v95 : BitVec 1 := Scalar.cmpi .sgt c4_i32_46 c0_i32_49
  let v96 : BitVec 32 := Scalar.extui v95
  let c0_i32_50 : BitVec 32 := 0#32
  let v97 : BitVec 1 := Scalar.cmpi .slt c4_i32_46 c0_i32_50
  let v98 : BitVec 32 := Scalar.extui v97
  let v99 : BitVec 32 := Scalar.subi v96 v98
  let v100 : BitVec 1 := Scalar.cmpi .ne v94 v99
  let v101 : BitVec 32 := Scalar.remsi v88 c4_i32_46
  let c0_i32_51 : BitVec 32 := 0#32
  let v102 : BitVec 1 := Scalar.cmpi .ne v101 c0_i32_51
  let v103 : BitVec 1 := Scalar.andi v100 v102
  let v89 : BitVec 32 := Scalar.divsi v88 c4_i32_46
  let c1_i32_52 : BitVec 32 := 1#32
  let v104 : BitVec 32 := Scalar.subi v89 c1_i32_52
  let v105 : BitVec 32 := Scalar.select v103 v104 v89
  let c1024_i32_66 : BitVec 32 := 1024#32
  let v127 : BitVec 32 := Scalar.muli v105 c1024_i32_66
  v127
def k0_off6 (i : grid0.Coords) : Fin 2 → Nat :=
  let c0_i32_68 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  ![0, v125.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  let c0_i32_69 : BitVec 32 := 0#32
  let c0_i32_70 : BitVec 32 := 0#32
  ![v125.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c4_i32_53 : BitVec 32 := 4#32
  let c0_i32_54 : BitVec 32 := 0#32
  let v106 : BitVec 1 := Scalar.cmpi .eq c4_i32_53 c0_i32_54
  let c1_i32_55 : BitVec 32 := 1#32
  let v107 : BitVec 32 := Scalar.select v106 c1_i32_55 c4_i32_53
  let v108 : BitVec 32 := Scalar.remsi v88 v107
  let c0_i32_57 : BitVec 32 := 0#32
  let v110 : BitVec 1 := Scalar.cmpi .slt v108 c0_i32_57
  let c0_i32_58 : BitVec 32 := 0#32
  let v111 : BitVec 1 := Scalar.cmpi .slt v107 c0_i32_58
  let v112 : BitVec 1 := Scalar.xori v110 v111
  let c0_i32_56 : BitVec 32 := 0#32
  let v109 : BitVec 1 := Scalar.cmpi .ne v108 c0_i32_56
  let v113 : BitVec 1 := Scalar.andi v112 v109
  let v114 : BitVec 32 := Scalar.addi v108 v107
  let v115 : BitVec 32 := Scalar.select v113 v114 v108
  let c2048_i32_65 : BitVec 32 := 2048#32
  let v126 : BitVec 32 := Scalar.muli v115 c2048_i32_65
  let c0_i32_47 : BitVec 32 := 0#32
  let v90 : BitVec 1 := Scalar.cmpi .sgt v88 c0_i32_47
  let v91 : BitVec 32 := Scalar.extui v90
  let c0_i32_48 : BitVec 32 := 0#32
  let v92 : BitVec 1 := Scalar.cmpi .slt v88 c0_i32_48
  let v93 : BitVec 32 := Scalar.extui v92
  let v94 : BitVec 32 := Scalar.subi v91 v93
  let c4_i32_46 : BitVec 32 := 4#32
  let c0_i32_49 : BitVec 32 := 0#32
  let v95 : BitVec 1 := Scalar.cmpi .sgt c4_i32_46 c0_i32_49
  let v96 : BitVec 32 := Scalar.extui v95
  let c0_i32_50 : BitVec 32 := 0#32
  let v97 : BitVec 1 := Scalar.cmpi .slt c4_i32_46 c0_i32_50
  let v98 : BitVec 32 := Scalar.extui v97
  let v99 : BitVec 32 := Scalar.subi v96 v98
  let v100 : BitVec 1 := Scalar.cmpi .ne v94 v99
  let v101 : BitVec 32 := Scalar.remsi v88 c4_i32_46
  let c0_i32_51 : BitVec 32 := 0#32
  let v102 : BitVec 1 := Scalar.cmpi .ne v101 c0_i32_51
  let v103 : BitVec 1 := Scalar.andi v100 v102
  let v89 : BitVec 32 := Scalar.divsi v88 c4_i32_46
  let c1_i32_52 : BitVec 32 := 1#32
  let v104 : BitVec 32 := Scalar.subi v89 c1_i32_52
  let v105 : BitVec 32 := Scalar.select v103 v104 v89
  let c1024_i32_66 : BitVec 32 := 1024#32
  let v127 : BitVec 32 := Scalar.muli v105 c1024_i32_66
  let v128 : BitVec 32 := v127
  ![v126.toNat, v128.toNat]
def k0_off9 (i : grid0.Coords) : Fin 2 → Nat :=
  let c1_i32_71 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  ![1, v125.toNat]
def k0_off10 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c4_i32_53 : BitVec 32 := 4#32
  let c0_i32_54 : BitVec 32 := 0#32
  let v106 : BitVec 1 := Scalar.cmpi .eq c4_i32_53 c0_i32_54
  let c1_i32_55 : BitVec 32 := 1#32
  let v107 : BitVec 32 := Scalar.select v106 c1_i32_55 c4_i32_53
  let v108 : BitVec 32 := Scalar.remsi v88 v107
  let c0_i32_57 : BitVec 32 := 0#32
  let v110 : BitVec 1 := Scalar.cmpi .slt v108 c0_i32_57
  let c0_i32_58 : BitVec 32 := 0#32
  let v111 : BitVec 1 := Scalar.cmpi .slt v107 c0_i32_58
  let v112 : BitVec 1 := Scalar.xori v110 v111
  let c0_i32_56 : BitVec 32 := 0#32
  let v109 : BitVec 1 := Scalar.cmpi .ne v108 c0_i32_56
  let v113 : BitVec 1 := Scalar.andi v112 v109
  let v114 : BitVec 32 := Scalar.addi v108 v107
  let v115 : BitVec 32 := Scalar.select v113 v114 v108
  let c2048_i32_67 : BitVec 32 := 2048#32
  let v129 : BitVec 32 := Scalar.muli v115 c2048_i32_67
  let c0_i32_74 : BitVec 32 := 0#32
  ![v129.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v11 : BitVec 1 := Scalar.cmpi .sgt v1 c0_i32_3
  let v12 : BitVec 32 := Scalar.extui v11
  let c0_i32_4 : BitVec 32 := 0#32
  let v13 : BitVec 1 := Scalar.cmpi .slt v1 c0_i32_4
  let v14 : BitVec 32 := Scalar.extui v13
  let v15 : BitVec 32 := Scalar.subi v12 v14
  let c4_i32_2 : BitVec 32 := 4#32
  let c0_i32_5 : BitVec 32 := 0#32
  let v16 : BitVec 1 := Scalar.cmpi .sgt c4_i32_2 c0_i32_5
  let v17 : BitVec 32 := Scalar.extui v16
  let c0_i32_6 : BitVec 32 := 0#32
  let v18 : BitVec 1 := Scalar.cmpi .slt c4_i32_2 c0_i32_6
  let v19 : BitVec 32 := Scalar.extui v18
  let v20 : BitVec 32 := Scalar.subi v17 v19
  let v21 : BitVec 1 := Scalar.cmpi .ne v15 v20
  let v22 : BitVec 32 := Scalar.remsi v1 c4_i32_2
  let c0_i32_7 : BitVec 32 := 0#32
  let v23 : BitVec 1 := Scalar.cmpi .ne v22 c0_i32_7
  let v24 : BitVec 1 := Scalar.andi v21 v23
  let v10 : BitVec 32 := Scalar.divsi v1 c4_i32_2
  let c1_i32_8 : BitVec 32 := 1#32
  let v25 : BitVec 32 := Scalar.subi v10 c1_i32_8
  let v26 : BitVec 32 := Scalar.select v24 v25 v10
  let c1024_i32 : BitVec 32 := 1024#32
  let v48 : BitVec 32 := Scalar.muli v26 c1024_i32
  v48
def k0_off11 (i : grid0.Coords) : Fin 2 → Nat :=
  let c0_i32_22 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![0, v46.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c0_i32_23 : BitVec 32 := 0#32
  let c0_i32_24 : BitVec 32 := 0#32
  ![v46.toNat, 0, 0]
def k0_off13 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c2048_i32 : BitVec 32 := 2048#32
  let v47 : BitVec 32 := Scalar.muli v36 c2048_i32
  let c0_i32_3 : BitVec 32 := 0#32
  let v11 : BitVec 1 := Scalar.cmpi .sgt v1 c0_i32_3
  let v12 : BitVec 32 := Scalar.extui v11
  let c0_i32_4 : BitVec 32 := 0#32
  let v13 : BitVec 1 := Scalar.cmpi .slt v1 c0_i32_4
  let v14 : BitVec 32 := Scalar.extui v13
  let v15 : BitVec 32 := Scalar.subi v12 v14
  let c4_i32_2 : BitVec 32 := 4#32
  let c0_i32_5 : BitVec 32 := 0#32
  let v16 : BitVec 1 := Scalar.cmpi .sgt c4_i32_2 c0_i32_5
  let v17 : BitVec 32 := Scalar.extui v16
  let c0_i32_6 : BitVec 32 := 0#32
  let v18 : BitVec 1 := Scalar.cmpi .slt c4_i32_2 c0_i32_6
  let v19 : BitVec 32 := Scalar.extui v18
  let v20 : BitVec 32 := Scalar.subi v17 v19
  let v21 : BitVec 1 := Scalar.cmpi .ne v15 v20
  let v22 : BitVec 32 := Scalar.remsi v1 c4_i32_2
  let c0_i32_7 : BitVec 32 := 0#32
  let v23 : BitVec 1 := Scalar.cmpi .ne v22 c0_i32_7
  let v24 : BitVec 1 := Scalar.andi v21 v23
  let v10 : BitVec 32 := Scalar.divsi v1 c4_i32_2
  let c1_i32_8 : BitVec 32 := 1#32
  let v25 : BitVec 32 := Scalar.subi v10 c1_i32_8
  let v26 : BitVec 32 := Scalar.select v24 v25 v10
  let c1024_i32 : BitVec 32 := 1024#32
  let v48 : BitVec 32 := Scalar.muli v26 c1024_i32
  let v49 : BitVec 32 := v48
  ![v47.toNat, v49.toNat]
def k0_off14 (i : grid0.Coords) : Fin 2 → Nat :=
  let c1_i32_25 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![1, v46.toNat]
def k0_off15 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c2048_i32_21 : BitVec 32 := 2048#32
  let v50 : BitVec 32 := Scalar.muli v36 c2048_i32_21
  let c0_i32_28 : BitVec 32 := 0#32
  ![v50.toNat, 0]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_29 : BitVec 32 := 3#32
  let c0_i32_30 : BitVec 32 := 0#32
  let v61 : BitVec 1 := Scalar.cmpi .eq c3_i32_29 c0_i32_30
  let c1_i32_31 : BitVec 32 := 1#32
  let v62 : BitVec 32 := Scalar.select v61 c1_i32_31 c3_i32_29
  let v63 : BitVec 32 := Scalar.remsi v1 v62
  let c0_i32_33 : BitVec 32 := 0#32
  let v65 : BitVec 1 := Scalar.cmpi .slt v63 c0_i32_33
  let c0_i32_34 : BitVec 32 := 0#32
  let v66 : BitVec 1 := Scalar.cmpi .slt v62 c0_i32_34
  let v67 : BitVec 1 := Scalar.xori v65 v66
  let c0_i32_32 : BitVec 32 := 0#32
  let v64 : BitVec 1 := Scalar.cmpi .ne v63 c0_i32_32
  let v68 : BitVec 1 := Scalar.andi v67 v64
  let v69 : BitVec 32 := Scalar.addi v63 v62
  let v70 : BitVec 32 := Scalar.select v68 v69 v63
  let v71 : Index := Scalar.indexCast v70
  let c0 : Index := 0#32
  let c0_35 : Index := 0#32
  ![v71.toNat, 0, 0]
def k0_cond3 (i : grid0.Coords) : BitVec 1 :=
  let arg1 : BitVec 32 := BitVec.ofNat 32 (i 1).val
  let c0_i32_38 : BitVec 32 := 0#32
  let v78 : BitVec 1 := Scalar.cmpi .eq arg1 c0_i32_38
  let v79 : BitVec 32 := Scalar.extui v78
  let c0_i32_39 : BitVec 32 := 0#32
  let v80 : BitVec 1 := Scalar.cmpi .ne v79 c0_i32_39
  v80

def k0_cond4 (i : grid0.Coords) : BitVec 1 :=
  let arg1 : BitVec 32 := BitVec.ofNat 32 (i 1).val
  let c0_i32_40 : BitVec 32 := 0#32
  let v81 : BitVec 1 := Scalar.cmpi .sgt arg1 c0_i32_40
  let v82 : BitVec 32 := Scalar.extui v81
  let c0_i32_41 : BitVec 32 := 0#32
  let v83 : BitVec 1 := Scalar.cmpi .ne v82 c0_i32_41
  v83

def k0_cond5 (i : grid0.Coords) : BitVec 1 :=
  let arg1 : BitVec 32 := BitVec.ofNat 32 (i 1).val
  let c3_i32_42 : BitVec 32 := 3#32
  let v84 : BitVec 1 := Scalar.cmpi .eq arg1 c3_i32_42
  let v85 : BitVec 32 := Scalar.extui v84
  let c0_i32_43 : BitVec 32 := 0#32
  let v86 : BitVec 1 := Scalar.cmpi .ne v85 c0_i32_43
  v86

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== UpDwRefIdeal.lean ====
abbrev S8192x4096 : Shape := ⟨2, ![8192, 4096]⟩
abbrev S8192x1024 : Shape := ⟨2, ![8192, 1024]⟩
abbrev S4x2048x1024 : Shape := ⟨3, ![4, 2048, 1024]⟩
abbrev S_ : Shape := ⟨0, ![]⟩
abbrev S1024x4096 : Shape := ⟨2, ![1024, 4096]⟩
abbrev S4096x1024 : Shape := ⟨2, ![4096, 1024]⟩
abbrev S4x1024x1024 : Shape := ⟨3, ![4, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2048x1024, .f32⟩
  | .hbm, ⟨3, _⟩ => ⟨S4x2048x1024, .bf16⟩
  | .hbm, ⟨4, _⟩ => ⟨S_, .f32⟩
  | .hbm, ⟨5, _⟩ => ⟨S1024x4096, .f32⟩
  | .hbm, ⟨6, _⟩ => ⟨S8192x1024, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4x1024x1024, .f32⟩
  | .hbm, ⟨13, _⟩ => ⟨S4x1024x1024, .f32⟩
  | .hbm, ⟨14, _⟩ => ⟨S4x2048x1024, .f32⟩
  | .hbm, ⟨15, _⟩ => ⟨S4x1024x1024, .bf16⟩
  | .hbm, ⟨16, _⟩ => ⟨S4x1024x1024, .bf16⟩
  | .hbm, ⟨17, _⟩ => ⟨S4x2048x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4x2048x1024 : Shape := ⟨3, ![4, 2048, 1024]⟩
abbrev S_ : Shape := ⟨0, ![]⟩
abbrev S1x1024x1024 : Shape := ⟨3, ![1, 1024, 1024]⟩
abbrev S3x2048x1024 : Shape := ⟨3, ![3, 2048, 1024]⟩
abbrev S2x3 : Shape := ⟨2, ![2, 3]⟩
abbrev S1x1 : Shape := ⟨2, ![1, 1]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x2048x1024, .f32⟩
  | .hbm, ⟨3, _⟩ => ⟨S4x2048x1024, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x1024, .bf16⟩
  | .hbm, ⟨10, _⟩ => ⟨S4x2048x1024, .f32⟩
  | .hbm, ⟨11, _⟩ => ⟨S4x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S3x2048x1024, .bf16⟩
  | .local _ .vmem, ⟨5, _⟩ => ⟨S3x2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_44 : BitVec 32 := 0#32
  let c0_i32_46 : BitVec 32 := 0#32
  let v88 : BitVec 1 := Scalar.cmpi .sgt c0_i32_44 c0_i32_46
  let v89 : BitVec 32 := Scalar.extui v88
  let c0_i32_47 : BitVec 32 := 0#32
  let v90 : BitVec 1 := Scalar.cmpi .slt c0_i32_44 c0_i32_47
  let v91 : BitVec 32 := Scalar.extui v90
  let v92 : BitVec 32 := Scalar.subi v89 v91
  let c4_i32_45 : BitVec 32 := 4#32
  let c0_i32_48 : BitVec 32 := 0#32
  let v93 : BitVec 1 := Scalar.cmpi .sgt c4_i32_45 c0_i32_48
  let v94 : BitVec 32 := Scalar.extui v93
  let c0_i32_49 : BitVec 32 := 0#32
  let v95 : BitVec 1 := Scalar.cmpi .slt c4_i32_45 c0_i32_49
  let v96 : BitVec 32 := Scalar.extui v95
  let v97 : BitVec 32 := Scalar.subi v94 v96
  let v98 : BitVec 1 := Scalar.cmpi .ne v92 v97
  let v99 : BitVec 32 := Scalar.remsi c0_i32_44 c4_i32_45
  let c0_i32_50 : BitVec 32 := 0#32
  let v100 : BitVec 1 := Scalar.cmpi .ne v99 c0_i32_50
  let v101 : BitVec 1 := Scalar.andi v98 v100
  let v87 : BitVec 32 := Scalar.divsi c0_i32_44 c4_i32_45
  let c1_i32_51 : BitVec 32 := 1#32
  let v102 : BitVec 32 := Scalar.subi v87 c1_i32_51
  let v103 : BitVec 32 := Scalar.select v101 v102 v87
  let c1024_i32_67 : BitVec 32 := 1024#32
  let v125 : BitVec 32 := Scalar.muli v103 c1024_i32_67
  v125
def k0_off1 (c0_i32_59 : BitVec 32) : Fin 2 → Nat :=
  let c0_i32_69 : BitVec 32 := 0#32
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  ![0, v123.toNat]
def k0_off2 (c0_i32_59 : BitVec 32) : Fin 3 → Nat :=
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c0_i32_70 : BitVec 32 := 0#32
  let c0_i32_71 : BitVec 32 := 0#32
  ![v123.toNat, 0, 0]
def k0_off3 (c0_i32_52 : BitVec 32) (c0_i32_44 : BitVec 32) : Fin 2 → Nat :=
  let c4_i32_53 : BitVec 32 := 4#32
  let c0_i32_54 : BitVec 32 := 0#32
  let v104 : BitVec 1 := Scalar.cmpi .eq c4_i32_53 c0_i32_54
  let c1_i32_55 : BitVec 32 := 1#32
  let v105 : BitVec 32 := Scalar.select v104 c1_i32_55 c4_i32_53
  let v106 : BitVec 32 := Scalar.remsi c0_i32_52 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c2048_i32_66 : BitVec 32 := 2048#32
  let v124 : BitVec 32 := Scalar.muli v113 c2048_i32_66
  let c0_i32_46 : BitVec 32 := 0#32
  let v88 : BitVec 1 := Scalar.cmpi .sgt c0_i32_44 c0_i32_46
  let v89 : BitVec 32 := Scalar.extui v88
  let c0_i32_47 : BitVec 32 := 0#32
  let v90 : BitVec 1 := Scalar.cmpi .slt c0_i32_44 c0_i32_47
  let v91 : BitVec 32 := Scalar.extui v90
  let v92 : BitVec 32 := Scalar.subi v89 v91
  let c4_i32_45 : BitVec 32 := 4#32
  let c0_i32_48 : BitVec 32 := 0#32
  let v93 : BitVec 1 := Scalar.cmpi .sgt c4_i32_45 c0_i32_48
  let v94 : BitVec 32 := Scalar.extui v93
  let c0_i32_49 : BitVec 32 := 0#32
  let v95 : BitVec 1 := Scalar.cmpi .slt c4_i32_45 c0_i32_49
  let v96 : BitVec 32 := Scalar.extui v95
  let v97 : BitVec 32 := Scalar.subi v94 v96
  let v98 : BitVec 1 := Scalar.cmpi .ne v92 v97
  let v99 : BitVec 32 := Scalar.remsi c0_i32_44 c4_i32_45
  let c0_i32_50 : BitVec 32 := 0#32
  let v100 : BitVec 1 := Scalar.cmpi .ne v99 c0_i32_50
  let v101 : BitVec 1 := Scalar.andi v98 v100
  let v87 : BitVec 32 := Scalar.divsi c0_i32_44 c4_i32_45
  let c1_i32_51 : BitVec 32 := 1#32
  let v102 : BitVec 32 := Scalar.subi v87 c1_i32_51
  let v103 : BitVec 32 := Scalar.select v101 v102 v87
  let c1024_i32_67 : BitVec 32 := 1024#32
  let v125 : BitVec 32 := Scalar.muli v103 c1024_i32_67
  let v126 : BitVec 32 := v125
  ![v124.toNat, v126.toNat]
def k0_off3_at (r : Fin 2) : BitVec 32 × BitVec 32 :=
  if r.val < 1 then
    (0#32, 0#32)
  else
    (1#32, 1#32)
def k0_off4 (c0_i32_59 : BitVec 32) : Fin 2 → Nat :=
  let c1_i32_72 : BitVec 32 := 1#32
  let c3_i32_60 : BitVec 32 := 3#32
  let c0_i32_61 : BitVec 32 := 0#32
  let v114 : BitVec 1 := Scalar.cmpi .eq c3_i32_60 c0_i32_61
  let c1_i32_62 : BitVec 32 := 1#32
  let v115 : BitVec 32 := Scalar.select v114 c1_i32_62 c3_i32_60
  let v116 : BitVec 32 := Scalar.remsi c0_i32_59 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  ![1, v123.toNat]
def k0_off5 (c0_i32_52 : BitVec 32) : Fin 2 → Nat :=
  let c4_i32_53 : BitVec 32 := 4#32
  let c0_i32_54 : BitVec 32 := 0#32
  let v104 : BitVec 1 := Scalar.cmpi .eq c4_i32_53 c0_i32_54
  let c1_i32_55 : BitVec 32 := 1#32
  let v105 : BitVec 32 := Scalar.select v104 c1_i32_55 c4_i32_53
  let v106 : BitVec 32 := Scalar.remsi c0_i32_52 v105
  let c0_i32_57 : BitVec 32 := 0#32
  let v108 : BitVec 1 := Scalar.cmpi .slt v106 c0_i32_57
  let c0_i32_58 : BitVec 32 := 0#32
  let v109 : BitVec 1 := Scalar.cmpi .slt v105 c0_i32_58
  let v110 : BitVec 1 := Scalar.xori v108 v109
  let c0_i32_56 : BitVec 32 := 0#32
  let v107 : BitVec 1 := Scalar.cmpi .ne v106 c0_i32_56
  let v111 : BitVec 1 := Scalar.andi v110 v107
  let v112 : BitVec 32 := Scalar.addi v106 v105
  let v113 : BitVec 32 := Scalar.select v111 v112 v106
  let c2048_i32_68 : BitVec 32 := 2048#32
  let v127 : BitVec 32 := Scalar.muli v113 c2048_i32_68
  let c0_i32_75 : BitVec 32 := 0#32
  ![v127.toNat, 0]
def k0_mult2 : BitVec 32 :=
  let c1_i32_76 : BitVec 32 := 1#32
  let c0_i32_78 : BitVec 32 := 0#32
  let v139 : BitVec 1 := Scalar.cmpi .sgt c1_i32_76 c0_i32_78
  let v140 : BitVec 32 := Scalar.extui v139
  let c0_i32_79 : BitVec 32 := 0#32
  let v141 : BitVec 1 := Scalar.cmpi .slt c1_i32_76 c0_i32_79
  let v142 : BitVec 32 := Scalar.extui v141
  let v143 : BitVec 32 := Scalar.subi v140 v142
  let c4_i32_77 : BitVec 32 := 4#32
  let c0_i32_80 : BitVec 32 := 0#32
  let v144 : BitVec 1 := Scalar.cmpi .sgt c4_i32_77 c0_i32_80
  let v145 : BitVec 32 := Scalar.extui v144
  let c0_i32_81 : BitVec 32 := 0#32
  let v146 : BitVec 1 := Scalar.cmpi .slt c4_i32_77 c0_i32_81
  let v147 : BitVec 32 := Scalar.extui v146
  let v148 : BitVec 32 := Scalar.subi v145 v147
  let v149 : BitVec 1 := Scalar.cmpi .ne v143 v148
  let v150 : BitVec 32 := Scalar.remsi c1_i32_76 c4_i32_77
  let c0_i32_82 : BitVec 32 := 0#32
  let v151 : BitVec 1 := Scalar.cmpi .ne v150 c0_i32_82
  let v152 : BitVec 1 := Scalar.andi v149 v151
  let v138 : BitVec 32 := Scalar.divsi c1_i32_76 c4_i32_77
  let c1_i32_83 : BitVec 32 := 1#32
  let v153 : BitVec 32 := Scalar.subi v138 c1_i32_83
  let v154 : BitVec 32 := Scalar.select v152 v153 v138
  let c1024_i32_99 : BitVec 32 := 1024#32
  let v176 : BitVec 32 := Scalar.muli v154 c1024_i32_99
  v176
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c16_i32 : BitVec 32 := 16#32
  let v7 : BitVec 1 := Scalar.cmpi .slt v6 c16_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c0_i32_47 : BitVec 32 := 0#32
  let v90 : BitVec 1 := Scalar.cmpi .sgt v88 c0_i32_47
  let v91 : BitVec 32 := Scalar.extui v90
  let c0_i32_48 : BitVec 32 := 0#32
  let v92 : BitVec 1 := Scalar.cmpi .slt v88 c0_i32_48
  let v93 : BitVec 32 := Scalar.extui v92
  let v94 : BitVec 32 := Scalar.subi v91 v93
  let c4_i32_46 : BitVec 32 := 4#32
  let c0_i32_49 : BitVec 32 := 0#32
  let v95 : BitVec 1 := Scalar.cmpi .sgt c4_i32_46 c0_i32_49
  let v96 : BitVec 32 := Scalar.extui v95
  let c0_i32_50 : BitVec 32 := 0#32
  let v97 : BitVec 1 := Scalar.cmpi .slt c4_i32_46 c0_i32_50
  let v98 : BitVec 32 := Scalar.extui v97
  let v99 : BitVec 32 := Scalar.subi v96 v98
  let v100 : BitVec 1 := Scalar.cmpi .ne v94 v99
  let v101 : BitVec 32 := Scalar.remsi v88 c4_i32_46
  let c0_i32_51 : BitVec 32 := 0#32
  let v102 : BitVec 1 := Scalar.cmpi .ne v101 c0_i32_51
  let v103 : BitVec 1 := Scalar.andi v100 v102
  let v89 : BitVec 32 := Scalar.divsi v88 c4_i32_46
  let c1_i32_52 : BitVec 32 := 1#32
  let v104 : BitVec 32 := Scalar.subi v89 c1_i32_52
  let v105 : BitVec 32 := Scalar.select v103 v104 v89
  let c1024_i32_66 : BitVec 32 := 1024#32
  let v127 : BitVec 32 := Scalar.muli v105 c1024_i32_66
  v127
def k0_off6 (i : grid0.Coords) : Fin 2 → Nat :=
  let c0_i32_68 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  ![0, v125.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  let c0_i32_69 : BitVec 32 := 0#32
  let c0_i32_70 : BitVec 32 := 0#32
  ![v125.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c4_i32_53 : BitVec 32 := 4#32
  let c0_i32_54 : BitVec 32 := 0#32
  let v106 : BitVec 1 := Scalar.cmpi .eq c4_i32_53 c0_i32_54
  let c1_i32_55 : BitVec 32 := 1#32
  let v107 : BitVec 32 := Scalar.select v106 c1_i32_55 c4_i32_53
  let v108 : BitVec 32 := Scalar.remsi v88 v107
  let c0_i32_57 : BitVec 32 := 0#32
  let v110 : BitVec 1 := Scalar.cmpi .slt v108 c0_i32_57
  let c0_i32_58 : BitVec 32 := 0#32
  let v111 : BitVec 1 := Scalar.cmpi .slt v107 c0_i32_58
  let v112 : BitVec 1 := Scalar.xori v110 v111
  let c0_i32_56 : BitVec 32 := 0#32
  let v109 : BitVec 1 := Scalar.cmpi .ne v108 c0_i32_56
  let v113 : BitVec 1 := Scalar.andi v112 v109
  let v114 : BitVec 32 := Scalar.addi v108 v107
  let v115 : BitVec 32 := Scalar.select v113 v114 v108
  let c2048_i32_65 : BitVec 32 := 2048#32
  let v126 : BitVec 32 := Scalar.muli v115 c2048_i32_65
  let c0_i32_47 : BitVec 32 := 0#32
  let v90 : BitVec 1 := Scalar.cmpi .sgt v88 c0_i32_47
  let v91 : BitVec 32 := Scalar.extui v90
  let c0_i32_48 : BitVec 32 := 0#32
  let v92 : BitVec 1 := Scalar.cmpi .slt v88 c0_i32_48
  let v93 : BitVec 32 := Scalar.extui v92
  let v94 : BitVec 32 := Scalar.subi v91 v93
  let c4_i32_46 : BitVec 32 := 4#32
  let c0_i32_49 : BitVec 32 := 0#32
  let v95 : BitVec 1 := Scalar.cmpi .sgt c4_i32_46 c0_i32_49
  let v96 : BitVec 32 := Scalar.extui v95
  let c0_i32_50 : BitVec 32 := 0#32
  let v97 : BitVec 1 := Scalar.cmpi .slt c4_i32_46 c0_i32_50
  let v98 : BitVec 32 := Scalar.extui v97
  let v99 : BitVec 32 := Scalar.subi v96 v98
  let v100 : BitVec 1 := Scalar.cmpi .ne v94 v99
  let v101 : BitVec 32 := Scalar.remsi v88 c4_i32_46
  let c0_i32_51 : BitVec 32 := 0#32
  let v102 : BitVec 1 := Scalar.cmpi .ne v101 c0_i32_51
  let v103 : BitVec 1 := Scalar.andi v100 v102
  let v89 : BitVec 32 := Scalar.divsi v88 c4_i32_46
  let c1_i32_52 : BitVec 32 := 1#32
  let v104 : BitVec 32 := Scalar.subi v89 c1_i32_52
  let v105 : BitVec 32 := Scalar.select v103 v104 v89
  let c1024_i32_66 : BitVec 32 := 1024#32
  let v127 : BitVec 32 := Scalar.muli v105 c1024_i32_66
  let v128 : BitVec 32 := v127
  ![v126.toNat, v128.toNat]
def k0_off9 (i : grid0.Coords) : Fin 2 → Nat :=
  let c1_i32_71 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c3_i32_59 : BitVec 32 := 3#32
  let c0_i32_60 : BitVec 32 := 0#32
  let v116 : BitVec 1 := Scalar.cmpi .eq c3_i32_59 c0_i32_60
  let c1_i32_61 : BitVec 32 := 1#32
  let v117 : BitVec 32 := Scalar.select v116 c1_i32_61 c3_i32_59
  let v118 : BitVec 32 := Scalar.remsi v88 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  ![1, v125.toNat]
def k0_off10 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v87 : BitVec 32 := Scalar.addi v1 c3_i32_44
  let c1_i32_45 : BitVec 32 := 1#32
  let v88 : BitVec 32 := Scalar.subi v87 c1_i32_45
  let c4_i32_53 : BitVec 32 := 4#32
  let c0_i32_54 : BitVec 32 := 0#32
  let v106 : BitVec 1 := Scalar.cmpi .eq c4_i32_53 c0_i32_54
  let c1_i32_55 : BitVec 32 := 1#32
  let v107 : BitVec 32 := Scalar.select v106 c1_i32_55 c4_i32_53
  let v108 : BitVec 32 := Scalar.remsi v88 v107
  let c0_i32_57 : BitVec 32 := 0#32
  let v110 : BitVec 1 := Scalar.cmpi .slt v108 c0_i32_57
  let c0_i32_58 : BitVec 32 := 0#32
  let v111 : BitVec 1 := Scalar.cmpi .slt v107 c0_i32_58
  let v112 : BitVec 1 := Scalar.xori v110 v111
  let c0_i32_56 : BitVec 32 := 0#32
  let v109 : BitVec 1 := Scalar.cmpi .ne v108 c0_i32_56
  let v113 : BitVec 1 := Scalar.andi v112 v109
  let v114 : BitVec 32 := Scalar.addi v108 v107
  let v115 : BitVec 32 := Scalar.select v113 v114 v108
  let c2048_i32_67 : BitVec 32 := 2048#32
  let v129 : BitVec 32 := Scalar.muli v115 c2048_i32_67
  let c0_i32_74 : BitVec 32 := 0#32
  ![v129.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v11 : BitVec 1 := Scalar.cmpi .sgt v1 c0_i32_3
  let v12 : BitVec 32 := Scalar.extui v11
  let c0_i32_4 : BitVec 32 := 0#32
  let v13 : BitVec 1 := Scalar.cmpi .slt v1 c0_i32_4
  let v14 : BitVec 32 := Scalar.extui v13
  let v15 : BitVec 32 := Scalar.subi v12 v14
  let c4_i32_2 : BitVec 32 := 4#32
  let c0_i32_5 : BitVec 32 := 0#32
  let v16 : BitVec 1 := Scalar.cmpi .sgt c4_i32_2 c0_i32_5
  let v17 : BitVec 32 := Scalar.extui v16
  let c0_i32_6 : BitVec 32 := 0#32
  let v18 : BitVec 1 := Scalar.cmpi .slt c4_i32_2 c0_i32_6
  let v19 : BitVec 32 := Scalar.extui v18
  let v20 : BitVec 32 := Scalar.subi v17 v19
  let v21 : BitVec 1 := Scalar.cmpi .ne v15 v20
  let v22 : BitVec 32 := Scalar.remsi v1 c4_i32_2
  let c0_i32_7 : BitVec 32 := 0#32
  let v23 : BitVec 1 := Scalar.cmpi .ne v22 c0_i32_7
  let v24 : BitVec 1 := Scalar.andi v21 v23
  let v10 : BitVec 32 := Scalar.divsi v1 c4_i32_2
  let c1_i32_8 : BitVec 32 := 1#32
  let v25 : BitVec 32 := Scalar.subi v10 c1_i32_8
  let v26 : BitVec 32 := Scalar.select v24 v25 v10
  let c1024_i32 : BitVec 32 := 1024#32
  let v48 : BitVec 32 := Scalar.muli v26 c1024_i32
  v48
def k0_off11 (i : grid0.Coords) : Fin 2 → Nat :=
  let c0_i32_22 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![0, v46.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c0_i32_23 : BitVec 32 := 0#32
  let c0_i32_24 : BitVec 32 := 0#32
  ![v46.toNat, 0, 0]
def k0_off13 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c2048_i32 : BitVec 32 := 2048#32
  let v47 : BitVec 32 := Scalar.muli v36 c2048_i32
  let c0_i32_3 : BitVec 32 := 0#32
  let v11 : BitVec 1 := Scalar.cmpi .sgt v1 c0_i32_3
  let v12 : BitVec 32 := Scalar.extui v11
  let c0_i32_4 : BitVec 32 := 0#32
  let v13 : BitVec 1 := Scalar.cmpi .slt v1 c0_i32_4
  let v14 : BitVec 32 := Scalar.extui v13
  let v15 : BitVec 32 := Scalar.subi v12 v14
  let c4_i32_2 : BitVec 32 := 4#32
  let c0_i32_5 : BitVec 32 := 0#32
  let v16 : BitVec 1 := Scalar.cmpi .sgt c4_i32_2 c0_i32_5
  let v17 : BitVec 32 := Scalar.extui v16
  let c0_i32_6 : BitVec 32 := 0#32
  let v18 : BitVec 1 := Scalar.cmpi .slt c4_i32_2 c0_i32_6
  let v19 : BitVec 32 := Scalar.extui v18
  let v20 : BitVec 32 := Scalar.subi v17 v19
  let v21 : BitVec 1 := Scalar.cmpi .ne v15 v20
  let v22 : BitVec 32 := Scalar.remsi v1 c4_i32_2
  let c0_i32_7 : BitVec 32 := 0#32
  let v23 : BitVec 1 := Scalar.cmpi .ne v22 c0_i32_7
  let v24 : BitVec 1 := Scalar.andi v21 v23
  let v10 : BitVec 32 := Scalar.divsi v1 c4_i32_2
  let c1_i32_8 : BitVec 32 := 1#32
  let v25 : BitVec 32 := Scalar.subi v10 c1_i32_8
  let v26 : BitVec 32 := Scalar.select v24 v25 v10
  let c1024_i32 : BitVec 32 := 1024#32
  let v48 : BitVec 32 := Scalar.muli v26 c1024_i32
  let v49 : BitVec 32 := v48
  ![v47.toNat, v49.toNat]
def k0_off14 (i : grid0.Coords) : Fin 2 → Nat :=
  let c1_i32_25 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![1, v46.toNat]
def k0_off15 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c2048_i32_21 : BitVec 32 := 2048#32
  let v50 : BitVec 32 := Scalar.muli v36 c2048_i32_21
  let c0_i32_28 : BitVec 32 := 0#32
  ![v50.toNat, 0]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_29 : BitVec 32 := 3#32
  let c0_i32_30 : BitVec 32 := 0#32
  let v61 : BitVec 1 := Scalar.cmpi .eq c3_i32_29 c0_i32_30
  let c1_i32_31 : BitVec 32 := 1#32
  let v62 : BitVec 32 := Scalar.select v61 c1_i32_31 c3_i32_29
  let v63 : BitVec 32 := Scalar.remsi v1 v62
  let c0_i32_33 : BitVec 32 := 0#32
  let v65 : BitVec 1 := Scalar.cmpi .slt v63 c0_i32_33
  let c0_i32_34 : BitVec 32 := 0#32
  let v66 : BitVec 1 := Scalar.cmpi .slt v62 c0_i32_34
  let v67 : BitVec 1 := Scalar.xori v65 v66
  let c0_i32_32 : BitVec 32 := 0#32
  let v64 : BitVec 1 := Scalar.cmpi .ne v63 c0_i32_32
  let v68 : BitVec 1 := Scalar.andi v67 v64
  let v69 : BitVec 32 := Scalar.addi v63 v62
  let v70 : BitVec 32 := Scalar.select v68 v69 v63
  let v71 : Index := Scalar.indexCast v70
  let c0 : Index := 0#32
  let c0_35 : Index := 0#32
  ![v71.toNat, 0, 0]
def k0_cond3 (i : grid0.Coords) : BitVec 1 :=
  let arg1 : BitVec 32 := BitVec.ofNat 32 (i 1).val
  let c0_i32_38 : BitVec 32 := 0#32
  let v78 : BitVec 1 := Scalar.cmpi .eq arg1 c0_i32_38
  let v79 : BitVec 32 := Scalar.extui v78
  let c0_i32_39 : BitVec 32 := 0#32
  let v80 : BitVec 1 := Scalar.cmpi .ne v79 c0_i32_39
  v80

def k0_cond4 (i : grid0.Coords) : BitVec 1 :=
  let arg1 : BitVec 32 := BitVec.ofNat 32 (i 1).val
  let c0_i32_40 : BitVec 32 := 0#32
  let v81 : BitVec 1 := Scalar.cmpi .sgt arg1 c0_i32_40
  let v82 : BitVec 32 := Scalar.extui v81
  let c0_i32_41 : BitVec 32 := 0#32
  let v83 : BitVec 1 := Scalar.cmpi .ne v82 c0_i32_41
  v83

def k0_cond5 (i : grid0.Coords) : BitVec 1 :=
  let arg1 : BitVec 32 := BitVec.ofNat 32 (i 1).val
  let c3_i32_42 : BitVec 32 := 3#32
  let v84 : BitVec 1 := Scalar.cmpi .eq arg1 c3_i32_42
  let v85 : BitVec 32 := Scalar.extui v84
  let c0_i32_43 : BitVec 32 := 0#32
  let v86 : BitVec 1 := Scalar.cmpi .ne v85 c0_i32_43
  v86

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let c0_i32_13 : BitVec 32 := 0#32
  ![v16.toNat, v27.toNat, c0_i32_12.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let c0_i32_13 : BitVec 32 := 0#32
  ![v16.toNat, v27.toNat, c0_i32_12.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== DownDwRefIdeal.lean ====
abbrev S8192x4096 : Shape := ⟨2, ![8192, 4096]⟩
abbrev S8192x1024 : Shape := ⟨2, ![8192, 1024]⟩
abbrev S4x2048x1024 : Shape := ⟨3, ![4, 2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x2048x1024, .f32⟩
  | .hbm, ⟨3, _⟩ => ⟨S4x2048x1024, .bf16⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4x1024x1024, .f32⟩
  | .hbm, ⟨14, _⟩ => ⟨S4x1024x1024, .f32⟩
  | .hbm, ⟨15, _⟩ => ⟨S4x2048x1024, .f32⟩
  | .hbm, ⟨16, _⟩ => ⟨S4x1024x1024, .bf16⟩
  | .hbm, ⟨17, _⟩ => ⟨S4x1024x1024, .bf16⟩
  | .hbm, ⟨18, _⟩ => ⟨S4x2048x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S4x1024x1024 : Shape := ⟨3, ![4, 1024, 1024]⟩
abbrev S4x1536x1024 : Shape := ⟨3, ![4, 1536, 1024]⟩
abbrev S4x3584x1024 : Shape := ⟨3, ![4, 3584, 1024]⟩
abbrev S1x128 : Shape := ⟨2, ![1, 128]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S4096x1024, .bf16⟩
  | .hbm, ⟨11, _⟩ => ⟨S4x1024x1024, .bf16⟩
  | .hbm, ⟨12, _⟩ => ⟨S_, .bf16⟩
  | .hbm, ⟨13, _⟩ => ⟨S4x1024x1024, .bf16⟩
  | .hbm, ⟨14, _⟩ => ⟨S_, .bf16⟩
  | .hbm, ⟨15, _⟩ => ⟨S4x1536x1024, .bf16⟩
  | .hbm, ⟨16, _⟩ => ⟨S4x3584x1024, .bf16⟩
  | .hbm, ⟨17, _⟩ => ⟨S8192x1024, .f32⟩
  | .hbm, ⟨18, _⟩ => ⟨S8192x1024, .bf16⟩
  | .hbm, ⟨19, _⟩ => ⟨S1x128, .f32⟩
  | .hbm, ⟨20, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v111 : BitVec 1 := Scalar.cmpi .eq arg0 c0_i32
  let v112 : BitVec 32 := Scalar.extui v111
  let c0_i32_50 : BitVec 32 := 0#32
  let v113 : BitVec 1 := Scalar.cmpi .ne v112 c0_i32_50
  v113

def k0_cond2 (i : grid0.Coords) : BitVec 1 :=
  let arg0 : BitVec 32 := BitVec.ofNat 32 (i 0).val
  let c0_i32 : BitVec 32 := 0#32
  let v111 : BitVec 1 := Scalar.cmpi .eq arg0 c0_i32
  let v_true : BitVec 1 := 1#1
  let v114 : BitVec 1 := Scalar.xori v111 v_true
  let v115 : BitVec 32 := Scalar.extui v114
  let c0_i32_51 : BitVec 32 := 0#32
  let v116 : BitVec 1 := Scalar.cmpi .ne v115 c0_i32_51
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S1x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S4x1024x1024 : Shape := ⟨3, ![4, 1024, 1024]⟩
abbrev S4x2560x1024 : Shape := ⟨3, ![4, 2560, 1024]⟩
abbrev S4x3584x1024 : Shape := ⟨3, ![4, 3584, 1024]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 27
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S4096x1024, .f32⟩
  | .hbm, ⟨20, _⟩ => ⟨S4096x1024, .bf16⟩
  | .hbm, ⟨21, _⟩ => ⟨S4x1024x1024, .bf16⟩
  | .hbm, ⟨22, _⟩ => ⟨S_, .bf16⟩
  | .hbm, ⟨23, _⟩ => ⟨S4x2560x1024, .bf16⟩
  | .hbm, ⟨24, _⟩ => ⟨S4x3584x1024, .bf16⟩
  | .hbm, ⟨25, _⟩ => ⟨S8192x4096, .bf16⟩
  | .hbm, ⟨26, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .bf16⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S1024x3104 : Shape := ⟨2, ![1024, 3104]⟩
abbrev S3104x1024 : Shape := ⟨2, ![3104, 1024]⟩
abbrev S1536x1024 : Shape := ⟨2, ![1536, 1024]⟩
abbrev S512x1024 : Shape := ⟨2, ![512, 1024]⟩
abbrev S2048x1024 : Shape := ⟨2, ![2048, 1024]⟩
abbrev S1024x1024 : Shape := ⟨2, ![1024, 1024]⟩
abbrev S32x1024 : Shape := ⟨2, ![32, 1024]⟩
abbrev S_ : Shape := ⟨0, ![]⟩
abbrev S96x1024 : Shape := ⟨2, ![96, 1024]⟩
abbrev S128x1024 : Shape := ⟨2, ![128, 1024]⟩
abbrev S1152x1024 : Shape := ⟨2, ![1152, 1024]⟩
abbrev S8192 : Shape := ⟨1, ![8192]⟩
abbrev S8192x1 : Shape := ⟨2, ![8192, 1]⟩
abbrev S8192x2048 : Shape := ⟨2, ![8192, 2048]⟩
abbrev S8192x1152 : Shape := ⟨2, ![8192, 1152]⟩
abbrev S512x2048 : Shape := ⟨2, ![512, 2048]⟩
abbrev S512x1152 : Shape := ⟨2, ![512, 1152]⟩

abbrev nBuf : Space → Nat
  | .hbm => 32
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S1024x3104, .bf16⟩
  | .hbm, ⟨4, _⟩ => ⟨S3104x1024, .bf16⟩
  | .hbm, ⟨5, _⟩ => ⟨S1536x1024, .bf16⟩
  | .hbm, ⟨6, _⟩ => ⟨S512x1024, .bf16⟩
  | .hbm, ⟨7, _⟩ => ⟨S2048x1024, .bf16⟩
  | .hbm, ⟨8, _⟩ => ⟨S1024x1024, .bf16⟩
  | .hbm, ⟨9, _⟩ => ⟨S32x1024, .bf16⟩
  | .hbm, ⟨10, _⟩ => ⟨S_, .bf16⟩
  | .hbm, ⟨11, _⟩ => ⟨S96x1024, .bf16⟩
  | .hbm, ⟨12, _⟩ => ⟨S128x1024, .bf16⟩
  | .hbm, ⟨13, _⟩ => ⟨S1152x1024, .bf16⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x2048, .f32⟩
  | .hbm, ⟨31, _⟩ => ⟨S8192x1152, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S1152x1024, .bf16⟩
  | .local _ .vmem, ⟨4, _⟩ => ⟨S512x2048, .f32⟩
  | .local _ .vmem, ⟨5, _⟩ => ⟨S512x2048, .f32⟩
  | .local _ .vmem, ⟨6, _⟩ => ⟨S512x1152, .f32⟩
  | .local _ .vmem, ⟨7, _⟩ => ⟨S512x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S8192x1024 : Shape := ⟨2, ![8192, 1024]⟩
abbrev S1x1024 : Shape := ⟨2, ![1, 1024]⟩
abbrev S1024x3104 : Shape := ⟨2, ![1024, 3104]⟩
abbrev S_ : Shape := ⟨0, ![]⟩
abbrev S8192 : Shape := ⟨1, ![8192]⟩
abbrev S8192x1 : Shape := ⟨2, ![8192, 1]⟩
abbrev S8192x3104 : Shape := ⟨2, ![8192, 3104]⟩
abbrev S8192x1536 : Shape := ⟨2, ![8192, 1536]⟩
abbrev S8192x512 : Shape := ⟨2, ![8192, 512]⟩
abbrev S8192x2048 : Shape := ⟨2, ![8192, 2048]⟩
abbrev S8192x32 : Shape := ⟨2, ![8192, 32]⟩
abbrev S8192x96 : Shape := ⟨2, ![8192, 96]⟩
abbrev S8192x128 : Shape := ⟨2, ![8192, 128]⟩
abbrev S8192x1152 : Shape := ⟨2, ![8192, 1152]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3104, .f32⟩
  | .hbm, ⟨19, _⟩ => ⟨S8192x1536, .f32⟩
  | .hbm, ⟨20, _⟩ => ⟨S8192x512, .f32⟩
  | .hbm, ⟨21, _⟩ => ⟨S8192x2048, .f32⟩
  | .hbm, ⟨22, _⟩ => ⟨S8192x1024, .f32⟩
  | .hbm, ⟨23, _⟩ => ⟨S8192x32, .f32⟩
  | .hbm, ⟨24, _⟩ => ⟨S_, .f32⟩
  | .hbm, ⟨25, _⟩ => ⟨S8192x96, .f32⟩
  | .hbm, ⟨26, _⟩ => ⟨S8192x128, .f32⟩
  | .hbm, ⟨27, _⟩ => ⟨S8192x1152, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== XaFwd.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x1024, .bf16⟩
  | .hbm, ⟨23, _⟩ => ⟨S256x2048, .bf16⟩
  | .hbm, ⟨24, _⟩ => ⟨S1024x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== XaFwdRefIdeal.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S256x1024, .f32⟩
  | .hbm, ⟨23, _⟩ => ⟨S256x1024, .f32⟩
  | .hbm, ⟨24, _⟩ => ⟨S8192x4x256, .f32⟩
  | .hbm, ⟨25, _⟩ => ⟨S256x4x256, .f32⟩
  | .hbm, ⟨26, _⟩ => ⟨S256x4x256, .f32⟩
  | .hbm, ⟨27, _⟩ => ⟨S4x8192x256, .f32⟩
  | .hbm, ⟨28, _⟩ => ⟨S_, .f32⟩
  | .hbm, ⟨29, _⟩ => ⟨S4x8192x256, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x256x8192, .f32⟩
  | .hbm, ⟨46, _⟩ => ⟨S8192x4x256, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x1024, .bf16⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OutDx.lean ====
abbrev S1024x1024 : Shape := ⟨2, ![1024, 1024]⟩
abbrev S8192x1024 : Shape := ⟨2, ![8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kv.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S2048x1024, .f32⟩
  | .hbm, ⟨20, _⟩ => ⟨S2048x1024, .bf16⟩
  | .hbm, ⟨21, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x2048, .f32⟩
  | .hbm, ⟨19, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KvDx.lean ====
abbrev S1024x2048 : Shape := ⟨2, ![1024, 2048]⟩
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S256x2048, .f32⟩
  | .hbm, ⟨2, _⟩ => ⟨S256x2048, .bf16⟩
  | .hbm, ⟨3, _⟩ => ⟨S2048x1024, .f32⟩
  | .hbm, ⟨4, _⟩ => ⟨S2048x1024, .bf16⟩
  | .hbm, ⟨5, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDxRefIdeal.lean ====
abbrev S1024x2048 : Shape := ⟨2, ![1024, 2048]⟩
abbrev S256x2048 : Shape := ⟨2, ![256, 2048]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S256x2048, .f32⟩
  | .hbm, ⟨2, _⟩ => ⟨S_, .f32⟩
  | .hbm, ⟨3, _⟩ => ⟨S256x1024, .f32⟩
  | .hbm, ⟨4, _⟩ => ⟨S256x2048, .f32⟩
  | .hbm, ⟨5, _⟩ => ⟨S256x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamUp.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamDown.lean ====
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamIn.lean ====
abbrev S1024x776 : Shape := ⟨2, ![1024, 776]⟩
abbrev S800x1024 : Shape := ⟨2, ![800, 1024]⟩
abbrev S776x1024 : Shape := ⟨2, ![776, 1024]⟩
abbrev S776x512 : Shape := ⟨2, ![776, 512]⟩

abbrev nBuf : Space → Nat
  | .hbm => 11
  | .vmem => 16
  | .smem => 0
  | _ => 0

abbrev bufTy : (tb : Table) → Fin (tcTables nBuf tb) → BufTy
  | .hbm, ⟨0, _⟩ => ⟨S1024x776, .f32⟩
  | .hbm, ⟨1, _⟩ => ⟨S1024x776, .f32⟩
  | .hbm, ⟨2, _⟩ => ⟨S1024x776, .f32⟩
  | .hbm, ⟨3, _⟩ => ⟨S800x1024, .f32⟩
  | .hbm, ⟨4, _⟩ => ⟨S776x1024, .f32⟩
  | .hbm, ⟨5, _⟩ => ⟨S776x1024, .f32⟩
  | .hbm, ⟨6, _⟩ => ⟨S776x1024, .f32⟩
  | .hbm, ⟨7, _⟩ => ⟨S776x1024, .f32⟩
  | .hbm, ⟨8, _⟩ => ⟨S776x1024, .f32⟩
  | .hbm, ⟨9, _⟩ => ⟨S776x1024, .f32⟩
  | .hbm, ⟨10, _⟩ => ⟨S776x1024, .f32⟩
  | .local _ .vmem, ⟨0, _⟩ => ⟨S776x512, .f32⟩
  | .local _ .vmem, ⟨1, _⟩ => ⟨S776x512, .f32⟩
  | .local _ .vmem, ⟨2, _⟩ => ⟨S776x512, .f32⟩
  | .local _ .vmem, ⟨3, _⟩ => ⟨S776x512, .f32⟩
  | .local _ .vmem, ⟨4, _⟩ => ⟨S776x512, .f32⟩
  | .local _ .vmem, ⟨5, _⟩ => ⟨S776x512, .f32⟩
  | .local _ .vmem, ⟨6, _⟩ => ⟨S776x512, .f32⟩
  | .local _ .vmem, ⟨7, _⟩ => ⟨S776x512, .f32⟩
  | .local _ .vmem, ⟨8, _⟩ => ⟨S776x512, .f32⟩
  | .local _ .vmem, ⟨9, _⟩ => ⟨S776x512, .f32⟩
  | .local _ .vmem, ⟨10, _⟩ => ⟨S776x512, .f32⟩
  | .local _ .vmem, ⟨11, _⟩ => ⟨S776x512, .f32⟩
  | .local _ .vmem, ⟨12, _⟩ => ⟨S776x512, .f32⟩
  | .local _ .vmem, ⟨13, _⟩ => ⟨S776x512, .f32⟩
  | .local _ .vmem, ⟨14, _⟩ => ⟨S776x512, .f32⟩
  | .local _ .vmem, ⟨15, _⟩ => ⟨S776x512, .f32⟩
  | _, _ => ⟨S1024x776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S776x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S776x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S776x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S776x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S776x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S776x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S776x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S776x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x776 : Shape := ⟨2, ![1024, 776]⟩
abbrev S800x1024 : Shape := ⟨2, ![800, 1024]⟩
abbrev S776x1024 : Shape := ⟨2, ![776, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x776, .f32⟩
  | .hbm, ⟨1, _⟩ => ⟨S1024x776, .f32⟩
  | .hbm, ⟨2, _⟩ => ⟨S1024x776, .f32⟩
  | .hbm, ⟨3, _⟩ => ⟨S800x1024, .f32⟩
  | .hbm, ⟨4, _⟩ => ⟨S776x1024, .f32⟩
  | .hbm, ⟨5, _⟩ => ⟨S1024x776, .f32⟩
  | .hbm, ⟨6, _⟩ => ⟨S_, .f32⟩
  | .hbm, ⟨7, _⟩ => ⟨S1024x776, .f32⟩
  | .hbm, ⟨8, _⟩ => ⟨S1024x776, .f32⟩
  | .hbm, ⟨9, _⟩ => ⟨S_, .f32⟩
  | .hbm, ⟨10, _⟩ => ⟨S1024x776, .f32⟩
  | .hbm, ⟨11, _⟩ => ⟨S1024x776, .f32⟩
  | .hbm, ⟨12, _⟩ => ⟨S1024x776, .f32⟩
  | .hbm, ⟨13, _⟩ => ⟨S_, .f32⟩
  | .hbm, ⟨14, _⟩ => ⟨S1024x776, .f32⟩
  | .hbm, ⟨15, _⟩ => ⟨S1024x776, .f32⟩
  | .hbm, ⟨16, _⟩ => ⟨S1024x776, .f32⟩
  | .hbm, ⟨17, _⟩ => ⟨S_, .f32⟩
  | .hbm, ⟨18, _⟩ => ⟨S1024x776, .f32⟩
  | .hbm, ⟨19, _⟩ => ⟨S1024x776, .f32⟩
  | .hbm, ⟨20, _⟩ => ⟨S1024x776, .f32⟩
  | .hbm, ⟨21, _⟩ => ⟨S_, .f32⟩
  | .hbm, ⟨22, _⟩ => ⟨S1024x776, .f32⟩
  | .hbm, ⟨23, _⟩ => ⟨S1024x776, .f32⟩
  | .hbm, ⟨24, _⟩ => ⟨S_, .f32⟩
  | .hbm, ⟨25, _⟩ => ⟨S1024x776, .f32⟩
  | .hbm, ⟨26, _⟩ => ⟨S1024x776, .f32⟩
  | .hbm, ⟨27, _⟩ => ⟨S1024x776, .f32⟩
  | .hbm, ⟨28, _⟩ => ⟨S_, .f32⟩
  | .hbm, ⟨29, _⟩ => ⟨S1024x776, .f32⟩
  | .hbm, ⟨30, _⟩ => ⟨S1024x776, .f32⟩
  | .hbm, ⟨31, _⟩ => ⟨S1024x776, .f32⟩
  | .hbm, ⟨32, _⟩ => ⟨S_, .f32⟩
  | .hbm, ⟨33, _⟩ => ⟨S1024x776, .f32⟩
  | .hbm, ⟨34, _⟩ => ⟨S1024x776, .f32⟩
  | .hbm, ⟨35, _⟩ => ⟨S1024x776, .f32⟩
  | .hbm, ⟨36, _⟩ => ⟨S_, .f32⟩
  | .hbm, ⟨37, _⟩ => ⟨S1024x776, .f32⟩
  | .hbm, ⟨38, _⟩ => ⟨S1024x776, .f32⟩
  | .hbm, ⟨39, _⟩ => ⟨S776x1024, .f32⟩
  | .hbm, ⟨40, _⟩ => ⟨S776x1024, .f32⟩
  | .hbm, ⟨41, _⟩ => ⟨S776x1024, .f32⟩
  | .hbm, ⟨42, _⟩ => ⟨S776x1024, .f32⟩
  | _, _ => ⟨S1024x776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamOut.lean ====
abbrev S256x1024 : Shape := ⟨2, ![256, 1024]⟩
abbrev S1280x1024 : Shape := ⟨2, ![1280, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S1280x1024 : Shape := ⟨2, ![1280, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamXq.lean ====
abbrev S256x1024 : Shape := ⟨2, ![256, 1024]⟩
abbrev S1280x1024 : Shape := ⟨2, ![1280, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamXqRefIdeal.lean ====
abbrev S256x1024 : Shape := ⟨2, ![256, 1024]⟩
abbrev S1280x1024 : Shape := ⟨2, ![1280, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamXkv.lean ====
abbrev S1024x512 : Shape := ⟨2, ![1024, 512]⟩
abbrev S1280x1024 : Shape := ⟨2, ![1280, 1024]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1280x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamXkvRefIdeal.lean ====
abbrev S1024x512 : Shape := ⟨2, ![1024, 512]⟩
abbrev S1280x1024 : Shape := ⟨2, ![1280, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1280x1024, .f32⟩
  | .hbm, ⟨4, _⟩ => ⟨S512x1024, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamXo.lean ====
abbrev S256x1024 : Shape := ⟨2, ![256, 1024]⟩
abbrev S1280x1024 : Shape := ⟨2, ![1280, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamXoRefIdeal.lean ====
abbrev S256x1024 : Shape := ⟨2, ![256, 1024]⟩
abbrev S1280x1024 : Shape := ⟨2, ![1280, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1280x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== NormMix.lean ====
abbrev S8192x1024 : Shape := ⟨2, ![8192, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== NormMemBwdRefIdeal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Gates.lean ====
abbrev S8192x1152 : Shape := ⟨2, ![8192, 1152]⟩
abbrev S16x256 : Shape := ⟨2, ![16, 256]⟩
abbrev S1x256 : Shape := ⟨2, ![1, 256]⟩
abbrev S_ : Shape := ⟨0, ![]⟩
abbrev S112x256 : Shape := ⟨2, ![112, 256]⟩
abbrev S128x256 : Shape := ⟨2, ![128, 256]⟩
abbrev S96x256 : Shape := ⟨2, ![96, 256]⟩
abbrev S8192x256 : Shape := ⟨2, ![8192, 256]⟩
abbrev S2048x128 : Shape := ⟨2, ![2048, 128]⟩
abbrev S2048x256 : Shape := ⟨2, ![2048, 256]⟩

abbrev nBuf : Space → Nat
  | .hbm => 18
  | .vmem => 10
  | .smem => 0
  | _ => 0

abbrev bufTy : (tb : Table) → Fin (tcTables nBuf tb) → BufTy
  | .hbm, ⟨0, _⟩ => ⟨S8192x1152, .f32⟩
  | .hbm, ⟨1, _⟩ => ⟨S16x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S_, .f32⟩
  | .hbm, ⟨6, _⟩ => ⟨S112x256, .f32⟩
  | .hbm, ⟨7, _⟩ => ⟨S128x256, .f32⟩
  | .hbm, ⟨8, _⟩ => ⟨S128x256, .bf16⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S96x256, .f32⟩
  | .hbm, ⟨13, _⟩ => ⟨S112x256, .f32⟩
  | .hbm, ⟨14, _⟩ => ⟨S128x256, .f32⟩
  | .hbm, ⟨15, _⟩ => ⟨S128x256, .bf16⟩
  | .hbm, ⟨16, _⟩ => ⟨S8192x256, .f32⟩
  | .hbm, ⟨17, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S128x256, .bf16⟩
  | .local _ .vmem, ⟨3, _⟩ => ⟨S128x256, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | _, _ => ⟨S8192x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatesRefIdeal.lean ====
abbrev S8192x1152 : Shape := ⟨2, ![8192, 1152]⟩
abbrev S16x256 : Shape := ⟨2, ![16, 256]⟩
abbrev S1x256 : Shape := ⟨2, ![1, 256]⟩
abbrev S8192x16 : Shape := ⟨2, ![8192, 16]⟩
abbrev S8192x256 : Shape := ⟨2, ![8192, 256]⟩
abbrev S_ : Shape := ⟨0, ![]⟩
abbrev S128x64x256 : Shape := ⟨3, ![128, 64, 256]⟩

abbrev nBuf : Space → Nat
  | .hbm => 63
  | .vmem => 0
  | .smem => 0
  | _ => 0

abbrev bufTy : (tb : Table) → Fin (tcTables nBuf tb) → BufTy
  | .hbm, ⟨0, _⟩ => ⟨S8192x1152, .f32⟩
  | .hbm, ⟨1, _⟩ => ⟨S16x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S8192x16, .f32⟩
  | .hbm, ⟨6, _⟩ => ⟨S8192x16, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .i1⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .i1⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S128x64x256, .f32⟩
  | .hbm, ⟨52, _⟩ => ⟨S_, .f32⟩
  | .hbm, ⟨53, _⟩ => ⟨S_, .f32⟩
  | .hbm, ⟨54, _⟩ => ⟨S128x64x256, .f32⟩
  | .hbm, ⟨55, _⟩ => ⟨S8192x256, .f32⟩
  | .hbm, ⟨56, _⟩ => ⟨S8192x256, .f32⟩
  | .hbm, ⟨57, _⟩ => ⟨S128x64x256, .f32⟩
  | .hbm, ⟨58, _⟩ => ⟨S_, .f32⟩
  | .hbm, ⟨59, _⟩ => ⟨S_, .f32⟩
  | .hbm, ⟨60, _⟩ => ⟨S128x64x256, .f32⟩
  | .hbm, ⟨61, _⟩ => ⟨S8192x256, .f32⟩
  | .hbm, ⟨62, _⟩ => ⟨S8192x256, .f32⟩
  | _, _ => ⟨S8192x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_cst_0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_call2_call0_cst : Ref sig .tc := ⟨.hbm, 52, rfl⟩
abbrev main_call2_call0_v0 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call4_call0_cst : Ref sig .tc := ⟨.hbm, 58, rfl⟩
abbrev main_call4_call0_v0 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩

abbrev nD : Nat := 1
abbrev τ : Topo := Topo.v7x

variable {F : FTy → Type} [FloatOps F]
-- ==== Proof.XaMath.lean ====
/- The arithmetic of one query row of the memory cross-attention's backward pass over the extended reals:
   scores, softmax weights and the gradient of the scores, in the two arrangements the kernel and the
   reference compute, and their equality where the scores are real numbers. -/
module

public import Idealize.ShloMosaic.PureOps.Ideal
public import Idealize.ShloMosaic.Lib.IdealHost

@[expose] public section

noncomputable section

namespace Cert.Xa

open Idealize.ShloMosaic

/-- The patterns of the constants: 1/16, 16, −∞, 1. -/
abbrev c16 : EReal := Ideal.ofBits FTy.f32 0x3D800000#32
abbrev d16 : EReal := Ideal.ofBits FTy.f32 0x41800000#32
abbrev nInf : EReal := Ideal.ofBits FTy.f32 0xFF800000#32

theorem c16_eq : c16 = ((1 / 16 : ℝ) : EReal) := by
  simp [c16, Ideal.ofBits, Ideal.ieee, -EReal.coe_mul]; norm_num
theorem d16_eq : d16 = ((16 : ℝ) : EReal) := by
  simp [d16, Ideal.ofBits, Ideal.ieee, -EReal.coe_mul]; norm_num
theorem nInf_eq : nInf = ⊥ := by
  unfold nInf Ideal.ofBits Ideal.ieee
  simp

/-- Scores of one query row `q` against the 256 memory rows `k`, scaled by 1/16. -/
def score (q : Fin 256 → EReal) (k : Fin 256 → Fin 256 → EReal) (j : Fin 256) : EReal :=
  (∑ d, q d * k j d) * c16
/-- The largest score. -/
def top (s : Fin 256 → EReal) : EReal := Finset.fold max nInf s Finset.univ
/-- The unnormalised softmax weight. -/
def wgt (s : Fin 256 → EReal) (j : Fin 256) : EReal := Ideal.exp (s j - top s)
/-- The softmax weight. -/
def prob (s : Fin 256 → EReal) (j : Fin 256) : EReal := Ideal.div (wgt s j) (∑ l, wgt s l)
/-- The gradient of the scores before scaling, as the kernel arranges it: `p (g − Σ g p) / 16`. -/
def dscore (s g : Fin 256 → EReal) (j : Fin 256) : EReal :=
  prob s j * (g j - ∑ l, g l * prob s l) * c16
/-- The gradient of the scores as differentiating `e / Σ e` arranges it. -/
def dscoreRef (s g : Fin 256 → EReal) (j : Fin 256) : EReal :=
  Ideal.div ((Ideal.div (g j) (∑ l, wgt s l)
    + -∑ l, g l * Ideal.div 1 ((∑ i, wgt s i) * ∑ i, wgt s i) * wgt s l) * wgt s j) d16

theorem div_d16 (x : EReal) : Ideal.div x d16 = x * c16 := by
  rw [d16_eq, c16_eq, Ideal.div_coe (by norm_num)]

/-- A nonnegative real factor distributes over a finite sum of extended reals. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- The sum of real numbers, taken as extended reals. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A sum of real numbers is a real number. -/
theorem sum_real {ι : Type} (t : Finset ι) (f : ι → EReal) (h : ∀ i, ∃ r : ℝ, f i = r) :
    ∃ r : ℝ, ∑ i ∈ t, f i = r := by
  choose g hg using h
  exact ⟨∑ i ∈ t, g i, by rw [coe_sum]; exact Finset.sum_congr rfl fun i _ => hg i⟩

theorem score_real (q : Fin 256 → EReal) (k : Fin 256 → Fin 256 → EReal)
    (hq : ∀ d, ∃ r : ℝ, q d = r) (hk : ∀ j d, ∃ r : ℝ, k j d = r) (j : Fin 256) : ∃ r : ℝ, score q k j = r := by
  obtain ⟨r, hr⟩ := sum_real Finset.univ (fun d => q d * k j d) (fun d => by
    obtain ⟨a, ha⟩ := hq d
    obtain ⟨b, hb⟩ := hk j d
    exact ⟨a * b, by rw [ha, hb, EReal.coe_mul]⟩)
  exact ⟨r * (1 / 16), by rw [score, hr, c16_eq, EReal.coe_mul]⟩

/-- The largest of 256 real scores is one of them, so a real number. -/
theorem top_real (s : Fin 256 → EReal) (h : ∀ j, ∃ r : ℝ, s j = r) : ∃ r : ℝ, top s = r := by
  have hb : ∀ t : Finset (Fin 256), Finset.fold max nInf s t = ⊥ ∨ ∃ r : ℝ, Finset.fold max nInf s t = r := by
    intro t
    induction t using Finset.induction_on with
    | empty => left; rw [Finset.fold_empty, nInf_eq]
    | insert a t ha ih =>
      right
      rw [Finset.fold_insert ha]
      obtain ⟨x, hx⟩ := h a
      rcases ih with ih | ⟨y, hy⟩
      · exact ⟨x, by rw [ih, hx]; exact max_eq_left bot_le⟩
      · rcases le_total x y with hxy | hxy
        · exact ⟨y, by rw [hx, hy]; exact max_eq_right (by exact_mod_cast hxy)⟩
        · exact ⟨x, by rw [hx, hy]; exact max_eq_left (by exact_mod_cast hxy)⟩
  rcases hb Finset.univ with hb | hb
  · exfalso
    have h0 : s 0 ≤ Finset.fold max nInf s Finset.univ :=
      (Finset.le_fold_max (s 0)).2 (Or.inr ⟨0, Finset.mem_univ _, le_rfl⟩)
    obtain ⟨x, hx⟩ := h 0
    rw [hb, hx] at h0
    exact absurd (le_bot_iff.1 h0) (EReal.coe_ne_bot x)
  · exact hb

theorem wgt_real (s : Fin 256 → EReal) (h : ∀ j, ∃ r : ℝ, s j = r) (j : Fin 256) : ∃ e : ℝ, 0 < e ∧ wgt s j = e := by
  obtain ⟨m, hm⟩ := top_real s h
  obtain ⟨x, hx⟩ := h j
  refine ⟨Real.exp (x - m), Real.exp_pos _, ?_⟩
  rw [wgt, hm, hx, ← EReal.coe_sub, Ideal.exp_coe]

/-- Where the scores are real numbers, the two arrangements of the softmax gradient agree, whatever extended reals the
    incoming gradient `g` holds. -/
theorem dscore_eq (s g : Fin 256 → EReal) (h : ∀ j, ∃ r : ℝ, s j = r) (j : Fin 256) :
    dscoreRef s g j = dscore s g j := by
  choose e he hw using wgt_real s h
  have hZ : ∑ l, wgt s l = ((∑ l, e l : ℝ) : EReal) := by
    rw [coe_sum]; exact Finset.sum_congr rfl fun i _ => hw i
  have hpos : 0 < ∑ l, e l := Finset.sum_pos (fun i _ => he i) ⟨0, Finset.mem_univ _⟩
  have hp : ∀ l, prob s l = ((e l * (1 / ∑ i, e i) : ℝ) : EReal) := fun l => by
    rw [prob, hZ, hw, Ideal.div_coe hpos.ne', EReal.coe_mul]
  set Z := ∑ l, e l with hZdef
  have hinv : 0 ≤ 1 / Z := by positivity
  have hS : ∑ l, g l * Ideal.div 1 ((∑ i, wgt s i) * ∑ i, wgt s i) * wgt s l
      = (∑ l, g l * prob s l) * ((1 / Z : ℝ) : EReal) := by
    rw [sum_mul_real _ _ _ hinv]
    refine Finset.sum_congr rfl fun l _ => ?_
    rw [hZ, ← EReal.coe_mul, Ideal.div_coe (by positivity), one_mul, hw, hp, mul_assoc, mul_assoc, ← EReal.coe_mul,
      ← EReal.coe_mul]
    congr 2
    field_simp
  rw [dscoreRef, dscore, div_d16, hS, hZ, Ideal.div_coe hpos.ne', ← EReal.neg_mul,
    ← EReal.right_distrib_of_nonneg_of_ne_top (by exact_mod_cast hinv) (EReal.coe_ne_top _), hw, hp, sub_eq_add_neg,
    mul_assoc _ _ (e j : EReal), ← EReal.coe_mul, mul_comm (1 / Z) (e j), mul_comm (_ + _)]

/-! ## One query row against the whole memory, head by head

`q`, `dx` : the row of the queries and of the incoming gradient; `kv j` : memory row `j`, its keys in columns 0–1023 and
its values in columns 1024–2047; `w` : the output projection. -/

/-- Column `d` of head `h` among 1024. -/
def hcol (h : Fin 4) (d : Fin 256) : Fin 1024 := ⟨h * 256 + d, by omega⟩
/-- Column `d` of head `h` of the keys, and of the values. -/
def kcol (h : Fin 4) (d : Fin 256) : Fin 2048 := ⟨h * 256 + d, by omega⟩
def vcol (h : Fin 4) (d : Fin 256) : Fin 2048 := ⟨1024 + (h * 256 + d), by omega⟩

section rows

variable (q dx : Fin 1024 → EReal) (kv : Fin 256 → Fin 2048 → EReal) (w : Fin 1024 → Fin 1024 → EReal)

/-- The row's gradient before the output projection: `dx · w_xoᵀ`. -/
def oRow (c : Fin 1024) : EReal := ∑ l, dx l * w c l
/-- The row's scores in head `h`. -/
def sRow (h : Fin 4) : Fin 256 → EReal := score (fun d => q (hcol h d)) (fun j d => kv j (kcol h d))
/-- The gradient of the softmax weights. -/
def gRow (h : Fin 4) (j : Fin 256) : EReal := ∑ d, oRow dx w (hcol h d) * kv j (vcol h d)
/-- The gradient of the row's scores. -/
def dsRow (h : Fin 4) (j : Fin 256) : EReal := dscore (sRow q kv h) (gRow dx kv w h) j
/-- The row's gradient with respect to the queries. -/
def dqRow (h : Fin 4) (d : Fin 256) : EReal := ∑ j, dsRow q dx kv w h j * kv j (kcol h d)
/-- The row's part of the gradient with respect to the keys and to the values. -/
def dkRow (h : Fin 4) (j d : Fin 256) : EReal := dsRow q dx kv w h j * q (hcol h d)
def dvRow (h : Fin 4) (j d : Fin 256) : EReal := prob (sRow q kv h) j * oRow dx w (hcol h d)

/-- The row's part of one entry of the gradient with respect to the keys (columns 0–1023) and values (1024–2047). -/
def dkvRow (j : Fin 256) (c : Fin 2048) : EReal :=
  if h : c.val < 1024 then dkRow q dx kv w ⟨c.val / 256, by omega⟩ j ⟨c.val % 256, by omega⟩
  else dvRow q dx kv w ⟨(c.val - 1024) / 256, by omega⟩ j ⟨(c.val - 1024) % 256, by omega⟩

end rows

end Cert.Xa
-- ==== Proof.XaPay.lean ====
/- What the body of the memory cross-attention's backward kernel computes for one tile of 1024 query rows, read entry by
   entry: softmax weights, the gradient of the scores, head by head. -/
module

public import proofs.«01_k».proof.Proof.XaMath
public import proofs.«01_k».proof.Proof.Gen.XaBwdIdeal.Value
public import Idealize.ShloMosaic.Lib.Pipeline.ValueKit

@[expose] public section

set_option maxRecDepth 16384

noncomputable section

namespace Cert.XaBwdIdeal.Value

open Cert.XaBwdIdeal Cert.XaBwdIdeal.Gen Idealize.ShloMosaic Idealize.ShloMosaic.TcCoe Idealize.SL.Sem
open Cert.Xa

/-- The scores of row `r` of a tile of queries against a tile of keys. -/
abbrev sc (q : Vec Ideal S1024x256 .bf16) (k : Vec Ideal S256x256 .bf16) (r : Fin 1024) : Fin 256 → EReal :=
  score (fun d => q (ix2 r d)) (fun j d => k (ix2 j d))

/-! The softmax weights, one lemma per head. -/

theorem prob0 (q : Vec Ideal S1024x256 .bf16) (k : Vec Ideal S256x256 .bf16) (r : Fin 1024) (j : Fin 256) :
    k0_pay6 (F := Ideal) q k (ix2 r j) = prob (sc q k r) j := by
  pointwise [k0_pay6]; rfl

theorem prob1 (q : Vec Ideal S1024x256 .bf16) (k : Vec Ideal S256x256 .bf16) (r : Fin 1024) (j : Fin 256) :
    k0_pay12 (F := Ideal) q k (ix2 r j) = prob (sc q k r) j := by
  pointwise [k0_pay12]; rfl

theorem prob2 (q : Vec Ideal S1024x256 .bf16) (k : Vec Ideal S256x256 .bf16) (r : Fin 1024) (j : Fin 256) :
    k0_pay20 (F := Ideal) (k0_pay18 q k) (k0_pay19 q k) (ix2 r j) = prob (sc q k r) j := by
  pointwise [k0_pay20, k0_pay19, k0_pay18]; rfl

theorem prob3 (q : Vec Ideal S1024x256 .bf16) (k : Vec Ideal S256x256 .bf16) (r : Fin 1024) (j : Fin 256) :
    k0_pay26 (F := Ideal) q k (ix2 r j) = prob (sc q k r) j := by
  pointwise [k0_pay26]; rfl

/-! The gradient of the attention's output before its projection, `dx · w_xoᵀ`. -/

theorem out_grad (x w : Vec Ideal S1024x1024 .bf16) (r c : Fin 1024) :
    k0_pay5 (F := Ideal) x w (ix2 r c) = ∑ l : Fin 1024, x (ix2 r l) * w (ix2 c l) := by
  pointwise [k0_pay5]

/-! The gradient of the scores, one lemma per head: `o` is the tile of `dx · w_xoᵀ`. -/

theorem ds0 (x w : Vec Ideal S1024x1024 .bf16) (q : Vec Ideal S1024x256 .bf16) (k v : Vec Ideal S256x256 .bf16)
    (r : Fin 1024) (j : Fin 256) :
    k0_pay8 (F := Ideal) x w q k v (ix2 r j)
      = dscore (sc q k r) (fun j => ∑ d : Fin 256, k0_pay5 (F := Ideal) x w (ix2 r ⟨d, by omega⟩) * v (ix2 j d)) j := by
  pointwise [k0_pay8, k0_pay7, prob0]; rfl

theorem ds1 (o : FVec Ideal S1024x1024 .bf16) (q : Vec Ideal S1024x256 .bf16) (k v : Vec Ideal S256x256 .bf16)
    (r : Fin 1024) (j : Fin 256) :
    k0_pay14 (F := Ideal) o q k v (ix2 r j)
      = dscore (sc q k r) (fun j => ∑ d : Fin 256, o (ix2 r ⟨256 + d, by omega⟩) * v (ix2 j d)) j := by
  pointwise [k0_pay14, k0_pay13, prob1]; rfl

theorem ds2 (o : FVec Ideal S1024x1024 .bf16) (q : Vec Ideal S1024x256 .bf16) (k v : Vec Ideal S256x256 .bf16)
    (r : Fin 1024) (j : Fin 256) :
    k0_pay22 (F := Ideal) o v (k0_pay18 q k) (k0_pay19 q k) (ix2 r j)
      = dscore (sc q k r) (fun j => ∑ d : Fin 256, o (ix2 r ⟨512 + d, by omega⟩) * v (ix2 j d)) j := by
  pointwise [k0_pay22, k0_pay21, prob2]; rfl

theorem ds3 (o : FVec Ideal S1024x1024 .bf16) (q : Vec Ideal S1024x256 .bf16) (k v : Vec Ideal S256x256 .bf16)
    (r : Fin 1024) (j : Fin 256) :
    k0_pay1 (F := Ideal) (k0_pay26 q k) (k0_pay28 o v) (k0_pay29 o q k v) (ix2 r j)
      = dscore (sc q k r) (fun j => ∑ d : Fin 256, o (ix2 r ⟨768 + d, by omega⟩) * v (ix2 j d)) j := by
  pointwise [k0_pay1, k0_pay28, k0_pay29, k0_pay27, prob3]; rfl

end Cert.XaBwdIdeal.Value
-- ==== Proof.XaVal.lean ====
/- The arrays the memory cross-attention's backward kernel leaves, as functions of its arguments. -/
module

public import proofs.«01_k».proof.Proof.XaMath
public import proofs.«01_k».proof.Proof.XaPay
public import Idealize.ShloMosaic.Lib.Pipeline.ValueKit

@[expose] public section

set_option maxRecDepth 16384

noncomputable section

namespace Cert.XaBwdIdeal.Value

open Cert.XaBwdIdeal Cert.XaBwdIdeal.Gen Idealize.ShloMosaic Idealize.ShloMosaic.TcCoe Idealize.SL.Sem
open Cert.Xa

/-! The column blocks of 256 the body loads: `qT h` of the queries, `kT h` and `vT h` of the keys and values. -/

abbrev qT0 (q : Vec Ideal S1024x1024 .bf16) : Vec Ideal S1024x256 .bf16 :=
  View.ld q (Rect.unit ![0, 0] ![1024, 256] inb_S1024x1024_S1024x256_0_0)
abbrev kT0 (kv : Vec Ideal S256x2048 .bf16) : Vec Ideal S256x256 .bf16 :=
  View.ld kv (Rect.unit ![0, 0] ![256, 256] inb_S256x2048_S256x256_0_0)
abbrev vT0 (kv : Vec Ideal S256x2048 .bf16) : Vec Ideal S256x256 .bf16 :=
  View.ld kv (Rect.unit ![0, 1024] ![256, 256] inb_S256x2048_S256x256_0_1024)
abbrev qT1 (q : Vec Ideal S1024x1024 .bf16) : Vec Ideal S1024x256 .bf16 :=
  View.ld q (Rect.unit ![0, 256] ![1024, 256] inb_S1024x1024_S1024x256_0_256)
abbrev kT1 (kv : Vec Ideal S256x2048 .bf16) : Vec Ideal S256x256 .bf16 :=
  View.ld kv (Rect.unit ![0, 256] ![256, 256] inb_S256x2048_S256x256_0_256)
abbrev vT1 (kv : Vec Ideal S256x2048 .bf16) : Vec Ideal S256x256 .bf16 :=
  View.ld kv (Rect.unit ![0, 1280] ![256, 256] inb_S256x2048_S256x256_0_1280)
abbrev qT2 (q : Vec Ideal S1024x1024 .bf16) : Vec Ideal S1024x256 .bf16 :=
  View.ld q (Rect.unit ![0, 512] ![1024, 256] inb_S1024x1024_S1024x256_0_512)
abbrev kT2 (kv : Vec Ideal S256x2048 .bf16) : Vec Ideal S256x256 .bf16 :=
  View.ld kv (Rect.unit ![0, 512] ![256, 256] inb_S256x2048_S256x256_0_512)
abbrev vT2 (kv : Vec Ideal S256x2048 .bf16) : Vec Ideal S256x256 .bf16 :=
  View.ld kv (Rect.unit ![0, 1536] ![256, 256] inb_S256x2048_S256x256_0_1536)
abbrev qT3 (q : Vec Ideal S1024x1024 .bf16) : Vec Ideal S1024x256 .bf16 :=
  View.ld q (Rect.unit ![0, 768] ![1024, 256] inb_S1024x1024_S1024x256_0_768)
abbrev kT3 (kv : Vec Ideal S256x2048 .bf16) : Vec Ideal S256x256 .bf16 :=
  View.ld kv (Rect.unit ![0, 768] ![256, 256] inb_S256x2048_S256x256_0_768)
abbrev vT3 (kv : Vec Ideal S256x2048 .bf16) : Vec Ideal S256x256 .bf16 :=
  View.ld kv (Rect.unit ![0, 1792] ![256, 256] inb_S256x2048_S256x256_0_1792)

section tile

variable (q x w : Vec Ideal S1024x1024 .bf16) (kv : Vec Ideal S256x2048 .bf16)

/-- The tile of the gradient with respect to the queries, from the blocks of `q`, `dx`, `w_xo` and `kv`. -/
abbrev dqT : FVec Ideal S1024x1024 .bf16 :=
  k0_pay2 (k0_pay9 x w (qT0 q) (kT0 kv) (vT0 kv)) (k0_pay15 (k0_pay5 x w) (qT1 q) (kT1 kv) (vT1 kv))
    (k0_pay23 (k0_pay5 x w) (kT2 kv) (vT2 kv) (k0_pay18 (qT2 q) (kT2 kv)) (k0_pay19 (qT2 q) (kT2 kv)))
    (kT3 kv) (k0_pay26 (qT3 q) (kT3 kv)) (k0_pay28 (k0_pay5 x w) (vT3 kv)) (k0_pay29 (k0_pay5 x w) (qT3 q) (kT3 kv) (vT3 kv))

/-- The tile's part of the gradient with respect to the keys and values. -/
abbrev dkvT : FVec Ideal S256x2048 .f32 :=
  k0_pay3 (k0_pay10 x w (qT0 q) (kT0 kv) (vT0 kv)) (k0_pay11 x w (qT0 q) (kT0 kv))
    (k0_pay16 (k0_pay5 x w) (qT1 q) (kT1 kv) (vT1 kv)) (k0_pay17 (k0_pay5 x w) (qT1 q) (kT1 kv))
    (k0_pay24 (k0_pay5 x w) (qT2 q) (vT2 kv) (k0_pay18 (qT2 q) (kT2 kv)) (k0_pay19 (qT2 q) (kT2 kv)))
    (k0_pay25 (k0_pay5 x w) (k0_pay18 (qT2 q) (kT2 kv)) (k0_pay19 (qT2 q) (kT2 kv))) (qT3 q)
    (k0_pay26 (qT3 q) (kT3 kv)) (k0_pay27 (k0_pay5 x w)) (k0_pay28 (k0_pay5 x w) (vT3 kv))
    (k0_pay29 (k0_pay5 x w) (qT3 q) (kT3 kv) (vT3 kv))

theorem qT0_at (r : Fin 1024) (d : Fin 256) : qT0 q (ix2 r d) = q (ix2 r (hcol 0 d)) := by
  pointwise [qT0, hcol]
theorem kT0_at (j d : Fin 256) : kT0 kv (ix2 j d) = kv (ix2 j (kcol 0 d)) := by
  pointwise [kT0, kcol]
theorem vT0_at (j d : Fin 256) : vT0 kv (ix2 j d) = kv (ix2 j (vcol 0 d)) := by
  pointwise [vT0, vcol]
theorem qT1_at (r : Fin 1024) (d : Fin 256) : qT1 q (ix2 r d) = q (ix2 r (hcol 1 d)) := by
  pointwise [qT1, hcol]
theorem kT1_at (j d : Fin 256) : kT1 kv (ix2 j d) = kv (ix2 j (kcol 1 d)) := by
  pointwise [kT1, kcol]
theorem vT1_at (j d : Fin 256) : vT1 kv (ix2 j d) = kv (ix2 j (vcol 1 d)) := by
  pointwise [vT1, vcol]
  exact congrArg (fun a => kv (ix2 j a)) (Fin.ext (by change 1280 + d.val = 1024 + (256 + d.val); omega))
theorem qT2_at (r : Fin 1024) (d : Fin 256) : qT2 q (ix2 r d) = q (ix2 r (hcol 2 d)) := by
  pointwise [qT2, hcol]
theorem kT2_at (j d : Fin 256) : kT2 kv (ix2 j d) = kv (ix2 j (kcol 2 d)) := by
  pointwise [kT2, kcol]
theorem vT2_at (j d : Fin 256) : vT2 kv (ix2 j d) = kv (ix2 j (vcol 2 d)) := by
  pointwise [vT2, vcol]
  exact congrArg (fun a => kv (ix2 j a)) (Fin.ext (by change 1536 + d.val = 1024 + (512 + d.val); omega))
theorem qT3_at (r : Fin 1024) (d : Fin 256) : qT3 q (ix2 r d) = q (ix2 r (hcol 3 d)) := by
  pointwise [qT3, hcol]
theorem kT3_at (j d : Fin 256) : kT3 kv (ix2 j d) = kv (ix2 j (kcol 3 d)) := by
  pointwise [kT3, kcol]
theorem vT3_at (j d : Fin 256) : vT3 kv (ix2 j d) = kv (ix2 j (vcol 3 d)) := by
  pointwise [vT3, vcol]
  exact congrArg (fun a => kv (ix2 j a)) (Fin.ext (by change 1792 + d.val = 1024 + (768 + d.val); omega))

/-! The four heads of a row, in the terms of the rows. -/

theorem hcol_zero (d : Fin 256) (h : d.val < 1024) : (⟨d, h⟩ : Fin 1024) = hcol 0 d :=
  Fin.ext (by simp [hcol])

theorem sT0 (r : Fin 1024) :
    sc (qT0 q) (kT0 kv) r = sRow (fun a => q (ix2 r a)) (fun j a => kv (ix2 j a)) 0 := by
  exact congrArg₂ score (funext fun d => qT0_at q r d) (funext fun j => funext fun d => kT0_at kv j d)
theorem dsT0 (r : Fin 1024) (j : Fin 256) :
    dscore (sc (qT0 q) (kT0 kv) r)
        (fun j => ∑ d : Fin 256, k0_pay5 (F := Ideal) x w (ix2 r ⟨d, by omega⟩) * vT0 kv (ix2 j d)) j
      = dsRow (fun a => q (ix2 r a)) (fun a => x (ix2 r a)) (fun j a => kv (ix2 j a)) (fun a b => w (ix2 a b)) 0 j := by
  rw [sT0]
  exact congrArg (fun g => dscore _ g j) (funext fun j => Finset.sum_congr rfl fun d _ => by
    rw [out_grad, vT0_at, hcol_zero]; rfl)
theorem sT1 (r : Fin 1024) :
    sc (qT1 q) (kT1 kv) r = sRow (fun a => q (ix2 r a)) (fun j a => kv (ix2 j a)) 1 := by
  exact congrArg₂ score (funext fun d => qT1_at q r d) (funext fun j => funext fun d => kT1_at kv j d)
theorem dsT1 (r : Fin 1024) (j : Fin 256) :
    dscore (sc (qT1 q) (kT1 kv) r)
        (fun j => ∑ d : Fin 256, k0_pay5 (F := Ideal) x w (ix2 r ⟨256 + d, by omega⟩) * vT1 kv (ix2 j d)) j
      = dsRow (fun a => q (ix2 r a)) (fun a => x (ix2 r a)) (fun j a => kv (ix2 j a)) (fun a b => w (ix2 a b)) 1 j := by
  rw [sT1]
  exact congrArg (fun g => dscore _ g j) (funext fun j => Finset.sum_congr rfl fun d _ => by
    rw [out_grad, vT1_at]; rfl)
theorem sT2 (r : Fin 1024) :
    sc (qT2 q) (kT2 kv) r = sRow (fun a => q (ix2 r a)) (fun j a => kv (ix2 j a)) 2 := by
  exact congrArg₂ score (funext fun d => qT2_at q r d) (funext fun j => funext fun d => kT2_at kv j d)
theorem dsT2 (r : Fin 1024) (j : Fin 256) :
    dscore (sc (qT2 q) (kT2 kv) r)
        (fun j => ∑ d : Fin 256, k0_pay5 (F := Ideal) x w (ix2 r ⟨512 + d, by omega⟩) * vT2 kv (ix2 j d)) j
      = dsRow (fun a => q (ix2 r a)) (fun a => x (ix2 r a)) (fun j a => kv (ix2 j a)) (fun a b => w (ix2 a b)) 2 j := by
  rw [sT2]
  exact congrArg (fun g => dscore _ g j) (funext fun j => Finset.sum_congr rfl fun d _ => by
    rw [out_grad, vT2_at]; rfl)
theorem sT3 (r : Fin 1024) :
    sc (qT3 q) (kT3 kv) r = sRow (fun a => q (ix2 r a)) (fun j a => kv (ix2 j a)) 3 := by
  exact congrArg₂ score (funext fun d => qT3_at q r d) (funext fun j => funext fun d => kT3_at kv j d)
theorem dsT3 (r : Fin 1024) (j : Fin 256) :
    dscore (sc (qT3 q) (kT3 kv) r)
        (fun j => ∑ d : Fin 256, k0_pay5 (F := Ideal) x w (ix2 r ⟨768 + d, by omega⟩) * vT3 kv (ix2 j d)) j
      = dsRow (fun a => q (ix2 r a)) (fun a => x (ix2 r a)) (fun j a => kv (ix2 j a)) (fun a b => w (ix2 a b)) 3 j := by
  rw [sT3]
  exact congrArg (fun g => dscore _ g j) (funext fun j => Finset.sum_congr rfl fun d _ => by
    rw [out_grad, vT3_at]; rfl)

theorem dqT_at (r c : Fin 1024) : dqT q x w kv (ix2 r c)
    = dqRow (fun a => q (ix2 r a)) (fun a => x (ix2 r a)) (fun j a => kv (ix2 j a)) (fun a b => w (ix2 a b))
        ⟨c.val / 256, by omega⟩ ⟨c.val % 256, by omega⟩ := by
  have e : ∀ (h : Fin 4) (d : Fin 256), c.val = h.val * 256 + d.val →
      (⟨c.val / 256, by omega⟩ : Fin 4) = h ∧ (⟨c.val % 256, by omega⟩ : Fin 256) = d :=
    fun h d he => ⟨Fin.ext (by change c.val / 256 = _; omega), Fin.ext (by change c.val % 256 = _; omega)⟩
  pointwise [k0_pay2, k0_pay9, k0_pay15, k0_pay23, ds0, ds1, ds2, ds3]
  by_cases h0 : c.val < 256
  · rw [dif_pos h0]
    rw [(e 0 ⟨c.val, by omega⟩ (by change c.val = 0 * 256 + (c.val); omega)).1,
      (e 0 ⟨c.val, by omega⟩ (by change c.val = 0 * 256 + (c.val); omega)).2]
    exact Finset.sum_congr rfl fun j _ => by rw [dsT0, kT0_at]
  rw [dif_neg h0]
  by_cases h1 : c.val - 256 < 256
  · rw [dif_pos h1]
    rw [(e 1 ⟨c.val - 256, by omega⟩ (by change c.val = 1 * 256 + (c.val - 256); omega)).1,
      (e 1 ⟨c.val - 256, by omega⟩ (by change c.val = 1 * 256 + (c.val - 256); omega)).2]
    exact Finset.sum_congr rfl fun j _ => by rw [dsT1, kT1_at]
  rw [dif_neg h1]
  by_cases h2 : c.val - 256 - 256 < 256
  · rw [dif_pos h2]
    rw [(e 2 ⟨c.val - 256 - 256, by omega⟩ (by change c.val = 2 * 256 + (c.val - 256 - 256); omega)).1,
      (e 2 ⟨c.val - 256 - 256, by omega⟩ (by change c.val = 2 * 256 + (c.val - 256 - 256); omega)).2]
    exact Finset.sum_congr rfl fun j _ => by rw [dsT2, kT2_at]
  rw [dif_neg h2]
  rw [(e 3 ⟨c.val - 256 - 256 - 256, by omega⟩ (by change c.val = 3 * 256 + (c.val - 256 - 256 - 256); omega)).1,
    (e 3 ⟨c.val - 256 - 256 - 256, by omega⟩ (by change c.val = 3 * 256 + (c.val - 256 - 256 - 256); omega)).2]
  exact Finset.sum_congr rfl fun j _ => by rw [dsT3, kT3_at]

theorem dkvT_at (j : Fin 256) (c : Fin 2048) : dkvT q x w kv (ix2 j c)
    = ∑ r : Fin 1024, dkvRow (fun a => q (ix2 r a)) (fun a => x (ix2 r a)) (fun j a => kv (ix2 j a)) (fun a b => w (ix2 a b)) j c := by
  have ek : ∀ (r : Fin 1024) (h : Fin 4) (d : Fin 256), c.val = h.val * 256 + d.val →
      dkvRow (fun a => q (ix2 r a)) (fun a => x (ix2 r a)) (fun j a => kv (ix2 j a)) (fun a b => w (ix2 a b)) j c
        = dkRow (fun a => q (ix2 r a)) (fun a => x (ix2 r a)) (fun j a => kv (ix2 j a)) (fun a b => w (ix2 a b)) h j d := by
    intro r h d he
    have h1 : c.val < 1024 := by omega
    have e1 : (⟨c.val / 256, by omega⟩ : Fin 4) = h := Fin.ext (by change c.val / 256 = _; omega)
    have e2 : (⟨c.val % 256, by omega⟩ : Fin 256) = d := Fin.ext (by change c.val % 256 = _; omega)
    rw [dkvRow, dif_pos h1, e1, e2]
  have ev : ∀ (r : Fin 1024) (h : Fin 4) (d : Fin 256), c.val = 1024 + (h.val * 256 + d.val) →
      dkvRow (fun a => q (ix2 r a)) (fun a => x (ix2 r a)) (fun j a => kv (ix2 j a)) (fun a b => w (ix2 a b)) j c
        = dvRow (fun a => q (ix2 r a)) (fun a => x (ix2 r a)) (fun j a => kv (ix2 j a)) (fun a b => w (ix2 a b)) h j d := by
    intro r h d he
    have h1 : ¬ c.val < 1024 := by omega
    have e1 : (⟨(c.val - 1024) / 256, by omega⟩ : Fin 4) = h := Fin.ext (by change (c.val - 1024) / 256 = _; omega)
    have e2 : (⟨(c.val - 1024) % 256, by omega⟩ : Fin 256) = d := Fin.ext (by change (c.val - 1024) % 256 = _; omega)
    rw [dkvRow, dif_neg h1, e1, e2]
  pointwise [k0_pay3, k0_pay10, k0_pay11, k0_pay16, k0_pay17, k0_pay24, k0_pay25, k0_pay7, k0_pay13, k0_pay21, k0_pay27,
    prob0, prob1, prob2, prob3, ds0, ds1, ds2, ds3]
  by_cases h0 : c.val < 256
  · rw [dif_pos h0]
    exact Finset.sum_congr rfl fun r _ => by
      rw [ek r 0 ⟨c.val, by omega⟩ (by change c.val = 0 * 256 + (c.val); omega), dsT0, qT0_at]; rfl
  rw [dif_neg h0]
  by_cases h1 : c.val - 256 < 256
  · rw [dif_pos h1]
    exact Finset.sum_congr rfl fun r _ => by
      rw [ek r 1 ⟨c.val - 256, by omega⟩ (by change c.val = 1 * 256 + (c.val - 256); omega), dsT1, qT1_at]; rfl
  rw [dif_neg h1]
  by_cases h2 : c.val - 256 - 256 < 256
  · rw [dif_pos h2]
    exact Finset.sum_congr rfl fun r _ => by
      rw [ek r 2 ⟨c.val - 256 - 256, by omega⟩ (by change c.val = 2 * 256 + (c.val - 256 - 256); omega), dsT2, qT2_at]; rfl
  rw [dif_neg h2]
  by_cases h3 : c.val - 256 - 256 - 256 < 256
  · rw [dif_pos h3]
    exact Finset.sum_congr rfl fun r _ => by
      rw [ek r 3 ⟨c.val - 256 - 256 - 256, by omega⟩ (by change c.val = 3 * 256 + (c.val - 256 - 256 - 256); omega), dsT3, qT3_at]; rfl
  rw [dif_neg h3]
  by_cases h4 : c.val - 256 - 256 - 256 - 256 < 256
  · rw [dif_pos h4]
    exact Finset.sum_congr rfl fun r _ => by
      rw [ev r 0 ⟨c.val - 256 - 256 - 256 - 256, by omega⟩ (by change c.val = 1024 + (0 * 256 + (c.val - 256 - 256 - 256 - 256)); omega), sT0, out_grad,
        hcol_zero ⟨c.val - 256 - 256 - 256 - 256, by omega⟩]; rfl
  rw [dif_neg h4]
  by_cases h5 : c.val - 256 - 256 - 256 - 256 - 256 < 256
  · rw [dif_pos h5]
    exact Finset.sum_congr rfl fun r _ => by
      rw [ev r 1 ⟨c.val - 256 - 256 - 256 - 256 - 256, by omega⟩ (by change c.val = 1024 + (1 * 256 + (c.val - 256 - 256 - 256 - 256 - 256)); omega), sT1, out_grad]; rfl
  rw [dif_neg h5]
  by_cases h6 : c.val - 256 - 256 - 256 - 256 - 256 - 256 < 256
  · rw [dif_pos h6]
    exact Finset.sum_congr rfl fun r _ => by
      rw [ev r 2 ⟨c.val - 256 - 256 - 256 - 256 - 256 - 256, by omega⟩ (by change c.val = 1024 + (2 * 256 + (c.val - 256 - 256 - 256 - 256 - 256 - 256)); omega), sT2, out_grad]; rfl
  rw [dif_neg h6]
  exact Finset.sum_congr rfl fun r _ => by
    rw [ev r 3 ⟨c.val - 256 - 256 - 256 - 256 - 256 - 256 - 256, by omega⟩ (by change c.val = 1024 + (3 * 256 + (c.val - 256 - 256 - 256 - 256 - 256 - 256 - 256)); omega), sT3, out_grad]; rfl

end tile

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The gradient with respect to the queries. -/
def DQ (Q : FVec Ideal S8192x1024 .bf16) (KV : FVec Ideal S256x2048 .bf16) (DX : FVec Ideal S8192x1024 .bf16)
    (W : FVec Ideal S1024x1024 .bf16) (r : Fin 8192) (c : Fin 1024) : EReal :=
  dqRow (fun a => Q (ix2 r a)) (fun a => DX (ix2 r a)) (fun j a => KV (ix2 j a)) (fun a b => W (ix2 a b))
    ⟨c.val / 256, by omega⟩ ⟨c.val % 256, by omega⟩

/-- The gradient with respect to the keys and values. -/
def DKV (Q : FVec Ideal S8192x1024 .bf16) (KV : FVec Ideal S256x2048 .bf16) (DX : FVec Ideal S8192x1024 .bf16)
    (W : FVec Ideal S1024x1024 .bf16) (j : Fin 256) (c : Fin 2048) : EReal :=
  ∑ r : Fin 8192, dkvRow (fun a => Q (ix2 r a)) (fun a => DX (ix2 r a)) (fun j a => KV (ix2 j a)) (fun a b => W (ix2 a b)) j c

/-! The blocks of the arguments that a grid point reads: rows `1024 t …` of the queries and of the incoming gradient, all
   of the keys and values and of the projection. -/

section blocks

variable (c : Dev nD) (t : Fin cfg0.N)

theorem q_blk (r a : Fin 1024) (h : t.val * 1024 + r.val < 8192) :
    iblk m c 0 t (ix2 r a) = m ((c : Thread nD τ).loc main_arg0) (ix2 ⟨t.val * 1024 + r.val, h⟩ a) := by
  blk_point [iblk, V, idx t]
theorem kv_blk (j : Fin 256) (a : Fin 2048) : iblk m c 1 t (ix2 j a) = m ((c : Thread nD τ).loc main_arg1) (ix2 j a) := by
  blk_point [iblk, V, idx t]
theorem dx_blk (r a : Fin 1024) (h : t.val * 1024 + r.val < 8192) :
    iblk m c 2 t (ix2 r a) = m ((c : Thread nD τ).loc main_arg2) (ix2 ⟨t.val * 1024 + r.val, h⟩ a) := by
  blk_point [iblk, V, idx t]
theorem w_blk (a b : Fin 1024) : iblk m c 3 t (ix2 a b) = m ((c : Thread nD τ).loc main_arg3) (ix2 a b) := by
  blk_point [iblk, V, idx t]

end blocks

theorem final4 (c : Dev nD) : (dats m 0 c).arrAt 4 (cfgs 0).N = fun i =>
    DQ (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 4 _ (by decide +kernel) fun t hf y => ?_
  blk_simp
  rw [after0_4]
  have hN : t.val < 8 := lt_of_lt_of_le t.isLt (le_of_eq N_0)
  have e : (outsAt0 m c t.val t.isLt).1 = dqT (iblk m c 0 t) (iblk m c 2 t) (iblk m c 3 t) (iblk m c 1 t) := by
    by_cases h0 : t.val % 8 = 0
    · rw [outsAt0_A m c t h0 (by omega)]; frame_out
    · rw [outsAt0_B m c t h0 (by omega)]; frame_out
  rw [e]
  obtain ⟨r, d, rfl⟩ : ∃ r d : Fin 1024, y = ix2 r d := ⟨y 0, y 1, eq_ix2 y⟩
  have hr : t.val * 1024 + r.val < 8192 := by omega
  have e1 : (win0_4.blk t).view.emb (ix2 r d) = ix2 ⟨t.val * 1024 + r.val, hr⟩ d := by
    blk_ext [idx t]
  rw [dqT_at, e1]
  simp only [q_blk m c t r _ hr, dx_blk m c t r _ hr, kv_blk, w_blk]
  rfl

/-- After the last point the window of the keys' and values' gradient holds the sum of the tiles' parts. -/
theorem final5 (c : Dev nD) : (dats m 0 c).arrAt 5 (cfgs 0).N = fun i =>
    DKV (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t => dkvT (iblk m c 0 t) (iblk m c 2 t) (iblk m c 3 t) (iblk m c 1 t))
    (fun t h j => by
      have hN : t.val < 8 := lt_of_lt_of_le t.isLt (le_of_eq N_0)
      rw [outsAt0_A m c t h (by omega)]; frame_out; rw [zero_add])
    (fun t h j => by rw [outsAt0_B m c t h (by omega)]; frame_out; pointwise [k0_pay4])
    (le_of_eq N_0) t0_7 rfl j, zero_add]
  obtain ⟨a, b, rfl⟩ : ∃ (a : Fin 256) (b : Fin 2048), j = ix2 a b := ⟨j 0, j 1, by ext k; fin_cases k <;> rfl⟩
  refine (Fin.sum_fin_congr fun t => dkvT_at _ _ _ _ a b).trans ?_
  refine Fin.sum_mul_add_congr fun t r h => ?_
  simp only [q_blk m c t r _ h, dx_blk m c t r _ h, kv_blk, w_blk]
  rfl

end Cert.XaBwdIdeal.Value
-- ==== Proof.XaRef.lean ====
/- What the reference's gradient of the memory cross-attention computes, read stage by stage at an entry, and, where the
   queries and the keys are finite, its equality with the arrays the kernel leaves. -/
module

public import proofs.«01_k».proof.Proof.XaMath
public import proofs.«01_k».proof.Proof.Gen.XaRefIdeal.Run
public import proofs.«01_k».proof.Proof.Gen.XaRefIdeal.Read
public import Idealize.ShloMosaic.Lib.Pipeline.ValueKit

@[expose] public section

set_option maxRecDepth 16384

noncomputable section

namespace Cert.XaRefIdeal.Value

open Cert.XaRefIdeal Cert.XaRefIdeal.Gen Idealize.ShloMosaic Idealize.ShloMosaic.TcCoe Idealize.SL.Sem
open Cert.Xa Cert.XaRefIdeal.Read

variable (X0 : FVec Ideal S8192x1024 .bf16) (X1 : FVec Ideal S256x2048 .bf16) (X2 : FVec Ideal S8192x1024 .bf16)
  (X3 : FVec Ideal S1024x1024 .bf16)

theorem v4_at (r : Fin 8192) (h : Fin 4) (d : Fin 256) :
    val_main_v4 (F := Ideal) X0 (ix3 r h d) = X0 (ix2 r (hcol h d)) := by
  pointwise [val_main_v4, val_main_v0]; rfl
theorem v5_at (j : Fin 256) (h : Fin 4) (d : Fin 256) :
    val_main_v5 (F := Ideal) X1 (ix3 j h d) = X1 (ix2 j (kcol h d)) := by
  pointwise [val_main_v5, val_main_v2, val_main_v1]; rfl
theorem v6_at (j : Fin 256) (h : Fin 4) (d : Fin 256) :
    val_main_v6 (F := Ideal) X1 (ix3 j h d) = X1 (ix2 j (vcol h d)) := by
  pointwise [val_main_v6, val_main_v3, val_main_v1]; rfl

/-- The scores of row `r` in head `h`. -/
abbrev S (r : Fin 8192) (h : Fin 4) : Fin 256 → EReal := sRow (fun a => X0 (ix2 r a)) (fun j a => X1 (ix2 j a)) h

theorem v9_at (h : Fin 4) (r : Fin 8192) (j : Fin 256) : val_main_v9 (F := Ideal) X0 X1 (ix3 h r j) = S X0 X1 r h j := by
  pointwise [val_main_v9, val_main_v8, val_main_v7, val_main_cst, v4_at, v5_at]
  exact div_d16 _
theorem v10_at (h : Fin 4) (r : Fin 8192) : val_main_v10 (F := Ideal) X0 X1 (ix2 h r) = top (S X0 X1 r h) := by
  pointwise [val_main_v10, val_main_cst_0, v9_at]; rfl
theorem v17_at (h : Fin 4) (r : Fin 8192) : val_main_v17 (F := Ideal) X0 X1 (ix2 h r) = top (S X0 X1 r h) := by
  rw [val_main_v17_apply, v10_at, val_main_v16_apply]
  change max nInf _ = _
  rw [nInf_eq, max_eq_right bot_le]
theorem v28_at (h : Fin 4) (r : Fin 8192) (j : Fin 256) :
    val_main_v28 (F := Ideal) X0 X1 (ix3 h r j) = top (S X0 X1 r h) := by
  rw [val_main_v28_apply, val_main_v27_apply, ← v17_at]
  refine congrArg _ ?_
  ext k; fin_cases k <;> rfl
theorem v30_at (h : Fin 4) (r : Fin 8192) (j : Fin 256) :
    val_main_v30 (F := Ideal) X0 X1 (ix3 h r j) = wgt (S X0 X1 r h) j := by
  rw [val_main_v30_apply, val_main_v29_apply, v28_at, v9_at]; rfl
theorem v31_at (h : Fin 4) (r : Fin 8192) : val_main_v31 (F := Ideal) X0 X1 (ix2 h r) = ∑ j, wgt (S X0 X1 r h) j := by
  pointwise [val_main_v31, val_main_cst_8, v30_at]
theorem v32_at (h : Fin 4) (r : Fin 8192) (z : Fin 1) :
    val_main_v32 (F := Ideal) X0 X1 (ix3 h r z) = ∑ j, wgt (S X0 X1 r h) j := by
  pointwise [val_main_v32, v31_at]
theorem v34_at (h : Fin 4) (r : Fin 8192) (j : Fin 256) :
    val_main_v34 (F := Ideal) X0 X1 (ix3 h r j) = prob (S X0 X1 r h) j := by
  pointwise [val_main_v34, val_main_v33, v32_at, v30_at]; rfl

theorem v46_at (h : Fin 4) (d : Fin 256) (r : Fin 8192) : val_main_v46 (F := Ideal) X2 X3 (ix3 h d r)
    = oRow (fun a => X2 (ix2 r a)) (fun a b => X3 (ix2 a b)) (hcol h d) := by
  pointwise [val_main_v46, val_main_v45, val_main_v44, val_main_v43, val_main_v41]; rfl
theorem v47_at (h : Fin 4) (r : Fin 8192) (j : Fin 256) : val_main_v47 (F := Ideal) X1 X2 X3 (ix3 h r j)
    = gRow (fun a => X2 (ix2 r a)) (fun j a => X1 (ix2 j a)) (fun a b => X3 (ix2 a b)) h j := by
  pointwise [val_main_v47, v46_at, v6_at]; rfl

/-- The gradient of the scores, as the reference arranges it. -/
theorem v63_at (h : Fin 4) (r : Fin 8192) (j : Fin 256) : val_main_v63 (F := Ideal) X0 X1 X2 X3 (ix3 h r j)
    = dscoreRef (S X0 X1 r h) (gRow (fun a => X2 (ix2 r a)) (fun j a => X1 (ix2 j a)) (fun a b => X3 (ix2 a b)) h) j := by
  pointwise [val_main_v63, val_main_v62, val_main_cst_12, val_main_v61, val_main_v60, val_main_v59, val_main_v58, val_main_cst_11,
    val_main_v57, val_main_v56, val_main_v55, val_main_v54, val_main_v53, val_main_cst_10, val_main_v52, val_main_v51, val_main_v50,
    val_main_v37, val_main_v36, val_main_cst_9, val_main_v35, v32_at, v30_at, v47_at]
  rw [Fin.sum_univ_one]; rfl

/-! ## The results, where the queries and the keys are finite -/

variable (hq : ∀ (r : Fin 8192) (a : Fin 1024), ∃ x : ℝ, X0 (ix2 r a) = x)
  (hk : ∀ (j : Fin 256) (a : Fin 2048), a.val < 1024 → ∃ x : ℝ, X1 (ix2 j a) = x)
include hq hk

theorem S_real (r : Fin 8192) (h : Fin 4) (j : Fin 256) : ∃ x : ℝ, S X0 X1 r h j = x :=
  score_real _ _ (fun d => hq r _) (fun j d => hk j _ (by change h.val * 256 + d.val < 1024; omega)) j

theorem v63_eq (h : Fin 4) (r : Fin 8192) (j : Fin 256) : val_main_v63 (F := Ideal) X0 X1 X2 X3 (ix3 h r j)
    = dsRow (fun a => X0 (ix2 r a)) (fun a => X2 (ix2 r a)) (fun j a => X1 (ix2 j a)) (fun a b => X3 (ix2 a b)) h j := by
  rw [v63_at]; exact dscore_eq _ _ (S_real X0 X1 hq hk r h) j

theorem v72_at (r : Fin 8192) (c : Fin 1024) : val_main_v72 (F := Ideal) X0 X1 X2 X3 (ix2 r c)
    = dqRow (fun a => X0 (ix2 r a)) (fun a => X2 (ix2 r a)) (fun j a => X1 (ix2 j a)) (fun a b => X3 (ix2 a b))
        ⟨c.val / 256, by omega⟩ ⟨c.val % 256, by omega⟩ := by
  pointwise [val_main_v72, val_main_v70, val_main_v67, val_main_v66, v63_eq X0 X1 X2 X3 hq hk, v5_at]
  rfl

theorem v71_at (j : Fin 256) (c : Fin 2048) : val_main_v71 (F := Ideal) X0 X1 X2 X3 (ix2 j c)
    = ∑ r, dkvRow (fun a => X0 (ix2 r a)) (fun a => X2 (ix2 r a)) (fun j a => X1 (ix2 j a)) (fun a b => X3 (ix2 a b)) j c := by
  pointwise [val_main_v71, val_main_v69, val_main_v68, val_main_v65, val_main_v64, val_main_v49, val_main_v48,
    v63_eq X0 X1 X2 X3 hq hk, v4_at, v34_at, v46_at]
  by_cases h : c.val < 1024
  · rw [dif_pos h]; exact Finset.sum_congr rfl fun r _ => by rw [dkvRow, dif_pos h]; rfl
  · rw [dif_neg h]; exact Finset.sum_congr rfl fun r _ => by rw [dkvRow, dif_neg h, mul_comm]; rfl

end Cert.XaRefIdeal.Value
-- ==== Proof.XaClaim.lean ====
/- The claims about the memory cross-attention's backward kernel: the reference's frame, and the equality of the two
   programs' results where the queries and the keys are finite. -/
module

public import proofs.«01_k».proof.Defs
public import proofs.«01_k».proof.Proof.Gen.Pre_finite_q_k
public import proofs.«01_k».proof.Proof.XaVal
public import proofs.«01_k».proof.Proof.XaRef
public import Idealize.ShloMosaic.Lib.Quiescent

@[expose] public section

noncomputable section

namespace Cert.Proof

open Idealize.ShloMosaic Idealize.ShloMosaic.TcCoe Idealize.SL.Sem

attribute [local instance] Cert.XaBwdIdeal.Gen.facts Cert.XaRefIdeal.Gen.facts Cert.Pre_finite_q_k.Gen.facts

/-- An extended real whose absolute value is below `+∞` is a real number. -/
theorem real_of_abs_lt {x : EReal} (h : BitVec.ofBool (decide (FloatOps.absf (F := Ideal) (φ := .f32) x < Ideal.ofBits FTy.f32 0x7F800000#32)) = 1#1) :
    ∃ r : ℝ, x = r := by
  have e : Ideal.ofBits FTy.f32 0x7F800000#32 = ⊤ := by
    unfold Ideal.ofBits Ideal.ieee; simp
  rw [e] at h
  induction x using EReal.rec with
  | bot => simp [FloatOps.absf] at h
  | coe r => exact ⟨r, rfl⟩
  | top => simp [FloatOps.absf] at h

section pre

variable (X0 : FVec Ideal ⟨2, ![8192, 1024]⟩ .bf16) (X1 : FVec Ideal ⟨2, ![256, 2048]⟩ .bf16)
  (X2 : FVec Ideal ⟨2, ![8192, 1024]⟩ .bf16) (X3 : FVec Ideal ⟨2, ![1024, 1024]⟩ .bf16)

theorem q_finite (h : (Cert.Pre_finite_q_k.fn (F := Ideal) X0 X1 X2 X3).1 = fun _ => 1#1) (r : Fin 8192) (a : Fin 1024) :
    ∃ x : ℝ, X0 (ix2 r a) = x := by
  have := congrFun h (ix2 r a)
  revert this
  pointwise [Cert.Pre_finite_q_k.fn]
  exact real_of_abs_lt

theorem k_finite (h : (Cert.Pre_finite_q_k.fn (F := Ideal) X0 X1 X2 X3).2 = fun _ => 1#1) (j : Fin 256) (a : Fin 2048)
    (ha : a.val < 1024) : ∃ x : ℝ, X1 (ix2 j a) = x := by
  have := congrFun h (ix2 j ⟨a.val, ha⟩)
  revert this
  pointwise [Cert.Pre_finite_q_k.fn]
  exact real_of_abs_lt

end pre

theorem xa_frame_ref : Cert.quiescent_XaRefIdeal := fun m ρ _ =>
  (θ_run _ _ _).mono (fun r h => ⟨fun c => (h c).2.2, sem_eq_zero_of_no_sems (by decide) _⟩)
    (Cert.XaRefIdeal.Value.run m ρ)

theorem xa_algebraic : Cert.algebraic_XaBwdIdeal_XaRefIdeal := by
  intro m ρ m' ρ' hpre hag
  refine ⟨fun c => (Cert.XaBwdIdeal.Gen.dats m 0 c).arrAt 4 (Cert.XaBwdIdeal.cfgs 0).N,
    fun c => (Cert.XaBwdIdeal.Gen.dats m 0 c).arrAt 5 (Cert.XaBwdIdeal.cfgs 0).N,
    Cert.XaBwdIdeal.Value.run_blocks m ρ, (θ_run _ _ _).mono (fun r h c => ?_) (Cert.XaRefIdeal.Value.run m' ρ')⟩
  obtain ⟨h0, h1, h2⟩ := h c
  obtain ⟨a0, a1, a2, a3⟩ := hag c
  obtain ⟨p0, p1⟩ := hpre c
  refine ⟨h0.trans ?_, h1.trans ?_, h2⟩
  · refine Eq.trans ?_ (Cert.XaBwdIdeal.Value.final4 m c).symm
    rw [Cert.XaRefIdeal.Read.val_main_v72_eq, a0, a1, a2, a3]
    funext i
    rw [Idealize.ShloMosaic.eq_ix2 i]
    exact Cert.XaRefIdeal.Value.v72_at _ _ _ _ (q_finite _ _ _ _ p0) (k_finite _ _ _ _ p1) _ _
  · refine Eq.trans ?_ (Cert.XaBwdIdeal.Value.final5 m c).symm
    rw [Cert.XaRefIdeal.Read.val_main_v71_eq, a0, a1, a2, a3]
    funext i
    rw [Idealize.ShloMosaic.eq_ix2 i]
    exact Cert.XaRefIdeal.Value.v71_at _ _ _ _ (q_finite _ _ _ _ p0) (k_finite _ _ _ _ p1) _ _

end Cert.Proof

end
-- ==== Proof.DownVal.lean ====
/- The array the gradient of the MLP's hidden layer is left in, as a function of the arguments. -/
module

public import proofs.«01_k».proof.Proof.Gen.DownDxIdeal.Value
public import Idealize.ShloMosaic.Lib.Pipeline.ValueKit

@[expose] public section

set_option maxRecDepth 16384

noncomputable section

namespace Cert.DownDxIdeal.Value

open Cert.DownDxIdeal Cert.DownDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val % 4, 1, 0]
    ∧ win0_2.index t = ![t.val / 4, t.val % 4] ∧ win0_3.index t = ![t.val / 4, t.val % 4] :=
  (by decide +kernel : ∀ t : Fin grid0.N, _)

/-- The hidden layer, the weights and the cotangent, as the launch finds them. -/
abbrev H : FVec Ideal S8192x4096 .f32 := m ((c : Thread nD τ).loc main_arg0)
abbrev W : FVec Ideal S4096x1024 .f32 := m ((c : Thread nD τ).loc main_arg1)
abbrev G : FVec Ideal S8192x1024 .f32 := m ((c : Thread nD τ).loc main_arg2)

theorem relu_at (r : Fin 8192) (a : Fin 4096) :
    (V m c main_v2 : FVec Ideal S8192x4096 .bf16) (ix2 r a) = max (H m c (ix2 r a)) 0 := by
  entry_read
  pointwise

theorem dx_at (r : Fin 8192) (a : Fin 1024) :
    (V m c main_v3 : FVec Ideal S8192x1024 .bf16) (ix2 r a) = G m c (ix2 r a) := by
  entry_read
  pointwise

theorem concat_congr {α : Type} {t s₁ s₂ s₃ : Shape} {a : Fin t.rank} {x x' : s₁.Idx → α} {y y' : s₂.Idx → α} {z z' : s₃.Idx → α}
    (h : Shape.Concatenates [s₁, s₂, s₃] t a) (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz; rfl

theorem V_v8 : (V m c main_v8 : FVec Ideal S4x3584x1024 .bf16)
    = concatenate S4x3584x1024 1
        [⟨S4x1024x1024, broadcastInDim S4x1024x1024 ![] bcast_S_S4x1024x1024 (constant (F := Ideal) S_ .bf16 0x0000#16)⟩,
         ⟨S4x1024x1024, shapeCast S4x1024x1024 (truncf .bf16 (W m c) bitsLt_bf16_f32) shapeCasts_S4096x1024_S4x1024x1024⟩,
         ⟨S4x1536x1024, broadcastInDim S4x1536x1024 ![] bcast_S_S4x1536x1024 (constant (F := Ideal) S_ .bf16 0x0000#16)⟩]
        concatenates_S4x1024x1024_S4x1024x1024_S4x1536x1024_S4x3584x1024_d1 := by
  change StableHlo.after hostOps0 _ _ = _
  simp only [StableHlo.after_cons, StableHlo.after_nil]
  rw [StableHlo.nary_result]
  refine concat_congr _ ?_ ?_ ?_
  · after_results_simp; rfl
  · after_results_simp; rfl
  · after_results_simp; rfl

theorem w_at (j : Fin 4) (a b : Fin 1024) (p : Fin 3584) (hp : p.val = 1024 + a.val) :
    (V m c main_v8 : FVec Ideal S4x3584x1024 .bf16) (ix3 j p b) = W m c (ix2 ⟨j.val * 1024 + a.val, by omega⟩ b) := by
  have h0 : ¬ p.val < 1024 := by omega
  have h1 : p.val - 1024 < 1024 := by omega
  rw [V_v8]
  pointwise [h0, h1]
  refine congrArg _ ?_
  ext k; fin_cases k <;> simp [ix2]; omega

variable (t : Fin cfg0.N)

theorem blk0 (r : Fin 2048) (k : Fin 1024) (h : t.val / 4 * 2048 + r.val < 8192) :
    (iblk m c 0 t : Vec Ideal S2048x1024 .bf16) (ix2 r k) = G m c (ix2 ⟨t.val / 4 * 2048 + r.val, h⟩ k) := by
  refine Eq.trans ?_ (dx_at m c _ _)
  blk_simp [iblk]
  exact congrArg _ (by blk_ext [idx t])
theorem blk1 (z : Fin 1) (a k : Fin 1024) (h : t.val % 4 * 1024 + a.val < 4096) :
    (X0_1 m c t : Vec Ideal S1x1024x1024 .bf16) (ix3 z a k) = W m c (ix2 ⟨t.val % 4 * 1024 + a.val, h⟩ k) := by
  refine Eq.trans ?_ (w_at m c ⟨t.val % 4, by omega⟩ a k ⟨1024 + a.val, by omega⟩ rfl)
  unfold X0_1 Pipeline.Window.fill
  rw [dif_pos (moved0_1 t _)]
  blk_simp [iblk]
  exact congrArg _ (by blk_ext [idx t])
theorem blk2 (r : Fin 2048) (a : Fin 1024) (h : t.val / 4 * 2048 + r.val < 8192) (h' : t.val % 4 * 1024 + a.val < 4096) :
    (iblk m c 2 t : Vec Ideal S2048x1024 .bf16) (ix2 r a)
      = max (H m c (ix2 ⟨t.val / 4 * 2048 + r.val, h⟩ ⟨t.val % 4 * 1024 + a.val, h'⟩)) 0 := by
  refine Eq.trans ?_ (relu_at m c _ _)
  blk_simp [iblk]
  exact congrArg _ (by blk_ext [idx t])

/-- One entry of the gradient the kernel stores. -/
theorem pay_at (x : Vec Ideal S2048x1024 .bf16) (w : Vec Ideal S1x1024x1024 .bf16) (u : Vec Ideal S2048x1024 .bf16)
    (r : Fin 2048) (a : Fin 1024) :
    k0_pay1 x w u (ix2 r a) = (∑ k : Fin 1024, x (ix2 r k) * w (ix3 0 a k)) * (Ideal.ofBits .f32 0x40000000#32 * u (ix2 r a)) := by
  pointwise [k0_pay1]

/-- The gradient at the hidden layer, from the layer, the weights and the cotangent. -/
def grad (H : FVec Ideal S8192x4096 .f32) (W : FVec Ideal S4096x1024 .f32) (G : FVec Ideal S8192x1024 .f32)
    (r : Fin 8192) (a : Fin 4096) : EReal :=
  (∑ k : Fin 1024, G (ix2 r k) * W (ix2 a k)) * (Ideal.ofBits .f32 0x40000000#32 * max (H (ix2 r a)) 0)

theorem final3 : (dats m 0 c).arrAt 3 cfg0.N
    = (fun i => grad (H m c) (W m c) (G m c) (i 0) (i 1) : FVec Ideal S8192x4096 .bf16) := by
  refine (dats m 0 c).arrAt_eq_of_covers 3 _ (by decide +kernel) fun t hf y => ?_
  blk_simp
  rw [after0_3]
  have hN : t.val < 16 := lt_of_lt_of_le t.isLt (le_of_eq N_0)
  have e : outsAt0 m c t = k0_pay1 (iblk m c 0 t) (X0_1 m c t) (iblk m c 2 t) := by
    unfold outsAt0; frame_out
  rw [e]
  obtain ⟨r, a, rfl⟩ : ∃ r a, y = ix2 r a := ⟨y 0, y 1, eq_ix2 y⟩
  have hr : t.val / 4 * 2048 + r.val < 8192 := by have := r.isLt; omega
  have ha : t.val % 4 * 1024 + a.val < 4096 := by have := a.isLt; omega
  have e1 : (win0_3.blk t).view.emb (ix2 r a) = ix2 ⟨t.val / 4 * 2048 + r.val, hr⟩ ⟨t.val % 4 * 1024 + a.val, ha⟩ := by
    blk_ext [idx t]
  rw [pay_at, e1]
  simp only [blk0 m c t _ _ hr, blk1 m c t _ _ _ ha, blk2 m c t _ _ hr ha]
  rfl

end Cert.DownDxIdeal.Value
-- ==== Proof.DownRef.lean ====
/- What the reference's gradient of the MLP's hidden layer computes, read stage by stage at an entry. -/
module

public import proofs.«01_k».proof.Proof.DownVal
public import proofs.«01_k».proof.Proof.Gen.DownDxRefIdeal.Run
public import proofs.«01_k».proof.Proof.Gen.DownDxRefIdeal.Read

@[expose] public section

set_option maxRecDepth 16384

noncomputable section

namespace Cert.DownDxRefIdeal.Value

open Cert.DownDxRefIdeal Cert.DownDxRefIdeal.Gen Idealize.ShloMosaic Idealize.ShloMosaic.TcCoe Idealize.SL.Sem
open Cert.DownDxRefIdeal.Read

variable (X0 : FVec Ideal S8192x4096 .f32) (X1 : FVec Ideal S4096x1024 .f32) (X2 : FVec Ideal S8192x1024 .f32)

theorem v6_at (r : Fin 8192) (a : Fin 4096) : val_main_v6 (F := Ideal) X0 (ix2 r a)
    = Ideal.ofBits .f32 0x40000000#32 * max (X0 (ix2 r a)) 0 := by
  pointwise [val_main_v6, val_main_v5, val_main_v4, val_main_v0, val_main_call0_v0, val_main_call0_cst, val_main_cst_1]
theorem v8_at (r : Fin 8192) (a : Fin 4096) : val_main_v8 (F := Ideal) X1 X2 (ix2 r a)
    = ∑ k : Fin 1024, X2 (ix2 r k) * X1 (ix2 a k) := by
  pointwise [val_main_v8]
theorem v12_at (r : Fin 8192) (a : Fin 4096) : val_main_v12 (F := Ideal) X0 X1 X2 (ix2 r a)
    = Cert.DownDxIdeal.Value.grad X0 X1 X2 r a := by
  have e : val_main_v12 (F := Ideal) X0 X1 X2 (ix2 r a) = if 0 < X0 (ix2 r a) then
      (∑ k : Fin 1024, X2 (ix2 r k) * X1 (ix2 a k)) * (Ideal.ofBits .f32 0x40000000#32 * max (X0 (ix2 r a)) 0) else 0 := by
    pointwise [val_main_v12, val_main_v11, val_main_v9, val_main_v2, val_main_v10, val_main_cst_2, val_main_v1, val_main_cst, v6_at, v8_at]
  rw [e, Cert.DownDxIdeal.Value.grad]
  split
  · rfl
  · rename_i h
    rw [max_eq_right (not_lt.mp h), mul_zero, mul_zero]

end Cert.DownDxRefIdeal.Value
-- ==== Proof.DownClaim.lean ====
/- The claims about the kernel of the gradient at the MLP's hidden layer: the reference's frame, and the equality of the
   two programs' results. -/
module

public import proofs.«01_k».proof.Defs
public import proofs.«01_k».proof.Proof.DownVal
public import proofs.«01_k».proof.Proof.DownRef
public import Idealize.ShloMosaic.Lib.Quiescent

@[expose] public section

noncomputable section

namespace Cert.Proof

open Idealize.ShloMosaic Idealize.ShloMosaic.TcCoe Idealize.SL.Sem

attribute [local instance] Cert.DownDxIdeal.Gen.facts Cert.DownDxRefIdeal.Gen.facts

theorem down_frame_ref : Cert.quiescent_DownDxRefIdeal := fun m ρ _ =>
  (θ_run _ _ _).mono (fun r h => ⟨fun c => (h c).2, sem_eq_zero_of_no_sems (by decide) _⟩)
    (Cert.DownDxRefIdeal.Value.run m ρ)

theorem down_algebraic : Cert.algebraic_DownDxIdeal_DownDxRefIdeal := by
  intro m ρ m' ρ' hpre hag
  refine ⟨fun c => (Cert.DownDxIdeal.Gen.dats m 0 c).arrAt 3 (Cert.DownDxIdeal.cfgs 0).N,
    Cert.DownDxIdeal.Value.run_blocks m ρ, (θ_run _ _ _).mono (fun r h c => ?_) (Cert.DownDxRefIdeal.Value.run m' ρ')⟩
  obtain ⟨h0, h2⟩ := h c
  obtain ⟨a0, a1, a2⟩ := hag c
  refine ⟨h0.trans ?_, h2⟩
  refine Eq.trans ?_ (Cert.DownDxIdeal.Value.final3 m c).symm
  rw [Cert.DownDxRefIdeal.Read.val_main_v12_eq, a0, a1, a2]
  funext i
  rw [Idealize.ShloMosaic.eq_ix2 i]
  exact Cert.DownDxRefIdeal.Value.v12_at _ _ _ _ _

end Cert.Proof

end
-- ==== Proof.NormMath.lean ====
/- The gradient of the root-mean-square norm of a row of 1024 entries, over the extended reals: the form that automatic
   differentiation gives equals the kernels' form at every row, finite or not. -/
module

public import Idealize.ShloMosaic.PureOps.Ideal
public import Mathlib.Tactic.Linarith
public import Mathlib.Tactic.Ring
public import Mathlib.Tactic.FieldSimp
public import Mathlib.Tactic.NormNum

@[expose] public section

noncomputable section

namespace Cert.Norm

open Idealize.ShloMosaic

/-- The row's length, the norm's epsilon and the derivative's factor, as the programs write them. -/
abbrev cN : EReal := Ideal.ofBits .f32 0x44800000#32
abbrev cE : EReal := Ideal.ofBits .f32 0x358637BD#32
abbrev cH : EReal := Ideal.ofBits .f32 0xBF000000#32

theorem cN_eq : cN = ((1024 : ℝ) : EReal) := by
  unfold cN; simp [Ideal.ofBits, Ideal.ieee, -EReal.coe_mul]; norm_num
theorem cH_eq : cH = ((-(1 / 2) : ℝ) : EReal) := by
  unfold cH; simp [Ideal.ofBits, Ideal.ieee, -EReal.coe_mul]; norm_num
theorem cE_eq : ∃ e : ℝ, 0 < e ∧ cE = (e : EReal) := by
  unfold cE; simp [Ideal.ofBits, Ideal.ieee, -EReal.coe_mul]

theorem div_real (x : EReal) {y : ℝ} (h : y ≠ 0) : Ideal.div x y = x * ((y⁻¹ : ℝ) : EReal) := by
  have : (y : EReal) ≠ 0 := by exact_mod_cast h
  simp [Ideal.div, this, EReal.coe_inv]
  try rfl

/-- The mean square of a row, and the norm's scale. -/
def ms (x : Fin 1024 → EReal) : EReal := Ideal.div (∑ k, x k * x k) cN + cE
def rs (x : Fin 1024 → EReal) : EReal := Ideal.rsqrt (ms x)

/-- A row after the norm and its gain. -/
def nrm (x g : Fin 1024 → EReal) (j : Fin 1024) : EReal := x j * rs x * g j

theorem sq_nonneg' (x : EReal) : 0 ≤ x * x := by
  induction x using EReal.rec with
  | bot => simp
  | top => simp
  | coe r => exact_mod_cast mul_self_nonneg r

theorem mul_sum_pos {r : ℝ} (hr : 0 ≤ r) {n : ℕ} (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast hr) (EReal.coe_ne_top r), ih]

theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem neg_add_eq_of_real (s : ℝ) : -((s : EReal) + (s : EReal)) = -(s : EReal) + -(s : EReal) := by
  rw [← EReal.coe_add, ← EReal.coe_neg, ← EReal.coe_neg, ← EReal.coe_add]; congr 1; ring

/-- A row of finite entries has a positive finite mean square. -/
theorem ms_real (y : Fin 1024 → ℝ) : ∃ q : ℝ, 0 < q ∧ ms (fun k => (y k : EReal)) = q := by
  obtain ⟨e, he, hE⟩ := cE_eq
  refine ⟨(∑ k, y k * y k) * 1024⁻¹ + e, ?_, ?_⟩
  · have : 0 ≤ ∑ k, y k * y k := Finset.sum_nonneg fun k _ => mul_self_nonneg _
    positivity
  · unfold ms
    rw [hE, cN_eq, div_real _ (by norm_num)]
    have : (∑ k, (y k : EReal) * (y k : EReal)) = ((∑ k, y k * y k : ℝ) : EReal) := by
      rw [← sum_coe]; rfl
    rw [this, ← EReal.coe_mul, ← EReal.coe_add]

/-- A row with an infinite entry has the scale zero. -/
theorem ms_top (x : Fin 1024 → EReal) (k : Fin 1024) (h : x k * x k = ⊤) : ms x = ⊤ := by
  obtain ⟨e, he, hE⟩ := cE_eq
  have hs : ∑ k, x k * x k = ⊤ := by
    rw [← Finset.add_sum_erase _ _ (Finset.mem_univ k), h]
    refine EReal.top_add_of_ne_bot ?_
    exact ne_bot_of_le_ne_bot EReal.zero_ne_bot (Finset.sum_nonneg fun k _ => sq_nonneg' _)
  unfold ms
  rw [hs, hE, cN_eq, div_real _ (by norm_num), EReal.top_mul_coe_of_pos (by norm_num)]
  rfl

theorem finite_or (x : Fin 1024 → EReal) : (∃ y : Fin 1024 → ℝ, x = fun k => (y k : EReal)) ∨ ∃ k, x k * x k = ⊤ := by
  by_cases h : ∃ k, x k * x k = ⊤
  · exact .inr h
  · push Not at h
    refine .inl ⟨fun k => (x k).toReal, funext fun k => (EReal.coe_toReal ?_ ?_).symm⟩
    · intro e; exact h k (by rw [e]; rfl)
    · intro e; exact h k (by rw [e]; rfl)

/-- The factor of the row that automatic differentiation multiplies the row with twice. -/
def corr (x a : Fin 1024 → EReal) : EReal := Ideal.div ((∑ k, x k * a k) * (cH * Ideal.div (rs x) (ms x))) cN

theorem norm_bwd (x a : Fin 1024 → EReal) (d : EReal) (j : Fin 1024) :
    ((d + a j * rs x) + x j * corr x a) + corr x a * x j
      = rs x * (a j - x j * rs x * Ideal.div (∑ k, a k * (x k * rs x)) cN) + d := by
  obtain ⟨y, rfl⟩ | ⟨k, hk⟩ := finite_or x
  · obtain ⟨q, hq, hm⟩ := ms_real y
    have hs : 0 < Real.sqrt q := Real.sqrt_pos.mpr hq
    obtain ⟨r, hr, hrr⟩ : ∃ r : ℝ, 0 < r ∧ r = (Real.sqrt q)⁻¹ := ⟨_, inv_pos.mpr hs, rfl⟩
    have hR : rs (fun k => (y k : EReal)) = (r : EReal) := by
      unfold rs; rw [hm, Ideal.rsqrt_coe, if_neg (not_lt.mpr hq.le), if_neg hq.ne', hrr]
    have hqr : q⁻¹ = r * r := by
      rw [hrr, ← mul_inv, Real.mul_self_sqrt hq.le]
    set A : EReal := ∑ k, (y k : EReal) * a k with hA
    have hB : ∑ k, a k * ((y k : EReal) * (r : EReal)) = (r : EReal) * A := by
      rw [hA, mul_sum_pos hr.le]
      exact Finset.sum_congr rfl fun k _ => by rw [mul_comm (a k), mul_comm (y k : EReal), mul_assoc]
    have hc : corr (fun k => (y k : EReal)) a = A * ((-(r * r * r) / 2048 : ℝ) : EReal) := by
      unfold corr
      rw [hR, hm, cN_eq, cH_eq, div_real _ hq.ne', div_real _ (by norm_num), hqr, mul_assoc, ← EReal.coe_mul, ← EReal.coe_mul,
        ← EReal.coe_mul]
      congr 2; ring
    rw [hR, hc, hB, cN_eq, div_real _ (by norm_num), sub_eq_add_neg,
      EReal.left_distrib_of_nonneg_of_ne_top (by exact_mod_cast hr.le) (EReal.coe_ne_top r)]
    have e1 : (r : EReal) * -((y j : EReal) * r * ((r : EReal) * A * ((1024⁻¹ : ℝ) : EReal)))
        = A * ((-(y j * (r * r * r)) / 1024 : ℝ) : EReal) := by
      have : (r : EReal) * -((y j : EReal) * r * ((r : EReal) * A * ((1024⁻¹ : ℝ) : EReal)))
          = A * (-((r : EReal) * (y j : EReal) * r * r * ((1024⁻¹ : ℝ) : EReal))) := by
        rw [mul_neg, mul_neg]; congr 1; ac_rfl
      rw [this, ← EReal.coe_mul, ← EReal.coe_mul, ← EReal.coe_mul, ← EReal.coe_mul, ← EReal.coe_neg]
      congr 2; ring
    have e2 : (y j : EReal) * (A * ((-(r * r * r) / 2048 : ℝ) : EReal)) = A * ((-(y j * (r * r * r)) / 2048 : ℝ) : EReal) := by
      rw [mul_left_comm, ← EReal.coe_mul]
      congr 2; ring
    have e3 : ∀ s : ℝ, A * (s : EReal) + A * (s : EReal) = A * ((s + s : ℝ) : EReal) := by
      intro s
      rw [EReal.coe_add]
      rcases le_total 0 s with h | h
      · exact (EReal.left_distrib_of_nonneg (by exact_mod_cast h) (by exact_mod_cast h)).symm
      · have hn : (0 : EReal) ≤ ((-s : ℝ) : EReal) := by exact_mod_cast neg_nonneg.mpr h
        have := (EReal.left_distrib_of_nonneg (c := -A) hn hn).symm
        rwa [EReal.coe_neg, neg_mul_neg, ← neg_add_eq_of_real s, neg_mul_neg] at this
    rw [mul_comm (A * _) (y j : EReal), e1, e2, add_assoc (d + _), e3, mul_comm (a j)]
    rw [show -(y j * (r * r * r)) / 2048 + -(y j * (r * r * r)) / 2048 = -(y j * (r * r * r)) / 1024 by ring]
    ac_rfl
  · have hm := ms_top x k hk
    have hR : rs x = 0 := by unfold rs; rw [hm]; rfl
    have hc : corr x a = 0 := by
      unfold corr; rw [hR, hm]; simp [Ideal.div, cN_eq]
    rw [hR, hc]; simp

end Cert.Norm
-- ==== Proof.UpVal.lean ====
/- The arrays the MLP norm's backward kernel leaves, as functions of the arguments. -/
module

public import proofs.«01_k».proof.Proof.NormMath
public import proofs.«01_k».proof.Proof.Gen.UpDxIdeal.Value
public import Idealize.ShloMosaic.Lib.Pipeline.ValueKit

@[expose] public section

set_option maxRecDepth 16384

noncomputable section

namespace Cert.UpDxIdeal.Value

open Cert.UpDxIdeal Cert.UpDxIdeal.Gen Idealize.ShloMosaic Idealize.ShloMosaic.TcCoe Idealize.SL.Sem
open Cert.Norm

variable (m : (ℓ : Loc nD τ sig) → Buf (Elt Ideal) ℓ) (c : Dev nD)

/-- The residual stream, the norm's gain, the weights, and the cotangents of the product and of the stream. -/
abbrev X : FVec Ideal S8192x1024 .f32 := m ((c : Thread nD τ).loc main_arg0)
abbrev N : FVec Ideal S1x1024 .f32 := m ((c : Thread nD τ).loc main_arg1)
abbrev W : FVec Ideal S1024x4096 .f32 := m ((c : Thread nD τ).loc main_arg2)
abbrev DU : FVec Ideal S8192x4096 .f32 := m ((c : Thread nD τ).loc main_arg3)
abbrev DX : FVec Ideal S8192x1024 .f32 := m ((c : Thread nD τ).loc main_arg4)

theorem idx : ∀ t : Fin cfg0.N, win0_0.index t = ![t.val, 0] ∧ win0_1.index t = ![0, 0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

/-! The payloads of the two halves of a tile, read at an entry. -/

section pay

variable (w : Vec Ideal S4x1024x1024 .bf16) (u : Vec Ideal S256x4096 .bf16) (x d : Vec Ideal S256x1024 .f32)
  (g : Vec Ideal S1x1024 .f32)

/-- Row `r` of the norm's cotangent: the product's cotangent times the packed weights' transpose. -/
def dy (u : Fin 4096 → EReal) (w : Vec Ideal S4x1024x1024 .bf16) (j : Fin 1024) : EReal :=
  ∑ k : Fin 4096, u k * w (ix3 ⟨k.val / 1024, by omega⟩ ⟨k.val % 1024, by omega⟩ j)

theorem pay3_at (r : Fin 256) (j : Fin 1024) : k0_pay3 w u (ix2 r j) = dy (fun k => u (ix2 r k)) w j := by
  pointwise [k0_pay3, k0_pay2]
  rfl
theorem pay4_at (r : Fin 256) (z : Fin 1) : k0_pay4 x (ix2 r z) = rs (fun k => x (ix2 r k)) := by
  pointwise [k0_pay4]; rfl
theorem pay5_at (r : Fin 256) (j : Fin 1024) : k0_pay5 x (ix2 r j) = x (ix2 r j) * rs (fun k => x (ix2 r k)) := by
  pointwise [k0_pay5, pay4_at]
theorem pay9_at (r : Fin 256) (j : Fin 1024) : k0_pay9 (k0_pay2 w) u (ix2 r j) = dy (fun k => u (ix2 r k)) w j := pay3_at w u r j
theorem pay10_at (r : Fin 256) (z : Fin 1) : k0_pay10 x (ix2 r z) = rs (fun k => x (ix2 r k)) := pay4_at x r z
theorem pay11_at (r : Fin 256) (j : Fin 1024) : k0_pay11 x (ix2 r j) = x (ix2 r j) * rs (fun k => x (ix2 r k)) := pay5_at x r j

/-- The gradient of one row of the stream, as the kernel arranges it. -/
def gx (x a : Fin 1024 → EReal) (d : EReal) (j : Fin 1024) : EReal :=
  rs x * (a j - x j * rs x * Ideal.div (∑ k, a k * (x k * rs x)) cN) + d

theorem pay6_at (r : Fin 256) (j : Fin 1024) : k0_pay6 w u x d g (ix2 r j)
    = gx (fun k => x (ix2 r k)) (fun k => dy (fun k => u (ix2 r k)) w k * g (ix2 0 k)) (d (ix2 r j)) j := by
  pointwise [k0_pay6, pay3_at, pay4_at, pay5_at]
  rfl
theorem pay12_at (r : Fin 256) (j : Fin 1024) : k0_pay12 (k0_pay2 w) u x d g (ix2 r j)
    = gx (fun k => x (ix2 r k)) (fun k => dy (fun k => u (ix2 r k)) w k * g (ix2 0 k)) (d (ix2 r j)) j := pay6_at w u x d g r j
theorem pay7_at (z : Fin 1) (j : Fin 1024) : k0_pay7 w u x (ix2 z j)
    = ∑ r : Fin 256, dy (fun k => u (ix2 r k)) w j * (x (ix2 r j) * rs (fun k => x (ix2 r k))) := by
  pointwise [k0_pay7, pay3_at, pay5_at]
theorem pay14_at (v : FVec Ideal S1x1024 .f32) (z : Fin 1) (j : Fin 1024) : k0_pay14 (k0_pay2 w) v u x (ix2 z j)
    = v (ix2 z j) + ∑ r : Fin 256, dy (fun k => u (ix2 r k)) w j * (x (ix2 r j) * rs (fun k => x (ix2 r k))) := by
  pointwise [k0_pay14, pay9_at, pay11_at]

end pay

section tile

variable (u : Vec Ideal S512x4096 .bf16) (w : Vec Ideal S4x1024x1024 .bf16) (x d : Vec Ideal S512x1024 .f32)
  (g : Vec Ideal S1x1024 .f32)

/-- An entry of the stream's gradient over a tile of 512 rows. -/
def gxT (r : Fin 512) (j : Fin 1024) : EReal :=
  gx (fun k => x (ix2 r k)) (fun k => dy (fun k => u (ix2 r k)) w k * g (ix2 0 k)) (d (ix2 r j)) j
/-- A row's part of the gain's gradient, and the tile's. -/
def gn1 (r : Fin 512) (j : Fin 1024) : EReal :=
  dy (fun k => u (ix2 r k)) w j * (x (ix2 r j) * rs (fun k => x (ix2 r k)))
def gnT (j : Fin 1024) : EReal := ∑ r : Fin 512, gn1 u w x r j

abbrev u0 := View.ld u (Rect.unit ![0, 0] ![256, 4096] inb_S512x4096_S256x4096_0_0)
abbrev u1 := View.ld u (Rect.unit ![256, 0] ![256, 4096] inb_S512x4096_S256x4096_256_0)
abbrev x0 := View.ld x (Rect.unit ![0, 0] ![256, 1024] inb_S512x1024_S256x1024_0_0)
abbrev x1 := View.ld x (Rect.unit ![256, 0] ![256, 1024] inb_S512x1024_S256x1024_256_0)

theorem u0_at (r : Fin 256) (k : Fin 4096) : u0 u (ix2 r k) = u (ix2 ⟨r.val, by omega⟩ k) := by pointwise [u0]
theorem u1_at (r : Fin 256) (k : Fin 4096) : u1 u (ix2 r k) = u (ix2 ⟨256 + r.val, by omega⟩ k) := by pointwise [u1]
theorem x0_at (r : Fin 256) (k : Fin 1024) : x0 x (ix2 r k) = x (ix2 ⟨r.val, by omega⟩ k) := by pointwise [x0]
theorem x1_at (r : Fin 256) (k : Fin 1024) : x1 x (ix2 r k) = x (ix2 ⟨256 + r.val, by omega⟩ k) := by pointwise [x1]

theorem lo_at (r : Fin 256) (j : Fin 1024) : k0_pay6 w (u0 u) (x0 x) (x0 d) g (ix2 r j) = gxT u w x d g ⟨r.val, by omega⟩ j := by
  rw [pay6_at, gxT, x0_at]
  simp only [fun k => x0_at x r k, fun k => u0_at u r k]
theorem hi_at (r : Fin 256) (j : Fin 1024) : k0_pay12 (k0_pay2 w) (u1 u) (x1 x) (x1 d) g (ix2 r j)
    = gxT u w x d g ⟨256 + r.val, by omega⟩ j := by
  rw [pay12_at, gxT, x1_at]
  simp only [fun k => x1_at x r k, fun k => u1_at u r k]

theorem canon5 (y : S512x1024.Idx) : (View.canon
      [⟨Rect.unit ![256, 0] ![256, 1024] inb_S512x1024_S256x1024_256_0, k0_pay12 (k0_pay2 w) (u1 u) (x1 x) (x1 d) g⟩,
        ⟨Rect.unit ![0, 0] ![256, 1024] inb_S512x1024_S256x1024_0_0, k0_pay6 w (u0 u) (x0 x) (x0 d) g⟩] : Vec Ideal S512x1024 .f32) y
    = gxT u w x d g (y 0) (y 1) := by
  canon_tiles z h
  all_goals (obtain ⟨r, j, rfl⟩ : ∃ (r : Fin 256) (j : Fin 1024), z = ix2 r j := ⟨z 0, z 1, by ext k; fin_cases k <;> rfl⟩)
  · rw [hi_at, show y 0 = (⟨256 + r.val, by omega⟩ : Fin 512) from Fin.ext h0, show y 1 = j from Fin.ext h1]
  · rw [lo_at, show y 0 = (⟨r.val, by omega⟩ : Fin 512) from Fin.ext (by simpa using h0), show y 1 = j from Fin.ext h1]

theorem canon6 (y : S512x1024.Idx) : (View.canon
      [⟨Rect.unit ![256, 0] ![256, 1024] inb_S512x1024_S256x1024_256_0, k0_pay13 (k0_pay2 w) (u1 u) (x1 x) (x1 d) g⟩,
        ⟨Rect.unit ![0, 0] ![256, 1024] inb_S512x1024_S256x1024_0_0, k0_pay8 w (u0 u) (x0 x) (x0 d) g⟩] : Vec Ideal S512x1024 .bf16) y
    = gxT u w x d g (y 0) (y 1) := canon5 u w x d g y

theorem gain (j : Fin 1024) (z : Fin 1) : k0_pay14 (k0_pay2 w) (k0_pay7 w (u0 u) (x0 x)) (u1 u) (x1 x) (ix2 z j) = gnT u w x j := by
  rw [pay14_at, pay7_at, gnT, Fin.sum_univ_tiles 2 256 rfl, Fin.sum_univ_two]
  refine congrArg₂ _ (Finset.sum_congr rfl fun r _ => ?_) (Finset.sum_congr rfl fun r _ => ?_)
  · simp only [gn1, fun k => x0_at x r k, fun k => u0_at u r k]
    congr! <;> simp
  · simp only [fun k => x1_at x r k, fun k => u1_at u r k]
    rfl

end tile

theorem du_at (r : Fin 8192) (a : Fin 4096) :
    (V m c main_v0 : FVec Ideal S8192x4096 .bf16) (ix2 r a) = DU m c (ix2 r a) := by
  entry_read
  pointwise

theorem w_at (a : Fin 4) (b j : Fin 1024) (p : Fin 3584) (hp : p.val = b.val) :
    (V m c main_v5 : FVec Ideal S4x3584x1024 .bf16) (ix3 a p j) = W m c (ix2 j ⟨a.val * 1024 + b.val, by omega⟩) := by
  have h0 : p.val < 1024 := by omega
  entry_read
  pointwise [h0]
  refine congrArg (W m c) ?_
  ext k; fin_cases k <;> simp [ix2, hp]

variable (t : Fin cfg0.N)

theorem blk0 (r : Fin 512) (k : Fin 4096) (h : t.val * 512 + r.val < 8192) :
    (iblk m c 0 t : Vec Ideal S512x4096 .bf16) (ix2 r k) = DU m c (ix2 ⟨t.val * 512 + r.val, h⟩ k) := by
  refine Eq.trans ?_ (du_at m c _ _)
  blk_simp [iblk]
  exact congrArg _ (by blk_ext [idx t])
theorem blk1 (a : Fin 4) (b j : Fin 1024) :
    (X0_1 m c t : Vec Ideal S4x1024x1024 .bf16) (ix3 a b j) = W m c (ix2 j ⟨a.val * 1024 + b.val, by omega⟩) := by
  refine Eq.trans ?_ (w_at m c a b j ⟨b.val, by omega⟩ rfl)
  unfold X0_1 Pipeline.Window.fill
  rw [dif_pos (moved0_1 t _)]
  blk_simp [iblk]
  exact congrArg _ (by blk_ext [idx t])
theorem blk2 (r : Fin 512) (k : Fin 1024) (h : t.val * 512 + r.val < 8192) :
    (iblk m c 2 t : Vec Ideal S512x1024 .f32) (ix2 r k) = X m c (ix2 ⟨t.val * 512 + r.val, h⟩ k) := by
  blk_point [iblk, V, idx t]
theorem blk3 (r : Fin 512) (k : Fin 1024) (h : t.val * 512 + r.val < 8192) :
    (iblk m c 3 t : Vec Ideal S512x1024 .f32) (ix2 r k) = DX m c (ix2 ⟨t.val * 512 + r.val, h⟩ k) := by
  blk_point [iblk, V, idx t]
theorem blk4 (z : Fin 1) (k : Fin 1024) :
    (iblk m c 4 t : Vec Ideal S1x1024 .f32) (ix2 z k) = N m c (ix2 z k) := by
  blk_point [iblk, V, idx t]

/-- The norm's cotangent, from the product's cotangent and the weights. -/
def dyn (W : FVec Ideal S1024x4096 .f32) (DU : FVec Ideal S8192x4096 .f32) (r : Fin 8192) (j : Fin 1024) : EReal :=
  ∑ k : Fin 4096, DU (ix2 r k) * W (ix2 j k)
/-- The stream's gradient. -/
def GX (X : FVec Ideal S8192x1024 .f32) (N : FVec Ideal S1x1024 .f32) (W : FVec Ideal S1024x4096 .f32)
    (DU : FVec Ideal S8192x4096 .f32) (DX : FVec Ideal S8192x1024 .f32) (r : Fin 8192) (j : Fin 1024) : EReal :=
  gx (fun k => X (ix2 r k)) (fun k => dyn W DU r k * N (ix2 0 k)) (DX (ix2 r j)) j
/-- A row's part of the gain's gradient, and the gain's gradient. -/
def GN1 (X : FVec Ideal S8192x1024 .f32) (W : FVec Ideal S1024x4096 .f32) (DU : FVec Ideal S8192x4096 .f32)
    (r : Fin 8192) (j : Fin 1024) : EReal :=
  dyn W DU r j * (X (ix2 r j) * rs (fun k => X (ix2 r k)))
def GN (X : FVec Ideal S8192x1024 .f32) (W : FVec Ideal S1024x4096 .f32) (DU : FVec Ideal S8192x4096 .f32) (j : Fin 1024) : EReal :=
  ∑ r : Fin 8192, GN1 X W DU r j

theorem dy_blk (r : Fin 512) (j : Fin 1024) (h : t.val * 512 + r.val < 8192) :
    dy (fun k => (iblk m c 0 t : Vec Ideal S512x4096 .bf16) (ix2 r k)) (X0_1 m c t) j
      = dyn (W m c) (DU m c) ⟨t.val * 512 + r.val, h⟩ j := by
  unfold dy dyn
  refine Finset.sum_congr rfl fun k _ => ?_
  refine (congrArg₂ _ (blk0 m c t r k h) (blk1 ..)).trans ?_
  congr! 3
  exact Fin.ext (Nat.div_add_mod' k.val 1024)

theorem gxT_blk (r : Fin 512) (j : Fin 1024) (h : t.val * 512 + r.val < 8192) :
    gxT (iblk m c 0 t) (X0_1 m c t) (iblk m c 2 t) (iblk m c 3 t) (iblk m c 4 t) r j
      = GX (X m c) (N m c) (W m c) (DU m c) (DX m c) ⟨t.val * 512 + r.val, h⟩ j := by
  unfold gxT GX
  simp only [fun k => blk2 m c t r k h, fun k => blk3 m c t r k h, fun k => blk4 m c t 0 k, fun j => dy_blk m c t r j h]

theorem gn1_blk (j : Fin 1024) (r : Fin 512) (h : t.val * 512 + r.val < 8192) :
    gn1 (iblk m c 0 t) (X0_1 m c t) (iblk m c 2 t) r j = GN1 (X m c) (W m c) (DU m c) ⟨t.val * 512 + r.val, h⟩ j := by
  unfold gn1 GN1
  simp only [fun k => blk2 m c t r k h, dy_blk m c t r j h]

theorem emb5 (r : Fin 512) (j : Fin 1024) (h : t.val * 512 + r.val < 8192) :
    (win0_5.blk t).view.emb (ix2 r j) = ix2 ⟨t.val * 512 + r.val, h⟩ j := by blk_ext [idx t]
theorem emb6 (r : Fin 512) (j : Fin 1024) (h : t.val * 512 + r.val < 8192) :
    (win0_6.blk t).view.emb (ix2 r j) = ix2 ⟨t.val * 512 + r.val, h⟩ j := by blk_ext [idx t]

theorem out5 (y : S512x1024.Idx) : (outsAt0 m c t.val t.isLt).1 y
    = gxT (iblk m c 0 t) (X0_1 m c t) (iblk m c 2 t) (iblk m c 3 t) (iblk m c 4 t) (y 0) (y 1) := by
  have hN : t.val < 16 := lt_of_lt_of_le t.isLt (le_of_eq N_0)
  refine Eq.trans ?_ (canon5 ..)
  refine congrFun ?_ y
  by_cases h0 : t.val % 16 = 0
  · rw [outsAt0_A m c t h0 (by omega)]; frame_out
  · rw [outsAt0_B m c t h0 (by omega)]; frame_out
theorem out6 (y : S512x1024.Idx) : (outsAt0 m c t.val t.isLt).2.1 y
    = gxT (iblk m c 0 t) (X0_1 m c t) (iblk m c 2 t) (iblk m c 3 t) (iblk m c 4 t) (y 0) (y 1) := by
  have hN : t.val < 16 := lt_of_lt_of_le t.isLt (le_of_eq N_0)
  refine Eq.trans ?_ (canon6 ..)
  refine congrFun ?_ y
  by_cases h0 : t.val % 16 = 0
  · rw [outsAt0_A m c t h0 (by omega)]; frame_out
  · rw [outsAt0_B m c t h0 (by omega)]; frame_out

theorem final5 : (dats m 0 c).arrAt 5 cfg0.N
    = (fun i => GX (X m c) (N m c) (W m c) (DU m c) (DX m c) (i 0) (i 1) : FVec Ideal S8192x1024 .f32) := by
  refine (dats m 0 c).arrAt_eq_of_covers 5 _ (by decide +kernel) fun t hf y => ?_
  blk_simp
  rw [after0_5]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb5 t r j h]
  exact (out5 m c t _).trans (gxT_blk m c t r j h)
theorem final6 : (dats m 0 c).arrAt 6 cfg0.N
    = (fun i => GX (X m c) (N m c) (W m c) (DU m c) (DX m c) (i 0) (i 1) : FVec Ideal S8192x1024 .bf16) := by
  refine (dats m 0 c).arrAt_eq_of_covers 6 _ (by decide +kernel) fun t hf y => ?_
  blk_simp
  rw [after0_6]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb6 t r j h]
  exact (out6 m c t _).trans (gxT_blk m c t r j h)
theorem final7 : (dats m 0 c).arrAt 7 cfg0.N
    = (fun i => GN (X m c) (W m c) (DU m c) (i 1) : FVec Ideal S1x1024 .f32) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun t => k0_pay14 (k0_pay2 (X0_1 m c t)) (k0_pay7 (X0_1 m c t) (u0 (iblk m c 0 t)) (x0 (iblk m c 2 t))) (u1 (iblk m c 0 t))
      (x1 (iblk m c 2 t)))
    (fun t h j => by
      have hN : t.val < 16 := lt_of_lt_of_le t.isLt (le_of_eq N_0)
      rw [outsAt0_A m c t h (by omega)]; frame_out; rw [zero_add])
    (fun t h j => by rw [outsAt0_B m c t h (by omega)]; frame_out; pointwise [k0_pay1])
    (le_of_eq N_0) t0_15 rfl j, zero_add]
  obtain ⟨z, b, rfl⟩ : ∃ (z : Fin 1) (b : Fin 1024), j = ix2 z b := ⟨j 0, j 1, by ext k; fin_cases k <;> rfl⟩
  refine (Fin.sum_fin_congr fun t => gain _ _ _ b z).trans ?_
  change _ = ∑ r : Fin 8192, GN1 (X m c) (W m c) (DU m c) r b
  unfold gnT
  exact Fin.sum_mul_add_congr fun t r h => gn1_blk m c t b r h

end Cert.UpDxIdeal.Value
-- ==== Proof.UpRef.lean ====
/- What the reference's gradient of the MLP's norm computes, read stage by stage at an entry. -/
module

public import proofs.«01_k».proof.Proof.UpVal
public import proofs.«01_k».proof.Proof.Gen.UpDxRefIdeal.Run
public import proofs.«01_k».proof.Proof.Gen.UpDxRefIdeal.Read

@[expose] public section

set_option maxRecDepth 16384

noncomputable section

namespace Cert.UpDxRefIdeal.Value

open Cert.UpDxRefIdeal Cert.UpDxRefIdeal.Gen Idealize.ShloMosaic Idealize.ShloMosaic.TcCoe Idealize.SL.Sem
open Cert.UpDxRefIdeal.Read Cert.Norm Cert.UpDxIdeal.Value

variable (X0 : FVec Ideal S8192x1024 .f32) (X1 : FVec Ideal S1x1024 .f32) (X2 : FVec Ideal S1024x4096 .f32)
  (X3 : FVec Ideal S8192x4096 .f32) (X4 : FVec Ideal S8192x1024 .f32)

/-- Row `r` of the stream. -/
abbrev row (r : Fin 8192) : Fin 1024 → EReal := fun k => X0 (ix2 r k)
/-- Row `r` of the cotangent of the normalised stream. -/
abbrev ct (r : Fin 8192) : Fin 1024 → EReal := fun k => dyn X2 X3 r k * X1 (ix2 0 k)

theorem v6_at (r : Fin 8192) (z : Fin 1) : val_main_v6 (F := Ideal) X0 (ix2 r z) = ms (row X0 r) := by
  pointwise [val_main_v6, val_main_v4, val_main_v5, val_main_v3, val_main_v2, val_main_v1, val_main_v0, val_main_cst,
    val_main_cst_0, val_main_cst_1]
  rfl
theorem v7_at (r : Fin 8192) (z : Fin 1) : val_main_v7 (F := Ideal) X0 (ix2 r z) = rs (row X0 r) := by
  rw [val_main_v7_apply, v6_at]; rfl
theorem v10_at (r : Fin 8192) (z : Fin 1) : val_main_v10 (F := Ideal) X0 (ix2 r z) = cH * Ideal.div (rs (row X0 r)) (ms (row X0 r)) := by
  pointwise [val_main_v10, val_main_v9, val_main_v8, val_main_cst_2, v6_at, v7_at]
theorem v16_at (r : Fin 8192) (j : Fin 1024) : val_main_v16 (F := Ideal) X2 X3 (ix2 r j) = dyn X2 X3 r j := by
  pointwise [val_main_v16]; rfl
theorem v21_at (r : Fin 8192) (j : Fin 1024) : val_main_v21 (F := Ideal) X1 X2 X3 (ix2 r j) = ct X1 X2 X3 r j := by
  pointwise [val_main_v21, val_main_v20, v16_at]
theorem v24_at (r : Fin 8192) (z : Fin 1) : val_main_v24 (F := Ideal) X0 X1 X2 X3 (ix2 r z)
    = ∑ k, row X0 r k * ct X1 X2 X3 r k := by
  pointwise [val_main_v24, val_main_v23, val_main_v22, val_main_cst_4, v21_at]
theorem v30_at (r : Fin 8192) (z : Fin 1) : val_main_v30 (F := Ideal) X0 X1 X2 X3 (ix2 r z)
    = corr (row X0 r) (ct X1 X2 X3 r) := by
  pointwise [val_main_v30, val_main_v29, val_main_v28, val_main_cst_5, v24_at, v10_at]; rfl
theorem v32_at (r : Fin 8192) (j : Fin 1024) : val_main_v32 (F := Ideal) X0 X1 X2 X3 (ix2 r j)
    = corr (row X0 r) (ct X1 X2 X3 r) := by
  pointwise [val_main_v32, val_main_v31, val_main_cst_6, v30_at]
  exact Fin.sum_univ_one _
theorem v36_at (r : Fin 8192) (j : Fin 1024) : val_main_v36 (F := Ideal) X0 X1 X2 X3 X4 (ix2 r j) = GX X0 X1 X2 X3 X4 r j := by
  have e : val_main_v36 (F := Ideal) X0 X1 X2 X3 X4 (ix2 r j)
      = ((X4 (ix2 r j) + ct X1 X2 X3 r j * rs (row X0 r)) + row X0 r j * corr (row X0 r) (ct X1 X2 X3 r))
        + corr (row X0 r) (ct X1 X2 X3 r) * row X0 r j := by
    pointwise [val_main_v36, val_main_v35, val_main_v34, val_main_v33, val_main_v27, val_main_v26, val_main_v25, v32_at,
      v21_at, v7_at]
  rw [e, norm_bwd]; rfl
theorem v37_at (r : Fin 8192) (j : Fin 1024) : val_main_v37 (F := Ideal) X0 X1 X2 X3 X4 (ix2 r j) = GX X0 X1 X2 X3 X4 r j :=
  v36_at X0 X1 X2 X3 X4 r j
theorem v19_at (z : Fin 1) (j : Fin 1024) : val_main_v19 (F := Ideal) X0 X2 X3 (ix2 z j) = GN X0 X2 X3 j := by
  pointwise [val_main_v19, val_main_v18, val_main_v17, val_main_v12, val_main_v11, val_main_cst_3, v16_at, v7_at]
  exact Finset.sum_congr rfl fun r _ => mul_comm _ _

end Cert.UpDxRefIdeal.Value
-- ==== Proof.UpClaim.lean ====
/- The claims about the kernel of the gradient of the MLP's norm: the reference's frame, and the equality of the two
   programs' results. -/
module

public import proofs.«01_k».proof.Defs
public import proofs.«01_k».proof.Proof.UpVal
public import proofs.«01_k».proof.Proof.UpRef
public import Idealize.ShloMosaic.Lib.Quiescent

@[expose] public section

noncomputable section

namespace Cert.Proof

open Idealize.ShloMosaic Idealize.ShloMosaic.TcCoe Idealize.SL.Sem

attribute [local instance] Cert.UpDxIdeal.Gen.facts Cert.UpDxRefIdeal.Gen.facts

theorem up_frame_ref : Cert.quiescent_UpDxRefIdeal := fun m ρ _ =>
  (θ_run _ _ _).mono (fun r h => ⟨fun c => (h c).2.2.2, sem_eq_zero_of_no_sems (by decide) _⟩)
    (Cert.UpDxRefIdeal.Value.run m ρ)

theorem up_algebraic : Cert.algebraic_UpDxIdeal_UpDxRefIdeal := by
  intro m ρ m' ρ' hpre hag
  refine ⟨fun c => (Cert.UpDxIdeal.Gen.dats m 0 c).arrAt 5 (Cert.UpDxIdeal.cfgs 0).N,
    fun c => (Cert.UpDxIdeal.Gen.dats m 0 c).arrAt 6 (Cert.UpDxIdeal.cfgs 0).N,
    fun c => (Cert.UpDxIdeal.Gen.dats m 0 c).arrAt 7 (Cert.UpDxIdeal.cfgs 0).N,
    Cert.UpDxIdeal.Value.run_blocks m ρ, (θ_run _ _ _).mono (fun r h c => ?_) (Cert.UpDxRefIdeal.Value.run m' ρ')⟩
  obtain ⟨h0, h1, h2, h3⟩ := h c
  obtain ⟨a0, a1, a2, a3, a4⟩ := hag c
  refine ⟨h0.trans ?_, h1.trans ?_, h2.trans ?_, h3⟩
  · refine Eq.trans ?_ (Cert.UpDxIdeal.Value.final5 m c).symm
    rw [Cert.UpDxRefIdeal.Read.val_main_v36_eq, a0, a1, a2, a3, a4]
    funext i
    rw [Idealize.ShloMosaic.eq_ix2 i]
    exact Cert.UpDxRefIdeal.Value.v36_at _ _ _ _ _ _ _
  · refine Eq.trans ?_ (Cert.UpDxIdeal.Value.final6 m c).symm
    rw [Cert.UpDxRefIdeal.Read.val_main_v37_eq, a0, a1, a2, a3, a4]
    funext i
    rw [Idealize.ShloMosaic.eq_ix2 i]
    exact Cert.UpDxRefIdeal.Value.v37_at _ _ _ _ _ _ _
  · refine Eq.trans ?_ (Cert.UpDxIdeal.Value.final7 m c).symm
    rw [Cert.UpDxRefIdeal.Read.val_main_v19_eq, a0, a2, a3]
    funext i
    rw [Idealize.ShloMosaic.eq_ix2 i]
    exact Cert.UpDxRefIdeal.Value.v19_at _ _ _ _ _

end Cert.Proof

end
-- ==== Proof.InMath.lean ====
/- The two parts the input projection's 3104 columns are held in, and a sum over all columns as the sums over the parts. -/
module

public import Idealize.ShloMosaic.PureOps.Ideal
public import Mathlib.Algebra.BigOperators.Fin
public import Mathlib.Algebra.BigOperators.Intervals

@[expose] public section

noncomputable section

namespace Cert.In

/-- The column of the first part's entry `k`: columns 0 to 1535, then 2560 to 3071. -/
def colA (k : Fin 2048) : Fin 3104 := ⟨if k.val < 1536 then k.val else k.val + 1024, by split <;> omega⟩
/-- The column of the second part's entry `k`: columns 1536 to 2559, then 3072 to 3103; the entries from 1056 on are padding. -/
def colB (k : Fin 1152) : Fin 3104 :=
  ⟨if k.val < 1024 then 1536 + k.val else if k.val < 1056 then k.val + 2048 else 0, by split_ifs <;> omega⟩

theorem colA_lo {k : Fin 2048} (h : k.val < 1536) : colA k = ⟨k.val, by omega⟩ := Fin.ext (by simp [colA, h])
theorem colA_hi {k : Fin 2048} (h : ¬k.val < 1536) : colA k = ⟨k.val + 1024, by omega⟩ := Fin.ext (by simp [colA, h])
theorem colB_lo {k : Fin 1152} (h : k.val < 1024) : colB k = ⟨1536 + k.val, by omega⟩ := Fin.ext (by simp [colB, h])
theorem colB_hi {k : Fin 1152} (h : ¬k.val < 1024) (h' : k.val < 1056) : colB k = ⟨k.val + 2048, by omega⟩ :=
  Fin.ext (by simp [colB, h, h'])

theorem sum_parts (f : Fin 3104 → EReal) :
    (∑ k : Fin 2048, f (colA k)) + (∑ k : Fin 1152, if k.val < 1056 then f (colB k) else 0) = ∑ k : Fin 3104, f k := by
  let g : ℕ → EReal := fun n => if h : n < 3104 then f ⟨n, h⟩ else 0
  have hg : ∀ k : Fin 3104, f k = g k.val := fun k => by simp [g]
  have e0 : ∑ k : Fin 3104, f k = ∑ n ∈ Finset.range 3104, g n := by
    rw [← Fin.sum_univ_eq_sum_range]; exact Finset.sum_congr rfl fun k _ => hg k
  have e1 : ∑ k : Fin 2048, f (colA k) = ∑ n ∈ Finset.range (1536 + 512), g (if n < 1536 then n else n + 1024) := by
    rw [← Fin.sum_univ_eq_sum_range (fun n => g (if n < 1536 then n else n + 1024))]
    exact Finset.sum_congr rfl fun k _ => hg _
  have e2 : (∑ k : Fin 1152, if k.val < 1056 then f (colB k) else 0)
      = ∑ n ∈ Finset.range (1024 + (32 + 96)),
          (if n < 1056 then g (if n < 1024 then 1536 + n else if n < 1056 then n + 2048 else 0) else 0) := by
    rw [← Fin.sum_univ_eq_sum_range (fun n =>
      (if n < 1056 then g (if n < 1024 then 1536 + n else if n < 1056 then n + 2048 else 0) else 0))]
    exact Finset.sum_congr rfl fun k _ => by rw [hg]; rfl
  rw [e0, e1, e2, Finset.sum_range_add, Finset.sum_range_add _ 1024, Finset.sum_range_add _ 32,
    show (3104 : ℕ) = 1536 + (1024 + (512 + 32)) from rfl, Finset.sum_range_add _ 1536, Finset.sum_range_add _ 1024,
    Finset.sum_range_add _ 512]
  have p1 : ∑ n ∈ Finset.range 1536, g (if n < 1536 then n else n + 1024) = ∑ n ∈ Finset.range 1536, g n :=
    Finset.sum_congr rfl fun n hn => by rw [if_pos (Finset.mem_range.1 hn)]
  have p2 : ∑ n ∈ Finset.range 512, g (if 1536 + n < 1536 then 1536 + n else 1536 + n + 1024)
      = ∑ n ∈ Finset.range 512, g (1536 + (1024 + n)) :=
    Finset.sum_congr rfl fun n hn => by rw [if_neg (by omega)]; congr 1; omega
  have p3 : ∑ n ∈ Finset.range 1024, (if n < 1056 then g (if n < 1024 then 1536 + n else if n < 1056 then n + 2048 else 0) else 0)
      = ∑ n ∈ Finset.range 1024, g (1536 + n) :=
    Finset.sum_congr rfl fun n hn => by
      have := Finset.mem_range.1 hn
      rw [if_pos (by omega), if_pos this]
  have p4 : ∑ n ∈ Finset.range 32, (if 1024 + n < 1056 then
        g (if 1024 + n < 1024 then 1536 + (1024 + n) else if 1024 + n < 1056 then 1024 + n + 2048 else 0) else 0)
      = ∑ n ∈ Finset.range 32, g (1536 + (1024 + (512 + n))) :=
    Finset.sum_congr rfl fun n hn => by
      have := Finset.mem_range.1 hn
      rw [if_pos (by omega), if_neg (by omega), if_pos (by omega)]; congr 1; omega
  have p5 : ∑ n ∈ Finset.range 96, (if 1024 + (32 + n) < 1056 then
        g (if 1024 + (32 + n) < 1024 then 1536 + (1024 + (32 + n)) else if 1024 + (32 + n) < 1056 then 1024 + (32 + n) + 2048 else 0) else 0)
      = 0 := Finset.sum_eq_zero fun n hn => if_neg (by omega)
  rw [p1, p2, p3, p4, p5, add_zero]
  abel

end Cert.In
-- ==== Proof.InDxVal.lean ====
/- The arrays the input projection's backward kernel leaves, as functions of the arguments. -/
module

public import proofs.«01_k».proof.Proof.UpVal
public import proofs.«01_k».proof.Proof.InMath
public import proofs.«01_k».proof.Proof.Gen.InDxIdeal.Value
public import Idealize.ShloMosaic.Lib.Pipeline.ValueKit

@[expose] public section

set_option maxRecDepth 16384

noncomputable section

namespace Cert.InDxIdeal.Value

open Cert.InDxIdeal Cert.InDxIdeal.Gen Idealize.ShloMosaic Idealize.ShloMosaic.TcCoe Idealize.SL.Sem
open Cert.Norm Cert.In
open Cert.UpDxIdeal.Value (gx)

variable (m : (ℓ : Loc nD τ sig) → Buf (Elt Ideal) ℓ) (c : Dev nD)

/-- The residual stream, the norm's gain, the weights, and the cotangents of the product and of the stream. -/
abbrev X : FVec Ideal S8192x1024 .f32 := m ((c : Thread nD τ).loc main_arg0)
abbrev N : FVec Ideal S1x1024 .f32 := m ((c : Thread nD τ).loc main_arg1)
abbrev W : FVec Ideal S1024x3104 .f32 := m ((c : Thread nD τ).loc main_arg2)
abbrev DU : FVec Ideal S8192x3104 .f32 := m ((c : Thread nD τ).loc main_arg3)
abbrev DX : FVec Ideal S8192x1024 .f32 := m ((c : Thread nD τ).loc main_arg4)

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![0, 0] ∧ win0_7.index t = ![t.val, 0] ∧ win0_8.index t = ![0, 0] :=
  (by decide +kernel : ∀ t : Fin grid0.N, _)

/-! The payloads of the two halves of a tile, read at an entry. -/

section pay

variable (w : Vec Ideal S2048x1024 .bf16) (u : Vec Ideal S256x2048 .bf16) (v : Vec Ideal S256x1152 .bf16)
  (w' : Vec Ideal S1152x1024 .bf16) (x d : Vec Ideal S256x1024 .f32) (g : Vec Ideal S1x1024 .f32)

/-- Row `r` of the norm's cotangent: the product's cotangent, in two parts, times the weights' transpose. -/
def dy (u : Fin 2048 → EReal) (w : Vec Ideal S2048x1024 .bf16) (v : Fin 1152 → EReal) (w' : Vec Ideal S1152x1024 .bf16)
    (j : Fin 1024) : EReal :=
  (∑ k : Fin 2048, u k * w (ix2 k j)) + ∑ k : Fin 1152, v k * w' (ix2 k j)

theorem pay5_at (r : Fin 256) (j : Fin 1024) : k0_pay5 w u v w' (ix2 r j) = dy (fun k => u (ix2 r k)) w (fun k => v (ix2 r k)) w' j := by
  pointwise [k0_pay5, k0_pay4]
  rfl
theorem pay6_at (r : Fin 256) (z : Fin 1) : k0_pay6 x (ix2 r z) = rs (fun k => x (ix2 r k)) := by
  pointwise [k0_pay6]; rfl
theorem pay7_at (r : Fin 256) (j : Fin 1024) : k0_pay7 x (ix2 r j) = x (ix2 r j) * rs (fun k => x (ix2 r k)) := by
  pointwise [k0_pay7, pay6_at]
theorem pay11_at (r : Fin 256) (j : Fin 1024) : k0_pay11 (k0_pay4 w) u v w' (ix2 r j)
    = dy (fun k => u (ix2 r k)) w (fun k => v (ix2 r k)) w' j := pay5_at w u v w' r j
theorem pay13_at (r : Fin 256) (j : Fin 1024) : k0_pay13 x (ix2 r j) = x (ix2 r j) * rs (fun k => x (ix2 r k)) := pay7_at x r j

theorem pay8_at (r : Fin 256) (j : Fin 1024) : k0_pay8 w u v w' x d g (ix2 r j)
    = gx (fun k => x (ix2 r k)) (fun k => dy (fun k => u (ix2 r k)) w (fun k => v (ix2 r k)) w' k * g (ix2 0 k)) (d (ix2 r j)) j := by
  pointwise [k0_pay8, pay5_at, pay6_at, pay7_at]
  rfl
theorem pay1_at (r : Fin 256) (j : Fin 1024) : k0_pay1 d (k0_pay14 (k0_pay4 w) u v w' x g) (ix2 r j)
    = gx (fun k => x (ix2 r k)) (fun k => dy (fun k => u (ix2 r k)) w (fun k => v (ix2 r k)) w' k * g (ix2 0 k)) (d (ix2 r j)) j :=
  pay8_at w u v w' x d g r j
theorem pay10_at (z : Fin 1) (j : Fin 1024) : k0_pay10 (k0_pay9 w u v w' x) (ix2 z j)
    = ∑ r : Fin 256, dy (fun k => u (ix2 r k)) w (fun k => v (ix2 r k)) w' j * (x (ix2 r j) * rs (fun k => x (ix2 r k))) := by
  pointwise [k0_pay10, k0_pay9, pay5_at, pay7_at]
theorem pay2_at (q : FVec Ideal S1x1024 .f32) (z : Fin 1) (j : Fin 1024) :
    k0_pay2 q (k0_pay11 (k0_pay4 w) u v w') (k0_pay13 x) (ix2 z j)
    = q (ix2 z j) + ∑ r : Fin 256, dy (fun k => u (ix2 r k)) w (fun k => v (ix2 r k)) w' j * (x (ix2 r j) * rs (fun k => x (ix2 r k))) := by
  pointwise [k0_pay2, pay11_at, pay13_at]

end pay

section tile

variable (u : Vec Ideal S512x2048 .bf16) (w : Vec Ideal S2048x1024 .bf16) (v : Vec Ideal S512x1152 .bf16)
  (w' : Vec Ideal S1152x1024 .bf16) (x d : Vec Ideal S512x1024 .f32) (g : Vec Ideal S1x1024 .f32)

/-- An entry of the stream's gradient over a tile of 512 rows. -/
def gxT (r : Fin 512) (j : Fin 1024) : EReal :=
  gx (fun k => x (ix2 r k)) (fun k => dy (fun k => u (ix2 r k)) w (fun k => v (ix2 r k)) w' k * g (ix2 0 k)) (d (ix2 r j)) j
/-- A row's part of the gain's gradient, and the tile's. -/
def gn1 (r : Fin 512) (j : Fin 1024) : EReal :=
  dy (fun k => u (ix2 r k)) w (fun k => v (ix2 r k)) w' j * (x (ix2 r j) * rs (fun k => x (ix2 r k)))
def gnT (j : Fin 1024) : EReal := ∑ r : Fin 512, gn1 u w v w' x r j

abbrev u0 := View.ld u (Rect.unit ![0, 0] ![256, 2048] inb_S512x2048_S256x2048_0_0)
abbrev u1 := View.ld u (Rect.unit ![256, 0] ![256, 2048] inb_S512x2048_S256x2048_256_0)
abbrev v0 := View.ld v (Rect.unit ![0, 0] ![256, 1152] inb_S512x1152_S256x1152_0_0)
abbrev v1 := View.ld v (Rect.unit ![256, 0] ![256, 1152] inb_S512x1152_S256x1152_256_0)
abbrev x0 := View.ld x (Rect.unit ![0, 0] ![256, 1024] inb_S512x1024_S256x1024_0_0)
abbrev x1 := View.ld x (Rect.unit ![256, 0] ![256, 1024] inb_S512x1024_S256x1024_256_0)

theorem u0_at (r : Fin 256) (k : Fin 2048) : u0 u (ix2 r k) = u (ix2 ⟨r.val, by omega⟩ k) := by pointwise [u0]
theorem u1_at (r : Fin 256) (k : Fin 2048) : u1 u (ix2 r k) = u (ix2 ⟨256 + r.val, by omega⟩ k) := by pointwise [u1]
theorem v0_at (r : Fin 256) (k : Fin 1152) : v0 v (ix2 r k) = v (ix2 ⟨r.val, by omega⟩ k) := by pointwise [v0]
theorem v1_at (r : Fin 256) (k : Fin 1152) : v1 v (ix2 r k) = v (ix2 ⟨256 + r.val, by omega⟩ k) := by pointwise [v1]
theorem x0_at (r : Fin 256) (k : Fin 1024) : x0 x (ix2 r k) = x (ix2 ⟨r.val, by omega⟩ k) := by pointwise [x0]
theorem x1_at (r : Fin 256) (k : Fin 1024) : x1 x (ix2 r k) = x (ix2 ⟨256 + r.val, by omega⟩ k) := by pointwise [x1]

theorem lo_at (r : Fin 256) (j : Fin 1024) : k0_pay8 w (u0 u) (v0 v) w' (x0 x) (x0 d) g (ix2 r j)
    = gxT u w v w' x d g ⟨r.val, by omega⟩ j := by
  rw [pay8_at, gxT, x0_at]
  simp only [fun k => x0_at x r k, fun k => u0_at u r k, fun k => v0_at v r k]
theorem hi_at (r : Fin 256) (j : Fin 1024) : k0_pay1 (x1 d) (k0_pay14 (k0_pay4 w) (u1 u) (v1 v) w' (x1 x) g) (ix2 r j)
    = gxT u w v w' x d g ⟨256 + r.val, by omega⟩ j := by
  rw [pay1_at, gxT, x1_at]
  simp only [fun k => x1_at x r k, fun k => u1_at u r k, fun k => v1_at v r k]

theorem canon7 (y : S512x1024.Idx) : (View.canon
      [⟨Rect.unit ![256, 0] ![256, 1024] inb_S512x1024_S256x1024_256_0, k0_pay1 (x1 d) (k0_pay14 (k0_pay4 w) (u1 u) (v1 v) w' (x1 x) g)⟩,
        ⟨Rect.unit ![0, 0] ![256, 1024] inb_S512x1024_S256x1024_0_0, k0_pay8 w (u0 u) (v0 v) w' (x0 x) (x0 d) g⟩] : Vec Ideal S512x1024 .f32) y
    = gxT u w v w' x d g (y 0) (y 1) := by
  canon_tiles z h
  all_goals (obtain ⟨r, j, rfl⟩ : ∃ (r : Fin 256) (j : Fin 1024), z = ix2 r j := ⟨z 0, z 1, by ext k; fin_cases k <;> rfl⟩)
  · rw [hi_at, show y 0 = (⟨256 + r.val, by omega⟩ : Fin 512) from Fin.ext h0, show y 1 = j from Fin.ext h1]
  · rw [lo_at, show y 0 = (⟨r.val, by omega⟩ : Fin 512) from Fin.ext (by simpa using h0), show y 1 = j from Fin.ext h1]

/-- The tile's part of the gain's gradient, as the kernel computes it. -/
abbrev gk : FVec Ideal S1x1024 .f32 :=
  k0_pay2 (k0_pay10 (k0_pay9 w (u0 u) (v0 v) w' (x0 x))) (k0_pay11 (k0_pay4 w) (u1 u) (v1 v) w') (k0_pay13 (x1 x))

theorem gain (j : Fin 1024) (z : Fin 1) : gk u w v w' x (ix2 z j) = gnT u w v w' x j := by
  rw [gk, pay2_at, pay10_at, gnT, Fin.sum_univ_tiles 2 256 rfl, Fin.sum_univ_two]
  refine congrArg₂ _ (Finset.sum_congr rfl fun r _ => ?_) (Finset.sum_congr rfl fun r _ => ?_)
  · simp only [gn1, fun k => x0_at x r k, fun k => u0_at u r k, fun k => v0_at v r k]
    congr! <;> simp
  · simp only [fun k => x1_at x r k, fun k => u1_at u r k, fun k => v1_at v r k]
    rfl

end tile

theorem concat_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

/-- The cotangent and the transposed weights in the kernel's format. -/
abbrev Zc : FVec Ideal S8192x3104 .bf16 := truncf .bf16 (DU m c) bitsLt_bf16_f32
abbrev Wc : FVec Ideal S3104x1024 .bf16 := transpose S3104x1024 [1, 0] (truncf .bf16 (W m c) bitsLt_bf16_f32) transposes_S1024x3104_S3104x1024_1_0

theorem V_v3 : (V m c main_v3 : FVec Ideal S8192x2048 .bf16) = concatenate S8192x2048 1
    [⟨S8192x1536, extractStridedSlice S8192x1536 ![0, 0] (Zc m c) slices_S8192x3104_S8192x1536_0_0⟩,
     ⟨S8192x512, extractStridedSlice S8192x512 ![0, 2560] (Zc m c) slices_S8192x3104_S8192x512_0_2560⟩]
    concatenates_S8192x1536_S8192x512_S8192x2048_d1 := by
  change StableHlo.after hostOps0 _ _ = _
  simp only [StableHlo.after_cons, StableHlo.after_nil]
  after_results_simp
  refine concat_congr _ ?_ ?_
  · after_results_simp
  · after_results_simp
theorem V_v8 : (V m c main_v8 : FVec Ideal S8192x1152 .bf16) = concatenate S8192x1152 1
    [⟨S8192x1024, extractStridedSlice S8192x1024 ![0, 1536] (Zc m c) slices_S8192x3104_S8192x1024_0_1536⟩,
     ⟨S8192x128, concatenate S8192x128 1
       [⟨S8192x32, extractStridedSlice S8192x32 ![0, 3072] (Zc m c) slices_S8192x3104_S8192x32_0_3072⟩,
        ⟨S8192x96, broadcastInDim S8192x96 ![] bcast_S_S8192x96 (constant (F := Ideal) S_ .bf16 0x0000#16)⟩]
       concatenates_S8192x32_S8192x96_S8192x128_d1⟩]
    concatenates_S8192x1024_S8192x128_S8192x1152_d1 := by
  change StableHlo.after hostOps0 _ _ = _
  simp only [StableHlo.after_cons, StableHlo.after_nil]
  after_results_simp
  refine concat_congr _ ?_ ?_
  · after_results_simp
  · after_results_simp
    refine concat_congr _ ?_ ?_
    · after_results_simp
    · after_results_simp
theorem V_v13 : (V m c main_v13 : FVec Ideal S2048x1024 .bf16) = concatenate S2048x1024 0
    [⟨S1536x1024, extractStridedSlice S1536x1024 ![0, 0] (Wc m c) slices_S3104x1024_S1536x1024_0_0⟩,
     ⟨S512x1024, extractStridedSlice S512x1024 ![2560, 0] (Wc m c) slices_S3104x1024_S512x1024_2560_0⟩]
    concatenates_S1536x1024_S512x1024_S2048x1024_d0 := by
  change StableHlo.after hostOps0 _ _ = _
  simp only [StableHlo.after_cons, StableHlo.after_nil]
  after_results_simp
  refine concat_congr _ ?_ ?_
  · after_results_simp
  · after_results_simp
theorem V_v18 : (V m c main_v18 : FVec Ideal S1152x1024 .bf16) = concatenate S1152x1024 0
    [⟨S1024x1024, extractStridedSlice S1024x1024 ![1536, 0] (Wc m c) slices_S3104x1024_S1024x1024_1536_0⟩,
     ⟨S128x1024, concatenate S128x1024 0
       [⟨S32x1024, extractStridedSlice S32x1024 ![3072, 0] (Wc m c) slices_S3104x1024_S32x1024_3072_0⟩,
        ⟨S96x1024, broadcastInDim S96x1024 ![] bcast_S_S96x1024 (constant (F := Ideal) S_ .bf16 0x0000#16)⟩]
       concatenates_S32x1024_S96x1024_S128x1024_d0⟩]
    concatenates_S1024x1024_S128x1024_S1152x1024_d0 := by
  change StableHlo.after hostOps0 _ _ = _
  simp only [StableHlo.after_cons, StableHlo.after_nil]
  after_results_simp
  refine concat_congr _ ?_ ?_
  · after_results_simp
  · after_results_simp
    refine concat_congr _ ?_ ?_
    · after_results_simp
    · after_results_simp

theorem dza_at (r : Fin 8192) (k : Fin 2048) :
    (V m c main_v3 : FVec Ideal S8192x2048 .bf16) (ix2 r k) = DU m c (ix2 r (colA k)) := by
  rw [V_v3]
  by_cases h0 : k.val < 1536
  · rw [colA_lo h0]; pointwise [h0]
  · rw [colA_hi h0]; pointwise [h0]
    exact congrArg _ (congrArg (ix2 r) (Fin.ext (by simp; omega)))
theorem dzb_at (r : Fin 8192) (k : Fin 1152) :
    (V m c main_v8 : FVec Ideal S8192x1152 .bf16) (ix2 r k) = if k.val < 1056 then DU m c (ix2 r (colB k)) else 0 := by
  rw [V_v8]
  by_cases h0 : k.val < 1024
  · have h1 : k.val < 1056 := by omega
    rw [colB_lo h0, if_pos h1]; pointwise [h0]
  by_cases h1 : k.val < 1056
  · have h2 : k.val - 1024 < 32 := by omega
    rw [colB_hi h0 h1, if_pos h1]; pointwise [h0, h2]
    exact congrArg _ (congrArg (ix2 r) (Fin.ext (by simp; omega)))
  · have h2 : ¬k.val - 1024 < 32 := by omega
    rw [if_neg h1]; pointwise [h0, h2]
theorem wza_at (k : Fin 2048) (j : Fin 1024) :
    (V m c main_v13 : FVec Ideal S2048x1024 .bf16) (ix2 k j) = W m c (ix2 j (colA k)) := by
  rw [V_v13]
  by_cases h0 : k.val < 1536
  · rw [colA_lo h0]; pointwise [h0]
  · rw [colA_hi h0]; pointwise [h0]
    exact congrArg _ (congrArg (ix2 j) (Fin.ext (by simp; omega)))
theorem wzb_at (k : Fin 1152) (j : Fin 1024) :
    (V m c main_v18 : FVec Ideal S1152x1024 .bf16) (ix2 k j) = if k.val < 1056 then W m c (ix2 j (colB k)) else 0 := by
  rw [V_v18]
  by_cases h0 : k.val < 1024
  · have h1 : k.val < 1056 := by omega
    rw [colB_lo h0, if_pos h1]; pointwise [h0]
  by_cases h1 : k.val < 1056
  · have h2 : k.val - 1024 < 32 := by omega
    rw [colB_hi h0 h1, if_pos h1]; pointwise [h0, h2]
    exact congrArg _ (congrArg (ix2 j) (Fin.ext (by simp; omega)))
  · have h2 : ¬k.val - 1024 < 32 := by omega
    rw [if_neg h1]; pointwise [h0, h2]

variable (t : Fin cfg0.N)

theorem blk0 (r : Fin 512) (k : Fin 2048) (h : t.val * 512 + r.val < 8192) :
    (iblk m c 0 t : Vec Ideal S512x2048 .bf16) (ix2 r k) = DU m c (ix2 ⟨t.val * 512 + r.val, h⟩ (colA k)) := by
  refine Eq.trans ?_ (dza_at m c _ _)
  blk_simp [iblk]
  exact congrArg _ (by blk_ext [idx t])
theorem blk1 (k : Fin 2048) (j : Fin 1024) :
    (iblk m c 1 t : Vec Ideal S2048x1024 .bf16) (ix2 k j) = W m c (ix2 j (colA k)) := by
  refine Eq.trans ?_ (wza_at m c _ _)
  blk_simp [iblk]
  exact congrArg _ (by blk_ext [idx t])
theorem blk2 (r : Fin 512) (k : Fin 1152) (h : t.val * 512 + r.val < 8192) :
    (iblk m c 2 t : Vec Ideal S512x1152 .bf16) (ix2 r k)
      = if k.val < 1056 then DU m c (ix2 ⟨t.val * 512 + r.val, h⟩ (colB k)) else 0 := by
  refine Eq.trans ?_ (dzb_at m c _ _)
  blk_simp [iblk]
  exact congrArg _ (by blk_ext [idx t])
theorem blk3 (k : Fin 1152) (j : Fin 1024) :
    (iblk m c 3 t : Vec Ideal S1152x1024 .bf16) (ix2 k j) = if k.val < 1056 then W m c (ix2 j (colB k)) else 0 := by
  refine Eq.trans ?_ (wzb_at m c _ _)
  blk_simp [iblk]
  exact congrArg _ (by blk_ext [idx t])
theorem blk4 (r : Fin 512) (k : Fin 1024) (h : t.val * 512 + r.val < 8192) :
    (iblk m c 4 t : Vec Ideal S512x1024 .f32) (ix2 r k) = X m c (ix2 ⟨t.val * 512 + r.val, h⟩ k) := by
  blk_point [iblk, V, idx t]
theorem blk5 (r : Fin 512) (k : Fin 1024) (h : t.val * 512 + r.val < 8192) :
    (iblk m c 5 t : Vec Ideal S512x1024 .f32) (ix2 r k) = DX m c (ix2 ⟨t.val * 512 + r.val, h⟩ k) := by
  blk_point [iblk, V, idx t]
theorem blk6 (z : Fin 1) (k : Fin 1024) :
    (iblk m c 6 t : Vec Ideal S1x1024 .f32) (ix2 z k) = N m c (ix2 z k) := by
  blk_point [iblk, V, idx t]

/-- The norm's cotangent, from the product's cotangent and the weights. -/
def dyn (W : FVec Ideal S1024x3104 .f32) (DU : FVec Ideal S8192x3104 .f32) (r : Fin 8192) (j : Fin 1024) : EReal :=
  ∑ k : Fin 3104, DU (ix2 r k) * W (ix2 j k)
/-- The stream's gradient. -/
def GX (X : FVec Ideal S8192x1024 .f32) (N : FVec Ideal S1x1024 .f32) (W : FVec Ideal S1024x3104 .f32)
    (DU : FVec Ideal S8192x3104 .f32) (DX : FVec Ideal S8192x1024 .f32) (r : Fin 8192) (j : Fin 1024) : EReal :=
  gx (fun k => X (ix2 r k)) (fun k => dyn W DU r k * N (ix2 0 k)) (DX (ix2 r j)) j
/-- A row's part of the gain's gradient, and the gain's gradient. -/
def GN1 (X : FVec Ideal S8192x1024 .f32) (W : FVec Ideal S1024x3104 .f32) (DU : FVec Ideal S8192x3104 .f32)
    (r : Fin 8192) (j : Fin 1024) : EReal :=
  dyn W DU r j * (X (ix2 r j) * rs (fun k => X (ix2 r k)))
def GN (X : FVec Ideal S8192x1024 .f32) (W : FVec Ideal S1024x3104 .f32) (DU : FVec Ideal S8192x3104 .f32) (j : Fin 1024) : EReal :=
  ∑ r : Fin 8192, GN1 X W DU r j

theorem dy_blk (r : Fin 512) (j : Fin 1024) (h : t.val * 512 + r.val < 8192) :
    dy (fun k => (iblk m c 0 t : Vec Ideal S512x2048 .bf16) (ix2 r k)) (iblk m c 1 t)
      (fun k => (iblk m c 2 t : Vec Ideal S512x1152 .bf16) (ix2 r k)) (iblk m c 3 t) j
      = dyn (W m c) (DU m c) ⟨t.val * 512 + r.val, h⟩ j := by
  unfold dy dyn
  rw [← sum_parts]
  refine congrArg₂ _ (Finset.sum_congr rfl fun k _ => ?_) (Finset.sum_congr rfl fun k _ => ?_)
  · exact congrArg₂ _ (blk0 m c t r k h) (blk1 ..)
  · refine (congrArg₂ _ (blk2 m c t r k h) (blk3 ..)).trans ?_
    by_cases h1 : k.val < 1056
    · simp only [if_pos h1]
    · simp only [if_neg h1, mul_zero]

theorem gxT_blk (r : Fin 512) (j : Fin 1024) (h : t.val * 512 + r.val < 8192) :
    gxT (iblk m c 0 t) (iblk m c 1 t) (iblk m c 2 t) (iblk m c 3 t) (iblk m c 4 t) (iblk m c 5 t) (iblk m c 6 t) r j
      = GX (X m c) (N m c) (W m c) (DU m c) (DX m c) ⟨t.val * 512 + r.val, h⟩ j := by
  unfold gxT GX
  simp only [fun k => blk4 m c t r k h, fun k => blk5 m c t r k h, fun k => blk6 m c t 0 k, fun j => dy_blk m c t r j h]

theorem gn1_blk (j : Fin 1024) (r : Fin 512) (h : t.val * 512 + r.val < 8192) :
    gn1 (iblk m c 0 t) (iblk m c 1 t) (iblk m c 2 t) (iblk m c 3 t) (iblk m c 4 t) r j = GN1 (X m c) (W m c) (DU m c) ⟨t.val * 512 + r.val, h⟩ j := by
  unfold gn1 GN1
  simp only [fun k => blk4 m c t r k h, dy_blk m c t r j h]

theorem emb7 (r : Fin 512) (j : Fin 1024) (h : t.val * 512 + r.val < 8192) :
    (win0_7.blk t).view.emb (ix2 r j) = ix2 ⟨t.val * 512 + r.val, h⟩ j := by blk_ext [idx t]

theorem out7 (y : S512x1024.Idx) : (outsAt0 m c t.val t.isLt).1 y
    = gxT (iblk m c 0 t) (iblk m c 1 t) (iblk m c 2 t) (iblk m c 3 t) (iblk m c 4 t) (iblk m c 5 t) (iblk m c 6 t) (y 0) (y 1) := by
  have hN : t.val < 16 := lt_of_lt_of_le t.isLt (le_of_eq N_0)
  refine Eq.trans ?_ (canon7 ..)
  refine congrFun ?_ y
  by_cases h0 : t.val % 16 = 0
  · rw [outsAt0_A m c t h0 (by omega)]; frame_out
  · rw [outsAt0_B m c t h0 (by omega)]; frame_out

theorem final7 : (dats m 0 c).arrAt 7 cfg0.N
    = (fun i => GX (X m c) (N m c) (W m c) (DU m c) (DX m c) (i 0) (i 1) : FVec Ideal S8192x1024 .f32) := by
  refine (dats m 0 c).arrAt_eq_of_covers 7 _ (by decide +kernel) fun t hf y => ?_
  blk_simp
  rw [after0_7]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb7 t r j h]
  exact (out7 m c t _).trans (gxT_blk m c t r j h)
theorem final8 : (dats m 0 c).arrAt 8 cfg0.N
    = (fun i => GN (X m c) (W m c) (DU m c) (i 1) : FVec Ideal S1x1024 .f32) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0)
    (fun t => gk (iblk m c 0 t) (iblk m c 1 t) (iblk m c 2 t) (iblk m c 3 t) (iblk m c 4 t))
    (fun t h j => by
      have hN : t.val < 16 := lt_of_lt_of_le t.isLt (le_of_eq N_0)
      rw [outsAt0_A m c t h (by omega)]; frame_out; rw [zero_add])
    (fun t h j => by rw [outsAt0_B m c t h (by omega)]; frame_out; pointwise [k0_pay3])
    (le_of_eq N_0) t0_15 rfl j, zero_add]
  obtain ⟨z, b, rfl⟩ : ∃ (z : Fin 1) (b : Fin 1024), j = ix2 z b := ⟨j 0, j 1, by ext k; fin_cases k <;> rfl⟩
  refine (Fin.sum_fin_congr fun t => gain _ _ _ _ _ b z).trans ?_
  change _ = ∑ r : Fin 8192, GN1 (X m c) (W m c) (DU m c) r b
  unfold gnT
  exact Fin.sum_mul_add_congr fun t r h => gn1_blk m c t b r h

end Cert.InDxIdeal.Value
-- ==== Proof.InDxRef.lean ====
/- What the reference's gradient of the input projection and its norm computes, read stage by stage at an entry. -/
module

public import proofs.«01_k».proof.Proof.InDxVal
public import proofs.«01_k».proof.Proof.Gen.InDxRefIdeal.Run
public import proofs.«01_k».proof.Proof.Gen.InDxRefIdeal.Read

@[expose] public section

set_option maxRecDepth 16384

noncomputable section

namespace Cert.InDxRefIdeal.Value

open Cert.InDxRefIdeal Cert.InDxRefIdeal.Gen Idealize.ShloMosaic Idealize.ShloMosaic.TcCoe Idealize.SL.Sem
open Cert.InDxRefIdeal.Read Cert.Norm Cert.InDxIdeal.Value

variable (X0 : FVec Ideal S8192x1024 .f32) (X1 : FVec Ideal S1x1024 .f32) (X2 : FVec Ideal S1024x3104 .f32)
  (X3 : FVec Ideal S8192x3104 .f32) (X4 : FVec Ideal S8192x1024 .f32)

/-- Row `r` of the stream. -/
abbrev row (r : Fin 8192) : Fin 1024 → EReal := fun k => X0 (ix2 r k)
/-- Row `r` of the cotangent of the normalised stream. -/
abbrev ct (r : Fin 8192) : Fin 1024 → EReal := fun k => dyn X2 X3 r k * X1 (ix2 0 k)

theorem v6_at (r : Fin 8192) (z : Fin 1) : val_main_v6 (F := Ideal) X0 (ix2 r z) = ms (row X0 r) := by
  pointwise [val_main_v6, val_main_v4, val_main_v5, val_main_v3, val_main_v2, val_main_v1, val_main_v0, val_main_cst,
    val_main_cst_0, val_main_cst_1]
  rfl
theorem v7_at (r : Fin 8192) (z : Fin 1) : val_main_v7 (F := Ideal) X0 (ix2 r z) = rs (row X0 r) := by
  rw [val_main_v7_apply, v6_at]; rfl
theorem v10_at (r : Fin 8192) (z : Fin 1) : val_main_v10 (F := Ideal) X0 (ix2 r z) = cH * Ideal.div (rs (row X0 r)) (ms (row X0 r)) := by
  pointwise [val_main_v10, val_main_v9, val_main_v8, val_main_cst_2, v6_at, v7_at]
theorem v16_at (r : Fin 8192) (j : Fin 1024) : val_main_v16 (F := Ideal) X2 X3 (ix2 r j) = dyn X2 X3 r j := by
  pointwise [val_main_v16]; rfl
theorem v21_at (r : Fin 8192) (j : Fin 1024) : val_main_v21 (F := Ideal) X1 X2 X3 (ix2 r j) = ct X1 X2 X3 r j := by
  pointwise [val_main_v21, val_main_v20, v16_at]
theorem v24_at (r : Fin 8192) (z : Fin 1) : val_main_v24 (F := Ideal) X0 X1 X2 X3 (ix2 r z)
    = ∑ k, row X0 r k * ct X1 X2 X3 r k := by
  pointwise [val_main_v24, val_main_v23, val_main_v22, val_main_cst_4, v21_at]
theorem v30_at (r : Fin 8192) (z : Fin 1) : val_main_v30 (F := Ideal) X0 X1 X2 X3 (ix2 r z)
    = corr (row X0 r) (ct X1 X2 X3 r) := by
  pointwise [val_main_v30, val_main_v29, val_main_v28, val_main_cst_5, v24_at, v10_at]; rfl
theorem v32_at (r : Fin 8192) (j : Fin 1024) : val_main_v32 (F := Ideal) X0 X1 X2 X3 (ix2 r j)
    = corr (row X0 r) (ct X1 X2 X3 r) := by
  pointwise [val_main_v32, val_main_v31, val_main_cst_6, v30_at]
  exact Fin.sum_univ_one _
theorem v36_at (r : Fin 8192) (j : Fin 1024) : val_main_v36 (F := Ideal) X0 X1 X2 X3 X4 (ix2 r j) = GX X0 X1 X2 X3 X4 r j := by
  have e : val_main_v36 (F := Ideal) X0 X1 X2 X3 X4 (ix2 r j)
      = ((X4 (ix2 r j) + ct X1 X2 X3 r j * rs (row X0 r)) + row X0 r j * corr (row X0 r) (ct X1 X2 X3 r))
        + corr (row X0 r) (ct X1 X2 X3 r) * row X0 r j := by
    pointwise [val_main_v36, val_main_v35, val_main_v34, val_main_v33, val_main_v27, val_main_v26, val_main_v25, v32_at,
      v21_at, v7_at]
  rw [e, norm_bwd]; rfl
theorem v19_at (z : Fin 1) (j : Fin 1024) : val_main_v19 (F := Ideal) X0 X2 X3 (ix2 z j) = GN X0 X2 X3 j := by
  pointwise [val_main_v19, val_main_v18, val_main_v17, val_main_v12, val_main_v11, val_main_cst_3, v16_at, v7_at]
  exact Finset.sum_congr rfl fun r _ => mul_comm _ _

end Cert.InDxRefIdeal.Value
-- ==== Proof.InDxClaim.lean ====
/- The claims about the kernel of the gradient of the input projection and its norm: the reference's frame, and the equality of the two
   programs' results. -/
module

public import proofs.«01_k».proof.Defs
public import proofs.«01_k».proof.Proof.InDxVal
public import proofs.«01_k».proof.Proof.InDxRef
public import Idealize.ShloMosaic.Lib.Quiescent

@[expose] public section

noncomputable section

namespace Cert.Proof

open Idealize.ShloMosaic Idealize.ShloMosaic.TcCoe Idealize.SL.Sem

attribute [local instance] Cert.InDxIdeal.Gen.facts Cert.InDxRefIdeal.Gen.facts

theorem indx_frame_ref : Cert.quiescent_InDxRefIdeal := fun m ρ _ =>
  (θ_run _ _ _).mono (fun r h => ⟨fun c => (h c).2.2, sem_eq_zero_of_no_sems (by decide) _⟩)
    (Cert.InDxRefIdeal.Value.run m ρ)

theorem indx_algebraic : Cert.algebraic_InDxIdeal_InDxRefIdeal := by
  intro m ρ m' ρ' hpre hag
  refine ⟨fun c => (Cert.InDxIdeal.Gen.dats m 0 c).arrAt 7 (Cert.InDxIdeal.cfgs 0).N,
    fun c => (Cert.InDxIdeal.Gen.dats m 0 c).arrAt 8 (Cert.InDxIdeal.cfgs 0).N,
    Cert.InDxIdeal.Value.run_blocks m ρ, (θ_run _ _ _).mono (fun r h c => ?_) (Cert.InDxRefIdeal.Value.run m' ρ')⟩
  obtain ⟨h0, h1, h2⟩ := h c
  obtain ⟨a0, a1, a2, a3, a4⟩ := hag c
  refine ⟨h0.trans ?_, h1.trans ?_, h2⟩
  · refine Eq.trans ?_ (Cert.InDxIdeal.Value.final7 m c).symm
    rw [Cert.InDxRefIdeal.Read.val_main_v36_eq, a0, a1, a2, a3, a4]
    funext i
    rw [Idealize.ShloMosaic.eq_ix2 i]
    exact Cert.InDxRefIdeal.Value.v36_at _ _ _ _ _ _ _
  · refine Eq.trans ?_ (Cert.InDxIdeal.Value.final8 m c).symm
    rw [Cert.InDxRefIdeal.Read.val_main_v19_eq, a0, a2, a3]
    funext i
    rw [Idealize.ShloMosaic.eq_ix2 i]
    exact Cert.InDxRefIdeal.Value.v19_at _ _ _ _ _

end Cert.Proof

end
-- ==== Proof.XqVal.lean ====
/- The arrays the query projection's backward kernel leaves, as functions of the arguments. -/
module

public import proofs.«01_k».proof.Proof.UpVal
public import proofs.«01_k».proof.Proof.Gen.XqDxIdeal.Value
public import Idealize.ShloMosaic.Lib.Pipeline.ValueKit

@[expose] public section

set_option maxRecDepth 16384

noncomputable section

namespace Cert.XqDxIdeal.Value

open Cert.XqDxIdeal Cert.XqDxIdeal.Gen Idealize.ShloMosaic Idealize.ShloMosaic.TcCoe Idealize.SL.Sem
open Cert.Norm
open Cert.UpDxIdeal.Value (gx)

variable (m : (ℓ : Loc nD τ sig) → Buf (Elt Ideal) ℓ) (c : Dev nD)

/-- The residual stream, the norm's gain, the weights, and the cotangents of the product and of the stream. -/
abbrev X : FVec Ideal S8192x1024 .f32 := m ((c : Thread nD τ).loc main_arg0)
abbrev N : FVec Ideal S1x1024 .f32 := m ((c : Thread nD τ).loc main_arg1)
abbrev W : FVec Ideal S1024x1024 .f32 := m ((c : Thread nD τ).loc main_arg2)
abbrev DU : FVec Ideal S8192x1024 .f32 := m ((c : Thread nD τ).loc main_arg3)
abbrev DX : FVec Ideal S8192x1024 .f32 := m ((c : Thread nD τ).loc main_arg4)

theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

/-! The payloads of the two halves of a tile, read at an entry. -/

section pay

variable (w : Vec Ideal S1024x1024 .bf16) (u : Vec Ideal S512x1024 .bf16) (x d : Vec Ideal S512x1024 .f32)
  (g : Vec Ideal S1x1024 .f32)

/-- Row `r` of the norm's cotangent: the product's cotangent times the weights' transpose. -/
def dy (u : Fin 1024 → EReal) (w : Vec Ideal S1024x1024 .bf16) (j : Fin 1024) : EReal :=
  ∑ k : Fin 1024, u k * w (ix2 j k)

theorem pay3_at (r : Fin 512) (j : Fin 1024) : k0_pay3 w u (ix2 r j) = dy (fun k => u (ix2 r k)) w j := by
  pointwise [k0_pay3, k0_pay2]
  rfl
theorem pay4_at (r : Fin 512) (z : Fin 1) : k0_pay4 x (ix2 r z) = rs (fun k => x (ix2 r k)) := by
  pointwise [k0_pay4]; rfl
theorem pay5_at (r : Fin 512) (j : Fin 1024) : k0_pay5 x (ix2 r j) = x (ix2 r j) * rs (fun k => x (ix2 r k)) := by
  pointwise [k0_pay5, pay4_at]
theorem pay9_at (r : Fin 512) (j : Fin 1024) : k0_pay9 (k0_pay2 w) u (ix2 r j) = dy (fun k => u (ix2 r k)) w j := pay3_at w u r j
theorem pay10_at (r : Fin 512) (z : Fin 1) : k0_pay10 x (ix2 r z) = rs (fun k => x (ix2 r k)) := pay4_at x r z
theorem pay11_at (r : Fin 512) (j : Fin 1024) : k0_pay11 x (ix2 r j) = x (ix2 r j) * rs (fun k => x (ix2 r k)) := pay5_at x r j

theorem pay6_at (r : Fin 512) (j : Fin 1024) : k0_pay6 w u x d g (ix2 r j)
    = gx (fun k => x (ix2 r k)) (fun k => dy (fun k => u (ix2 r k)) w k * g (ix2 0 k)) (d (ix2 r j)) j := by
  pointwise [k0_pay6, pay3_at, pay4_at, pay5_at]
  rfl
theorem pay12_at (r : Fin 512) (j : Fin 1024) : k0_pay12 (k0_pay2 w) u x d g (ix2 r j)
    = gx (fun k => x (ix2 r k)) (fun k => dy (fun k => u (ix2 r k)) w k * g (ix2 0 k)) (d (ix2 r j)) j := pay6_at w u x d g r j
theorem pay7_at (z : Fin 1) (j : Fin 1024) : k0_pay7 w u x (ix2 z j)
    = ∑ r : Fin 512, dy (fun k => u (ix2 r k)) w j * (x (ix2 r j) * rs (fun k => x (ix2 r k))) := by
  pointwise [k0_pay7, pay3_at, pay5_at]
theorem pay14_at (v : FVec Ideal S1x1024 .f32) (z : Fin 1) (j : Fin 1024) : k0_pay14 (k0_pay2 w) v u x (ix2 z j)
    = v (ix2 z j) + ∑ r : Fin 512, dy (fun k => u (ix2 r k)) w j * (x (ix2 r j) * rs (fun k => x (ix2 r k))) := by
  pointwise [k0_pay14, pay9_at, pay11_at]

end pay

section tile

variable (u : Vec Ideal S1024x1024 .bf16) (w : Vec Ideal S1024x1024 .bf16) (x d : Vec Ideal S1024x1024 .f32)
  (g : Vec Ideal S1x1024 .f32)

/-- An entry of the stream's gradient over a tile of 1024 rows. -/
def gxT (r : Fin 1024) (j : Fin 1024) : EReal :=
  gx (fun k => x (ix2 r k)) (fun k => dy (fun k => u (ix2 r k)) w k * g (ix2 0 k)) (d (ix2 r j)) j
/-- A row's part of the gain's gradient, and the tile's. -/
def gn1 (r : Fin 1024) (j : Fin 1024) : EReal :=
  dy (fun k => u (ix2 r k)) w j * (x (ix2 r j) * rs (fun k => x (ix2 r k)))
def gnT (j : Fin 1024) : EReal := ∑ r : Fin 1024, gn1 u w x r j

abbrev u0 := View.ld u (Rect.unit ![0, 0] ![512, 1024] inb_S1024x1024_S512x1024_0_0)
abbrev u1 := View.ld u (Rect.unit ![512, 0] ![512, 1024] inb_S1024x1024_S512x1024_512_0)
abbrev x0 := View.ld x (Rect.unit ![0, 0] ![512, 1024] inb_S1024x1024_S512x1024_0_0)
abbrev x1 := View.ld x (Rect.unit ![512, 0] ![512, 1024] inb_S1024x1024_S512x1024_512_0)

theorem u0_at (r : Fin 512) (k : Fin 1024) : u0 u (ix2 r k) = u (ix2 ⟨r.val, by omega⟩ k) := by pointwise [u0]
theorem u1_at (r : Fin 512) (k : Fin 1024) : u1 u (ix2 r k) = u (ix2 ⟨512 + r.val, by omega⟩ k) := by pointwise [u1]
theorem x0_at (r : Fin 512) (k : Fin 1024) : x0 x (ix2 r k) = x (ix2 ⟨r.val, by omega⟩ k) := by pointwise [x0]
theorem x1_at (r : Fin 512) (k : Fin 1024) : x1 x (ix2 r k) = x (ix2 ⟨512 + r.val, by omega⟩ k) := by pointwise [x1]

theorem lo_at (r : Fin 512) (j : Fin 1024) : k0_pay6 w (u0 u) (x0 x) (x0 d) g (ix2 r j) = gxT u w x d g ⟨r.val, by omega⟩ j := by
  rw [pay6_at, gxT, x0_at]
  simp only [fun k => x0_at x r k, fun k => u0_at u r k]
theorem hi_at (r : Fin 512) (j : Fin 1024) : k0_pay12 (k0_pay2 w) (u1 u) (x1 x) (x1 d) g (ix2 r j)
    = gxT u w x d g ⟨512 + r.val, by omega⟩ j := by
  rw [pay12_at, gxT, x1_at]
  simp only [fun k => x1_at x r k, fun k => u1_at u r k]

theorem canon5 (y : S1024x1024.Idx) : (View.canon
      [⟨Rect.unit ![512, 0] ![512, 1024] inb_S1024x1024_S512x1024_512_0, k0_pay12 (k0_pay2 w) (u1 u) (x1 x) (x1 d) g⟩,
        ⟨Rect.unit ![0, 0] ![512, 1024] inb_S1024x1024_S512x1024_0_0, k0_pay6 w (u0 u) (x0 x) (x0 d) g⟩] : Vec Ideal S1024x1024 .f32) y
    = gxT u w x d g (y 0) (y 1) := by
  canon_tiles z h
  all_goals (obtain ⟨r, j, rfl⟩ : ∃ (r : Fin 512) (j : Fin 1024), z = ix2 r j := ⟨z 0, z 1, by ext k; fin_cases k <;> rfl⟩)
  · rw [hi_at, show y 0 = (⟨512 + r.val, by omega⟩ : Fin 1024) from Fin.ext h0, show y 1 = j from Fin.ext h1]
  · rw [lo_at, show y 0 = (⟨r.val, by omega⟩ : Fin 1024) from Fin.ext (by simpa using h0), show y 1 = j from Fin.ext h1]

theorem canon6 (y : S1024x1024.Idx) : (View.canon
      [⟨Rect.unit ![512, 0] ![512, 1024] inb_S1024x1024_S512x1024_512_0, k0_pay13 (k0_pay2 w) (u1 u) (x1 x) (x1 d) g⟩,
        ⟨Rect.unit ![0, 0] ![512, 1024] inb_S1024x1024_S512x1024_0_0, k0_pay8 w (u0 u) (x0 x) (x0 d) g⟩] : Vec Ideal S1024x1024 .bf16) y
    = gxT u w x d g (y 0) (y 1) := canon5 u w x d g y

theorem gain (j : Fin 1024) (z : Fin 1) : k0_pay14 (k0_pay2 w) (k0_pay7 w (u0 u) (x0 x)) (u1 u) (x1 x) (ix2 z j) = gnT u w x j := by
  rw [pay14_at, pay7_at, gnT, Fin.sum_univ_tiles 2 512 rfl, Fin.sum_univ_two]
  refine congrArg₂ _ (Finset.sum_congr rfl fun r _ => ?_) (Finset.sum_congr rfl fun r _ => ?_)
  · simp only [gn1, fun k => x0_at x r k, fun k => u0_at u r k]
    congr! <;> simp
  · simp only [fun k => x1_at x r k, fun k => u1_at u r k]
    rfl

end tile

theorem du_at (r : Fin 8192) (a : Fin 1024) :
    (V m c main_v0 : FVec Ideal S8192x1024 .bf16) (ix2 r a) = DU m c (ix2 r a) := by
  entry_read
  pointwise

theorem w_at (k j : Fin 1024) : (V m c main_v1 : FVec Ideal S1024x1024 .bf16) (ix2 j k) = W m c (ix2 j k) := by
  entry_read
  pointwise

variable (t : Fin cfg0.N)

theorem blk0 (r : Fin 1024) (k : Fin 1024) (h : t.val * 1024 + r.val < 8192) :
    (iblk m c 0 t : Vec Ideal S1024x1024 .bf16) (ix2 r k) = DU m c (ix2 ⟨t.val * 1024 + r.val, h⟩ k) := by
  refine Eq.trans ?_ (du_at m c _ _)
  blk_simp [iblk]
  exact congrArg _ (by blk_ext [idx t])
theorem blk1 (j k : Fin 1024) : (iblk m c 1 t : Vec Ideal S1024x1024 .bf16) (ix2 j k) = W m c (ix2 j k) := by
  refine Eq.trans ?_ (w_at m c k j)
  blk_simp [iblk]
  exact congrArg _ (by blk_ext [idx t])
theorem blk2 (r : Fin 1024) (k : Fin 1024) (h : t.val * 1024 + r.val < 8192) :
    (iblk m c 2 t : Vec Ideal S1024x1024 .f32) (ix2 r k) = X m c (ix2 ⟨t.val * 1024 + r.val, h⟩ k) := by
  blk_point [iblk, V, idx t]
theorem blk3 (r : Fin 1024) (k : Fin 1024) (h : t.val * 1024 + r.val < 8192) :
    (iblk m c 3 t : Vec Ideal S1024x1024 .f32) (ix2 r k) = DX m c (ix2 ⟨t.val * 1024 + r.val, h⟩ k) := by
  blk_point [iblk, V, idx t]
theorem blk4 (z : Fin 1) (k : Fin 1024) :
    (iblk m c 4 t : Vec Ideal S1x1024 .f32) (ix2 z k) = N m c (ix2 z k) := by
  blk_point [iblk, V, idx t]

/-- The norm's cotangent, from the product's cotangent and the weights. -/
def dyn (W : FVec Ideal S1024x1024 .f32) (DU : FVec Ideal S8192x1024 .f32) (r : Fin 8192) (j : Fin 1024) : EReal :=
  ∑ k : Fin 1024, DU (ix2 r k) * W (ix2 j k)
/-- The stream's gradient. -/
def GX (X : FVec Ideal S8192x1024 .f32) (N : FVec Ideal S1x1024 .f32) (W : FVec Ideal S1024x1024 .f32)
    (DU : FVec Ideal S8192x1024 .f32) (DX : FVec Ideal S8192x1024 .f32) (r : Fin 8192) (j : Fin 1024) : EReal :=
  gx (fun k => X (ix2 r k)) (fun k => dyn W DU r k * N (ix2 0 k)) (DX (ix2 r j)) j
/-- A row's part of the gain's gradient, and the gain's gradient. -/
def GN1 (X : FVec Ideal S8192x1024 .f32) (W : FVec Ideal S1024x1024 .f32) (DU : FVec Ideal S8192x1024 .f32)
    (r : Fin 8192) (j : Fin 1024) : EReal :=
  dyn W DU r j * (X (ix2 r j) * rs (fun k => X (ix2 r k)))
def GN (X : FVec Ideal S8192x1024 .f32) (W : FVec Ideal S1024x1024 .f32) (DU : FVec Ideal S8192x1024 .f32) (j : Fin 1024) : EReal :=
  ∑ r : Fin 8192, GN1 X W DU r j

theorem dy_blk (r : Fin 1024) (j : Fin 1024) (h : t.val * 1024 + r.val < 8192) :
    dy (fun k => (iblk m c 0 t : Vec Ideal S1024x1024 .bf16) (ix2 r k)) (iblk m c 1 t) j
      = dyn (W m c) (DU m c) ⟨t.val * 1024 + r.val, h⟩ j := by
  unfold dy dyn
  refine Finset.sum_congr rfl fun k _ => ?_
  refine (congrArg₂ _ (blk0 m c t r k h) (blk1 ..)).trans ?_
  rfl

theorem gxT_blk (r : Fin 1024) (j : Fin 1024) (h : t.val * 1024 + r.val < 8192) :
    gxT (iblk m c 0 t) (iblk m c 1 t) (iblk m c 2 t) (iblk m c 3 t) (iblk m c 4 t) r j
      = GX (X m c) (N m c) (W m c) (DU m c) (DX m c) ⟨t.val * 1024 + r.val, h⟩ j := by
  unfold gxT GX
  simp only [fun k => blk2 m c t r k h, fun k => blk3 m c t r k h, fun k => blk4 m c t 0 k, fun j => dy_blk m c t r j h]

theorem gn1_blk (j : Fin 1024) (r : Fin 1024) (h : t.val * 1024 + r.val < 8192) :
    gn1 (iblk m c 0 t) (iblk m c 1 t) (iblk m c 2 t) r j = GN1 (X m c) (W m c) (DU m c) ⟨t.val * 1024 + r.val, h⟩ j := by
  unfold gn1 GN1
  simp only [fun k => blk2 m c t r k h, dy_blk m c t r j h]

theorem emb5 (r : Fin 1024) (j : Fin 1024) (h : t.val * 1024 + r.val < 8192) :
    (win0_5.blk t).view.emb (ix2 r j) = ix2 ⟨t.val * 1024 + r.val, h⟩ j := by blk_ext [idx t]
theorem emb6 (r : Fin 1024) (j : Fin 1024) (h : t.val * 1024 + r.val < 8192) :
    (win0_6.blk t).view.emb (ix2 r j) = ix2 ⟨t.val * 1024 + r.val, h⟩ j := by blk_ext [idx t]

theorem out5 (y : S1024x1024.Idx) : (outsAt0 m c t.val t.isLt).1 y
    = gxT (iblk m c 0 t) (iblk m c 1 t) (iblk m c 2 t) (iblk m c 3 t) (iblk m c 4 t) (y 0) (y 1) := by
  have hN : t.val < 8 := lt_of_lt_of_le t.isLt (le_of_eq N_0)
  refine Eq.trans ?_ (canon5 ..)
  refine congrFun ?_ y
  by_cases h0 : t.val % 8 = 0
  · rw [outsAt0_A m c t h0 (by omega)]; frame_out
  · rw [outsAt0_B m c t h0 (by omega)]; frame_out
theorem out6 (y : S1024x1024.Idx) : (outsAt0 m c t.val t.isLt).2.1 y
    = gxT (iblk m c 0 t) (iblk m c 1 t) (iblk m c 2 t) (iblk m c 3 t) (iblk m c 4 t) (y 0) (y 1) := by
  have hN : t.val < 8 := lt_of_lt_of_le t.isLt (le_of_eq N_0)
  refine Eq.trans ?_ (canon6 ..)
  refine congrFun ?_ y
  by_cases h0 : t.val % 8 = 0
  · rw [outsAt0_A m c t h0 (by omega)]; frame_out
  · rw [outsAt0_B m c t h0 (by omega)]; frame_out

theorem final5 : (dats m 0 c).arrAt 5 cfg0.N
    = (fun i => GX (X m c) (N m c) (W m c) (DU m c) (DX m c) (i 0) (i 1) : FVec Ideal S8192x1024 .f32) := by
  refine (dats m 0 c).arrAt_eq_of_covers 5 _ (by decide +kernel) fun t hf y => ?_
  blk_simp
  rw [after0_5]
  have hN : t.val < 8 := lt_of_lt_of_le t.isLt (le_of_eq N_0)
  obtain ⟨r, j, rfl⟩ : ∃ (r : Fin 1024) (j : Fin 1024), y = ix2 r j := ⟨y 0, y 1, eq_ix2 y⟩
  have h : t.val * 1024 + r.val < 8192 := by omega
  rw [emb5 t r j h]
  exact (out5 m c t _).trans (gxT_blk m c t r j h)
theorem final6 : (dats m 0 c).arrAt 6 cfg0.N
    = (fun i => GX (X m c) (N m c) (W m c) (DU m c) (DX m c) (i 0) (i 1) : FVec Ideal S8192x1024 .bf16) := by
  refine (dats m 0 c).arrAt_eq_of_covers 6 _ (by decide +kernel) fun t hf y => ?_
  blk_simp
  rw [after0_6]
  have hN : t.val < 8 := lt_of_lt_of_le t.isLt (le_of_eq N_0)
  obtain ⟨r, j, rfl⟩ : ∃ (r : Fin 1024) (j : Fin 1024), y = ix2 r j := ⟨y 0, y 1, eq_ix2 y⟩
  have h : t.val * 1024 + r.val < 8192 := by omega
  rw [emb6 t r j h]
  exact (out6 m c t _).trans (gxT_blk m c t r j h)
theorem final7 : (dats m 0 c).arrAt 7 cfg0.N
    = (fun i => GN (X m c) (W m c) (DU m c) (i 1) : FVec Ideal S1x1024 .f32) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t => k0_pay14 (k0_pay2 (iblk m c 1 t)) (k0_pay7 (iblk m c 1 t) (u0 (iblk m c 0 t)) (x0 (iblk m c 2 t))) (u1 (iblk m c 0 t))
      (x1 (iblk m c 2 t)))
    (fun t h j => by
      have hN : t.val < 8 := lt_of_lt_of_le t.isLt (le_of_eq N_0)
      rw [outsAt0_A m c t h (by omega)]; frame_out; rw [zero_add])
    (fun t h j => by rw [outsAt0_B m c t h (by omega)]; frame_out; pointwise [k0_pay1])
    (le_of_eq N_0) t0_7 rfl j, zero_add]
  obtain ⟨z, b, rfl⟩ : ∃ (z : Fin 1) (b : Fin 1024), j = ix2 z b := ⟨j 0, j 1, by ext k; fin_cases k <;> rfl⟩
  refine (Fin.sum_fin_congr fun t => gain _ _ _ b z).trans ?_
  change _ = ∑ r : Fin 8192, GN1 (X m c) (W m c) (DU m c) r b
  unfold gnT
  exact Fin.sum_mul_add_congr fun t r h => gn1_blk m c t b r h

end Cert.XqDxIdeal.Value
-- ==== Proof.XqRef.lean ====
/- What the reference's gradient of the query projection's norm computes, read stage by stage at an entry. -/
module

public import proofs.«01_k».proof.Proof.XqVal
public import proofs.«01_k».proof.Proof.Gen.XqDxRefIdeal.Run
public import proofs.«01_k».proof.Proof.Gen.XqDxRefIdeal.Read

@[expose] public section

set_option maxRecDepth 16384

noncomputable section

namespace Cert.XqDxRefIdeal.Value

open Cert.XqDxRefIdeal Cert.XqDxRefIdeal.Gen Idealize.ShloMosaic Idealize.ShloMosaic.TcCoe Idealize.SL.Sem
open Cert.XqDxRefIdeal.Read Cert.Norm Cert.XqDxIdeal.Value

variable (X0 : FVec Ideal S8192x1024 .f32) (X1 : FVec Ideal S1x1024 .f32) (X2 : FVec Ideal S1024x1024 .f32)
  (X3 : FVec Ideal S8192x1024 .f32) (X4 : FVec Ideal S8192x1024 .f32)

/-- Row `r` of the stream. -/
abbrev row (r : Fin 8192) : Fin 1024 → EReal := fun k => X0 (ix2 r k)
/-- Row `r` of the cotangent of the normalised stream. -/
abbrev ct (r : Fin 8192) : Fin 1024 → EReal := fun k => dyn X2 X3 r k * X1 (ix2 0 k)

theorem v6_at (r : Fin 8192) (z : Fin 1) : val_main_v6 (F := Ideal) X0 (ix2 r z) = ms (row X0 r) := by
  pointwise [val_main_v6, val_main_v4, val_main_v5, val_main_v3, val_main_v2, val_main_v1, val_main_v0, val_main_cst,
    val_main_cst_0, val_main_cst_1]
  rfl
theorem v7_at (r : Fin 8192) (z : Fin 1) : val_main_v7 (F := Ideal) X0 (ix2 r z) = rs (row X0 r) := by
  rw [val_main_v7_apply, v6_at]; rfl
theorem v10_at (r : Fin 8192) (z : Fin 1) : val_main_v10 (F := Ideal) X0 (ix2 r z) = cH * Ideal.div (rs (row X0 r)) (ms (row X0 r)) := by
  pointwise [val_main_v10, val_main_v9, val_main_v8, val_main_cst_2, v6_at, v7_at]
theorem v16_at (r : Fin 8192) (j : Fin 1024) : val_main_v16 (F := Ideal) X2 X3 (ix2 r j) = dyn X2 X3 r j := by
  pointwise [val_main_v16]; rfl
theorem v21_at (r : Fin 8192) (j : Fin 1024) : val_main_v21 (F := Ideal) X1 X2 X3 (ix2 r j) = ct X1 X2 X3 r j := by
  pointwise [val_main_v21, val_main_v20, v16_at]
theorem v24_at (r : Fin 8192) (z : Fin 1) : val_main_v24 (F := Ideal) X0 X1 X2 X3 (ix2 r z)
    = ∑ k, row X0 r k * ct X1 X2 X3 r k := by
  pointwise [val_main_v24, val_main_v23, val_main_v22, val_main_cst_4, v21_at]
theorem v30_at (r : Fin 8192) (z : Fin 1) : val_main_v30 (F := Ideal) X0 X1 X2 X3 (ix2 r z)
    = corr (row X0 r) (ct X1 X2 X3 r) := by
  pointwise [val_main_v30, val_main_v29, val_main_v28, val_main_cst_5, v24_at, v10_at]; rfl
theorem v32_at (r : Fin 8192) (j : Fin 1024) : val_main_v32 (F := Ideal) X0 X1 X2 X3 (ix2 r j)
    = corr (row X0 r) (ct X1 X2 X3 r) := by
  pointwise [val_main_v32, val_main_v31, val_main_cst_6, v30_at]
  exact Fin.sum_univ_one _
theorem v36_at (r : Fin 8192) (j : Fin 1024) : val_main_v36 (F := Ideal) X0 X1 X2 X3 X4 (ix2 r j) = GX X0 X1 X2 X3 X4 r j := by
  have e : val_main_v36 (F := Ideal) X0 X1 X2 X3 X4 (ix2 r j)
      = ((X4 (ix2 r j) + ct X1 X2 X3 r j * rs (row X0 r)) + row X0 r j * corr (row X0 r) (ct X1 X2 X3 r))
        + corr (row X0 r) (ct X1 X2 X3 r) * row X0 r j := by
    pointwise [val_main_v36, val_main_v35, val_main_v34, val_main_v33, val_main_v27, val_main_v26, val_main_v25, v32_at,
      v21_at, v7_at]
  rw [e, norm_bwd]; rfl
theorem v37_at (r : Fin 8192) (j : Fin 1024) : val_main_v37 (F := Ideal) X0 X1 X2 X3 X4 (ix2 r j) = GX X0 X1 X2 X3 X4 r j :=
  v36_at X0 X1 X2 X3 X4 r j
theorem v19_at (z : Fin 1) (j : Fin 1024) : val_main_v19 (F := Ideal) X0 X2 X3 (ix2 z j) = GN X0 X2 X3 j := by
  pointwise [val_main_v19, val_main_v18, val_main_v17, val_main_v12, val_main_v11, val_main_cst_3, v16_at, v7_at]
  exact Finset.sum_congr rfl fun r _ => mul_comm _ _

end Cert.XqDxRefIdeal.Value
-- ==== Proof.XqDxClaim.lean ====
/- The claims about the kernel of the gradient of the query projection's norm: the reference's frame, and the equality of the two
   programs' results. -/
module

public import proofs.«01_k».proof.Defs
public import proofs.«01_k».proof.Proof.XqVal
public import proofs.«01_k».proof.Proof.XqRef
public import Idealize.ShloMosaic.Lib.Quiescent

@[expose] public section

noncomputable section

namespace Cert.Proof

open Idealize.ShloMosaic Idealize.ShloMosaic.TcCoe Idealize.SL.Sem

attribute [local instance] Cert.XqDxIdeal.Gen.facts Cert.XqDxRefIdeal.Gen.facts

theorem xqdx_frame_ref : Cert.quiescent_XqDxRefIdeal := fun m ρ _ =>
  (θ_run _ _ _).mono (fun r h => ⟨fun c => (h c).2.2.2, sem_eq_zero_of_no_sems (by decide) _⟩)
    (Cert.XqDxRefIdeal.Value.run m ρ)

theorem xqdx_algebraic : Cert.algebraic_XqDxIdeal_XqDxRefIdeal := by
  intro m ρ m' ρ' hpre hag
  refine ⟨fun c => (Cert.XqDxIdeal.Gen.dats m 0 c).arrAt 5 (Cert.XqDxIdeal.cfgs 0).N,
    fun c => (Cert.XqDxIdeal.Gen.dats m 0 c).arrAt 6 (Cert.XqDxIdeal.cfgs 0).N,
    fun c => (Cert.XqDxIdeal.Gen.dats m 0 c).arrAt 7 (Cert.XqDxIdeal.cfgs 0).N,
    Cert.XqDxIdeal.Value.run_blocks m ρ, (θ_run _ _ _).mono (fun r h c => ?_) (Cert.XqDxRefIdeal.Value.run m' ρ')⟩
  obtain ⟨h0, h1, h2, h3⟩ := h c
  obtain ⟨a0, a1, a2, a3, a4⟩ := hag c
  refine ⟨h0.trans ?_, h1.trans ?_, h2.trans ?_, h3⟩
  · refine Eq.trans ?_ (Cert.XqDxIdeal.Value.final5 m c).symm
    rw [Cert.XqDxRefIdeal.Read.val_main_v36_eq, a0, a1, a2, a3, a4]
    funext i
    rw [Idealize.ShloMosaic.eq_ix2 i]
    exact Cert.XqDxRefIdeal.Value.v36_at _ _ _ _ _ _ _
  · refine Eq.trans ?_ (Cert.XqDxIdeal.Value.final6 m c).symm
    rw [Cert.XqDxRefIdeal.Read.val_main_v37_eq, a0, a1, a2, a3, a4]
    funext i
    rw [Idealize.ShloMosaic.eq_ix2 i]
    exact Cert.XqDxRefIdeal.Value.v37_at _ _ _ _ _ _ _
  · refine Eq.trans ?_ (Cert.XqDxIdeal.Value.final7 m c).symm
    rw [Cert.XqDxRefIdeal.Read.val_main_v19_eq, a0, a2, a3]
    funext i
    rw [Idealize.ShloMosaic.eq_ix2 i]
    exact Cert.XqDxRefIdeal.Value.v19_at _ _ _ _ _

end Cert.Proof

end
-- ==== Proof.InDwVal.lean ====
/- The array the kernel of the input projection's weight gradient, first part, leaves, as a function of the arguments. -/
module

public import proofs.«01_k».proof.Proof.NormMath
public import proofs.«01_k».proof.Proof.InMath
public import proofs.«01_k».proof.Proof.Gen.InDwAIdeal.Value
public import Idealize.ShloMosaic.Lib.Pipeline.ValueKit

@[expose] public section

set_option maxRecDepth 16384

noncomputable section

namespace Cert.InDwAIdeal.Value

open Cert.InDwAIdeal Cert.InDwAIdeal.Gen Idealize.ShloMosaic Idealize.ShloMosaic.TcCoe Idealize.SL.Sem
open Cert.Norm Cert.In

variable (m : (ℓ : Loc nD τ sig) → Buf (Elt Ideal) ℓ) (c : Dev nD)

/-- The input, the norm's gain, and the product's cotangent. -/
abbrev X : FVec Ideal S8192x1024 .f32 := m ((c : Thread nD τ).loc main_arg0)
abbrev N : FVec Ideal S1x1024 .f32 := m ((c : Thread nD τ).loc main_arg1)
abbrev DZ : FVec Ideal S8192x3104 .f32 := m ((c : Thread nD τ).loc main_arg2)

/-- Row `r` of the normalised input. -/
def H (X : FVec Ideal S8192x1024 .f32) (N : FVec Ideal S1x1024 .f32) (r : Fin 8192) (j : Fin 1024) : EReal :=
  nrm (fun k => X (ix2 r k)) (fun k => N (ix2 0 k)) j
/-- One row's part of the weight gradient, and the gradient. -/
def GW1 (X : FVec Ideal S8192x1024 .f32) (N : FVec Ideal S1x1024 .f32) (DZ : FVec Ideal S8192x3104 .f32) (a : Fin 2048) (j : Fin 1024)
    (r : Fin 8192) : EReal := DZ (ix2 r (colA a)) * H X N r j
def GW (X : FVec Ideal S8192x1024 .f32) (N : FVec Ideal S1x1024 .f32) (DZ : FVec Ideal S8192x3104 .f32) (a : Fin 2048) (j : Fin 1024) : EReal :=
  ∑ r : Fin 8192, GW1 X N DZ a j r

theorem idx : ∀ t : Fin cfg0.N, win0_0.index t = ![t.val % 2, t.val / 2] ∧ win0_1.index t = ![t.val % 2, 0]
    ∧ win0_2.index t = ![t.val / 2, 0] := (by decide +kernel : ∀ t : Fin grid0.N, _)

section pay

variable (u : Vec Ideal S4096x512 .bf16) (h : Vec Ideal S4096x1024 .bf16)

/-- One row's part of a tile of the gradient. -/
def gw1 (a : Fin 512) (j : Fin 1024) (r : Fin 4096) : EReal := u (ix2 r a) * h (ix2 r j)

theorem pay1_at (a : Fin 512) (j : Fin 1024) : k0_pay1 u h (ix2 a j) = ∑ r : Fin 4096, gw1 u h a j r := by
  pointwise [k0_pay1]
  rfl
theorem pay2_at (v : Vec Ideal S512x1024 .f32) (a : Fin 512) (j : Fin 1024) :
    k0_pay2 u h v (ix2 a j) = v (ix2 a j) + ∑ r : Fin 4096, gw1 u h a j r := by
  pointwise [k0_pay2, pay1_at]

end pay

theorem concat_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

/-- The cotangent in the kernel's format. -/
abbrev Zc : FVec Ideal S8192x3104 .bf16 := truncf .bf16 (DZ m c) bitsLt_bf16_f32

theorem V_dz : (V m c main_v3 : FVec Ideal S8192x2048 .bf16) = concatenate S8192x2048 1
    [⟨S8192x1536, extractStridedSlice S8192x1536 ![0, 0] (Zc m c) slices_S8192x3104_S8192x1536_0_0⟩,
     ⟨S8192x512, extractStridedSlice S8192x512 ![0, 2560] (Zc m c) slices_S8192x3104_S8192x512_0_2560⟩]
    concatenates_S8192x1536_S8192x512_S8192x2048_d1 := by
  change StableHlo.after hostOps0 _ _ = _
  simp only [StableHlo.after_cons, StableHlo.after_nil]
  after_results_simp
  refine concat_congr _ ?_ ?_
  · after_results_simp
  · after_results_simp
theorem dz_at (r : Fin 8192) (k : Fin 2048) :
    (V m c main_v3 : FVec Ideal S8192x2048 .bf16) (ix2 r k) = DZ m c (ix2 r (colA k)) := by
  rw [V_dz]
  by_cases h0 : k.val < 1536
  · rw [colA_lo h0]; pointwise [h0]
  · rw [colA_hi h0]; pointwise [h0]
    exact congrArg _ (congrArg (ix2 r) (Fin.ext (by simp; omega)))

theorem h_at (r : Fin 8192) (j : Fin 1024) :
    (V m c main_v21 : FVec Ideal S8192x1024 .bf16) (ix2 r j) = H (X m c) (N m c) r j := by
  entry_read
  pointwise
  rfl

variable (t : Fin cfg0.N)

theorem blk0 (r : Fin 4096) (a : Fin 512) (h : t.val % 2 * 4096 + r.val < 8192) (h' : t.val / 2 * 512 + a.val < 2048) :
    (iblk m c 0 t : Vec Ideal S4096x512 .bf16) (ix2 r a) = DZ m c (ix2 ⟨t.val % 2 * 4096 + r.val, h⟩ (colA ⟨t.val / 2 * 512 + a.val, h'⟩)) := by
  refine Eq.trans ?_ (dz_at m c ⟨t.val % 2 * 4096 + r.val, h⟩ ⟨t.val / 2 * 512 + a.val, h'⟩)
  blk_simp [iblk]
  exact congrArg _ (by blk_ext [idx t])
theorem blk1 (r : Fin 4096) (j : Fin 1024) (h : t.val % 2 * 4096 + r.val < 8192) :
    (iblk m c 1 t : Vec Ideal S4096x1024 .bf16) (ix2 r j) = H (X m c) (N m c) ⟨t.val % 2 * 4096 + r.val, h⟩ j := by
  refine Eq.trans ?_ (h_at m c _ _)
  blk_simp [iblk]
  exact congrArg _ (by blk_ext [idx t])

theorem gw1_blk (a : Fin 512) (j : Fin 1024) (r : Fin 4096) (h : t.val % 2 * 4096 + r.val < 8192) (h' : t.val / 2 * 512 + a.val < 2048) :
    gw1 (iblk m c 0 t) (iblk m c 1 t) a j r
      = GW1 (X m c) (N m c) (DZ m c) ⟨t.val / 2 * 512 + a.val, h'⟩ j ⟨t.val % 2 * 4096 + r.val, h⟩ :=
  congrArg₂ _ (blk0 m c t r a h h') (blk1 m c t r j h)

/-- A tile after the second half of the rows: the sum over all rows. -/
theorem out2 (h1 : t.val % 2 = 1) (a : Fin 512) (j : Fin 1024) (h' : t.val / 2 * 512 + a.val < 2048) :
    (outsAt0 m c t.val t.isLt : Vec Ideal S512x1024 .f32) (ix2 a j)
      = GW (X m c) (N m c) (DZ m c) ⟨t.val / 2 * 512 + a.val, h'⟩ j := by
  have hN : t.val < 8 := lt_of_lt_of_le t.isLt (le_of_eq N_0)
  have hp : t.val - 1 < cfg0.N := lt_of_le_of_lt (Nat.sub_le _ _) t.isLt
  have e0 : outsAt0 m c (t.val - 1) hp = k0_pay1 (iblk m c 0 ⟨t.val - 1, hp⟩) (iblk m c 1 ⟨t.val - 1, hp⟩) := by
    rw [outsAt0_A m c ⟨t.val - 1, hp⟩ (by simp only; omega) (by simp only; omega)]; frame_out
  have e1 : outsAt0 m c t.val t.isLt = k0_pay2 (iblk m c 0 t) (iblk m c 1 t) (outsAt0 m c (t.val - 1) hp) := by
    rw [outsAt0_B m c t (by omega) h1]; frame_out
  rw [e1, pay2_at, e0, pay1_at, GW, Fin.sum_univ_tiles 2 4096 rfl, Fin.sum_univ_two]
  have d : (t.val - 1) / 2 = t.val / 2 := by omega
  have z : (t.val - 1) % 2 = 0 := by omega
  refine congrArg₂ _ (Finset.sum_congr rfl fun r _ => ?_) (Finset.sum_congr rfl fun r _ => ?_)
  · rw [gw1_blk m c ⟨t.val - 1, hp⟩ a j r (by simp only; omega) (by simp only; omega)]
    exact congrArg₂ (fun a r => GW1 (X m c) (N m c) (DZ m c) a j r) (Fin.ext (by simp only; rw [d])) (Fin.ext (by simp [z]))
  · rw [gw1_blk m c t a j r (by omega) h']
    exact congrArg (GW1 (X m c) (N m c) (DZ m c) _ j) (Fin.ext (by simp [h1]))

theorem emb2 (a : Fin 512) (j : Fin 1024) (h : t.val / 2 * 512 + a.val < 2048) :
    (win0_2.blk t).view.emb (ix2 a j) = ix2 ⟨t.val / 2 * 512 + a.val, h⟩ j := by blk_ext [idx t]

theorem final2 : (dats m 0 c).arrAt 2 cfg0.N
    = (fun i => GW (X m c) (N m c) (DZ m c) (i 0) (i 1) : FVec Ideal S2048x1024 .f32) := by
  refine (dats m 0 c).arrAt_eq_of_covers 2 _ (by decide +kernel) fun t hf y => ?_
  blk_simp
  rw [after0_2]
  have hN : t.val < 8 := lt_of_lt_of_le t.isLt (le_of_eq N_0)
  obtain ⟨a, j, rfl⟩ : ∃ (a : Fin 512) (j : Fin 1024), y = ix2 a j := ⟨y 0, y 1, eq_ix2 y⟩
  have h : t.val / 2 * 512 + a.val < 2048 := by omega
  rw [emb2 t a j h]
  exact out2 m c t ((flush0_2 t).mp hf) a j h

end Cert.InDwAIdeal.Value
-- ==== Proof.InDwRef.lean ====
/- What the reference's gradient of the input projection's weight, first part, computes, read stage by stage at an
   entry. -/
module

public import proofs.«01_k».proof.Proof.InDwVal
public import proofs.«01_k».proof.Proof.Gen.InDwARefIdeal.Run
public import proofs.«01_k».proof.Proof.Gen.InDwARefIdeal.Read

@[expose] public section

set_option maxRecDepth 16384

noncomputable section

namespace Cert.InDwARefIdeal.Value

open Cert.InDwARefIdeal Cert.InDwARefIdeal.Gen Idealize.ShloMosaic Idealize.ShloMosaic.TcCoe Idealize.SL.Sem
open Cert.InDwARefIdeal.Read Cert.Norm Cert.In Cert.InDwAIdeal.Value

variable (X0 : FVec Ideal S8192x1024 .f32) (X1 : FVec Ideal S1x1024 .f32) (X2 : FVec Ideal S8192x3104 .f32)

theorem v8_at (r : Fin 8192) (z : Fin 1) : val_main_v8 (F := Ideal) X0 (ix2 r z) = rs (fun k => X0 (ix2 r k)) := by
  pointwise [val_main_v8, val_main_v7, val_main_v6, val_main_v5, val_main_v4, val_main_v3, val_main_v2, val_main_v1,
    val_main_cst_0, val_main_cst_1, val_main_cst_2]
  rfl
theorem v12_at (r : Fin 8192) (j : Fin 1024) : val_main_v12 (F := Ideal) X0 X1 (ix2 r j) = H X0 X1 r j := by
  pointwise [val_main_v12, val_main_v11, val_main_v10, val_main_v9, v8_at]
  rfl
/-- The gradient of the whole weight. -/
def dw (k : Fin 3104) (j : Fin 1024) : EReal := ∑ r : Fin 8192, X2 (ix2 r k) * H X0 X1 r j
theorem v14_at (k : Fin 3104) (j : Fin 1024) : val_main_v14 (F := Ideal) X0 X1 X2 (ix2 k j) = dw X0 X1 X2 k j := by
  pointwise [val_main_v14, v12_at]
  rfl
theorem v19_at (a : Fin 2048) (j : Fin 1024) : val_main_v19 (F := Ideal) X0 X1 X2 (ix2 a j) = GW X0 X1 X2 a j := by
  by_cases h0 : a.val < 1536
  · pointwise [val_main_v19, val_main_v18, val_main_v16, val_main_v15, v14_at, h0]
    exact (congrArg (dw X0 X1 X2 · j) (Fin.ext rfl)).trans (congrArg (dw X0 X1 X2 · j) (colA_lo h0).symm)
  · pointwise [val_main_v19, val_main_v18, val_main_v17, val_main_v15, v14_at, h0]
    exact (congrArg (dw X0 X1 X2 · j) (Fin.ext (by simp; omega))).trans (congrArg (dw X0 X1 X2 · j) (colA_hi h0).symm)

end Cert.InDwARefIdeal.Value
-- ==== Proof.InDwClaim.lean ====
/- The claims about the kernel of the input projection's weight gradient, first part: the reference's frame, and the equality of the two
   programs' results. -/
module

public import proofs.«01_k».proof.Defs
public import proofs.«01_k».proof.Proof.InDwVal
public import proofs.«01_k».proof.Proof.InDwRef
public import Idealize.ShloMosaic.Lib.Quiescent

@[expose] public section

noncomputable section

namespace Cert.Proof

open Idealize.ShloMosaic Idealize.ShloMosaic.TcCoe Idealize.SL.Sem

attribute [local instance] Cert.InDwAIdeal.Gen.facts Cert.InDwARefIdeal.Gen.facts

theorem indwa_frame_ref : Cert.quiescent_InDwARefIdeal := fun m ρ _ =>
  (θ_run _ _ _).mono (fun r h => ⟨fun c => (h c).2, sem_eq_zero_of_no_sems (by decide) _⟩)
    (Cert.InDwARefIdeal.Value.run m ρ)

theorem indwa_algebraic : Cert.algebraic_InDwAIdeal_InDwARefIdeal := by
  intro m ρ m' ρ' hpre hag
  refine ⟨fun c => (Cert.InDwAIdeal.Gen.dats m 0 c).arrAt 2 (Cert.InDwAIdeal.cfgs 0).N,
    Cert.InDwAIdeal.Value.run_blocks m ρ, (θ_run _ _ _).mono (fun r h c => ?_) (Cert.InDwARefIdeal.Value.run m' ρ')⟩
  obtain ⟨h0, h1⟩ := h c
  obtain ⟨a0, a1, a2⟩ := hag c
  refine ⟨h0.trans ?_, h1⟩
  · refine Eq.trans ?_ (Cert.InDwAIdeal.Value.final2 m c).symm
    rw [Cert.InDwARefIdeal.Read.val_main_v19_eq, a0, a1, a2]
    funext i
    rw [Idealize.ShloMosaic.eq_ix2 i]
    exact Cert.InDwARefIdeal.Value.v19_at _ _ _ _ _

end Cert.Proof

end
-- ==== Proof.InDwBVal.lean ====
/- The array the kernel of the input projection's weight gradient, second part, leaves, as a function of the arguments. -/
module

public import proofs.«01_k».proof.Proof.NormMath
public import proofs.«01_k».proof.Proof.InMath
public import proofs.«01_k».proof.Proof.Gen.InDwBIdeal.Value
public import Idealize.ShloMosaic.Lib.Pipeline.ValueKit

@[expose] public section

set_option maxRecDepth 16384

noncomputable section

namespace Cert.InDwBIdeal.Value

open Cert.InDwBIdeal Cert.InDwBIdeal.Gen Idealize.ShloMosaic Idealize.ShloMosaic.TcCoe Idealize.SL.Sem
open Cert.Norm Cert.In

variable (m : (ℓ : Loc nD τ sig) → Buf (Elt Ideal) ℓ) (c : Dev nD)

/-- The input, the norm's gain, and the product's cotangent. -/
abbrev X : FVec Ideal S8192x1024 .f32 := m ((c : Thread nD τ).loc main_arg0)
abbrev N : FVec Ideal S1x1024 .f32 := m ((c : Thread nD τ).loc main_arg1)
abbrev DZ : FVec Ideal S8192x3104 .f32 := m ((c : Thread nD τ).loc main_arg2)

/-- Row `r` of the normalised input. -/
def H (X : FVec Ideal S8192x1024 .f32) (N : FVec Ideal S1x1024 .f32) (r : Fin 8192) (j : Fin 1024) : EReal :=
  nrm (fun k => X (ix2 r k)) (fun k => N (ix2 0 k)) j
/-- One row's part of the weight gradient, and the gradient. -/
def GW1 (X : FVec Ideal S8192x1024 .f32) (N : FVec Ideal S1x1024 .f32) (DZ : FVec Ideal S8192x3104 .f32) (a : Fin 1152) (j : Fin 1024)
    (r : Fin 8192) : EReal := (if a.val < 1056 then DZ (ix2 r (colB a)) else 0) * H X N r j
def GW (X : FVec Ideal S8192x1024 .f32) (N : FVec Ideal S1x1024 .f32) (DZ : FVec Ideal S8192x3104 .f32) (a : Fin 1152) (j : Fin 1024) : EReal :=
  ∑ r : Fin 8192, GW1 X N DZ a j r

theorem idx : ∀ t : Fin cfg0.N, win0_0.index t = ![t.val % 2, t.val / 2] ∧ win0_1.index t = ![t.val % 2, 0]
    ∧ win0_2.index t = ![t.val / 2, 0] := (by decide +kernel : ∀ t : Fin grid0.N, _)

section pay

variable (u : Vec Ideal S4096x384 .bf16) (h : Vec Ideal S4096x1024 .bf16)

/-- One row's part of a tile of the gradient. -/
def gw1 (a : Fin 384) (j : Fin 1024) (r : Fin 4096) : EReal := u (ix2 r a) * h (ix2 r j)

theorem pay1_at (a : Fin 384) (j : Fin 1024) : k0_pay1 u h (ix2 a j) = ∑ r : Fin 4096, gw1 u h a j r := by
  pointwise [k0_pay1]
  rfl
theorem pay2_at (v : Vec Ideal S384x1024 .f32) (a : Fin 384) (j : Fin 1024) :
    k0_pay2 u h v (ix2 a j) = v (ix2 a j) + ∑ r : Fin 4096, gw1 u h a j r := by
  pointwise [k0_pay2, pay1_at]

end pay

theorem concat_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

/-- The cotangent in the kernel's format. -/
abbrev Zc : FVec Ideal S8192x3104 .bf16 := truncf .bf16 (DZ m c) bitsLt_bf16_f32

theorem V_dz : (V m c main_v8 : FVec Ideal S8192x1152 .bf16) = concatenate S8192x1152 1
    [⟨S8192x1024, extractStridedSlice S8192x1024 ![0, 1536] (Zc m c) slices_S8192x3104_S8192x1024_0_1536⟩,
     ⟨S8192x128, concatenate S8192x128 1
       [⟨S8192x32, extractStridedSlice S8192x32 ![0, 3072] (Zc m c) slices_S8192x3104_S8192x32_0_3072⟩,
        ⟨S8192x96, broadcastInDim S8192x96 ![] bcast_S_S8192x96 (constant (F := Ideal) S_ .bf16 0x0000#16)⟩]
       concatenates_S8192x32_S8192x96_S8192x128_d1⟩]
    concatenates_S8192x1024_S8192x128_S8192x1152_d1 := by
  change StableHlo.after hostOps0 _ _ = _
  simp only [StableHlo.after_cons, StableHlo.after_nil]
  after_results_simp
  refine concat_congr _ ?_ ?_
  · after_results_simp
  · after_results_simp
    refine concat_congr _ ?_ ?_
    · after_results_simp
    · after_results_simp
theorem dz_at (r : Fin 8192) (k : Fin 1152) :
    (V m c main_v8 : FVec Ideal S8192x1152 .bf16) (ix2 r k) = if k.val < 1056 then DZ m c (ix2 r (colB k)) else 0 := by
  rw [V_dz]
  by_cases h0 : k.val < 1024
  · have h1 : k.val < 1056 := by omega
    rw [colB_lo h0, if_pos h1]; pointwise [h0]
  by_cases h1 : k.val < 1056
  · have h2 : k.val - 1024 < 32 := by omega
    rw [colB_hi h0 h1, if_pos h1]; pointwise [h0, h2]
    exact congrArg _ (congrArg (ix2 r) (Fin.ext (by simp; omega)))
  · have h2 : ¬k.val - 1024 < 32 := by omega
    rw [if_neg h1]; pointwise [h0, h2]

theorem h_at (r : Fin 8192) (j : Fin 1024) :
    (V m c main_v21 : FVec Ideal S8192x1024 .bf16) (ix2 r j) = H (X m c) (N m c) r j := by
  entry_read
  pointwise
  rfl

variable (t : Fin cfg0.N)

theorem blk0 (r : Fin 4096) (a : Fin 384) (h : t.val % 2 * 4096 + r.val < 8192) (h' : t.val / 2 * 384 + a.val < 1152) :
    (iblk m c 0 t : Vec Ideal S4096x384 .bf16) (ix2 r a) = (if t.val / 2 * 384 + a.val < 1056 then DZ m c (ix2 ⟨t.val % 2 * 4096 + r.val, h⟩ (colB ⟨t.val / 2 * 384 + a.val, h'⟩)) else 0) := by
  refine Eq.trans ?_ (dz_at m c ⟨t.val % 2 * 4096 + r.val, h⟩ ⟨t.val / 2 * 384 + a.val, h'⟩)
  blk_simp [iblk]
  exact congrArg _ (by blk_ext [idx t])
theorem blk1 (r : Fin 4096) (j : Fin 1024) (h : t.val % 2 * 4096 + r.val < 8192) :
    (iblk m c 1 t : Vec Ideal S4096x1024 .bf16) (ix2 r j) = H (X m c) (N m c) ⟨t.val % 2 * 4096 + r.val, h⟩ j := by
  refine Eq.trans ?_ (h_at m c _ _)
  blk_simp [iblk]
  exact congrArg _ (by blk_ext [idx t])

theorem gw1_blk (a : Fin 384) (j : Fin 1024) (r : Fin 4096) (h : t.val % 2 * 4096 + r.val < 8192) (h' : t.val / 2 * 384 + a.val < 1152) :
    gw1 (iblk m c 0 t) (iblk m c 1 t) a j r
      = GW1 (X m c) (N m c) (DZ m c) ⟨t.val / 2 * 384 + a.val, h'⟩ j ⟨t.val % 2 * 4096 + r.val, h⟩ :=
  congrArg₂ _ (blk0 m c t r a h h') (blk1 m c t r j h)

/-- A tile after the second half of the rows: the sum over all rows. -/
theorem out2 (h1 : t.val % 2 = 1) (a : Fin 384) (j : Fin 1024) (h' : t.val / 2 * 384 + a.val < 1152) :
    (outsAt0 m c t.val t.isLt : Vec Ideal S384x1024 .f32) (ix2 a j)
      = GW (X m c) (N m c) (DZ m c) ⟨t.val / 2 * 384 + a.val, h'⟩ j := by
  have hN : t.val < 6 := lt_of_lt_of_le t.isLt (le_of_eq N_0)
  have hp : t.val - 1 < cfg0.N := lt_of_le_of_lt (Nat.sub_le _ _) t.isLt
  have e0 : outsAt0 m c (t.val - 1) hp = k0_pay1 (iblk m c 0 ⟨t.val - 1, hp⟩) (iblk m c 1 ⟨t.val - 1, hp⟩) := by
    rw [outsAt0_A m c ⟨t.val - 1, hp⟩ (by simp only; omega) (by simp only; omega)]; frame_out
  have e1 : outsAt0 m c t.val t.isLt = k0_pay2 (iblk m c 0 t) (iblk m c 1 t) (outsAt0 m c (t.val - 1) hp) := by
    rw [outsAt0_B m c t (by omega) h1]; frame_out
  rw [e1, pay2_at, e0, pay1_at, GW, Fin.sum_univ_tiles 2 4096 rfl, Fin.sum_univ_two]
  have d : (t.val - 1) / 2 = t.val / 2 := by omega
  have z : (t.val - 1) % 2 = 0 := by omega
  refine congrArg₂ _ (Finset.sum_congr rfl fun r _ => ?_) (Finset.sum_congr rfl fun r _ => ?_)
  · rw [gw1_blk m c ⟨t.val - 1, hp⟩ a j r (by simp only; omega) (by simp only; omega)]
    exact congrArg₂ (fun a r => GW1 (X m c) (N m c) (DZ m c) a j r) (Fin.ext (by simp only; rw [d])) (Fin.ext (by simp [z]))
  · rw [gw1_blk m c t a j r (by omega) h']
    exact congrArg (GW1 (X m c) (N m c) (DZ m c) _ j) (Fin.ext (by simp [h1]))

theorem emb2 (a : Fin 384) (j : Fin 1024) (h : t.val / 2 * 384 + a.val < 1152) :
    (win0_2.blk t).view.emb (ix2 a j) = ix2 ⟨t.val / 2 * 384 + a.val, h⟩ j := by blk_ext [idx t]

theorem final2 : (dats m 0 c).arrAt 2 cfg0.N
    = (fun i => GW (X m c) (N m c) (DZ m c) (i 0) (i 1) : FVec Ideal S1152x1024 .f32) := by
  refine (dats m 0 c).arrAt_eq_of_covers 2 _ (by decide +kernel) fun t hf y => ?_
  blk_simp
  rw [after0_2]
  have hN : t.val < 6 := lt_of_lt_of_le t.isLt (le_of_eq N_0)
  obtain ⟨a, j, rfl⟩ : ∃ (a : Fin 384) (j : Fin 1024), y = ix2 a j := ⟨y 0, y 1, eq_ix2 y⟩
  have h : t.val / 2 * 384 + a.val < 1152 := by omega
  rw [emb2 t a j h]
  exact out2 m c t ((flush0_2 t).mp hf) a j h

end Cert.InDwBIdeal.Value
-- ==== Proof.InDwBRef.lean ====
/- What the reference's gradient of the input projection's weight, second part, computes, read stage by stage at an
   entry. -/
module

public import proofs.«01_k».proof.Proof.InDwBVal
public import proofs.«01_k».proof.Proof.Gen.InDwBRefIdeal.Run
public import proofs.«01_k».proof.Proof.Gen.InDwBRefIdeal.Read

@[expose] public section

set_option maxRecDepth 16384

noncomputable section

namespace Cert.InDwBRefIdeal.Value

open Cert.InDwBRefIdeal Cert.InDwBRefIdeal.Gen Idealize.ShloMosaic Idealize.ShloMosaic.TcCoe Idealize.SL.Sem
open Cert.InDwBRefIdeal.Read Cert.Norm Cert.In Cert.InDwBIdeal.Value

variable (X0 : FVec Ideal S8192x1024 .f32) (X1 : FVec Ideal S1x1024 .f32) (X2 : FVec Ideal S8192x3104 .f32)

theorem v8_at (r : Fin 8192) (z : Fin 1) : val_main_v8 (F := Ideal) X0 (ix2 r z) = rs (fun k => X0 (ix2 r k)) := by
  pointwise [val_main_v8, val_main_v7, val_main_v6, val_main_v5, val_main_v4, val_main_v3, val_main_v2, val_main_v1,
    val_main_cst_0, val_main_cst_1, val_main_cst_2]
  rfl
theorem v12_at (r : Fin 8192) (j : Fin 1024) : val_main_v12 (F := Ideal) X0 X1 (ix2 r j) = H X0 X1 r j := by
  pointwise [val_main_v12, val_main_v11, val_main_v10, val_main_v9, v8_at]
  rfl
/-- The gradient of the whole weight. -/
def dw (k : Fin 3104) (j : Fin 1024) : EReal := ∑ r : Fin 8192, X2 (ix2 r k) * H X0 X1 r j
theorem v14_at (k : Fin 3104) (j : Fin 1024) : val_main_v14 (F := Ideal) X0 X1 X2 (ix2 k j) = dw X0 X1 X2 k j := by
  pointwise [val_main_v14, v12_at]
  rfl
theorem v21_at (a : Fin 1152) (j : Fin 1024) : val_main_v21 (F := Ideal) X0 X1 X2 (ix2 a j) = GW X0 X1 X2 a j := by
  by_cases h1 : a.val < 1056
  · refine Eq.trans ?_ (Finset.sum_congr rfl fun r _ => by rw [GW1, if_pos h1] : dw X0 X1 X2 (colB a) j = _)
    by_cases h0 : a.val < 1024
    · pointwise [val_main_v21, val_main_v19, val_main_v18, val_main_v16, val_main_v15, v14_at, h0, h1]
      exact (congrArg (dw X0 X1 X2 · j) (Fin.ext rfl)).trans (congrArg (dw X0 X1 X2 · j) (colB_lo h0).symm)
    · pointwise [val_main_v21, val_main_v19, val_main_v18, val_main_v17, val_main_v15, v14_at, h0, h1]
      exact (congrArg (dw X0 X1 X2 · j) (Fin.ext (by simp; omega))).trans (congrArg (dw X0 X1 X2 · j) (colB_hi h0 h1).symm)
  · pointwise [val_main_v21, val_main_v20, val_main_cst_3, h1]
    exact (Finset.sum_eq_zero fun r _ => by rw [GW1, if_neg h1, zero_mul]).symm

end Cert.InDwBRefIdeal.Value
-- ==== Proof.InDwBClaim.lean ====
/- The claims about the kernel of the input projection's weight gradient, second part: the reference's frame, and the equality of the two
   programs' results. -/
module

public import proofs.«01_k».proof.Defs
public import proofs.«01_k».proof.Proof.InDwBVal
public import proofs.«01_k».proof.Proof.InDwBRef
public import Idealize.ShloMosaic.Lib.Quiescent

@[expose] public section

noncomputable section

namespace Cert.Proof

open Idealize.ShloMosaic Idealize.ShloMosaic.TcCoe Idealize.SL.Sem

attribute [local instance] Cert.InDwBIdeal.Gen.facts Cert.InDwBRefIdeal.Gen.facts

theorem indwb_frame_ref : Cert.quiescent_InDwBRefIdeal := fun m ρ _ =>
  (θ_run _ _ _).mono (fun r h => ⟨fun c => (h c).2, sem_eq_zero_of_no_sems (by decide) _⟩)
    (Cert.InDwBRefIdeal.Value.run m ρ)

theorem indwb_algebraic : Cert.algebraic_InDwBIdeal_InDwBRefIdeal := by
  intro m ρ m' ρ' hpre hag
  refine ⟨fun c => (Cert.InDwBIdeal.Gen.dats m 0 c).arrAt 2 (Cert.InDwBIdeal.cfgs 0).N,
    Cert.InDwBIdeal.Value.run_blocks m ρ, (θ_run _ _ _).mono (fun r h c => ?_) (Cert.InDwBRefIdeal.Value.run m' ρ')⟩
  obtain ⟨h0, h1⟩ := h c
  obtain ⟨a0, a1, a2⟩ := hag c
  refine ⟨h0.trans ?_, h1⟩
  · refine Eq.trans ?_ (Cert.InDwBIdeal.Value.final2 m c).symm
    rw [Cert.InDwBRefIdeal.Read.val_main_v21_eq, a0, a1, a2]
    funext i
    rw [Idealize.ShloMosaic.eq_ix2 i]
    exact Cert.InDwBRefIdeal.Value.v21_at _ _ _ _ _

end Cert.Proof

end
-- ==== Proof.UpDwSlots.lean ====
/- The kernel of the gradient of the MLP's first weight copies its two operands itself, block by block, each through three slots of a
   scratch buffer, two blocks ahead: the slots, the copies under way, and the body's names for them. -/
module

public import proofs.«01_k».proof.Proof.Gen.UpDwIdeal.Frame
public import proofs.«01_k».proof.Proof.Gen.UpDwIdeal.Skeleton
public import proofs.«01_k».proof.Proof.Gen.UpDwIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.UpDwIdeal.Stream

open Cert.UpDwIdeal Cert.UpDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

instance : NeZero grid0.N := ⟨by rw [N_0]; decide⟩

/-- The body's five conditions, of the point's coordinates, and what they say of the point. -/
abbrev first (i : grid0.Coords) : Prop := k0_cond1 i = 1#1
abbrev ahead (i : grid0.Coords) : Prop := k0_cond2 i = 1#1
abbrev fresh (i : grid0.Coords) : Prop := k0_cond3 i = 1#1
abbrev more (i : grid0.Coords) : Prop := k0_cond4 i = 1#1
abbrev done (i : grid0.Coords) : Prop := k0_cond5 i = 1#1
theorem conds : ∀ t : Fin cfg0.N, (first (grid0.coords t) ↔ t.val = 0) ∧ (ahead (grid0.coords t) ↔ t.val < 14)
    ∧ (fresh (grid0.coords t) ↔ t.val % 4 = 0) ∧ (more (grid0.coords t) ↔ t.val % 4 ≠ 0) ∧ (done (grid0.coords t) ↔ t.val % 4 = 3) :=
  (by decide +kernel : ∀ t : Fin grid0.N, _)

/-- The contents of a buffer on core `c`, and the buffer held at them. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

/-- Each slot has a part of the operand of its own, to lend to the copies into it. -/
abbrev part (s : Fin 3) : PosShare TreeShare := if s.val = 0 then fullShare.left else if s.val = 1 then fullShare.right.left else fullShare.right.right

theorem slotFits (s : Fin 3) : ∀ a, (![s.val, 0, 0] : Fin 3 → ℕ) a + S1x2048x1024.size a ≤ S3x2048x1024.size a := by
  have := s.isLt; intro a; fin_cases a <;> simp <;> omega
abbrev slotSet (s : Fin 3) : Finset S3x2048x1024.Idx := (Rect.unit (s := S3x2048x1024) ![s.val, 0, 0] S1x2048x1024.size (slotFits s)).set
theorem slots_disjoint (s s' : Fin 3) (h : s ≠ s') : Disjoint (slotSet s) (slotSet s') :=
  Ring.lead_disjoint (s := S3x2048x1024) (0 : Fin 3) 1 (fun s : Fin 3 => (![s.val, 0, 0] : Fin 3 → ℕ)) S1x2048x1024.size slotFits (fun s => by simp) rfl s s' h
theorem slots_cover : Finset.univ.biUnion slotSet = Finset.univ :=
  Ring.lead_cover (s := S3x2048x1024) (0 : Fin 3) 1 (fun s : Fin 3 => (![s.val, 0, 0] : Fin 3 → ℕ)) S1x2048x1024.size slotFits (fun s => by simp)
    (fun s a ha => by fin_cases a <;> first | exact absurd rfl ha | rfl) rfl (fun a ha => by fin_cases a <;> first | exact absurd rfl ha | rfl) rfl

/-! ## The first operand's three slots -/

theorem blkFitsA (b : Fin 16) : ∀ a, (![2048 * (b.val % 4), 1024 * (b.val / 4)] : Fin 2 → ℕ) a + S2048x1024.size a ≤ S8192x4096.size a := by
  have := b.isLt; intro a; fin_cases a <;> simp <;> omega
theorem cellFitsA (s : Fin 3) : ∀ a, (![0, s.val] : Fin 2 → ℕ) a + S1x1.size a ≤ S2x3.size a := by
  have := s.isLt; intro a; fin_cases a <;> simp <;> omega

/-- The scratch, the operand, slot `s`, the block that step `b` waits for, and slot `s`'s semaphore. -/
abbrev scrA : Memref sig .tc .vmem S3x2048x1024 .bf16 := Memref.whole cc0_scratch0
abbrev opdA : Memref sig .tc .hbm S8192x4096 .bf16 := Memref.whole main_arg0
def slotA (s : Fin 3) : Memref sig .tc .vmem S2048x1024 .bf16 :=
  (scrA.slice (Rect.unit (s := S3x2048x1024) ![s.val, 0, 0] S1x2048x1024.size (slotFits s)) (fun _ => rfl)).squeeze S2048x1024 squeezes_S1x2048x1024_S2048x1024
def blkA (b : Fin 16) : Memref sig .tc .hbm S2048x1024 .bf16 :=
  opdA.slice (Rect.unit (s := S8192x4096) ![2048 * (b.val % 4), 1024 * (b.val / 4)] S2048x1024.size (blkFitsA b)) (fun _ => rfl)
def cellA (s : Fin 3) : DmaSems sig S_ :=
  (cc0_scratch2.slice (Rect.unit (s := S2x3) ![0, s.val] S1x1.size (cellFitsA s))).squeeze S_ squeezes_S1x1_S_
abbrev semA (s : Fin 3) : SemLoc sig := SemLoc.dma (cellA s).sem
theorem semA_eq : semA 0 = SemLoc.dma 4 ∧ semA 1 = SemLoc.dma 5 ∧ semA 2 = SemLoc.dma 6 := by decide

section

variable (c : Dev nD) (W : Held (F := F) c opdA)

/-- Slot `s` at `f`; its semaphore at zero; of its part of the operand, block `b`, the rest, and all. -/
abbrev atA (s : Fin 3) (f : Held (F := F) c (slotA s)) : sProp 𝕄 := (slotA s).view.loc (c : Thread nD τ) ↦[(slotA s).view.set]{fullShare} f
abbrev idleA (s : Fin 3) : sProp 𝕄 := semVal ((c : Thread nD τ), semA s) 0
abbrev lentA (s : Fin 3) (b : Fin 16) : sProp 𝕄 := (blkA b).view.loc (c : Thread nD τ) ↦[(blkA b).view.set]{part s} W
def keptA (s : Fin 3) (b : Fin 16) : sProp 𝕄 := ((c : Thread nD τ).loc main_arg0) ↦[Finset.univ \ (blkA b).view.set]{part s} W
abbrev allA (s : Fin 3) : sProp 𝕄 := ((c : Thread nD τ).loc main_arg0) ↦[Finset.univ]{part s} W
/-- Slot `s` when block `b` has come over `f`, and the copy under way. -/
abbrev comeA (s : Fin 3) (b : Fin 16) (f : Held (F := F) c (slotA s)) : Held (F := F) c (slotA s) :=
  (slotA s).view.writes (Elt F) f [⟨Rect.whole S2048x1024, ReadAs.same.apply ((blkA b).view.read (Elt F) W)⟩]
abbrev copyA (s : Fin 3) (b : Fin 16) (f : Held (F := F) c (slotA s)) : sProp 𝕄 :=
  Transfers.Flight countersEmb (c : Thread nD τ) (semA s) default ((slotA s).view.amount (semA s))
    iprop(atA c s (comeA c W s b f) ∗ lentA c W s b)
abbrev restA (s : Fin 3) (f : Held (F := F) c (slotA s)) : sProp 𝕄 := iprop(atA c s f ∗ allA c W s)
abbrev awayA (s : Fin 3) (b : Fin 16) (f : Held (F := F) c (slotA s)) : sProp 𝕄 := iprop(copyA c W s b f ∗ keptA c W s b)
abbrev noneA (b : Fin 16) : sProp 𝕄 := iprop(emp)
/-- The three slots before step `k`: all free at first; then blocks `k` and `k + 1` on their way, the third slot free. -/
def ringA (k : ℕ) : sProp 𝕄 :=
  if k = 0 then Ring.At₀ (idleA c) (restA c W) noneA
  else Ring.At 2 (idleA c) (restA c W) noneA (awayA c W) k

omit [FloatOps F] in
theorem idleA_eq : idleA (F := F) c 0 = semVal ((c : Thread nD τ), SemLoc.dma 4) 0
    ∧ idleA (F := F) c 1 = semVal ((c : Thread nD τ), SemLoc.dma 5) 0 ∧ idleA (F := F) c 2 = semVal ((c : Thread nD τ), SemLoc.dma 6) 0 := by
  obtain ⟨h0, h1, h2⟩ := semA_eq
  exact ⟨congrArg (fun x => (semVal ((c : Thread nD τ), x) 0 : sProp 𝕄)) h0, congrArg (fun x => (semVal ((c : Thread nD τ), x) 0 : sProp 𝕄)) h1,
    congrArg (fun x => (semVal ((c : Thread nD τ), x) 0 : sProp 𝕄)) h2⟩

theorem setA (s : Fin 3) : (slotA s).view.set = slotSet s := by
  simp only [slotA, Memref.view_squeeze, View.set_reshape]; exact View.set_slice_whole _ _
theorem atA_eq (s : Fin 3) (f) : atA (F := F) c s f = (((c : Thread nD τ).loc cc0_scratch0) ↦[slotSet s]{fullShare} f : sProp 𝕄) := by
  unfold atA; rw [setA]; rfl
/-- A slot's part of the operand is a block and the rest; -/
theorem splitA (s : Fin 3) (b : Fin 16) : allA (F := F) c W s ⊣⊢ iprop(lentA c W s b ∗ keptA c W s b) := by
  unfold keptA; exact pointsTo_split_subset (Finset.subset_univ _)
/-- the operand is the three parts; -/
theorem thirdsA : (held c opdA W : sProp 𝕄) ⊣⊢ iprop(allA c W 0 ∗ allA c W 1 ∗ allA c W 2) := by
  refine ⟨?_, ?_⟩
  · iintro H
    ihave HX := (pointsTo_share (PosShare.mem_left_op_right fullShare)).1 $$ H
    icases HX with ⟨Ha, Hbc⟩
    ihave HY := (pointsTo_share (PosShare.mem_left_op_right fullShare.right)).1 $$ Hbc
    icases HY with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc
set_option maxHeartbeats 1000000 in
/-- the scratch is the three slots. -/
theorem slotsA : iprop(∃ d, owns (c : Thread nD τ) scrA fullShare d)
    ⊣⊢ (iprop((∃ f, atA (F := F) c 0 f) ∗ (∃ f, atA (F := F) c 1 f) ∗ ∃ f, atA (F := F) c 2 f) : sProp 𝕄) := by
  simp only [scrA, owns_whole]
  exact ⟨Ring.slots3_split (U := Pipeline.UD sig nD τ) (ℓ := (c : Thread nD τ).loc cc0_scratch0) (q := fullShare) slotSet slots_disjoint slots_cover
      (atA c 0) (atA c 1) (atA c 2) (atA_eq c 0) (atA_eq c 1) (atA_eq c 2),
    Ring.slots3_join (U := Pipeline.UD sig nD τ) (ℓ := (c : Thread nD τ).loc cc0_scratch0) (q := fullShare) slotSet slots_disjoint slots_cover
      (atA c 0) (atA c 1) (atA c 2) (atA_eq c 0) (atA_eq c 1) (atA_eq c 2)⟩

/-- What the region hands over makes the slots before the first step, -/
theorem enterA : iprop((∃ d, owns (c : Thread nD τ) scrA fullShare d)
      ∗ (semVal ((c : Thread nD τ), SemLoc.dma 4) 0 ∗ semVal ((c : Thread nD τ), SemLoc.dma 5) 0 ∗ semVal ((c : Thread nD τ), SemLoc.dma 6) 0)
      ∗ held c opdA W) ⊢ ringA c W 0 := by
  obtain ⟨e0, e1, e2⟩ := idleA_eq (F := F) c
  unfold ringA; rw [if_pos rfl]; unfold Ring.At₀
  rw [Ring.bigSep_fin3]
  simp only [Ring.free, e0, e1, e2]
  iintro ⟨HS, ⟨Z0, Z1, Z2⟩, HW⟩
  iapply Ring.with_homes₀
  ihave HT := (slotsA (F := F) c).1 $$ HS
  icases HT with ⟨⟨%g0, S0⟩, ⟨%g1, S1⟩, ⟨%g2, S2⟩⟩
  ihave HP := (thirdsA (F := F) c W).1 $$ HW
  icases HP with ⟨W0, W1, W2⟩
  isplitl [Z0 S0 W0]
  · isplitl [Z0]; · iexact Z0
    iexists g0; isplitl [S0]; · iexact S0
    iexact W0
  isplitl [Z1 S1 W1]
  · isplitl [Z1]; · iexact Z1
    iexists g1; isplitl [S1]; · iexact S1
    iexact W1
  · isplitl [Z2]; · iexact Z2
    iexists g2; isplitl [S2]; · iexact S2
    iexact W2
/-- and the slots after the last step give it back. -/
theorem leaveA : ringA c W 16 ⊢ iprop((∃ d, owns (c : Thread nD τ) scrA fullShare d)
      ∗ (semVal ((c : Thread nD τ), SemLoc.dma 4) 0 ∗ semVal ((c : Thread nD τ), SemLoc.dma 5) 0 ∗ semVal ((c : Thread nD τ), SemLoc.dma 6) 0)
      ∗ held c opdA W) := by
  obtain ⟨e0, e1, e2⟩ := idleA_eq (F := F) c
  unfold ringA; rw [if_neg (by decide)]
  iintro H
  ihave HL := (Ring.free3_of_At_last _ _ _ _) $$ H
  simp only [Ring.free, e0, e1, e2]
  icases HL with ⟨-, ⟨Z0, ⟨%g0, S0, W0⟩⟩, ⟨Z1, ⟨%g1, S1, W1⟩⟩, ⟨Z2, ⟨%g2, S2, W2⟩⟩⟩
  isplitl [S0 S1 S2]
  · iapply (slotsA (F := F) c).2
    isplitl [S0]; · iexists g0; iexact S0
    isplitl [S1]; · iexists g1; iexact S1
    iexists g2; iexact S2
  isplitl [Z0 Z1 Z2]
  · isplitl [Z0]; · iexact Z0
    isplitl [Z1]; · iexact Z1
    iexact Z2
  · iapply (thirdsA (F := F) c W).2
    isplitl [W0]; · iexact W0
    isplitl [W1]; · iexact W1
    iexact W2

/-- The slots' roles at a step, and what the step makes of them: the first step fills all three; -/
theorem firstA (t : ℕ) (h : t = 0) : ringA c W t ⊢ iprop(Ring.free (idleA c) (restA c W) (Ring.sl 3 t)
      ∗ Ring.free (idleA c) (restA c W) (Ring.sl 3 (t + 1)) ∗ Ring.free (idleA c) (restA c W) (Ring.sl 3 (t + 2))) := by
  unfold ringA; rw [if_pos h, Ring.At₀_eq3' _ _ _ t h (by decide : 3 ≤ 16)]
  iintro ⟨-, H0, H1, H2⟩
  isplitl [H0]; · iexact H0
  isplitl [H1]; · iexact H1
  iexact H2
theorem firstToA (t : ℕ) (h : t = 0) : iprop(Ring.inflight (awayA c W) (Ring.sl 3 (t + 1)) (Ring.bk 16 (t + 1))
      ∗ Ring.inflight (awayA c W) (Ring.sl 3 (t + 2)) (Ring.bk 16 (t + 2)) ∗ Ring.free (idleA c) (restA c W) (Ring.sl 3 t)) ⊢ ringA c W (t + 1) := by
  unfold ringA; rw [if_neg (Nat.succ_ne_zero t), Ring.At3_one' _ _ _ _ t h (by decide : 3 ≤ 16)]
  exact Ring.with_homes (Idealize.SL.BI.Entails.refl _)
/-- a step refills the slot two ahead; -/
theorem midA (t : ℕ) (h : 1 ≤ t) (hB : t + 2 < 16) : ringA c W t ⊢ iprop(Ring.inflight (awayA c W) (Ring.sl 3 t) (Ring.bk 16 t)
      ∗ Ring.inflight (awayA c W) (Ring.sl 3 (t + 1)) (Ring.bk 16 (t + 1)) ∗ Ring.free (idleA c) (restA c W) (Ring.sl 3 (t + 2))) := by
  unfold ringA; rw [if_neg (by omega), Ring.At3_here _ _ _ _ t hB]
  iintro ⟨-, H0, H1, H2⟩
  isplitl [H0]; · iexact H0
  isplitl [H1]; · iexact H1
  iexact H2
theorem midToA (t : ℕ) (hB : t + 2 < 16) : iprop(Ring.inflight (awayA c W) (Ring.sl 3 (t + 1)) (Ring.bk 16 (t + 1))
      ∗ Ring.inflight (awayA c W) (Ring.sl 3 (t + 2)) (Ring.bk 16 (t + 2)) ∗ Ring.free (idleA c) (restA c W) (Ring.sl 3 t)) ⊢ ringA c W (t + 1) := by
  unfold ringA; rw [if_neg (Nat.succ_ne_zero t), Ring.At3_next _ _ _ _ t hB, Ring.slotAt3_next0 _ _ _ t (by omega), Ring.slotAt3_next1 _ _ _ t hB]
  exact Ring.with_homes (Idealize.SL.BI.Entails.refl _)
/-- the last two steps fill none. -/
theorem lateA (t : ℕ) (h : 1 ≤ t) (ht : t < 16) : ringA c W t ⊢ iprop(Ring.inflight (awayA c W) (Ring.sl 3 t) (Ring.bk 16 t)
      ∗ Ring.slotAt 2 (idleA c) (restA c W) (awayA c W) t 1 ∗ Ring.free (idleA c) (restA c W) (Ring.sl 3 (t + 2))) := by
  unfold ringA; rw [if_neg (by omega), Ring.At3_here_tail _ _ _ _ t ht]
  iintro ⟨-, H0, H1, H2⟩
  isplitl [H0]; · iexact H0
  isplitl [H1]; · iexact H1
  iexact H2
theorem lateToA (t : ℕ) (hB : 16 ≤ t + 2) (ht : t < 16) : iprop(Ring.slotAt 2 (idleA c) (restA c W) (awayA c W) t 1
      ∗ Ring.free (idleA c) (restA c W) (Ring.sl 3 (t + 2)) ∗ Ring.free (idleA c) (restA c W) (Ring.sl 3 t)) ⊢ ringA c W (t + 1) := by
  unfold ringA; rw [if_neg (Nat.succ_ne_zero t), Ring.At3_next_tail _ _ _ _ t hB ht, Ring.slotAt3_tail_role _ _ _ t]
  exact Ring.with_homes (Idealize.SL.BI.Entails.refl _)

/-- A load of a slot that block `b` has come to, seen as a matrix, is the block. -/
theorem loadA (s : Fin 3) (b : Fin 16) (f : Held (F := F) c (slotA s)) (off : Fin 3 → ℕ) (h : off = ![s.val, 0, 0])
    (inb : ∀ a, off a + S1x2048x1024.size a ≤ S3x2048x1024.size a) (hc : S1x2048x1024.ShapeCasts S2048x1024) :
    shapeCast S2048x1024 (scrA.view.readAt (Elt F) (Rect.unit (s := S3x2048x1024) off S1x2048x1024.size inb).toLoadRect (comeA c W s b f)) hc
      = (blkA b).view.read (Elt F) W := by
  subst h
  exact Eq.trans (b := (slotA s).view.read (Elt F) (comeA c W s b f)) rfl (View.read_writes_whole _ _ _)

end

section names

omit [FloatOps F]
set_option synthInstance.maxSize 4096

theorem slotA_off0 : ∀ t : Fin grid0.N, first (grid0.coords t) → k0_off2 0#32 = ![(Ring.sl 3 t.val).val, 0, 0] := by decide +kernel
@[sl_canon] theorem slotA_name0 (t : Fin grid0.N) (h : first (grid0.coords t)) :
    (scrA.slice (Rect.unit (s := S3x2048x1024) (k0_off2 0#32) S1x2048x1024.size (k0_off2_inb (grid0.coords t) h 0)) (fun _ => rfl)).squeeze S2048x1024 squeezes_S1x2048x1024_S2048x1024 = slotA (Ring.sl 3 t.val) :=
  congrArg (fun M : Memref sig .tc .vmem S1x2048x1024 .bf16 => M.squeeze S2048x1024 squeezes_S1x2048x1024_S2048x1024)
    (Memref.slice_unit_congr _ (slotA_off0 t h) _ _ (fun _ => rfl) (fun _ => rfl))
theorem cellA_off0 : ∀ t : Fin grid0.N, first (grid0.coords t) → k0_off1 0#32 = ![0, (Ring.sl 3 t.val).val] := by decide +kernel
@[sl_canon] theorem cellA_name0 (t : Fin grid0.N) (h : first (grid0.coords t)) :
    (cc0_scratch2.slice (Rect.unit (s := S2x3) (k0_off1 0#32) S1x1.size (k0_off1_inb (grid0.coords t) h 0))).squeeze S_ squeezes_S1x1_S_ = cellA (Ring.sl 3 t.val) :=
  congrArg (fun M : DmaSems sig S1x1 => M.squeeze S_ squeezes_S1x1_S_) (SemArray.slice_unit_congr _ (cellA_off0 t h) _ _)
theorem blkA_off0 : ∀ t : Fin grid0.N, first (grid0.coords t) → k0_off3 0#32 0#32 = ![2048 * ((Ring.bk 16 t.val).val % 4), 1024 * ((Ring.bk 16 t.val).val / 4)] := by decide +kernel
@[sl_canon] theorem blkA_name0 (t : Fin grid0.N) (h : first (grid0.coords t)) :
    opdA.slice (Rect.unit (s := S8192x4096) (k0_off3 0#32 0#32) S2048x1024.size (k0_off3_inb (grid0.coords t) h 0)) (fun _ => rfl) = blkA (Ring.bk 16 t.val) :=
  Memref.slice_unit_congr _ (blkA_off0 t h) _ _ (fun _ => rfl) (fun _ => rfl)
theorem slotA_off1 : ∀ t : Fin grid0.N, first (grid0.coords t) → k0_off2 1#32 = ![(Ring.sl 3 (t.val + 1)).val, 0, 0] := by decide +kernel
@[sl_canon] theorem slotA_name1 (t : Fin grid0.N) (h : first (grid0.coords t)) :
    (scrA.slice (Rect.unit (s := S3x2048x1024) (k0_off2 1#32) S1x2048x1024.size (k0_off2_inb (grid0.coords t) h 1)) (fun _ => rfl)).squeeze S2048x1024 squeezes_S1x2048x1024_S2048x1024 = slotA (Ring.sl 3 (t.val + 1)) :=
  congrArg (fun M : Memref sig .tc .vmem S1x2048x1024 .bf16 => M.squeeze S2048x1024 squeezes_S1x2048x1024_S2048x1024)
    (Memref.slice_unit_congr _ (slotA_off1 t h) _ _ (fun _ => rfl) (fun _ => rfl))
theorem cellA_off1 : ∀ t : Fin grid0.N, first (grid0.coords t) → k0_off1 1#32 = ![0, (Ring.sl 3 (t.val + 1)).val] := by decide +kernel
@[sl_canon] theorem cellA_name1 (t : Fin grid0.N) (h : first (grid0.coords t)) :
    (cc0_scratch2.slice (Rect.unit (s := S2x3) (k0_off1 1#32) S1x1.size (k0_off1_inb (grid0.coords t) h 1))).squeeze S_ squeezes_S1x1_S_ = cellA (Ring.sl 3 (t.val + 1)) :=
  congrArg (fun M : DmaSems sig S1x1 => M.squeeze S_ squeezes_S1x1_S_) (SemArray.slice_unit_congr _ (cellA_off1 t h) _ _)
theorem blkA_off1 : ∀ t : Fin grid0.N, first (grid0.coords t) → k0_off3 1#32 1#32 = ![2048 * ((Ring.bk 16 (t.val + 1)).val % 4), 1024 * ((Ring.bk 16 (t.val + 1)).val / 4)] := by decide +kernel
@[sl_canon] theorem blkA_name1 (t : Fin grid0.N) (h : first (grid0.coords t)) :
    opdA.slice (Rect.unit (s := S8192x4096) (k0_off3 1#32 1#32) S2048x1024.size (k0_off3_inb (grid0.coords t) h 1)) (fun _ => rfl) = blkA (Ring.bk 16 (t.val + 1)) :=
  Memref.slice_unit_congr _ (blkA_off1 t h) _ _ (fun _ => rfl) (fun _ => rfl)
theorem slotA_off2 : ∀ t : Fin grid0.N, k0_off7 (grid0.coords t) = ![(Ring.sl 3 (t.val + 2)).val, 0, 0] := by decide +kernel
@[sl_canon] theorem slotA_name2 (t : Fin grid0.N) (h : ahead (grid0.coords t)) :
    (scrA.slice (Rect.unit (s := S3x2048x1024) (k0_off7 (grid0.coords t)) S1x2048x1024.size (k0_off7_inb (grid0.coords t) h)) (fun _ => rfl)).squeeze S2048x1024 squeezes_S1x2048x1024_S2048x1024 = slotA (Ring.sl 3 (t.val + 2)) :=
  congrArg (fun M : Memref sig .tc .vmem S1x2048x1024 .bf16 => M.squeeze S2048x1024 squeezes_S1x2048x1024_S2048x1024)
    (Memref.slice_unit_congr _ (slotA_off2 t) _ _ (fun _ => rfl) (fun _ => rfl))
theorem cellA_off2 : ∀ t : Fin grid0.N, k0_off6 (grid0.coords t) = ![0, (Ring.sl 3 (t.val + 2)).val] := by decide +kernel
@[sl_canon] theorem cellA_name2 (t : Fin grid0.N) (h : ahead (grid0.coords t)) :
    (cc0_scratch2.slice (Rect.unit (s := S2x3) (k0_off6 (grid0.coords t)) S1x1.size (k0_off6_inb (grid0.coords t) h))).squeeze S_ squeezes_S1x1_S_ = cellA (Ring.sl 3 (t.val + 2)) :=
  congrArg (fun M : DmaSems sig S1x1 => M.squeeze S_ squeezes_S1x1_S_) (SemArray.slice_unit_congr _ (cellA_off2 t) _ _)
theorem blkA_off2 : ∀ t : Fin grid0.N, ahead (grid0.coords t) → k0_off8 (grid0.coords t) = ![2048 * ((Ring.bk 16 (t.val + 2)).val % 4), 1024 * ((Ring.bk 16 (t.val + 2)).val / 4)] := by decide +kernel
@[sl_canon] theorem blkA_name2 (t : Fin grid0.N) (h : ahead (grid0.coords t)) :
    opdA.slice (Rect.unit (s := S8192x4096) (k0_off8 (grid0.coords t)) S2048x1024.size (k0_off8_inb (grid0.coords t) h)) (fun _ => rfl) = blkA (Ring.bk 16 (t.val + 2)) :=
  Memref.slice_unit_congr _ (blkA_off2 t h) _ _ (fun _ => rfl) (fun _ => rfl)
theorem slotA_off3 : ∀ t : Fin grid0.N, k0_off12 (grid0.coords t) = ![(Ring.sl 3 t.val).val, 0, 0] := by decide +kernel
@[sl_canon] theorem slotA_name3 (t : Fin grid0.N) :
    (scrA.slice (Rect.unit (s := S3x2048x1024) (k0_off12 (grid0.coords t)) S1x2048x1024.size (k0_off12_inb (grid0.coords t))) (fun _ => rfl)).squeeze S2048x1024 squeezes_S1x2048x1024_S2048x1024 = slotA (Ring.sl 3 t.val) :=
  congrArg (fun M : Memref sig .tc .vmem S1x2048x1024 .bf16 => M.squeeze S2048x1024 squeezes_S1x2048x1024_S2048x1024)
    (Memref.slice_unit_congr _ (slotA_off3 t) _ _ (fun _ => rfl) (fun _ => rfl))
theorem cellA_off3 : ∀ t : Fin grid0.N, k0_off11 (grid0.coords t) = ![0, (Ring.sl 3 t.val).val] := by decide +kernel
@[sl_canon] theorem cellA_name3 (t : Fin grid0.N) :
    (cc0_scratch2.slice (Rect.unit (s := S2x3) (k0_off11 (grid0.coords t)) S1x1.size (k0_off11_inb (grid0.coords t)))).squeeze S_ squeezes_S1x1_S_ = cellA (Ring.sl 3 t.val) :=
  congrArg (fun M : DmaSems sig S1x1 => M.squeeze S_ squeezes_S1x1_S_) (SemArray.slice_unit_congr _ (cellA_off3 t) _ _)

end names

/-! ## The second operand's three slots -/

theorem blkFitsB (b : Fin 16) : ∀ a, (![2048 * (b.val % 4), 0] : Fin 2 → ℕ) a + S2048x1024.size a ≤ S8192x1024.size a := by
  have := b.isLt; intro a; fin_cases a <;> simp <;> omega
theorem cellFitsB (s : Fin 3) : ∀ a, (![1, s.val] : Fin 2 → ℕ) a + S1x1.size a ≤ S2x3.size a := by
  have := s.isLt; intro a; fin_cases a <;> simp <;> omega

/-- The scratch, the operand, slot `s`, the block that step `b` waits for, and slot `s`'s semaphore. -/
abbrev scrB : Memref sig .tc .vmem S3x2048x1024 .bf16 := Memref.whole cc0_scratch1
abbrev opdB : Memref sig .tc .hbm S8192x1024 .bf16 := Memref.whole main_arg1
def slotB (s : Fin 3) : Memref sig .tc .vmem S2048x1024 .bf16 :=
  (scrB.slice (Rect.unit (s := S3x2048x1024) ![s.val, 0, 0] S1x2048x1024.size (slotFits s)) (fun _ => rfl)).squeeze S2048x1024 squeezes_S1x2048x1024_S2048x1024
def blkB (b : Fin 16) : Memref sig .tc .hbm S2048x1024 .bf16 :=
  opdB.slice (Rect.unit (s := S8192x1024) ![2048 * (b.val % 4), 0] S2048x1024.size (blkFitsB b)) (fun _ => rfl)
def cellB (s : Fin 3) : DmaSems sig S_ :=
  (cc0_scratch2.slice (Rect.unit (s := S2x3) ![1, s.val] S1x1.size (cellFitsB s))).squeeze S_ squeezes_S1x1_S_
abbrev semB (s : Fin 3) : SemLoc sig := SemLoc.dma (cellB s).sem
theorem semB_eq : semB 0 = SemLoc.dma 7 ∧ semB 1 = SemLoc.dma 8 ∧ semB 2 = SemLoc.dma 9 := by decide

section

variable (c : Dev nD) (W : Held (F := F) c opdB)

/-- Slot `s` at `f`; its semaphore at zero; of its part of the operand, block `b`, the rest, and all. -/
abbrev atB (s : Fin 3) (f : Held (F := F) c (slotB s)) : sProp 𝕄 := (slotB s).view.loc (c : Thread nD τ) ↦[(slotB s).view.set]{fullShare} f
abbrev idleB (s : Fin 3) : sProp 𝕄 := semVal ((c : Thread nD τ), semB s) 0
abbrev lentB (s : Fin 3) (b : Fin 16) : sProp 𝕄 := (blkB b).view.loc (c : Thread nD τ) ↦[(blkB b).view.set]{part s} W
def keptB (s : Fin 3) (b : Fin 16) : sProp 𝕄 := ((c : Thread nD τ).loc main_arg1) ↦[Finset.univ \ (blkB b).view.set]{part s} W
abbrev allB (s : Fin 3) : sProp 𝕄 := ((c : Thread nD τ).loc main_arg1) ↦[Finset.univ]{part s} W
/-- Slot `s` when block `b` has come over `f`, and the copy under way. -/
abbrev comeB (s : Fin 3) (b : Fin 16) (f : Held (F := F) c (slotB s)) : Held (F := F) c (slotB s) :=
  (slotB s).view.writes (Elt F) f [⟨Rect.whole S2048x1024, ReadAs.same.apply ((blkB b).view.read (Elt F) W)⟩]
abbrev copyB (s : Fin 3) (b : Fin 16) (f : Held (F := F) c (slotB s)) : sProp 𝕄 :=
  Transfers.Flight countersEmb (c : Thread nD τ) (semB s) default ((slotB s).view.amount (semB s))
    iprop(atB c s (comeB c W s b f) ∗ lentB c W s b)
abbrev restB (s : Fin 3) (f : Held (F := F) c (slotB s)) : sProp 𝕄 := iprop(atB c s f ∗ allB c W s)
abbrev awayB (s : Fin 3) (b : Fin 16) (f : Held (F := F) c (slotB s)) : sProp 𝕄 := iprop(copyB c W s b f ∗ keptB c W s b)
abbrev noneB (b : Fin 16) : sProp 𝕄 := iprop(emp)
/-- The three slots before step `k`: all free at first; then blocks `k` and `k + 1` on their way, the third slot free. -/
def ringB (k : ℕ) : sProp 𝕄 :=
  if k = 0 then Ring.At₀ (idleB c) (restB c W) noneB
  else Ring.At 2 (idleB c) (restB c W) noneB (awayB c W) k

omit [FloatOps F] in
theorem idleB_eq : idleB (F := F) c 0 = semVal ((c : Thread nD τ), SemLoc.dma 7) 0
    ∧ idleB (F := F) c 1 = semVal ((c : Thread nD τ), SemLoc.dma 8) 0 ∧ idleB (F := F) c 2 = semVal ((c : Thread nD τ), SemLoc.dma 9) 0 := by
  obtain ⟨h0, h1, h2⟩ := semB_eq
  exact ⟨congrArg (fun x => (semVal ((c : Thread nD τ), x) 0 : sProp 𝕄)) h0, congrArg (fun x => (semVal ((c : Thread nD τ), x) 0 : sProp 𝕄)) h1,
    congrArg (fun x => (semVal ((c : Thread nD τ), x) 0 : sProp 𝕄)) h2⟩

theorem setB (s : Fin 3) : (slotB s).view.set = slotSet s := by
  simp only [slotB, Memref.view_squeeze, View.set_reshape]; exact View.set_slice_whole _ _
theorem atB_eq (s : Fin 3) (f) : atB (F := F) c s f = (((c : Thread nD τ).loc cc0_scratch1) ↦[slotSet s]{fullShare} f : sProp 𝕄) := by
  unfold atB; rw [setB]; rfl
/-- A slot's part of the operand is a block and the rest; -/
theorem splitB (s : Fin 3) (b : Fin 16) : allB (F := F) c W s ⊣⊢ iprop(lentB c W s b ∗ keptB c W s b) := by
  unfold keptB; exact pointsTo_split_subset (Finset.subset_univ _)
/-- the operand is the three parts; -/
theorem thirdsB : (held c opdB W : sProp 𝕄) ⊣⊢ iprop(allB c W 0 ∗ allB c W 1 ∗ allB c W 2) := by
  refine ⟨?_, ?_⟩
  · iintro H
    ihave HX := (pointsTo_share (PosShare.mem_left_op_right fullShare)).1 $$ H
    icases HX with ⟨Ha, Hbc⟩
    ihave HY := (pointsTo_share (PosShare.mem_left_op_right fullShare.right)).1 $$ Hbc
    icases HY with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc
set_option maxHeartbeats 1000000 in
/-- the scratch is the three slots. -/
theorem slotsB : iprop(∃ d, owns (c : Thread nD τ) scrB fullShare d)
    ⊣⊢ (iprop((∃ f, atB (F := F) c 0 f) ∗ (∃ f, atB (F := F) c 1 f) ∗ ∃ f, atB (F := F) c 2 f) : sProp 𝕄) := by
  simp only [scrB, owns_whole]
  exact ⟨Ring.slots3_split (U := Pipeline.UD sig nD τ) (ℓ := (c : Thread nD τ).loc cc0_scratch1) (q := fullShare) slotSet slots_disjoint slots_cover
      (atB c 0) (atB c 1) (atB c 2) (atB_eq c 0) (atB_eq c 1) (atB_eq c 2),
    Ring.slots3_join (U := Pipeline.UD sig nD τ) (ℓ := (c : Thread nD τ).loc cc0_scratch1) (q := fullShare) slotSet slots_disjoint slots_cover
      (atB c 0) (atB c 1) (atB c 2) (atB_eq c 0) (atB_eq c 1) (atB_eq c 2)⟩

/-- What the region hands over makes the slots before the first step, -/
theorem enterB : iprop((∃ d, owns (c : Thread nD τ) scrB fullShare d)
      ∗ (semVal ((c : Thread nD τ), SemLoc.dma 7) 0 ∗ semVal ((c : Thread nD τ), SemLoc.dma 8) 0 ∗ semVal ((c : Thread nD τ), SemLoc.dma 9) 0)
      ∗ held c opdB W) ⊢ ringB c W 0 := by
  obtain ⟨e0, e1, e2⟩ := idleB_eq (F := F) c
  unfold ringB; rw [if_pos rfl]; unfold Ring.At₀
  rw [Ring.bigSep_fin3]
  simp only [Ring.free, e0, e1, e2]
  iintro ⟨HS, ⟨Z0, Z1, Z2⟩, HW⟩
  iapply Ring.with_homes₀
  ihave HT := (slotsB (F := F) c).1 $$ HS
  icases HT with ⟨⟨%g0, S0⟩, ⟨%g1, S1⟩, ⟨%g2, S2⟩⟩
  ihave HP := (thirdsB (F := F) c W).1 $$ HW
  icases HP with ⟨W0, W1, W2⟩
  isplitl [Z0 S0 W0]
  · isplitl [Z0]; · iexact Z0
    iexists g0; isplitl [S0]; · iexact S0
    iexact W0
  isplitl [Z1 S1 W1]
  · isplitl [Z1]; · iexact Z1
    iexists g1; isplitl [S1]; · iexact S1
    iexact W1
  · isplitl [Z2]; · iexact Z2
    iexists g2; isplitl [S2]; · iexact S2
    iexact W2
/-- and the slots after the last step give it back. -/
theorem leaveB : ringB c W 16 ⊢ iprop((∃ d, owns (c : Thread nD τ) scrB fullShare d)
      ∗ (semVal ((c : Thread nD τ), SemLoc.dma 7) 0 ∗ semVal ((c : Thread nD τ), SemLoc.dma 8) 0 ∗ semVal ((c : Thread nD τ), SemLoc.dma 9) 0)
      ∗ held c opdB W) := by
  obtain ⟨e0, e1, e2⟩ := idleB_eq (F := F) c
  unfold ringB; rw [if_neg (by decide)]
  iintro H
  ihave HL := (Ring.free3_of_At_last _ _ _ _) $$ H
  simp only [Ring.free, e0, e1, e2]
  icases HL with ⟨-, ⟨Z0, ⟨%g0, S0, W0⟩⟩, ⟨Z1, ⟨%g1, S1, W1⟩⟩, ⟨Z2, ⟨%g2, S2, W2⟩⟩⟩
  isplitl [S0 S1 S2]
  · iapply (slotsB (F := F) c).2
    isplitl [S0]; · iexists g0; iexact S0
    isplitl [S1]; · iexists g1; iexact S1
    iexists g2; iexact S2
  isplitl [Z0 Z1 Z2]
  · isplitl [Z0]; · iexact Z0
    isplitl [Z1]; · iexact Z1
    iexact Z2
  · iapply (thirdsB (F := F) c W).2
    isplitl [W0]; · iexact W0
    isplitl [W1]; · iexact W1
    iexact W2

/-- The slots' roles at a step, and what the step makes of them: the first step fills all three; -/
theorem firstB (t : ℕ) (h : t = 0) : ringB c W t ⊢ iprop(Ring.free (idleB c) (restB c W) (Ring.sl 3 t)
      ∗ Ring.free (idleB c) (restB c W) (Ring.sl 3 (t + 1)) ∗ Ring.free (idleB c) (restB c W) (Ring.sl 3 (t + 2))) := by
  unfold ringB; rw [if_pos h, Ring.At₀_eq3' _ _ _ t h (by decide : 3 ≤ 16)]
  iintro ⟨-, H0, H1, H2⟩
  isplitl [H0]; · iexact H0
  isplitl [H1]; · iexact H1
  iexact H2
theorem firstToB (t : ℕ) (h : t = 0) : iprop(Ring.inflight (awayB c W) (Ring.sl 3 (t + 1)) (Ring.bk 16 (t + 1))
      ∗ Ring.inflight (awayB c W) (Ring.sl 3 (t + 2)) (Ring.bk 16 (t + 2)) ∗ Ring.free (idleB c) (restB c W) (Ring.sl 3 t)) ⊢ ringB c W (t + 1) := by
  unfold ringB; rw [if_neg (Nat.succ_ne_zero t), Ring.At3_one' _ _ _ _ t h (by decide : 3 ≤ 16)]
  exact Ring.with_homes (Idealize.SL.BI.Entails.refl _)
/-- a step refills the slot two ahead; -/
theorem midB (t : ℕ) (h : 1 ≤ t) (hB : t + 2 < 16) : ringB c W t ⊢ iprop(Ring.inflight (awayB c W) (Ring.sl 3 t) (Ring.bk 16 t)
      ∗ Ring.inflight (awayB c W) (Ring.sl 3 (t + 1)) (Ring.bk 16 (t + 1)) ∗ Ring.free (idleB c) (restB c W) (Ring.sl 3 (t + 2))) := by
  unfold ringB; rw [if_neg (by omega), Ring.At3_here _ _ _ _ t hB]
  iintro ⟨-, H0, H1, H2⟩
  isplitl [H0]; · iexact H0
  isplitl [H1]; · iexact H1
  iexact H2
theorem midToB (t : ℕ) (hB : t + 2 < 16) : iprop(Ring.inflight (awayB c W) (Ring.sl 3 (t + 1)) (Ring.bk 16 (t + 1))
      ∗ Ring.inflight (awayB c W) (Ring.sl 3 (t + 2)) (Ring.bk 16 (t + 2)) ∗ Ring.free (idleB c) (restB c W) (Ring.sl 3 t)) ⊢ ringB c W (t + 1) := by
  unfold ringB; rw [if_neg (Nat.succ_ne_zero t), Ring.At3_next _ _ _ _ t hB, Ring.slotAt3_next0 _ _ _ t (by omega), Ring.slotAt3_next1 _ _ _ t hB]
  exact Ring.with_homes (Idealize.SL.BI.Entails.refl _)
/-- the last two steps fill none. -/
theorem lateB (t : ℕ) (h : 1 ≤ t) (ht : t < 16) : ringB c W t ⊢ iprop(Ring.inflight (awayB c W) (Ring.sl 3 t) (Ring.bk 16 t)
      ∗ Ring.slotAt 2 (idleB c) (restB c W) (awayB c W) t 1 ∗ Ring.free (idleB c) (restB c W) (Ring.sl 3 (t + 2))) := by
  unfold ringB; rw [if_neg (by omega), Ring.At3_here_tail _ _ _ _ t ht]
  iintro ⟨-, H0, H1, H2⟩
  isplitl [H0]; · iexact H0
  isplitl [H1]; · iexact H1
  iexact H2
theorem lateToB (t : ℕ) (hB : 16 ≤ t + 2) (ht : t < 16) : iprop(Ring.slotAt 2 (idleB c) (restB c W) (awayB c W) t 1
      ∗ Ring.free (idleB c) (restB c W) (Ring.sl 3 (t + 2)) ∗ Ring.free (idleB c) (restB c W) (Ring.sl 3 t)) ⊢ ringB c W (t + 1) := by
  unfold ringB; rw [if_neg (Nat.succ_ne_zero t), Ring.At3_next_tail _ _ _ _ t hB ht, Ring.slotAt3_tail_role _ _ _ t]
  exact Ring.with_homes (Idealize.SL.BI.Entails.refl _)

/-- A load of a slot that block `b` has come to, seen as a matrix, is the block. -/
theorem loadB (s : Fin 3) (b : Fin 16) (f : Held (F := F) c (slotB s)) (off : Fin 3 → ℕ) (h : off = ![s.val, 0, 0])
    (inb : ∀ a, off a + S1x2048x1024.size a ≤ S3x2048x1024.size a) (hc : S1x2048x1024.ShapeCasts S2048x1024) :
    shapeCast S2048x1024 (scrB.view.readAt (Elt F) (Rect.unit (s := S3x2048x1024) off S1x2048x1024.size inb).toLoadRect (comeB c W s b f)) hc
      = (blkB b).view.read (Elt F) W := by
  subst h
  exact Eq.trans (b := (slotB s).view.read (Elt F) (comeB c W s b f)) rfl (View.read_writes_whole _ _ _)

end

section names

omit [FloatOps F]
set_option synthInstance.maxSize 4096

theorem slotB_off0 : ∀ t : Fin grid0.N, first (grid0.coords t) → k0_off2 0#32 = ![(Ring.sl 3 t.val).val, 0, 0] := by decide +kernel
@[sl_canon] theorem slotB_name0 (t : Fin grid0.N) (h : first (grid0.coords t)) :
    (scrB.slice (Rect.unit (s := S3x2048x1024) (k0_off2 0#32) S1x2048x1024.size (k0_off2_inb (grid0.coords t) h 0)) (fun _ => rfl)).squeeze S2048x1024 squeezes_S1x2048x1024_S2048x1024 = slotB (Ring.sl 3 t.val) :=
  congrArg (fun M : Memref sig .tc .vmem S1x2048x1024 .bf16 => M.squeeze S2048x1024 squeezes_S1x2048x1024_S2048x1024)
    (Memref.slice_unit_congr _ (slotB_off0 t h) _ _ (fun _ => rfl) (fun _ => rfl))
theorem cellB_off0 : ∀ t : Fin grid0.N, first (grid0.coords t) → k0_off4 0#32 = ![1, (Ring.sl 3 t.val).val] := by decide +kernel
@[sl_canon] theorem cellB_name0 (t : Fin grid0.N) (h : first (grid0.coords t)) :
    (cc0_scratch2.slice (Rect.unit (s := S2x3) (k0_off4 0#32) S1x1.size (k0_off4_inb (grid0.coords t) h 0))).squeeze S_ squeezes_S1x1_S_ = cellB (Ring.sl 3 t.val) :=
  congrArg (fun M : DmaSems sig S1x1 => M.squeeze S_ squeezes_S1x1_S_) (SemArray.slice_unit_congr _ (cellB_off0 t h) _ _)
theorem blkB_off0 : ∀ t : Fin grid0.N, first (grid0.coords t) → k0_off5 0#32 = ![2048 * ((Ring.bk 16 t.val).val % 4), 0] := by decide +kernel
@[sl_canon] theorem blkB_name0 (t : Fin grid0.N) (h : first (grid0.coords t)) :
    opdB.slice (Rect.unit (s := S8192x1024) (k0_off5 0#32) S2048x1024.size (k0_off5_inb (grid0.coords t) h 0)) (fun _ => rfl) = blkB (Ring.bk 16 t.val) :=
  Memref.slice_unit_congr _ (blkB_off0 t h) _ _ (fun _ => rfl) (fun _ => rfl)
theorem slotB_off1 : ∀ t : Fin grid0.N, first (grid0.coords t) → k0_off2 1#32 = ![(Ring.sl 3 (t.val + 1)).val, 0, 0] := by decide +kernel
@[sl_canon] theorem slotB_name1 (t : Fin grid0.N) (h : first (grid0.coords t)) :
    (scrB.slice (Rect.unit (s := S3x2048x1024) (k0_off2 1#32) S1x2048x1024.size (k0_off2_inb (grid0.coords t) h 1)) (fun _ => rfl)).squeeze S2048x1024 squeezes_S1x2048x1024_S2048x1024 = slotB (Ring.sl 3 (t.val + 1)) :=
  congrArg (fun M : Memref sig .tc .vmem S1x2048x1024 .bf16 => M.squeeze S2048x1024 squeezes_S1x2048x1024_S2048x1024)
    (Memref.slice_unit_congr _ (slotB_off1 t h) _ _ (fun _ => rfl) (fun _ => rfl))
theorem cellB_off1 : ∀ t : Fin grid0.N, first (grid0.coords t) → k0_off4 1#32 = ![1, (Ring.sl 3 (t.val + 1)).val] := by decide +kernel
@[sl_canon] theorem cellB_name1 (t : Fin grid0.N) (h : first (grid0.coords t)) :
    (cc0_scratch2.slice (Rect.unit (s := S2x3) (k0_off4 1#32) S1x1.size (k0_off4_inb (grid0.coords t) h 1))).squeeze S_ squeezes_S1x1_S_ = cellB (Ring.sl 3 (t.val + 1)) :=
  congrArg (fun M : DmaSems sig S1x1 => M.squeeze S_ squeezes_S1x1_S_) (SemArray.slice_unit_congr _ (cellB_off1 t h) _ _)
theorem blkB_off1 : ∀ t : Fin grid0.N, first (grid0.coords t) → k0_off5 1#32 = ![2048 * ((Ring.bk 16 (t.val + 1)).val % 4), 0] := by decide +kernel
@[sl_canon] theorem blkB_name1 (t : Fin grid0.N) (h : first (grid0.coords t)) :
    opdB.slice (Rect.unit (s := S8192x1024) (k0_off5 1#32) S2048x1024.size (k0_off5_inb (grid0.coords t) h 1)) (fun _ => rfl) = blkB (Ring.bk 16 (t.val + 1)) :=
  Memref.slice_unit_congr _ (blkB_off1 t h) _ _ (fun _ => rfl) (fun _ => rfl)
theorem slotB_off2 : ∀ t : Fin grid0.N, k0_off7 (grid0.coords t) = ![(Ring.sl 3 (t.val + 2)).val, 0, 0] := by decide +kernel
@[sl_canon] theorem slotB_name2 (t : Fin grid0.N) (h : ahead (grid0.coords t)) :
    (scrB.slice (Rect.unit (s := S3x2048x1024) (k0_off7 (grid0.coords t)) S1x2048x1024.size (k0_off7_inb (grid0.coords t) h)) (fun _ => rfl)).squeeze S2048x1024 squeezes_S1x2048x1024_S2048x1024 = slotB (Ring.sl 3 (t.val + 2)) :=
  congrArg (fun M : Memref sig .tc .vmem S1x2048x1024 .bf16 => M.squeeze S2048x1024 squeezes_S1x2048x1024_S2048x1024)
    (Memref.slice_unit_congr _ (slotB_off2 t) _ _ (fun _ => rfl) (fun _ => rfl))
theorem cellB_off2 : ∀ t : Fin grid0.N, k0_off9 (grid0.coords t) = ![1, (Ring.sl 3 (t.val + 2)).val] := by decide +kernel
@[sl_canon] theorem cellB_name2 (t : Fin grid0.N) (h : ahead (grid0.coords t)) :
    (cc0_scratch2.slice (Rect.unit (s := S2x3) (k0_off9 (grid0.coords t)) S1x1.size (k0_off9_inb (grid0.coords t) h))).squeeze S_ squeezes_S1x1_S_ = cellB (Ring.sl 3 (t.val + 2)) :=
  congrArg (fun M : DmaSems sig S1x1 => M.squeeze S_ squeezes_S1x1_S_) (SemArray.slice_unit_congr _ (cellB_off2 t) _ _)
theorem blkB_off2 : ∀ t : Fin grid0.N, ahead (grid0.coords t) → k0_off10 (grid0.coords t) = ![2048 * ((Ring.bk 16 (t.val + 2)).val % 4), 0] := by decide +kernel
@[sl_canon] theorem blkB_name2 (t : Fin grid0.N) (h : ahead (grid0.coords t)) :
    opdB.slice (Rect.unit (s := S8192x1024) (k0_off10 (grid0.coords t)) S2048x1024.size (k0_off10_inb (grid0.coords t) h)) (fun _ => rfl) = blkB (Ring.bk 16 (t.val + 2)) :=
  Memref.slice_unit_congr _ (blkB_off2 t h) _ _ (fun _ => rfl) (fun _ => rfl)
theorem slotB_off3 : ∀ t : Fin grid0.N, k0_off12 (grid0.coords t) = ![(Ring.sl 3 t.val).val, 0, 0] := by decide +kernel
@[sl_canon] theorem slotB_name3 (t : Fin grid0.N) :
    (scrB.slice (Rect.unit (s := S3x2048x1024) (k0_off12 (grid0.coords t)) S1x2048x1024.size (k0_off12_inb (grid0.coords t))) (fun _ => rfl)).squeeze S2048x1024 squeezes_S1x2048x1024_S2048x1024 = slotB (Ring.sl 3 t.val) :=
  congrArg (fun M : Memref sig .tc .vmem S1x2048x1024 .bf16 => M.squeeze S2048x1024 squeezes_S1x2048x1024_S2048x1024)
    (Memref.slice_unit_congr _ (slotB_off3 t) _ _ (fun _ => rfl) (fun _ => rfl))
theorem cellB_off3 : ∀ t : Fin grid0.N, k0_off14 (grid0.coords t) = ![1, (Ring.sl 3 t.val).val] := by decide +kernel
@[sl_canon] theorem cellB_name3 (t : Fin grid0.N) :
    (cc0_scratch2.slice (Rect.unit (s := S2x3) (k0_off14 (grid0.coords t)) S1x1.size (k0_off14_inb (grid0.coords t)))).squeeze S_ squeezes_S1x1_S_ = cellB (Ring.sl 3 t.val) :=
  congrArg (fun M : DmaSems sig S1x1 => M.squeeze S_ squeezes_S1x1_S_) (SemArray.slice_unit_congr _ (cellB_off3 t) _ _)

end names

/-- The box of the body's loads, at the slot of the step. -/
theorem load_off : ∀ t : Fin grid0.N, k0_off16 (grid0.coords t) = ![(Ring.sl 3 t.val).val, 0, 0] := by decide +kernel
instance (priority := high) loadOff (t : Fin grid0.N) : ClosedOff (k0_off16 (grid0.coords t)) := ⟨![(Ring.sl 3 t.val).val, 0, 0], load_off t⟩

end Cert.UpDwIdeal.Stream

end
-- ==== Proof.UpDwRun.lean ====
/- One step of the kernel, in each of its six cases: from the slots before it to the slots after it, and the
   accumulator from its contents to the sum with the product of the step's two blocks. -/
module

public import proofs.«01_k».proof.Proof.UpDwSlots

@[expose] public section

set_option maxRecDepth 16384

noncomputable section

namespace Cert.UpDwIdeal.Stream

open Cert.UpDwIdeal Cert.UpDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

/-- The product of the two blocks of step `t`, the accumulator over `Y` after it, and the rounded copy of it. -/
def tile (c : Dev nD) (WA : Held (F := F) c opdA) (WB : Held (F := F) c opdB) (t : ℕ) : FVec F S1024x1024 .f32 :=
  matmul dot_S2048x1024_S2048x1024_S1024x1024_0_0_1_1_n_n none ((blkA (Ring.bk 16 t)).view.read (Elt F) WA : FVec F S2048x1024 .bf16)
    ((blkB (Ring.bk 16 t)).view.read (Elt F) WB : FVec F S2048x1024 .bf16) (constant S1024x1024 .f32 0x00000000#32)
def onto (c : Dev nD) (WA : Held (F := F) c opdA) (WB : Held (F := F) c opdB) (t : ℕ) (Y : Vec F S1x1024x1024 .f32) : Vec F S1x1024x1024 .f32 :=
  if t % 4 = 0 then shapeCast S1x1024x1024 (tile c WA WB t) shapeCasts_S1024x1024_S1x1024x1024
  else shapeCast S1x1024x1024 (addf (shapeCast S1024x1024 Y shapeCasts_S1x1024x1024_S1024x1024) (tile c WA WB t)) shapeCasts_S1024x1024_S1x1024x1024
abbrev rounded (Y : Vec F S1x1024x1024 .f32) : Vec F S1x1024x1024 .bf16 := k0_pay4 Y

theorem tile_of (c : Dev nD) (WA : Held (F := F) c opdA) (WB : Held (F := F) c opdB) (t : ℕ) (u v : Vec F S1x2048x1024 .bf16)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay1 u v = tile c WA WB t := by
  unfold k0_pay1 tile; dsimp only; rw [hu, hv]
theorem onto_zero (c : Dev nD) (WA : Held (F := F) c opdA) (WB : Held (F := F) c opdB) (t : ℕ) (h : t % 4 = 0) (u v : Vec F S1x2048x1024 .bf16) (Y : Vec F S1x1024x1024 .f32)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay2 u v = onto c WA WB t Y := by
  unfold onto; rw [if_pos h, ← tile_of c WA WB t u v hu hv]; rfl
theorem onto_more (c : Dev nD) (WA : Held (F := F) c opdA) (WB : Held (F := F) c opdB) (t : ℕ) (h : t % 4 ≠ 0) (u v : Vec F S1x2048x1024 .bf16) (Y : Vec F S1x1024x1024 .f32)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay3 u v Y = onto c WA WB t Y := by
  unfold onto; rw [if_neg h, ← tile_of c WA WB t u v hu hv]; rfl

variable (c : Dev nD) (t : Fin cfg0.N) (arg6 : Memref sig .tc .vmem S1x1024x1024 .f32) (harg6 : arg6.IsWhole) (arg7 : Memref sig .tc .vmem S1x1024x1024 .bf16) (harg7 : arg7.IsWhole)
  (WA : Held (F := F) c opdA) (WB : Held (F := F) c opdB) (y0 : Vec F S1x1024x1024 .f32) (y1 : Vec F S1x1024x1024 .bf16)

/-- What the step at `t` is to do: the accumulator takes the blocks' product, the rounded output its copy when the block's last product is in, the slots move on. -/
abbrev Steps : Prop := ∀ (W : Waits sig Unit) (K : PUnit → sProp 𝕄),
  iprop(owns (c : Thread nD τ) arg6 fullShare y0 ∗ owns (c : Thread nD τ) arg7 fullShare y1 ∗ ringA c WA t.val ∗ ringB c WB t.val ∗ owes (c : Thread nD τ) 0 W
      ∗ (iprop(owns (c : Thread nD τ) arg6 fullShare (onto c WA WB t.val y0)
          ∗ (∃ x, ⌜t.val % 4 = 3 → x = rounded (onto c WA WB t.val y0)⌝ ∗ owns (c : Thread nD τ) arg7 fullShare x)
          ∗ ringA c WA (t.val + 1) ∗ ringB c WB (t.val + 1) ∗ (∃ W', owes (c : Thread nD τ) 0 W')) -∗ K ⟨⟩))
    ⊢ wp frame (wpE (defs₀ (F := F)) Variants.none c none) Set.univ
        (cc0_mlp_up_dw (grid0.coords t) opdA (Memref.isWhole_whole _) opdB (Memref.isWhole_whole _) (Memref.whole main_arg2) (Memref.isWhole_whole _)
          (Memref.whole main_arg3) (Memref.isWhole_whole _) arg6 harg6 arg7 harg7 scrA (Memref.isWhole_whole _) scrB (Memref.isWhole_whole _) cc0_scratch2) K

set_option maxHeartbeats 2000000 in
/-- Case A: the first step. -/
theorem stepA (ht : t.val = 0) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : first (grid0.coords t) := q0.2 (by omega)
  have c1 : ahead (grid0.coords t) := q1.2 (by omega)
  have c2 : fresh (grid0.coords t) := q2.2 (by omega)
  have c3 : ¬more (grid0.coords t) := fun h => (fun h => by omega : ¬_) (q3.1 h)
  have c4 : ¬done (grid0.coords t) := fun h => (fun h => by omega : ¬_) (q4.1 h)
  haveI : Fact (first (grid0.coords t)) := ⟨c0⟩
  haveI : Fact (ahead (grid0.coords t)) := ⟨c1⟩
  haveI : Fact (fresh (grid0.coords t)) := ⟨c2⟩
  haveI : Fact (¬more (grid0.coords t)) := ⟨c3⟩
  haveI : Fact (¬done (grid0.coords t)) := ⟨c4⟩
  have hx : t.val % 4 = 0 := by omega
  iintro ⟨H0, H1, RA, RB, HW, Hk⟩
  ihave RA := (firstA c WA t.val ht) $$ RA
  ihave RB := (firstB c WB t.val ht) $$ RB
  irevert H0 H1 RA RB HW Hk
  simp only [cc0_mlp_up_dw_eq_skeleton]; unfold cc0_mlp_up_dw_skel
  simp only [k0_part4_eq_skeleton, k0_part1_eq_skeleton, k0_part2_eq_skeleton, k0_part3_eq_skeleton, k0_part5_eq_skeleton]
  unfold owns Ring.free
  iintro ⟨%f0, %hf0, H0⟩ ⟨%f1, %hf1, H1⟩ ⟨⟨HcA0, ⟨%fsA0, HsA0, HwA0⟩⟩, ⟨HcA1, ⟨%fsA1, HsA1, HwA1⟩⟩, ⟨HcA2, ⟨%fsA2, HsA2, HwA2⟩⟩⟩ ⟨⟨HcB0, ⟨%fsB0, HsB0, HwB0⟩⟩, ⟨HcB1, ⟨%fsB1, HsB1, HwB1⟩⟩, ⟨HcB2, ⟨%fsB2, HsB2, HwB2⟩⟩⟩ HW Hk
  ihave HpA0 := (splitA c WA (Ring.sl 3 t.val) (Ring.bk 16 t.val)).1 $$ HwA0
  icases HpA0 with ⟨HhA0, HrA0⟩
  ihave HpA1 := (splitA c WA (Ring.sl 3 (t.val + 1)) (Ring.bk 16 (t.val + 1))).1 $$ HwA1
  icases HpA1 with ⟨HhA1, HrA1⟩
  ihave HpA2 := (splitA c WA (Ring.sl 3 (t.val + 2)) (Ring.bk 16 (t.val + 2))).1 $$ HwA2
  icases HpA2 with ⟨HhA2, HrA2⟩
  ihave HpB0 := (splitB c WB (Ring.sl 3 t.val) (Ring.bk 16 t.val)).1 $$ HwB0
  icases HpB0 with ⟨HhB0, HrB0⟩
  ihave HpB1 := (splitB c WB (Ring.sl 3 (t.val + 1)) (Ring.bk 16 (t.val + 1))).1 $$ HwB1
  icases HpB1 with ⟨HhB1, HrB1⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans (onto_zero c WA WB t.val hx _ _ y0 (loadA c WA _ _ _ _ (load_off t) _ _) (loadB c WB _ _ _ _ (load_off t) _ _))
  isplitl [H1]
  · iexists y1; isplitr; · ipureintro; intro h; exact absurd h (by omega)
    iexists f1; isplitr; swap; · iexact H1
    ipureintro; exact hf1
  isplitl [HcA1 HrA1 HcA2 HrA2 HcA0 HsA0 HhA0 HrA0]
  · iapply (firstToA c WA t.val ht); unfold Ring.free Ring.inflight
    isplitl [HcA1 HrA1]
    · iexists _; isplitl [HcA1]; · iexact HcA1
      iexact HrA1
    isplitl [HcA2 HrA2]
    · iexists _; isplitl [HcA2]; · iexact HcA2
      iexact HrA2
    isplitl [HcA0]; · iexact HcA0
    iexists _; isplitl [HsA0]; · iexact HsA0
    iapply (splitA c WA (Ring.sl 3 t.val) (Ring.bk 16 t.val)).2; isplitl [HhA0]; · iexact HhA0
    iexact HrA0
  isplitl [HcB1 HrB1 HcB2 HrB2 HcB0 HsB0 HhB0 HrB0]
  · iapply (firstToB c WB t.val ht); unfold Ring.free Ring.inflight
    isplitl [HcB1 HrB1]
    · iexists _; isplitl [HcB1]; · iexact HcB1
      iexact HrB1
    isplitl [HcB2 HrB2]
    · iexists _; isplitl [HcB2]; · iexact HcB2
      iexact HrB2
    isplitl [HcB0]; · iexact HcB0
    iexists _; isplitl [HsB0]; · iexact HsB0
    iapply (splitB c WB (Ring.sl 3 t.val) (Ring.bk 16 t.val)).2; isplitl [HhB0]; · iexact HhB0
    iexact HrB0
  iexists _; iexact HW

set_option maxHeartbeats 2000000 in
/-- Case B: a step in the middle of a sum. -/
theorem stepB (ht : 1 ≤ t.val ∧ t.val < 14 ∧ t.val % 4 ≠ 0 ∧ t.val % 4 ≠ 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : ¬fresh (grid0.coords t) := fun h => (fun h => by omega : ¬_) (q2.1 h)
  have c3 : more (grid0.coords t) := q3.2 (by omega)
  have c4 : ¬done (grid0.coords t) := fun h => (fun h => by omega : ¬_) (q4.1 h)
  haveI : Fact (¬first (grid0.coords t)) := ⟨c0⟩
  haveI : Fact (ahead (grid0.coords t)) := ⟨c1⟩
  haveI : Fact (¬fresh (grid0.coords t)) := ⟨c2⟩
  haveI : Fact (more (grid0.coords t)) := ⟨c3⟩
  haveI : Fact (¬done (grid0.coords t)) := ⟨c4⟩
  have hx : t.val % 4 ≠ 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_up_dw_eq_skeleton]; unfold cc0_mlp_up_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists y1; isplitr; · ipureintro; intro h; exact absurd h (by omega)
    iexists f1; isplitr; swap; · iexact H1
    ipureintro; exact hf1
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case C: the last step of a sum. -/
theorem stepC (ht : 1 ≤ t.val ∧ t.val < 14 ∧ t.val % 4 = 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : ¬fresh (grid0.coords t) := fun h => (fun h => by omega : ¬_) (q2.1 h)
  have c3 : more (grid0.coords t) := q3.2 (by omega)
  have c4 : done (grid0.coords t) := q4.2 (by omega)
  haveI : Fact (¬first (grid0.coords t)) := ⟨c0⟩
  haveI : Fact (ahead (grid0.coords t)) := ⟨c1⟩
  haveI : Fact (¬fresh (grid0.coords t)) := ⟨c2⟩
  haveI : Fact (more (grid0.coords t)) := ⟨c3⟩
  haveI : Fact (done (grid0.coords t)) := ⟨c4⟩
  have hx : t.val % 4 ≠ 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_up_dw_eq_skeleton]; unfold cc0_mlp_up_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists (rounded (onto c WA WB t.val y0)); isplitr; · ipureintro; exact fun _ => rfl
    iexists _; isplitr; swap; · iexact H1
    ipureintro
    exact (View.read_writes_full _ _ _ _ _).trans (congrArg (fun Y => k0_pay4 Y) ((View.readCov_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))))
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case D: the first step of a sum. -/
theorem stepD (ht : 1 ≤ t.val ∧ t.val < 14 ∧ t.val % 4 = 0) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : fresh (grid0.coords t) := q2.2 (by omega)
  have c3 : ¬more (grid0.coords t) := fun h => (fun h => by omega : ¬_) (q3.1 h)
  have c4 : ¬done (grid0.coords t) := fun h => (fun h => by omega : ¬_) (q4.1 h)
  haveI : Fact (¬first (grid0.coords t)) := ⟨c0⟩
  haveI : Fact (ahead (grid0.coords t)) := ⟨c1⟩
  haveI : Fact (fresh (grid0.coords t)) := ⟨c2⟩
  haveI : Fact (¬more (grid0.coords t)) := ⟨c3⟩
  haveI : Fact (¬done (grid0.coords t)) := ⟨c4⟩
  have hx : t.val % 4 = 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_up_dw_eq_skeleton]; unfold cc0_mlp_up_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans (onto_zero c WA WB t.val hx _ _ y0 (loadA c WA _ _ _ _ (load_off t) _ _) (loadB c WB _ _ _ _ (load_off t) _ _))
  isplitl [H1]
  · iexists y1; isplitr; · ipureintro; intro h; exact absurd h (by omega)
    iexists f1; isplitr; swap; · iexact H1
    ipureintro; exact hf1
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case E: the last step but one. -/
theorem stepE (ht : 14 ≤ t.val ∧ t.val % 4 ≠ 0 ∧ t.val % 4 ≠ 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ¬ahead (grid0.coords t) := fun h => (fun h => by omega : ¬_) (q1.1 h)
  have c2 : ¬fresh (grid0.coords t) := fun h => (fun h => by omega : ¬_) (q2.1 h)
  have c3 : more (grid0.coords t) := q3.2 (by omega)
  have c4 : ¬done (grid0.coords t) := fun h => (fun h => by omega : ¬_) (q4.1 h)
  haveI : Fact (¬first (grid0.coords t)) := ⟨c0⟩
  haveI : Fact (¬ahead (grid0.coords t)) := ⟨c1⟩
  haveI : Fact (¬fresh (grid0.coords t)) := ⟨c2⟩
  haveI : Fact (more (grid0.coords t)) := ⟨c3⟩
  haveI : Fact (¬done (grid0.coords t)) := ⟨c4⟩
  have hx : t.val % 4 ≠ 0 := by omega
  iintro ⟨H0, H1, RA, RB, HW, Hk⟩
  ihave RA := (lateA c WA t.val (by omega) hN) $$ RA
  ihave RB := (lateB c WB t.val (by omega) hN) $$ RB
  irevert H0 H1 RA RB HW Hk
  simp only [cc0_mlp_up_dw_eq_skeleton]; unfold cc0_mlp_up_dw_skel
  simp only [k0_part4_eq_skeleton, k0_part5_eq_skeleton]
  unfold owns Ring.free Ring.inflight
  iintro ⟨%f0, %hf0, H0⟩ ⟨%f1, %hf1, H1⟩ ⟨⟨%ffA0, HfA0, HrA0⟩, HoA1, ⟨HcA2, ⟨%fsA2, HsA2, HwA2⟩⟩⟩ ⟨⟨%ffB0, HfB0, HrB0⟩, HoB1, ⟨HcB2, ⟨%fsB2, HsB2, HwB2⟩⟩⟩ HW Hk
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists y1; isplitr; · ipureintro; intro h; exact absurd h (by omega)
    iexists f1; isplitr; swap; · iexact H1
    ipureintro; exact hf1
  isplitl [HoA1 HcA2 HsA2 HwA2 HfA0 HfA0_dst HfA0_src HrA0]
  · iapply (lateToA c WA t.val (by omega) hN); unfold Ring.free
    isplitl [HoA1]; · iexact HoA1
    isplitl [HcA2 HsA2 HwA2]
    · isplitl [HcA2]; · iexact HcA2
      iexists _; isplitl [HsA2]; · iexact HsA2
      iexact HwA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HoB1 HcB2 HsB2 HwB2 HfB0 HfB0_dst HfB0_src HrB0]
  · iapply (lateToB c WB t.val (by omega) hN); unfold Ring.free
    isplitl [HoB1]; · iexact HoB1
    isplitl [HcB2 HsB2 HwB2]
    · isplitl [HcB2]; · iexact HcB2
      iexists _; isplitl [HsB2]; · iexact HsB2
      iexact HwB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case F: the last step. -/
theorem stepF (ht : 14 ≤ t.val ∧ t.val % 4 = 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ¬ahead (grid0.coords t) := fun h => (fun h => by omega : ¬_) (q1.1 h)
  have c2 : ¬fresh (grid0.coords t) := fun h => (fun h => by omega : ¬_) (q2.1 h)
  have c3 : more (grid0.coords t) := q3.2 (by omega)
  have c4 : done (grid0.coords t) := q4.2 (by omega)
  haveI : Fact (¬first (grid0.coords t)) := ⟨c0⟩
  haveI : Fact (¬ahead (grid0.coords t)) := ⟨c1⟩
  haveI : Fact (¬fresh (grid0.coords t)) := ⟨c2⟩
  haveI : Fact (more (grid0.coords t)) := ⟨c3⟩
  haveI : Fact (done (grid0.coords t)) := ⟨c4⟩
  have hx : t.val % 4 ≠ 0 := by omega
  iintro ⟨H0, H1, RA, RB, HW, Hk⟩
  ihave RA := (lateA c WA t.val (by omega) hN) $$ RA
  ihave RB := (lateB c WB t.val (by omega) hN) $$ RB
  irevert H0 H1 RA RB HW Hk
  simp only [cc0_mlp_up_dw_eq_skeleton]; unfold cc0_mlp_up_dw_skel
  simp only [k0_part4_eq_skeleton, k0_part5_eq_skeleton]
  unfold owns Ring.free Ring.inflight
  iintro ⟨%f0, %hf0, H0⟩ ⟨%f1, %hf1, H1⟩ ⟨⟨%ffA0, HfA0, HrA0⟩, HoA1, ⟨HcA2, ⟨%fsA2, HsA2, HwA2⟩⟩⟩ ⟨⟨%ffB0, HfB0, HrB0⟩, HoB1, ⟨HcB2, ⟨%fsB2, HsB2, HwB2⟩⟩⟩ HW Hk
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists (rounded (onto c WA WB t.val y0)); isplitr; · ipureintro; exact fun _ => rfl
    iexists _; isplitr; swap; · iexact H1
    ipureintro
    exact (View.read_writes_full _ _ _ _ _).trans (congrArg (fun Y => k0_pay4 Y) ((View.readCov_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))))
  isplitl [HoA1 HcA2 HsA2 HwA2 HfA0 HfA0_dst HfA0_src HrA0]
  · iapply (lateToA c WA t.val (by omega) hN); unfold Ring.free
    isplitl [HoA1]; · iexact HoA1
    isplitl [HcA2 HsA2 HwA2]
    · isplitl [HcA2]; · iexact HcA2
      iexists _; isplitl [HsA2]; · iexact HsA2
      iexact HwA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HoB1 HcB2 HsB2 HwB2 HfB0 HfB0_dst HfB0_src HrB0]
  · iapply (lateToB c WB t.val (by omega) hN); unfold Ring.free
    isplitl [HoB1]; · iexact HoB1
    isplitl [HcB2 HsB2 HwB2]
    · isplitl [HcB2]; · iexact HcB2
      iexists _; isplitl [HsB2]; · iexact HsB2
      iexact HwB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

end Cert.UpDwIdeal.Stream

end
-- ==== Proof.UpDwDat.lean ====
/- The whole run of the kernel: what the accumulator holds after each step, the body's obligation at every step, and the
   launch. -/
module

public import proofs.«01_k».proof.Proof.UpDwRun
public import Idealize.ShloMosaic.Lib.Pipeline.ArrRel

@[expose] public section

set_option maxRecDepth 16384

noncomputable section

namespace Cert.UpDwIdeal.Stream

open Cert.UpDwIdeal Cert.UpDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands as the region finds them. -/
abbrev leftOp (c : Dev nD) : Held (F := F) c opdA := V m c main_arg0
abbrev rightOp (c : Dev nD) : Held (F := F) c opdB := V m c main_arg1
abbrev gM : Memref sig .tc .hbm S4x2048x1024 .f32 := Memref.whole main_arg2
abbrev lM : Memref sig .tc .hbm S4x2048x1024 .bf16 := Memref.whole main_arg3

/-- The accumulator after step `n`. -/
def acc (c : Dev nD) : ℕ → Vec F S1x1024x1024 .f32
  | 0 => onto c (leftOp m c) (rightOp m c) 0 (constant S1x1024x1024 .f32 0x00000000#32)
  | n + 1 => onto c (leftOp m c) (rightOp m c) (n + 1) (acc c n)

theorem onto_fresh (c : Dev nD) (WA : Held (F := F) c opdA) (WB : Held (F := F) c opdB) (t : ℕ) (h : t % 4 = 0) (Y Y' : Vec F S1x1024x1024 .f32) :
    onto c WA WB t Y = onto c WA WB t Y' := by unfold onto; rw [if_pos h, if_pos h]
theorem acc_fresh (c : Dev nD) (t : ℕ) (h : t % 4 = 0) (Y : Vec F S1x1024x1024 .f32) : onto c (leftOp m c) (rightOp m c) t Y = acc m c t := by
  cases t with
  | zero => exact onto_fresh c _ _ 0 h _ _
  | succ n => exact onto_fresh c _ _ (n + 1) h _ _
theorem acc_more (c : Dev nD) (t : ℕ) (h : t ≠ 0) : onto c (leftOp m c) (rightOp m c) t (acc m c (t - 1)) = acc m c t := by
  cases t with
  | zero => exact absurd rfl h
  | succ n => rfl

/-- What holds before step `k`: the generator, the two arrays that the kernel adds to, and the slots. -/
def before (c : Dev nD) (k : ℕ) : sProp 𝕄 := iprop((∃ r, prngReg c r) ∗ held c gM (V m c main_arg2) ∗ held c lM (V m c main_arg3)
  ∗ ringA c (leftOp m c) k ∗ ringB c (rightOp m c) k)

/-- The pipeline's data: the first output holds the accumulator after each step, the second the rounded sum after the last of the four steps of a block. -/
def data (c : Dev nD) : RDat τ (Elt F) Unit ℕ (Pipeline.UD sig nD τ) ℕ cfg0 c where
  A w := V m c (Pipeline.arrRef spec0 w)
  after w t _ X := match w with
    | ⟨0, _⟩ => X = acc m c t.val
    | ⟨1, _⟩ => t.val % 4 = 3 → X = rounded (acc m c t.val)
  Φ t := before m c t.val
  q _ := fullShare
  owed _ := 0

theorem data_A (c : Dev nD) (w : Fin cfg0.W) : (data m c).A w = V m c (Pipeline.arrRef spec0 w) := by dsimp only [data]
theorem data_start (c : Dev nD) (t : Fin cfg0.N) : (data m c).Φ t.castSucc = before m c t.val := by
  dsimp only [data]; simp only [Fin.coe_castSucc]
theorem data_end (c : Dev nD) (t : Fin cfg0.N) : (data m c).Φ t.succ = before m c (t.val + 1) := by
  dsimp only [data]; simp only [Fin.val_succ]
theorem after_zero (c : Dev nD) (t : Fin cfg0.N) (Y X) : (data m c).after 0 t Y X ↔ X = acc m c t.val := Iff.rfl
theorem after_one (c : Dev nD) (t : Fin cfg0.N) (Y X) : (data m c).after 1 t Y X ↔ (t.val % 4 = 3 → X = rounded (acc m c t.val)) := Iff.rfl

theorem never_fetched : ∀ t : Fin cfg0.N, (cfg0.win 0).fetch t = false :=
  (by decide +kernel : ∀ t : Fin grid0.N, win0_0.fetch t = false)

/-- The step at `t` makes of what it finds in the accumulator what the accumulator holds after it. -/
theorem found (c : Dev nD) (t : Fin cfg0.N) (Y : Vec F S1x1024x1024 .f32) (h : (data m c).Finds 0 t Y) :
    onto c (leftOp m c) (rightOp m c) t.val Y = acc m c t.val := by
  by_cases h0 : t.val % 4 = 0
  · exact acc_fresh m c t.val h0 Y
  have hp : t.val ≠ 0 := fun e => h0 (by rw [e])
  rcases ((data m c).finds_of_pos (never_fetched t) hp Y).1 h with hf | ⟨Y', -, hY⟩
  · exact absurd ((flush0_0 _).1 hf) (by show ¬(t.val - 1) % 4 = 3; omega)
  · rw [(after_zero m c _ Y' Y).1 hY]; exact acc_more m c t.val hp

/-- A step, whichever case it is in. -/
theorem step (c : Dev nD) (t : Fin cfg0.N) (arg6 : Memref sig .tc .vmem S1x1024x1024 .f32) (harg6 : arg6.IsWhole) (arg7 : Memref sig .tc .vmem S1x1024x1024 .bf16) (harg7 : arg7.IsWhole)
    (WA : Held (F := F) c opdA) (WB : Held (F := F) c opdB) (y0 : Vec F S1x1024x1024 .f32) (y1 : Vec F S1x1024x1024 .bf16) :
    Steps c t arg6 harg6 arg7 harg7 WA WB y0 y1 := by
  have hN : t.val < 16 := lt_of_lt_of_eq t.isLt (show cfg0.N = 16 from N_0)
  by_cases ha : t.val = 0
  · exact stepA c t arg6 harg6 arg7 harg7 WA WB y0 y1 ha
  by_cases hl : t.val < 14
  · by_cases h3 : t.val % 4 = 3
    · exact stepC c t arg6 harg6 arg7 harg7 WA WB y0 y1 ⟨by omega, hl, h3⟩
    by_cases h0 : t.val % 4 = 0
    · exact stepD c t arg6 harg6 arg7 harg7 WA WB y0 y1 ⟨by omega, hl, h0⟩
    exact stepB c t arg6 harg6 arg7 harg7 WA WB y0 y1 ⟨by omega, hl, h0, h3⟩
  by_cases h3 : t.val % 4 = 3
  · exact stepF c t arg6 harg6 arg7 harg7 WA WB y0 y1 ⟨by omega, h3⟩
  exact stepE c t arg6 harg6 arg7 harg7 WA WB y0 y1 ⟨by omega, by omega, h3⟩

set_option maxHeartbeats 1000000 in
theorem body_at (c : Dev nD) (t : Fin cfg0.N) (y0 : Vec F S1x1024x1024 .f32) (y1 : Vec F S1x1024x1024 .bf16)
    (h : onto c (leftOp m c) (rightOp m c) t.val y0 = acc m c t.val) :
    iprop((data m c).Φ t.castSucc ∗ (data m c).owesAt () t.castSucc
      ∗ owns (c : Thread nD τ) (st0_0 t) fullShare y0 ∗ owns (c : Thread nD τ) (st0_1 t) fullShare y1)
    ⊢ wp frame (wpE (defs₀ (F := F)) Variants.none c none) Set.univ (bodyAt0 t) (fun _ =>
      iprop((data m c).Φ t.succ ∗ (data m c).owesAt () t.succ
        ∗ (∃ X, ⌜(data m c).after 0 t y0 X⌝ ∗ owns (c : Thread nD τ) (st0_0 t) fullShare X)
        ∗ (∃ X, ⌜(data m c).after 1 t y1 X⌝ ∗ owns (c : Thread nD τ) (st0_1 t) fullShare X))) := by
  have hs := step c t (st0_0 t) (hstage0_0 ((cfg0.slots t 0).cast nbuf0_0)) (st0_1 t) (hstage0_1 ((cfg0.slots t 1).cast nbuf0_1)) (leftOp m c) (rightOp m c) y0 y1
  unfold Steps at hs
  rw [h] at hs
  rw [data_start m c t, data_end m c t]
  unfold RDat.owesAt Pipeline.owesWithin
  rw [show (data m c).owed t.castSucc = 0 from rfl, show (data m c).owed t.succ = 0 from rfl]
  unfold before bodyAt0
  iintro ⟨⟨Hg, Hh2, Hh3, HA, HB⟩, ⟨%W, -, HW⟩, H0, H1⟩
  iapply (hs W _)
  isplitl [H0]; · iexact H0
  isplitl [H1]; · iexact H1
  isplitl [HA]; · iexact HA
  isplitl [HB]; · iexact HB
  isplitl [HW]; · iexact HW
  iintro ⟨H0, ⟨%x, %hx, H1⟩, HA, HB, ⟨%W', HW'⟩⟩
  isplitl [Hg Hh2 Hh3 HA HB]
  · isplitl [Hg]; · iexact Hg
    isplitl [Hh2]; · iexact Hh2
    isplitl [Hh3]; · iexact Hh3
    isplitl [HA]; · iexact HA
    iexact HB
  isplitl [HW']
  · iexists W'; isplitr; · ipureintro; exact fun _ _ => Or.inl trivial
    iexact HW'
  isplitl [H0]
  · iexists (acc m c t.val); isplitr; · ipureintro; exact rfl
    iexact H0
  iexists x; isplitr; · ipureintro; exact hx
  iexact H1

theorem bodyRow (t : Fin cfg0.N) : defs₀ (F := F) .tc cfg0.body (cfg0.bodyArgs t (cfg0.slots t)) = bodyAt0 t := by
  unfold defs₀; rw [Defs.onTc_tc]

theorem body (c : Dev nD) : (data m c).BodyObligation (defs₀ (F := F)) Variants.none () Set.univ := fun t Y hY => by
  rw [bigSep_W0, bigSep_W0, bodyRow]
  exact triple_restated (body_at m c t (Y 0) (Y 1) (found m c t (Y 0) (hY 0))) rfl .rfl fun _ => .rfl

/-! ## The launch -/

/-- The semaphores of the copies, and the buffers that the body names itself. -/
abbrev copySems : Fin 6 → SemLoc sig := ![SemLoc.dma 4, SemLoc.dma 5, SemLoc.dma 6, SemLoc.dma 7, SemLoc.dma 8, SemLoc.dma 9]
theorem copySems_ok : Pipeline.OwnSemFacts spec0 copySems := by decide
def named : Finset (Ref sig .tc) := {main_arg0, main_arg1, main_arg2, main_arg3}
theorem named_sub : named ⊆ Pipeline.restRefs sig spec0 := by decide

theorem copySems_eq (c : Dev nD) :
    (Pipeline.ownSems0 (Ix := Unit) (Name := ℕ) (U := Pipeline.UD sig nD τ) (Lvl := ℕ) (Val := Elt F) (τ := τ) copySems c : sProp 𝕄)
      = iprop(semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c copySems [0, 1, 2, 3, 4, 5] (by decide) (by decide)]; rfl
theorem named_eq (c : Dev nD) : (bigSep named (fun b => ((c : Thread nD τ).loc b) ↦{fullShare} V m c b) : sProp 𝕄)
    = iprop(held c opdA (leftOp m c) ∗ held c opdB (rightOp m c) ∗ held c gM (V m c main_arg2) ∗ held c lM (V m c main_arg3)) := by
  rw [BI.bigSep_eq_bigSepL_of_eq [main_arg0, main_arg1, main_arg2, main_arg3] (by decide) (by decide)]; rfl
theorem given_eq (c : Dev nD) : (Pipeline.ΦD copySems spec0 named (V m) c : sProp 𝕄)
    = iprop(((∃ d, owns (c : Thread nD τ) scrA fullShare d) ∗ (∃ d, owns (c : Thread nD τ) scrB fullShare d)) ∗ (∃ r, prngReg c r)
      ∗ (semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0)
      ∗ (held c opdA (leftOp m c) ∗ held c opdB (rightOp m c) ∗ held c gM (V m c main_arg2) ∗ held c lM (V m c main_arg3))) := by
  rw [Pipeline.ΦD_eq, scopedRest0_eq, copySems_eq, named_eq]; simp only [scrA, scrB, owns_whole]; try rfl

theorem given_in (c : Dev nD) : Pipeline.ΦD copySems spec0 named (V m) c ⊢ (data m c).Φ 0 := by
  rw [given_eq, show (data m c).Φ 0 = before m c 0 from rfl]
  unfold before
  iintro ⟨⟨SA, SB⟩, Hg, ⟨Q0, Q1, Q2, Q3, Q4, Q5⟩, ⟨HA, HB, H2, H3⟩⟩
  isplitl [Hg]; · iexact Hg
  isplitl [H2]; · iexact H2
  isplitl [H3]; · iexact H3
  isplitl [SA Q0 Q1 Q2 HA]
  · iapply (enterA c (leftOp m c))
    isplitl [SA]; · iexact SA
    isplitl [Q0 Q1 Q2]
    · isplitl [Q0]; · iexact Q0
      isplitl [Q1]; · iexact Q1
      iexact Q2
    iexact HA
  iapply (enterB c (rightOp m c))
  isplitl [SB]; · iexact SB
  isplitl [Q3 Q4 Q5]
  · isplitl [Q3]; · iexact Q3
    isplitl [Q4]; · iexact Q4
    iexact Q5
  iexact HB
theorem given_out (c : Dev nD) : (data m c).Φ (Fin.last cfg0.N) ⊢ Pipeline.ΦD copySems spec0 named (V m) c := by
  rw [given_eq, show (data m c).Φ (Fin.last cfg0.N) = before m c grid0.N from rfl]
  unfold before
  rw [show grid0.N = 16 by rw [N_0]]
  iintro ⟨Hg, H2, H3, RA, RB⟩
  ihave RA := (leaveA c (leftOp m c)) $$ RA
  icases RA with ⟨SA, ⟨Q0, Q1, Q2⟩, HA⟩
  ihave RB := (leaveB c (rightOp m c)) $$ RB
  icases RB with ⟨SB, ⟨Q3, Q4, Q5⟩, HB⟩
  isplitl [SA SB]
  · isplitl [SA]; · iexact SA
    iexact SB
  isplitl [Hg]; · iexact Hg
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA]; · iexact HA
  isplitl [HB]; · iexact HB
  isplitl [H2]; · iexact H2
  iexact H3

set_option maxHeartbeats 800000 in
theorem up_to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the launch theorem's implicit arguments are found by unfolding plain definitions
set_option backward.isDefEq.respectTransparency.types false in
/-- Every run of the program ends, with the arrays as the pipeline's data say and every semaphore at zero. -/
theorem run : θ_run defs (onTc (τ := τ) (main (F := F))) (s₀ m ρ)
    (fun r => Pipeline.RDat.FramePost (cfgs 0) (data m) (V m) r ∧ r.2.sem = fun _ => 0) :=
  Pipeline.RDat.θ_run_frame_dma (Q' := _) cfgs (0 : Fin 1) launch0 copySems defs₀ Variants.none (data m) copySems_ok named named_sub m ρ main
    (hbody := body m) (hshare := fun c w => by unfold RDat.share; split <;> rfl)
    (howed := fun _ _ => rfl) (V := V m) (hmain := up_to_region m) (hA := data_A m) (hin := given_in m) (hout := given_out m)

/-- The arguments end as they began. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run m ρ)

end Cert.UpDwIdeal.Stream

end
-- ==== Proof.UpDwVal.lean ====
/- The arrays that the kernel of the gradient of the MLP's first weight leaves, as a function of what the region finds. -/
module

public import proofs.«01_k».proof.Proof.UpDwDat
public import Idealize.ShloMosaic.Lib.Pipeline.ValueKit

@[expose] public section

set_option maxRecDepth 16384

noncomputable section

namespace Cert.UpDwIdeal.Stream

open Cert.UpDwIdeal Cert.UpDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable (m : (ℓ : Loc nD τ sig) → Buf (Elt Ideal) ℓ) (ρ : Dev nD → PrngReg) (c : Dev nD)

/-- One row's part of an entry of the weight's gradient, and the entry. -/
def GW1 (L : FVec Ideal S8192x4096 .bf16) (R : FVec Ideal S8192x1024 .bf16) (k : Fin 4096) (j : Fin 1024) (r : Fin 8192) : EReal :=
  L (ix2 r k) * R (ix2 r j)
def GW (L : FVec Ideal S8192x4096 .bf16) (R : FVec Ideal S8192x1024 .bf16) (k : Fin 4096) (j : Fin 1024) : EReal :=
  ∑ r : Fin 8192, GW1 L R k j r

theorem rowLt (i0 : Fin 4) (i1 : Fin 2048) : i0.val * 1024 + i1.val % 1024 < 4096 := by omega
/-- The pack of the gradients: the weight's gradient in its own rows, and what was there in the others. -/
def pack (L : FVec Ideal S8192x4096 .bf16) (R : FVec Ideal S8192x1024 .bf16) (g : S4x2048x1024.Idx → EReal) (i : S4x2048x1024.Idx) : EReal :=
  if (i 1).val / 1024 = 0 then GW L R ⟨(i 0).val * 1024 + (i 1).val % 1024, rowLt (i 0) (i 1)⟩ (i 2) else g i

/-! ## The accumulator -/

section acc

variable (L : FVec Ideal S8192x4096 .bf16) (R : FVec Ideal S8192x1024 .bf16)

theorem readA (b : Fin 16) (r : Fin 2048) (a : Fin 1024) (h : b.val % 4 * 2048 + r.val < 8192) (h' : b.val / 4 * 1024 + a.val < 4096) :
    ((blkA b).view.read (Elt Ideal) (L : Held (F := Ideal) c opdA) : FVec Ideal S2048x1024 .bf16) (ix2 r a) = L (ix2 ⟨b.val % 4 * 2048 + r.val, h⟩ ⟨b.val / 4 * 1024 + a.val, h'⟩) := by
  unfold blkA
  refine congrArg L ?_
  funext x; apply Fin.ext
  fin_cases x
  · show 2048 * (b.val % 4) + 1 * r.val = _
    simp; omega
  · show 1024 * (b.val / 4) + 1 * a.val = _
    simp; omega
theorem readB (b : Fin 16) (r : Fin 2048) (j : Fin 1024) (h : b.val % 4 * 2048 + r.val < 8192) :
    ((blkB b).view.read (Elt Ideal) (R : Held (F := Ideal) c opdB) : FVec Ideal S2048x1024 .bf16) (ix2 r j) = R (ix2 ⟨b.val % 4 * 2048 + r.val, h⟩ j) := by
  unfold blkB
  refine congrArg R ?_
  funext x; apply Fin.ext
  fin_cases x
  · show 2048 * (b.val % 4) + 1 * r.val = _
    simp; omega
  · show 0 + 1 * j.val = _
    simp

theorem tile_at (t : ℕ) (ht : t < 16) (a : Fin 1024) (j : Fin 1024) (h' : t / 4 * 1024 + a.val < 4096) :
    tile (F := Ideal) c L R t (ix2 a j) = ∑ r : Fin 2048, GW1 L R ⟨t / 4 * 1024 + a.val, h'⟩ j ⟨t % 4 * 2048 + r.val, by omega⟩ := by
  have hb : (Ring.bk 16 t).val = t := Nat.mod_eq_of_lt ht
  pointwise [tile]
  refine Finset.sum_congr rfl fun r _ => ?_
  unfold GW1
  refine congrArg₂ (· * ·) ((readA L _ r a (by omega) (by omega)).trans (congrArg L ?_)) ((readB R _ r j (by omega)).trans (congrArg R ?_))
  · exact congrArg₂ ix2 (Fin.ext (by simp only [hb])) (Fin.ext (by simp only [hb]))
  · exact congrArg (ix2 · j) (Fin.ext (by simp only [hb]))

theorem onto_first (t : ℕ) (h : t % 4 = 0) (Y : Vec Ideal S1x1024x1024 .f32) (z : Fin 1) (a j : Fin 1024) :
    onto (F := Ideal) c L R t Y (ix3 z a j) = tile (F := Ideal) c L R t (ix2 a j) := by
  unfold onto; rw [if_pos h]; pointwise
theorem onto_next (t : ℕ) (h : t % 4 ≠ 0) (Y : Vec Ideal S1x1024x1024 .f32) (z : Fin 1) (a j : Fin 1024) :
    onto (F := Ideal) c L R t Y (ix3 z a j) = Y (ix3 z a j) + tile (F := Ideal) c L R t (ix2 a j) := by
  obtain rfl : z = 0 := Subsingleton.elim _ _
  unfold onto; rw [if_neg h]; pointwise

end acc

theorem acc_first (t : ℕ) (h : t % 4 = 0) (z : Fin 1) (a j : Fin 1024) :
    acc m c t (ix3 z a j) = tile (F := Ideal) c (leftOp m c) (rightOp m c) t (ix2 a j) :=
  (congrFun (acc_fresh m c t h (acc m c t)).symm _).trans (onto_first c _ _ t h _ z a j)
theorem acc_next (t : ℕ) (h : t % 4 ≠ 0) (z : Fin 1) (a j : Fin 1024) :
    acc m c t (ix3 z a j) = acc m c (t - 1) (ix3 z a j) + tile (F := Ideal) c (leftOp m c) (rightOp m c) t (ix2 a j) :=
  (congrFun (acc_more m c t (fun e => h (by rw [e]))).symm _).trans (onto_next c _ _ t h _ z a j)

/-- After the last of a block's four steps, the accumulator holds the block of the gradient. -/
theorem acc_last (t : ℕ) (ht : t < 16) (h : t % 4 = 3) (z : Fin 1) (a j : Fin 1024) (h' : t / 4 * 1024 + a.val < 4096) :
    acc m c t (ix3 z a j) = GW (leftOp m c) (rightOp m c) ⟨t / 4 * 1024 + a.val, h'⟩ j := by
  obtain ⟨g, rfl⟩ : ∃ g, t = 4 * g + 3 := ⟨t / 4, by omega⟩
  have d0 : (4 * g) / 4 = g := by omega
  have d1 : (4 * g + 1) / 4 = g := by omega
  have d2 : (4 * g + 2) / 4 = g := by omega
  have d3 : (4 * g + 3) / 4 = g := by omega
  have e0 : (4 * g) % 4 = 0 := by omega
  have e1 : (4 * g + 1) % 4 = 1 := by omega
  have e2 : (4 * g + 2) % 4 = 2 := by omega
  rw [acc_next m c (4 * g + 3) (by omega), show 4 * g + 3 - 1 = 4 * g + 2 by omega, acc_next m c (4 * g + 2) (by omega),
    show 4 * g + 2 - 1 = 4 * g + 1 by omega, acc_next m c (4 * g + 1) (by omega), show 4 * g + 1 - 1 = 4 * g by omega, acc_first m c (4 * g) e0,
    tile_at c _ _ (4 * g) (by omega) a j (by omega), tile_at c _ _ (4 * g + 1) (by omega) a j (by omega),
    tile_at c _ _ (4 * g + 2) (by omega) a j (by omega), tile_at c _ _ (4 * g + 3) ht a j h', GW, Fin.sum_univ_tiles 4 2048 rfl, Fin.sum_univ_four]
  refine congrArg₂ (· + ·) (congrArg₂ (· + ·) (congrArg₂ (· + ·) ?_ ?_) ?_) ?_ <;> refine Finset.sum_congr rfl fun r _ => ?_
  · exact congrArg₂ (fun k r => GW1 (leftOp m c) (rightOp m c) k j r) (Fin.ext (by simp only [d0, d3])) (Fin.ext (by simp [e0]))
  · exact congrArg₂ (fun k r => GW1 (leftOp m c) (rightOp m c) k j r) (Fin.ext (by simp only [d1, d3])) (Fin.ext (by simp [e1]))
  · exact congrArg₂ (fun k r => GW1 (leftOp m c) (rightOp m c) k j r) (Fin.ext (by simp only [d2, d3])) (Fin.ext (by simp [e2]))
  · exact congrArg₂ (fun k r => GW1 (leftOp m c) (rightOp m c) k j r) rfl (Fin.ext (by simp [h]))

theorem rounded_at (Y : Vec Ideal S1x1024x1024 .f32) (z : Fin 1) (a j : Fin 1024) : (rounded Y : Vec Ideal S1x1024x1024 .bf16) (ix3 z a j) = Y (ix3 z a j) := by
  obtain rfl : z = 0 := Subsingleton.elim _ _
  pointwise [rounded, k0_pay4]

/-! ## The arrays -/

theorem out0 : (V m c main_v0_0 : FVec Ideal S4x2048x1024 .f32) = m ((c : Thread nD τ).loc main_arg2) := by
  change StableHlo.after hostOps0 _ _ = _
  simp only [StableHlo.after_cons, StableHlo.after_nil]
  after_results_simp
  rfl
theorem out1 : (V m c main_v0_1 : FVec Ideal S4x2048x1024 .bf16) = m ((c : Thread nD τ).loc main_arg3) := by
  change StableHlo.after hostOps0 _ _ = _
  simp only [StableHlo.after_cons, StableHlo.after_nil]
  after_results_simp
  rfl

theorem idx : ∀ t : Fin cfg0.N, win0_0.index t = ![t.val / 4, 0, 0] ∧ win0_1.index t = ![t.val / 4, 0, 0] :=
  (by decide +kernel : ∀ t : Fin grid0.N, _)
theorem emb0 (t : Fin cfg0.N) (z : Fin 1) (a j : Fin 1024) (h : t.val / 4 < 4) (h' : 0 * 1024 + a.val < 2048) :
    (win0_0.blk t).view.emb (ix3 z a j) = ix3 ⟨t.val / 4, h⟩ ⟨0 * 1024 + a.val, h'⟩ j := by
  obtain rfl : z = 0 := Subsingleton.elim _ _
  blk_ext [idx t]
theorem emb1 (t : Fin cfg0.N) (z : Fin 1) (a j : Fin 1024) (h : t.val / 4 < 4) (h' : 0 * 1024 + a.val < 2048) :
    (win0_1.blk t).view.emb (ix3 z a j) = ix3 ⟨t.val / 4, h⟩ ⟨0 * 1024 + a.val, h'⟩ j := by
  obtain rfl : z = 0 := Subsingleton.elim _ _
  blk_ext [idx t]

theorem pack_in (L : FVec Ideal S8192x4096 .bf16) (R : FVec Ideal S8192x1024 .bf16) (g : S4x2048x1024.Idx → EReal) (b : Fin 4) (a j : Fin 1024)
    (h' : 0 * 1024 + a.val < 2048) (h : b.val * 1024 + a.val < 4096) :
    pack L R g (ix3 b ⟨0 * 1024 + a.val, h'⟩ j) = GW L R ⟨b.val * 1024 + a.val, h⟩ j := by
  unfold pack
  rw [if_pos (by show (0 * 1024 + a.val) / 1024 = 0; omega)]
  exact congrArg (GW L R · j) (Fin.ext (by show b.val * 1024 + (0 * 1024 + a.val) % 1024 = b.val * 1024 + a.val; omega))
theorem pack_out (L : FVec Ideal S8192x4096 .bf16) (R : FVec Ideal S8192x1024 .bf16) (g : S4x2048x1024.Idx → EReal) (i : S4x2048x1024.Idx)
    (h : ¬(i 1).val / 1024 = 0) : pack L R g i = g i := if_neg h

section final

variable (after : (w : Fin cfg0.W) → Fin cfg0.N → (cfg0.win w).block.Idx → Elt Ideal (cfg0.win w).elt)
  (hL : ∀ (w : Fin cfg0.W) (u : Fin cfg0.N), (cfg0.win w).flush u = true → (data m c).Leaves w u (after w u))

include hL

theorem final0 : ((data m c).withAfter after).arrAt 0 cfg0.N
    = (pack (leftOp m c) (rightOp m c) (m ((c : Thread nD τ).loc main_arg2)) : FVec Ideal S4x2048x1024 .f32) := by
  refine Pipeline.Dat.arrAt_eq_of_coversWhere_of_agree _ 0 _ (fun β => β (1 : Fin 3) = 0) (by decide +kernel) (fun t hf y => ?_) (fun j hj => ?_)
  · have hN : t.val < 16 := lt_of_lt_of_eq t.isLt (show cfg0.N = 16 from N_0)
    obtain ⟨Y, -, hX⟩ := hL 0 t hf
    rw [RDat.withAfter_after, (after_zero m c t Y _).1 hX]
    blk_simp
    obtain ⟨z, a, j, rfl⟩ : ∃ (z : Fin 1) (a j : Fin 1024), y = ix3 z a j := ⟨y 0, y 1, y 2, by ext k; fin_cases k <;> rfl⟩
    rw [emb0 t z a j (by omega) (by omega), pack_in _ _ _ _ a j (by omega) (by show t.val / 4 * 1024 + a.val < 4096; omega)]
    exact acc_last m c t.val hN ((flush0_0 t).1 hf) z a j (by omega)
  · rw [RDat.withAfter_A, data_A]
    refine (congrFun (out0 m c) _).trans (pack_out _ _ _ _ ?_).symm
    exact hj
theorem final1 : ((data m c).withAfter after).arrAt 1 cfg0.N
    = (pack (leftOp m c) (rightOp m c) (m ((c : Thread nD τ).loc main_arg3)) : FVec Ideal S4x2048x1024 .bf16) := by
  refine Pipeline.Dat.arrAt_eq_of_coversWhere_of_agree _ 1 _ (fun β => β (1 : Fin 3) = 0) (by decide +kernel) (fun t hf y => ?_) (fun j hj => ?_)
  · have hN : t.val < 16 := lt_of_lt_of_eq t.isLt (show cfg0.N = 16 from N_0)
    obtain ⟨Y, -, hX⟩ := hL 1 t hf
    rw [RDat.withAfter_after, (after_one m c t Y _).1 hX ((flush0_1 t).1 hf)]
    blk_simp
    obtain ⟨z, a, j, rfl⟩ : ∃ (z : Fin 1) (a j : Fin 1024), y = ix3 z a j := ⟨y 0, y 1, y 2, by ext k; fin_cases k <;> rfl⟩
    rw [emb1 t z a j (by omega) (by omega), pack_in _ _ _ _ a j (by omega) (by show t.val / 4 * 1024 + a.val < 4096; omega)]
    exact (rounded_at _ z a j).trans (acc_last m c t.val hN ((flush0_1 t).1 hf) z a j (by omega))
  · rw [RDat.withAfter_A, data_A]
    refine (congrFun (out1 m c) _).trans (pack_out _ _ _ _ ?_).symm
    exact hj

end final

/-- Every run of the program leaves the two packs, and its arguments as they began. -/
theorem run_packs : θ_run defs (onTc (τ := τ) (main (F := Ideal))) ⟨m, fun _ => 0, ρ⟩ (fun r => ∀ c : Dev nD,
      r.2.mem ((c.tc : Thread nD τ).loc main_v0_0) = (pack (leftOp m c) (rightOp m c) (m ((c : Thread nD τ).loc main_arg2)) : FVec Ideal S4x2048x1024 .f32)
      ∧ r.2.mem ((c.tc : Thread nD τ).loc main_v0_1) = (pack (leftOp m c) (rightOp m c) (m ((c : Thread nD τ).loc main_arg3)) : FVec Ideal S4x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨after, hL, hA⟩ := RDat.FramePost.exists_exact h.1 c
    exact ⟨(hA 0).trans (final0 m c after hL), (hA 1).trans (final1 m c after hL),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (run m ρ)

end Cert.UpDwIdeal.Stream

end
-- ==== Proof.UpDwRef.lean ====
/- What the reference of the gradient of the MLP's first weight computes, read at an entry of the two packs, and the kernel's operands. -/
module

public import proofs.«01_k».proof.Proof.UpDwVal
public import proofs.«01_k».proof.Proof.Gen.UpDwRefIdeal.Run
public import proofs.«01_k».proof.Proof.Gen.UpDwRefIdeal.Read

@[expose] public section

set_option maxRecDepth 16384

noncomputable section

namespace Cert.UpDwRefIdeal.Value

open Cert.UpDwRefIdeal Cert.UpDwRefIdeal.Gen Idealize.ShloMosaic Idealize.ShloMosaic.TcCoe Idealize.SL.Sem
open Cert.UpDwRefIdeal.Read Cert.UpDwIdeal.Stream

variable (X0 : FVec Ideal S8192x4096 .bf16) (X1 : FVec Ideal S8192x1024 .bf16) (X2 : FVec Ideal S4x2048x1024 .f32) (X3 : FVec Ideal S4x2048x1024 .bf16)

theorem v4_at (k : Fin 4096) (j : Fin 1024) : val_main_v4 (F := Ideal) X0 X1 (ix2 k j) = GW X0 X1 k j := by
  pointwise [val_main_v4, val_main_v3, val_main_v1]
  rfl
theorem dw_at (g : Fin 4) (a j : Fin 1024) (h : g.val * 1024 + a.val < 4096) :
    val_main_v7 (F := Ideal) X0 X1 (ix3 g a j) = GW X0 X1 ⟨g.val * 1024 + a.val, h⟩ j := by
  pointwise [val_main_v7, val_main_v6, val_main_v5, v4_at]
theorem v9_at (g : Fin 4) (i : Fin 2048) (j : Fin 1024) :
    val_main_v9 (F := Ideal) X0 X1 X2 (ix3 g i j) = pack X0 X1 X2 (ix3 g i j) := by
  by_cases h0 : i.val < 1024
  · pointwise [val_main_v9, val_main_v8, h0]
    refine Eq.trans ?_ (if_pos (by show i.val / 1024 = 0; omega)).symm
    refine (dw_at _ _ _ _ _ (by show g.val * 1024 + i.val < 4096; omega)).trans ?_
    refine congrArg (GW X0 X1 · j) (Fin.ext ?_)
    show g.val * 1024 + i.val = g.val * 1024 + i.val % 1024
    omega
  · pointwise [val_main_v9, val_main_v8, h0]
    exact (congrArg X2 (congrArg (ix3 g · j) (Fin.ext (by simp; omega)))).trans (if_neg (by show ¬ i.val / 1024 = 0; omega)).symm
theorem v12_at (g : Fin 4) (i : Fin 2048) (j : Fin 1024) :
    val_main_v12 (F := Ideal) X0 X1 X3 (ix3 g i j) = pack X0 X1 X3 (ix3 g i j) := by
  by_cases h0 : i.val < 1024
  · pointwise [val_main_v12, val_main_v11, val_main_v10, h0]
    refine Eq.trans ?_ (if_pos (by show i.val / 1024 = 0; omega)).symm
    refine (dw_at _ _ _ _ _ (by show g.val * 1024 + i.val < 4096; omega)).trans ?_
    refine congrArg (GW X0 X1 · j) (Fin.ext ?_)
    show g.val * 1024 + i.val = g.val * 1024 + i.val % 1024
    omega
  · pointwise [val_main_v12, val_main_v11, val_main_v10, h0]
    exact (congrArg X3 (congrArg (ix3 g · j) (Fin.ext (by simp; omega)))).trans (if_neg (by show ¬ i.val / 1024 = 0; omega)).symm

end Cert.UpDwRefIdeal.Value

namespace Cert.UpDwIdeal.Stream

open Cert.UpDwIdeal Cert.UpDwIdeal.Gen Idealize.ShloMosaic Idealize.ShloMosaic.TcCoe Idealize.SL.Sem

variable (m : (ℓ : Loc nD τ sig) → Buf (Elt Ideal) ℓ) (c : Dev nD)

theorem left_eq : (leftOp m c : FVec Ideal S8192x4096 .bf16) = m ((c : Thread nD τ).loc main_arg0) := V_main_arg0 m c
theorem right_eq : (rightOp m c : FVec Ideal S8192x1024 .bf16) = m ((c : Thread nD τ).loc main_arg1) := V_main_arg1 m c

end Cert.UpDwIdeal.Stream

end
-- ==== Proof.UpDwClaim.lean ====
/- The claims about the gradient of the MLP's first weight: the frames of the three programs, and the equality of the results.
   The text of the run is over the idealized program at any float values; the two printed programs differ in nothing, so the
   same text is the run of the other one. -/
module

public import proofs.«01_k».proof.Defs
public import proofs.«01_k».proof.Proof.UpDwRef
public import proofs.«01_k».proof.Proof.Gen.UpDw
public import Idealize.ShloMosaic.Lib.Quiescent

@[expose] public section

set_option maxRecDepth 16384

noncomputable section

namespace Cert.Proof

open Idealize.ShloMosaic Idealize.ShloMosaic.TcCoe Idealize.SL.Sem

attribute [local instance] Cert.UpDw.Gen.facts Cert.UpDwIdeal.Gen.facts Cert.UpDwRefIdeal.Gen.facts

section same

variable {F : FTy → Type} [FloatOps F]

theorem updw_defs0_same : Cert.UpDw.defs₀ (F := F) = Cert.UpDwIdeal.defs₀ (F := F) := by
  unfold Cert.UpDw.defs₀ Cert.UpDwIdeal.defs₀
  refine congrArg Defs.onTc (funext fun l => funext fun x => ?_)
  match l, x with
  | 0, (t, s) => rfl
  | ⟨_ + 1, h⟩, _ => exact absurd h (Nat.not_lt.2 (Nat.le_add_left _ _))
theorem updw_defs_same : Cert.UpDw.defs (F := F) = Cert.UpDwIdeal.defs (F := F) := by
  unfold Cert.UpDw.defs Cert.UpDwIdeal.defs
  exact congrArg (fun d => Pipeline.defs Cert.UpDwIdeal.pcfgs d) updw_defs0_same
theorem updw_main_same : Cert.UpDw.main (F := F) = Cert.UpDwIdeal.main (F := F) := rfl

end same

theorem updw_frame_bits : Cert.quiescent_UpDw := by
  intro m ρ _
  rw [updw_defs_same, updw_main_same]
  exact Cert.UpDwIdeal.Stream.unchanged (F := Bits) m ρ
theorem updw_frame : Cert.quiescent_UpDwIdeal := fun m ρ _ => Cert.UpDwIdeal.Stream.unchanged (F := Ideal) m ρ
theorem updw_frame_ref : Cert.quiescent_UpDwRefIdeal := fun m ρ _ =>
  (θ_run _ _ _).mono (fun r h => ⟨fun c => (h c).2.2, sem_eq_zero_of_no_sems (by decide) _⟩)
    (Cert.UpDwRefIdeal.Value.run m ρ)

open Cert.UpDwIdeal.Stream in
theorem updw_algebraic : Cert.algebraic_UpDwIdeal_UpDwRefIdeal := by
  intro m ρ m' ρ' hpre hag
  refine ⟨fun c => pack (leftOp m c) (rightOp m c) (m ((c.tc : Thread _ _).loc Cert.UpDwIdeal.main_arg2)),
    fun c => pack (leftOp m c) (rightOp m c) (m ((c.tc : Thread _ _).loc Cert.UpDwIdeal.main_arg3)),
    run_packs m ρ, (θ_run _ _ _).mono (fun r h c => ?_) (Cert.UpDwRefIdeal.Value.run m' ρ')⟩
  obtain ⟨h0, h1, h2⟩ := h c
  obtain ⟨a0, a1, a2, a3⟩ := hag c
  refine ⟨h0.trans ?_, h1.trans ?_, h2⟩
  · refine Eq.trans ?_ (congrArg₂ (fun L R => pack L R _) (left_eq m c) (right_eq m c)).symm
    rw [Cert.UpDwRefIdeal.Read.val_main_v9_eq, a0, a1, a2]
    funext i
    rw [Idealize.ShloMosaic.eq_ix3 i]
    exact Cert.UpDwRefIdeal.Value.v9_at _ _ _ _ _ _
  · refine Eq.trans ?_ (congrArg₂ (fun L R => pack L R _) (left_eq m c) (right_eq m c)).symm
    rw [Cert.UpDwRefIdeal.Read.val_main_v12_eq, a0, a1, a3]
    funext i
    rw [Idealize.ShloMosaic.eq_ix3 i]
    exact Cert.UpDwRefIdeal.Value.v12_at _ _ _ _ _ _

end Cert.Proof

end
-- ==== Proof.DownDwSlots.lean ====
/- The kernel of the gradient of the MLP's second weight copies its two operands itself, block by block, each through three slots of a
   scratch buffer, two blocks ahead: the slots, the copies under way, and the body's names for them. -/
module

public import proofs.«01_k».proof.Proof.Gen.DownDwIdeal.Frame
public import proofs.«01_k».proof.Proof.Gen.DownDwIdeal.Skeleton
public import proofs.«01_k».proof.Proof.Gen.DownDwIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DownDwIdeal.Stream

open Cert.DownDwIdeal Cert.DownDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

instance : NeZero grid0.N := ⟨by rw [N_0]; decide⟩

/-- The body's five conditions, of the point's coordinates, and what they say of the point. -/
abbrev first (i : grid0.Coords) : Prop := k0_cond1 i = 1#1
abbrev ahead (i : grid0.Coords) : Prop := k0_cond2 i = 1#1
abbrev fresh (i : grid0.Coords) : Prop := k0_cond3 i = 1#1
abbrev more (i : grid0.Coords) : Prop := k0_cond4 i = 1#1
abbrev done (i : grid0.Coords) : Prop := k0_cond5 i = 1#1
theorem conds : ∀ t : Fin cfg0.N, (first (grid0.coords t) ↔ t.val = 0) ∧ (ahead (grid0.coords t) ↔ t.val < 14)
    ∧ (fresh (grid0.coords t) ↔ t.val % 4 = 0) ∧ (more (grid0.coords t) ↔ t.val % 4 ≠ 0) ∧ (done (grid0.coords t) ↔ t.val % 4 = 3) :=
  (by decide +kernel : ∀ t : Fin grid0.N, _)

/-- The contents of a buffer on core `c`, and the buffer held at them. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

/-- Each slot has a part of the operand of its own, to lend to the copies into it. -/
abbrev part (s : Fin 3) : PosShare TreeShare := if s.val = 0 then fullShare.left else if s.val = 1 then fullShare.right.left else fullShare.right.right

theorem slotFits (s : Fin 3) : ∀ a, (![s.val, 0, 0] : Fin 3 → ℕ) a + S1x2048x1024.size a ≤ S3x2048x1024.size a := by
  have := s.isLt; intro a; fin_cases a <;> simp <;> omega
abbrev slotSet (s : Fin 3) : Finset S3x2048x1024.Idx := (Rect.unit (s := S3x2048x1024) ![s.val, 0, 0] S1x2048x1024.size (slotFits s)).set
theorem slots_disjoint (s s' : Fin 3) (h : s ≠ s') : Disjoint (slotSet s) (slotSet s') :=
  Ring.lead_disjoint (s := S3x2048x1024) (0 : Fin 3) 1 (fun s : Fin 3 => (![s.val, 0, 0] : Fin 3 → ℕ)) S1x2048x1024.size slotFits (fun s => by simp) rfl s s' h
theorem slots_cover : Finset.univ.biUnion slotSet = Finset.univ :=
  Ring.lead_cover (s := S3x2048x1024) (0 : Fin 3) 1 (fun s : Fin 3 => (![s.val, 0, 0] : Fin 3 → ℕ)) S1x2048x1024.size slotFits (fun s => by simp)
    (fun s a ha => by fin_cases a <;> first | exact absurd rfl ha | rfl) rfl (fun a ha => by fin_cases a <;> first | exact absurd rfl ha | rfl) rfl

/-! ## The first operand's three slots -/

theorem blkFitsA (b : Fin 16) : ∀ a, (![2048 * (b.val % 4), 1024 * (b.val / 4)] : Fin 2 → ℕ) a + S2048x1024.size a ≤ S8192x4096.size a := by
  have := b.isLt; intro a; fin_cases a <;> simp <;> omega
theorem cellFitsA (s : Fin 3) : ∀ a, (![0, s.val] : Fin 2 → ℕ) a + S1x1.size a ≤ S2x3.size a := by
  have := s.isLt; intro a; fin_cases a <;> simp <;> omega

/-- The scratch, the operand, slot `s`, the block that step `b` waits for, and slot `s`'s semaphore. -/
abbrev scrA : Memref sig .tc .vmem S3x2048x1024 .bf16 := Memref.whole cc0_scratch0
abbrev opdA : Memref sig .tc .hbm S8192x4096 .bf16 := Memref.whole main_v3
def slotA (s : Fin 3) : Memref sig .tc .vmem S2048x1024 .bf16 :=
  (scrA.slice (Rect.unit (s := S3x2048x1024) ![s.val, 0, 0] S1x2048x1024.size (slotFits s)) (fun _ => rfl)).squeeze S2048x1024 squeezes_S1x2048x1024_S2048x1024
def blkA (b : Fin 16) : Memref sig .tc .hbm S2048x1024 .bf16 :=
  opdA.slice (Rect.unit (s := S8192x4096) ![2048 * (b.val % 4), 1024 * (b.val / 4)] S2048x1024.size (blkFitsA b)) (fun _ => rfl)
def cellA (s : Fin 3) : DmaSems sig S_ :=
  (cc0_scratch2.slice (Rect.unit (s := S2x3) ![0, s.val] S1x1.size (cellFitsA s))).squeeze S_ squeezes_S1x1_S_
abbrev semA (s : Fin 3) : SemLoc sig := SemLoc.dma (cellA s).sem
theorem semA_eq : semA 0 = SemLoc.dma 4 ∧ semA 1 = SemLoc.dma 5 ∧ semA 2 = SemLoc.dma 6 := by decide

section

variable (c : Dev nD) (W : Held (F := F) c opdA)

/-- Slot `s` at `f`; its semaphore at zero; of its part of the operand, block `b`, the rest, and all. -/
abbrev atA (s : Fin 3) (f : Held (F := F) c (slotA s)) : sProp 𝕄 := (slotA s).view.loc (c : Thread nD τ) ↦[(slotA s).view.set]{fullShare} f
abbrev idleA (s : Fin 3) : sProp 𝕄 := semVal ((c : Thread nD τ), semA s) 0
abbrev lentA (s : Fin 3) (b : Fin 16) : sProp 𝕄 := (blkA b).view.loc (c : Thread nD τ) ↦[(blkA b).view.set]{part s} W
def keptA (s : Fin 3) (b : Fin 16) : sProp 𝕄 := ((c : Thread nD τ).loc main_v3) ↦[Finset.univ \ (blkA b).view.set]{part s} W
abbrev allA (s : Fin 3) : sProp 𝕄 := ((c : Thread nD τ).loc main_v3) ↦[Finset.univ]{part s} W
/-- Slot `s` when block `b` has come over `f`, and the copy under way. -/
abbrev comeA (s : Fin 3) (b : Fin 16) (f : Held (F := F) c (slotA s)) : Held (F := F) c (slotA s) :=
  (slotA s).view.writes (Elt F) f [⟨Rect.whole S2048x1024, ReadAs.same.apply ((blkA b).view.read (Elt F) W)⟩]
abbrev copyA (s : Fin 3) (b : Fin 16) (f : Held (F := F) c (slotA s)) : sProp 𝕄 :=
  Transfers.Flight countersEmb (c : Thread nD τ) (semA s) default ((slotA s).view.amount (semA s))
    iprop(atA c s (comeA c W s b f) ∗ lentA c W s b)
abbrev restA (s : Fin 3) (f : Held (F := F) c (slotA s)) : sProp 𝕄 := iprop(atA c s f ∗ allA c W s)
abbrev awayA (s : Fin 3) (b : Fin 16) (f : Held (F := F) c (slotA s)) : sProp 𝕄 := iprop(copyA c W s b f ∗ keptA c W s b)
abbrev noneA (b : Fin 16) : sProp 𝕄 := iprop(emp)
/-- The three slots before step `k`: all free at first; then blocks `k` and `k + 1` on their way, the third slot free. -/
def ringA (k : ℕ) : sProp 𝕄 :=
  if k = 0 then Ring.At₀ (idleA c) (restA c W) noneA
  else Ring.At 2 (idleA c) (restA c W) noneA (awayA c W) k

omit [FloatOps F] in
theorem idleA_eq : idleA (F := F) c 0 = semVal ((c : Thread nD τ), SemLoc.dma 4) 0
    ∧ idleA (F := F) c 1 = semVal ((c : Thread nD τ), SemLoc.dma 5) 0 ∧ idleA (F := F) c 2 = semVal ((c : Thread nD τ), SemLoc.dma 6) 0 := by
  obtain ⟨h0, h1, h2⟩ := semA_eq
  exact ⟨congrArg (fun x => (semVal ((c : Thread nD τ), x) 0 : sProp 𝕄)) h0, congrArg (fun x => (semVal ((c : Thread nD τ), x) 0 : sProp 𝕄)) h1,
    congrArg (fun x => (semVal ((c : Thread nD τ), x) 0 : sProp 𝕄)) h2⟩

theorem setA (s : Fin 3) : (slotA s).view.set = slotSet s := by
  simp only [slotA, Memref.view_squeeze, View.set_reshape]; exact View.set_slice_whole _ _
theorem atA_eq (s : Fin 3) (f) : atA (F := F) c s f = (((c : Thread nD τ).loc cc0_scratch0) ↦[slotSet s]{fullShare} f : sProp 𝕄) := by
  unfold atA; rw [setA]; rfl
/-- A slot's part of the operand is a block and the rest; -/
theorem splitA (s : Fin 3) (b : Fin 16) : allA (F := F) c W s ⊣⊢ iprop(lentA c W s b ∗ keptA c W s b) := by
  unfold keptA; exact pointsTo_split_subset (Finset.subset_univ _)
/-- the operand is the three parts; -/
theorem thirdsA : (held c opdA W : sProp 𝕄) ⊣⊢ iprop(allA c W 0 ∗ allA c W 1 ∗ allA c W 2) := by
  refine ⟨?_, ?_⟩
  · iintro H
    ihave HX := (pointsTo_share (PosShare.mem_left_op_right fullShare)).1 $$ H
    icases HX with ⟨Ha, Hbc⟩
    ihave HY := (pointsTo_share (PosShare.mem_left_op_right fullShare.right)).1 $$ Hbc
    icases HY with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc
set_option maxHeartbeats 1000000 in
/-- the scratch is the three slots. -/
theorem slotsA : iprop(∃ d, owns (c : Thread nD τ) scrA fullShare d)
    ⊣⊢ (iprop((∃ f, atA (F := F) c 0 f) ∗ (∃ f, atA (F := F) c 1 f) ∗ ∃ f, atA (F := F) c 2 f) : sProp 𝕄) := by
  simp only [scrA, owns_whole]
  exact ⟨Ring.slots3_split (U := Pipeline.UD sig nD τ) (ℓ := (c : Thread nD τ).loc cc0_scratch0) (q := fullShare) slotSet slots_disjoint slots_cover
      (atA c 0) (atA c 1) (atA c 2) (atA_eq c 0) (atA_eq c 1) (atA_eq c 2),
    Ring.slots3_join (U := Pipeline.UD sig nD τ) (ℓ := (c : Thread nD τ).loc cc0_scratch0) (q := fullShare) slotSet slots_disjoint slots_cover
      (atA c 0) (atA c 1) (atA c 2) (atA_eq c 0) (atA_eq c 1) (atA_eq c 2)⟩

/-- What the region hands over makes the slots before the first step, -/
theorem enterA : iprop((∃ d, owns (c : Thread nD τ) scrA fullShare d)
      ∗ (semVal ((c : Thread nD τ), SemLoc.dma 4) 0 ∗ semVal ((c : Thread nD τ), SemLoc.dma 5) 0 ∗ semVal ((c : Thread nD τ), SemLoc.dma 6) 0)
      ∗ held c opdA W) ⊢ ringA c W 0 := by
  obtain ⟨e0, e1, e2⟩ := idleA_eq (F := F) c
  unfold ringA; rw [if_pos rfl]; unfold Ring.At₀
  rw [Ring.bigSep_fin3]
  simp only [Ring.free, e0, e1, e2]
  iintro ⟨HS, ⟨Z0, Z1, Z2⟩, HW⟩
  iapply Ring.with_homes₀
  ihave HT := (slotsA (F := F) c).1 $$ HS
  icases HT with ⟨⟨%g0, S0⟩, ⟨%g1, S1⟩, ⟨%g2, S2⟩⟩
  ihave HP := (thirdsA (F := F) c W).1 $$ HW
  icases HP with ⟨W0, W1, W2⟩
  isplitl [Z0 S0 W0]
  · isplitl [Z0]; · iexact Z0
    iexists g0; isplitl [S0]; · iexact S0
    iexact W0
  isplitl [Z1 S1 W1]
  · isplitl [Z1]; · iexact Z1
    iexists g1; isplitl [S1]; · iexact S1
    iexact W1
  · isplitl [Z2]; · iexact Z2
    iexists g2; isplitl [S2]; · iexact S2
    iexact W2
/-- and the slots after the last step give it back. -/
theorem leaveA : ringA c W 16 ⊢ iprop((∃ d, owns (c : Thread nD τ) scrA fullShare d)
      ∗ (semVal ((c : Thread nD τ), SemLoc.dma 4) 0 ∗ semVal ((c : Thread nD τ), SemLoc.dma 5) 0 ∗ semVal ((c : Thread nD τ), SemLoc.dma 6) 0)
      ∗ held c opdA W) := by
  obtain ⟨e0, e1, e2⟩ := idleA_eq (F := F) c
  unfold ringA; rw [if_neg (by decide)]
  iintro H
  ihave HL := (Ring.free3_of_At_last _ _ _ _) $$ H
  simp only [Ring.free, e0, e1, e2]
  icases HL with ⟨-, ⟨Z0, ⟨%g0, S0, W0⟩⟩, ⟨Z1, ⟨%g1, S1, W1⟩⟩, ⟨Z2, ⟨%g2, S2, W2⟩⟩⟩
  isplitl [S0 S1 S2]
  · iapply (slotsA (F := F) c).2
    isplitl [S0]; · iexists g0; iexact S0
    isplitl [S1]; · iexists g1; iexact S1
    iexists g2; iexact S2
  isplitl [Z0 Z1 Z2]
  · isplitl [Z0]; · iexact Z0
    isplitl [Z1]; · iexact Z1
    iexact Z2
  · iapply (thirdsA (F := F) c W).2
    isplitl [W0]; · iexact W0
    isplitl [W1]; · iexact W1
    iexact W2

/-- The slots' roles at a step, and what the step makes of them: the first step fills all three; -/
theorem firstA (t : ℕ) (h : t = 0) : ringA c W t ⊢ iprop(Ring.free (idleA c) (restA c W) (Ring.sl 3 t)
      ∗ Ring.free (idleA c) (restA c W) (Ring.sl 3 (t + 1)) ∗ Ring.free (idleA c) (restA c W) (Ring.sl 3 (t + 2))) := by
  unfold ringA; rw [if_pos h, Ring.At₀_eq3' _ _ _ t h (by decide : 3 ≤ 16)]
  iintro ⟨-, H0, H1, H2⟩
  isplitl [H0]; · iexact H0
  isplitl [H1]; · iexact H1
  iexact H2
theorem firstToA (t : ℕ) (h : t = 0) : iprop(Ring.inflight (awayA c W) (Ring.sl 3 (t + 1)) (Ring.bk 16 (t + 1))
      ∗ Ring.inflight (awayA c W) (Ring.sl 3 (t + 2)) (Ring.bk 16 (t + 2)) ∗ Ring.free (idleA c) (restA c W) (Ring.sl 3 t)) ⊢ ringA c W (t + 1) := by
  unfold ringA; rw [if_neg (Nat.succ_ne_zero t), Ring.At3_one' _ _ _ _ t h (by decide : 3 ≤ 16)]
  exact Ring.with_homes (Idealize.SL.BI.Entails.refl _)
/-- a step refills the slot two ahead; -/
theorem midA (t : ℕ) (h : 1 ≤ t) (hB : t + 2 < 16) : ringA c W t ⊢ iprop(Ring.inflight (awayA c W) (Ring.sl 3 t) (Ring.bk 16 t)
      ∗ Ring.inflight (awayA c W) (Ring.sl 3 (t + 1)) (Ring.bk 16 (t + 1)) ∗ Ring.free (idleA c) (restA c W) (Ring.sl 3 (t + 2))) := by
  unfold ringA; rw [if_neg (by omega), Ring.At3_here _ _ _ _ t hB]
  iintro ⟨-, H0, H1, H2⟩
  isplitl [H0]; · iexact H0
  isplitl [H1]; · iexact H1
  iexact H2
theorem midToA (t : ℕ) (hB : t + 2 < 16) : iprop(Ring.inflight (awayA c W) (Ring.sl 3 (t + 1)) (Ring.bk 16 (t + 1))
      ∗ Ring.inflight (awayA c W) (Ring.sl 3 (t + 2)) (Ring.bk 16 (t + 2)) ∗ Ring.free (idleA c) (restA c W) (Ring.sl 3 t)) ⊢ ringA c W (t + 1) := by
  unfold ringA; rw [if_neg (Nat.succ_ne_zero t), Ring.At3_next _ _ _ _ t hB, Ring.slotAt3_next0 _ _ _ t (by omega), Ring.slotAt3_next1 _ _ _ t hB]
  exact Ring.with_homes (Idealize.SL.BI.Entails.refl _)
/-- the last two steps fill none. -/
theorem lateA (t : ℕ) (h : 1 ≤ t) (ht : t < 16) : ringA c W t ⊢ iprop(Ring.inflight (awayA c W) (Ring.sl 3 t) (Ring.bk 16 t)
      ∗ Ring.slotAt 2 (idleA c) (restA c W) (awayA c W) t 1 ∗ Ring.free (idleA c) (restA c W) (Ring.sl 3 (t + 2))) := by
  unfold ringA; rw [if_neg (by omega), Ring.At3_here_tail _ _ _ _ t ht]
  iintro ⟨-, H0, H1, H2⟩
  isplitl [H0]; · iexact H0
  isplitl [H1]; · iexact H1
  iexact H2
theorem lateToA (t : ℕ) (hB : 16 ≤ t + 2) (ht : t < 16) : iprop(Ring.slotAt 2 (idleA c) (restA c W) (awayA c W) t 1
      ∗ Ring.free (idleA c) (restA c W) (Ring.sl 3 (t + 2)) ∗ Ring.free (idleA c) (restA c W) (Ring.sl 3 t)) ⊢ ringA c W (t + 1) := by
  unfold ringA; rw [if_neg (Nat.succ_ne_zero t), Ring.At3_next_tail _ _ _ _ t hB ht, Ring.slotAt3_tail_role _ _ _ t]
  exact Ring.with_homes (Idealize.SL.BI.Entails.refl _)

/-- A load of a slot that block `b` has come to, seen as a matrix, is the block. -/
theorem loadA (s : Fin 3) (b : Fin 16) (f : Held (F := F) c (slotA s)) (off : Fin 3 → ℕ) (h : off = ![s.val, 0, 0])
    (inb : ∀ a, off a + S1x2048x1024.size a ≤ S3x2048x1024.size a) (hc : S1x2048x1024.ShapeCasts S2048x1024) :
    shapeCast S2048x1024 (scrA.view.readAt (Elt F) (Rect.unit (s := S3x2048x1024) off S1x2048x1024.size inb).toLoadRect (comeA c W s b f)) hc
      = (blkA b).view.read (Elt F) W := by
  subst h
  exact Eq.trans (b := (slotA s).view.read (Elt F) (comeA c W s b f)) rfl (View.read_writes_whole _ _ _)

end

section names

omit [FloatOps F]
set_option synthInstance.maxSize 4096

theorem slotA_off0 : ∀ t : Fin grid0.N, first (grid0.coords t) → k0_off2 0#32 = ![(Ring.sl 3 t.val).val, 0, 0] := by decide +kernel
@[sl_canon] theorem slotA_name0 (t : Fin grid0.N) (h : first (grid0.coords t)) :
    (scrA.slice (Rect.unit (s := S3x2048x1024) (k0_off2 0#32) S1x2048x1024.size (k0_off2_inb (grid0.coords t) h 0)) (fun _ => rfl)).squeeze S2048x1024 squeezes_S1x2048x1024_S2048x1024 = slotA (Ring.sl 3 t.val) :=
  congrArg (fun M : Memref sig .tc .vmem S1x2048x1024 .bf16 => M.squeeze S2048x1024 squeezes_S1x2048x1024_S2048x1024)
    (Memref.slice_unit_congr _ (slotA_off0 t h) _ _ (fun _ => rfl) (fun _ => rfl))
theorem cellA_off0 : ∀ t : Fin grid0.N, first (grid0.coords t) → k0_off1 0#32 = ![0, (Ring.sl 3 t.val).val] := by decide +kernel
@[sl_canon] theorem cellA_name0 (t : Fin grid0.N) (h : first (grid0.coords t)) :
    (cc0_scratch2.slice (Rect.unit (s := S2x3) (k0_off1 0#32) S1x1.size (k0_off1_inb (grid0.coords t) h 0))).squeeze S_ squeezes_S1x1_S_ = cellA (Ring.sl 3 t.val) :=
  congrArg (fun M : DmaSems sig S1x1 => M.squeeze S_ squeezes_S1x1_S_) (SemArray.slice_unit_congr _ (cellA_off0 t h) _ _)
theorem blkA_off0 : ∀ t : Fin grid0.N, first (grid0.coords t) → k0_off3 0#32 0#32 = ![2048 * ((Ring.bk 16 t.val).val % 4), 1024 * ((Ring.bk 16 t.val).val / 4)] := by decide +kernel
@[sl_canon] theorem blkA_name0 (t : Fin grid0.N) (h : first (grid0.coords t)) :
    opdA.slice (Rect.unit (s := S8192x4096) (k0_off3 0#32 0#32) S2048x1024.size (k0_off3_inb (grid0.coords t) h 0)) (fun _ => rfl) = blkA (Ring.bk 16 t.val) :=
  Memref.slice_unit_congr _ (blkA_off0 t h) _ _ (fun _ => rfl) (fun _ => rfl)
theorem slotA_off1 : ∀ t : Fin grid0.N, first (grid0.coords t) → k0_off2 1#32 = ![(Ring.sl 3 (t.val + 1)).val, 0, 0] := by decide +kernel
@[sl_canon] theorem slotA_name1 (t : Fin grid0.N) (h : first (grid0.coords t)) :
    (scrA.slice (Rect.unit (s := S3x2048x1024) (k0_off2 1#32) S1x2048x1024.size (k0_off2_inb (grid0.coords t) h 1)) (fun _ => rfl)).squeeze S2048x1024 squeezes_S1x2048x1024_S2048x1024 = slotA (Ring.sl 3 (t.val + 1)) :=
  congrArg (fun M : Memref sig .tc .vmem S1x2048x1024 .bf16 => M.squeeze S2048x1024 squeezes_S1x2048x1024_S2048x1024)
    (Memref.slice_unit_congr _ (slotA_off1 t h) _ _ (fun _ => rfl) (fun _ => rfl))
theorem cellA_off1 : ∀ t : Fin grid0.N, first (grid0.coords t) → k0_off1 1#32 = ![0, (Ring.sl 3 (t.val + 1)).val] := by decide +kernel
@[sl_canon] theorem cellA_name1 (t : Fin grid0.N) (h : first (grid0.coords t)) :
    (cc0_scratch2.slice (Rect.unit (s := S2x3) (k0_off1 1#32) S1x1.size (k0_off1_inb (grid0.coords t) h 1))).squeeze S_ squeezes_S1x1_S_ = cellA (Ring.sl 3 (t.val + 1)) :=
  congrArg (fun M : DmaSems sig S1x1 => M.squeeze S_ squeezes_S1x1_S_) (SemArray.slice_unit_congr _ (cellA_off1 t h) _ _)
theorem blkA_off1 : ∀ t : Fin grid0.N, first (grid0.coords t) → k0_off3 1#32 1#32 = ![2048 * ((Ring.bk 16 (t.val + 1)).val % 4), 1024 * ((Ring.bk 16 (t.val + 1)).val / 4)] := by decide +kernel
@[sl_canon] theorem blkA_name1 (t : Fin grid0.N) (h : first (grid0.coords t)) :
    opdA.slice (Rect.unit (s := S8192x4096) (k0_off3 1#32 1#32) S2048x1024.size (k0_off3_inb (grid0.coords t) h 1)) (fun _ => rfl) = blkA (Ring.bk 16 (t.val + 1)) :=
  Memref.slice_unit_congr _ (blkA_off1 t h) _ _ (fun _ => rfl) (fun _ => rfl)
theorem slotA_off2 : ∀ t : Fin grid0.N, k0_off7 (grid0.coords t) = ![(Ring.sl 3 (t.val + 2)).val, 0, 0] := by decide +kernel
@[sl_canon] theorem slotA_name2 (t : Fin grid0.N) (h : ahead (grid0.coords t)) :
    (scrA.slice (Rect.unit (s := S3x2048x1024) (k0_off7 (grid0.coords t)) S1x2048x1024.size (k0_off7_inb (grid0.coords t) h)) (fun _ => rfl)).squeeze S2048x1024 squeezes_S1x2048x1024_S2048x1024 = slotA (Ring.sl 3 (t.val + 2)) :=
  congrArg (fun M : Memref sig .tc .vmem S1x2048x1024 .bf16 => M.squeeze S2048x1024 squeezes_S1x2048x1024_S2048x1024)
    (Memref.slice_unit_congr _ (slotA_off2 t) _ _ (fun _ => rfl) (fun _ => rfl))
theorem cellA_off2 : ∀ t : Fin grid0.N, k0_off6 (grid0.coords t) = ![0, (Ring.sl 3 (t.val + 2)).val] := by decide +kernel
@[sl_canon] theorem cellA_name2 (t : Fin grid0.N) (h : ahead (grid0.coords t)) :
    (cc0_scratch2.slice (Rect.unit (s := S2x3) (k0_off6 (grid0.coords t)) S1x1.size (k0_off6_inb (grid0.coords t) h))).squeeze S_ squeezes_S1x1_S_ = cellA (Ring.sl 3 (t.val + 2)) :=
  congrArg (fun M : DmaSems sig S1x1 => M.squeeze S_ squeezes_S1x1_S_) (SemArray.slice_unit_congr _ (cellA_off2 t) _ _)
theorem blkA_off2 : ∀ t : Fin grid0.N, ahead (grid0.coords t) → k0_off8 (grid0.coords t) = ![2048 * ((Ring.bk 16 (t.val + 2)).val % 4), 1024 * ((Ring.bk 16 (t.val + 2)).val / 4)] := by decide +kernel
@[sl_canon] theorem blkA_name2 (t : Fin grid0.N) (h : ahead (grid0.coords t)) :
    opdA.slice (Rect.unit (s := S8192x4096) (k0_off8 (grid0.coords t)) S2048x1024.size (k0_off8_inb (grid0.coords t) h)) (fun _ => rfl) = blkA (Ring.bk 16 (t.val + 2)) :=
  Memref.slice_unit_congr _ (blkA_off2 t h) _ _ (fun _ => rfl) (fun _ => rfl)
theorem slotA_off3 : ∀ t : Fin grid0.N, k0_off12 (grid0.coords t) = ![(Ring.sl 3 t.val).val, 0, 0] := by decide +kernel
@[sl_canon] theorem slotA_name3 (t : Fin grid0.N) :
    (scrA.slice (Rect.unit (s := S3x2048x1024) (k0_off12 (grid0.coords t)) S1x2048x1024.size (k0_off12_inb (grid0.coords t))) (fun _ => rfl)).squeeze S2048x1024 squeezes_S1x2048x1024_S2048x1024 = slotA (Ring.sl 3 t.val) :=
  congrArg (fun M : Memref sig .tc .vmem S1x2048x1024 .bf16 => M.squeeze S2048x1024 squeezes_S1x2048x1024_S2048x1024)
    (Memref.slice_unit_congr _ (slotA_off3 t) _ _ (fun _ => rfl) (fun _ => rfl))
theorem cellA_off3 : ∀ t : Fin grid0.N, k0_off11 (grid0.coords t) = ![0, (Ring.sl 3 t.val).val] := by decide +kernel
@[sl_canon] theorem cellA_name3 (t : Fin grid0.N) :
    (cc0_scratch2.slice (Rect.unit (s := S2x3) (k0_off11 (grid0.coords t)) S1x1.size (k0_off11_inb (grid0.coords t)))).squeeze S_ squeezes_S1x1_S_ = cellA (Ring.sl 3 t.val) :=
  congrArg (fun M : DmaSems sig S1x1 => M.squeeze S_ squeezes_S1x1_S_) (SemArray.slice_unit_congr _ (cellA_off3 t) _ _)

end names

/-! ## The second operand's three slots -/

theorem blkFitsB (b : Fin 16) : ∀ a, (![2048 * (b.val % 4), 0] : Fin 2 → ℕ) a + S2048x1024.size a ≤ S8192x1024.size a := by
  have := b.isLt; intro a; fin_cases a <;> simp <;> omega
theorem cellFitsB (s : Fin 3) : ∀ a, (![1, s.val] : Fin 2 → ℕ) a + S1x1.size a ≤ S2x3.size a := by
  have := s.isLt; intro a; fin_cases a <;> simp <;> omega

/-- The scratch, the operand, slot `s`, the block that step `b` waits for, and slot `s`'s semaphore. -/
abbrev scrB : Memref sig .tc .vmem S3x2048x1024 .bf16 := Memref.whole cc0_scratch1
abbrev opdB : Memref sig .tc .hbm S8192x1024 .bf16 := Memref.whole main_v4
def slotB (s : Fin 3) : Memref sig .tc .vmem S2048x1024 .bf16 :=
  (scrB.slice (Rect.unit (s := S3x2048x1024) ![s.val, 0, 0] S1x2048x1024.size (slotFits s)) (fun _ => rfl)).squeeze S2048x1024 squeezes_S1x2048x1024_S2048x1024
def blkB (b : Fin 16) : Memref sig .tc .hbm S2048x1024 .bf16 :=
  opdB.slice (Rect.unit (s := S8192x1024) ![2048 * (b.val % 4), 0] S2048x1024.size (blkFitsB b)) (fun _ => rfl)
def cellB (s : Fin 3) : DmaSems sig S_ :=
  (cc0_scratch2.slice (Rect.unit (s := S2x3) ![1, s.val] S1x1.size (cellFitsB s))).squeeze S_ squeezes_S1x1_S_
abbrev semB (s : Fin 3) : SemLoc sig := SemLoc.dma (cellB s).sem
theorem semB_eq : semB 0 = SemLoc.dma 7 ∧ semB 1 = SemLoc.dma 8 ∧ semB 2 = SemLoc.dma 9 := by decide

section

variable (c : Dev nD) (W : Held (F := F) c opdB)

/-- Slot `s` at `f`; its semaphore at zero; of its part of the operand, block `b`, the rest, and all. -/
abbrev atB (s : Fin 3) (f : Held (F := F) c (slotB s)) : sProp 𝕄 := (slotB s).view.loc (c : Thread nD τ) ↦[(slotB s).view.set]{fullShare} f
abbrev idleB (s : Fin 3) : sProp 𝕄 := semVal ((c : Thread nD τ), semB s) 0
abbrev lentB (s : Fin 3) (b : Fin 16) : sProp 𝕄 := (blkB b).view.loc (c : Thread nD τ) ↦[(blkB b).view.set]{part s} W
def keptB (s : Fin 3) (b : Fin 16) : sProp 𝕄 := ((c : Thread nD τ).loc main_v4) ↦[Finset.univ \ (blkB b).view.set]{part s} W
abbrev allB (s : Fin 3) : sProp 𝕄 := ((c : Thread nD τ).loc main_v4) ↦[Finset.univ]{part s} W
/-- Slot `s` when block `b` has come over `f`, and the copy under way. -/
abbrev comeB (s : Fin 3) (b : Fin 16) (f : Held (F := F) c (slotB s)) : Held (F := F) c (slotB s) :=
  (slotB s).view.writes (Elt F) f [⟨Rect.whole S2048x1024, ReadAs.same.apply ((blkB b).view.read (Elt F) W)⟩]
abbrev copyB (s : Fin 3) (b : Fin 16) (f : Held (F := F) c (slotB s)) : sProp 𝕄 :=
  Transfers.Flight countersEmb (c : Thread nD τ) (semB s) default ((slotB s).view.amount (semB s))
    iprop(atB c s (comeB c W s b f) ∗ lentB c W s b)
abbrev restB (s : Fin 3) (f : Held (F := F) c (slotB s)) : sProp 𝕄 := iprop(atB c s f ∗ allB c W s)
abbrev awayB (s : Fin 3) (b : Fin 16) (f : Held (F := F) c (slotB s)) : sProp 𝕄 := iprop(copyB c W s b f ∗ keptB c W s b)
abbrev noneB (b : Fin 16) : sProp 𝕄 := iprop(emp)
/-- The three slots before step `k`: all free at first; then blocks `k` and `k + 1` on their way, the third slot free. -/
def ringB (k : ℕ) : sProp 𝕄 :=
  if k = 0 then Ring.At₀ (idleB c) (restB c W) noneB
  else Ring.At 2 (idleB c) (restB c W) noneB (awayB c W) k

omit [FloatOps F] in
theorem idleB_eq : idleB (F := F) c 0 = semVal ((c : Thread nD τ), SemLoc.dma 7) 0
    ∧ idleB (F := F) c 1 = semVal ((c : Thread nD τ), SemLoc.dma 8) 0 ∧ idleB (F := F) c 2 = semVal ((c : Thread nD τ), SemLoc.dma 9) 0 := by
  obtain ⟨h0, h1, h2⟩ := semB_eq
  exact ⟨congrArg (fun x => (semVal ((c : Thread nD τ), x) 0 : sProp 𝕄)) h0, congrArg (fun x => (semVal ((c : Thread nD τ), x) 0 : sProp 𝕄)) h1,
    congrArg (fun x => (semVal ((c : Thread nD τ), x) 0 : sProp 𝕄)) h2⟩

theorem setB (s : Fin 3) : (slotB s).view.set = slotSet s := by
  simp only [slotB, Memref.view_squeeze, View.set_reshape]; exact View.set_slice_whole _ _
theorem atB_eq (s : Fin 3) (f) : atB (F := F) c s f = (((c : Thread nD τ).loc cc0_scratch1) ↦[slotSet s]{fullShare} f : sProp 𝕄) := by
  unfold atB; rw [setB]; rfl
/-- A slot's part of the operand is a block and the rest; -/
theorem splitB (s : Fin 3) (b : Fin 16) : allB (F := F) c W s ⊣⊢ iprop(lentB c W s b ∗ keptB c W s b) := by
  unfold keptB; exact pointsTo_split_subset (Finset.subset_univ _)
/-- the operand is the three parts; -/
theorem thirdsB : (held c opdB W : sProp 𝕄) ⊣⊢ iprop(allB c W 0 ∗ allB c W 1 ∗ allB c W 2) := by
  refine ⟨?_, ?_⟩
  · iintro H
    ihave HX := (pointsTo_share (PosShare.mem_left_op_right fullShare)).1 $$ H
    icases HX with ⟨Ha, Hbc⟩
    ihave HY := (pointsTo_share (PosShare.mem_left_op_right fullShare.right)).1 $$ Hbc
    icases HY with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc
set_option maxHeartbeats 1000000 in
/-- the scratch is the three slots. -/
theorem slotsB : iprop(∃ d, owns (c : Thread nD τ) scrB fullShare d)
    ⊣⊢ (iprop((∃ f, atB (F := F) c 0 f) ∗ (∃ f, atB (F := F) c 1 f) ∗ ∃ f, atB (F := F) c 2 f) : sProp 𝕄) := by
  simp only [scrB, owns_whole]
  exact ⟨Ring.slots3_split (U := Pipeline.UD sig nD τ) (ℓ := (c : Thread nD τ).loc cc0_scratch1) (q := fullShare) slotSet slots_disjoint slots_cover
      (atB c 0) (atB c 1) (atB c 2) (atB_eq c 0) (atB_eq c 1) (atB_eq c 2),
    Ring.slots3_join (U := Pipeline.UD sig nD τ) (ℓ := (c : Thread nD τ).loc cc0_scratch1) (q := fullShare) slotSet slots_disjoint slots_cover
      (atB c 0) (atB c 1) (atB c 2) (atB_eq c 0) (atB_eq c 1) (atB_eq c 2)⟩

/-- What the region hands over makes the slots before the first step, -/
theorem enterB : iprop((∃ d, owns (c : Thread nD τ) scrB fullShare d)
      ∗ (semVal ((c : Thread nD τ), SemLoc.dma 7) 0 ∗ semVal ((c : Thread nD τ), SemLoc.dma 8) 0 ∗ semVal ((c : Thread nD τ), SemLoc.dma 9) 0)
      ∗ held c opdB W) ⊢ ringB c W 0 := by
  obtain ⟨e0, e1, e2⟩ := idleB_eq (F := F) c
  unfold ringB; rw [if_pos rfl]; unfold Ring.At₀
  rw [Ring.bigSep_fin3]
  simp only [Ring.free, e0, e1, e2]
  iintro ⟨HS, ⟨Z0, Z1, Z2⟩, HW⟩
  iapply Ring.with_homes₀
  ihave HT := (slotsB (F := F) c).1 $$ HS
  icases HT with ⟨⟨%g0, S0⟩, ⟨%g1, S1⟩, ⟨%g2, S2⟩⟩
  ihave HP := (thirdsB (F := F) c W).1 $$ HW
  icases HP with ⟨W0, W1, W2⟩
  isplitl [Z0 S0 W0]
  · isplitl [Z0]; · iexact Z0
    iexists g0; isplitl [S0]; · iexact S0
    iexact W0
  isplitl [Z1 S1 W1]
  · isplitl [Z1]; · iexact Z1
    iexists g1; isplitl [S1]; · iexact S1
    iexact W1
  · isplitl [Z2]; · iexact Z2
    iexists g2; isplitl [S2]; · iexact S2
    iexact W2
/-- and the slots after the last step give it back. -/
theorem leaveB : ringB c W 16 ⊢ iprop((∃ d, owns (c : Thread nD τ) scrB fullShare d)
      ∗ (semVal ((c : Thread nD τ), SemLoc.dma 7) 0 ∗ semVal ((c : Thread nD τ), SemLoc.dma 8) 0 ∗ semVal ((c : Thread nD τ), SemLoc.dma 9) 0)
      ∗ held c opdB W) := by
  obtain ⟨e0, e1, e2⟩ := idleB_eq (F := F) c
  unfold ringB; rw [if_neg (by decide)]
  iintro H
  ihave HL := (Ring.free3_of_At_last _ _ _ _) $$ H
  simp only [Ring.free, e0, e1, e2]
  icases HL with ⟨-, ⟨Z0, ⟨%g0, S0, W0⟩⟩, ⟨Z1, ⟨%g1, S1, W1⟩⟩, ⟨Z2, ⟨%g2, S2, W2⟩⟩⟩
  isplitl [S0 S1 S2]
  · iapply (slotsB (F := F) c).2
    isplitl [S0]; · iexists g0; iexact S0
    isplitl [S1]; · iexists g1; iexact S1
    iexists g2; iexact S2
  isplitl [Z0 Z1 Z2]
  · isplitl [Z0]; · iexact Z0
    isplitl [Z1]; · iexact Z1
    iexact Z2
  · iapply (thirdsB (F := F) c W).2
    isplitl [W0]; · iexact W0
    isplitl [W1]; · iexact W1
    iexact W2

/-- The slots' roles at a step, and what the step makes of them: the first step fills all three; -/
theorem firstB (t : ℕ) (h : t = 0) : ringB c W t ⊢ iprop(Ring.free (idleB c) (restB c W) (Ring.sl 3 t)
      ∗ Ring.free (idleB c) (restB c W) (Ring.sl 3 (t + 1)) ∗ Ring.free (idleB c) (restB c W) (Ring.sl 3 (t + 2))) := by
  unfold ringB; rw [if_pos h, Ring.At₀_eq3' _ _ _ t h (by decide : 3 ≤ 16)]
  iintro ⟨-, H0, H1, H2⟩
  isplitl [H0]; · iexact H0
  isplitl [H1]; · iexact H1
  iexact H2
theorem firstToB (t : ℕ) (h : t = 0) : iprop(Ring.inflight (awayB c W) (Ring.sl 3 (t + 1)) (Ring.bk 16 (t + 1))
      ∗ Ring.inflight (awayB c W) (Ring.sl 3 (t + 2)) (Ring.bk 16 (t + 2)) ∗ Ring.free (idleB c) (restB c W) (Ring.sl 3 t)) ⊢ ringB c W (t + 1) := by
  unfold ringB; rw [if_neg (Nat.succ_ne_zero t), Ring.At3_one' _ _ _ _ t h (by decide : 3 ≤ 16)]
  exact Ring.with_homes (Idealize.SL.BI.Entails.refl _)
/-- a step refills the slot two ahead; -/
theorem midB (t : ℕ) (h : 1 ≤ t) (hB : t + 2 < 16) : ringB c W t ⊢ iprop(Ring.inflight (awayB c W) (Ring.sl 3 t) (Ring.bk 16 t)
      ∗ Ring.inflight (awayB c W) (Ring.sl 3 (t + 1)) (Ring.bk 16 (t + 1)) ∗ Ring.free (idleB c) (restB c W) (Ring.sl 3 (t + 2))) := by
  unfold ringB; rw [if_neg (by omega), Ring.At3_here _ _ _ _ t hB]
  iintro ⟨-, H0, H1, H2⟩
  isplitl [H0]; · iexact H0
  isplitl [H1]; · iexact H1
  iexact H2
theorem midToB (t : ℕ) (hB : t + 2 < 16) : iprop(Ring.inflight (awayB c W) (Ring.sl 3 (t + 1)) (Ring.bk 16 (t + 1))
      ∗ Ring.inflight (awayB c W) (Ring.sl 3 (t + 2)) (Ring.bk 16 (t + 2)) ∗ Ring.free (idleB c) (restB c W) (Ring.sl 3 t)) ⊢ ringB c W (t + 1) := by
  unfold ringB; rw [if_neg (Nat.succ_ne_zero t), Ring.At3_next _ _ _ _ t hB, Ring.slotAt3_next0 _ _ _ t (by omega), Ring.slotAt3_next1 _ _ _ t hB]
  exact Ring.with_homes (Idealize.SL.BI.Entails.refl _)
/-- the last two steps fill none. -/
theorem lateB (t : ℕ) (h : 1 ≤ t) (ht : t < 16) : ringB c W t ⊢ iprop(Ring.inflight (awayB c W) (Ring.sl 3 t) (Ring.bk 16 t)
      ∗ Ring.slotAt 2 (idleB c) (restB c W) (awayB c W) t 1 ∗ Ring.free (idleB c) (restB c W) (Ring.sl 3 (t + 2))) := by
  unfold ringB; rw [if_neg (by omega), Ring.At3_here_tail _ _ _ _ t ht]
  iintro ⟨-, H0, H1, H2⟩
  isplitl [H0]; · iexact H0
  isplitl [H1]; · iexact H1
  iexact H2
theorem lateToB (t : ℕ) (hB : 16 ≤ t + 2) (ht : t < 16) : iprop(Ring.slotAt 2 (idleB c) (restB c W) (awayB c W) t 1
      ∗ Ring.free (idleB c) (restB c W) (Ring.sl 3 (t + 2)) ∗ Ring.free (idleB c) (restB c W) (Ring.sl 3 t)) ⊢ ringB c W (t + 1) := by
  unfold ringB; rw [if_neg (Nat.succ_ne_zero t), Ring.At3_next_tail _ _ _ _ t hB ht, Ring.slotAt3_tail_role _ _ _ t]
  exact Ring.with_homes (Idealize.SL.BI.Entails.refl _)

/-- A load of a slot that block `b` has come to, seen as a matrix, is the block. -/
theorem loadB (s : Fin 3) (b : Fin 16) (f : Held (F := F) c (slotB s)) (off : Fin 3 → ℕ) (h : off = ![s.val, 0, 0])
    (inb : ∀ a, off a + S1x2048x1024.size a ≤ S3x2048x1024.size a) (hc : S1x2048x1024.ShapeCasts S2048x1024) :
    shapeCast S2048x1024 (scrB.view.readAt (Elt F) (Rect.unit (s := S3x2048x1024) off S1x2048x1024.size inb).toLoadRect (comeB c W s b f)) hc
      = (blkB b).view.read (Elt F) W := by
  subst h
  exact Eq.trans (b := (slotB s).view.read (Elt F) (comeB c W s b f)) rfl (View.read_writes_whole _ _ _)

end

section names

omit [FloatOps F]
set_option synthInstance.maxSize 4096

theorem slotB_off0 : ∀ t : Fin grid0.N, first (grid0.coords t) → k0_off2 0#32 = ![(Ring.sl 3 t.val).val, 0, 0] := by decide +kernel
@[sl_canon] theorem slotB_name0 (t : Fin grid0.N) (h : first (grid0.coords t)) :
    (scrB.slice (Rect.unit (s := S3x2048x1024) (k0_off2 0#32) S1x2048x1024.size (k0_off2_inb (grid0.coords t) h 0)) (fun _ => rfl)).squeeze S2048x1024 squeezes_S1x2048x1024_S2048x1024 = slotB (Ring.sl 3 t.val) :=
  congrArg (fun M : Memref sig .tc .vmem S1x2048x1024 .bf16 => M.squeeze S2048x1024 squeezes_S1x2048x1024_S2048x1024)
    (Memref.slice_unit_congr _ (slotB_off0 t h) _ _ (fun _ => rfl) (fun _ => rfl))
theorem cellB_off0 : ∀ t : Fin grid0.N, first (grid0.coords t) → k0_off4 0#32 = ![1, (Ring.sl 3 t.val).val] := by decide +kernel
@[sl_canon] theorem cellB_name0 (t : Fin grid0.N) (h : first (grid0.coords t)) :
    (cc0_scratch2.slice (Rect.unit (s := S2x3) (k0_off4 0#32) S1x1.size (k0_off4_inb (grid0.coords t) h 0))).squeeze S_ squeezes_S1x1_S_ = cellB (Ring.sl 3 t.val) :=
  congrArg (fun M : DmaSems sig S1x1 => M.squeeze S_ squeezes_S1x1_S_) (SemArray.slice_unit_congr _ (cellB_off0 t h) _ _)
theorem blkB_off0 : ∀ t : Fin grid0.N, first (grid0.coords t) → k0_off5 0#32 = ![2048 * ((Ring.bk 16 t.val).val % 4), 0] := by decide +kernel
@[sl_canon] theorem blkB_name0 (t : Fin grid0.N) (h : first (grid0.coords t)) :
    opdB.slice (Rect.unit (s := S8192x1024) (k0_off5 0#32) S2048x1024.size (k0_off5_inb (grid0.coords t) h 0)) (fun _ => rfl) = blkB (Ring.bk 16 t.val) :=
  Memref.slice_unit_congr _ (blkB_off0 t h) _ _ (fun _ => rfl) (fun _ => rfl)
theorem slotB_off1 : ∀ t : Fin grid0.N, first (grid0.coords t) → k0_off2 1#32 = ![(Ring.sl 3 (t.val + 1)).val, 0, 0] := by decide +kernel
@[sl_canon] theorem slotB_name1 (t : Fin grid0.N) (h : first (grid0.coords t)) :
    (scrB.slice (Rect.unit (s := S3x2048x1024) (k0_off2 1#32) S1x2048x1024.size (k0_off2_inb (grid0.coords t) h 1)) (fun _ => rfl)).squeeze S2048x1024 squeezes_S1x2048x1024_S2048x1024 = slotB (Ring.sl 3 (t.val + 1)) :=
  congrArg (fun M : Memref sig .tc .vmem S1x2048x1024 .bf16 => M.squeeze S2048x1024 squeezes_S1x2048x1024_S2048x1024)
    (Memref.slice_unit_congr _ (slotB_off1 t h) _ _ (fun _ => rfl) (fun _ => rfl))
theorem cellB_off1 : ∀ t : Fin grid0.N, first (grid0.coords t) → k0_off4 1#32 = ![1, (Ring.sl 3 (t.val + 1)).val] := by decide +kernel
@[sl_canon] theorem cellB_name1 (t : Fin grid0.N) (h : first (grid0.coords t)) :
    (cc0_scratch2.slice (Rect.unit (s := S2x3) (k0_off4 1#32) S1x1.size (k0_off4_inb (grid0.coords t) h 1))).squeeze S_ squeezes_S1x1_S_ = cellB (Ring.sl 3 (t.val + 1)) :=
  congrArg (fun M : DmaSems sig S1x1 => M.squeeze S_ squeezes_S1x1_S_) (SemArray.slice_unit_congr _ (cellB_off1 t h) _ _)
theorem blkB_off1 : ∀ t : Fin grid0.N, first (grid0.coords t) → k0_off5 1#32 = ![2048 * ((Ring.bk 16 (t.val + 1)).val % 4), 0] := by decide +kernel
@[sl_canon] theorem blkB_name1 (t : Fin grid0.N) (h : first (grid0.coords t)) :
    opdB.slice (Rect.unit (s := S8192x1024) (k0_off5 1#32) S2048x1024.size (k0_off5_inb (grid0.coords t) h 1)) (fun _ => rfl) = blkB (Ring.bk 16 (t.val + 1)) :=
  Memref.slice_unit_congr _ (blkB_off1 t h) _ _ (fun _ => rfl) (fun _ => rfl)
theorem slotB_off2 : ∀ t : Fin grid0.N, k0_off7 (grid0.coords t) = ![(Ring.sl 3 (t.val + 2)).val, 0, 0] := by decide +kernel
@[sl_canon] theorem slotB_name2 (t : Fin grid0.N) (h : ahead (grid0.coords t)) :
    (scrB.slice (Rect.unit (s := S3x2048x1024) (k0_off7 (grid0.coords t)) S1x2048x1024.size (k0_off7_inb (grid0.coords t) h)) (fun _ => rfl)).squeeze S2048x1024 squeezes_S1x2048x1024_S2048x1024 = slotB (Ring.sl 3 (t.val + 2)) :=
  congrArg (fun M : Memref sig .tc .vmem S1x2048x1024 .bf16 => M.squeeze S2048x1024 squeezes_S1x2048x1024_S2048x1024)
    (Memref.slice_unit_congr _ (slotB_off2 t) _ _ (fun _ => rfl) (fun _ => rfl))
theorem cellB_off2 : ∀ t : Fin grid0.N, k0_off9 (grid0.coords t) = ![1, (Ring.sl 3 (t.val + 2)).val] := by decide +kernel
@[sl_canon] theorem cellB_name2 (t : Fin grid0.N) (h : ahead (grid0.coords t)) :
    (cc0_scratch2.slice (Rect.unit (s := S2x3) (k0_off9 (grid0.coords t)) S1x1.size (k0_off9_inb (grid0.coords t) h))).squeeze S_ squeezes_S1x1_S_ = cellB (Ring.sl 3 (t.val + 2)) :=
  congrArg (fun M : DmaSems sig S1x1 => M.squeeze S_ squeezes_S1x1_S_) (SemArray.slice_unit_congr _ (cellB_off2 t) _ _)
theorem blkB_off2 : ∀ t : Fin grid0.N, ahead (grid0.coords t) → k0_off10 (grid0.coords t) = ![2048 * ((Ring.bk 16 (t.val + 2)).val % 4), 0] := by decide +kernel
@[sl_canon] theorem blkB_name2 (t : Fin grid0.N) (h : ahead (grid0.coords t)) :
    opdB.slice (Rect.unit (s := S8192x1024) (k0_off10 (grid0.coords t)) S2048x1024.size (k0_off10_inb (grid0.coords t) h)) (fun _ => rfl) = blkB (Ring.bk 16 (t.val + 2)) :=
  Memref.slice_unit_congr _ (blkB_off2 t h) _ _ (fun _ => rfl) (fun _ => rfl)
theorem slotB_off3 : ∀ t : Fin grid0.N, k0_off12 (grid0.coords t) = ![(Ring.sl 3 t.val).val, 0, 0] := by decide +kernel
@[sl_canon] theorem slotB_name3 (t : Fin grid0.N) :
    (scrB.slice (Rect.unit (s := S3x2048x1024) (k0_off12 (grid0.coords t)) S1x2048x1024.size (k0_off12_inb (grid0.coords t))) (fun _ => rfl)).squeeze S2048x1024 squeezes_S1x2048x1024_S2048x1024 = slotB (Ring.sl 3 t.val) :=
  congrArg (fun M : Memref sig .tc .vmem S1x2048x1024 .bf16 => M.squeeze S2048x1024 squeezes_S1x2048x1024_S2048x1024)
    (Memref.slice_unit_congr _ (slotB_off3 t) _ _ (fun _ => rfl) (fun _ => rfl))
theorem cellB_off3 : ∀ t : Fin grid0.N, k0_off14 (grid0.coords t) = ![1, (Ring.sl 3 t.val).val] := by decide +kernel
@[sl_canon] theorem cellB_name3 (t : Fin grid0.N) :
    (cc0_scratch2.slice (Rect.unit (s := S2x3) (k0_off14 (grid0.coords t)) S1x1.size (k0_off14_inb (grid0.coords t)))).squeeze S_ squeezes_S1x1_S_ = cellB (Ring.sl 3 t.val) :=
  congrArg (fun M : DmaSems sig S1x1 => M.squeeze S_ squeezes_S1x1_S_) (SemArray.slice_unit_congr _ (cellB_off3 t) _ _)

end names

/-- The box of the body's loads, at the slot of the step. -/
theorem load_off : ∀ t : Fin grid0.N, k0_off16 (grid0.coords t) = ![(Ring.sl 3 t.val).val, 0, 0] := by decide +kernel
instance (priority := high) loadOff (t : Fin grid0.N) : ClosedOff (k0_off16 (grid0.coords t)) := ⟨![(Ring.sl 3 t.val).val, 0, 0], load_off t⟩

end Cert.DownDwIdeal.Stream

end
-- ==== Proof.DownDwRun.lean ====
/- One step of the kernel, in each of its six cases: from the slots before it to the slots after it, and the
   accumulator from its contents to the sum with the product of the step's two blocks. -/
module

public import proofs.«01_k».proof.Proof.DownDwSlots

@[expose] public section

set_option maxRecDepth 16384

noncomputable section

namespace Cert.DownDwIdeal.Stream

open Cert.DownDwIdeal Cert.DownDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

/-- The product of the two blocks of step `t`, the accumulator over `Y` after it, and the rounded copy of it. -/
def tile (c : Dev nD) (WA : Held (F := F) c opdA) (WB : Held (F := F) c opdB) (t : ℕ) : FVec F S1024x1024 .f32 :=
  matmul dot_S2048x1024_S2048x1024_S1024x1024_0_0_1_1_n_n none ((blkA (Ring.bk 16 t)).view.read (Elt F) WA : FVec F S2048x1024 .bf16)
    ((blkB (Ring.bk 16 t)).view.read (Elt F) WB : FVec F S2048x1024 .bf16) (constant S1024x1024 .f32 0x00000000#32)
def onto (c : Dev nD) (WA : Held (F := F) c opdA) (WB : Held (F := F) c opdB) (t : ℕ) (Y : Vec F S1x1024x1024 .f32) : Vec F S1x1024x1024 .f32 :=
  if t % 4 = 0 then shapeCast S1x1024x1024 (tile c WA WB t) shapeCasts_S1024x1024_S1x1024x1024
  else shapeCast S1x1024x1024 (addf (shapeCast S1024x1024 Y shapeCasts_S1x1024x1024_S1024x1024) (tile c WA WB t)) shapeCasts_S1024x1024_S1x1024x1024
abbrev rounded (Y : Vec F S1x1024x1024 .f32) : Vec F S1x1024x1024 .bf16 := k0_pay4 Y

theorem tile_of (c : Dev nD) (WA : Held (F := F) c opdA) (WB : Held (F := F) c opdB) (t : ℕ) (u v : Vec F S1x2048x1024 .bf16)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay1 u v = tile c WA WB t := by
  unfold k0_pay1 tile; dsimp only; rw [hu, hv]
theorem onto_zero (c : Dev nD) (WA : Held (F := F) c opdA) (WB : Held (F := F) c opdB) (t : ℕ) (h : t % 4 = 0) (u v : Vec F S1x2048x1024 .bf16) (Y : Vec F S1x1024x1024 .f32)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay2 u v = onto c WA WB t Y := by
  unfold onto; rw [if_pos h, ← tile_of c WA WB t u v hu hv]; rfl
theorem onto_more (c : Dev nD) (WA : Held (F := F) c opdA) (WB : Held (F := F) c opdB) (t : ℕ) (h : t % 4 ≠ 0) (u v : Vec F S1x2048x1024 .bf16) (Y : Vec F S1x1024x1024 .f32)
    (hu : shapeCast S2048x1024 u shapeCasts_S1x2048x1024_S2048x1024 = (blkA (Ring.bk 16 t)).view.read (Elt F) WA)
    (hv : shapeCast S2048x1024 v shapeCasts_S1x2048x1024_S2048x1024 = (blkB (Ring.bk 16 t)).view.read (Elt F) WB) :
    k0_pay3 u v Y = onto c WA WB t Y := by
  unfold onto; rw [if_neg h, ← tile_of c WA WB t u v hu hv]; rfl

variable (c : Dev nD) (t : Fin cfg0.N) (arg6 : Memref sig .tc .vmem S1x1024x1024 .f32) (harg6 : arg6.IsWhole) (arg7 : Memref sig .tc .vmem S1x1024x1024 .bf16) (harg7 : arg7.IsWhole)
  (WA : Held (F := F) c opdA) (WB : Held (F := F) c opdB) (y0 : Vec F S1x1024x1024 .f32) (y1 : Vec F S1x1024x1024 .bf16)

/-- What the step at `t` is to do: the accumulator takes the blocks' product, the rounded output its copy when the block's last product is in, the slots move on. -/
abbrev Steps : Prop := ∀ (W : Waits sig Unit) (K : PUnit → sProp 𝕄),
  iprop(owns (c : Thread nD τ) arg6 fullShare y0 ∗ owns (c : Thread nD τ) arg7 fullShare y1 ∗ ringA c WA t.val ∗ ringB c WB t.val ∗ owes (c : Thread nD τ) 0 W
      ∗ (iprop(owns (c : Thread nD τ) arg6 fullShare (onto c WA WB t.val y0)
          ∗ (∃ x, ⌜t.val % 4 = 3 → x = rounded (onto c WA WB t.val y0)⌝ ∗ owns (c : Thread nD τ) arg7 fullShare x)
          ∗ ringA c WA (t.val + 1) ∗ ringB c WB (t.val + 1) ∗ (∃ W', owes (c : Thread nD τ) 0 W')) -∗ K ⟨⟩))
    ⊢ wp frame (wpE (defs₀ (F := F)) Variants.none c none) Set.univ
        (cc0_mlp_down_dw (grid0.coords t) opdA (Memref.isWhole_whole _) opdB (Memref.isWhole_whole _) (Memref.whole main_arg2) (Memref.isWhole_whole _)
          (Memref.whole main_arg3) (Memref.isWhole_whole _) arg6 harg6 arg7 harg7 scrA (Memref.isWhole_whole _) scrB (Memref.isWhole_whole _) cc0_scratch2) K

set_option maxHeartbeats 2000000 in
/-- Case A: the first step. -/
theorem stepA (ht : t.val = 0) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : first (grid0.coords t) := q0.2 (by omega)
  have c1 : ahead (grid0.coords t) := q1.2 (by omega)
  have c2 : fresh (grid0.coords t) := q2.2 (by omega)
  have c3 : ¬more (grid0.coords t) := fun h => (fun h => by omega : ¬_) (q3.1 h)
  have c4 : ¬done (grid0.coords t) := fun h => (fun h => by omega : ¬_) (q4.1 h)
  haveI : Fact (first (grid0.coords t)) := ⟨c0⟩
  haveI : Fact (ahead (grid0.coords t)) := ⟨c1⟩
  haveI : Fact (fresh (grid0.coords t)) := ⟨c2⟩
  haveI : Fact (¬more (grid0.coords t)) := ⟨c3⟩
  haveI : Fact (¬done (grid0.coords t)) := ⟨c4⟩
  have hx : t.val % 4 = 0 := by omega
  iintro ⟨H0, H1, RA, RB, HW, Hk⟩
  ihave RA := (firstA c WA t.val ht) $$ RA
  ihave RB := (firstB c WB t.val ht) $$ RB
  irevert H0 H1 RA RB HW Hk
  simp only [cc0_mlp_down_dw_eq_skeleton]; unfold cc0_mlp_down_dw_skel
  simp only [k0_part4_eq_skeleton, k0_part1_eq_skeleton, k0_part2_eq_skeleton, k0_part3_eq_skeleton, k0_part5_eq_skeleton]
  unfold owns Ring.free
  iintro ⟨%f0, %hf0, H0⟩ ⟨%f1, %hf1, H1⟩ ⟨⟨HcA0, ⟨%fsA0, HsA0, HwA0⟩⟩, ⟨HcA1, ⟨%fsA1, HsA1, HwA1⟩⟩, ⟨HcA2, ⟨%fsA2, HsA2, HwA2⟩⟩⟩ ⟨⟨HcB0, ⟨%fsB0, HsB0, HwB0⟩⟩, ⟨HcB1, ⟨%fsB1, HsB1, HwB1⟩⟩, ⟨HcB2, ⟨%fsB2, HsB2, HwB2⟩⟩⟩ HW Hk
  ihave HpA0 := (splitA c WA (Ring.sl 3 t.val) (Ring.bk 16 t.val)).1 $$ HwA0
  icases HpA0 with ⟨HhA0, HrA0⟩
  ihave HpA1 := (splitA c WA (Ring.sl 3 (t.val + 1)) (Ring.bk 16 (t.val + 1))).1 $$ HwA1
  icases HpA1 with ⟨HhA1, HrA1⟩
  ihave HpA2 := (splitA c WA (Ring.sl 3 (t.val + 2)) (Ring.bk 16 (t.val + 2))).1 $$ HwA2
  icases HpA2 with ⟨HhA2, HrA2⟩
  ihave HpB0 := (splitB c WB (Ring.sl 3 t.val) (Ring.bk 16 t.val)).1 $$ HwB0
  icases HpB0 with ⟨HhB0, HrB0⟩
  ihave HpB1 := (splitB c WB (Ring.sl 3 (t.val + 1)) (Ring.bk 16 (t.val + 1))).1 $$ HwB1
  icases HpB1 with ⟨HhB1, HrB1⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans (onto_zero c WA WB t.val hx _ _ y0 (loadA c WA _ _ _ _ (load_off t) _ _) (loadB c WB _ _ _ _ (load_off t) _ _))
  isplitl [H1]
  · iexists y1; isplitr; · ipureintro; intro h; exact absurd h (by omega)
    iexists f1; isplitr; swap; · iexact H1
    ipureintro; exact hf1
  isplitl [HcA1 HrA1 HcA2 HrA2 HcA0 HsA0 HhA0 HrA0]
  · iapply (firstToA c WA t.val ht); unfold Ring.free Ring.inflight
    isplitl [HcA1 HrA1]
    · iexists _; isplitl [HcA1]; · iexact HcA1
      iexact HrA1
    isplitl [HcA2 HrA2]
    · iexists _; isplitl [HcA2]; · iexact HcA2
      iexact HrA2
    isplitl [HcA0]; · iexact HcA0
    iexists _; isplitl [HsA0]; · iexact HsA0
    iapply (splitA c WA (Ring.sl 3 t.val) (Ring.bk 16 t.val)).2; isplitl [HhA0]; · iexact HhA0
    iexact HrA0
  isplitl [HcB1 HrB1 HcB2 HrB2 HcB0 HsB0 HhB0 HrB0]
  · iapply (firstToB c WB t.val ht); unfold Ring.free Ring.inflight
    isplitl [HcB1 HrB1]
    · iexists _; isplitl [HcB1]; · iexact HcB1
      iexact HrB1
    isplitl [HcB2 HrB2]
    · iexists _; isplitl [HcB2]; · iexact HcB2
      iexact HrB2
    isplitl [HcB0]; · iexact HcB0
    iexists _; isplitl [HsB0]; · iexact HsB0
    iapply (splitB c WB (Ring.sl 3 t.val) (Ring.bk 16 t.val)).2; isplitl [HhB0]; · iexact HhB0
    iexact HrB0
  iexists _; iexact HW

set_option maxHeartbeats 2000000 in
/-- Case B: a step in the middle of a sum. -/
theorem stepB (ht : 1 ≤ t.val ∧ t.val < 14 ∧ t.val % 4 ≠ 0 ∧ t.val % 4 ≠ 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : ¬fresh (grid0.coords t) := fun h => (fun h => by omega : ¬_) (q2.1 h)
  have c3 : more (grid0.coords t) := q3.2 (by omega)
  have c4 : ¬done (grid0.coords t) := fun h => (fun h => by omega : ¬_) (q4.1 h)
  haveI : Fact (¬first (grid0.coords t)) := ⟨c0⟩
  haveI : Fact (ahead (grid0.coords t)) := ⟨c1⟩
  haveI : Fact (¬fresh (grid0.coords t)) := ⟨c2⟩
  haveI : Fact (more (grid0.coords t)) := ⟨c3⟩
  haveI : Fact (¬done (grid0.coords t)) := ⟨c4⟩
  have hx : t.val % 4 ≠ 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_down_dw_eq_skeleton]; unfold cc0_mlp_down_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists y1; isplitr; · ipureintro; intro h; exact absurd h (by omega)
    iexists f1; isplitr; swap; · iexact H1
    ipureintro; exact hf1
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case C: the last step of a sum. -/
theorem stepC (ht : 1 ≤ t.val ∧ t.val < 14 ∧ t.val % 4 = 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : ¬fresh (grid0.coords t) := fun h => (fun h => by omega : ¬_) (q2.1 h)
  have c3 : more (grid0.coords t) := q3.2 (by omega)
  have c4 : done (grid0.coords t) := q4.2 (by omega)
  haveI : Fact (¬first (grid0.coords t)) := ⟨c0⟩
  haveI : Fact (ahead (grid0.coords t)) := ⟨c1⟩
  haveI : Fact (¬fresh (grid0.coords t)) := ⟨c2⟩
  haveI : Fact (more (grid0.coords t)) := ⟨c3⟩
  haveI : Fact (done (grid0.coords t)) := ⟨c4⟩
  have hx : t.val % 4 ≠ 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_down_dw_eq_skeleton]; unfold cc0_mlp_down_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists (rounded (onto c WA WB t.val y0)); isplitr; · ipureintro; exact fun _ => rfl
    iexists _; isplitr; swap; · iexact H1
    ipureintro
    exact (View.read_writes_full _ _ _ _ _).trans (congrArg (fun Y => k0_pay4 Y) ((View.readCov_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))))
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case D: the first step of a sum. -/
theorem stepD (ht : 1 ≤ t.val ∧ t.val < 14 ∧ t.val % 4 = 0) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ahead (grid0.coords t) := q1.2 (by omega)
  have c2 : fresh (grid0.coords t) := q2.2 (by omega)
  have c3 : ¬more (grid0.coords t) := fun h => (fun h => by omega : ¬_) (q3.1 h)
  have c4 : ¬done (grid0.coords t) := fun h => (fun h => by omega : ¬_) (q4.1 h)
  haveI : Fact (¬first (grid0.coords t)) := ⟨c0⟩
  haveI : Fact (ahead (grid0.coords t)) := ⟨c1⟩
  haveI : Fact (fresh (grid0.coords t)) := ⟨c2⟩
  haveI : Fact (¬more (grid0.coords t)) := ⟨c3⟩
  haveI : Fact (¬done (grid0.coords t)) := ⟨c4⟩
  have hx : t.val % 4 = 0 := by omega
  iintro ⟨H0, H1, RA, RB, HW, Hk⟩
  ihave RA := (midA c WA t.val (by omega) (by omega)) $$ RA
  ihave RB := (midB c WB t.val (by omega) (by omega)) $$ RB
  irevert H0 H1 RA RB HW Hk
  simp only [cc0_mlp_down_dw_eq_skeleton]; unfold cc0_mlp_down_dw_skel
  simp only [k0_part4_eq_skeleton, k0_part3_eq_skeleton, k0_part5_eq_skeleton]
  unfold owns Ring.free Ring.inflight
  iintro ⟨%f0, %hf0, H0⟩ ⟨%f1, %hf1, H1⟩ ⟨⟨%ffA0, HfA0, HrA0⟩, ⟨%ffA1, HfA1, HrA1⟩, ⟨HcA2, ⟨%fsA2, HsA2, HwA2⟩⟩⟩ ⟨⟨%ffB0, HfB0, HrB0⟩, ⟨%ffB1, HfB1, HrB1⟩, ⟨HcB2, ⟨%fsB2, HsB2, HwB2⟩⟩⟩ HW Hk
  ihave HpA2 := (splitA c WA (Ring.sl 3 (t.val + 2)) (Ring.bk 16 (t.val + 2))).1 $$ HwA2
  icases HpA2 with ⟨HhA2, HrA2⟩
  ihave HpB2 := (splitB c WB (Ring.sl 3 (t.val + 2)) (Ring.bk 16 (t.val + 2))).1 $$ HwB2
  icases HpB2 with ⟨HhB2, HrB2⟩
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans (onto_zero c WA WB t.val hx _ _ y0 (loadA c WA _ _ _ _ (load_off t) _ _) (loadB c WB _ _ _ _ (load_off t) _ _))
  isplitl [H1]
  · iexists y1; isplitr; · ipureintro; intro h; exact absurd h (by omega)
    iexists f1; isplitr; swap; · iexact H1
    ipureintro; exact hf1
  isplitl [HfA1 HrA1 HcA2 HrA2 HfA0 HfA0_dst HfA0_src HrA0]
  · iapply (midToA c WA t.val (by omega)); unfold Ring.free Ring.inflight
    isplitl [HfA1 HrA1]
    · iexists _; isplitl [HfA1]; · iexact HfA1
      iexact HrA1
    isplitl [HcA2 HrA2]
    · iexists _; isplitl [HcA2]; · iexact HcA2
      iexact HrA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HfB1 HrB1 HcB2 HrB2 HfB0 HfB0_dst HfB0_src HrB0]
  · iapply (midToB c WB t.val (by omega)); unfold Ring.free Ring.inflight
    isplitl [HfB1 HrB1]
    · iexists _; isplitl [HfB1]; · iexact HfB1
      iexact HrB1
    isplitl [HcB2 HrB2]
    · iexists _; isplitl [HcB2]; · iexact HcB2
      iexact HrB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case E: the last step but one. -/
theorem stepE (ht : 14 ≤ t.val ∧ t.val % 4 ≠ 0 ∧ t.val % 4 ≠ 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ¬ahead (grid0.coords t) := fun h => (fun h => by omega : ¬_) (q1.1 h)
  have c2 : ¬fresh (grid0.coords t) := fun h => (fun h => by omega : ¬_) (q2.1 h)
  have c3 : more (grid0.coords t) := q3.2 (by omega)
  have c4 : ¬done (grid0.coords t) := fun h => (fun h => by omega : ¬_) (q4.1 h)
  haveI : Fact (¬first (grid0.coords t)) := ⟨c0⟩
  haveI : Fact (¬ahead (grid0.coords t)) := ⟨c1⟩
  haveI : Fact (¬fresh (grid0.coords t)) := ⟨c2⟩
  haveI : Fact (more (grid0.coords t)) := ⟨c3⟩
  haveI : Fact (¬done (grid0.coords t)) := ⟨c4⟩
  have hx : t.val % 4 ≠ 0 := by omega
  iintro ⟨H0, H1, RA, RB, HW, Hk⟩
  ihave RA := (lateA c WA t.val (by omega) hN) $$ RA
  ihave RB := (lateB c WB t.val (by omega) hN) $$ RB
  irevert H0 H1 RA RB HW Hk
  simp only [cc0_mlp_down_dw_eq_skeleton]; unfold cc0_mlp_down_dw_skel
  simp only [k0_part4_eq_skeleton, k0_part5_eq_skeleton]
  unfold owns Ring.free Ring.inflight
  iintro ⟨%f0, %hf0, H0⟩ ⟨%f1, %hf1, H1⟩ ⟨⟨%ffA0, HfA0, HrA0⟩, HoA1, ⟨HcA2, ⟨%fsA2, HsA2, HwA2⟩⟩⟩ ⟨⟨%ffB0, HfB0, HrB0⟩, HoB1, ⟨HcB2, ⟨%fsB2, HsB2, HwB2⟩⟩⟩ HW Hk
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists y1; isplitr; · ipureintro; intro h; exact absurd h (by omega)
    iexists f1; isplitr; swap; · iexact H1
    ipureintro; exact hf1
  isplitl [HoA1 HcA2 HsA2 HwA2 HfA0 HfA0_dst HfA0_src HrA0]
  · iapply (lateToA c WA t.val (by omega) hN); unfold Ring.free
    isplitl [HoA1]; · iexact HoA1
    isplitl [HcA2 HsA2 HwA2]
    · isplitl [HcA2]; · iexact HcA2
      iexists _; isplitl [HsA2]; · iexact HsA2
      iexact HwA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HoB1 HcB2 HsB2 HwB2 HfB0 HfB0_dst HfB0_src HrB0]
  · iapply (lateToB c WB t.val (by omega) hN); unfold Ring.free
    isplitl [HoB1]; · iexact HoB1
    isplitl [HcB2 HsB2 HwB2]
    · isplitl [HcB2]; · iexact HcB2
      iexists _; isplitl [HsB2]; · iexact HsB2
      iexact HwB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

set_option maxHeartbeats 2000000 in
/-- Case F: the last step. -/
theorem stepF (ht : 14 ≤ t.val ∧ t.val % 4 = 3) : Steps c t arg6 harg6 arg7 harg7 WA WB y0 y1 := by
  intro W K
  have hN : t.val < 16 := lt_of_lt_of_eq t.isLt (show cfg0.N = 16 from N_0)
  obtain ⟨q0, q1, q2, q3, q4⟩ := conds t
  have c0 : ¬first (grid0.coords t) := fun h => (fun h => by omega : ¬_) (q0.1 h)
  have c1 : ¬ahead (grid0.coords t) := fun h => (fun h => by omega : ¬_) (q1.1 h)
  have c2 : ¬fresh (grid0.coords t) := fun h => (fun h => by omega : ¬_) (q2.1 h)
  have c3 : more (grid0.coords t) := q3.2 (by omega)
  have c4 : done (grid0.coords t) := q4.2 (by omega)
  haveI : Fact (¬first (grid0.coords t)) := ⟨c0⟩
  haveI : Fact (¬ahead (grid0.coords t)) := ⟨c1⟩
  haveI : Fact (¬fresh (grid0.coords t)) := ⟨c2⟩
  haveI : Fact (more (grid0.coords t)) := ⟨c3⟩
  haveI : Fact (done (grid0.coords t)) := ⟨c4⟩
  have hx : t.val % 4 ≠ 0 := by omega
  iintro ⟨H0, H1, RA, RB, HW, Hk⟩
  ihave RA := (lateA c WA t.val (by omega) hN) $$ RA
  ihave RB := (lateB c WB t.val (by omega) hN) $$ RB
  irevert H0 H1 RA RB HW Hk
  simp only [cc0_mlp_down_dw_eq_skeleton]; unfold cc0_mlp_down_dw_skel
  simp only [k0_part4_eq_skeleton, k0_part5_eq_skeleton]
  unfold owns Ring.free Ring.inflight
  iintro ⟨%f0, %hf0, H0⟩ ⟨%f1, %hf1, H1⟩ ⟨⟨%ffA0, HfA0, HrA0⟩, HoA1, ⟨HcA2, ⟨%fsA2, HsA2, HwA2⟩⟩⟩ ⟨⟨%ffB0, HfB0, HrB0⟩, HoB1, ⟨HcB2, ⟨%fsB2, HsB2, HwB2⟩⟩⟩ HW Hk
  sl_exec (disch := first | sl_exact c0 | sl_exact c1 | sl_exact c2 | sl_exact c3 | sl_exact c4)
  sl_step
  iapply Hk
  isplitl [H0]
  · iexists _; isplitr; swap; · iexact H0
    ipureintro
    exact (View.read_writes_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))
  isplitl [H1]
  · iexists (rounded (onto c WA WB t.val y0)); isplitr; · ipureintro; exact fun _ => rfl
    iexists _; isplitr; swap; · iexact H1
    ipureintro
    exact (View.read_writes_full _ _ _ _ _).trans (congrArg (fun Y => k0_pay4 Y) ((View.readCov_full _ _ _ _ _).trans ((congrArg (k0_pay3 _ _) ((View.readAt_full _ _ _).trans hf0)).trans (onto_more c WA WB t.val hx _ _ y0 (loadA c WA _ _ _ _ (load_off t) _ _) (loadB c WB _ _ _ _ (load_off t) _ _)))))
  isplitl [HoA1 HcA2 HsA2 HwA2 HfA0 HfA0_dst HfA0_src HrA0]
  · iapply (lateToA c WA t.val (by omega) hN); unfold Ring.free
    isplitl [HoA1]; · iexact HoA1
    isplitl [HcA2 HsA2 HwA2]
    · isplitl [HcA2]; · iexact HcA2
      iexists _; isplitl [HsA2]; · iexact HsA2
      iexact HwA2
    isplitl [HfA0]; · iexact HfA0
    iexists _; isplitl [HfA0_dst]; · iexact HfA0_dst
    iapply (splitA c WA (Ring.sl 3 t.val) (Ring.bk 16 t.val)).2; isplitl [HfA0_src]; · iexact HfA0_src
    iexact HrA0
  isplitl [HoB1 HcB2 HsB2 HwB2 HfB0 HfB0_dst HfB0_src HrB0]
  · iapply (lateToB c WB t.val (by omega) hN); unfold Ring.free
    isplitl [HoB1]; · iexact HoB1
    isplitl [HcB2 HsB2 HwB2]
    · isplitl [HcB2]; · iexact HcB2
      iexists _; isplitl [HsB2]; · iexact HsB2
      iexact HwB2
    isplitl [HfB0]; · iexact HfB0
    iexists _; isplitl [HfB0_dst]; · iexact HfB0_dst
    iapply (splitB c WB (Ring.sl 3 t.val) (Ring.bk 16 t.val)).2; isplitl [HfB0_src]; · iexact HfB0_src
    iexact HrB0
  iexists _; iexact HW

end Cert.DownDwIdeal.Stream

end
-- ==== Proof.DownDwDat.lean ====
/- The whole run of the kernel: what the accumulator holds after each step, the body's obligation at every step, and the
   launch. -/
module

public import proofs.«01_k».proof.Proof.DownDwRun
public import Idealize.ShloMosaic.Lib.Pipeline.ArrRel

@[expose] public section

set_option maxRecDepth 16384

noncomputable section

namespace Cert.DownDwIdeal.Stream

open Cert.DownDwIdeal Cert.DownDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands as the region finds them. -/
abbrev leftOp (c : Dev nD) : Held (F := F) c opdA := V m c main_v3
abbrev rightOp (c : Dev nD) : Held (F := F) c opdB := V m c main_v4
abbrev gM : Memref sig .tc .hbm S4x2048x1024 .f32 := Memref.whole main_arg2
abbrev lM : Memref sig .tc .hbm S4x2048x1024 .bf16 := Memref.whole main_arg3

/-- The accumulator after step `n`. -/
def acc (c : Dev nD) : ℕ → Vec F S1x1024x1024 .f32
  | 0 => onto c (leftOp m c) (rightOp m c) 0 (constant S1x1024x1024 .f32 0x00000000#32)
  | n + 1 => onto c (leftOp m c) (rightOp m c) (n + 1) (acc c n)

theorem onto_fresh (c : Dev nD) (WA : Held (F := F) c opdA) (WB : Held (F := F) c opdB) (t : ℕ) (h : t % 4 = 0) (Y Y' : Vec F S1x1024x1024 .f32) :
    onto c WA WB t Y = onto c WA WB t Y' := by unfold onto; rw [if_pos h, if_pos h]
theorem acc_fresh (c : Dev nD) (t : ℕ) (h : t % 4 = 0) (Y : Vec F S1x1024x1024 .f32) : onto c (leftOp m c) (rightOp m c) t Y = acc m c t := by
  cases t with
  | zero => exact onto_fresh c _ _ 0 h _ _
  | succ n => exact onto_fresh c _ _ (n + 1) h _ _
theorem acc_more (c : Dev nD) (t : ℕ) (h : t ≠ 0) : onto c (leftOp m c) (rightOp m c) t (acc m c (t - 1)) = acc m c t := by
  cases t with
  | zero => exact absurd rfl h
  | succ n => rfl

/-- What holds before step `k`: the generator, the two arrays that the kernel adds to, and the slots. -/
def before (c : Dev nD) (k : ℕ) : sProp 𝕄 := iprop((∃ r, prngReg c r) ∗ held c gM (V m c main_arg2) ∗ held c lM (V m c main_arg3)
  ∗ ringA c (leftOp m c) k ∗ ringB c (rightOp m c) k)

/-- The pipeline's data: the first output holds the accumulator after each step, the second the rounded sum after the last of the four steps of a block. -/
def data (c : Dev nD) : RDat τ (Elt F) Unit ℕ (Pipeline.UD sig nD τ) ℕ cfg0 c where
  A w := V m c (Pipeline.arrRef spec0 w)
  after w t _ X := match w with
    | ⟨0, _⟩ => X = acc m c t.val
    | ⟨1, _⟩ => t.val % 4 = 3 → X = rounded (acc m c t.val)
  Φ t := before m c t.val
  q _ := fullShare
  owed _ := 0

theorem data_A (c : Dev nD) (w : Fin cfg0.W) : (data m c).A w = V m c (Pipeline.arrRef spec0 w) := by dsimp only [data]
theorem data_start (c : Dev nD) (t : Fin cfg0.N) : (data m c).Φ t.castSucc = before m c t.val := by
  dsimp only [data]; simp only [Fin.coe_castSucc]
theorem data_end (c : Dev nD) (t : Fin cfg0.N) : (data m c).Φ t.succ = before m c (t.val + 1) := by
  dsimp only [data]; simp only [Fin.val_succ]
theorem after_zero (c : Dev nD) (t : Fin cfg0.N) (Y X) : (data m c).after 0 t Y X ↔ X = acc m c t.val := Iff.rfl
theorem after_one (c : Dev nD) (t : Fin cfg0.N) (Y X) : (data m c).after 1 t Y X ↔ (t.val % 4 = 3 → X = rounded (acc m c t.val)) := Iff.rfl

theorem never_fetched : ∀ t : Fin cfg0.N, (cfg0.win 0).fetch t = false :=
  (by decide +kernel : ∀ t : Fin grid0.N, win0_0.fetch t = false)

/-- The step at `t` makes of what it finds in the accumulator what the accumulator holds after it. -/
theorem found (c : Dev nD) (t : Fin cfg0.N) (Y : Vec F S1x1024x1024 .f32) (h : (data m c).Finds 0 t Y) :
    onto c (leftOp m c) (rightOp m c) t.val Y = acc m c t.val := by
  by_cases h0 : t.val % 4 = 0
  · exact acc_fresh m c t.val h0 Y
  have hp : t.val ≠ 0 := fun e => h0 (by rw [e])
  rcases ((data m c).finds_of_pos (never_fetched t) hp Y).1 h with hf | ⟨Y', -, hY⟩
  · exact absurd ((flush0_0 _).1 hf) (by show ¬(t.val - 1) % 4 = 3; omega)
  · rw [(after_zero m c _ Y' Y).1 hY]; exact acc_more m c t.val hp

/-- A step, whichever case it is in. -/
theorem step (c : Dev nD) (t : Fin cfg0.N) (arg6 : Memref sig .tc .vmem S1x1024x1024 .f32) (harg6 : arg6.IsWhole) (arg7 : Memref sig .tc .vmem S1x1024x1024 .bf16) (harg7 : arg7.IsWhole)
    (WA : Held (F := F) c opdA) (WB : Held (F := F) c opdB) (y0 : Vec F S1x1024x1024 .f32) (y1 : Vec F S1x1024x1024 .bf16) :
    Steps c t arg6 harg6 arg7 harg7 WA WB y0 y1 := by
  have hN : t.val < 16 := lt_of_lt_of_eq t.isLt (show cfg0.N = 16 from N_0)
  by_cases ha : t.val = 0
  · exact stepA c t arg6 harg6 arg7 harg7 WA WB y0 y1 ha
  by_cases hl : t.val < 14
  · by_cases h3 : t.val % 4 = 3
    · exact stepC c t arg6 harg6 arg7 harg7 WA WB y0 y1 ⟨by omega, hl, h3⟩
    by_cases h0 : t.val % 4 = 0
    · exact stepD c t arg6 harg6 arg7 harg7 WA WB y0 y1 ⟨by omega, hl, h0⟩
    exact stepB c t arg6 harg6 arg7 harg7 WA WB y0 y1 ⟨by omega, hl, h0, h3⟩
  by_cases h3 : t.val % 4 = 3
  · exact stepF c t arg6 harg6 arg7 harg7 WA WB y0 y1 ⟨by omega, h3⟩
  exact stepE c t arg6 harg6 arg7 harg7 WA WB y0 y1 ⟨by omega, by omega, h3⟩

set_option maxHeartbeats 1000000 in
theorem body_at (c : Dev nD) (t : Fin cfg0.N) (y0 : Vec F S1x1024x1024 .f32) (y1 : Vec F S1x1024x1024 .bf16)
    (h : onto c (leftOp m c) (rightOp m c) t.val y0 = acc m c t.val) :
    iprop((data m c).Φ t.castSucc ∗ (data m c).owesAt () t.castSucc
      ∗ owns (c : Thread nD τ) (st0_0 t) fullShare y0 ∗ owns (c : Thread nD τ) (st0_1 t) fullShare y1)
    ⊢ wp frame (wpE (defs₀ (F := F)) Variants.none c none) Set.univ (bodyAt0 t) (fun _ =>
      iprop((data m c).Φ t.succ ∗ (data m c).owesAt () t.succ
        ∗ (∃ X, ⌜(data m c).after 0 t y0 X⌝ ∗ owns (c : Thread nD τ) (st0_0 t) fullShare X)
        ∗ (∃ X, ⌜(data m c).after 1 t y1 X⌝ ∗ owns (c : Thread nD τ) (st0_1 t) fullShare X))) := by
  have hs := step c t (st0_0 t) (hstage0_0 ((cfg0.slots t 0).cast nbuf0_0)) (st0_1 t) (hstage0_1 ((cfg0.slots t 1).cast nbuf0_1)) (leftOp m c) (rightOp m c) y0 y1
  unfold Steps at hs
  rw [h] at hs
  rw [data_start m c t, data_end m c t]
  unfold RDat.owesAt Pipeline.owesWithin
  rw [show (data m c).owed t.castSucc = 0 from rfl, show (data m c).owed t.succ = 0 from rfl]
  unfold before bodyAt0
  iintro ⟨⟨Hg, Hh2, Hh3, HA, HB⟩, ⟨%W, -, HW⟩, H0, H1⟩
  iapply (hs W _)
  isplitl [H0]; · iexact H0
  isplitl [H1]; · iexact H1
  isplitl [HA]; · iexact HA
  isplitl [HB]; · iexact HB
  isplitl [HW]; · iexact HW
  iintro ⟨H0, ⟨%x, %hx, H1⟩, HA, HB, ⟨%W', HW'⟩⟩
  isplitl [Hg Hh2 Hh3 HA HB]
  · isplitl [Hg]; · iexact Hg
    isplitl [Hh2]; · iexact Hh2
    isplitl [Hh3]; · iexact Hh3
    isplitl [HA]; · iexact HA
    iexact HB
  isplitl [HW']
  · iexists W'; isplitr; · ipureintro; exact fun _ _ => Or.inl trivial
    iexact HW'
  isplitl [H0]
  · iexists (acc m c t.val); isplitr; · ipureintro; exact rfl
    iexact H0
  iexists x; isplitr; · ipureintro; exact hx
  iexact H1

theorem bodyRow (t : Fin cfg0.N) : defs₀ (F := F) .tc cfg0.body (cfg0.bodyArgs t (cfg0.slots t)) = bodyAt0 t := by
  unfold defs₀; rw [Defs.onTc_tc]

theorem body (c : Dev nD) : (data m c).BodyObligation (defs₀ (F := F)) Variants.none () Set.univ := fun t Y hY => by
  rw [bigSep_W0, bigSep_W0, bodyRow]
  exact triple_restated (body_at m c t (Y 0) (Y 1) (found m c t (Y 0) (hY 0))) rfl .rfl fun _ => .rfl

/-! ## The launch -/

/-- The semaphores of the copies, and the buffers that the body names itself. -/
abbrev copySems : Fin 6 → SemLoc sig := ![SemLoc.dma 4, SemLoc.dma 5, SemLoc.dma 6, SemLoc.dma 7, SemLoc.dma 8, SemLoc.dma 9]
theorem copySems_ok : Pipeline.OwnSemFacts spec0 copySems := by decide
def named : Finset (Ref sig .tc) := {main_v3, main_v4, main_arg2, main_arg3}
theorem named_sub : named ⊆ Pipeline.restRefs sig spec0 := by decide

theorem copySems_eq (c : Dev nD) :
    (Pipeline.ownSems0 (Ix := Unit) (Name := ℕ) (U := Pipeline.UD sig nD τ) (Lvl := ℕ) (Val := Elt F) (τ := τ) copySems c : sProp 𝕄)
      = iprop(semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c copySems [0, 1, 2, 3, 4, 5] (by decide) (by decide)]; rfl
theorem named_eq (c : Dev nD) : (bigSep named (fun b => ((c : Thread nD τ).loc b) ↦{fullShare} V m c b) : sProp 𝕄)
    = iprop(held c opdA (leftOp m c) ∗ held c opdB (rightOp m c) ∗ held c gM (V m c main_arg2) ∗ held c lM (V m c main_arg3)) := by
  rw [BI.bigSep_eq_bigSepL_of_eq [main_v3, main_v4, main_arg2, main_arg3] (by decide) (by decide)]; rfl
theorem given_eq (c : Dev nD) : (Pipeline.ΦD copySems spec0 named (V m) c : sProp 𝕄)
    = iprop(((∃ d, owns (c : Thread nD τ) scrA fullShare d) ∗ (∃ d, owns (c : Thread nD τ) scrB fullShare d)) ∗ (∃ r, prngReg c r)
      ∗ (semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0)
      ∗ (held c opdA (leftOp m c) ∗ held c opdB (rightOp m c) ∗ held c gM (V m c main_arg2) ∗ held c lM (V m c main_arg3))) := by
  rw [Pipeline.ΦD_eq, scopedRest0_eq, copySems_eq, named_eq]; simp only [scrA, scrB, owns_whole]; try rfl

theorem given_in (c : Dev nD) : Pipeline.ΦD copySems spec0 named (V m) c ⊢ (data m c).Φ 0 := by
  rw [given_eq, show (data m c).Φ 0 = before m c 0 from rfl]
  unfold before
  iintro ⟨⟨SA, SB⟩, Hg, ⟨Q0, Q1, Q2, Q3, Q4, Q5⟩, ⟨HA, HB, H2, H3⟩⟩
  isplitl [Hg]; · iexact Hg
  isplitl [H2]; · iexact H2
  isplitl [H3]; · iexact H3
  isplitl [SA Q0 Q1 Q2 HA]
  · iapply (enterA c (leftOp m c))
    isplitl [SA]; · iexact SA
    isplitl [Q0 Q1 Q2]
    · isplitl [Q0]; · iexact Q0
      isplitl [Q1]; · iexact Q1
      iexact Q2
    iexact HA
  iapply (enterB c (rightOp m c))
  isplitl [SB]; · iexact SB
  isplitl [Q3 Q4 Q5]
  · isplitl [Q3]; · iexact Q3
    isplitl [Q4]; · iexact Q4
    iexact Q5
  iexact HB
theorem given_out (c : Dev nD) : (data m c).Φ (Fin.last cfg0.N) ⊢ Pipeline.ΦD copySems spec0 named (V m) c := by
  rw [given_eq, show (data m c).Φ (Fin.last cfg0.N) = before m c grid0.N from rfl]
  unfold before
  rw [show grid0.N = 16 by rw [N_0]]
  iintro ⟨Hg, H2, H3, RA, RB⟩
  ihave RA := (leaveA c (leftOp m c)) $$ RA
  icases RA with ⟨SA, ⟨Q0, Q1, Q2⟩, HA⟩
  ihave RB := (leaveB c (rightOp m c)) $$ RB
  icases RB with ⟨SB, ⟨Q3, Q4, Q5⟩, HB⟩
  isplitl [SA SB]
  · isplitl [SA]; · iexact SA
    iexact SB
  isplitl [Hg]; · iexact Hg
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA]; · iexact HA
  isplitl [HB]; · iexact HB
  isplitl [H2]; · iexact H2
  iexact H3

set_option maxHeartbeats 800000 in
theorem up_to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the launch theorem's implicit arguments are found by unfolding plain definitions
set_option backward.isDefEq.respectTransparency.types false in
/-- Every run of the program ends, with the arrays as the pipeline's data say and every semaphore at zero. -/
theorem run : θ_run defs (onTc (τ := τ) (main (F := F))) (s₀ m ρ)
    (fun r => Pipeline.RDat.FramePost (cfgs 0) (data m) (V m) r ∧ r.2.sem = fun _ => 0) :=
  Pipeline.RDat.θ_run_frame_dma (Q' := _) cfgs (0 : Fin 1) launch0 copySems defs₀ Variants.none (data m) copySems_ok named named_sub m ρ main
    (hbody := body m) (hshare := fun c w => by unfold RDat.share; split <;> rfl)
    (howed := fun _ _ => rfl) (V := V m) (hmain := up_to_region m) (hA := data_A m) (hin := given_in m) (hout := given_out m)

/-- The arguments end as they began. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run m ρ)

end Cert.DownDwIdeal.Stream

end
-- ==== Proof.DownDwVal.lean ====
/- The arrays that the kernel of the gradient of the MLP's second weight leaves, as a function of what the region finds. -/
module

public import proofs.«01_k».proof.Proof.DownDwDat
public import Idealize.ShloMosaic.Lib.Pipeline.ValueKit

@[expose] public section

set_option maxRecDepth 16384

noncomputable section

namespace Cert.DownDwIdeal.Stream

open Cert.DownDwIdeal Cert.DownDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat cellOf)

variable (m : (ℓ : Loc nD τ sig) → Buf (Elt Ideal) ℓ) (ρ : Dev nD → PrngReg) (c : Dev nD)

/-- One row's part of an entry of the weight's gradient, and the entry. -/
def GW1 (L : FVec Ideal S8192x4096 .bf16) (R : FVec Ideal S8192x1024 .bf16) (k : Fin 4096) (j : Fin 1024) (r : Fin 8192) : EReal :=
  L (ix2 r k) * R (ix2 r j)
def GW (L : FVec Ideal S8192x4096 .bf16) (R : FVec Ideal S8192x1024 .bf16) (k : Fin 4096) (j : Fin 1024) : EReal :=
  ∑ r : Fin 8192, GW1 L R k j r

theorem rowLt (i0 : Fin 4) (i1 : Fin 2048) : i0.val * 1024 + i1.val % 1024 < 4096 := by omega
/-- The pack of the gradients: the weight's gradient in its own rows, and what was there in the others. -/
def pack (L : FVec Ideal S8192x4096 .bf16) (R : FVec Ideal S8192x1024 .bf16) (g : S4x2048x1024.Idx → EReal) (i : S4x2048x1024.Idx) : EReal :=
  if (i 1).val / 1024 = 1 then GW L R ⟨(i 0).val * 1024 + (i 1).val % 1024, rowLt (i 0) (i 1)⟩ (i 2) else g i

/-! ## The accumulator -/

section acc

variable (L : FVec Ideal S8192x4096 .bf16) (R : FVec Ideal S8192x1024 .bf16)

theorem readA (b : Fin 16) (r : Fin 2048) (a : Fin 1024) (h : b.val % 4 * 2048 + r.val < 8192) (h' : b.val / 4 * 1024 + a.val < 4096) :
    ((blkA b).view.read (Elt Ideal) (L : Held (F := Ideal) c opdA) : FVec Ideal S2048x1024 .bf16) (ix2 r a) = L (ix2 ⟨b.val % 4 * 2048 + r.val, h⟩ ⟨b.val / 4 * 1024 + a.val, h'⟩) := by
  unfold blkA
  refine congrArg L ?_
  funext x; apply Fin.ext
  fin_cases x
  · show 2048 * (b.val % 4) + 1 * r.val = _
    simp; omega
  · show 1024 * (b.val / 4) + 1 * a.val = _
    simp; omega
theorem readB (b : Fin 16) (r : Fin 2048) (j : Fin 1024) (h : b.val % 4 * 2048 + r.val < 8192) :
    ((blkB b).view.read (Elt Ideal) (R : Held (F := Ideal) c opdB) : FVec Ideal S2048x1024 .bf16) (ix2 r j) = R (ix2 ⟨b.val % 4 * 2048 + r.val, h⟩ j) := by
  unfold blkB
  refine congrArg R ?_
  funext x; apply Fin.ext
  fin_cases x
  · show 2048 * (b.val % 4) + 1 * r.val = _
    simp; omega
  · show 0 + 1 * j.val = _
    simp

theorem tile_at (t : ℕ) (ht : t < 16) (a : Fin 1024) (j : Fin 1024) (h' : t / 4 * 1024 + a.val < 4096) :
    tile (F := Ideal) c L R t (ix2 a j) = ∑ r : Fin 2048, GW1 L R ⟨t / 4 * 1024 + a.val, h'⟩ j ⟨t % 4 * 2048 + r.val, by omega⟩ := by
  have hb : (Ring.bk 16 t).val = t := Nat.mod_eq_of_lt ht
  pointwise [tile]
  refine Finset.sum_congr rfl fun r _ => ?_
  unfold GW1
  refine congrArg₂ (· * ·) ((readA L _ r a (by omega) (by omega)).trans (congrArg L ?_)) ((readB R _ r j (by omega)).trans (congrArg R ?_))
  · exact congrArg₂ ix2 (Fin.ext (by simp only [hb])) (Fin.ext (by simp only [hb]))
  · exact congrArg (ix2 · j) (Fin.ext (by simp only [hb]))

theorem onto_first (t : ℕ) (h : t % 4 = 0) (Y : Vec Ideal S1x1024x1024 .f32) (z : Fin 1) (a j : Fin 1024) :
    onto (F := Ideal) c L R t Y (ix3 z a j) = tile (F := Ideal) c L R t (ix2 a j) := by
  unfold onto; rw [if_pos h]; pointwise
theorem onto_next (t : ℕ) (h : t % 4 ≠ 0) (Y : Vec Ideal S1x1024x1024 .f32) (z : Fin 1) (a j : Fin 1024) :
    onto (F := Ideal) c L R t Y (ix3 z a j) = Y (ix3 z a j) + tile (F := Ideal) c L R t (ix2 a j) := by
  obtain rfl : z = 0 := Subsingleton.elim _ _
  unfold onto; rw [if_neg h]; pointwise

end acc

theorem acc_first (t : ℕ) (h : t % 4 = 0) (z : Fin 1) (a j : Fin 1024) :
    acc m c t (ix3 z a j) = tile (F := Ideal) c (leftOp m c) (rightOp m c) t (ix2 a j) :=
  (congrFun (acc_fresh m c t h (acc m c t)).symm _).trans (onto_first c _ _ t h _ z a j)
theorem acc_next (t : ℕ) (h : t % 4 ≠ 0) (z : Fin 1) (a j : Fin 1024) :
    acc m c t (ix3 z a j) = acc m c (t - 1) (ix3 z a j) + tile (F := Ideal) c (leftOp m c) (rightOp m c) t (ix2 a j) :=
  (congrFun (acc_more m c t (fun e => h (by rw [e]))).symm _).trans (onto_next c _ _ t h _ z a j)

/-- After the last of a block's four steps, the accumulator holds the block of the gradient. -/
theorem acc_last (t : ℕ) (ht : t < 16) (h : t % 4 = 3) (z : Fin 1) (a j : Fin 1024) (h' : t / 4 * 1024 + a.val < 4096) :
    acc m c t (ix3 z a j) = GW (leftOp m c) (rightOp m c) ⟨t / 4 * 1024 + a.val, h'⟩ j := by
  obtain ⟨g, rfl⟩ : ∃ g, t = 4 * g + 3 := ⟨t / 4, by omega⟩
  have d0 : (4 * g) / 4 = g := by omega
  have d1 : (4 * g + 1) / 4 = g := by omega
  have d2 : (4 * g + 2) / 4 = g := by omega
  have d3 : (4 * g + 3) / 4 = g := by omega
  have e0 : (4 * g) % 4 = 0 := by omega
  have e1 : (4 * g + 1) % 4 = 1 := by omega
  have e2 : (4 * g + 2) % 4 = 2 := by omega
  rw [acc_next m c (4 * g + 3) (by omega), show 4 * g + 3 - 1 = 4 * g + 2 by omega, acc_next m c (4 * g + 2) (by omega),
    show 4 * g + 2 - 1 = 4 * g + 1 by omega, acc_next m c (4 * g + 1) (by omega), show 4 * g + 1 - 1 = 4 * g by omega, acc_first m c (4 * g) e0,
    tile_at c _ _ (4 * g) (by omega) a j (by omega), tile_at c _ _ (4 * g + 1) (by omega) a j (by omega),
    tile_at c _ _ (4 * g + 2) (by omega) a j (by omega), tile_at c _ _ (4 * g + 3) ht a j h', GW, Fin.sum_univ_tiles 4 2048 rfl, Fin.sum_univ_four]
  refine congrArg₂ (· + ·) (congrArg₂ (· + ·) (congrArg₂ (· + ·) ?_ ?_) ?_) ?_ <;> refine Finset.sum_congr rfl fun r _ => ?_
  · exact congrArg₂ (fun k r => GW1 (leftOp m c) (rightOp m c) k j r) (Fin.ext (by simp only [d0, d3])) (Fin.ext (by simp [e0]))
  · exact congrArg₂ (fun k r => GW1 (leftOp m c) (rightOp m c) k j r) (Fin.ext (by simp only [d1, d3])) (Fin.ext (by simp [e1]))
  · exact congrArg₂ (fun k r => GW1 (leftOp m c) (rightOp m c) k j r) (Fin.ext (by simp only [d2, d3])) (Fin.ext (by simp [e2]))
  · exact congrArg₂ (fun k r => GW1 (leftOp m c) (rightOp m c) k j r) rfl (Fin.ext (by simp [h]))

theorem rounded_at (Y : Vec Ideal S1x1024x1024 .f32) (z : Fin 1) (a j : Fin 1024) : (rounded Y : Vec Ideal S1x1024x1024 .bf16) (ix3 z a j) = Y (ix3 z a j) := by
  obtain rfl : z = 0 := Subsingleton.elim _ _
  pointwise [rounded, k0_pay4]

/-! ## The arrays -/

theorem out0 : (V m c main_v5_0 : FVec Ideal S4x2048x1024 .f32) = m ((c : Thread nD τ).loc main_arg2) := by
  change StableHlo.after hostOps0 _ _ = _
  simp only [StableHlo.after_cons, StableHlo.after_nil]
  after_results_simp
  rfl
theorem out1 : (V m c main_v5_1 : FVec Ideal S4x2048x1024 .bf16) = m ((c : Thread nD τ).loc main_arg3) := by
  change StableHlo.after hostOps0 _ _ = _
  simp only [StableHlo.after_cons, StableHlo.after_nil]
  after_results_simp
  rfl

theorem idx : ∀ t : Fin cfg0.N, win0_0.index t = ![t.val / 4, 1, 0] ∧ win0_1.index t = ![t.val / 4, 1, 0] :=
  (by decide +kernel : ∀ t : Fin grid0.N, _)
theorem emb0 (t : Fin cfg0.N) (z : Fin 1) (a j : Fin 1024) (h : t.val / 4 < 4) (h' : 1 * 1024 + a.val < 2048) :
    (win0_0.blk t).view.emb (ix3 z a j) = ix3 ⟨t.val / 4, h⟩ ⟨1 * 1024 + a.val, h'⟩ j := by
  obtain rfl : z = 0 := Subsingleton.elim _ _
  blk_ext [idx t]
theorem emb1 (t : Fin cfg0.N) (z : Fin 1) (a j : Fin 1024) (h : t.val / 4 < 4) (h' : 1 * 1024 + a.val < 2048) :
    (win0_1.blk t).view.emb (ix3 z a j) = ix3 ⟨t.val / 4, h⟩ ⟨1 * 1024 + a.val, h'⟩ j := by
  obtain rfl : z = 0 := Subsingleton.elim _ _
  blk_ext [idx t]

theorem pack_in (L : FVec Ideal S8192x4096 .bf16) (R : FVec Ideal S8192x1024 .bf16) (g : S4x2048x1024.Idx → EReal) (b : Fin 4) (a j : Fin 1024)
    (h' : 1 * 1024 + a.val < 2048) (h : b.val * 1024 + a.val < 4096) :
    pack L R g (ix3 b ⟨1 * 1024 + a.val, h'⟩ j) = GW L R ⟨b.val * 1024 + a.val, h⟩ j := by
  unfold pack
  rw [if_pos (by show (1 * 1024 + a.val) / 1024 = 1; omega)]
  exact congrArg (GW L R · j) (Fin.ext (by show b.val * 1024 + (1 * 1024 + a.val) % 1024 = b.val * 1024 + a.val; omega))
theorem pack_out (L : FVec Ideal S8192x4096 .bf16) (R : FVec Ideal S8192x1024 .bf16) (g : S4x2048x1024.Idx → EReal) (i : S4x2048x1024.Idx)
    (h : ¬(i 1).val / 1024 = 1) : pack L R g i = g i := if_neg h

section final

variable (after : (w : Fin cfg0.W) → Fin cfg0.N → (cfg0.win w).block.Idx → Elt Ideal (cfg0.win w).elt)
  (hL : ∀ (w : Fin cfg0.W) (u : Fin cfg0.N), (cfg0.win w).flush u = true → (data m c).Leaves w u (after w u))

include hL

theorem final0 : ((data m c).withAfter after).arrAt 0 cfg0.N
    = (pack (leftOp m c) (rightOp m c) (m ((c : Thread nD τ).loc main_arg2)) : FVec Ideal S4x2048x1024 .f32) := by
  refine Pipeline.Dat.arrAt_eq_of_coversWhere_of_agree _ 0 _ (fun β => β (1 : Fin 3) = 1) (by decide +kernel) (fun t hf y => ?_) (fun j hj => ?_)
  · have hN : t.val < 16 := lt_of_lt_of_eq t.isLt (show cfg0.N = 16 from N_0)
    obtain ⟨Y, -, hX⟩ := hL 0 t hf
    rw [RDat.withAfter_after, (after_zero m c t Y _).1 hX]
    blk_simp
    obtain ⟨z, a, j, rfl⟩ : ∃ (z : Fin 1) (a j : Fin 1024), y = ix3 z a j := ⟨y 0, y 1, y 2, by ext k; fin_cases k <;> rfl⟩
    rw [emb0 t z a j (by omega) (by omega), pack_in _ _ _ _ a j (by omega) (by show t.val / 4 * 1024 + a.val < 4096; omega)]
    exact acc_last m c t.val hN ((flush0_0 t).1 hf) z a j (by omega)
  · rw [RDat.withAfter_A, data_A]
    refine (congrFun (out0 m c) _).trans (pack_out _ _ _ _ ?_).symm
    exact hj
theorem final1 : ((data m c).withAfter after).arrAt 1 cfg0.N
    = (pack (leftOp m c) (rightOp m c) (m ((c : Thread nD τ).loc main_arg3)) : FVec Ideal S4x2048x1024 .bf16) := by
  refine Pipeline.Dat.arrAt_eq_of_coversWhere_of_agree _ 1 _ (fun β => β (1 : Fin 3) = 1) (by decide +kernel) (fun t hf y => ?_) (fun j hj => ?_)
  · have hN : t.val < 16 := lt_of_lt_of_eq t.isLt (show cfg0.N = 16 from N_0)
    obtain ⟨Y, -, hX⟩ := hL 1 t hf
    rw [RDat.withAfter_after, (after_one m c t Y _).1 hX ((flush0_1 t).1 hf)]
    blk_simp
    obtain ⟨z, a, j, rfl⟩ : ∃ (z : Fin 1) (a j : Fin 1024), y = ix3 z a j := ⟨y 0, y 1, y 2, by ext k; fin_cases k <;> rfl⟩
    rw [emb1 t z a j (by omega) (by omega), pack_in _ _ _ _ a j (by omega) (by show t.val / 4 * 1024 + a.val < 4096; omega)]
    exact (rounded_at _ z a j).trans (acc_last m c t.val hN ((flush0_1 t).1 hf) z a j (by omega))
  · rw [RDat.withAfter_A, data_A]
    refine (congrFun (out1 m c) _).trans (pack_out _ _ _ _ ?_).symm
    exact hj

end final

/-- Every run of the program leaves the two packs, and its arguments as they began. -/
theorem run_packs : θ_run defs (onTc (τ := τ) (main (F := Ideal))) ⟨m, fun _ => 0, ρ⟩ (fun r => ∀ c : Dev nD,
      r.2.mem ((c.tc : Thread nD τ).loc main_v5_0) = (pack (leftOp m c) (rightOp m c) (m ((c : Thread nD τ).loc main_arg2)) : FVec Ideal S4x2048x1024 .f32)
      ∧ r.2.mem ((c.tc : Thread nD τ).loc main_v5_1) = (pack (leftOp m c) (rightOp m c) (m ((c : Thread nD τ).loc main_arg3)) : FVec Ideal S4x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨after, hL, hA⟩ := RDat.FramePost.exists_exact h.1 c
    exact ⟨(hA 0).trans (final0 m c after hL), (hA 1).trans (final1 m c after hL),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (run m ρ)

end Cert.DownDwIdeal.Stream

end
-- ==== Proof.DownDwRef.lean ====
/- What the reference of the gradient of the MLP's second weight computes, read at an entry of the two packs, and the kernel's operands. -/
module

public import proofs.«01_k».proof.Proof.DownDwVal
public import proofs.«01_k».proof.Proof.Gen.DownDwRefIdeal.Run
public import proofs.«01_k».proof.Proof.Gen.DownDwRefIdeal.Read

@[expose] public section

set_option maxRecDepth 16384

noncomputable section

namespace Cert.DownDwRefIdeal.Value

open Cert.DownDwRefIdeal Cert.DownDwRefIdeal.Gen Idealize.ShloMosaic Idealize.ShloMosaic.TcCoe Idealize.SL.Sem
open Cert.DownDwRefIdeal.Read Cert.DownDwIdeal.Stream

variable (X0 : FVec Ideal S8192x4096 .f32) (X1 : FVec Ideal S8192x1024 .f32) (X2 : FVec Ideal S4x2048x1024 .f32) (X3 : FVec Ideal S4x2048x1024 .bf16)

/-- The kernel's left operand: the square of the positive part. -/
def act (i : S8192x4096.Idx) : EReal := max (X0 i) 0 * max (X0 i) 0
theorem v4_at (j : Fin 1024) (k : Fin 4096) : val_main_v4 (F := Ideal) X0 X1 (ix2 j k) = GW (act X0) X1 k j := by
  pointwise [val_main_v4, val_main_v2, val_main_v1, val_main_call0_v0, val_main_call0_cst]
  exact Finset.sum_congr rfl fun r _ => mul_comm _ _
theorem dw_at (g : Fin 4) (a j : Fin 1024) (h : g.val * 1024 + a.val < 4096) :
    val_main_v6 (F := Ideal) X0 X1 (ix3 g a j) = GW (act X0) X1 ⟨g.val * 1024 + a.val, h⟩ j := by
  pointwise [val_main_v6, val_main_v5, v4_at]
theorem v8_at (g : Fin 4) (i : Fin 2048) (j : Fin 1024) :
    val_main_v8 (F := Ideal) X0 X1 X2 (ix3 g i j) = pack (act X0) X1 X2 (ix3 g i j) := by
  by_cases h0 : i.val < 1024
  · pointwise [val_main_v8, val_main_v7, h0]
    exact (congrArg X2 (congrArg (ix3 g · j) (Fin.ext rfl))).trans (if_neg (by show ¬ i.val / 1024 = 1; omega)).symm
  · pointwise [val_main_v8, val_main_v7, h0]
    refine Eq.trans ?_ (if_pos (by show i.val / 1024 = 1; omega)).symm
    refine (dw_at _ _ _ _ _ (by show g.val * 1024 + (i.val - 1024) < 4096; omega)).trans ?_
    refine congrArg (GW (act X0) X1 · j) (Fin.ext ?_)
    show g.val * 1024 + (i.val - 1024) = g.val * 1024 + i.val % 1024
    omega
theorem v11_at (g : Fin 4) (i : Fin 2048) (j : Fin 1024) :
    val_main_v11 (F := Ideal) X0 X1 X3 (ix3 g i j) = pack (act X0) X1 X3 (ix3 g i j) := by
  by_cases h0 : i.val < 1024
  · pointwise [val_main_v11, val_main_v10, val_main_v9, h0]
    exact (congrArg X3 (congrArg (ix3 g · j) (Fin.ext rfl))).trans (if_neg (by show ¬ i.val / 1024 = 1; omega)).symm
  · pointwise [val_main_v11, val_main_v10, val_main_v9, h0]
    refine Eq.trans ?_ (if_pos (by show i.val / 1024 = 1; omega)).symm
    refine (dw_at _ _ _ _ _ (by show g.val * 1024 + (i.val - 1024) < 4096; omega)).trans ?_
    refine congrArg (GW (act X0) X1 · j) (Fin.ext ?_)
    show g.val * 1024 + (i.val - 1024) = g.val * 1024 + i.val % 1024
    omega

end Cert.DownDwRefIdeal.Value

namespace Cert.DownDwIdeal.Stream

open Cert.DownDwIdeal Cert.DownDwIdeal.Gen Idealize.ShloMosaic Idealize.ShloMosaic.TcCoe Idealize.SL.Sem

variable (m : (ℓ : Loc nD τ sig) → Buf (Elt Ideal) ℓ) (c : Dev nD)

theorem left_eq : (leftOp m c : FVec Ideal S8192x4096 .bf16) = Cert.DownDwRefIdeal.Value.act (m ((c : Thread nD τ).loc main_arg0)) := by
  change StableHlo.after hostOps0 _ _ = _
  simp only [StableHlo.after_cons, StableHlo.after_nil]
  after_results_simp
  funext i
  rw [Idealize.ShloMosaic.eq_ix2 i]
  pointwise
  rfl
theorem right_eq : (rightOp m c : FVec Ideal S8192x1024 .bf16) = m ((c : Thread nD τ).loc main_arg1) := by
  change StableHlo.after hostOps0 _ _ = _
  simp only [StableHlo.after_cons, StableHlo.after_nil]
  after_results_simp
  rfl

end Cert.DownDwIdeal.Stream

end
-- ==== Proof.DownDwClaim.lean ====
/- The claims about the gradient of the MLP's second weight: the frames of the three programs, and the equality of the results.
   The text of the run is over the idealized program at any float values; the two printed programs differ in nothing, so the
   same text is the run of the other one. -/
module

public import proofs.«01_k».proof.Defs
public import proofs.«01_k».proof.Proof.DownDwRef
public import proofs.«01_k».proof.Proof.Gen.DownDw
public import Idealize.ShloMosaic.Lib.Quiescent

@[expose] public section

set_option maxRecDepth 16384

noncomputable section

namespace Cert.Proof

open Idealize.ShloMosaic Idealize.ShloMosaic.TcCoe Idealize.SL.Sem

attribute [local instance] Cert.DownDw.Gen.facts Cert.DownDwIdeal.Gen.facts Cert.DownDwRefIdeal.Gen.facts

section same

variable {F : FTy → Type} [FloatOps F]

theorem downdw_defs0_same : Cert.DownDw.defs₀ (F := F) = Cert.DownDwIdeal.defs₀ (F := F) := by
  unfold Cert.DownDw.defs₀ Cert.DownDwIdeal.defs₀
  refine congrArg Defs.onTc (funext fun l => funext fun x => ?_)
  match l, x with
  | 0, (t, s) => rfl
  | ⟨_ + 1, h⟩, _ => exact absurd h (Nat.not_lt.2 (Nat.le_add_left _ _))
theorem downdw_defs_same : Cert.DownDw.defs (F := F) = Cert.DownDwIdeal.defs (F := F) := by
  unfold Cert.DownDw.defs Cert.DownDwIdeal.defs
  exact congrArg (fun d => Pipeline.defs Cert.DownDwIdeal.pcfgs d) downdw_defs0_same
theorem downdw_main_same : Cert.DownDw.main (F := F) = Cert.DownDwIdeal.main (F := F) := rfl

end same

theorem downdw_frame_bits : Cert.quiescent_DownDw := by
  intro m ρ _
  rw [downdw_defs_same, downdw_main_same]
  exact Cert.DownDwIdeal.Stream.unchanged (F := Bits) m ρ
theorem downdw_frame : Cert.quiescent_DownDwIdeal := fun m ρ _ => Cert.DownDwIdeal.Stream.unchanged (F := Ideal) m ρ
theorem downdw_frame_ref : Cert.quiescent_DownDwRefIdeal := fun m ρ _ =>
  (θ_run _ _ _).mono (fun r h => ⟨fun c => (h c).2.2, sem_eq_zero_of_no_sems (by decide) _⟩)
    (Cert.DownDwRefIdeal.Value.run m ρ)

open Cert.DownDwIdeal.Stream in
theorem downdw_algebraic : Cert.algebraic_DownDwIdeal_DownDwRefIdeal := by
  intro m ρ m' ρ' hpre hag
  refine ⟨fun c => pack (leftOp m c) (rightOp m c) (m ((c.tc : Thread _ _).loc Cert.DownDwIdeal.main_arg2)),
    fun c => pack (leftOp m c) (rightOp m c) (m ((c.tc : Thread _ _).loc Cert.DownDwIdeal.main_arg3)),
    run_packs m ρ, (θ_run _ _ _).mono (fun r h c => ?_) (Cert.DownDwRefIdeal.Value.run m' ρ')⟩
  obtain ⟨h0, h1, h2⟩ := h c
  obtain ⟨a0, a1, a2, a3⟩ := hag c
  refine ⟨h0.trans ?_, h1.trans ?_, h2⟩
  · refine Eq.trans ?_ (congrArg₂ (fun L R => pack L R _) (left_eq m c) (right_eq m c)).symm
    rw [Cert.DownDwRefIdeal.Read.val_main_v8_eq, a0, a1, a2]
    funext i
    rw [Idealize.ShloMosaic.eq_ix3 i]
    exact Cert.DownDwRefIdeal.Value.v8_at _ _ _ _ _ _
  · refine Eq.trans ?_ (congrArg₂ (fun L R => pack L R _) (left_eq m c) (right_eq m c)).symm
    rw [Cert.DownDwRefIdeal.Read.val_main_v11_eq, a0, a1, a3]
    funext i
    rw [Idealize.ShloMosaic.eq_ix3 i]
    exact Cert.DownDwRefIdeal.Value.v11_at _ _ _ _ _ _

end Cert.Proof

end
-- ==== Proof.LossVal.lean ====
/- The arrays the kernel of the MLP's end and the loss leaves, as functions of the arguments. -/
module

public import proofs.«01_k».proof.Proof.NormMath
public import proofs.«01_k».proof.Proof.Gen.LossIdeal.Value
public import Idealize.ShloMosaic.Lib.Pipeline.ValueKit

@[expose] public section

set_option maxRecDepth 16384

noncomputable section

namespace Cert.LossIdeal.Value

open Cert.LossIdeal Cert.LossIdeal.Gen Idealize.ShloMosaic Idealize.ShloMosaic.TcCoe Idealize.SL.Sem
open Cert.Norm

variable (m : (ℓ : Loc nD τ sig) → Buf (Elt Ideal) ℓ) (c : Dev nD)

/-- The hidden layer, the weights, the residual stream, the target, and the norm's gain. -/
abbrev H : FVec Ideal S8192x4096 .f32 := m ((c : Thread nD τ).loc main_arg0)
abbrev W : FVec Ideal S4096x1024 .f32 := m ((c : Thread nD τ).loc main_arg1)
abbrev X : FVec Ideal S8192x1024 .f32 := m ((c : Thread nD τ).loc main_arg2)
abbrev T : FVec Ideal S8192x1024 .f32 := m ((c : Thread nD τ).loc main_arg3)
abbrev N : FVec Ideal S1x1024 .f32 := m ((c : Thread nD τ).loc main_arg4)

/-- One half, and the reciprocal of the row's length, as the programs write them. -/
abbrev cF : EReal := Ideal.ofBits .f32 0x3F000000#32
abbrev cR : EReal := Ideal.ofBits .f32 0x3A800000#32

theorem cF_eq : cF = ((1 / 2 : ℝ) : EReal) := by
  unfold cF; simp [Ideal.ofBits, Ideal.ieee, -EReal.coe_mul]; norm_num
theorem cR_eq : cR = ((1 / 1024 : ℝ) : EReal) := by
  unfold cR; simp [Ideal.ofBits, Ideal.ieee, -EReal.coe_mul]; norm_num
theorem half_sum {n : ℕ} (f : Fin n → EReal) : cF * ∑ k, f k = ∑ k, cF * f k := by
  rw [cF_eq]; exact mul_sum_pos (by norm_num) f

/-! One row: the error, the loss, the gradients. -/

def err (x g y : Fin 1024 → EReal) (j : Fin 1024) : EReal := nrm x g j - y j
def loss (x g y : Fin 1024 → EReal) : EReal := cF * Ideal.div (∑ k, err x g y k * err x g y k) cN
def dn (x g y : Fin 1024 → EReal) (j : Fin 1024) : EReal := err x g y j * cR
/-- The gradient of the row, as the kernel arranges it. -/
def gx (x g y : Fin 1024 → EReal) (j : Fin 1024) : EReal :=
  rs x * (dn x g y j * g j - x j * rs x * Ideal.div (∑ k, dn x g y k * g k * (x k * rs x)) cN)
def gn (x g y : Fin 1024 → EReal) (j : Fin 1024) : EReal := dn x g y j * (x j * rs x)

theorem idx : ∀ t : Fin cfg0.N, win0_0.index t = ![t.val, 0] ∧ win0_1.index t = ![0, 1, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-! The payloads of the two halves of a tile, read at an entry. -/

section pay

variable (w : Vec Ideal S4x1024x1024 .bf16) (u : Vec Ideal S256x4096 .bf16) (x y : Vec Ideal S256x1024 .f32)
  (g : Vec Ideal S1x1024 .f32)

/-- Row `u` of the hidden layer times the packed weights. -/
def mm (u : Fin 4096 → EReal) (w : Vec Ideal S4x1024x1024 .bf16) (j : Fin 1024) : EReal :=
  ∑ k : Fin 4096, u k * w (ix3 ⟨k.val / 1024, by omega⟩ ⟨k.val % 1024, by omega⟩ j)
/-- Row `r` of the stream after the MLP. -/
abbrev row (r : Fin 256) : Fin 1024 → EReal := fun k => mm (fun k => u (ix2 r k)) w k + x (ix2 r k)
abbrev gr : Fin 1024 → EReal := fun k => g (ix2 0 k)
abbrev tr (r : Fin 256) : Fin 1024 → EReal := fun k => y (ix2 r k)

theorem pay1_at (a : FVec Ideal S1x128 .f32) (v : Vec Ideal S1x128 .f32) (i : S1x128.Idx) : k0_pay1 a v i = v i + a i := by
  pointwise [k0_pay1]
theorem pay2_at (a : FVec Ideal S1x1024 .f32) (v : Vec Ideal S1x1024 .f32) (i : S1x1024.Idx) : k0_pay2 a v i = v i + a i := by
  pointwise [k0_pay2]
theorem pay4_at (r : Fin 256) (j : Fin 1024) : k0_pay4 w u x (ix2 r j) = row w u x r j := by
  pointwise [k0_pay4, k0_pay3]
  rfl
theorem pay5_at (r : Fin 256) (z : Fin 1) : k0_pay5 w u x (ix2 r z) = rs (row w u x r) := by
  pointwise [k0_pay5, pay4_at]; rfl
theorem pay6_at (r : Fin 256) (j : Fin 1024) : k0_pay6 w u x (ix2 r j) = row w u x r j * rs (row w u x r) := by
  pointwise [k0_pay6, pay4_at, pay5_at]
theorem pay7_at (r : Fin 256) (j : Fin 1024) : k0_pay7 w u x y g (ix2 r j) = err (row w u x r) (gr g) (tr y r) j := by
  pointwise [k0_pay7, pay6_at]; rfl
theorem pay8_at (i : S1x128.Idx) : k0_pay8 w u x y g i = ∑ r : Fin 256, loss (row w u x r) (gr g) (tr y r) := by
  pointwise [k0_pay8, pay7_at]
  exact (congrArg (cF * ·) (Finset.sum_congr rfl fun r _ => Fin.sum_univ_one _)).trans (half_sum _)
theorem pay9_at (r : Fin 256) (j : Fin 1024) : k0_pay9 w u x y g (ix2 r j) = dn (row w u x r) (gr g) (tr y r) j := by
  pointwise [k0_pay9, pay7_at]; rfl
theorem pay10_at (r : Fin 256) (j : Fin 1024) : k0_pay10 g (k0_pay5 w u x) (k0_pay6 w u x) (k0_pay9 w u x y g) (ix2 r j)
    = gx (row w u x r) (gr g) (tr y r) j := by
  pointwise [k0_pay10, pay5_at, pay6_at, pay9_at]; rfl
theorem pay11_at (z : Fin 1) (j : Fin 1024) : k0_pay11 (k0_pay6 w u x) (k0_pay9 w u x y g) (ix2 z j)
    = ∑ r : Fin 256, gn (row w u x r) (gr g) (tr y r) j := by
  pointwise [k0_pay11, pay6_at, pay9_at]; rfl

theorem pay18_at (r : Fin 256) (j : Fin 1024) : k0_pay18 g (k0_pay14 (k0_pay3 w) u x) (k0_pay15 (k0_pay3 w) u x)
    (k0_pay16 (k0_pay3 w) u x y g) (ix2 r j) = gx (row w u x r) (gr g) (tr y r) j := pay10_at w u x y g r j
theorem pay17_at (r : Fin 256) (j : Fin 1024) : k0_pay17 (k0_pay16 (k0_pay3 w) u x y g) (ix2 r j)
    = dn (row w u x r) (gr g) (tr y r) j := pay9_at w u x y g r j
theorem pay15_at (r : Fin 256) (j : Fin 1024) : k0_pay15 (k0_pay3 w) u x (ix2 r j)
    = row w u x r j * rs (row w u x r) := pay6_at w u x r j
theorem pay16_at (r : Fin 256) (j : Fin 1024) : k0_pay16 (k0_pay3 w) u x y g (ix2 r j)
    = err (row w u x r) (gr g) (tr y r) j := pay7_at w u x y g r j
theorem pay20_at (v : FVec Ideal S1x128 .f32) (i : S1x128.Idx) :
    k0_pay20 v (k0_pay16 (k0_pay3 w) u x y g) (Scalar.ofBits .f32 0x00000000#32) i
      = v i + ∑ r : Fin 256, loss (row w u x r) (gr g) (tr y r) := by
  pointwise [k0_pay20, pay16_at]
  exact congrArg (v i + ·) ((congrArg (cF * ·) (Finset.sum_congr rfl fun r _ => Fin.sum_univ_one _)).trans (half_sum _))
theorem pay21_at (v : FVec Ideal S1x1024 .f32) (z : Fin 1) (j : Fin 1024) :
    k0_pay21 v (k0_pay15 (k0_pay3 w) u x) (k0_pay16 (k0_pay3 w) u x y g) (ix2 z j)
      = v (ix2 z j) + ∑ r : Fin 256, gn (row w u x r) (gr g) (tr y r) j := by
  pointwise [k0_pay21, pay17_at, pay15_at]; rfl

end pay

section tile

variable (u : Vec Ideal S512x4096 .bf16) (w : Vec Ideal S4x1024x1024 .bf16) (x y : Vec Ideal S512x1024 .f32)
  (g : Vec Ideal S1x1024 .f32)

/-! The same over a tile of 512 rows. -/

abbrev rowT (r : Fin 512) : Fin 1024 → EReal := fun k => mm (fun k => u (ix2 r k)) w k + x (ix2 r k)
abbrev trT (r : Fin 512) : Fin 1024 → EReal := fun k => y (ix2 r k)
def gxT (r : Fin 512) (j : Fin 1024) : EReal := gx (rowT u w x r) (gr g) (trT y r) j
def gnT (r : Fin 512) (j : Fin 1024) : EReal := gn (rowT u w x r) (gr g) (trT y r) j
def lossT (r : Fin 512) : EReal := loss (rowT u w x r) (gr g) (trT y r)

abbrev u0 := View.ld u (Rect.unit ![0, 0] ![256, 4096] inb_S512x4096_S256x4096_0_0)
abbrev u1 := View.ld u (Rect.unit ![256, 0] ![256, 4096] inb_S512x4096_S256x4096_256_0)
abbrev x0 := View.ld x (Rect.unit ![0, 0] ![256, 1024] inb_S512x1024_S256x1024_0_0)
abbrev x1 := View.ld x (Rect.unit ![256, 0] ![256, 1024] inb_S512x1024_S256x1024_256_0)

theorem u0_at (r : Fin 256) (k : Fin 4096) : u0 u (ix2 r k) = u (ix2 ⟨r.val, by omega⟩ k) := by pointwise [u0]
theorem u1_at (r : Fin 256) (k : Fin 4096) : u1 u (ix2 r k) = u (ix2 ⟨256 + r.val, by omega⟩ k) := by pointwise [u1]
theorem x0_at (r : Fin 256) (k : Fin 1024) : x0 x (ix2 r k) = x (ix2 ⟨r.val, by omega⟩ k) := by pointwise [x0]
theorem x1_at (r : Fin 256) (k : Fin 1024) : x1 x (ix2 r k) = x (ix2 ⟨256 + r.val, by omega⟩ k) := by pointwise [x1]

theorem row0 (r : Fin 256) : row w (u0 u) (x0 x) r = rowT u w x ⟨r.val, by omega⟩ := by
  funext k; unfold row rowT; simp only [fun k => x0_at x r k, fun k => u0_at u r k]
theorem row1 (r : Fin 256) : row w (u1 u) (x1 x) r = rowT u w x ⟨256 + r.val, by omega⟩ := by
  funext k; unfold row rowT; simp only [fun k => x1_at x r k, fun k => u1_at u r k]
theorem tr0 (r : Fin 256) : tr (x0 y) r = trT y ⟨r.val, by omega⟩ := funext fun k => x0_at y r k
theorem tr1 (r : Fin 256) : tr (x1 y) r = trT y ⟨256 + r.val, by omega⟩ := funext fun k => x1_at y r k

theorem lo_at (r : Fin 256) (j : Fin 1024) : k0_pay10 g (k0_pay5 w (u0 u) (x0 x)) (k0_pay6 w (u0 u) (x0 x))
    (k0_pay9 w (u0 u) (x0 x) (x0 y) g) (ix2 r j) = gxT u w x y g ⟨r.val, by omega⟩ j := by
  rw [pay10_at, row0, tr0, gxT]
theorem hi_at (r : Fin 256) (j : Fin 1024) : k0_pay18 g (k0_pay14 (k0_pay3 w) (u1 u) (x1 x)) (k0_pay15 (k0_pay3 w) (u1 u) (x1 x))
    (k0_pay16 (k0_pay3 w) (u1 u) (x1 x) (x1 y) g) (ix2 r j) = gxT u w x y g ⟨256 + r.val, by omega⟩ j := by
  rw [pay18_at, row1, tr1, gxT]

theorem canon5 (i : S512x1024.Idx) : (View.canon
      [⟨Rect.unit ![256, 0] ![256, 1024] inb_S512x1024_S256x1024_256_0, k0_pay18 g (k0_pay14 (k0_pay3 w) (u1 u) (x1 x))
          (k0_pay15 (k0_pay3 w) (u1 u) (x1 x)) (k0_pay16 (k0_pay3 w) (u1 u) (x1 x) (x1 y) g)⟩,
        ⟨Rect.unit ![0, 0] ![256, 1024] inb_S512x1024_S256x1024_0_0, k0_pay10 g (k0_pay5 w (u0 u) (x0 x)) (k0_pay6 w (u0 u) (x0 x))
          (k0_pay9 w (u0 u) (x0 x) (x0 y) g)⟩] : Vec Ideal S512x1024 .f32) i
    = gxT u w x y g (i 0) (i 1) := by
  canon_tiles z h
  all_goals (obtain ⟨r, j, rfl⟩ : ∃ (r : Fin 256) (j : Fin 1024), z = ix2 r j := ⟨z 0, z 1, by ext k; fin_cases k <;> rfl⟩)
  · rw [hi_at, show i 0 = (⟨256 + r.val, by omega⟩ : Fin 512) from Fin.ext h0, show i 1 = j from Fin.ext h1]
  · rw [lo_at, show i 0 = (⟨r.val, by omega⟩ : Fin 512) from Fin.ext (by simpa using h0), show i 1 = j from Fin.ext h1]

theorem canon6 (i : S512x1024.Idx) : (View.canon
      [⟨Rect.unit ![256, 0] ![256, 1024] inb_S512x1024_S256x1024_256_0, k0_pay19 g (k0_pay14 (k0_pay3 w) (u1 u) (x1 x))
          (k0_pay15 (k0_pay3 w) (u1 u) (x1 x)) (k0_pay16 (k0_pay3 w) (u1 u) (x1 x) (x1 y) g)⟩,
        ⟨Rect.unit ![0, 0] ![256, 1024] inb_S512x1024_S256x1024_0_0, k0_pay12 g (k0_pay5 w (u0 u) (x0 x)) (k0_pay6 w (u0 u) (x0 x))
          (k0_pay9 w (u0 u) (x0 x) (x0 y) g)⟩] : Vec Ideal S512x1024 .bf16) i
    = gxT u w x y g (i 0) (i 1) := canon5 u w x y g i

/-- A tile's parts of the loss and of the gain's gradient. -/
abbrev lossP : FVec Ideal S1x128 .f32 := k0_pay20 (k0_pay8 w (u0 u) (x0 x) (x0 y) g) (k0_pay16 (k0_pay3 w) (u1 u) (x1 x) (x1 y) g)
  (Scalar.ofBits .f32 0x00000000#32)
abbrev gainP : FVec Ideal S1x1024 .f32 := k0_pay21 (k0_pay11 (k0_pay6 w (u0 u) (x0 x)) (k0_pay9 w (u0 u) (x0 x) (x0 y) g))
  (k0_pay15 (k0_pay3 w) (u1 u) (x1 x)) (k0_pay16 (k0_pay3 w) (u1 u) (x1 x) (x1 y) g)

theorem lossP_at (i : S1x128.Idx) : lossP u w x y g i = ∑ r : Fin 512, lossT u w x y g r := by
  unfold lossP
  rw [pay20_at, pay8_at, Fin.sum_univ_tiles 2 256 rfl, Fin.sum_univ_two]
  refine congrArg₂ _ (Finset.sum_congr rfl fun r _ => ?_) (Finset.sum_congr rfl fun r _ => ?_)
  · rw [row0, tr0, lossT]
    congr! <;> simp
  · rw [row1, tr1, lossT]
    congr! <;> simp
theorem gainP_at (z : Fin 1) (j : Fin 1024) : gainP u w x y g (ix2 z j) = ∑ r : Fin 512, gnT u w x y g r j := by
  unfold gainP
  rw [pay21_at, pay11_at, Fin.sum_univ_tiles 2 256 rfl, Fin.sum_univ_two]
  refine congrArg₂ _ (Finset.sum_congr rfl fun r _ => ?_) (Finset.sum_congr rfl fun r _ => ?_)
  · rw [row0, tr0, gnT]
    congr! <;> simp
  · rw [row1, tr1, gnT]
    congr! <;> simp

end tile

/-- The hidden layer after its rectifier's square. -/
def act (H : FVec Ideal S8192x4096 .f32) (r : Fin 8192) (k : Fin 4096) : EReal := max (H (ix2 r k)) 0 * max (H (ix2 r k)) 0

theorem act_at (r : Fin 8192) (a : Fin 4096) :
    (V m c main_v3 : FVec Ideal S8192x4096 .bf16) (ix2 r a) = act (H m c) r a := by
  entry_read
  pointwise
  rfl

theorem concat_congr {α : Type} {t s₁ s₂ s₃ : Shape} {a : Fin t.rank} {x x' : s₁.Idx → α} {y y' : s₂.Idx → α} {z z' : s₃.Idx → α}
    (h : Shape.Concatenates [s₁, s₂, s₃] t a) (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz; rfl

theorem V_v8 : (V m c main_v8 : FVec Ideal S4x3584x1024 .bf16)
    = concatenate S4x3584x1024 1
        [⟨S4x1024x1024, broadcastInDim S4x1024x1024 ![] bcast_S_S4x1024x1024 (constant (F := Ideal) S_ .bf16 0x0000#16)⟩,
         ⟨S4x1024x1024, shapeCast S4x1024x1024 (truncf .bf16 (W m c) bitsLt_bf16_f32) shapeCasts_S4096x1024_S4x1024x1024⟩,
         ⟨S4x1536x1024, broadcastInDim S4x1536x1024 ![] bcast_S_S4x1536x1024 (constant (F := Ideal) S_ .bf16 0x0000#16)⟩]
        concatenates_S4x1024x1024_S4x1024x1024_S4x1536x1024_S4x3584x1024_d1 := by
  change StableHlo.after hostOps0 _ _ = _
  simp only [StableHlo.after_cons, StableHlo.after_nil]
  rw [StableHlo.nary_result]
  refine concat_congr _ ?_ ?_ ?_
  · after_results_simp; rfl
  · after_results_simp; rfl
  · after_results_simp; rfl

theorem w_at (j : Fin 4) (a b : Fin 1024) (p : Fin 3584) (hp : p.val = 1024 + a.val) :
    (V m c main_v8 : FVec Ideal S4x3584x1024 .bf16) (ix3 j p b) = W m c (ix2 ⟨j.val * 1024 + a.val, by omega⟩ b) := by
  have h0 : ¬ p.val < 1024 := by omega
  have h1 : p.val - 1024 < 1024 := by omega
  rw [V_v8]
  pointwise [h0, h1]
  refine congrArg _ ?_
  ext k; fin_cases k <;> simp [ix2]; omega

variable (t : Fin cfg0.N)

theorem blk0 (r : Fin 512) (k : Fin 4096) (h : t.val * 512 + r.val < 8192) :
    (iblk m c 0 t : Vec Ideal S512x4096 .bf16) (ix2 r k)
      = act (H m c) ⟨t.val * 512 + r.val, h⟩ k := by
  refine Eq.trans ?_ (act_at m c _ _)
  blk_simp [iblk]
  exact congrArg _ (by blk_ext [idx t])
theorem blk1 (a : Fin 4) (b j : Fin 1024) :
    (X0_1 m c t : Vec Ideal S4x1024x1024 .bf16) (ix3 a b j) = W m c (ix2 ⟨a.val * 1024 + b.val, by omega⟩ j) := by
  refine Eq.trans ?_ (w_at m c a b j ⟨1024 + b.val, by omega⟩ rfl)
  unfold X0_1 Pipeline.Window.fill
  rw [dif_pos (moved0_1 t _)]
  blk_simp [iblk]
  exact congrArg _ (by blk_ext [idx t])
theorem blk2 (r : Fin 512) (k : Fin 1024) (h : t.val * 512 + r.val < 8192) :
    (iblk m c 2 t : Vec Ideal S512x1024 .f32) (ix2 r k) = X m c (ix2 ⟨t.val * 512 + r.val, h⟩ k) := by
  blk_point [iblk, V, idx t]
theorem blk3 (r : Fin 512) (k : Fin 1024) (h : t.val * 512 + r.val < 8192) :
    (iblk m c 3 t : Vec Ideal S512x1024 .f32) (ix2 r k) = T m c (ix2 ⟨t.val * 512 + r.val, h⟩ k) := by
  blk_point [iblk, V, idx t]
theorem blk4 (z : Fin 1) (k : Fin 1024) :
    (iblk m c 4 t : Vec Ideal S1x1024 .f32) (ix2 z k) = N m c (ix2 z k) := by
  blk_point [iblk, V, idx t]

/-! The whole arrays. -/

section whole

variable (H : FVec Ideal S8192x4096 .f32) (W : FVec Ideal S4096x1024 .f32) (X T : FVec Ideal S8192x1024 .f32) (N : FVec Ideal S1x1024 .f32)

/-- Row `r` of the stream after the MLP. -/
def out (r : Fin 8192) (j : Fin 1024) : EReal :=
  (∑ k : Fin 4096, act H r k * W (ix2 k j)) + X (ix2 r j)
abbrev tg (r : Fin 8192) : Fin 1024 → EReal := fun k => T (ix2 r k)
def GX (r : Fin 8192) (j : Fin 1024) : EReal := gx (out H W X r) (gr N) (tg T r) j
def GN1 (r : Fin 8192) (j : Fin 1024) : EReal := gn (out H W X r) (gr N) (tg T r) j
def GN (j : Fin 1024) : EReal := ∑ r : Fin 8192, GN1 H W X T N r j
def L1 (r : Fin 8192) : EReal := loss (out H W X r) (gr N) (tg T r)
def L : EReal := ∑ r : Fin 8192, L1 H W X T N r

end whole

theorem mm_blk (r : Fin 512) (j : Fin 1024) (h : t.val * 512 + r.val < 8192) :
    mm (fun k => (iblk m c 0 t : Vec Ideal S512x4096 .bf16) (ix2 r k)) (X0_1 m c t) j
      = ∑ k : Fin 4096, act (H m c) ⟨t.val * 512 + r.val, h⟩ k * W m c (ix2 k j) := by
  unfold mm
  refine Finset.sum_congr rfl fun k _ => ?_
  have e : (⟨k.val / 1024 * 1024 + k.val % 1024, by omega⟩ : Fin 4096) = k := Fin.ext (Nat.div_add_mod' k.val 1024)
  have e1 := blk1 m c t ⟨k.val / 1024, by omega⟩ ⟨k.val % 1024, by omega⟩ j
  rw [e] at e1
  exact congrArg₂ (fun a b : EReal => a * b) (blk0 m c t r k h) e1

theorem row_blk (r : Fin 512) (h : t.val * 512 + r.val < 8192) :
    rowT (iblk m c 0 t) (X0_1 m c t) (iblk m c 2 t) r = out (H m c) (W m c) (X m c) ⟨t.val * 512 + r.val, h⟩ := by
  funext k
  exact congrArg₂ (fun a b : EReal => a + b) (mm_blk m c t r k h) (blk2 m c t r k h)
theorem tr_blk (r : Fin 512) (h : t.val * 512 + r.val < 8192) :
    trT (iblk m c 3 t) r = tg (T m c) ⟨t.val * 512 + r.val, h⟩ := funext fun k => blk3 m c t r k h
theorem gr_blk : gr (iblk m c 4 t) = gr (N m c) := funext fun k => blk4 m c t 0 k

theorem gxT_blk (r : Fin 512) (j : Fin 1024) (h : t.val * 512 + r.val < 8192) :
    gxT (iblk m c 0 t) (X0_1 m c t) (iblk m c 2 t) (iblk m c 3 t) (iblk m c 4 t) r j
      = GX (H m c) (W m c) (X m c) (T m c) (N m c) ⟨t.val * 512 + r.val, h⟩ j := by
  rw [gxT, row_blk m c t r h, tr_blk m c t r h, gr_blk m c t, GX]
theorem gnT_blk (j : Fin 1024) (r : Fin 512) (h : t.val * 512 + r.val < 8192) :
    gnT (iblk m c 0 t) (X0_1 m c t) (iblk m c 2 t) (iblk m c 3 t) (iblk m c 4 t) r j
      = GN1 (H m c) (W m c) (X m c) (T m c) (N m c) ⟨t.val * 512 + r.val, h⟩ j := by
  rw [gnT, row_blk m c t r h, tr_blk m c t r h, gr_blk m c t, GN1]
theorem lossT_blk (r : Fin 512) (h : t.val * 512 + r.val < 8192) :
    lossT (iblk m c 0 t) (X0_1 m c t) (iblk m c 2 t) (iblk m c 3 t) (iblk m c 4 t) r
      = L1 (H m c) (W m c) (X m c) (T m c) (N m c) ⟨t.val * 512 + r.val, h⟩ := by
  rw [lossT, row_blk m c t r h, tr_blk m c t r h, gr_blk m c t, L1]

theorem emb5 (r : Fin 512) (j : Fin 1024) (h : t.val * 512 + r.val < 8192) :
    (win0_5.blk t).view.emb (ix2 r j) = ix2 ⟨t.val * 512 + r.val, h⟩ j := by blk_ext [idx t]
theorem emb6 (r : Fin 512) (j : Fin 1024) (h : t.val * 512 + r.val < 8192) :
    (win0_6.blk t).view.emb (ix2 r j) = ix2 ⟨t.val * 512 + r.val, h⟩ j := by blk_ext [idx t]

theorem out5 (y : S512x1024.Idx) : (outsAt0 m c t.val t.isLt).1 y
    = gxT (iblk m c 0 t) (X0_1 m c t) (iblk m c 2 t) (iblk m c 3 t) (iblk m c 4 t) (y 0) (y 1) := by
  have hN : t.val < 16 := lt_of_lt_of_le t.isLt (le_of_eq N_0)
  refine Eq.trans ?_ (canon5 ..)
  refine congrFun ?_ y
  by_cases h0 : t.val % 16 = 0
  · rw [outsAt0_A m c t h0 (by omega)]; frame_out
  · rw [outsAt0_B m c t h0 (by omega)]; frame_out
theorem out6 (y : S512x1024.Idx) : (outsAt0 m c t.val t.isLt).2.1 y
    = gxT (iblk m c 0 t) (X0_1 m c t) (iblk m c 2 t) (iblk m c 3 t) (iblk m c 4 t) (y 0) (y 1) := by
  have hN : t.val < 16 := lt_of_lt_of_le t.isLt (le_of_eq N_0)
  refine Eq.trans ?_ (canon6 ..)
  refine congrFun ?_ y
  by_cases h0 : t.val % 16 = 0
  · rw [outsAt0_A m c t h0 (by omega)]; frame_out
  · rw [outsAt0_B m c t h0 (by omega)]; frame_out

theorem final5 : (dats m 0 c).arrAt 5 cfg0.N
    = (fun i => GX (H m c) (W m c) (X m c) (T m c) (N m c) (i 0) (i 1) : FVec Ideal S8192x1024 .f32) := by
  refine (dats m 0 c).arrAt_eq_of_covers 5 _ (by decide +kernel) fun t hf y => ?_
  blk_simp
  rw [after0_5]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb5 t r j h]
  exact (out5 m c t _).trans (gxT_blk m c t r j h)
theorem final6 : (dats m 0 c).arrAt 6 cfg0.N
    = (fun i => GX (H m c) (W m c) (X m c) (T m c) (N m c) (i 0) (i 1) : FVec Ideal S8192x1024 .bf16) := by
  refine (dats m 0 c).arrAt_eq_of_covers 6 _ (by decide +kernel) fun t hf y => ?_
  blk_simp
  rw [after0_6]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb6 t r j h]
  exact (out6 m c t _).trans (gxT_blk m c t r j h)
theorem final7 : (dats m 0 c).arrAt 7 cfg0.N
    = (fun _ => L (H m c) (W m c) (X m c) (T m c) (N m c) : FVec Ideal S1x128 .f32) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t => lossP (iblk m c 0 t) (X0_1 m c t) (iblk m c 2 t) (iblk m c 3 t) (iblk m c 4 t))
    (fun t h j => by
      have hN : t.val < 16 := lt_of_lt_of_le t.isLt (le_of_eq N_0)
      rw [outsAt0_A m c t h (by omega)]; frame_out; rw [zero_add])
    (fun t h j => by rw [outsAt0_B m c t h (by omega)]; frame_out; exact pay1_at ..)
    (le_of_eq N_0) t0_15 rfl j, zero_add]
  refine (Fin.sum_fin_congr fun t => lossP_at _ _ _ _ _ j).trans ?_
  change _ = ∑ r : Fin 8192, L1 (H m c) (W m c) (X m c) (T m c) (N m c) r
  exact Fin.sum_mul_add_congr fun t r h => lossT_blk m c t r h
theorem final8 : (dats m 0 c).arrAt 8 cfg0.N
    = (fun i => GN (H m c) (W m c) (X m c) (T m c) (N m c) (i 1) : FVec Ideal S1x1024 .f32) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t => gainP (iblk m c 0 t) (X0_1 m c t) (iblk m c 2 t) (iblk m c 3 t) (iblk m c 4 t))
    (fun t h j => by
      have hN : t.val < 16 := lt_of_lt_of_le t.isLt (le_of_eq N_0)
      rw [outsAt0_A m c t h (by omega)]; frame_out; rw [zero_add])
    (fun t h j => by rw [outsAt0_B m c t h (by omega)]; frame_out; exact pay2_at ..)
    (le_of_eq N_0) t0_15 rfl j, zero_add]
  obtain ⟨z, b, rfl⟩ : ∃ (z : Fin 1) (b : Fin 1024), j = ix2 z b := ⟨j 0, j 1, by ext k; fin_cases k <;> rfl⟩
  refine (Fin.sum_fin_congr fun t => gainP_at _ _ _ _ _ z b).trans ?_
  change _ = ∑ r : Fin 8192, GN1 (H m c) (W m c) (X m c) (T m c) (N m c) r b
  exact Fin.sum_mul_add_congr fun t r h => gnT_blk m c t b r h

end Cert.LossIdeal.Value
-- ==== Proof.LossRef.lean ====
/- What the reference's loss and its gradients compute, read stage by stage at an entry. -/
module

public import proofs.«01_k».proof.Proof.LossVal
public import proofs.«01_k».proof.Proof.Gen.LossRefIdeal.Run
public import proofs.«01_k».proof.Proof.Gen.LossRefIdeal.Read

@[expose] public section

set_option maxRecDepth 16384

noncomputable section

namespace Cert.LossRefIdeal.Value

open Cert.LossRefIdeal Cert.LossRefIdeal.Gen Idealize.ShloMosaic Idealize.ShloMosaic.TcCoe Idealize.SL.Sem
open Cert.LossRefIdeal.Read Cert.Norm Cert.LossIdeal.Value

variable (X0 : FVec Ideal S8192x4096 .f32) (X1 : FVec Ideal S4096x1024 .f32) (X2 : FVec Ideal S8192x1024 .f32)
  (X3 : FVec Ideal S8192x1024 .f32) (X4 : FVec Ideal S1x1024 .f32)

/-- Row `r` of the stream, and of the cotangent of its normalised form. -/
abbrev o (r : Fin 8192) : Fin 1024 → EReal := out X0 X1 X2 r
abbrev ct (r : Fin 8192) : Fin 1024 → EReal := fun k => dn (o X0 X1 X2 r) (gr X4) (tg X3 r) k * X4 (ix2 0 k)

/-- The two factors that the chain rule multiplies an error with are together the reciprocal of the row's length. -/
theorem factor (e : EReal) : Ideal.div cF cN * (Ideal.ofBits .f32 0x40000000#32 * e) = e * cR := by
  have h2 : Ideal.ofBits .f32 0x40000000#32 = ((2 : ℝ) : EReal) := by
    simp [Ideal.ofBits, Ideal.ieee, -EReal.coe_mul]; norm_num
  rw [cN_eq, div_real _ (by norm_num), cF_eq, cR_eq, h2, ← mul_assoc, ← EReal.coe_mul, ← EReal.coe_mul, mul_comm e]
  congr 2; norm_num

theorem v3_at (r : Fin 8192) (j : Fin 1024) : val_main_v3 (F := Ideal) X0 X1 X2 (ix2 r j) = o X0 X1 X2 r j := by
  pointwise [val_main_v3, val_main_v2, val_main_v1, val_main_v0, val_main_call0_v0, val_main_call0_cst]
  exact add_comm _ _
theorem v10_at (r : Fin 8192) (z : Fin 1) : val_main_v10 (F := Ideal) X0 X1 X2 (ix2 r z) = ms (o X0 X1 X2 r) := by
  pointwise [val_main_v10, val_main_v9, val_main_v8, val_main_v7, val_main_v6, val_main_v5, val_main_v4, val_main_cst,
    val_main_cst_0, val_main_cst_1, v3_at]
  rfl
theorem v11_at (r : Fin 8192) (z : Fin 1) : val_main_v11 (F := Ideal) X0 X1 X2 (ix2 r z) = rs (o X0 X1 X2 r) := by
  rw [val_main_v11_apply, v10_at]; rfl
theorem v14_at (r : Fin 8192) (z : Fin 1) : val_main_v14 (F := Ideal) X0 X1 X2 (ix2 r z)
    = cH * Ideal.div (rs (o X0 X1 X2 r)) (ms (o X0 X1 X2 r)) := by
  pointwise [val_main_v14, val_main_v13, val_main_v12, val_main_cst_2, v10_at, v11_at]
theorem v16_at (r : Fin 8192) (j : Fin 1024) : val_main_v16 (F := Ideal) X0 X1 X2 (ix2 r j)
    = o X0 X1 X2 r j * rs (o X0 X1 X2 r) := by
  pointwise [val_main_v16, val_main_v15, v3_at, v11_at]
theorem v19_at (r : Fin 8192) (j : Fin 1024) : val_main_v19 (F := Ideal) X0 X1 X2 X3 X4 (ix2 r j)
    = err (o X0 X1 X2 r) (gr X4) (tg X3 r) j := by
  pointwise [val_main_v19, val_main_v18, val_main_v17, v16_at]; rfl
theorem v25_at (r : Fin 8192) : val_main_v25 (F := Ideal) X0 X1 X2 X3 X4 (ix1 r)
    = Ideal.div (∑ k, err (o X0 X1 X2 r) (gr X4) (tg X3 r) k * err (o X0 X1 X2 r) (gr X4) (tg X3 r) k) cN := by
  pointwise [val_main_v25, val_main_v24, val_main_v23, val_main_v20, val_main_cst_4, val_main_cst_5, v19_at]
theorem v54_at (z : Fin 1) (j : Fin 128) : val_main_v54 (F := Ideal) X0 X1 X2 X3 X4 (ix2 z j) = L X0 X1 X2 X3 X4 := by
  pointwise [val_main_v54, val_main_v27, val_main_v26, val_main_cst_6, val_main_cst_7, v25_at]
  exact half_sum _
theorem v33_at (r : Fin 8192) (j : Fin 1024) : val_main_v33 (F := Ideal) X0 X1 X2 X3 X4 (ix2 r j)
    = dn (o X0 X1 X2 r) (gr X4) (tg X3 r) j := by
  pointwise [val_main_v33, val_main_v32, val_main_v31, val_main_v30, val_main_v29, val_main_v28, val_main_v22, val_main_v21,
    val_main_cst_3, val_main_cst_8, val_main_cst_9, val_main_cst_10, v19_at]
  exact factor _
theorem v36_at (z : Fin 1) (j : Fin 1024) : val_main_v36 (F := Ideal) X0 X1 X2 X3 X4 (ix2 z j) = GN X0 X1 X2 X3 X4 j := by
  pointwise [val_main_v36, val_main_v35, val_main_v34, val_main_cst_11, v16_at, v33_at]
  exact Finset.sum_congr rfl fun r _ => mul_comm _ _
theorem v38_at (r : Fin 8192) (j : Fin 1024) : val_main_v38 (F := Ideal) X0 X1 X2 X3 X4 (ix2 r j) = ct X0 X1 X2 X3 X4 r j := by
  pointwise [val_main_v38, val_main_v37, v33_at]
theorem v41_at (r : Fin 8192) (z : Fin 1) : val_main_v41 (F := Ideal) X0 X1 X2 X3 X4 (ix2 r z)
    = ∑ k, o X0 X1 X2 r k * ct X0 X1 X2 X3 X4 r k := by
  pointwise [val_main_v41, val_main_v40, val_main_v39, val_main_cst_12, v38_at, v3_at]
theorem v46_at (r : Fin 8192) (z : Fin 1) : val_main_v46 (F := Ideal) X0 X1 X2 X3 X4 (ix2 r z)
    = corr (o X0 X1 X2 r) (ct X0 X1 X2 X3 X4 r) := by
  pointwise [val_main_v46, val_main_v45, val_main_v44, val_main_cst_13, v41_at, v14_at]; rfl
theorem v48_at (r : Fin 8192) (j : Fin 1024) : val_main_v48 (F := Ideal) X0 X1 X2 X3 X4 (ix2 r j)
    = corr (o X0 X1 X2 r) (ct X0 X1 X2 X3 X4 r) := by
  pointwise [val_main_v48, val_main_v47, val_main_cst_14, v46_at]
  exact Fin.sum_univ_one _
theorem v52_at (r : Fin 8192) (j : Fin 1024) : val_main_v52 (F := Ideal) X0 X1 X2 X3 X4 (ix2 r j) = GX X0 X1 X2 X3 X4 r j := by
  have e : val_main_v52 (F := Ideal) X0 X1 X2 X3 X4 (ix2 r j)
      = (ct X0 X1 X2 X3 X4 r j * rs (o X0 X1 X2 r) + o X0 X1 X2 r j * corr (o X0 X1 X2 r) (ct X0 X1 X2 X3 X4 r))
        + corr (o X0 X1 X2 r) (ct X0 X1 X2 X3 X4 r) * o X0 X1 X2 r j := by
    pointwise [val_main_v52, val_main_v51, val_main_v50, val_main_v49, val_main_v43, val_main_v42, v48_at, v38_at, v11_at, v3_at]
  have n := norm_bwd (o X0 X1 X2 r) (ct X0 X1 X2 X3 X4 r) 0 j
  rw [zero_add, add_zero] at n
  rw [e, n]; rfl
theorem v53_at (r : Fin 8192) (j : Fin 1024) : val_main_v53 (F := Ideal) X0 X1 X2 X3 X4 (ix2 r j) = GX X0 X1 X2 X3 X4 r j :=
  v52_at X0 X1 X2 X3 X4 r j

end Cert.LossRefIdeal.Value
-- ==== Proof.LossClaim.lean ====
/- The claims about the kernel of the MLP's end and the loss: the reference's frame, and the equality of the two
   programs' results. -/
module

public import proofs.«01_k».proof.Defs
public import proofs.«01_k».proof.Proof.LossVal
public import proofs.«01_k».proof.Proof.LossRef
public import Idealize.ShloMosaic.Lib.Quiescent

@[expose] public section

noncomputable section

namespace Cert.Proof

open Idealize.ShloMosaic Idealize.ShloMosaic.TcCoe Idealize.SL.Sem

attribute [local instance] Cert.LossIdeal.Gen.facts Cert.LossRefIdeal.Gen.facts

theorem loss_frame_ref : Cert.quiescent_LossRefIdeal := fun m ρ _ =>
  (θ_run _ _ _).mono (fun r h => ⟨fun c => (h c).2.2.2.2, sem_eq_zero_of_no_sems (by decide) _⟩)
    (Cert.LossRefIdeal.Value.run m ρ)

theorem loss_algebraic : Cert.algebraic_LossIdeal_LossRefIdeal := by
  intro m ρ m' ρ' hpre hag
  refine ⟨fun c => (Cert.LossIdeal.Gen.dats m 0 c).arrAt 5 (Cert.LossIdeal.cfgs 0).N,
    fun c => (Cert.LossIdeal.Gen.dats m 0 c).arrAt 6 (Cert.LossIdeal.cfgs 0).N,
    fun c => (Cert.LossIdeal.Gen.dats m 0 c).arrAt 7 (Cert.LossIdeal.cfgs 0).N,
    fun c => (Cert.LossIdeal.Gen.dats m 0 c).arrAt 8 (Cert.LossIdeal.cfgs 0).N,
    Cert.LossIdeal.Value.run_blocks m ρ, (θ_run _ _ _).mono (fun r h c => ?_) (Cert.LossRefIdeal.Value.run m' ρ')⟩
  obtain ⟨h0, h1, h2, h3, h4⟩ := h c
  obtain ⟨a0, a1, a2, a3, a4⟩ := hag c
  refine ⟨h0.trans ?_, h1.trans ?_, h2.trans ?_, h3.trans ?_, h4⟩
  · refine Eq.trans ?_ (Cert.LossIdeal.Value.final5 m c).symm
    rw [Cert.LossRefIdeal.Read.val_main_v52_eq, a0, a1, a2, a3, a4]
    funext i
    rw [Idealize.ShloMosaic.eq_ix2 i]
    exact Cert.LossRefIdeal.Value.v52_at _ _ _ _ _ _ _
  · refine Eq.trans ?_ (Cert.LossIdeal.Value.final6 m c).symm
    rw [Cert.LossRefIdeal.Read.val_main_v53_eq, a0, a1, a2, a3, a4]
    funext i
    rw [Idealize.ShloMosaic.eq_ix2 i]
    exact Cert.LossRefIdeal.Value.v53_at _ _ _ _ _ _ _
  · refine Eq.trans ?_ (Cert.LossIdeal.Value.final7 m c).symm
    rw [Cert.LossRefIdeal.Read.val_main_v54_eq, a0, a1, a2, a3, a4]
    funext i
    rw [Idealize.ShloMosaic.eq_ix2 i]
    exact Cert.LossRefIdeal.Value.v54_at _ _ _ _ _ _ _
  · refine Eq.trans ?_ (Cert.LossIdeal.Value.final8 m c).symm
    rw [Cert.LossRefIdeal.Read.val_main_v36_eq, a0, a1, a2, a3, a4]
    funext i
    rw [Idealize.ShloMosaic.eq_ix2 i]
    exact Cert.LossRefIdeal.Value.v36_at _ _ _ _ _ _ _

end Cert.Proof

end
-- ==== Proof.UpFVal.lean ====
/- The arrays the kernel of the MLP's first product leaves, as functions of the arguments. -/
module

public import proofs.«01_k».proof.Proof.NormMath
public import proofs.«01_k».proof.Proof.Gen.UpIdeal.Value
public import Idealize.ShloMosaic.Lib.Pipeline.ValueKit

@[expose] public section

set_option maxRecDepth 16384

noncomputable section

namespace Cert.UpIdeal.Value

open Cert.UpIdeal Cert.UpIdeal.Gen Idealize.ShloMosaic Idealize.ShloMosaic.TcCoe Idealize.SL.Sem
open Cert.Norm

variable (m : (ℓ : Loc nD τ sig) → Buf (Elt Ideal) ℓ) (c : Dev nD)

/-- The residual stream, the norm's gain, and the weights. -/
abbrev X : FVec Ideal S8192x1024 .f32 := m ((c : Thread nD τ).loc main_arg0)
abbrev N : FVec Ideal S1x1024 .f32 := m ((c : Thread nD τ).loc main_arg1)
abbrev W : FVec Ideal S1024x4096 .f32 := m ((c : Thread nD τ).loc main_arg2)

/-- Row `r` of the normalised stream, and the hidden layer before and after its rectifier. -/
def H (X : FVec Ideal S8192x1024 .f32) (N : FVec Ideal S1x1024 .f32) (r : Fin 8192) (k : Fin 1024) : EReal :=
  nrm (fun k => X (ix2 r k)) (fun k => N (ix2 0 k)) k
def hid (X : FVec Ideal S8192x1024 .f32) (N : FVec Ideal S1x1024 .f32) (W : FVec Ideal S1024x4096 .f32) (r : Fin 8192) (j : Fin 4096) : EReal :=
  ∑ k : Fin 1024, H X N r k * W (ix2 k j)
def R (X : FVec Ideal S8192x1024 .f32) (N : FVec Ideal S1x1024 .f32) (W : FVec Ideal S1024x4096 .f32) (r : Fin 8192) (j : Fin 4096) : EReal :=
  max (hid X N W r j) 0
/-- The rectifier's square. -/
def Q (X : FVec Ideal S8192x1024 .f32) (N : FVec Ideal S1x1024 .f32) (W : FVec Ideal S1024x4096 .f32) (r : Fin 8192) (j : Fin 4096) : EReal :=
  R X N W r j * R X N W r j

theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

section pay

variable (x : Vec Ideal S2048x1024 .bf16) (w : Vec Ideal S1x1024x1024 .bf16)

/-- An entry of a tile of the product. -/
def tsum (r : Fin 2048) (j : Fin 1024) : EReal := ∑ k : Fin 1024, x (ix2 r k) * w (ix3 0 j k)

theorem pay1_at (r : Fin 2048) (j : Fin 1024) : k0_pay1 x w (ix2 r j) = tsum x w r j := by
  pointwise [k0_pay1]
  rfl
theorem pay3_at (r : Fin 2048) (j : Fin 1024) : k0_pay3 x w (ix2 r j) = max (tsum x w r j) 0 := by
  pointwise [k0_pay3, pay1_at]
theorem pay2_at (r : Fin 2048) (j : Fin 1024) : k0_pay2 x w (ix2 r j)
    = max (tsum x w r j) 0 * max (tsum x w r j) 0 := by
  pointwise [k0_pay2, pay1_at]

end pay

theorem h_at (r : Fin 8192) (k : Fin 1024) :
    (V m c main_v12 : FVec Ideal S8192x1024 .bf16) (ix2 r k) = H (X m c) (N m c) r k := by
  entry_read
  pointwise
  rfl
theorem w_at (a : Fin 4) (b k : Fin 1024) (p : Fin 3584) (hp : p.val = b.val) :
    (V m c main_v17 : FVec Ideal S4x3584x1024 .bf16) (ix3 a p k) = W m c (ix2 k ⟨a.val * 1024 + b.val, by omega⟩) := by
  have h0 : p.val < 1024 := by omega
  entry_read
  pointwise [h0]
  refine congrArg (W m c) ?_
  ext k; fin_cases k <;> simp [ix2, hp]

variable (t : Fin cfg0.N)

theorem blk0 (r : Fin 2048) (k : Fin 1024) (h : t.val / 4 * 2048 + r.val < 8192) :
    (iblk m c 0 t : Vec Ideal S2048x1024 .bf16) (ix2 r k) = H (X m c) (N m c) ⟨t.val / 4 * 2048 + r.val, h⟩ k := by
  refine Eq.trans ?_ (h_at m c _ _)
  blk_simp [iblk]
  exact congrArg _ (by blk_ext [idx t])
theorem blk1 (j k : Fin 1024) (h : t.val % 4 * 1024 + j.val < 4096) :
    (X0_1 m c t : Vec Ideal S1x1024x1024 .bf16) (ix3 0 j k) = W m c (ix2 k ⟨t.val % 4 * 1024 + j.val, h⟩) := by
  refine Eq.trans ?_ (w_at m c ⟨t.val % 4, by omega⟩ j k ⟨j.val, by omega⟩ rfl)
  unfold X0_1 Pipeline.Window.fill
  rw [dif_pos (moved0_1 t _)]
  blk_simp [iblk]
  exact congrArg _ (by blk_ext [idx t])

theorem sum_blk (r : Fin 2048) (j : Fin 1024) (h : t.val / 4 * 2048 + r.val < 8192) (h' : t.val % 4 * 1024 + j.val < 4096) :
    tsum (iblk m c 0 t) (X0_1 m c t) r j
      = hid (X m c) (N m c) (W m c) ⟨t.val / 4 * 2048 + r.val, h⟩ ⟨t.val % 4 * 1024 + j.val, h'⟩ :=
  Finset.sum_congr rfl fun k _ => congrArg₂ _ (blk0 m c t r k h) (blk1 m c t j k h')

theorem out2 : (outsAt0 m c t).1 = k0_pay2 (iblk m c 0 t) (X0_1 m c t) := by
  unfold outsAt0; frame_out
theorem out3 : (outsAt0 m c t).2 = k0_pay3 (iblk m c 0 t) (X0_1 m c t) := by
  unfold outsAt0; frame_out

theorem emb2 (r : Fin 2048) (j : Fin 1024) (h : t.val / 4 * 2048 + r.val < 8192) (h' : t.val % 4 * 1024 + j.val < 4096) :
    (win0_2.blk t).view.emb (ix2 r j) = ix2 ⟨t.val / 4 * 2048 + r.val, h⟩ ⟨t.val % 4 * 1024 + j.val, h'⟩ := by blk_ext [idx t]
theorem emb3 (r : Fin 2048) (j : Fin 1024) (h : t.val / 4 * 2048 + r.val < 8192) (h' : t.val % 4 * 1024 + j.val < 4096) :
    (win0_3.blk t).view.emb (ix2 r j) = ix2 ⟨t.val / 4 * 2048 + r.val, h⟩ ⟨t.val % 4 * 1024 + j.val, h'⟩ := by blk_ext [idx t]

theorem final2 : (dats m 0 c).arrAt 2 cfg0.N
    = (fun i => Q (X m c) (N m c) (W m c) (i 0) (i 1) : FVec Ideal S8192x4096 .bf16) := by
  refine (dats m 0 c).arrAt_eq_of_covers 2 _ (by decide +kernel) fun t hf y => ?_
  blk_simp
  rw [after0_2, out2]
  have hN : t.val < 16 := lt_of_lt_of_le t.isLt (le_of_eq N_0)
  obtain ⟨r, j, rfl⟩ : ∃ (r : Fin 2048) (j : Fin 1024), y = ix2 r j := ⟨y 0, y 1, eq_ix2 y⟩
  have h : t.val / 4 * 2048 + r.val < 8192 := by omega
  have h' : t.val % 4 * 1024 + j.val < 4096 := by omega
  rw [emb2 t r j h h', pay2_at, sum_blk m c t r j h h']
  rfl
theorem final3 : (dats m 0 c).arrAt 3 cfg0.N
    = (fun i => R (X m c) (N m c) (W m c) (i 0) (i 1) : FVec Ideal S8192x4096 .bf16) := by
  refine (dats m 0 c).arrAt_eq_of_covers 3 _ (by decide +kernel) fun t hf y => ?_
  blk_simp
  rw [after0_3, out3]
  have hN : t.val < 16 := lt_of_lt_of_le t.isLt (le_of_eq N_0)
  obtain ⟨r, j, rfl⟩ : ∃ (r : Fin 2048) (j : Fin 1024), y = ix2 r j := ⟨y 0, y 1, eq_ix2 y⟩
  have h : t.val / 4 * 2048 + r.val < 8192 := by omega
  have h' : t.val % 4 * 1024 + j.val < 4096 := by omega
  rw [emb3 t r j h h', pay3_at, sum_blk m c t r j h h']
  rfl

end Cert.UpIdeal.Value
-- ==== Proof.UpFRef.lean ====
/- What the reference's first product of the MLP computes, read stage by stage at an entry. -/
module

public import proofs.«01_k».proof.Proof.UpFVal
public import proofs.«01_k».proof.Proof.Gen.UpRefIdeal.Run
public import proofs.«01_k».proof.Proof.Gen.UpRefIdeal.Read

@[expose] public section

set_option maxRecDepth 16384

noncomputable section

namespace Cert.UpRefIdeal.Value

open Cert.UpRefIdeal Cert.UpRefIdeal.Gen Idealize.ShloMosaic Idealize.ShloMosaic.TcCoe Idealize.SL.Sem
open Cert.UpRefIdeal.Read Cert.Norm Cert.UpIdeal.Value

variable (X0 : FVec Ideal S8192x1024 .f32) (X1 : FVec Ideal S1x1024 .f32) (X2 : FVec Ideal S1024x4096 .f32)

theorem v7_at (r : Fin 8192) (z : Fin 1) : val_main_v7 (F := Ideal) X0 (ix2 r z) = rs (fun k => X0 (ix2 r k)) := by
  pointwise [val_main_v7, val_main_v6, val_main_v5, val_main_v4, val_main_v3, val_main_v2, val_main_v1, val_main_v0,
    val_main_cst, val_main_cst_0, val_main_cst_1]
  rfl
theorem v11_at (r : Fin 8192) (j : Fin 1024) : val_main_v11 (F := Ideal) X0 X1 (ix2 r j) = H X0 X1 r j := by
  pointwise [val_main_v11, val_main_v10, val_main_v9, val_main_v8, v7_at]
  rfl
theorem v12_at (r : Fin 8192) (j : Fin 4096) : val_main_v12 (F := Ideal) X0 X1 X2 (ix2 r j) = hid X0 X1 X2 r j := by
  pointwise [val_main_v12, v11_at]
  rfl
theorem v13_at (r : Fin 8192) (j : Fin 4096) : val_main_v13 (F := Ideal) X0 X1 X2 (ix2 r j) = R X0 X1 X2 r j := by
  pointwise [val_main_v13, val_main_call0_v0, val_main_call0_cst, v12_at]
  rfl
theorem v16_at (r : Fin 8192) (j : Fin 4096) : val_main_v16 (F := Ideal) X0 X1 X2 (ix2 r j) = R X0 X1 X2 r j := v13_at X0 X1 X2 r j
theorem v15_at (r : Fin 8192) (j : Fin 4096) : val_main_v15 (F := Ideal) X0 X1 X2 (ix2 r j) = Q X0 X1 X2 r j := by
  pointwise [val_main_v15, val_main_v14, v13_at]
  rfl

end Cert.UpRefIdeal.Value
-- ==== Proof.UpFClaim.lean ====
/- The claims about the kernel of the MLP's first product: the reference's frame, and the equality of the two
   programs' results. -/
module

public import proofs.«01_k».proof.Defs
public import proofs.«01_k».proof.Proof.UpFVal
public import proofs.«01_k».proof.Proof.UpFRef
public import Idealize.ShloMosaic.Lib.Quiescent

@[expose] public section

noncomputable section

namespace Cert.Proof

open Idealize.ShloMosaic Idealize.ShloMosaic.TcCoe Idealize.SL.Sem

attribute [local instance] Cert.UpIdeal.Gen.facts Cert.UpRefIdeal.Gen.facts

theorem upf_frame_ref : Cert.quiescent_UpRefIdeal := fun m ρ _ =>
  (θ_run _ _ _).mono (fun r h => ⟨fun c => (h c).2.2, sem_eq_zero_of_no_sems (by decide) _⟩)
    (Cert.UpRefIdeal.Value.run m ρ)

theorem upf_algebraic : Cert.algebraic_UpIdeal_UpRefIdeal := by
  intro m ρ m' ρ' hpre hag
  refine ⟨fun c => (Cert.UpIdeal.Gen.dats m 0 c).arrAt 2 (Cert.UpIdeal.cfgs 0).N,
    fun c => (Cert.UpIdeal.Gen.dats m 0 c).arrAt 3 (Cert.UpIdeal.cfgs 0).N,
    Cert.UpIdeal.Value.run_blocks m ρ, (θ_run _ _ _).mono (fun r h c => ?_) (Cert.UpRefIdeal.Value.run m' ρ')⟩
  obtain ⟨h0, h1, h2⟩ := h c
  obtain ⟨a0, a1, a2⟩ := hag c
  refine ⟨h0.trans ?_, h1.trans ?_, h2⟩
  · refine Eq.trans ?_ (Cert.UpIdeal.Value.final2 m c).symm
    rw [Cert.UpRefIdeal.Read.val_main_v15_eq, a0, a1, a2]
    funext i
    rw [Idealize.ShloMosaic.eq_ix2 i]
    exact Cert.UpRefIdeal.Value.v15_at _ _ _ _ _
  · refine Eq.trans ?_ (Cert.UpIdeal.Value.final3 m c).symm
    rw [Cert.UpRefIdeal.Read.val_main_v16_eq, a0, a1, a2]
    funext i
    rw [Idealize.ShloMosaic.eq_ix2 i]
    exact Cert.UpRefIdeal.Value.v16_at _ _ _ _ _

end Cert.Proof

end
-- ==== Proof.InFVal.lean ====
/- The arrays the kernel of the input projection leaves, as functions of the arguments. -/
module

public import proofs.«01_k».proof.Proof.NormMath
public import proofs.«01_k».proof.Proof.InMath
public import proofs.«01_k».proof.Proof.Gen.InIdeal.Value
public import Idealize.ShloMosaic.Lib.Pipeline.ValueKit

@[expose] public section

set_option maxRecDepth 16384

noncomputable section

namespace Cert.InIdeal.Value

open Cert.InIdeal Cert.InIdeal.Gen Idealize.ShloMosaic Idealize.ShloMosaic.TcCoe Idealize.SL.Sem
open Cert.Norm Cert.In

variable (m : (ℓ : Loc nD τ sig) → Buf (Elt Ideal) ℓ) (c : Dev nD)

/-- The input, the norm's gain, and the weights. -/
abbrev X : FVec Ideal S8192x1024 .f32 := m ((c : Thread nD τ).loc main_arg0)
abbrev N : FVec Ideal S1x1024 .f32 := m ((c : Thread nD τ).loc main_arg1)
abbrev W : FVec Ideal S1024x3104 .f32 := m ((c : Thread nD τ).loc main_arg2)

/-- Row `r` of the normalised input, and the product. -/
def H (X : FVec Ideal S8192x1024 .f32) (N : FVec Ideal S1x1024 .f32) (r : Fin 8192) (k : Fin 1024) : EReal :=
  nrm (fun k => X (ix2 r k)) (fun k => N (ix2 0 k)) k
def P (X : FVec Ideal S8192x1024 .f32) (N : FVec Ideal S1x1024 .f32) (W : FVec Ideal S1024x3104 .f32) (r : Fin 8192) (j : Fin 3104) : EReal :=
  ∑ k : Fin 1024, H X N r k * W (ix2 k j)
/-- Its two parts. -/
def ZA (X : FVec Ideal S8192x1024 .f32) (N : FVec Ideal S1x1024 .f32) (W : FVec Ideal S1024x3104 .f32) (r : Fin 8192) (j : Fin 2048) : EReal :=
  P X N W r (colA j)
def ZB (X : FVec Ideal S8192x1024 .f32) (N : FVec Ideal S1x1024 .f32) (W : FVec Ideal S1024x3104 .f32) (r : Fin 8192) (j : Fin 1152) : EReal :=
  if j.val < 1056 then P X N W r (colB j) else 0

theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

section pay

variable (x : Vec Ideal S512x1024 .bf16) (a : Vec Ideal S2048x1024 .bf16) (b : Vec Ideal S1152x1024 .bf16)

/-- An entry of a tile of either product. -/
def tA (r : Fin 512) (j : Fin 2048) : EReal := ∑ k : Fin 1024, x (ix2 r k) * a (ix2 j k)
def tB (r : Fin 512) (j : Fin 1152) : EReal := ∑ k : Fin 1024, x (ix2 r k) * b (ix2 j k)

theorem pay2_at (r : Fin 512) (j : Fin 2048) : k0_pay2 x a (ix2 r j) = tA x a r j := by
  pointwise [k0_pay2, k0_pay1]
  rfl
theorem pay3_at (r : Fin 512) (j : Fin 1152) : k0_pay3 x b (ix2 r j) = tB x b r j := by
  pointwise [k0_pay3, k0_pay1]
  rfl

end pay

theorem concat_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

/-- The weights' transpose in the kernel's format. -/
abbrev Wt : FVec Ideal S3104x1024 .bf16 := transpose S3104x1024 [1, 0] (truncf .bf16 (W m c) bitsLt_bf16_f32) transposes_S1024x3104_S3104x1024_1_0

theorem V_v4 : (V m c main_v4 : FVec Ideal S2048x1024 .bf16) = concatenate S2048x1024 0
    [⟨S1536x1024, extractStridedSlice S1536x1024 ![0, 0] (Wt m c) slices_S3104x1024_S1536x1024_0_0⟩,
     ⟨S512x1024, extractStridedSlice S512x1024 ![2560, 0] (Wt m c) slices_S3104x1024_S512x1024_2560_0⟩]
    concatenates_S1536x1024_S512x1024_S2048x1024_d0 := by
  change StableHlo.after hostOps0 _ _ = _
  simp only [StableHlo.after_cons, StableHlo.after_nil]
  after_results_simp
  refine concat_congr _ ?_ ?_
  · after_results_simp
  · after_results_simp
theorem V_v9 : (V m c main_v9 : FVec Ideal S1152x1024 .bf16) = concatenate S1152x1024 0
    [⟨S1024x1024, extractStridedSlice S1024x1024 ![1536, 0] (Wt m c) slices_S3104x1024_S1024x1024_1536_0⟩,
     ⟨S128x1024, concatenate S128x1024 0
       [⟨S32x1024, extractStridedSlice S32x1024 ![3072, 0] (Wt m c) slices_S3104x1024_S32x1024_3072_0⟩,
        ⟨S96x1024, broadcastInDim S96x1024 ![] bcast_S_S96x1024 (constant (F := Ideal) S_ .bf16 0x0000#16)⟩]
       concatenates_S32x1024_S96x1024_S128x1024_d0⟩]
    concatenates_S1024x1024_S128x1024_S1152x1024_d0 := by
  change StableHlo.after hostOps0 _ _ = _
  simp only [StableHlo.after_cons, StableHlo.after_nil]
  after_results_simp
  refine concat_congr _ ?_ ?_
  · after_results_simp
  · after_results_simp
    refine concat_congr _ ?_ ?_
    · after_results_simp
    · after_results_simp

theorem wa_at (j : Fin 2048) (k : Fin 1024) :
    (V m c main_v4 : FVec Ideal S2048x1024 .bf16) (ix2 j k) = W m c (ix2 k (colA j)) := by
  rw [V_v4]
  by_cases h0 : j.val < 1536
  · rw [colA_lo h0]; pointwise [h0]
  · rw [colA_hi h0]; pointwise [h0]
    exact congrArg _ (congrArg (ix2 k) (Fin.ext (by simp; omega)))
theorem wb_at (j : Fin 1152) (k : Fin 1024) :
    (V m c main_v9 : FVec Ideal S1152x1024 .bf16) (ix2 j k) = if j.val < 1056 then W m c (ix2 k (colB j)) else 0 := by
  rw [V_v9]
  by_cases h0 : j.val < 1024
  · have h1 : j.val < 1056 := by omega
    rw [colB_lo h0, if_pos h1]; pointwise [h0]
  by_cases h1 : j.val < 1056
  · have h2 : j.val - 1024 < 32 := by omega
    rw [colB_hi h0 h1, if_pos h1]; pointwise [h0, h2]
    exact congrArg _ (congrArg (ix2 k) (Fin.ext (by simp; omega)))
  · have h2 : ¬j.val - 1024 < 32 := by omega
    rw [if_neg h1]; pointwise [h0, h2]
theorem h_at (r : Fin 8192) (k : Fin 1024) :
    (V m c main_v22 : FVec Ideal S8192x1024 .bf16) (ix2 r k) = H (X m c) (N m c) r k := by
  entry_read
  pointwise
  rfl

variable (t : Fin cfg0.N)

theorem blk0 (r : Fin 512) (k : Fin 1024) (h : t.val * 512 + r.val < 8192) :
    (iblk m c 0 t : Vec Ideal S512x1024 .bf16) (ix2 r k) = H (X m c) (N m c) ⟨t.val * 512 + r.val, h⟩ k := by
  refine Eq.trans ?_ (h_at m c _ _)
  blk_simp [iblk]
  exact congrArg _ (by blk_ext [idx t])
theorem blk1 (j : Fin 2048) (k : Fin 1024) :
    (iblk m c 1 t : Vec Ideal S2048x1024 .bf16) (ix2 j k) = W m c (ix2 k (colA j)) := by
  refine Eq.trans ?_ (wa_at m c _ _)
  blk_simp [iblk]
  exact congrArg _ (by blk_ext [idx t])
theorem blk2 (j : Fin 1152) (k : Fin 1024) :
    (iblk m c 2 t : Vec Ideal S1152x1024 .bf16) (ix2 j k) = if j.val < 1056 then W m c (ix2 k (colB j)) else 0 := by
  refine Eq.trans ?_ (wb_at m c j k)
  blk_simp [iblk]
  exact congrArg _ (by blk_ext [idx t])

theorem tA_blk (r : Fin 512) (j : Fin 2048) (h : t.val * 512 + r.val < 8192) :
    tA (iblk m c 0 t) (iblk m c 1 t) r j = ZA (X m c) (N m c) (W m c) ⟨t.val * 512 + r.val, h⟩ j :=
  Finset.sum_congr rfl fun k _ => congrArg₂ _ (blk0 m c t r k h) (blk1 m c t j k)
theorem tB_blk (r : Fin 512) (j : Fin 1152) (h : t.val * 512 + r.val < 8192) :
    tB (iblk m c 0 t) (iblk m c 2 t) r j = ZB (X m c) (N m c) (W m c) ⟨t.val * 512 + r.val, h⟩ j := by
  refine (Finset.sum_congr rfl fun k _ => congrArg₂ _ (blk0 m c t r k h) (blk2 m c t j k)).trans ?_
  unfold ZB P
  by_cases h1 : j.val < 1056
  · simp only [if_pos h1]
  · simp only [if_neg h1, mul_zero, Finset.sum_const_zero]

theorem out3 : out0_3 (iblk m c 0 t) (iblk m c 1 t) (iblk m c 2 t) = k0_pay2 (iblk m c 0 t) (iblk m c 1 t) := by
  unfold out0_3; frame_out
theorem out4 : out0_4 (iblk m c 0 t) (iblk m c 1 t) (iblk m c 2 t) = k0_pay3 (iblk m c 0 t) (iblk m c 2 t) := by
  unfold out0_4; frame_out

theorem emb3 (r : Fin 512) (j : Fin 2048) (h : t.val * 512 + r.val < 8192) :
    (win0_3.blk t).view.emb (ix2 r j) = ix2 ⟨t.val * 512 + r.val, h⟩ j := by blk_ext [idx t]
theorem emb4 (r : Fin 512) (j : Fin 1152) (h : t.val * 512 + r.val < 8192) :
    (win0_4.blk t).view.emb (ix2 r j) = ix2 ⟨t.val * 512 + r.val, h⟩ j := by blk_ext [idx t]

theorem final3 : (dats m 0 c).arrAt 3 cfg0.N
    = (fun i => ZA (X m c) (N m c) (W m c) (i 0) (i 1) : FVec Ideal S8192x2048 .f32) := by
  refine (dats m 0 c).arrAt_eq_of_covers 3 _ (by decide +kernel) fun t hf y => ?_
  blk_simp
  rw [after0_3, out3]
  have hN : t.val < 16 := lt_of_lt_of_le t.isLt (le_of_eq N_0)
  obtain ⟨r, j, rfl⟩ : ∃ (r : Fin 512) (j : Fin 2048), y = ix2 r j := ⟨y 0, y 1, eq_ix2 y⟩
  have h : t.val * 512 + r.val < 8192 := by omega
  rw [emb3 t r j h]
  exact (pay2_at ..).trans (tA_blk m c t r j h)
theorem final4 : (dats m 0 c).arrAt 4 cfg0.N
    = (fun i => ZB (X m c) (N m c) (W m c) (i 0) (i 1) : FVec Ideal S8192x1152 .f32) := by
  refine (dats m 0 c).arrAt_eq_of_covers 4 _ (by decide +kernel) fun t hf y => ?_
  blk_simp
  rw [after0_4, out4]
  have hN : t.val < 16 := lt_of_lt_of_le t.isLt (le_of_eq N_0)
  obtain ⟨r, j, rfl⟩ : ∃ (r : Fin 512) (j : Fin 1152), y = ix2 r j := ⟨y 0, y 1, eq_ix2 y⟩
  have h : t.val * 512 + r.val < 8192 := by omega
  rw [emb4 t r j h]
  exact (pay3_at ..).trans (tB_blk m c t r j h)

end Cert.InIdeal.Value
-- ==== Proof.InFRef.lean ====
/- What the reference's input projection computes, read stage by stage at an entry. -/
module

public import proofs.«01_k».proof.Proof.InFVal
public import proofs.«01_k».proof.Proof.Gen.InRefIdeal.Run
public import proofs.«01_k».proof.Proof.Gen.InRefIdeal.Read

@[expose] public section

set_option maxRecDepth 16384

noncomputable section

namespace Cert.InRefIdeal.Value

open Cert.InRefIdeal Cert.InRefIdeal.Gen Idealize.ShloMosaic Idealize.ShloMosaic.TcCoe Idealize.SL.Sem
open Cert.InRefIdeal.Read Cert.Norm Cert.In Cert.InIdeal.Value

variable (X0 : FVec Ideal S8192x1024 .f32) (X1 : FVec Ideal S1x1024 .f32) (X2 : FVec Ideal S1024x3104 .f32)

theorem v7_at (r : Fin 8192) (z : Fin 1) : val_main_v7 (F := Ideal) X0 (ix2 r z) = rs (fun k => X0 (ix2 r k)) := by
  pointwise [val_main_v7, val_main_v6, val_main_v5, val_main_v4, val_main_v3, val_main_v2, val_main_v1, val_main_v0,
    val_main_cst, val_main_cst_0, val_main_cst_1]
  rfl
theorem v11_at (r : Fin 8192) (j : Fin 1024) : val_main_v11 (F := Ideal) X0 X1 (ix2 r j) = H X0 X1 r j := by
  pointwise [val_main_v11, val_main_v10, val_main_v9, val_main_v8, v7_at]
  rfl
theorem v12_at (r : Fin 8192) (j : Fin 3104) : val_main_v12 (F := Ideal) X0 X1 X2 (ix2 r j) = P X0 X1 X2 r j := by
  pointwise [val_main_v12, v11_at]
  rfl
theorem v15_at (r : Fin 8192) (j : Fin 2048) : val_main_v15 (F := Ideal) X0 X1 X2 (ix2 r j) = ZA X0 X1 X2 r j := by
  unfold ZA
  by_cases h0 : j.val < 1536
  · rw [colA_lo h0]; pointwise [val_main_v15, val_main_v13, v12_at, h0]
  · rw [colA_hi h0]; pointwise [val_main_v15, val_main_v14, v12_at, h0]
    exact congrArg _ (Fin.ext (by simp; omega))
theorem v20_at (r : Fin 8192) (j : Fin 1152) : val_main_v20 (F := Ideal) X0 X1 X2 (ix2 r j) = ZB X0 X1 X2 r j := by
  unfold ZB
  by_cases h0 : j.val < 1024
  · have h1 : j.val < 1056 := by omega
    rw [colB_lo h0, if_pos h1]; pointwise [val_main_v20, val_main_v16, v12_at, h0]
  by_cases h1 : j.val < 1056
  · have h2 : j.val - 1024 < 32 := by omega
    rw [colB_hi h0 h1, if_pos h1]; pointwise [val_main_v20, val_main_v19, val_main_v17, v12_at, h0, h2]
    exact congrArg _ (Fin.ext (by simp; omega))
  · have h2 : ¬j.val - 1024 < 32 := by omega
    rw [if_neg h1]; pointwise [val_main_v20, val_main_v19, val_main_v18, val_main_cst_2, h0, h2]

end Cert.InRefIdeal.Value
-- ==== Proof.InFClaim.lean ====
/- The claims about the kernel of the input projection: the reference's frame, and the equality of the two
   programs' results. -/
module

public import proofs.«01_k».proof.Defs
public import proofs.«01_k».proof.Proof.InFVal
public import proofs.«01_k».proof.Proof.InFRef
public import Idealize.ShloMosaic.Lib.Quiescent

@[expose] public section

noncomputable section

namespace Cert.Proof

open Idealize.ShloMosaic Idealize.ShloMosaic.TcCoe Idealize.SL.Sem

attribute [local instance] Cert.InIdeal.Gen.facts Cert.InRefIdeal.Gen.facts

theorem inf_frame_ref : Cert.quiescent_InRefIdeal := fun m ρ _ =>
  (θ_run _ _ _).mono (fun r h => ⟨fun c => (h c).2.2, sem_eq_zero_of_no_sems (by decide) _⟩)
    (Cert.InRefIdeal.Value.run m ρ)

theorem inf_algebraic : Cert.algebraic_InIdeal_InRefIdeal := by
  intro m ρ m' ρ' hpre hag
  refine ⟨fun c => (Cert.InIdeal.Gen.dats m 0 c).arrAt 3 (Cert.InIdeal.cfgs 0).N,
    fun c => (Cert.InIdeal.Gen.dats m 0 c).arrAt 4 (Cert.InIdeal.cfgs 0).N,
    Cert.InIdeal.Value.run_blocks m ρ, (θ_run _ _ _).mono (fun r h c => ?_) (Cert.InRefIdeal.Value.run m' ρ')⟩
  obtain ⟨h0, h1, h2⟩ := h c
  obtain ⟨a0, a1, a2⟩ := hag c
  refine ⟨h0.trans ?_, h1.trans ?_, h2⟩
  · refine Eq.trans ?_ (Cert.InIdeal.Value.final3 m c).symm
    rw [Cert.InRefIdeal.Read.val_main_v15_eq, a0, a1, a2]
    funext i
    rw [Idealize.ShloMosaic.eq_ix2 i]
    exact Cert.InRefIdeal.Value.v15_at _ _ _ _ _
  · refine Eq.trans ?_ (Cert.InIdeal.Value.final4 m c).symm
    rw [Cert.InRefIdeal.Read.val_main_v20_eq, a0, a1, a2]
    funext i
    rw [Idealize.ShloMosaic.eq_ix2 i]
    exact Cert.InRefIdeal.Value.v20_at _ _ _ _ _

end Cert.Proof

end
-- ==== Proof.XaFwdMath.lean ====
/- One row of the memory cross-attention's output over the extended reals. -/
module

public import proofs.«01_k».proof.Proof.XaMath

@[expose] public section

noncomputable section

namespace Cert.Xa

/-- The output of one head at column `d`: the softmax weights of its scores against the values. -/
def att (q : Fin 256 → EReal) (k v : Fin 256 → Fin 256 → EReal) (d : Fin 256) : EReal := ∑ j, prob (score q k) j * v j d

/-- The row's output at column `c` of 1024, column `c % 256` of head `c / 256`. -/
def attRow (q : Fin 1024 → EReal) (kv : Fin 256 → Fin 2048 → EReal) (c : Fin 1024) : EReal :=
  att (fun d => q (hcol ⟨c.val / 256, by omega⟩ d)) (fun j d => kv j (kcol ⟨c.val / 256, by omega⟩ d))
    (fun j d => kv j (vcol ⟨c.val / 256, by omega⟩ d)) ⟨c.val % 256, by omega⟩

theorem attRow_head (q : Fin 1024 → EReal) (kv : Fin 256 → Fin 2048 → EReal) (h : Fin 4) (d : Fin 256) (c : Fin 1024)
    (hc : c.val = h.val * 256 + d.val) :
    attRow q kv c = att (fun d => q (hcol h d)) (fun j d => kv j (kcol h d)) (fun j d => kv j (vcol h d)) d := by
  have h1 : (⟨c.val / 256, by omega⟩ : Fin 4) = h := Fin.ext (by simp; omega)
  have h2 : (⟨c.val % 256, by omega⟩ : Fin 256) = d := Fin.ext (by simp; omega)
  rw [attRow, h1, h2]

end Cert.Xa
-- ==== Proof.XaFwdVal.lean ====
/- The arrays the kernel of the memory cross-attention's forward pass leaves, as functions of the arguments. -/
module

public import proofs.«01_k».proof.Proof.NormMath
public import proofs.«01_k».proof.Proof.XaFwdMath
public import proofs.«01_k».proof.Proof.Gen.XaFwdIdeal.Value
public import Idealize.ShloMosaic.Lib.Pipeline.ValueKit

@[expose] public section

set_option maxRecDepth 16384

noncomputable section

namespace Cert.XaFwdIdeal.Value

open Cert.XaFwdIdeal Cert.XaFwdIdeal.Gen Idealize.ShloMosaic Idealize.ShloMosaic.TcCoe Idealize.SL.Sem
open Cert.Norm Cert.Xa

variable (m : (ℓ : Loc nD τ sig) → Buf (Elt Ideal) ℓ) (c : Dev nD)

/-- The residual stream, the norm's gain, the query weights, the keys and values, the output weights, the next gain. -/
abbrev X : FVec Ideal S8192x1024 .f32 := m ((c : Thread nD τ).loc main_arg0)
abbrev N : FVec Ideal S1x1024 .f32 := m ((c : Thread nD τ).loc main_arg1)
abbrev WQ : FVec Ideal S1024x1024 .f32 := m ((c : Thread nD τ).loc main_arg2)
abbrev KV : FVec Ideal S256x2048 .f32 := m ((c : Thread nD τ).loc main_arg3)
abbrev WO : FVec Ideal S1024x1024 .f32 := m ((c : Thread nD τ).loc main_arg4)
abbrev G : FVec Ideal S1x1024 .f32 := m ((c : Thread nD τ).loc main_arg5)

section whole

variable (X : FVec Ideal S8192x1024 .f32) (N : FVec Ideal S1x1024 .f32) (WQ : FVec Ideal S1024x1024 .f32)
  (KV : FVec Ideal S256x2048 .f32) (WO : FVec Ideal S1024x1024 .f32) (G : FVec Ideal S1x1024 .f32)

/-- Row `r` of the normalised stream, of the queries, of the attention's output, of the stream after it, normalised. -/
def H (r : Fin 8192) (k : Fin 1024) : EReal := nrm (fun k => X (ix2 r k)) (fun k => N (ix2 0 k)) k
def Qf (r : Fin 8192) (j : Fin 1024) : EReal := ∑ k : Fin 1024, H X N r k * WQ (ix2 k j)
def Of (r : Fin 8192) (j : Fin 1024) : EReal := attRow (Qf X N WQ r) (fun j a => KV (ix2 j a)) j
def Yf (r : Fin 8192) (j : Fin 1024) : EReal := ∑ k : Fin 1024, Of X N WQ KV r k * WO (ix2 k j) + X (ix2 r j)
def Zf (r : Fin 8192) (j : Fin 1024) : EReal := nrm (Yf X N WQ KV WO r) (fun k => G (ix2 0 k)) j

end whole

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-! What the body stores of one tile of 512 rows. -/

section pay

variable (x : Vec Ideal S512x1024 .bf16) (wq : Vec Ideal S1024x1024 .bf16) (kv : Vec Ideal S256x2048 .bf16)
  (wo : Vec Ideal S1024x1024 .bf16) (y : Vec Ideal S512x1024 .f32) (g : Vec Ideal S1x1024 .f32)

/-- An entry of the tile's queries, output, stream, and normalised stream. -/
def tQ (r : Fin 512) (j : Fin 1024) : EReal := ∑ k : Fin 1024, x (ix2 r k) * wq (ix2 k j)
def tO (r : Fin 512) (j : Fin 1024) : EReal := attRow (tQ x wq r) (fun j a => kv (ix2 j a)) j
def tY (r : Fin 512) (j : Fin 1024) : EReal := ∑ k : Fin 1024, tO x wq kv r k * wo (ix2 k j) + y (ix2 r j)
def tZ (r : Fin 512) (j : Fin 1024) : EReal := nrm (tY x wq kv wo y r) (fun k => g (ix2 0 k)) j

theorem pay4_at (r : Fin 512) (j : Fin 1024) : k0_pay4 x wq (ix2 r j) = tQ x wq r j := by
  pointwise [k0_pay4]
  rfl

section heads

variable (k v : Vec Ideal S256x256 .bf16) (q : FVec Ideal S512x1024 .bf16)

theorem head0 (r : Fin 512) (d : Fin 256) : k0_pay5 x wq k v (ix2 r d)
    = att (fun d => tQ x wq r ⟨d.val, by omega⟩) (fun j d => k (ix2 j d)) (fun j d => v (ix2 j d)) d := by
  pointwise [k0_pay5, pay4_at]; rfl
theorem head1 (r : Fin 512) (d : Fin 256) : k0_pay9 (k0_pay6 v) (k0_pay7 x wq k) (k0_pay8 x wq k) (ix2 r d)
    = att (fun d => tQ x wq r ⟨256 + d.val, by omega⟩) (fun j d => k (ix2 j d)) (fun j d => v (ix2 j d)) d := by
  pointwise [k0_pay9, k0_pay8, k0_pay7, k0_pay6, pay4_at]; rfl
theorem head2 (r : Fin 512) (d : Fin 256) : k0_pay10 q k v (ix2 r d)
    = att (fun d => q (ix2 r ⟨512 + d.val, by omega⟩)) (fun j d => k (ix2 j d)) (fun j d => v (ix2 j d)) d := by
  pointwise [k0_pay10]; rfl
theorem wgt3 (r : Fin 512) (j : Fin 256) : k0_pay12 q k (ix2 r j)
    = wgt (score (fun d => q (ix2 r ⟨768 + d.val, by omega⟩)) (fun j d => k (ix2 j d))) j := by
  pointwise [k0_pay12]; rfl

end heads

/-- The heads' outputs side by side, the last from its weights before their division by their sum. -/
theorem pay1_at (a b e : FVec Ideal S512x256 .f32) (v : FVec Ideal S256x256 .bf16) (p : FVec Ideal S512x256 .f32)
    (r : Fin 512) (j : Fin 1024) : k0_pay1 a b e v p (ix2 r j)
    = if h : j.val < 256 then a (ix2 r ⟨j.val, h⟩) else if h : j.val < 512 then b (ix2 r ⟨j.val - 256, by omega⟩)
      else if h : j.val < 768 then e (ix2 r ⟨j.val - 512, by omega⟩)
      else ∑ i : Fin 256, Ideal.div (p (ix2 r i)) (∑ l : Fin 256, p (ix2 r l)) * v (ix2 i ⟨j.val - 768, by omega⟩) := by
  by_cases h0 : j.val < 256
  · rw [dif_pos h0]; pointwise [k0_pay1, h0]
  by_cases h1 : j.val < 512
  · have h1' : j.val - 256 < 256 := by omega
    rw [dif_neg h0, dif_pos h1]; pointwise [k0_pay1, h0, h1']
  by_cases h2 : j.val < 768
  · have h1' : ¬j.val - 256 < 256 := by omega
    have h2' : j.val - 256 - 256 < 256 := by omega
    rw [dif_neg h0, dif_neg h1, dif_pos h2]; pointwise [k0_pay1, h0, h1', h2']
    exact congrArg (fun i => e (ix2 r i)) (Fin.ext (by simp only; omega))
  · have h1' : ¬j.val - 256 < 256 := by omega
    have h2' : ¬j.val - 256 - 256 < 256 := by omega
    rw [dif_neg h0, dif_neg h1, dif_neg h2]; pointwise [k0_pay1, h0, h1', h2']
    exact Finset.sum_congr rfl fun i _ => congrArg (fun a : EReal => Ideal.div (p (ix2 r i)) (∑ l : Fin 256, p (ix2 r l)) * a)
      (congrArg (fun d => v (ix2 i d)) (Fin.ext (by simp only; omega)))

abbrev pA : FVec Ideal S512x256 .f32 := k0_pay14 x wq kv wo y g
abbrev pB : FVec Ideal S512x256 .f32 := k0_pay15 x wq kv wo y g
abbrev pE : FVec Ideal S512x256 .f32 := k0_pay16 x wq kv wo y g
abbrev pV : FVec Ideal S256x256 .bf16 := k0_pay17 x wq kv wo y g
abbrev pW : FVec Ideal S512x256 .f32 := k0_pay18 x wq kv wo y g

theorem ld_x : View.ld x r0_0 = x := by
  funext i
  obtain ⟨a, b, rfl⟩ : ∃ (a : Fin 512) (b : Fin 1024), i = ix2 a b := ⟨i 0, i 1, by ext k; fin_cases k <;> rfl⟩
  pointwise [r0_0]
theorem ld_y : View.ld y r0_0 = y := by
  funext i
  obtain ⟨a, b, rfl⟩ : ∃ (a : Fin 512) (b : Fin 1024), i = ix2 a b := ⟨i 0, i 1, by ext k; fin_cases k <;> rfl⟩
  pointwise [r0_0]
theorem ld_w : View.ld wq r0_1 = wq := by
  funext i
  obtain ⟨a, b, rfl⟩ : ∃ (a : Fin 1024) (b : Fin 1024), i = ix2 a b := ⟨i 0, i 1, by ext k; fin_cases k <;> rfl⟩
  pointwise [r0_1]
theorem ld_g : View.ld g r0_10 = g := by
  funext i
  obtain ⟨a, b, rfl⟩ : ∃ (a : Fin 1) (b : Fin 1024), i = ix2 a b := ⟨i 0, i 1, by ext k; fin_cases k <;> rfl⟩
  pointwise [r0_10]
  exact congrArg (fun a => g (ix2 a b)) (Subsingleton.elim _ _)

theorem k0_at (j d : Fin 256) : (View.ld kv r0_2 : Vec Ideal S256x256 .bf16) (ix2 j d) = kv (ix2 j (kcol 0 d)) := by
  pointwise [r0_2]; exact congrArg kv (congrArg (ix2 j) (Fin.ext (by simp [kcol])))
theorem v0_at (j d : Fin 256) : (View.ld kv r0_3 : Vec Ideal S256x256 .bf16) (ix2 j d) = kv (ix2 j (vcol 0 d)) := by
  pointwise [r0_3]; exact congrArg kv (congrArg (ix2 j) (Fin.ext (by simp [vcol])))
theorem k1_at (j d : Fin 256) : (View.ld kv r0_4 : Vec Ideal S256x256 .bf16) (ix2 j d) = kv (ix2 j (kcol 1 d)) := by
  pointwise [r0_4]; exact congrArg kv (congrArg (ix2 j) (Fin.ext (by simp [kcol])))
theorem v1_at (j d : Fin 256) : (View.ld kv r0_5 : Vec Ideal S256x256 .bf16) (ix2 j d) = kv (ix2 j (vcol 1 d)) := by
  pointwise [r0_5]; exact congrArg kv (congrArg (ix2 j) (Fin.ext (by simp [vcol]; omega)))
theorem k2_at (j d : Fin 256) : (View.ld kv r0_6 : Vec Ideal S256x256 .bf16) (ix2 j d) = kv (ix2 j (kcol 2 d)) := by
  pointwise [r0_6]; exact congrArg kv (congrArg (ix2 j) (Fin.ext (by simp [kcol])))
theorem v2_at (j d : Fin 256) : (View.ld kv r0_7 : Vec Ideal S256x256 .bf16) (ix2 j d) = kv (ix2 j (vcol 2 d)) := by
  pointwise [r0_7]; exact congrArg kv (congrArg (ix2 j) (Fin.ext (by simp [vcol]; omega)))
theorem k3_at (j d : Fin 256) : (View.ld kv r0_8 : Vec Ideal S256x256 .bf16) (ix2 j d) = kv (ix2 j (kcol 3 d)) := by
  pointwise [r0_8]; exact congrArg kv (congrArg (ix2 j) (Fin.ext (by simp [kcol])))
theorem v3_at (j d : Fin 256) : (View.ld kv r0_9 : Vec Ideal S256x256 .bf16) (ix2 j d) = kv (ix2 j (vcol 3 d)) := by
  pointwise [r0_9]; exact congrArg kv (congrArg (ix2 j) (Fin.ext (by simp [vcol]; omega)))

theorem q_eq (h : Fin 4) (r : Fin 512) (d : Fin 256) (e : Fin 1024) (he : e.val = h.val * 256 + d.val) :
    tQ x wq r e = tQ x wq r (hcol h d) := congrArg _ (Fin.ext he)

theorem att_congr {q q' : Fin 256 → EReal} {k k' v v' : Fin 256 → Fin 256 → EReal} (hq : ∀ d, q d = q' d)
    (hk : ∀ j d, k j d = k' j d) (hv : ∀ j d, v j d = v' j d) (d : Fin 256) : att q k v d = att q' k' v' d := by
  rw [show q = q' from funext hq, show k = k' from funext fun j => funext (hk j), show v = v' from funext fun j => funext (hv j)]
theorem wgt_congr {q q' : Fin 256 → EReal} {k k' : Fin 256 → Fin 256 → EReal} (hq : ∀ d, q d = q' d)
    (hk : ∀ j d, k j d = k' j d) (i : Fin 256) : wgt (score q k) i = wgt (score q' k') i := by
  rw [show q = q' from funext hq, show k = k' from funext fun j => funext (hk j)]

theorem pA_at (r : Fin 512) (d : Fin 256) (j : Fin 1024) (hj : j.val = d.val) :
    pA x wq kv wo y g (ix2 r d) = tO x wq kv r j := by
  rw [tO, attRow_head _ _ 0 d j (by simpa using hj), pA, k0_pay14, ld_x, ld_w, head0]
  exact att_congr (fun d => q_eq x wq 0 r d _ (by simp)) (k0_at kv) (v0_at kv) d
theorem pB_at (r : Fin 512) (d : Fin 256) (j : Fin 1024) (hj : j.val = 256 + d.val) :
    pB x wq kv wo y g (ix2 r d) = tO x wq kv r j := by
  rw [tO, attRow_head _ _ 1 d j (by simpa using hj), pB, k0_pay15, ld_x, ld_w, head1]
  exact att_congr (fun d => q_eq x wq 1 r d _ (by simp)) (k1_at kv) (v1_at kv) d
theorem pE_at (r : Fin 512) (d : Fin 256) (j : Fin 1024) (hj : j.val = 512 + d.val) :
    pE x wq kv wo y g (ix2 r d) = tO x wq kv r j := by
  rw [tO, attRow_head _ _ 2 d j (by simpa using hj), pE, k0_pay16, k0_pay13, ld_x, ld_w, head2]
  exact att_congr (fun d => (pay4_at x wq r _).trans (q_eq x wq 2 r d _ (by simp))) (k2_at kv) (v2_at kv) d
theorem pW_at (r : Fin 512) (i : Fin 256) : pW x wq kv wo y g (ix2 r i)
    = wgt (score (fun d => tQ x wq r (hcol 3 d)) (fun j d => kv (ix2 j (kcol 3 d)))) i := by
  rw [pW, k0_pay18, k0_pay13, ld_x, ld_w, wgt3]
  exact wgt_congr (fun d => (pay4_at x wq r _).trans (q_eq x wq 3 r d _ (by simp))) (k3_at kv) i
theorem pV_at (j d : Fin 256) : pV x wq kv wo y g (ix2 j d) = kv (ix2 j (vcol 3 d)) := by
  refine Eq.trans ?_ (v3_at kv j d)
  rw [pV, k0_pay17]
  pointwise [k0_pay11]

theorem o_at (r : Fin 512) (j : Fin 1024) : k0_pay1 (pA x wq kv wo y g) (pB x wq kv wo y g) (pE x wq kv wo y g) (pV x wq kv wo y g)
    (pW x wq kv wo y g) (ix2 r j) = tO x wq kv r j := by
  rw [pay1_at]
  split
  · exact pA_at x wq kv wo y g r _ j rfl
  split
  · exact pB_at x wq kv wo y g r _ j (by simp; omega)
  split
  · exact pE_at x wq kv wo y g r _ j (by simp; omega)
  · rw [tO, attRow_head _ _ 3 ⟨j.val - 768, by omega⟩ j (by simp; omega)]
    simp only [pW_at, pV_at]
    rfl
theorem y_at (r : Fin 512) (j : Fin 1024) : k0_pay2 (pA x wq kv wo y g) (pB x wq kv wo y g) (pE x wq kv wo y g) (pV x wq kv wo y g)
    (pW x wq kv wo y g) wo y (ix2 r j) = tY x wq kv wo y r j := by
  pointwise [k0_pay2, o_at]
  rfl
theorem z_at (r : Fin 512) (j : Fin 1024) : k0_pay3 (pA x wq kv wo y g) (pB x wq kv wo y g) (pE x wq kv wo y g) (pV x wq kv wo y g)
    (pW x wq kv wo y g) wo y g (ix2 r j) = tZ x wq kv wo y g r j := by
  pointwise [k0_pay3, y_at]
  rfl

theorem out6 : out0_6 x wq kv wo y g = k0_pay4 x wq := by
  unfold out0_6; rw [ld_x, ld_w]; frame_out
theorem out7 : out0_7 x wq kv wo y g = k0_pay1 (pA x wq kv wo y g) (pB x wq kv wo y g) (pE x wq kv wo y g) (pV x wq kv wo y g)
    (pW x wq kv wo y g) := by
  unfold out0_7; frame_out
theorem out8 : out0_8 x wq kv wo y g = k0_pay3 (pA x wq kv wo y g) (pB x wq kv wo y g) (pE x wq kv wo y g) (pV x wq kv wo y g)
    (pW x wq kv wo y g) wo y g := by
  unfold out0_8; rw [ld_w, ld_y, ld_g]; frame_out
theorem out9 : out0_9 x wq kv wo y g = k0_pay2 (pA x wq kv wo y g) (pB x wq kv wo y g) (pE x wq kv wo y g) (pV x wq kv wo y g)
    (pW x wq kv wo y g) wo y := by
  unfold out0_9; rw [ld_w, ld_y]; frame_out

end pay

theorem h_at (r : Fin 8192) (k : Fin 1024) :
    (V m c main_v12 : FVec Ideal S8192x1024 .bf16) (ix2 r k) = H (X m c) (N m c) r k := by
  entry_read
  pointwise
  rfl
theorem wq_at (k j : Fin 1024) : (V m c main_v13 : FVec Ideal S1024x1024 .bf16) (ix2 k j) = WQ m c (ix2 k j) := by
  entry_read
  pointwise
theorem kv_at (k : Fin 256) (j : Fin 2048) : (V m c main_v14 : FVec Ideal S256x2048 .bf16) (ix2 k j) = KV m c (ix2 k j) := by
  entry_read
  pointwise
theorem wo_at (k j : Fin 1024) : (V m c main_v15 : FVec Ideal S1024x1024 .bf16) (ix2 k j) = WO m c (ix2 k j) := by
  entry_read
  pointwise

variable (t : Fin cfg0.N)

theorem blk0 (r : Fin 512) (k : Fin 1024) (h : t.val * 512 + r.val < 8192) :
    (iblk m c 0 t : Vec Ideal S512x1024 .bf16) (ix2 r k) = H (X m c) (N m c) ⟨t.val * 512 + r.val, h⟩ k := by
  refine Eq.trans ?_ (h_at m c _ _)
  blk_simp [iblk]
  exact congrArg _ (by blk_ext [idx t])
theorem blk1 (k j : Fin 1024) : (iblk m c 1 t : Vec Ideal S1024x1024 .bf16) (ix2 k j) = WQ m c (ix2 k j) := by
  refine Eq.trans ?_ (wq_at m c _ _)
  blk_simp [iblk]
  exact congrArg _ (by blk_ext [idx t])
theorem blk2 (k : Fin 256) (j : Fin 2048) : (iblk m c 2 t : Vec Ideal S256x2048 .bf16) (ix2 k j) = KV m c (ix2 k j) := by
  refine Eq.trans ?_ (kv_at m c _ _)
  blk_simp [iblk]
  exact congrArg _ (by blk_ext [idx t])
theorem blk3 (k j : Fin 1024) : (iblk m c 3 t : Vec Ideal S1024x1024 .bf16) (ix2 k j) = WO m c (ix2 k j) := by
  refine Eq.trans ?_ (wo_at m c _ _)
  blk_simp [iblk]
  exact congrArg _ (by blk_ext [idx t])
theorem blk4 (r : Fin 512) (k : Fin 1024) (h : t.val * 512 + r.val < 8192) :
    (iblk m c 4 t : Vec Ideal S512x1024 .f32) (ix2 r k) = X m c (ix2 ⟨t.val * 512 + r.val, h⟩ k) := by
  blk_point [iblk, V, idx t]
theorem blk5 (k : Fin 1024) : (iblk m c 5 t : Vec Ideal S1x1024 .f32) (ix2 0 k) = G m c (ix2 0 k) := by
  blk_point [iblk, V, idx t]

theorem tQ_blk (r : Fin 512) (j : Fin 1024) (h : t.val * 512 + r.val < 8192) :
    tQ (iblk m c 0 t) (iblk m c 1 t) r j = Qf (X m c) (N m c) (WQ m c) ⟨t.val * 512 + r.val, h⟩ j :=
  Finset.sum_congr rfl fun k _ => congrArg₂ (fun a b : EReal => a * b) (blk0 m c t r k h) (blk1 m c t k j)
theorem tO_blk (r : Fin 512) (j : Fin 1024) (h : t.val * 512 + r.val < 8192) :
    tO (iblk m c 0 t) (iblk m c 1 t) (iblk m c 2 t) r j = Of (X m c) (N m c) (WQ m c) (KV m c) ⟨t.val * 512 + r.val, h⟩ j :=
  congrArg₂ (fun (f : Fin 1024 → EReal) (v : Fin 256 → Fin 2048 → EReal) => attRow f v j)
    (funext fun a => tQ_blk m c t r a h) (funext fun k => funext fun a => blk2 m c t k a)
theorem tY_blk (r : Fin 512) (j : Fin 1024) (h : t.val * 512 + r.val < 8192) :
    tY (iblk m c 0 t) (iblk m c 1 t) (iblk m c 2 t) (iblk m c 3 t) (iblk m c 4 t) r j
      = Yf (X m c) (N m c) (WQ m c) (KV m c) (WO m c) ⟨t.val * 512 + r.val, h⟩ j :=
  congrArg₂ (fun a b : EReal => a + b)
    (Finset.sum_congr rfl fun k _ => congrArg₂ (fun a b : EReal => a * b) (tO_blk m c t r k h) (blk3 m c t k j))
    (blk4 m c t r j h)
theorem tZ_blk (r : Fin 512) (j : Fin 1024) (h : t.val * 512 + r.val < 8192) :
    tZ (iblk m c 0 t) (iblk m c 1 t) (iblk m c 2 t) (iblk m c 3 t) (iblk m c 4 t) (iblk m c 5 t) r j
      = Zf (X m c) (N m c) (WQ m c) (KV m c) (WO m c) (G m c) ⟨t.val * 512 + r.val, h⟩ j :=
  congrArg₂ (fun f v : Fin 1024 → EReal => nrm f v j) (funext fun a => tY_blk m c t r a h) (funext fun k => blk5 m c t k)

theorem emb6 (r : Fin 512) (j : Fin 1024) (h : t.val * 512 + r.val < 8192) :
    (win0_6.blk t).view.emb (ix2 r j) = ix2 ⟨t.val * 512 + r.val, h⟩ j := by blk_ext [idx t]
theorem emb7 (r : Fin 512) (j : Fin 1024) (h : t.val * 512 + r.val < 8192) :
    (win0_7.blk t).view.emb (ix2 r j) = ix2 ⟨t.val * 512 + r.val, h⟩ j := by blk_ext [idx t]
theorem emb8 (r : Fin 512) (j : Fin 1024) (h : t.val * 512 + r.val < 8192) :
    (win0_8.blk t).view.emb (ix2 r j) = ix2 ⟨t.val * 512 + r.val, h⟩ j := by blk_ext [idx t]
theorem emb9 (r : Fin 512) (j : Fin 1024) (h : t.val * 512 + r.val < 8192) :
    (win0_9.blk t).view.emb (ix2 r j) = ix2 ⟨t.val * 512 + r.val, h⟩ j := by blk_ext [idx t]

theorem final6 : (dats m 0 c).arrAt 6 cfg0.N
    = (fun i => Qf (X m c) (N m c) (WQ m c) (i 0) (i 1) : FVec Ideal S8192x1024 .bf16) := by
  refine (dats m 0 c).arrAt_eq_of_covers 6 _ (by decide +kernel) fun t hf y => ?_
  blk_simp
  rw [after0_6, out6]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb6 t r j h]
  exact (pay4_at ..).trans (tQ_blk m c t r j h)
theorem final7 : (dats m 0 c).arrAt 7 cfg0.N
    = (fun i => Of (X m c) (N m c) (WQ m c) (KV m c) (i 0) (i 1) : FVec Ideal S8192x1024 .bf16) := by
  refine (dats m 0 c).arrAt_eq_of_covers 7 _ (by decide +kernel) fun t hf y => ?_
  blk_simp
  rw [after0_7, out7]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb7 t r j h]
  exact (o_at ..).trans (tO_blk m c t r j h)
theorem final8 : (dats m 0 c).arrAt 8 cfg0.N
    = (fun i => Zf (X m c) (N m c) (WQ m c) (KV m c) (WO m c) (G m c) (i 0) (i 1) : FVec Ideal S8192x1024 .bf16) := by
  refine (dats m 0 c).arrAt_eq_of_covers 8 _ (by decide +kernel) fun t hf y => ?_
  blk_simp
  rw [after0_8, out8]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb8 t r j h]
  exact (z_at ..).trans (tZ_blk m c t r j h)
theorem final9 : (dats m 0 c).arrAt 9 cfg0.N
    = (fun i => Yf (X m c) (N m c) (WQ m c) (KV m c) (WO m c) (i 0) (i 1) : FVec Ideal S8192x1024 .f32) := by
  refine (dats m 0 c).arrAt_eq_of_covers 9 _ (by decide +kernel) fun t hf y => ?_
  blk_simp
  rw [after0_9, out9]
  have hN : t.val < 16 := lt_of_lt_of_le t.isLt (le_of_eq N_0)
  obtain ⟨r, j, rfl⟩ : ∃ (r : Fin 512) (j : Fin 1024), y = ix2 r j := ⟨y 0, y 1, eq_ix2 y⟩
  have h : t.val * 512 + r.val < 8192 := by omega
  rw [emb9 t r j h]
  exact (y_at ..).trans (tY_blk m c t r j h)

end Cert.XaFwdIdeal.Value
-- ==== Proof.XaFwdRefV.lean ====
/- What the reference of the memory cross-attention's forward pass computes, read stage by stage at an entry. -/
module

public import proofs.«01_k».proof.Proof.XaFwdVal
public import proofs.«01_k».proof.Proof.Gen.XaFwdRefIdeal.Run
public import proofs.«01_k».proof.Proof.Gen.XaFwdRefIdeal.Read

@[expose] public section

set_option maxRecDepth 16384

noncomputable section

namespace Cert.XaFwdRefIdeal.Value

open Cert.XaFwdRefIdeal Cert.XaFwdRefIdeal.Gen Idealize.ShloMosaic Idealize.ShloMosaic.TcCoe Idealize.SL.Sem
open Cert.Norm Cert.Xa Cert.XaFwdRefIdeal.Read
open Cert.XaFwdIdeal.Value (H Qf Of Yf Zf)

variable (X : FVec Ideal S8192x1024 .f32) (N : FVec Ideal S1x1024 .f32) (WQ : FVec Ideal S1024x1024 .f32)
  (KV : FVec Ideal S256x2048 .f32) (WO : FVec Ideal S1024x1024 .f32) (G : FVec Ideal S1x1024 .f32)

theorem v7_at (r : Fin 8192) (z : Fin 1) : val_main_v7 (F := Ideal) X (ix2 r z) = rs (fun k => X (ix2 r k)) := by
  pointwise [val_main_v7, val_main_v6, val_main_v5, val_main_v4, val_main_v3, val_main_v2, val_main_v1, val_main_v0,
    val_main_cst, val_main_cst_0, val_main_cst_1]
  rfl
theorem v11_at (r : Fin 8192) (j : Fin 1024) : val_main_v11 (F := Ideal) X N (ix2 r j) = H X N r j := by
  pointwise [val_main_v11, val_main_v10, val_main_v9, val_main_v8, v7_at]
  rfl
theorem v12_at (r : Fin 8192) (j : Fin 1024) : val_main_v12 (F := Ideal) X N WQ (ix2 r j) = Qf X N WQ r j := by
  pointwise [val_main_v12, v11_at]
  rfl
theorem v37_at (r : Fin 8192) (j : Fin 1024) : val_main_v37 (F := Ideal) X N WQ (ix2 r j) = Qf X N WQ r j := by
  pointwise [val_main_v37, v12_at]
theorem v15_at (r : Fin 8192) (h : Fin 4) (d : Fin 256) :
    val_main_v15 (F := Ideal) X N WQ (ix3 r h d) = Qf X N WQ r (hcol h d) := by
  pointwise [val_main_v15, v12_at]; rfl
theorem v16_at (j : Fin 256) (h : Fin 4) (d : Fin 256) :
    val_main_v16 (F := Ideal) KV (ix3 j h d) = KV (ix2 j (kcol h d)) := by
  pointwise [val_main_v16, val_main_v13]; rfl
theorem v17_at (j : Fin 256) (h : Fin 4) (d : Fin 256) :
    val_main_v17 (F := Ideal) KV (ix3 j h d) = KV (ix2 j (vcol h d)) := by
  pointwise [val_main_v17, val_main_v14]; rfl

/-- The scores of row `r` in head `h`. -/
abbrev S (r : Fin 8192) (h : Fin 4) : Fin 256 → EReal := sRow (Qf X N WQ r) (fun j a => KV (ix2 j a)) h

theorem v20_at (h : Fin 4) (r : Fin 8192) (j : Fin 256) : val_main_v20 (F := Ideal) X N WQ KV (ix3 h r j) = S X N WQ KV r h j := by
  pointwise [val_main_v20, val_main_v19, val_main_v18, val_main_cst_2, v15_at, v16_at]
  exact div_d16 _
theorem v21_at (h : Fin 4) (r : Fin 8192) : val_main_v21 (F := Ideal) X N WQ KV (ix2 h r) = top (S X N WQ KV r h) := by
  pointwise [val_main_v21, val_main_cst_3, v20_at]; rfl
theorem v23_at (h : Fin 4) (r : Fin 8192) : val_main_v23 (F := Ideal) X N WQ KV (ix2 h r) = top (S X N WQ KV r h) := by
  rw [val_main_v23_apply, v21_at, val_main_v22_apply]
  change max nInf _ = _
  rw [nInf_eq, max_eq_right bot_le]
theorem v25_at (h : Fin 4) (r : Fin 8192) (j : Fin 256) :
    val_main_v25 (F := Ideal) X N WQ KV (ix3 h r j) = top (S X N WQ KV r h) := by
  rw [val_main_v25_apply, val_main_v24_apply, ← v23_at]
  refine congrArg _ ?_
  ext k; fin_cases k <;> rfl
theorem v27_at (h : Fin 4) (r : Fin 8192) (j : Fin 256) :
    val_main_v27 (F := Ideal) X N WQ KV (ix3 h r j) = wgt (S X N WQ KV r h) j := by
  rw [val_main_v27_apply, val_main_v26_apply, v25_at, v20_at]; rfl
theorem v28_at (h : Fin 4) (r : Fin 8192) : val_main_v28 (F := Ideal) X N WQ KV (ix2 h r) = ∑ j, wgt (S X N WQ KV r h) j := by
  pointwise [val_main_v28, val_main_cst_5, v27_at]
theorem v31_at (h : Fin 4) (r : Fin 8192) (j : Fin 256) :
    val_main_v31 (F := Ideal) X N WQ KV (ix3 h r j) = prob (S X N WQ KV r h) j := by
  pointwise [val_main_v31, val_main_v30, val_main_v29, v28_at, v27_at]; rfl
theorem v32_at (h : Fin 4) (d : Fin 256) (r : Fin 8192) : val_main_v32 (F := Ideal) X N WQ KV (ix3 h d r)
    = Of X N WQ KV r (hcol h d) := by
  pointwise [val_main_v32, v31_at, v17_at]
  rw [Of, attRow_head _ _ h d _ rfl]
  exact Finset.sum_congr rfl fun j _ => mul_comm _ _
theorem v34_at (r : Fin 8192) (j : Fin 1024) : val_main_v34 (F := Ideal) X N WQ KV (ix2 r j) = Of X N WQ KV r j := by
  pointwise [val_main_v34, val_main_v33, v32_at]
  exact congrArg _ (Fin.ext (by simp [hcol]; omega))
theorem v38_at (r : Fin 8192) (j : Fin 1024) : val_main_v38 (F := Ideal) X N WQ KV (ix2 r j) = Of X N WQ KV r j := by
  pointwise [val_main_v38, v34_at]
theorem v36_at (r : Fin 8192) (j : Fin 1024) : val_main_v36 (F := Ideal) X N WQ KV WO (ix2 r j) = Yf X N WQ KV WO r j := by
  pointwise [val_main_v36, val_main_v35, v34_at]
  exact add_comm _ _
theorem v46_at (r : Fin 8192) (z : Fin 1) : val_main_v46 (F := Ideal) X N WQ KV WO (ix2 r z) = rs (Yf X N WQ KV WO r) := by
  pointwise [val_main_v46, val_main_v45, val_main_v44, val_main_v43, val_main_v42, val_main_v41, val_main_v40, val_main_v39,
    val_main_cst_6, val_main_cst_7, val_main_cst_8, v36_at]
  rfl
theorem v51_at (r : Fin 8192) (j : Fin 1024) :
    val_main_v51 (F := Ideal) X N WQ KV WO G (ix2 r j) = Zf X N WQ KV WO G r j := by
  pointwise [val_main_v51, val_main_v50, val_main_v49, val_main_v48, val_main_v47, v46_at, v36_at]
  rfl

end Cert.XaFwdRefIdeal.Value
-- ==== Proof.XaFwdClaim.lean ====
/- The claims about the kernel of the memory cross-attention's forward pass: the reference's frame, and the equality of the two
   programs' results. -/
module

public import proofs.«01_k».proof.Defs
public import proofs.«01_k».proof.Proof.XaFwdVal
public import proofs.«01_k».proof.Proof.XaFwdRefV
public import Idealize.ShloMosaic.Lib.Quiescent

@[expose] public section

noncomputable section

namespace Cert.Proof

open Idealize.ShloMosaic Idealize.ShloMosaic.TcCoe Idealize.SL.Sem

attribute [local instance] Cert.XaFwdIdeal.Gen.facts Cert.XaFwdRefIdeal.Gen.facts

theorem xaf_frame_ref : Cert.quiescent_XaFwdRefIdeal := fun m ρ _ =>
  (θ_run _ _ _).mono (fun r h => ⟨fun c => (h c).2.2.2.2, sem_eq_zero_of_no_sems (by decide) _⟩)
    (Cert.XaFwdRefIdeal.Value.run m ρ)

theorem xaf_algebraic : Cert.algebraic_XaFwdIdeal_XaFwdRefIdeal := by
  intro m ρ m' ρ' hpre hag
  refine ⟨fun c => (Cert.XaFwdIdeal.Gen.dats m 0 c).arrAt 6 (Cert.XaFwdIdeal.cfgs 0).N,
    fun c => (Cert.XaFwdIdeal.Gen.dats m 0 c).arrAt 7 (Cert.XaFwdIdeal.cfgs 0).N,
    fun c => (Cert.XaFwdIdeal.Gen.dats m 0 c).arrAt 8 (Cert.XaFwdIdeal.cfgs 0).N,
    fun c => (Cert.XaFwdIdeal.Gen.dats m 0 c).arrAt 9 (Cert.XaFwdIdeal.cfgs 0).N,
    Cert.XaFwdIdeal.Value.run_blocks m ρ, (θ_run _ _ _).mono (fun r h c => ?_) (Cert.XaFwdRefIdeal.Value.run m' ρ')⟩
  obtain ⟨h0, h1, h2, h3, h4⟩ := h c
  obtain ⟨a0, a1, a2, a3, a4, a5⟩ := hag c
  refine ⟨h0.trans ?_, h1.trans ?_, h2.trans ?_, h3.trans ?_, h4⟩
  · refine Eq.trans ?_ (Cert.XaFwdIdeal.Value.final6 m c).symm
    rw [Cert.XaFwdRefIdeal.Read.val_main_v37_eq, a0, a1, a2]
    funext i
    rw [Idealize.ShloMosaic.eq_ix2 i]
    exact Cert.XaFwdRefIdeal.Value.v37_at _ _ _ _ _
  · refine Eq.trans ?_ (Cert.XaFwdIdeal.Value.final7 m c).symm
    rw [Cert.XaFwdRefIdeal.Read.val_main_v38_eq, a0, a1, a2, a3]
    funext i
    rw [Idealize.ShloMosaic.eq_ix2 i]
    exact Cert.XaFwdRefIdeal.Value.v38_at _ _ _ _ _ _
  · refine Eq.trans ?_ (Cert.XaFwdIdeal.Value.final8 m c).symm
    rw [Cert.XaFwdRefIdeal.Read.val_main_v51_eq, a0, a1, a2, a3, a4, a5]
    funext i
    rw [Idealize.ShloMosaic.eq_ix2 i]
    exact Cert.XaFwdRefIdeal.Value.v51_at _ _ _ _ _ _ _ _
  · refine Eq.trans ?_ (Cert.XaFwdIdeal.Value.final9 m c).symm
    rw [Cert.XaFwdRefIdeal.Read.val_main_v36_eq, a0, a1, a2, a3, a4]
    funext i
    rw [Idealize.ShloMosaic.eq_ix2 i]
    exact Cert.XaFwdRefIdeal.Value.v36_at _ _ _ _ _ _ _

end Cert.Proof

end
-- ==== Proof.OutVal.lean ====
/- The arrays the output projection's kernel leaves, as functions of the arguments. -/
module

public import proofs.«01_k».proof.Proof.NormMath
public import proofs.«01_k».proof.Proof.Gen.OutIdeal.Value
public import Idealize.ShloMosaic.Lib.Pipeline.ValueKit

@[expose] public section

set_option maxRecDepth 16384

noncomputable section

namespace Cert.OutIdeal.Value

open Cert.OutIdeal Cert.OutIdeal.Gen Idealize.ShloMosaic Idealize.ShloMosaic.TcCoe Idealize.SL.Sem
open Cert.Norm

variable (m : (ℓ : Loc nD τ sig) → Buf (Elt Ideal) ℓ) (c : Dev nD)

/-- The residual stream, the mixer's output, the weights and the next norm's gain. -/
abbrev X : FVec Ideal S8192x1024 .f32 := m ((c : Thread nD τ).loc main_arg0)
abbrev Y : FVec Ideal S8192x1024 .f32 := m ((c : Thread nD τ).loc main_arg1)
abbrev W : FVec Ideal S1024x1024 .f32 := m ((c : Thread nD τ).loc main_arg2)
abbrev N : FVec Ideal S1x1024 .f32 := m ((c : Thread nD τ).loc main_arg3)

/-- The stream after the projection, and the stream's norm. -/
def S (X Y : FVec Ideal S8192x1024 .f32) (W : FVec Ideal S1024x1024 .f32) (r : Fin 8192) (j : Fin 1024) : EReal :=
  (∑ k : Fin 1024, Y (ix2 r k) * W (ix2 k j)) + X (ix2 r j)
def H (X Y : FVec Ideal S8192x1024 .f32) (W : FVec Ideal S1024x1024 .f32) (N : FVec Ideal S1x1024 .f32) (r : Fin 8192) (j : Fin 1024) : EReal :=
  nrm (S X Y W r) (fun k => N (ix2 0 k)) j

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

section pay

variable (w : Vec Ideal S1024x1024 .bf16) (u : Vec Ideal S512x1024 .bf16) (x : Vec Ideal S512x1024 .f32) (g : Vec Ideal S1x1024 .f32)

/-- Row of the stream after the projection, from a row of the mixer's output and a row of the stream. -/
def srow (w : Vec Ideal S1024x1024 .bf16) (u x : Fin 1024 → EReal) (j : Fin 1024) : EReal := (∑ k : Fin 1024, u k * w (ix2 k j)) + x j

theorem pay3_at (r : Fin 512) (j : Fin 1024) : k0_pay3 w u x (ix2 r j) = srow w (fun k => u (ix2 r k)) (fun k => x (ix2 r k)) j := by
  pointwise [k0_pay3, k0_pay2]
  rfl
theorem pay5_at (r : Fin 512) (j : Fin 1024) : k0_pay5 w u x (ix2 r j) = srow w (fun k => u (ix2 r k)) (fun k => x (ix2 r k)) j := pay3_at w u x r j
theorem pay4_at (r : Fin 512) (j : Fin 1024) : k0_pay4 w u x g (ix2 r j)
    = nrm (srow w (fun k => u (ix2 r k)) (fun k => x (ix2 r k))) (fun k => g (ix2 0 k)) j := by
  pointwise [k0_pay4, pay3_at]
  rfl
theorem pay1_at (r : Fin 512) (j : Fin 1024) : k0_pay1 g (k0_pay5 w u x) (k0_pay6 w u x) (Scalar.ofBits .f32 0x44800000#32) (ix2 r j)
    = nrm (srow w (fun k => u (ix2 r k)) (fun k => x (ix2 r k))) (fun k => g (ix2 0 k)) j := pay4_at w u x g r j

end pay

section tile

variable (w : Vec Ideal S1024x1024 .bf16) (u : Vec Ideal S1024x1024 .bf16) (x : Vec Ideal S1024x1024 .f32) (g : Vec Ideal S1x1024 .f32)

/-- An entry of each of the two results over a tile of 1024 rows. -/
def sT (r : Fin 1024) (j : Fin 1024) : EReal := srow w (fun k => u (ix2 r k)) (fun k => x (ix2 r k)) j
def hT (r : Fin 1024) (j : Fin 1024) : EReal := nrm (sT w u x r) (fun k => g (ix2 0 k)) j

abbrev u0 := View.ld u (Rect.unit ![0, 0] ![512, 1024] inb_S1024x1024_S512x1024_0_0)
abbrev u1 := View.ld u (Rect.unit ![512, 0] ![512, 1024] inb_S1024x1024_S512x1024_512_0)
abbrev x0 := View.ld x (Rect.unit ![0, 0] ![512, 1024] inb_S1024x1024_S512x1024_0_0)
abbrev x1 := View.ld x (Rect.unit ![512, 0] ![512, 1024] inb_S1024x1024_S512x1024_512_0)

theorem u0_at (r : Fin 512) (k : Fin 1024) : u0 u (ix2 r k) = u (ix2 ⟨r.val, by omega⟩ k) := by pointwise [u0]
theorem u1_at (r : Fin 512) (k : Fin 1024) : u1 u (ix2 r k) = u (ix2 ⟨512 + r.val, by omega⟩ k) := by pointwise [u1]
theorem x0_at (r : Fin 512) (k : Fin 1024) : x0 x (ix2 r k) = x (ix2 ⟨r.val, by omega⟩ k) := by pointwise [x0]
theorem x1_at (r : Fin 512) (k : Fin 1024) : x1 x (ix2 r k) = x (ix2 ⟨512 + r.val, by omega⟩ k) := by pointwise [x1]

theorem lo4 (r : Fin 512) (j : Fin 1024) : k0_pay3 w (u0 u) (x0 x) (ix2 r j) = sT w u x ⟨r.val, by omega⟩ j := by
  rw [pay3_at, sT]
  simp only [fun k => x0_at x r k, fun k => u0_at u r k]
theorem hi4 (r : Fin 512) (j : Fin 1024) : k0_pay5 w (u1 u) (x1 x) (ix2 r j) = sT w u x ⟨512 + r.val, by omega⟩ j := by
  rw [pay5_at, sT]
  simp only [fun k => x1_at x r k, fun k => u1_at u r k]
theorem lo5 (r : Fin 512) (j : Fin 1024) : k0_pay4 w (u0 u) (x0 x) g (ix2 r j) = hT w u x g ⟨r.val, by omega⟩ j := by
  rw [pay4_at, hT]
  simp only [fun k => x0_at x r k, fun k => u0_at u r k]
  rfl
theorem hi5 (r : Fin 512) (j : Fin 1024) : k0_pay1 g (k0_pay5 w (u1 u) (x1 x)) (k0_pay6 w (u1 u) (x1 x)) (Scalar.ofBits .f32 0x44800000#32) (ix2 r j)
    = hT w u x g ⟨512 + r.val, by omega⟩ j := by
  rw [pay1_at, hT]
  simp only [fun k => x1_at x r k, fun k => u1_at u r k]
  rfl

theorem canon4 (y : S1024x1024.Idx) : (View.canon
      [⟨Rect.unit ![512, 0] ![512, 1024] inb_S1024x1024_S512x1024_512_0, k0_pay5 w (u1 u) (x1 x)⟩,
        ⟨Rect.unit ![0, 0] ![512, 1024] inb_S1024x1024_S512x1024_0_0, k0_pay3 w (u0 u) (x0 x)⟩] : Vec Ideal S1024x1024 .f32) y
    = sT w u x (y 0) (y 1) := by
  canon_tiles z h
  all_goals (obtain ⟨r, j, rfl⟩ : ∃ (r : Fin 512) (j : Fin 1024), z = ix2 r j := ⟨z 0, z 1, by ext k; fin_cases k <;> rfl⟩)
  · rw [hi4, show y 0 = (⟨512 + r.val, by omega⟩ : Fin 1024) from Fin.ext h0, show y 1 = j from Fin.ext h1]
  · rw [lo4, show y 0 = (⟨r.val, by omega⟩ : Fin 1024) from Fin.ext (by simpa using h0), show y 1 = j from Fin.ext h1]
theorem canon5 (y : S1024x1024.Idx) : (View.canon
      [⟨Rect.unit ![512, 0] ![512, 1024] inb_S1024x1024_S512x1024_512_0,
          k0_pay1 g (k0_pay5 w (u1 u) (x1 x)) (k0_pay6 w (u1 u) (x1 x)) (Scalar.ofBits .f32 0x44800000#32)⟩,
        ⟨Rect.unit ![0, 0] ![512, 1024] inb_S1024x1024_S512x1024_0_0, k0_pay4 w (u0 u) (x0 x) g⟩] : Vec Ideal S1024x1024 .bf16) y
    = hT w u x g (y 0) (y 1) := by
  canon_tiles z h
  all_goals (obtain ⟨r, j, rfl⟩ : ∃ (r : Fin 512) (j : Fin 1024), z = ix2 r j := ⟨z 0, z 1, by ext k; fin_cases k <;> rfl⟩)
  · rw [hi5, show y 0 = (⟨512 + r.val, by omega⟩ : Fin 1024) from Fin.ext h0, show y 1 = j from Fin.ext h1]
  · rw [lo5, show y 0 = (⟨r.val, by omega⟩ : Fin 1024) from Fin.ext (by simpa using h0), show y 1 = j from Fin.ext h1]

end tile

theorem y_at (r : Fin 8192) (k : Fin 1024) : (V m c main_v0 : FVec Ideal S8192x1024 .bf16) (ix2 r k) = Y m c (ix2 r k) := by
  entry_read
  pointwise
theorem w_at (k j : Fin 1024) : (V m c main_v1 : FVec Ideal S1024x1024 .bf16) (ix2 k j) = W m c (ix2 k j) := by
  entry_read
  pointwise

variable (t : Fin cfg0.N)

theorem blk0 (r : Fin 1024) (k : Fin 1024) (h : t.val * 1024 + r.val < 8192) :
    (iblk m c 0 t : Vec Ideal S1024x1024 .bf16) (ix2 r k) = Y m c (ix2 ⟨t.val * 1024 + r.val, h⟩ k) := by
  refine Eq.trans ?_ (y_at m c _ _)
  blk_simp [iblk]
  exact congrArg _ (by blk_ext [idx t])
theorem blk1 (k j : Fin 1024) : (iblk m c 1 t : Vec Ideal S1024x1024 .bf16) (ix2 k j) = W m c (ix2 k j) := by
  refine Eq.trans ?_ (w_at m c k j)
  blk_simp [iblk]
  exact congrArg _ (by blk_ext [idx t])
theorem blk2 (r : Fin 1024) (k : Fin 1024) (h : t.val * 1024 + r.val < 8192) :
    (iblk m c 2 t : Vec Ideal S1024x1024 .f32) (ix2 r k) = X m c (ix2 ⟨t.val * 1024 + r.val, h⟩ k) := by
  blk_point [iblk, V, idx t]
theorem blk3 (z : Fin 1) (k : Fin 1024) : (iblk m c 3 t : Vec Ideal S1x1024 .f32) (ix2 z k) = N m c (ix2 z k) := by
  blk_point [iblk, V, idx t]

theorem sT_blk (r : Fin 1024) (j : Fin 1024) (h : t.val * 1024 + r.val < 8192) :
    sT (iblk m c 1 t) (iblk m c 0 t) (iblk m c 2 t) r j = S (X m c) (Y m c) (W m c) ⟨t.val * 1024 + r.val, h⟩ j := by
  unfold sT srow S
  exact congrArg₂ (fun a b : EReal => a + b)
    (Finset.sum_congr rfl fun k _ => congrArg₂ (fun a b : EReal => a * b) (blk0 m c t r k h) (blk1 m c t k j)) (blk2 m c t r j h)
theorem hT_blk (r : Fin 1024) (j : Fin 1024) (h : t.val * 1024 + r.val < 8192) :
    hT (iblk m c 1 t) (iblk m c 0 t) (iblk m c 2 t) (iblk m c 3 t) r j = H (X m c) (Y m c) (W m c) (N m c) ⟨t.val * 1024 + r.val, h⟩ j := by
  unfold hT H
  exact congrArg₂ (fun a b => nrm a b j) (funext fun k => sT_blk m c t r k h) (funext fun k => blk3 m c t 0 k)

theorem out4 (y : S1024x1024.Idx) : out0_4 (iblk m c 0 t) (iblk m c 1 t) (iblk m c 2 t) (iblk m c 3 t) y
    = sT (iblk m c 1 t) (iblk m c 0 t) (iblk m c 2 t) (y 0) (y 1) := by
  refine Eq.trans ?_ (canon4 ..)
  refine congrFun ?_ y
  unfold out0_4 k0_pay7; frame_out
theorem out5 (y : S1024x1024.Idx) : out0_5 (iblk m c 0 t) (iblk m c 1 t) (iblk m c 2 t) (iblk m c 3 t) y
    = hT (iblk m c 1 t) (iblk m c 0 t) (iblk m c 2 t) (iblk m c 3 t) (y 0) (y 1) := by
  refine Eq.trans ?_ (canon5 ..)
  refine congrFun ?_ y
  unfold out0_5 k0_pay7; frame_out

theorem emb4 (r : Fin 1024) (j : Fin 1024) (h : t.val * 1024 + r.val < 8192) :
    (win0_4.blk t).view.emb (ix2 r j) = ix2 ⟨t.val * 1024 + r.val, h⟩ j := by blk_ext [idx t]
theorem emb5 (r : Fin 1024) (j : Fin 1024) (h : t.val * 1024 + r.val < 8192) :
    (win0_5.blk t).view.emb (ix2 r j) = ix2 ⟨t.val * 1024 + r.val, h⟩ j := by blk_ext [idx t]

theorem final4 : (dats m 0 c).arrAt 4 cfg0.N
    = (fun i => S (X m c) (Y m c) (W m c) (i 0) (i 1) : FVec Ideal S8192x1024 .f32) := by
  refine (dats m 0 c).arrAt_eq_of_covers 4 _ (by decide +kernel) fun t hf y => ?_
  blk_simp
  rw [after0_4]
  have hN : t.val < 8 := lt_of_lt_of_le t.isLt (le_of_eq N_0)
  obtain ⟨r, j, rfl⟩ : ∃ (r : Fin 1024) (j : Fin 1024), y = ix2 r j := ⟨y 0, y 1, eq_ix2 y⟩
  have h : t.val * 1024 + r.val < 8192 := by omega
  rw [emb4 t r j h]
  exact (out4 m c t _).trans (sT_blk m c t r j h)
theorem final5 : (dats m 0 c).arrAt 5 cfg0.N
    = (fun i => H (X m c) (Y m c) (W m c) (N m c) (i 0) (i 1) : FVec Ideal S8192x1024 .bf16) := by
  refine (dats m 0 c).arrAt_eq_of_covers 5 _ (by decide +kernel) fun t hf y => ?_
  blk_simp
  rw [after0_5]
  have hN : t.val < 8 := lt_of_lt_of_le t.isLt (le_of_eq N_0)
  obtain ⟨r, j, rfl⟩ : ∃ (r : Fin 1024) (j : Fin 1024), y = ix2 r j := ⟨y 0, y 1, eq_ix2 y⟩
  have h : t.val * 1024 + r.val < 8192 := by omega
  rw [emb5 t r j h]
  exact (out5 m c t _).trans (hT_blk m c t r j h)

end Cert.OutIdeal.Value
-- ==== Proof.OutRefV.lean ====
/- What the reference's output projection computes, read stage by stage at an entry. -/
module

public import proofs.«01_k».proof.Proof.OutVal
public import proofs.«01_k».proof.Proof.Gen.OutRefIdeal.Run
public import proofs.«01_k».proof.Proof.Gen.OutRefIdeal.Read

@[expose] public section

set_option maxRecDepth 16384

noncomputable section

namespace Cert.OutRefIdeal.Value

open Cert.OutRefIdeal Cert.OutRefIdeal.Gen Idealize.ShloMosaic Idealize.ShloMosaic.TcCoe Idealize.SL.Sem
open Cert.OutRefIdeal.Read Cert.Norm Cert.OutIdeal.Value

variable (X0 X1 : FVec Ideal S8192x1024 .f32) (X2 : FVec Ideal S1024x1024 .f32) (X3 : FVec Ideal S1x1024 .f32)

theorem v1_at (r : Fin 8192) (j : Fin 1024) : val_main_v1 (F := Ideal) X0 X1 X2 (ix2 r j) = S X0 X1 X2 r j := by
  pointwise [val_main_v1, val_main_v0]
  rw [add_comm]
  rfl
theorem v9_at (r : Fin 8192) (z : Fin 1) : val_main_v9 (F := Ideal) X0 X1 X2 (ix2 r z) = rs (S X0 X1 X2 r) := by
  pointwise [val_main_v9, val_main_v8, val_main_v7, val_main_v6, val_main_v5, val_main_v4, val_main_v3, val_main_v2, val_main_cst,
    val_main_cst_0, val_main_cst_1, v1_at]
  rfl
theorem v14_at (r : Fin 8192) (j : Fin 1024) : val_main_v14 (F := Ideal) X0 X1 X2 X3 (ix2 r j) = H X0 X1 X2 X3 r j := by
  pointwise [val_main_v14, val_main_v13, val_main_v12, val_main_v11, val_main_v10, v9_at, v1_at]
  rfl

end Cert.OutRefIdeal.Value
-- ==== Proof.OutClaim.lean ====
/- The claims about the output projection's kernel: the reference's frame, and the equality of the two
   programs' results. -/
module

public import proofs.«01_k».proof.Defs
public import proofs.«01_k».proof.Proof.OutVal
public import proofs.«01_k».proof.Proof.OutRefV
public import Idealize.ShloMosaic.Lib.Quiescent

@[expose] public section

noncomputable section

namespace Cert.Proof

open Idealize.ShloMosaic Idealize.ShloMosaic.TcCoe Idealize.SL.Sem

attribute [local instance] Cert.OutIdeal.Gen.facts Cert.OutRefIdeal.Gen.facts

theorem out_frame_ref : Cert.quiescent_OutRefIdeal := fun m ρ _ =>
  (θ_run _ _ _).mono (fun r h => ⟨fun c => (h c).2.2, sem_eq_zero_of_no_sems (by decide) _⟩)
    (Cert.OutRefIdeal.Value.run m ρ)

theorem out_algebraic : Cert.algebraic_OutIdeal_OutRefIdeal := by
  intro m ρ m' ρ' hpre hag
  refine ⟨fun c => (Cert.OutIdeal.Gen.dats m 0 c).arrAt 4 (Cert.OutIdeal.cfgs 0).N,
    fun c => (Cert.OutIdeal.Gen.dats m 0 c).arrAt 5 (Cert.OutIdeal.cfgs 0).N,
    Cert.OutIdeal.Value.run_blocks m ρ, (θ_run _ _ _).mono (fun r h c => ?_) (Cert.OutRefIdeal.Value.run m' ρ')⟩
  obtain ⟨h0, h1, h2⟩ := h c
  obtain ⟨a0, a1, a2, a3⟩ := hag c
  refine ⟨h0.trans ?_, h1.trans ?_, h2⟩
  · refine Eq.trans ?_ (Cert.OutIdeal.Value.final4 m c).symm
    rw [Cert.OutRefIdeal.Read.val_main_v1_eq, a0, a1, a2]
    funext i
    rw [Idealize.ShloMosaic.eq_ix2 i]
    exact Cert.OutRefIdeal.Value.v1_at _ _ _ _ _
  · refine Eq.trans ?_ (Cert.OutIdeal.Value.final5 m c).symm
    rw [Cert.OutRefIdeal.Read.val_main_v14_eq, a0, a1, a2, a3]
    funext i
    rw [Idealize.ShloMosaic.eq_ix2 i]
    exact Cert.OutRefIdeal.Value.v14_at _ _ _ _ _ _

end Cert.Proof

end
-- ==== Proof.OutDxVal.lean ====
/- The array the backward output projection's kernel leaves, as a function of the arguments. -/
module

public import proofs.«01_k».proof.Proof.Gen.OutDxIdeal.Value
public import Idealize.ShloMosaic.Lib.Pipeline.ValueKit

@[expose] public section

set_option maxRecDepth 16384

noncomputable section

namespace Cert.OutDxIdeal.Value

open Cert.OutDxIdeal Cert.OutDxIdeal.Gen Idealize.ShloMosaic Idealize.ShloMosaic.TcCoe Idealize.SL.Sem

variable (m : (ℓ : Loc nD τ sig) → Buf (Elt Ideal) ℓ) (c : Dev nD)

/-- The weights and the product's cotangent. -/
abbrev W : FVec Ideal S1024x1024 .f32 := m ((c : Thread nD τ).loc main_arg0)
abbrev DX : FVec Ideal S8192x1024 .f32 := m ((c : Thread nD τ).loc main_arg1)

/-- The cotangent times the weights' transpose. -/
def G (W : FVec Ideal S1024x1024 .f32) (DX : FVec Ideal S8192x1024 .f32) (r : Fin 8192) (j : Fin 1024) : EReal :=
  ∑ k : Fin 1024, DX (ix2 r k) * W (ix2 j k)

theorem idx : ∀ t : Fin cfg0.N, win0_0.index t = ![t.val, 0] ∧ win0_1.index t = ![0, 0] ∧ win0_2.index t = ![t.val, 0] :=
  (by decide +kernel : ∀ t : Fin grid0.N, _)

theorem pay1_at (u w : Vec Ideal S1024x1024 .bf16) (r j : Fin 1024) :
    k0_pay1 u w (ix2 r j) = ∑ k : Fin 1024, u (ix2 r k) * w (ix2 j k) := by
  pointwise [k0_pay1]

theorem dx_at (r : Fin 8192) (k : Fin 1024) : (V m c main_v0 : FVec Ideal S8192x1024 .bf16) (ix2 r k) = DX m c (ix2 r k) := by
  entry_read
  pointwise
theorem w_at (j k : Fin 1024) : (V m c main_v1 : FVec Ideal S1024x1024 .bf16) (ix2 j k) = W m c (ix2 j k) := by
  entry_read
  pointwise

variable (t : Fin cfg0.N)

theorem blk0 (r : Fin 1024) (k : Fin 1024) (h : t.val * 1024 + r.val < 8192) :
    (iblk m c 0 t : Vec Ideal S1024x1024 .bf16) (ix2 r k) = DX m c (ix2 ⟨t.val * 1024 + r.val, h⟩ k) := by
  refine Eq.trans ?_ (dx_at m c _ _)
  blk_simp [iblk]
  exact congrArg _ (by blk_ext [idx t])
theorem blk1 (j k : Fin 1024) : (iblk m c 1 t : Vec Ideal S1024x1024 .bf16) (ix2 j k) = W m c (ix2 j k) := by
  refine Eq.trans ?_ (w_at m c j k)
  blk_simp [iblk]
  exact congrArg _ (by blk_ext [idx t])

theorem out2 : out0_2 (iblk m c 0 t) (iblk m c 1 t) = k0_pay1 (iblk m c 0 t) (iblk m c 1 t) := by
  unfold out0_2; frame_out

theorem emb2 (r : Fin 1024) (j : Fin 1024) (h : t.val * 1024 + r.val < 8192) :
    (win0_2.blk t).view.emb (ix2 r j) = ix2 ⟨t.val * 1024 + r.val, h⟩ j := by blk_ext [idx t]

theorem final2 : (dats m 0 c).arrAt 2 cfg0.N = (fun i => G (W m c) (DX m c) (i 0) (i 1) : FVec Ideal S8192x1024 .f32) := by
  refine (dats m 0 c).arrAt_eq_of_covers 2 _ (by decide +kernel) fun t hf y => ?_
  blk_simp
  rw [after0_2, out2]
  have hN : t.val < 8 := lt_of_lt_of_le t.isLt (le_of_eq N_0)
  obtain ⟨r, j, rfl⟩ : ∃ (r : Fin 1024) (j : Fin 1024), y = ix2 r j := ⟨y 0, y 1, eq_ix2 y⟩
  have h : t.val * 1024 + r.val < 8192 := by omega
  rw [emb2 t r j h]
  exact (pay1_at ..).trans
    (Finset.sum_congr rfl fun k _ => congrArg₂ (fun a b : EReal => a * b) (blk0 m c t r k h) (blk1 m c t j k))

end Cert.OutDxIdeal.Value
-- ==== Proof.OutDxRef.lean ====
/- What the reference's backward output projection computes at an entry. -/
module

public import proofs.«01_k».proof.Proof.OutDxVal
public import proofs.«01_k».proof.Proof.Gen.OutDxRefIdeal.Run
public import proofs.«01_k».proof.Proof.Gen.OutDxRefIdeal.Read

@[expose] public section

set_option maxRecDepth 16384

noncomputable section

namespace Cert.OutDxRefIdeal.Value

open Cert.OutDxRefIdeal Cert.OutDxRefIdeal.Gen Idealize.ShloMosaic Idealize.ShloMosaic.TcCoe Idealize.SL.Sem
open Cert.OutDxRefIdeal.Read Cert.OutDxIdeal.Value

variable (X0 : FVec Ideal S1024x1024 .f32) (X1 : FVec Ideal S8192x1024 .f32)

theorem v2_at (r : Fin 8192) (j : Fin 1024) : val_main_v2 (F := Ideal) X0 X1 (ix2 r j) = G X0 X1 r j := by
  pointwise [val_main_v2]
  rfl

end Cert.OutDxRefIdeal.Value
-- ==== Proof.OutDxClaim.lean ====
/- The claims about the backward output projection's kernel: the reference's frame, and the equality of the two
   programs' results. -/
module

public import proofs.«01_k».proof.Defs
public import proofs.«01_k».proof.Proof.OutDxVal
public import proofs.«01_k».proof.Proof.OutDxRef
public import Idealize.ShloMosaic.Lib.Quiescent

@[expose] public section

noncomputable section

namespace Cert.Proof

open Idealize.ShloMosaic Idealize.ShloMosaic.TcCoe Idealize.SL.Sem

attribute [local instance] Cert.OutDxIdeal.Gen.facts Cert.OutDxRefIdeal.Gen.facts

theorem outdx_frame_ref : Cert.quiescent_OutDxRefIdeal := fun m ρ _ =>
  (θ_run _ _ _).mono (fun r h => ⟨fun c => (h c).2, sem_eq_zero_of_no_sems (by decide) _⟩)
    (Cert.OutDxRefIdeal.Value.run m ρ)

theorem outdx_algebraic : Cert.algebraic_OutDxIdeal_OutDxRefIdeal := by
  intro m ρ m' ρ' hpre hag
  refine ⟨fun c => (Cert.OutDxIdeal.Gen.dats m 0 c).arrAt 2 (Cert.OutDxIdeal.cfgs 0).N,
    Cert.OutDxIdeal.Value.run_blocks m ρ, (θ_run _ _ _).mono (fun r h c => ?_) (Cert.OutDxRefIdeal.Value.run m' ρ')⟩
  obtain ⟨h0, h1⟩ := h c
  obtain ⟨a0, a1⟩ := hag c
  refine ⟨h0.trans ?_, h1⟩
  · refine Eq.trans ?_ (Cert.OutDxIdeal.Value.final2 m c).symm
    rw [Cert.OutDxRefIdeal.Read.val_main_v2_eq, a0, a1]
    funext i
    rw [Idealize.ShloMosaic.eq_ix2 i]
    exact Cert.OutDxRefIdeal.Value.v2_at _ _ _ _

end Cert.Proof

end
-- ==== Proof.KvVal.lean ====
/- The array the memory projection's kernel leaves, as a function of the arguments. -/
module

public import proofs.«01_k».proof.Proof.NormMath
public import proofs.«01_k».proof.Proof.Gen.KvIdeal.Value
public import Idealize.ShloMosaic.Lib.Pipeline.ValueKit

@[expose] public section

set_option maxRecDepth 16384

noncomputable section

namespace Cert.KvIdeal.Value

open Cert.KvIdeal Cert.KvIdeal.Gen Idealize.ShloMosaic Idealize.ShloMosaic.TcCoe Idealize.SL.Sem
open Cert.Norm

variable (m : (ℓ : Loc nD τ sig) → Buf (Elt Ideal) ℓ) (c : Dev nD)

/-- The memory, its norm's gain and the weights. -/
abbrev E : FVec Ideal S256x1024 .f32 := m ((c : Thread nD τ).loc main_arg0)
abbrev N : FVec Ideal S1x1024 .f32 := m ((c : Thread nD τ).loc main_arg1)
abbrev W : FVec Ideal S1024x2048 .f32 := m ((c : Thread nD τ).loc main_arg2)

/-- The normalised memory, and the keys and values. -/
def H (E : FVec Ideal S256x1024 .f32) (N : FVec Ideal S1x1024 .f32) (r : Fin 256) (k : Fin 1024) : EReal :=
  nrm (fun k => E (ix2 r k)) (fun k => N (ix2 0 k)) k
def KV (E : FVec Ideal S256x1024 .f32) (N : FVec Ideal S1x1024 .f32) (W : FVec Ideal S1024x2048 .f32) (r : Fin 256) (j : Fin 2048) : EReal :=
  ∑ k : Fin 1024, H E N r k * W (ix2 k j)

theorem idx : ∀ t : Fin cfg0.N, win0_0.index t = ![0, 0] ∧ win0_1.index t = ![t.val, 0] ∧ win0_2.index t = ![0, t.val] :=
  (by decide +kernel : ∀ t : Fin grid0.N, _)

theorem pay1_at (u : Vec Ideal S256x1024 .bf16) (w : Vec Ideal S1024x1024 .bf16) (r : Fin 256) (j : Fin 1024) :
    k0_pay1 u w (ix2 r j) = ∑ k : Fin 1024, u (ix2 r k) * w (ix2 j k) := by
  pointwise [k0_pay1]

theorem h_at (r : Fin 256) (k : Fin 1024) : (V m c main_v12 : FVec Ideal S256x1024 .bf16) (ix2 r k) = H (E m c) (N m c) r k := by
  entry_read
  pointwise
  rfl
theorem w_at (j : Fin 2048) (k : Fin 1024) : (V m c main_v14 : FVec Ideal S2048x1024 .bf16) (ix2 j k) = W m c (ix2 k j) := by
  entry_read
  pointwise

variable (t : Fin cfg0.N)

theorem blk0 (r : Fin 256) (k : Fin 1024) : (iblk m c 0 t : Vec Ideal S256x1024 .bf16) (ix2 r k) = H (E m c) (N m c) r k := by
  refine Eq.trans ?_ (h_at m c _ _)
  blk_simp [iblk]
  exact congrArg _ (by blk_ext [idx t])
theorem blk1 (j k : Fin 1024) (h : t.val * 1024 + j.val < 2048) :
    (iblk m c 1 t : Vec Ideal S1024x1024 .bf16) (ix2 j k) = W m c (ix2 k ⟨t.val * 1024 + j.val, h⟩) := by
  refine Eq.trans ?_ (w_at m c _ _)
  blk_simp [iblk]
  exact congrArg _ (by blk_ext [idx t])

theorem out2 : out0_2 (iblk m c 0 t) (iblk m c 1 t) = k0_pay1 (iblk m c 0 t) (iblk m c 1 t) := by
  unfold out0_2; frame_out

theorem emb2 (r : Fin 256) (j : Fin 1024) (h : t.val * 1024 + j.val < 2048) :
    (win0_2.blk t).view.emb (ix2 r j) = ix2 r ⟨t.val * 1024 + j.val, h⟩ := by blk_ext [idx t]

theorem final2 : (dats m 0 c).arrAt 2 cfg0.N = (fun i => KV (E m c) (N m c) (W m c) (i 0) (i 1) : FVec Ideal S256x2048 .bf16) := by
  refine (dats m 0 c).arrAt_eq_of_covers 2 _ (by decide +kernel) fun t hf y => ?_
  blk_simp
  rw [after0_2, out2]
  have hN : t.val < 2 := lt_of_lt_of_le t.isLt (le_of_eq N_0)
  obtain ⟨r, j, rfl⟩ : ∃ (r : Fin 256) (j : Fin 1024), y = ix2 r j := ⟨y 0, y 1, eq_ix2 y⟩
  have h : t.val * 1024 + j.val < 2048 := by omega
  rw [emb2 t r j h]
  exact (pay1_at ..).trans
    (Finset.sum_congr rfl fun k _ => congrArg₂ (fun a b : EReal => a * b) (blk0 m c t r k) (blk1 m c t j k h))

end Cert.KvIdeal.Value
-- ==== Proof.KvRefV.lean ====
/- What the reference's memory projection computes, read stage by stage at an entry. -/
module

public import proofs.«01_k».proof.Proof.KvVal
public import proofs.«01_k».proof.Proof.Gen.KvRefIdeal.Run
public import proofs.«01_k».proof.Proof.Gen.KvRefIdeal.Read

@[expose] public section

set_option maxRecDepth 16384

noncomputable section

namespace Cert.KvRefIdeal.Value

open Cert.KvRefIdeal Cert.KvRefIdeal.Gen Idealize.ShloMosaic Idealize.ShloMosaic.TcCoe Idealize.SL.Sem
open Cert.KvRefIdeal.Read Cert.Norm Cert.KvIdeal.Value

variable (X0 : FVec Ideal S256x1024 .f32) (X1 : FVec Ideal S1x1024 .f32) (X2 : FVec Ideal S1024x2048 .f32)

theorem v7_at (r : Fin 256) (z : Fin 1) : val_main_v7 (F := Ideal) X0 (ix2 r z) = rs (fun k => X0 (ix2 r k)) := by
  pointwise [val_main_v7, val_main_v6, val_main_v5, val_main_v4, val_main_v3, val_main_v2, val_main_v1, val_main_v0,
    val_main_cst, val_main_cst_0, val_main_cst_1]
  rfl
theorem v11_at (r : Fin 256) (j : Fin 1024) : val_main_v11 (F := Ideal) X0 X1 (ix2 r j) = H X0 X1 r j := by
  pointwise [val_main_v11, val_main_v10, val_main_v9, val_main_v8, v7_at]
  rfl
theorem v13_at (r : Fin 256) (j : Fin 2048) : val_main_v13 (F := Ideal) X0 X1 X2 (ix2 r j) = KV X0 X1 X2 r j := by
  pointwise [val_main_v13, val_main_v12, v11_at]
  rfl

end Cert.KvRefIdeal.Value
-- ==== Proof.KvClaim.lean ====
/- The claims about the memory projection's kernel: the reference's frame, and the equality of the two
   programs' results. -/
module

public import proofs.«01_k».proof.Defs
public import proofs.«01_k».proof.Proof.KvVal
public import proofs.«01_k».proof.Proof.KvRefV
public import Idealize.ShloMosaic.Lib.Quiescent

@[expose] public section

noncomputable section

namespace Cert.Proof

open Idealize.ShloMosaic Idealize.ShloMosaic.TcCoe Idealize.SL.Sem

attribute [local instance] Cert.KvIdeal.Gen.facts Cert.KvRefIdeal.Gen.facts

theorem kv_frame_ref : Cert.quiescent_KvRefIdeal := fun m ρ _ =>
  (θ_run _ _ _).mono (fun r h => ⟨fun c => (h c).2, sem_eq_zero_of_no_sems (by decide) _⟩)
    (Cert.KvRefIdeal.Value.run m ρ)

theorem kv_algebraic : Cert.algebraic_KvIdeal_KvRefIdeal := by
  intro m ρ m' ρ' hpre hag
  refine ⟨fun c => (Cert.KvIdeal.Gen.dats m 0 c).arrAt 2 (Cert.KvIdeal.cfgs 0).N,
    Cert.KvIdeal.Value.run_blocks m ρ, (θ_run _ _ _).mono (fun r h c => ?_) (Cert.KvRefIdeal.Value.run m' ρ')⟩
  obtain ⟨h0, h1⟩ := h c
  obtain ⟨a0, a1, a2⟩ := hag c
  refine ⟨h0.trans ?_, h1⟩
  · refine Eq.trans ?_ (Cert.KvIdeal.Value.final2 m c).symm
    rw [Cert.KvRefIdeal.Read.val_main_v13_eq, a0, a1, a2]
    funext i
    rw [Idealize.ShloMosaic.eq_ix2 i]
    exact Cert.KvRefIdeal.Value.v13_at _ _ _ _ _

end Cert.Proof

end
-- ==== Proof.KvDxVal.lean ====
/- The array the backward memory projection's kernel leaves, as a function of the arguments. -/
module

public import proofs.«01_k».proof.Proof.Gen.KvDxIdeal.Value
public import Idealize.ShloMosaic.Lib.Pipeline.ValueKit

@[expose] public section

set_option maxRecDepth 16384

noncomputable section

namespace Cert.KvDxIdeal.Value

open Cert.KvDxIdeal Cert.KvDxIdeal.Gen Idealize.ShloMosaic Idealize.ShloMosaic.TcCoe Idealize.SL.Sem

variable (m : (ℓ : Loc nD τ sig) → Buf (Elt Ideal) ℓ) (c : Dev nD)

/-- The weights and the cotangent of the keys and values. -/
abbrev W : FVec Ideal S1024x2048 .f32 := m ((c : Thread nD τ).loc main_arg0)
abbrev DK : FVec Ideal S256x2048 .f32 := m ((c : Thread nD τ).loc main_arg1)

/-- A term, and the whole, of the cotangent times the weights' transpose. -/
def G1 (W : FVec Ideal S1024x2048 .f32) (DK : FVec Ideal S256x2048 .f32) (r : Fin 256) (j : Fin 1024) (k : Fin 2048) : EReal :=
  DK (ix2 r k) * W (ix2 j k)
def G (W : FVec Ideal S1024x2048 .f32) (DK : FVec Ideal S256x2048 .f32) (r : Fin 256) (j : Fin 1024) : EReal :=
  ∑ k : Fin 2048, G1 W DK r j k

theorem idx : ∀ t : Fin cfg0.N, win0_0.index t = ![0, t.val] ∧ win0_1.index t = ![t.val, 0] ∧ win0_2.index t = ![0, 0] :=
  (by decide +kernel : ∀ t : Fin grid0.N, _)

section pay

variable (u : Vec Ideal S256x1024 .bf16) (w : Vec Ideal S1024x1024 .bf16)

theorem pay1_at (r : Fin 256) (j : Fin 1024) : k0_pay1 u w (ix2 r j) = ∑ k : Fin 1024, u (ix2 r k) * w (ix2 k j) := by
  pointwise [k0_pay1]
theorem pay2_at (r : Fin 256) (j : Fin 1024) : k0_pay2 u w (ix2 r j) = ∑ k : Fin 1024, u (ix2 r k) * w (ix2 k j) := by
  pointwise [k0_pay2, pay1_at]
theorem pay3_at (v : Vec Ideal S256x1024 .f32) (r : Fin 256) (j : Fin 1024) :
    k0_pay3 u w v (ix2 r j) = v (ix2 r j) + ∑ k : Fin 1024, u (ix2 r k) * w (ix2 k j) := by
  pointwise [k0_pay3, pay1_at]

end pay

theorem dk_at (r : Fin 256) (k : Fin 2048) : (V m c main_v0 : FVec Ideal S256x2048 .bf16) (ix2 r k) = DK m c (ix2 r k) := by
  entry_read
  pointwise
theorem w_at (k : Fin 2048) (j : Fin 1024) : (V m c main_v2 : FVec Ideal S2048x1024 .bf16) (ix2 k j) = W m c (ix2 j k) := by
  entry_read
  pointwise

theorem blk0 (t : Fin cfg0.N) (r : Fin 256) (k : Fin 1024) (h : t.val * 1024 + k.val < 2048) :
    (iblk m c 0 t : Vec Ideal S256x1024 .bf16) (ix2 r k) = DK m c (ix2 r ⟨t.val * 1024 + k.val, h⟩) := by
  refine Eq.trans ?_ (dk_at m c _ _)
  blk_simp [iblk]
  exact congrArg _ (by blk_ext [idx t])
theorem blk1 (t : Fin cfg0.N) (k j : Fin 1024) (h : t.val * 1024 + k.val < 2048) :
    (iblk m c 1 t : Vec Ideal S1024x1024 .bf16) (ix2 k j) = W m c (ix2 j ⟨t.val * 1024 + k.val, h⟩) := by
  refine Eq.trans ?_ (w_at m c _ _)
  blk_simp [iblk]
  exact congrArg _ (by blk_ext [idx t])

/-- The two blocks of a point. -/
abbrev B0 (t : Fin cfg0.N) : Vec Ideal S256x1024 .bf16 := iblk m c 0 t
abbrev B1 (t : Fin cfg0.N) : Vec Ideal S1024x1024 .bf16 := iblk m c 1 t

theorem g1_blk (t : Fin cfg0.N) (r : Fin 256) (j k : Fin 1024) (h : t.val * 1024 + k.val < 2048) :
    B0 m c t (ix2 r k) * B1 m c t (ix2 k j) = G1 (W m c) (DK m c) r j ⟨t.val * 1024 + k.val, h⟩ :=
  congrArg₂ (fun a b : EReal => a * b) (blk0 m c t r k h) (blk1 m c t k j h)

/-- After the second half of the columns: the sum over all of them. -/
theorem out2 (t : Fin cfg0.N) (h1 : t.val = 1) (r : Fin 256) (j : Fin 1024) :
    (outsAt0 m c t.val t.isLt).1 (ix2 r j) = G (W m c) (DK m c) r j := by
  have hN : t.val < 2 := lt_of_lt_of_le t.isLt (le_of_eq N_0)
  have hp : t.val - 1 < cfg0.N := lt_of_le_of_lt (Nat.sub_le _ _) t.isLt
  have e0 : (outsAt0 m c (t.val - 1) hp).2 = k0_pay2 (B0 m c ⟨t.val - 1, hp⟩) (B1 m c ⟨t.val - 1, hp⟩) := by
    rw [outsAt0_A m c ⟨t.val - 1, hp⟩ (by simp only; omega) (by simp only; omega) (by simp only; omega)]; frame_out
  have e1 : (outsAt0 m c t.val t.isLt).1 (ix2 r j)
      = (outsAt0 m c (t.val - 1) hp).2 (ix2 r j) + ∑ k : Fin 1024, B0 m c t (ix2 r k) * B1 m c t (ix2 k j) := by
    rw [outsAt0_B m c t (by omega) (by omega) (by omega)]; frame_out
    exact (congrArg (fun v => k0_pay3 (B0 m c t) (B1 m c t) v (ix2 r j)) (Memref.IsWhole.read_unread _ _)).trans (pay3_at _ _ _ r j)
  rw [e1, e0, pay2_at, G, Fin.sum_univ_tiles 2 1024 rfl, Fin.sum_univ_two]
  refine congrArg₂ (fun a b : EReal => a + b) (Finset.sum_congr rfl fun k _ => ?_) (Finset.sum_congr rfl fun k _ => ?_)
  · rw [g1_blk m c ⟨t.val - 1, hp⟩ r j k (by simp only; omega)]
    exact congrArg (G1 (W m c) (DK m c) r j) (Fin.ext (by simp [h1]))
  · rw [g1_blk m c t r j k (by omega)]
    exact congrArg (G1 (W m c) (DK m c) r j) (Fin.ext (by simp [h1]))

theorem emb2 (t : Fin cfg0.N) (r : Fin 256) (j : Fin 1024) : (win0_2.blk t).view.emb (ix2 r j) = ix2 r j := by blk_ext [idx t]

theorem array2 : (dats m 0 c).arrAt 2 cfg0.N = (fun i => G (W m c) (DK m c) (i 0) (i 1) : FVec Ideal S256x1024 .f32) := by
  refine (dats m 0 c).arrAt_eq_of_covers 2 _ (by decide +kernel) fun t hf y => ?_
  blk_simp
  rw [after0_2]
  have hN : t.val < 2 := lt_of_lt_of_le t.isLt (le_of_eq N_0)
  obtain ⟨r, j, rfl⟩ : ∃ (r : Fin 256) (j : Fin 1024), y = ix2 r j := ⟨y 0, y 1, eq_ix2 y⟩
  have h1 : t.val = 1 := by have := (flush0_2 t).mp hf; omega
  rw [emb2 t r j]
  exact out2 m c t h1 r j

end Cert.KvDxIdeal.Value
-- ==== Proof.KvDxRef.lean ====
/- What the reference's backward memory projection computes at an entry. -/
module

public import proofs.«01_k».proof.Proof.KvDxVal
public import proofs.«01_k».proof.Proof.Gen.KvDxRefIdeal.Run
public import proofs.«01_k».proof.Proof.Gen.KvDxRefIdeal.Read

@[expose] public section

set_option maxRecDepth 16384

noncomputable section

namespace Cert.KvDxRefIdeal.Value

open Cert.KvDxRefIdeal Cert.KvDxRefIdeal.Gen Idealize.ShloMosaic Idealize.ShloMosaic.TcCoe Idealize.SL.Sem
open Cert.KvDxRefIdeal.Read Cert.KvDxIdeal.Value

variable (X0 : FVec Ideal S1024x2048 .f32) (X1 : FVec Ideal S256x2048 .f32)

theorem v2_at (r : Fin 256) (j : Fin 1024) : val_main_v2 (F := Ideal) X0 X1 (ix2 r j) = G X0 X1 r j := by
  pointwise [val_main_v2]
  rfl

end Cert.KvDxRefIdeal.Value
-- ==== Proof.KvDxClaim.lean ====
/- The claims about the backward memory projection's kernel: the reference's frame, and the equality of the two
   programs' results. -/
module

public import proofs.«01_k».proof.Defs
public import proofs.«01_k».proof.Proof.KvDxVal
public import proofs.«01_k».proof.Proof.KvDxRef
public import Idealize.ShloMosaic.Lib.Quiescent

@[expose] public section

noncomputable section

namespace Cert.Proof

open Idealize.ShloMosaic Idealize.ShloMosaic.TcCoe Idealize.SL.Sem

attribute [local instance] Cert.KvDxIdeal.Gen.facts Cert.KvDxRefIdeal.Gen.facts

theorem kvdx_frame_ref : Cert.quiescent_KvDxRefIdeal := fun m ρ _ =>
  (θ_run _ _ _).mono (fun r h => ⟨fun c => (h c).2, sem_eq_zero_of_no_sems (by decide) _⟩)
    (Cert.KvDxRefIdeal.Value.run m ρ)

theorem kvdx_algebraic : Cert.algebraic_KvDxIdeal_KvDxRefIdeal := by
  intro m ρ m' ρ' hpre hag
  refine ⟨fun c => (Cert.KvDxIdeal.Gen.dats m 0 c).arrAt 2 (Cert.KvDxIdeal.cfgs 0).N,
    Cert.KvDxIdeal.Value.run_blocks m ρ, (θ_run _ _ _).mono (fun r h c => ?_) (Cert.KvDxRefIdeal.Value.run m' ρ')⟩
  obtain ⟨h0, h1⟩ := h c
  obtain ⟨a0, a1⟩ := hag c
  refine ⟨h0.trans ?_, h1⟩
  · refine Eq.trans ?_ (Cert.KvDxIdeal.Value.array2 m c).symm
    rw [Cert.KvDxRefIdeal.Read.val_main_v2_eq, a0, a1]
    funext i
    rw [Idealize.ShloMosaic.eq_ix2 i]
    exact Cert.KvDxRefIdeal.Value.v2_at _ _ _ _

end Cert.Proof

end
-- ==== Proof.AdamMath.lean ====
/- One AdamW step at an entry: the new first and second moments and the step, over the extended reals. -/
module

public import Idealize.ShloMosaic.PureOps.Ideal

@[expose] public section

noncomputable section

namespace Cert.Adam

open Idealize.ShloMosaic

/-- The first moment after a gradient `g`. -/
def mom (g m : EReal) : EReal := Ideal.ofBits .f32 0x3F666666#32 * m + Ideal.ofBits .f32 0x3DCCCCCD#32 * g
/-- The second moment after a gradient `g`. -/
def vel (g v : EReal) : EReal := Ideal.ofBits .f32 0x3F7FBE77#32 * v + Ideal.ofBits .f32 0x3A83126F#32 * (g * g)
/-- The weight's change, with both moments' corrections for their start at zero and the weight's decay. -/
def delta (w g m v : EReal) : EReal :=
  Ideal.ofBits .f32 0xBA83126F#32 *
    (Ideal.div (Ideal.div (mom g m) (Ideal.ofBits .f32 0x3F26BD02#32))
      (Ideal.sqrt (Ideal.div (vel g v) (Ideal.ofBits .f32 0x3C231ACC#32)) + Ideal.ofBits .f32 0x322BCC77#32)
    + Ideal.ofBits .f32 0x3C23D70A#32 * w)

end Cert.Adam
-- ==== Proof.AdamUpVal.lean ====
/- The arrays the optimiser's kernel for w_up leaves, as functions of the arguments. -/
module

public import proofs.«01_k».proof.Proof.AdamMath
public import proofs.«01_k».proof.Proof.Gen.AdamUpIdeal.Value
public import Idealize.ShloMosaic.Lib.Pipeline.ValueKit

@[expose] public section

set_option maxRecDepth 16384

noncomputable section

namespace Cert.AdamUpIdeal.Value

open Cert.AdamUpIdeal Cert.AdamUpIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S1024x1024 .f32 := m ((c : Thread nD τ).loc main_arg0)
abbrev M : FVec Ideal S1024x1024 .f32 := m ((c : Thread nD τ).loc main_arg1)
abbrev U : FVec Ideal S1024x1024 .f32 := m ((c : Thread nD τ).loc main_arg2)
abbrev Z : FVec Ideal S2048x1024 .f32 := m ((c : Thread nD τ).loc main_arg3)

/-- The gradient's entry, and what the kernel leaves at an entry. -/
def gr (Z : FVec Ideal S2048x1024 .f32) (i : Fin 1024) (j : Fin 1024) : EReal := Z (ix2 ⟨j.val, by omega⟩ i)
def nm (M : FVec Ideal S1024x1024 .f32) (Z : FVec Ideal S2048x1024 .f32) (i : Fin 1024) (j : Fin 1024) : EReal :=
  mom (gr Z i j) (M (ix2 i j))
def nv (U : FVec Ideal S1024x1024 .f32) (Z : FVec Ideal S2048x1024 .f32) (i : Fin 1024) (j : Fin 1024) : EReal :=
  vel (gr Z i j) (U (ix2 i j))
def dl (W M U : FVec Ideal S1024x1024 .f32) (Z : FVec Ideal S2048x1024 .f32) (i : Fin 1024) (j : Fin 1024) : EReal :=
  delta (W (ix2 i j)) (gr Z i j) (M (ix2 i j)) (U (ix2 i j))

theorem idx : ∀ t : Fin cfg0.N, win0_0.index t = ![t.val, 0] ∧ win0_1.index t = ![0, t.val]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S1024x512 .f32) (w u v : Vec Ideal S512x1024 .f32)

theorem k0_pay1_at (i : Fin 512) (j : Fin 1024) : k0_pay1 g (ix2 i j) = g (ix2 j i) := by
  pointwise [k0_pay1]
theorem mom_at (i : Fin 512) (j : Fin 1024) : k0_pay2 g u (ix2 i j) = mom (g (ix2 j i)) (u (ix2 i j)) := by
  pointwise [k0_pay2, k0_pay1_at]
  rfl
theorem vel_at (i : Fin 512) (j : Fin 1024) : k0_pay3 g v (ix2 i j) = vel (g (ix2 j i)) (v (ix2 i j)) := by
  pointwise [k0_pay3, k0_pay1_at]
  rfl
theorem delta_at (i : Fin 512) (j : Fin 1024) : k0_pay4 g w u v (ix2 i j) = delta (w (ix2 i j)) (g (ix2 j i)) (u (ix2 i j)) (v (ix2 i j)) := by
  pointwise [k0_pay4, mom_at, vel_at]
  rfl

end pay

variable (t : Fin cfg0.N)

theorem blk0 (i : Fin 512) (j : Fin 1024) (h : t.val * 512 + i.val < 1024) :
    (iblk m c 0 t : Vec Ideal S512x1024 .f32) (ix2 i j) = W m c (ix2 ⟨t.val * 512 + i.val, h⟩ j) := by
  blk_point [iblk, V, idx t]
theorem blk2 (i : Fin 512) (j : Fin 1024) (h : t.val * 512 + i.val < 1024) :
    (iblk m c 2 t : Vec Ideal S512x1024 .f32) (ix2 i j) = M m c (ix2 ⟨t.val * 512 + i.val, h⟩ j) := by
  blk_point [iblk, V, idx t]
theorem blk3 (i : Fin 512) (j : Fin 1024) (h : t.val * 512 + i.val < 1024) :
    (iblk m c 3 t : Vec Ideal S512x1024 .f32) (ix2 i j) = U m c (ix2 ⟨t.val * 512 + i.val, h⟩ j) := by
  blk_point [iblk, V, idx t]
theorem blk1 (i : Fin 512) (j : Fin 1024) (h : t.val * 512 + i.val < 1024) :
    (iblk m c 1 t : Vec Ideal S1024x512 .f32) (ix2 j i) = gr (Z m c) ⟨t.val * 512 + i.val, h⟩ j := by
  unfold gr
  blk_point [iblk, V, idx t]

theorem out4 : out0_4 (iblk m c 0 t) (iblk m c 1 t) (iblk m c 2 t) (iblk m c 3 t) = k0_pay1 (iblk m c 1 t) := by
  unfold out0_4; frame_out
theorem out5 : out0_5 (iblk m c 0 t) (iblk m c 1 t) (iblk m c 2 t) (iblk m c 3 t) = k0_pay4 (iblk m c 1 t) (iblk m c 0 t) (iblk m c 2 t) (iblk m c 3 t) := by
  unfold out0_5; frame_out
theorem out6 : out0_6 (iblk m c 0 t) (iblk m c 1 t) (iblk m c 2 t) (iblk m c 3 t) = k0_pay2 (iblk m c 1 t) (iblk m c 2 t) := by
  unfold out0_6; frame_out
theorem out7 : out0_7 (iblk m c 0 t) (iblk m c 1 t) (iblk m c 2 t) (iblk m c 3 t) = k0_pay3 (iblk m c 1 t) (iblk m c 3 t) := by
  unfold out0_7; frame_out

theorem emb4 (i : Fin 512) (j : Fin 1024) (h : t.val * 512 + i.val < 1024) : (win0_4.blk t).view.emb (ix2 i j) = ix2 ⟨t.val * 512 + i.val, h⟩ j := by blk_ext [idx t]
theorem emb5 (i : Fin 512) (j : Fin 1024) (h : t.val * 512 + i.val < 1024) : (win0_5.blk t).view.emb (ix2 i j) = ix2 ⟨t.val * 512 + i.val, h⟩ j := by blk_ext [idx t]
theorem emb6 (i : Fin 512) (j : Fin 1024) (h : t.val * 512 + i.val < 1024) : (win0_6.blk t).view.emb (ix2 i j) = ix2 ⟨t.val * 512 + i.val, h⟩ j := by blk_ext [idx t]
theorem emb7 (i : Fin 512) (j : Fin 1024) (h : t.val * 512 + i.val < 1024) : (win0_7.blk t).view.emb (ix2 i j) = ix2 ⟨t.val * 512 + i.val, h⟩ j := by blk_ext [idx t]

theorem final4 : (dats m 0 c).arrAt 4 cfg0.N = (fun x => gr (Z m c) (x 0) (x 1) : FVec Ideal S1024x1024 .f32) := by
  refine (dats m 0 c).arrAt_eq_of_covers 4 _ (by decide +kernel) fun t hf y => ?_
  blk_simp
  rw [after0_4, out4]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb4 t i j h, k0_pay1_at, blk1 m c t i j h]
  rfl
theorem final5 : (dats m 0 c).arrAt 5 cfg0.N = (fun x => dl (W m c) (M m c) (U m c) (Z m c) (x 0) (x 1) : FVec Ideal S1024x1024 .f32) := by
  refine (dats m 0 c).arrAt_eq_of_covers 5 _ (by decide +kernel) fun t hf y => ?_
  blk_simp
  rw [after0_5, out5]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S1024x1024 .f32) := by
  refine (dats m 0 c).arrAt_eq_of_covers 6 _ (by decide +kernel) fun t hf y => ?_
  blk_simp
  rw [after0_6, out6]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb6 t i j h, mom_at, blk1 m c t i j h, blk2 m c t i j h]
  rfl
theorem final7 : (dats m 0 c).arrAt 7 cfg0.N = (fun x => nv (U m c) (Z m c) (x 0) (x 1) : FVec Ideal S1024x1024 .f32) := by
  refine (dats m 0 c).arrAt_eq_of_covers 7 _ (by decide +kernel) fun t hf y => ?_
  blk_simp
  rw [after0_7, out7]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb7 t i j h, vel_at, blk1 m c t i j h, blk3 m c t i j h]
  rfl

end Cert.AdamUpIdeal.Value
-- ==== Proof.AdamUpRef.lean ====
/- What the reference's optimiser computes for w_up, read stage by stage at an entry. -/
module

public import proofs.«01_k».proof.Proof.AdamUpVal
public import proofs.«01_k».proof.Proof.Gen.AdamUpRefIdeal.Run
public import proofs.«01_k».proof.Proof.Gen.AdamUpRefIdeal.Read

@[expose] public section

set_option maxRecDepth 16384

noncomputable section

namespace Cert.AdamUpRefIdeal.Value

open Cert.AdamUpRefIdeal Cert.AdamUpRefIdeal.Gen Idealize.ShloMosaic Idealize.ShloMosaic.TcCoe Idealize.SL.Sem
open Cert.AdamUpRefIdeal.Read Cert.Adam Cert.AdamUpIdeal.Value

variable (X0 X1 X2 : FVec Ideal S1024x1024 .f32) (X3 : FVec Ideal S2048x1024 .f32)

theorem g_at (i : Fin 1024) (j : Fin 1024) : val_main_v1 (F := Ideal) X3 (ix2 i j) = gr X3 i j := by
  pointwise [val_main_v1, val_main_v0]
  rfl
theorem m_at (i : Fin 1024) (j : Fin 1024) : val_main_v6 (F := Ideal) X1 X3 (ix2 i j) = nm X1 X3 i j := by
  pointwise [val_main_v6, val_main_v5, val_main_v4, val_main_v3, val_main_v2, val_main_cst, val_main_cst_0, g_at]
  rfl
theorem v_at (i : Fin 1024) (j : Fin 1024) : val_main_v12 (F := Ideal) X2 X3 (ix2 i j) = nv X2 X3 i j := by
  pointwise [val_main_v12, val_main_v11, val_main_v10, val_main_v9, val_main_v8, val_main_v7, val_main_cst_1, val_main_cst_2, g_at]
  rfl
theorem d_at (i : Fin 1024) (j : Fin 1024) : val_main_v25 (F := Ideal) X0 X1 X2 X3 (ix2 i j) = dl X0 X1 X2 X3 i j := by
  pointwise [val_main_v25, val_main_v24, val_main_v23, val_main_v22, val_main_v21, val_main_v20, val_main_v19, val_main_v18, val_main_v17, val_main_v16, val_main_v15, val_main_v14, val_main_v13, val_main_cst_3, val_main_cst_4, val_main_cst_5, val_main_cst_6, val_main_cst_7, m_at, v_at]
  rfl
theorem v1_at (i : Fin 1024) (j : Fin 1024) : val_main_v1 (F := Ideal) X3 (ix2 i j) = gr X3 i j := g_at X3 i j
theorem v25_at (i : Fin 1024) (j : Fin 1024) : val_main_v25 (F := Ideal) X0 X1 X2 X3 (ix2 i j) = dl X0 X1 X2 X3 i j := d_at X0 X1 X2 X3 i j
theorem v6_at (i : Fin 1024) (j : Fin 1024) : val_main_v6 (F := Ideal) X1 X3 (ix2 i j) = nm X1 X3 i j := m_at X1 X3 i j
theorem v12_at (i : Fin 1024) (j : Fin 1024) : val_main_v12 (F := Ideal) X2 X3 (ix2 i j) = nv X2 X3 i j := v_at X2 X3 i j

end Cert.AdamUpRefIdeal.Value
-- ==== Proof.AdamDownVal.lean ====
/- The arrays the optimiser's kernel for w_down leaves, as functions of the arguments. -/
module

public import proofs.«01_k».proof.Proof.AdamMath
public import proofs.«01_k».proof.Proof.Gen.AdamDownIdeal.Value
public import Idealize.ShloMosaic.Lib.Pipeline.ValueKit

@[expose] public section

set_option maxRecDepth 16384

noncomputable section

namespace Cert.AdamDownIdeal.Value

open Cert.AdamDownIdeal Cert.AdamDownIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S1024x1024 .f32 := m ((c : Thread nD τ).loc main_arg0)
abbrev M : FVec Ideal S1024x1024 .f32 := m ((c : Thread nD τ).loc main_arg1)
abbrev U : FVec Ideal S1024x1024 .f32 := m ((c : Thread nD τ).loc main_arg2)
abbrev Z : FVec Ideal S2048x1024 .f32 := m ((c : Thread nD τ).loc main_arg3)

/-- The gradient's entry, and what the kernel leaves at an entry. -/
def gr (Z : FVec Ideal S2048x1024 .f32) (i : Fin 1024) (j : Fin 1024) : EReal := Z (ix2 ⟨1024 + i.val, by omega⟩ j)
def nm (M : FVec Ideal S1024x1024 .f32) (Z : FVec Ideal S2048x1024 .f32) (i : Fin 1024) (j : Fin 1024) : EReal :=
  mom (gr Z i j) (M (ix2 i j))
def nv (U : FVec Ideal S1024x1024 .f32) (Z : FVec Ideal S2048x1024 .f32) (i : Fin 1024) (j : Fin 1024) : EReal :=
  vel (gr Z i j) (U (ix2 i j))
def dl (W M U : FVec Ideal S1024x1024 .f32) (Z : FVec Ideal S2048x1024 .f32) (i : Fin 1024) (j : Fin 1024) : EReal :=
  delta (W (ix2 i j)) (gr Z i j) (M (ix2 i j)) (U (ix2 i j))

theorem idx : ∀ t : Fin cfg0.N, win0_0.index t = ![t.val, 0] ∧ win0_1.index t = ![2 + t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S512x1024 .f32) (w u v : Vec Ideal S512x1024 .f32)

theorem mom_at (i : Fin 512) (j : Fin 1024) : k0_pay1 g u (ix2 i j) = mom (g (ix2 i j)) (u (ix2 i j)) := by
  pointwise [k0_pay1]
  rfl
theorem vel_at (i : Fin 512) (j : Fin 1024) : k0_pay2 g v (ix2 i j) = vel (g (ix2 i j)) (v (ix2 i j)) := by
  pointwise [k0_pay2]
  rfl
theorem delta_at (i : Fin 512) (j : Fin 1024) : k0_pay3 g w u v (ix2 i j) = delta (w (ix2 i j)) (g (ix2 i j)) (u (ix2 i j)) (v (ix2 i j)) := by
  pointwise [k0_pay3, mom_at, vel_at]
  rfl

end pay

variable (t : Fin cfg0.N)

theorem blk0 (i : Fin 512) (j : Fin 1024) (h : t.val * 512 + i.val < 1024) :
    (iblk m c 0 t : Vec Ideal S512x1024 .f32) (ix2 i j) = W m c (ix2 ⟨t.val * 512 + i.val, h⟩ j) := by
  blk_point [iblk, V, idx t]
theorem blk2 (i : Fin 512) (j : Fin 1024) (h : t.val * 512 + i.val < 1024) :
    (iblk m c 2 t : Vec Ideal S512x1024 .f32) (ix2 i j) = M m c (ix2 ⟨t.val * 512 + i.val, h⟩ j) := by
  blk_point [iblk, V, idx t]
theorem blk3 (i : Fin 512) (j : Fin 1024) (h : t.val * 512 + i.val < 1024) :
    (iblk m c 3 t : Vec Ideal S512x1024 .f32) (ix2 i j) = U m c (ix2 ⟨t.val * 512 + i.val, h⟩ j) := by
  blk_point [iblk, V, idx t]
theorem blk1 (i : Fin 512) (j : Fin 1024) (h : t.val * 512 + i.val < 1024) :
    (iblk m c 1 t : Vec Ideal S512x1024 .f32) (ix2 i j) = gr (Z m c) ⟨t.val * 512 + i.val, h⟩ j := by
  unfold gr
  blk_point [iblk, V, idx t]

theorem out4 : out0_4 (iblk m c 0 t) (iblk m c 1 t) (iblk m c 2 t) (iblk m c 3 t) = (iblk m c 1 t : Vec Ideal S512x1024 .f32) := by
  unfold out0_4; frame_out
theorem out5 : out0_5 (iblk m c 0 t) (iblk m c 1 t) (iblk m c 2 t) (iblk m c 3 t) = k0_pay3 (iblk m c 1 t) (iblk m c 0 t) (iblk m c 2 t) (iblk m c 3 t) := by
  unfold out0_5; frame_out
theorem out6 : out0_6 (iblk m c 0 t) (iblk m c 1 t) (iblk m c 2 t) (iblk m c 3 t) = k0_pay1 (iblk m c 1 t) (iblk m c 2 t) := by
  unfold out0_6; frame_out
theorem out7 : out0_7 (iblk m c 0 t) (iblk m c 1 t) (iblk m c 2 t) (iblk m c 3 t) = k0_pay2 (iblk m c 1 t) (iblk m c 3 t) := by
  unfold out0_7; frame_out

theorem emb4 (i : Fin 512) (j : Fin 1024) (h : t.val * 512 + i.val < 1024) : (win0_4.blk t).view.emb (ix2 i j) = ix2 ⟨t.val * 512 + i.val, h⟩ j := by blk_ext [idx t]
theorem emb5 (i : Fin 512) (j : Fin 1024) (h : t.val * 512 + i.val < 1024) : (win0_5.blk t).view.emb (ix2 i j) = ix2 ⟨t.val * 512 + i.val, h⟩ j := by blk_ext [idx t]
theorem emb6 (i : Fin 512) (j : Fin 1024) (h : t.val * 512 + i.val < 1024) : (win0_6.blk t).view.emb (ix2 i j) = ix2 ⟨t.val * 512 + i.val, h⟩ j := by blk_ext [idx t]
theorem emb7 (i : Fin 512) (j : Fin 1024) (h : t.val * 512 + i.val < 1024) : (win0_7.blk t).view.emb (ix2 i j) = ix2 ⟨t.val * 512 + i.val, h⟩ j := by blk_ext [idx t]

theorem final4 : (dats m 0 c).arrAt 4 cfg0.N = (fun x => gr (Z m c) (x 0) (x 1) : FVec Ideal S1024x1024 .f32) := by
  refine (dats m 0 c).arrAt_eq_of_covers 4 _ (by decide +kernel) fun t hf y => ?_
  blk_simp
  rw [after0_4, out4]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb4 t i j h, blk1 m c t i j h]
  rfl
theorem final5 : (dats m 0 c).arrAt 5 cfg0.N = (fun x => dl (W m c) (M m c) (U m c) (Z m c) (x 0) (x 1) : FVec Ideal S1024x1024 .f32) := by
  refine (dats m 0 c).arrAt_eq_of_covers 5 _ (by decide +kernel) fun t hf y => ?_
  blk_simp
  rw [after0_5, out5]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S1024x1024 .f32) := by
  refine (dats m 0 c).arrAt_eq_of_covers 6 _ (by decide +kernel) fun t hf y => ?_
  blk_simp
  rw [after0_6, out6]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb6 t i j h, mom_at, blk1 m c t i j h, blk2 m c t i j h]
  rfl
theorem final7 : (dats m 0 c).arrAt 7 cfg0.N = (fun x => nv (U m c) (Z m c) (x 0) (x 1) : FVec Ideal S1024x1024 .f32) := by
  refine (dats m 0 c).arrAt_eq_of_covers 7 _ (by decide +kernel) fun t hf y => ?_
  blk_simp
  rw [after0_7, out7]
  have hN : t.val < 2 := lt_of_lt_of_le t.isLt (le_of_eq N_0)
  obtain ⟨i, j, rfl⟩ : ∃ (i : Fin 512) (j : Fin 1024), y = ix2 i j := ⟨y 0, y 1, eq_ix2 y⟩
  have h : t.val * 512 + i.val < 1024 := by omega
  rw [emb7 t i j h, vel_at, blk1 m c t i j h, blk3 m c t i j h]
  rfl

end Cert.AdamDownIdeal.Value
-- ==== Proof.AdamDownRef.lean ====
/- What the reference's optimiser computes for w_down, read stage by stage at an entry. -/
module

public import proofs.«01_k».proof.Proof.AdamDownVal
public import proofs.«01_k».proof.Proof.Gen.AdamDownRefIdeal.Run
public import proofs.«01_k».proof.Proof.Gen.AdamDownRefIdeal.Read

@[expose] public section

set_option maxRecDepth 16384

noncomputable section

namespace Cert.AdamDownRefIdeal.Value

open Cert.AdamDownRefIdeal Cert.AdamDownRefIdeal.Gen Idealize.ShloMosaic Idealize.ShloMosaic.TcCoe Idealize.SL.Sem
open Cert.AdamDownRefIdeal.Read Cert.Adam Cert.AdamDownIdeal.Value

variable (X0 X1 X2 : FVec Ideal S1024x1024 .f32) (X3 : FVec Ideal S2048x1024 .f32)

theorem g_at (i : Fin 1024) (j : Fin 1024) : val_main_v0 (F := Ideal) X3 (ix2 i j) = gr X3 i j := by
  pointwise [val_main_v0]
  rfl
theorem m_at (i : Fin 1024) (j : Fin 1024) : val_main_v5 (F := Ideal) X1 X3 (ix2 i j) = nm X1 X3 i j := by
  pointwise [val_main_v5, val_main_v4, val_main_v3, val_main_v2, val_main_v1, val_main_cst, val_main_cst_0, g_at]
  rfl
theorem v_at (i : Fin 1024) (j : Fin 1024) : val_main_v11 (F := Ideal) X2 X3 (ix2 i j) = nv X2 X3 i j := by
  pointwise [val_main_v11, val_main_v10, val_main_v9, val_main_v8, val_main_v7, val_main_v6, val_main_cst_1, val_main_cst_2, g_at]
  rfl
theorem d_at (i : Fin 1024) (j : Fin 1024) : val_main_v24 (F := Ideal) X0 X1 X2 X3 (ix2 i j) = dl X0 X1 X2 X3 i j := by
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, m_at, v_at]
  rfl
theorem v0_at (i : Fin 1024) (j : Fin 1024) : val_main_v0 (F := Ideal) X3 (ix2 i j) = gr X3 i j := g_at X3 i j
theorem v24_at (i : Fin 1024) (j : Fin 1024) : val_main_v24 (F := Ideal) X0 X1 X2 X3 (ix2 i j) = dl X0 X1 X2 X3 i j := d_at X0 X1 X2 X3 i j
theorem v5_at (i : Fin 1024) (j : Fin 1024) : val_main_v5 (F := Ideal) X1 X3 (ix2 i j) = nm X1 X3 i j := m_at X1 X3 i j
theorem v11_at (i : Fin 1024) (j : Fin 1024) : val_main_v11 (F := Ideal) X2 X3 (ix2 i j) = nv X2 X3 i j := v_at X2 X3 i j

end Cert.AdamDownRefIdeal.Value
-- ==== Proof.AdamInVal.lean ====
/- The arrays the optimiser's kernel for w_in leaves, as functions of the arguments. -/
module

public import proofs.«01_k».proof.Proof.AdamMath
public import proofs.«01_k».proof.Proof.Gen.AdamInIdeal.Value
public import Idealize.ShloMosaic.Lib.Pipeline.ValueKit

@[expose] public section

set_option maxRecDepth 16384

noncomputable section

namespace Cert.AdamInIdeal.Value

open Cert.AdamInIdeal Cert.AdamInIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S1024x776 .f32 := m ((c : Thread nD τ).loc main_arg0)
abbrev M : FVec Ideal S1024x776 .f32 := m ((c : Thread nD τ).loc main_arg1)
abbrev U : FVec Ideal S1024x776 .f32 := m ((c : Thread nD τ).loc main_arg2)
abbrev Z : FVec Ideal S800x1024 .f32 := m ((c : Thread nD τ).loc main_arg3)

/-- The gradient's entry, and what the kernel leaves at an entry. -/
def gr (Z : FVec Ideal S800x1024 .f32) (i : Fin 776) (j : Fin 1024) : EReal := Z (ix2 ⟨i.val, by omega⟩ j)
def nm (M : FVec Ideal S1024x776 .f32) (Z : FVec Ideal S800x1024 .f32) (i : Fin 776) (j : Fin 1024) : EReal :=
  mom (gr Z i j) (M (ix2 j i))
def nv (U : FVec Ideal S1024x776 .f32) (Z : FVec Ideal S800x1024 .f32) (i : Fin 776) (j : Fin 1024) : EReal :=
  vel (gr Z i j) (U (ix2 j i))
def dl (W M U : FVec Ideal S1024x776 .f32) (Z : FVec Ideal S800x1024 .f32) (i : Fin 776) (j : Fin 1024) : EReal :=
  delta (W (ix2 j i)) (gr Z i j) (M (ix2 j i)) (U (ix2 j i))

theorem idx : ∀ t : Fin cfg0.N, win0_0.index t = ![0, t.val] ∧ win0_1.index t = ![0, t.val]
    ∧ win0_2.index t = ![0, t.val] ∧ win0_3.index t = ![0, t.val] ∧ win0_4.index t = ![0, t.val] ∧ win0_5.index t = ![0, t.val]
    ∧ win0_6.index t = ![0, t.val] ∧ win0_7.index t = ![0, t.val] :=
  (by decide +kernel : ∀ t : Fin grid0.N, _)

section pay

variable (g : Vec Ideal S776x512 .f32) (w u v : Vec Ideal S776x512 .f32)

theorem mom_at (i : Fin 776) (j : Fin 512) : k0_pay1 g u (ix2 i j) = mom (g (ix2 i j)) (u (ix2 i j)) := by
  pointwise [k0_pay1]
  rfl
theorem vel_at (i : Fin 776) (j : Fin 512) : k0_pay2 g v (ix2 i j) = vel (g (ix2 i j)) (v (ix2 i j)) := by
  pointwise [k0_pay2]
  rfl
theorem delta_at (i : Fin 776) (j : Fin 512) : k0_pay3 g w u v (ix2 i j) = delta (w (ix2 i j)) (g (ix2 i j)) (u (ix2 i j)) (v (ix2 i j)) := by
  pointwise [k0_pay3, mom_at, vel_at]
  rfl

end pay

theorem w_at (i : Fin 776) (j : Fin 1024) : (V m c main_v0 : FVec Ideal S776x1024 .f32) (ix2 i j) = W m c (ix2 j i) := by
  entry_read
  pointwise
theorem m_at (i : Fin 776) (j : Fin 1024) : (V m c main_v1 : FVec Ideal S776x1024 .f32) (ix2 i j) = M m c (ix2 j i) := by
  entry_read
  pointwise
theorem u_at (i : Fin 776) (j : Fin 1024) : (V m c main_v2 : FVec Ideal S776x1024 .f32) (ix2 i j) = U m c (ix2 j i) := by
  entry_read
  pointwise
variable (t : Fin cfg0.N)

theorem blk0 (i : Fin 776) (j : Fin 512) (h : t.val * 512 + j.val < 1024) :
    (iblk m c 0 t : Vec Ideal S776x512 .f32) (ix2 i j) = W m c (ix2 ⟨t.val * 512 + j.val, h⟩ i) := by
  refine Eq.trans ?_ (w_at m c _ _)
  blk_simp [iblk]
  exact congrArg _ (by blk_ext [idx t])
theorem blk2 (i : Fin 776) (j : Fin 512) (h : t.val * 512 + j.val < 1024) :
    (iblk m c 2 t : Vec Ideal S776x512 .f32) (ix2 i j) = M m c (ix2 ⟨t.val * 512 + j.val, h⟩ i) := by
  refine Eq.trans ?_ (m_at m c _ _)
  blk_simp [iblk]
  exact congrArg _ (by blk_ext [idx t])
theorem blk3 (i : Fin 776) (j : Fin 512) (h : t.val * 512 + j.val < 1024) :
    (iblk m c 3 t : Vec Ideal S776x512 .f32) (ix2 i j) = U m c (ix2 ⟨t.val * 512 + j.val, h⟩ i) := by
  refine Eq.trans ?_ (u_at m c _ _)
  blk_simp [iblk]
  exact congrArg _ (by blk_ext [idx t])
theorem blk1 (i : Fin 776) (j : Fin 512) (h : t.val * 512 + j.val < 1024) :
    (X0_1 m c t : Vec Ideal S776x512 .f32) (ix2 i j) = gr (Z m c) i ⟨t.val * 512 + j.val, h⟩ := by
  unfold X0_1 Pipeline.Window.fill
  rw [dif_pos (moved0_1 t _)]
  unfold gr
  blk_point [iblk, V, idx t]

theorem out4 : (outsAt0 m c t).1 = (X0_1 m c t : Vec Ideal S776x512 .f32) := by
  unfold outsAt0; frame_out
theorem out5 : (outsAt0 m c t).2.1 = k0_pay3 (X0_1 m c t) (iblk m c 0 t) (iblk m c 2 t) (iblk m c 3 t) := by
  unfold outsAt0; frame_out
theorem out6 : (outsAt0 m c t).2.2.1 = k0_pay1 (X0_1 m c t) (iblk m c 2 t) := by
  unfold outsAt0; frame_out
theorem out7 : (outsAt0 m c t).2.2.2 = k0_pay2 (X0_1 m c t) (iblk m c 3 t) := by
  unfold outsAt0; frame_out

theorem emb4 (i : Fin 776) (j : Fin 512) (h : t.val * 512 + j.val < 1024) : (win0_4.blk t).view.emb (ix2 i j) = ix2 i ⟨t.val * 512 + j.val, h⟩ := by blk_ext [idx t]
theorem emb5 (i : Fin 776) (j : Fin 512) (h : t.val * 512 + j.val < 1024) : (win0_5.blk t).view.emb (ix2 i j) = ix2 i ⟨t.val * 512 + j.val, h⟩ := by blk_ext [idx t]
theorem emb6 (i : Fin 776) (j : Fin 512) (h : t.val * 512 + j.val < 1024) : (win0_6.blk t).view.emb (ix2 i j) = ix2 i ⟨t.val * 512 + j.val, h⟩ := by blk_ext [idx t]
theorem emb7 (i : Fin 776) (j : Fin 512) (h : t.val * 512 + j.val < 1024) : (win0_7.blk t).view.emb (ix2 i j) = ix2 i ⟨t.val * 512 + j.val, h⟩ := by blk_ext [idx t]

theorem final4 : (dats m 0 c).arrAt 4 cfg0.N = (fun x => gr (Z m c) (x 0) (x 1) : FVec Ideal S776x1024 .f32) := by
  refine (dats m 0 c).arrAt_eq_of_covers 4 _ (by decide +kernel) fun t hf y => ?_
  blk_simp
  rw [after0_4, out4]
  have hN : t.val < 2 := lt_of_lt_of_le t.isLt (le_of_eq N_0)
  obtain ⟨i, j, rfl⟩ : ∃ (i : Fin 776) (j : Fin 512), y = ix2 i j := ⟨y 0, y 1, eq_ix2 y⟩
  have h : t.val * 512 + j.val < 1024 := by omega
  rw [emb4 t i j h, blk1 m c t i j h]
  rfl
theorem final5 : (dats m 0 c).arrAt 5 cfg0.N = (fun x => dl (W m c) (M m c) (U m c) (Z m c) (x 0) (x 1) : FVec Ideal S776x1024 .f32) := by
  refine (dats m 0 c).arrAt_eq_of_covers 5 _ (by decide +kernel) fun t hf y => ?_
  blk_simp
  rw [after0_5, out5]
  have hN : t.val < 2 := lt_of_lt_of_le t.isLt (le_of_eq N_0)
  obtain ⟨i, j, rfl⟩ : ∃ (i : Fin 776) (j : Fin 512), y = ix2 i j := ⟨y 0, y 1, eq_ix2 y⟩
  have h : t.val * 512 + j.val < 1024 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S776x1024 .f32) := by
  refine (dats m 0 c).arrAt_eq_of_covers 6 _ (by decide +kernel) fun t hf y => ?_
  blk_simp
  rw [after0_6, out6]
  have hN : t.val < 2 := lt_of_lt_of_le t.isLt (le_of_eq N_0)
  obtain ⟨i, j, rfl⟩ : ∃ (i : Fin 776) (j : Fin 512), y = ix2 i j := ⟨y 0, y 1, eq_ix2 y⟩
  have h : t.val * 512 + j.val < 1024 := by omega
  rw [emb6 t i j h, mom_at, blk1 m c t i j h, blk2 m c t i j h]
  rfl
theorem final7 : (dats m 0 c).arrAt 7 cfg0.N = (fun x => nv (U m c) (Z m c) (x 0) (x 1) : FVec Ideal S776x1024 .f32) := by
  refine (dats m 0 c).arrAt_eq_of_covers 7 _ (by decide +kernel) fun t hf y => ?_
  blk_simp
  rw [after0_7, out7]
  have hN : t.val < 2 := lt_of_lt_of_le t.isLt (le_of_eq N_0)
  obtain ⟨i, j, rfl⟩ : ∃ (i : Fin 776) (j : Fin 512), y = ix2 i j := ⟨y 0, y 1, eq_ix2 y⟩
  have h : t.val * 512 + j.val < 1024 := by omega
  rw [emb7 t i j h, vel_at, blk1 m c t i j h, blk3 m c t i j h]
  rfl

end Cert.AdamInIdeal.Value
-- ==== Proof.AdamInRef.lean ====
/- What the reference's optimiser computes for w_in, read stage by stage at an entry. -/
module

public import proofs.«01_k».proof.Proof.AdamInVal
public import proofs.«01_k».proof.Proof.Gen.AdamInRefIdeal.Run
public import proofs.«01_k».proof.Proof.Gen.AdamInRefIdeal.Read

@[expose] public section

set_option maxRecDepth 16384

noncomputable section

namespace Cert.AdamInRefIdeal.Value

open Cert.AdamInRefIdeal Cert.AdamInRefIdeal.Gen Idealize.ShloMosaic Idealize.ShloMosaic.TcCoe Idealize.SL.Sem
open Cert.AdamInRefIdeal.Read Cert.Adam Cert.AdamInIdeal.Value

variable (X0 X1 X2 : FVec Ideal S1024x776 .f32) (X3 : FVec Ideal S800x1024 .f32)

theorem g_at (i : Fin 1024) (j : Fin 776) : val_main_v1 (F := Ideal) X3 (ix2 i j) = gr X3 j i := by
  pointwise [val_main_v1, val_main_v0]
  rfl
theorem m_at (i : Fin 1024) (j : Fin 776) : val_main_v6 (F := Ideal) X1 X3 (ix2 i j) = nm X1 X3 j i := by
  pointwise [val_main_v6, val_main_v5, val_main_v4, val_main_v3, val_main_v2, val_main_cst, val_main_cst_0, g_at]
  rfl
theorem v_at (i : Fin 1024) (j : Fin 776) : val_main_v12 (F := Ideal) X2 X3 (ix2 i j) = nv X2 X3 j i := by
  pointwise [val_main_v12, val_main_v11, val_main_v10, val_main_v9, val_main_v8, val_main_v7, val_main_cst_1, val_main_cst_2, g_at]
  rfl
theorem d_at (i : Fin 1024) (j : Fin 776) : val_main_v25 (F := Ideal) X0 X1 X2 X3 (ix2 i j) = dl X0 X1 X2 X3 j i := by
  pointwise [val_main_v25, val_main_v24, val_main_v23, val_main_v22, val_main_v21, val_main_v20, val_main_v19, val_main_v18, val_main_v17, val_main_v16, val_main_v15, val_main_v14, val_main_v13, val_main_cst_3, val_main_cst_4, val_main_cst_5, val_main_cst_6, val_main_cst_7, m_at, v_at]
  rfl
theorem v26_at (i : Fin 776) (j : Fin 1024) : val_main_v26 (F := Ideal) X3 (ix2 i j) = gr X3 i j := by
  pointwise [val_main_v26, g_at]
theorem v27_at (i : Fin 776) (j : Fin 1024) : val_main_v27 (F := Ideal) X0 X1 X2 X3 (ix2 i j) = dl X0 X1 X2 X3 i j := by
  pointwise [val_main_v27, d_at]
theorem v28_at (i : Fin 776) (j : Fin 1024) : val_main_v28 (F := Ideal) X1 X3 (ix2 i j) = nm X1 X3 i j := by
  pointwise [val_main_v28, m_at]
theorem v29_at (i : Fin 776) (j : Fin 1024) : val_main_v29 (F := Ideal) X2 X3 (ix2 i j) = nv X2 X3 i j := by
  pointwise [val_main_v29, v_at]

end Cert.AdamInRefIdeal.Value
-- ==== Proof.AdamOutVal.lean ====
/- The arrays the optimiser's kernel for w_out leaves, as functions of the arguments. -/
module

public import proofs.«01_k».proof.Proof.AdamMath
public import proofs.«01_k».proof.Proof.Gen.AdamOutIdeal.Value
public import Idealize.ShloMosaic.Lib.Pipeline.ValueKit

@[expose] public section

set_option maxRecDepth 16384

noncomputable section

namespace Cert.AdamOutIdeal.Value

open Cert.AdamOutIdeal Cert.AdamOutIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S256x1024 .f32 := m ((c : Thread nD τ).loc main_arg0)
abbrev M : FVec Ideal S256x1024 .f32 := m ((c : Thread nD τ).loc main_arg1)
abbrev U : FVec Ideal S256x1024 .f32 := m ((c : Thread nD τ).loc main_arg2)
abbrev Z : FVec Ideal S1280x1024 .f32 := m ((c : Thread nD τ).loc main_arg3)

/-- The gradient's entry, and what the kernel leaves at an entry. -/
def gr (Z : FVec Ideal S1280x1024 .f32) (i : Fin 256) (j : Fin 1024) : EReal := Z (ix2 ⟨i.val, by omega⟩ j)
def nm (M : FVec Ideal S256x1024 .f32) (Z : FVec Ideal S1280x1024 .f32) (i : Fin 256) (j : Fin 1024) : EReal :=
  mom (gr Z i j) (M (ix2 i j))
def nv (U : FVec Ideal S256x1024 .f32) (Z : FVec Ideal S1280x1024 .f32) (i : Fin 256) (j : Fin 1024) : EReal :=
  vel (gr Z i j) (U (ix2 i j))
def dl (W M U : FVec Ideal S256x1024 .f32) (Z : FVec Ideal S1280x1024 .f32) (i : Fin 256) (j : Fin 1024) : EReal :=
  delta (W (ix2 i j)) (gr Z i j) (M (ix2 i j)) (U (ix2 i j))

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S256x1024 .f32) (w u v : Vec Ideal S256x1024 .f32)

theorem mom_at (i : Fin 256) (j : Fin 1024) : k0_pay1 g u (ix2 i j) = mom (g (ix2 i j)) (u (ix2 i j)) := by
  pointwise [k0_pay1]
  rfl
theorem vel_at (i : Fin 256) (j : Fin 1024) : k0_pay2 g v (ix2 i j) = vel (g (ix2 i j)) (v (ix2 i j)) := by
  pointwise [k0_pay2]
  rfl
theorem delta_at (i : Fin 256) (j : Fin 1024) : k0_pay3 g w u v (ix2 i j) = delta (w (ix2 i j)) (g (ix2 i j)) (u (ix2 i j)) (v (ix2 i j)) := by
  pointwise [k0_pay3, mom_at, vel_at]
  rfl

end pay

variable (t : Fin cfg0.N)

theorem blk0 (i : Fin 256) (j : Fin 1024) (h : t.val * 256 + i.val < 256) :
    (iblk m c 0 t : Vec Ideal S256x1024 .f32) (ix2 i j) = W m c (ix2 ⟨t.val * 256 + i.val, h⟩ j) := by
  blk_point [iblk, V, idx t]
theorem blk2 (i : Fin 256) (j : Fin 1024) (h : t.val * 256 + i.val < 256) :
    (iblk m c 2 t : Vec Ideal S256x1024 .f32) (ix2 i j) = M m c (ix2 ⟨t.val * 256 + i.val, h⟩ j) := by
  blk_point [iblk, V, idx t]
theorem blk3 (i : Fin 256) (j : Fin 1024) (h : t.val * 256 + i.val < 256) :
    (iblk m c 3 t : Vec Ideal S256x1024 .f32) (ix2 i j) = U m c (ix2 ⟨t.val * 256 + i.val, h⟩ j) := by
  blk_point [iblk, V, idx t]
theorem blk1 (i : Fin 256) (j : Fin 1024) (h : t.val * 256 + i.val < 256) :
    (iblk m c 1 t : Vec Ideal S256x1024 .f32) (ix2 i j) = gr (Z m c) ⟨t.val * 256 + i.val, h⟩ j := by
  unfold gr
  blk_point [iblk, V, idx t]

theorem out4 : out0_4 (iblk m c 0 t) (iblk m c 1 t) (iblk m c 2 t) (iblk m c 3 t) = (iblk m c 1 t : Vec Ideal S256x1024 .f32) := by
  unfold out0_4; frame_out
theorem out5 : out0_5 (iblk m c 0 t) (iblk m c 1 t) (iblk m c 2 t) (iblk m c 3 t) = k0_pay3 (iblk m c 1 t) (iblk m c 0 t) (iblk m c 2 t) (iblk m c 3 t) := by
  unfold out0_5; frame_out
theorem out6 : out0_6 (iblk m c 0 t) (iblk m c 1 t) (iblk m c 2 t) (iblk m c 3 t) = k0_pay1 (iblk m c 1 t) (iblk m c 2 t) := by
  unfold out0_6; frame_out
theorem out7 : out0_7 (iblk m c 0 t) (iblk m c 1 t) (iblk m c 2 t) (iblk m c 3 t) = k0_pay2 (iblk m c 1 t) (iblk m c 3 t) := by
  unfold out0_7; frame_out

theorem emb4 (i : Fin 256) (j : Fin 1024) (h : t.val * 256 + i.val < 256) : (win0_4.blk t).view.emb (ix2 i j) = ix2 ⟨t.val * 256 + i.val, h⟩ j := by blk_ext [idx t]
theorem emb5 (i : Fin 256) (j : Fin 1024) (h : t.val * 256 + i.val < 256) : (win0_5.blk t).view.emb (ix2 i j) = ix2 ⟨t.val * 256 + i.val, h⟩ j := by blk_ext [idx t]
theorem emb6 (i : Fin 256) (j : Fin 1024) (h : t.val * 256 + i.val < 256) : (win0_6.blk t).view.emb (ix2 i j) = ix2 ⟨t.val * 256 + i.val, h⟩ j := by blk_ext [idx t]
theorem emb7 (i : Fin 256) (j : Fin 1024) (h : t.val * 256 + i.val < 256) : (win0_7.blk t).view.emb (ix2 i j) = ix2 ⟨t.val * 256 + i.val, h⟩ j := by blk_ext [idx t]

theorem final4 : (dats m 0 c).arrAt 4 cfg0.N = (fun x => gr (Z m c) (x 0) (x 1) : FVec Ideal S256x1024 .f32) := by
  refine (dats m 0 c).arrAt_eq_of_covers 4 _ (by decide +kernel) fun t hf y => ?_
  blk_simp
  rw [after0_4, out4]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb4 t i j h, blk1 m c t i j h]
  rfl
theorem final5 : (dats m 0 c).arrAt 5 cfg0.N = (fun x => dl (W m c) (M m c) (U m c) (Z m c) (x 0) (x 1) : FVec Ideal S256x1024 .f32) := by
  refine (dats m 0 c).arrAt_eq_of_covers 5 _ (by decide +kernel) fun t hf y => ?_
  blk_simp
  rw [after0_5, out5]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S256x1024 .f32) := by
  refine (dats m 0 c).arrAt_eq_of_covers 6 _ (by decide +kernel) fun t hf y => ?_
  blk_simp
  rw [after0_6, out6]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb6 t i j h, mom_at, blk1 m c t i j h, blk2 m c t i j h]
  rfl
theorem final7 : (dats m 0 c).arrAt 7 cfg0.N = (fun x => nv (U m c) (Z m c) (x 0) (x 1) : FVec Ideal S256x1024 .f32) := by
  refine (dats m 0 c).arrAt_eq_of_covers 7 _ (by decide +kernel) fun t hf y => ?_
  blk_simp
  rw [after0_7, out7]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb7 t i j h, vel_at, blk1 m c t i j h, blk3 m c t i j h]
  rfl

end Cert.AdamOutIdeal.Value
-- ==== Proof.AdamOutRef.lean ====
/- What the reference's optimiser computes for w_out, read stage by stage at an entry. -/
module

public import proofs.«01_k».proof.Proof.AdamOutVal
public import proofs.«01_k».proof.Proof.Gen.AdamOutRefIdeal.Run
public import proofs.«01_k».proof.Proof.Gen.AdamOutRefIdeal.Read

@[expose] public section

set_option maxRecDepth 16384

noncomputable section

namespace Cert.AdamOutRefIdeal.Value

open Cert.AdamOutRefIdeal Cert.AdamOutRefIdeal.Gen Idealize.ShloMosaic Idealize.ShloMosaic.TcCoe Idealize.SL.Sem
open Cert.AdamOutRefIdeal.Read Cert.Adam Cert.AdamOutIdeal.Value

variable (X0 X1 X2 : FVec Ideal S256x1024 .f32) (X3 : FVec Ideal S1280x1024 .f32)

theorem g_at (i : Fin 256) (j : Fin 1024) : val_main_v0 (F := Ideal) X3 (ix2 i j) = gr X3 i j := by
  pointwise [val_main_v0]
  rfl
theorem m_at (i : Fin 256) (j : Fin 1024) : val_main_v5 (F := Ideal) X1 X3 (ix2 i j) = nm X1 X3 i j := by
  pointwise [val_main_v5, val_main_v4, val_main_v3, val_main_v2, val_main_v1, val_main_cst, val_main_cst_0, g_at]
  rfl
theorem v_at (i : Fin 256) (j : Fin 1024) : val_main_v11 (F := Ideal) X2 X3 (ix2 i j) = nv X2 X3 i j := by
  pointwise [val_main_v11, val_main_v10, val_main_v9, val_main_v8, val_main_v7, val_main_v6, val_main_cst_1, val_main_cst_2, g_at]
  rfl
theorem d_at (i : Fin 256) (j : Fin 1024) : val_main_v24 (F := Ideal) X0 X1 X2 X3 (ix2 i j) = dl X0 X1 X2 X3 i j := by
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, m_at, v_at]
  rfl
theorem v0_at (i : Fin 256) (j : Fin 1024) : val_main_v0 (F := Ideal) X3 (ix2 i j) = gr X3 i j := g_at X3 i j
theorem v24_at (i : Fin 256) (j : Fin 1024) : val_main_v24 (F := Ideal) X0 X1 X2 X3 (ix2 i j) = dl X0 X1 X2 X3 i j := d_at X0 X1 X2 X3 i j
theorem v5_at (i : Fin 256) (j : Fin 1024) : val_main_v5 (F := Ideal) X1 X3 (ix2 i j) = nm X1 X3 i j := m_at X1 X3 i j
theorem v11_at (i : Fin 256) (j : Fin 1024) : val_main_v11 (F := Ideal) X2 X3 (ix2 i j) = nv X2 X3 i j := v_at X2 X3 i j

end Cert.AdamOutRefIdeal.Value
-- ==== Proof.AdamXqVal.lean ====
/- The arrays the optimiser's kernel for w_xq leaves, as functions of the arguments. -/
module

public import proofs.«01_k».proof.Proof.AdamMath
public import proofs.«01_k».proof.Proof.Gen.AdamXqIdeal.Value
public import Idealize.ShloMosaic.Lib.Pipeline.ValueKit

@[expose] public section

set_option maxRecDepth 16384

noncomputable section

namespace Cert.AdamXqIdeal.Value

open Cert.AdamXqIdeal Cert.AdamXqIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S256x1024 .f32 := m ((c : Thread nD τ).loc main_arg0)
abbrev M : FVec Ideal S256x1024 .f32 := m ((c : Thread nD τ).loc main_arg1)
abbrev U : FVec Ideal S256x1024 .f32 := m ((c : Thread nD τ).loc main_arg2)
abbrev Z : FVec Ideal S1280x1024 .f32 := m ((c : Thread nD τ).loc main_arg3)

/-- The gradient's entry, and what the kernel leaves at an entry. -/
def gr (Z : FVec Ideal S1280x1024 .f32) (i : Fin 256) (j : Fin 1024) : EReal := Z (ix2 ⟨256 + i.val, by omega⟩ j)
def nm (M : FVec Ideal S256x1024 .f32) (Z : FVec Ideal S1280x1024 .f32) (i : Fin 256) (j : Fin 1024) : EReal :=
  mom (gr Z i j) (M (ix2 i j))
def nv (U : FVec Ideal S256x1024 .f32) (Z : FVec Ideal S1280x1024 .f32) (i : Fin 256) (j : Fin 1024) : EReal :=
  vel (gr Z i j) (U (ix2 i j))
def dl (W M U : FVec Ideal S256x1024 .f32) (Z : FVec Ideal S1280x1024 .f32) (i : Fin 256) (j : Fin 1024) : EReal :=
  delta (W (ix2 i j)) (gr Z i j) (M (ix2 i j)) (U (ix2 i j))

theorem idx : ∀ t : Fin cfg0.N, win0_0.index t = ![t.val, 0] ∧ win0_1.index t = ![1 + t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S256x1024 .f32) (w u v : Vec Ideal S256x1024 .f32)

theorem mom_at (i : Fin 256) (j : Fin 1024) : k0_pay1 g u (ix2 i j) = mom (g (ix2 i j)) (u (ix2 i j)) := by
  pointwise [k0_pay1]
  rfl
theorem vel_at (i : Fin 256) (j : Fin 1024) : k0_pay2 g v (ix2 i j) = vel (g (ix2 i j)) (v (ix2 i j)) := by
  pointwise [k0_pay2]
  rfl
theorem delta_at (i : Fin 256) (j : Fin 1024) : k0_pay3 g w u v (ix2 i j) = delta (w (ix2 i j)) (g (ix2 i j)) (u (ix2 i j)) (v (ix2 i j)) := by
  pointwise [k0_pay3, mom_at, vel_at]
  rfl

end pay

variable (t : Fin cfg0.N)

theorem blk0 (i : Fin 256) (j : Fin 1024) (h : t.val * 256 + i.val < 256) :
    (iblk m c 0 t : Vec Ideal S256x1024 .f32) (ix2 i j) = W m c (ix2 ⟨t.val * 256 + i.val, h⟩ j) := by
  blk_point [iblk, V, idx t]
theorem blk2 (i : Fin 256) (j : Fin 1024) (h : t.val * 256 + i.val < 256) :
    (iblk m c 2 t : Vec Ideal S256x1024 .f32) (ix2 i j) = M m c (ix2 ⟨t.val * 256 + i.val, h⟩ j) := by
  blk_point [iblk, V, idx t]
theorem blk3 (i : Fin 256) (j : Fin 1024) (h : t.val * 256 + i.val < 256) :
    (iblk m c 3 t : Vec Ideal S256x1024 .f32) (ix2 i j) = U m c (ix2 ⟨t.val * 256 + i.val, h⟩ j) := by
  blk_point [iblk, V, idx t]
theorem blk1 (i : Fin 256) (j : Fin 1024) (h : t.val * 256 + i.val < 256) :
    (iblk m c 1 t : Vec Ideal S256x1024 .f32) (ix2 i j) = gr (Z m c) ⟨t.val * 256 + i.val, h⟩ j := by
  unfold gr
  blk_point [iblk, V, idx t]

theorem out4 : out0_4 (iblk m c 0 t) (iblk m c 1 t) (iblk m c 2 t) (iblk m c 3 t) = (iblk m c 1 t : Vec Ideal S256x1024 .f32) := by
  unfold out0_4; frame_out
theorem out5 : out0_5 (iblk m c 0 t) (iblk m c 1 t) (iblk m c 2 t) (iblk m c 3 t) = k0_pay3 (iblk m c 1 t) (iblk m c 0 t) (iblk m c 2 t) (iblk m c 3 t) := by
  unfold out0_5; frame_out
theorem out6 : out0_6 (iblk m c 0 t) (iblk m c 1 t) (iblk m c 2 t) (iblk m c 3 t) = k0_pay1 (iblk m c 1 t) (iblk m c 2 t) := by
  unfold out0_6; frame_out
theorem out7 : out0_7 (iblk m c 0 t) (iblk m c 1 t) (iblk m c 2 t) (iblk m c 3 t) = k0_pay2 (iblk m c 1 t) (iblk m c 3 t) := by
  unfold out0_7; frame_out

theorem emb4 (i : Fin 256) (j : Fin 1024) (h : t.val * 256 + i.val < 256) : (win0_4.blk t).view.emb (ix2 i j) = ix2 ⟨t.val * 256 + i.val, h⟩ j := by blk_ext [idx t]
theorem emb5 (i : Fin 256) (j : Fin 1024) (h : t.val * 256 + i.val < 256) : (win0_5.blk t).view.emb (ix2 i j) = ix2 ⟨t.val * 256 + i.val, h⟩ j := by blk_ext [idx t]
theorem emb6 (i : Fin 256) (j : Fin 1024) (h : t.val * 256 + i.val < 256) : (win0_6.blk t).view.emb (ix2 i j) = ix2 ⟨t.val * 256 + i.val, h⟩ j := by blk_ext [idx t]
theorem emb7 (i : Fin 256) (j : Fin 1024) (h : t.val * 256 + i.val < 256) : (win0_7.blk t).view.emb (ix2 i j) = ix2 ⟨t.val * 256 + i.val, h⟩ j := by blk_ext [idx t]

theorem final4 : (dats m 0 c).arrAt 4 cfg0.N = (fun x => gr (Z m c) (x 0) (x 1) : FVec Ideal S256x1024 .f32) := by
  refine (dats m 0 c).arrAt_eq_of_covers 4 _ (by decide +kernel) fun t hf y => ?_
  blk_simp
  rw [after0_4, out4]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb4 t i j h, blk1 m c t i j h]
  rfl
theorem final5 : (dats m 0 c).arrAt 5 cfg0.N = (fun x => dl (W m c) (M m c) (U m c) (Z m c) (x 0) (x 1) : FVec Ideal S256x1024 .f32) := by
  refine (dats m 0 c).arrAt_eq_of_covers 5 _ (by decide +kernel) fun t hf y => ?_
  blk_simp
  rw [after0_5, out5]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S256x1024 .f32) := by
  refine (dats m 0 c).arrAt_eq_of_covers 6 _ (by decide +kernel) fun t hf y => ?_
  blk_simp
  rw [after0_6, out6]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb6 t i j h, mom_at, blk1 m c t i j h, blk2 m c t i j h]
  rfl
theorem final7 : (dats m 0 c).arrAt 7 cfg0.N = (fun x => nv (U m c) (Z m c) (x 0) (x 1) : FVec Ideal S256x1024 .f32) := by
  refine (dats m 0 c).arrAt_eq_of_covers 7 _ (by decide +kernel) fun t hf y => ?_
  blk_simp
  rw [after0_7, out7]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb7 t i j h, vel_at, blk1 m c t i j h, blk3 m c t i j h]
  rfl

end Cert.AdamXqIdeal.Value
-- ==== Proof.AdamXqRef.lean ====
/- What the reference's optimiser computes for w_xq, read stage by stage at an entry. -/
module

public import proofs.«01_k».proof.Proof.AdamXqVal
public import proofs.«01_k».proof.Proof.Gen.AdamXqRefIdeal.Run
public import proofs.«01_k».proof.Proof.Gen.AdamXqRefIdeal.Read

@[expose] public section

set_option maxRecDepth 16384

noncomputable section

namespace Cert.AdamXqRefIdeal.Value

open Cert.AdamXqRefIdeal Cert.AdamXqRefIdeal.Gen Idealize.ShloMosaic Idealize.ShloMosaic.TcCoe Idealize.SL.Sem
open Cert.AdamXqRefIdeal.Read Cert.Adam Cert.AdamXqIdeal.Value

variable (X0 X1 X2 : FVec Ideal S256x1024 .f32) (X3 : FVec Ideal S1280x1024 .f32)

theorem g_at (i : Fin 256) (j : Fin 1024) : val_main_v0 (F := Ideal) X3 (ix2 i j) = gr X3 i j := by
  pointwise [val_main_v0]
  rfl
theorem m_at (i : Fin 256) (j : Fin 1024) : val_main_v5 (F := Ideal) X1 X3 (ix2 i j) = nm X1 X3 i j := by
  pointwise [val_main_v5, val_main_v4, val_main_v3, val_main_v2, val_main_v1, val_main_cst, val_main_cst_0, g_at]
  rfl
theorem v_at (i : Fin 256) (j : Fin 1024) : val_main_v11 (F := Ideal) X2 X3 (ix2 i j) = nv X2 X3 i j := by
  pointwise [val_main_v11, val_main_v10, val_main_v9, val_main_v8, val_main_v7, val_main_v6, val_main_cst_1, val_main_cst_2, g_at]
  rfl
theorem d_at (i : Fin 256) (j : Fin 1024) : val_main_v24 (F := Ideal) X0 X1 X2 X3 (ix2 i j) = dl X0 X1 X2 X3 i j := by
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, m_at, v_at]
  rfl
theorem v0_at (i : Fin 256) (j : Fin 1024) : val_main_v0 (F := Ideal) X3 (ix2 i j) = gr X3 i j := g_at X3 i j
theorem v24_at (i : Fin 256) (j : Fin 1024) : val_main_v24 (F := Ideal) X0 X1 X2 X3 (ix2 i j) = dl X0 X1 X2 X3 i j := d_at X0 X1 X2 X3 i j
theorem v5_at (i : Fin 256) (j : Fin 1024) : val_main_v5 (F := Ideal) X1 X3 (ix2 i j) = nm X1 X3 i j := m_at X1 X3 i j
theorem v11_at (i : Fin 256) (j : Fin 1024) : val_main_v11 (F := Ideal) X2 X3 (ix2 i j) = nv X2 X3 i j := v_at X2 X3 i j

end Cert.AdamXqRefIdeal.Value
-- ==== Proof.AdamXkvVal.lean ====
/- The arrays the optimiser's kernel for w_xkv leaves, as functions of the arguments. -/
module

public import proofs.«01_k».proof.Proof.AdamMath
public import proofs.«01_k».proof.Proof.Gen.AdamXkvIdeal.Value
public import Idealize.ShloMosaic.Lib.Pipeline.ValueKit

@[expose] public section

set_option maxRecDepth 16384

noncomputable section

namespace Cert.AdamXkvIdeal.Value

open Cert.AdamXkvIdeal Cert.AdamXkvIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S1024x512 .f32 := m ((c : Thread nD τ).loc main_arg0)
abbrev M : FVec Ideal S1024x512 .f32 := m ((c : Thread nD τ).loc main_arg1)
abbrev U : FVec Ideal S1024x512 .f32 := m ((c : Thread nD τ).loc main_arg2)
abbrev Z : FVec Ideal S1280x1024 .f32 := m ((c : Thread nD τ).loc main_arg3)

/-- The gradient's entry, and what the kernel leaves at an entry. -/
def gr (Z : FVec Ideal S1280x1024 .f32) (i : Fin 1024) (j : Fin 512) : EReal := Z (ix2 ⟨512 + j.val, by omega⟩ i)
def nm (M : FVec Ideal S1024x512 .f32) (Z : FVec Ideal S1280x1024 .f32) (i : Fin 1024) (j : Fin 512) : EReal :=
  mom (gr Z i j) (M (ix2 i j))
def nv (U : FVec Ideal S1024x512 .f32) (Z : FVec Ideal S1280x1024 .f32) (i : Fin 1024) (j : Fin 512) : EReal :=
  vel (gr Z i j) (U (ix2 i j))
def dl (W M U : FVec Ideal S1024x512 .f32) (Z : FVec Ideal S1280x1024 .f32) (i : Fin 1024) (j : Fin 512) : EReal :=
  delta (W (ix2 i j)) (gr Z i j) (M (ix2 i j)) (U (ix2 i j))

theorem idx : ∀ t : Fin cfg0.N, win0_0.index t = ![t.val, 0] ∧ win0_1.index t = ![1, t.val]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S512x512 .f32) (w u v : Vec Ideal S512x512 .f32)

theorem k0_pay1_at (i : Fin 512) (j : Fin 512) : k0_pay1 g (ix2 i j) = g (ix2 j i) := by
  pointwise [k0_pay1]
theorem mom_at (i : Fin 512) (j : Fin 512) : k0_pay2 g u (ix2 i j) = mom (g (ix2 j i)) (u (ix2 i j)) := by
  pointwise [k0_pay2, k0_pay1_at]
  rfl
theorem vel_at (i : Fin 512) (j : Fin 512) : k0_pay3 g v (ix2 i j) = vel (g (ix2 j i)) (v (ix2 i j)) := by
  pointwise [k0_pay3, k0_pay1_at]
  rfl
theorem delta_at (i : Fin 512) (j : Fin 512) : k0_pay4 g w u v (ix2 i j) = delta (w (ix2 i j)) (g (ix2 j i)) (u (ix2 i j)) (v (ix2 i j)) := by
  pointwise [k0_pay4, mom_at, vel_at]
  rfl

end pay

variable (t : Fin cfg0.N)

theorem blk0 (i : Fin 512) (j : Fin 512) (h : t.val * 512 + i.val < 1024) :
    (iblk m c 0 t : Vec Ideal S512x512 .f32) (ix2 i j) = W m c (ix2 ⟨t.val * 512 + i.val, h⟩ j) := by
  blk_point [iblk, V, idx t]
theorem blk2 (i : Fin 512) (j : Fin 512) (h : t.val * 512 + i.val < 1024) :
    (iblk m c 2 t : Vec Ideal S512x512 .f32) (ix2 i j) = M m c (ix2 ⟨t.val * 512 + i.val, h⟩ j) := by
  blk_point [iblk, V, idx t]
theorem blk3 (i : Fin 512) (j : Fin 512) (h : t.val * 512 + i.val < 1024) :
    (iblk m c 3 t : Vec Ideal S512x512 .f32) (ix2 i j) = U m c (ix2 ⟨t.val * 512 + i.val, h⟩ j) := by
  blk_point [iblk, V, idx t]
theorem blk1 (i : Fin 512) (j : Fin 512) (h : t.val * 512 + i.val < 1024) :
    (X0_1 m c t : Vec Ideal S512x512 .f32) (ix2 j i) = gr (Z m c) ⟨t.val * 512 + i.val, h⟩ j := by
  unfold X0_1 Pipeline.Window.fill
  rw [dif_pos (moved0_1 t _)]
  unfold gr
  blk_point [iblk, V, idx t]

theorem out4 : (outsAt0 m c t).1 = k0_pay1 (X0_1 m c t) := by
  unfold outsAt0; frame_out
theorem out5 : (outsAt0 m c t).2.1 = k0_pay4 (X0_1 m c t) (iblk m c 0 t) (iblk m c 2 t) (iblk m c 3 t) := by
  unfold outsAt0; frame_out
theorem out6 : (outsAt0 m c t).2.2.1 = k0_pay2 (X0_1 m c t) (iblk m c 2 t) := by
  unfold outsAt0; frame_out
theorem out7 : (outsAt0 m c t).2.2.2 = k0_pay3 (X0_1 m c t) (iblk m c 3 t) := by
  unfold outsAt0; frame_out

theorem emb4 (i : Fin 512) (j : Fin 512) (h : t.val * 512 + i.val < 1024) : (win0_4.blk t).view.emb (ix2 i j) = ix2 ⟨t.val * 512 + i.val, h⟩ j := by blk_ext [idx t]
theorem emb5 (i : Fin 512) (j : Fin 512) (h : t.val * 512 + i.val < 1024) : (win0_5.blk t).view.emb (ix2 i j) = ix2 ⟨t.val * 512 + i.val, h⟩ j := by blk_ext [idx t]
theorem emb6 (i : Fin 512) (j : Fin 512) (h : t.val * 512 + i.val < 1024) : (win0_6.blk t).view.emb (ix2 i j) = ix2 ⟨t.val * 512 + i.val, h⟩ j := by blk_ext [idx t]
theorem emb7 (i : Fin 512) (j : Fin 512) (h : t.val * 512 + i.val < 1024) : (win0_7.blk t).view.emb (ix2 i j) = ix2 ⟨t.val * 512 + i.val, h⟩ j := by blk_ext [idx t]

theorem final4 : (dats m 0 c).arrAt 4 cfg0.N = (fun x => gr (Z m c) (x 0) (x 1) : FVec Ideal S1024x512 .f32) := by
  refine (dats m 0 c).arrAt_eq_of_covers 4 _ (by decide +kernel) fun t hf y => ?_
  blk_simp
  rw [after0_4, out4]
  have hN : t.val < 2 := lt_of_lt_of_le t.isLt (le_of_eq N_0)
  obtain ⟨i, j, rfl⟩ : ∃ (i : Fin 512) (j : Fin 512), y = ix2 i j := ⟨y 0, y 1, eq_ix2 y⟩
  have h : t.val * 512 + i.val < 1024 := by omega
  rw [emb4 t i j h, k0_pay1_at, blk1 m c t i j h]
  rfl
theorem final5 : (dats m 0 c).arrAt 5 cfg0.N = (fun x => dl (W m c) (M m c) (U m c) (Z m c) (x 0) (x 1) : FVec Ideal S1024x512 .f32) := by
  refine (dats m 0 c).arrAt_eq_of_covers 5 _ (by decide +kernel) fun t hf y => ?_
  blk_simp
  rw [after0_5, out5]
  have hN : t.val < 2 := lt_of_lt_of_le t.isLt (le_of_eq N_0)
  obtain ⟨i, j, rfl⟩ : ∃ (i : Fin 512) (j : Fin 512), y = ix2 i j := ⟨y 0, y 1, eq_ix2 y⟩
  have h : t.val * 512 + i.val < 1024 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S1024x512 .f32) := by
  refine (dats m 0 c).arrAt_eq_of_covers 6 _ (by decide +kernel) fun t hf y => ?_
  blk_simp
  rw [after0_6, out6]
  have hN : t.val < 2 := lt_of_lt_of_le t.isLt (le_of_eq N_0)
  obtain ⟨i, j, rfl⟩ : ∃ (i : Fin 512) (j : Fin 512), y = ix2 i j := ⟨y 0, y 1, eq_ix2 y⟩
  have h : t.val * 512 + i.val < 1024 := by omega
  rw [emb6 t i j h, mom_at, blk1 m c t i j h, blk2 m c t i j h]
  rfl
theorem final7 : (dats m 0 c).arrAt 7 cfg0.N = (fun x => nv (U m c) (Z m c) (x 0) (x 1) : FVec Ideal S1024x512 .f32) := by
  refine (dats m 0 c).arrAt_eq_of_covers 7 _ (by decide +kernel) fun t hf y => ?_
  blk_simp
  rw [after0_7, out7]
  have hN : t.val < 2 := lt_of_lt_of_le t.isLt (le_of_eq N_0)
  obtain ⟨i, j, rfl⟩ : ∃ (i : Fin 512) (j : Fin 512), y = ix2 i j := ⟨y 0, y 1, eq_ix2 y⟩
  have h : t.val * 512 + i.val < 1024 := by omega
  rw [emb7 t i j h, vel_at, blk1 m c t i j h, blk3 m c t i j h]
  rfl

end Cert.AdamXkvIdeal.Value
-- ==== Proof.AdamXkvRef.lean ====
/- What the reference's optimiser computes for w_xkv, read stage by stage at an entry. -/
module

public import proofs.«01_k».proof.Proof.AdamXkvVal
public import proofs.«01_k».proof.Proof.Gen.AdamXkvRefIdeal.Run
public import proofs.«01_k».proof.Proof.Gen.AdamXkvRefIdeal.Read

@[expose] public section

set_option maxRecDepth 16384

noncomputable section

namespace Cert.AdamXkvRefIdeal.Value

open Cert.AdamXkvRefIdeal Cert.AdamXkvRefIdeal.Gen Idealize.ShloMosaic Idealize.ShloMosaic.TcCoe Idealize.SL.Sem
open Cert.AdamXkvRefIdeal.Read Cert.Adam Cert.AdamXkvIdeal.Value

variable (X0 X1 X2 : FVec Ideal S1024x512 .f32) (X3 : FVec Ideal S1280x1024 .f32)

theorem g_at (i : Fin 1024) (j : Fin 512) : val_main_v1 (F := Ideal) X3 (ix2 i j) = gr X3 i j := by
  pointwise [val_main_v1, val_main_v0]
  rfl
theorem m_at (i : Fin 1024) (j : Fin 512) : val_main_v6 (F := Ideal) X1 X3 (ix2 i j) = nm X1 X3 i j := by
  pointwise [val_main_v6, val_main_v5, val_main_v4, val_main_v3, val_main_v2, val_main_cst, val_main_cst_0, g_at]
  rfl
theorem v_at (i : Fin 1024) (j : Fin 512) : val_main_v12 (F := Ideal) X2 X3 (ix2 i j) = nv X2 X3 i j := by
  pointwise [val_main_v12, val_main_v11, val_main_v10, val_main_v9, val_main_v8, val_main_v7, val_main_cst_1, val_main_cst_2, g_at]
  rfl
theorem d_at (i : Fin 1024) (j : Fin 512) : val_main_v25 (F := Ideal) X0 X1 X2 X3 (ix2 i j) = dl X0 X1 X2 X3 i j := by
  pointwise [val_main_v25, val_main_v24, val_main_v23, val_main_v22, val_main_v21, val_main_v20, val_main_v19, val_main_v18, val_main_v17, val_main_v16, val_main_v15, val_main_v14, val_main_v13, val_main_cst_3, val_main_cst_4, val_main_cst_5, val_main_cst_6, val_main_cst_7, m_at, v_at]
  rfl
theorem v1_at (i : Fin 1024) (j : Fin 512) : val_main_v1 (F := Ideal) X3 (ix2 i j) = gr X3 i j := g_at X3 i j
theorem v25_at (i : Fin 1024) (j : Fin 512) : val_main_v25 (F := Ideal) X0 X1 X2 X3 (ix2 i j) = dl X0 X1 X2 X3 i j := d_at X0 X1 X2 X3 i j
theorem v6_at (i : Fin 1024) (j : Fin 512) : val_main_v6 (F := Ideal) X1 X3 (ix2 i j) = nm X1 X3 i j := m_at X1 X3 i j
theorem v12_at (i : Fin 1024) (j : Fin 512) : val_main_v12 (F := Ideal) X2 X3 (ix2 i j) = nv X2 X3 i j := v_at X2 X3 i j

end Cert.AdamXkvRefIdeal.Value
-- ==== Proof.AdamXoVal.lean ====
/- The arrays the optimiser's kernel for w_xo leaves, as functions of the arguments. -/
module

public import proofs.«01_k».proof.Proof.AdamMath
public import proofs.«01_k».proof.Proof.Gen.AdamXoIdeal.Value
public import Idealize.ShloMosaic.Lib.Pipeline.ValueKit

@[expose] public section

set_option maxRecDepth 16384

noncomputable section

namespace Cert.AdamXoIdeal.Value

open Cert.AdamXoIdeal Cert.AdamXoIdeal.Gen Idealize.ShloMosaic Idealize.ShloMosaic.TcCoe Idealize.SL.Sem
open Cert.Adam

variable (m : (ℓ : Loc nD τ sig) → Buf (Elt Ideal) ℓ) (c : Dev nD)

/-- The weight, its two moments, and the rows that hold its gradient among others. -/
abbrev W : FVec Ideal S256x1024 .f32 := m ((c : Thread nD τ).loc main_arg0)
abbrev M : FVec Ideal S256x1024 .f32 := m ((c : Thread nD τ).loc main_arg1)
abbrev U : FVec Ideal S256x1024 .f32 := m ((c : Thread nD τ).loc main_arg2)
abbrev Z : FVec Ideal S1280x1024 .f32 := m ((c : Thread nD τ).loc main_arg3)

/-- The gradient's entry, and what the kernel leaves at an entry. -/
def gr (Z : FVec Ideal S1280x1024 .f32) (i : Fin 256) (j : Fin 1024) : EReal := Z (ix2 ⟨1024 + i.val, by omega⟩ j)
def nm (M : FVec Ideal S256x1024 .f32) (Z : FVec Ideal S1280x1024 .f32) (i : Fin 256) (j : Fin 1024) : EReal :=
  mom (gr Z i j) (M (ix2 i j))
def nv (U : FVec Ideal S256x1024 .f32) (Z : FVec Ideal S1280x1024 .f32) (i : Fin 256) (j : Fin 1024) : EReal :=
  vel (gr Z i j) (U (ix2 i j))
def dl (W M U : FVec Ideal S256x1024 .f32) (Z : FVec Ideal S1280x1024 .f32) (i : Fin 256) (j : Fin 1024) : EReal :=
  delta (W (ix2 i j)) (gr Z i j) (M (ix2 i j)) (U (ix2 i j))

theorem idx : ∀ t : Fin cfg0.N, win0_0.index t = ![t.val, 0] ∧ win0_1.index t = ![4 + t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

section pay

variable (g : Vec Ideal S256x1024 .f32) (w u v : Vec Ideal S256x1024 .f32)

theorem mom_at (i : Fin 256) (j : Fin 1024) : k0_pay1 g u (ix2 i j) = mom (g (ix2 i j)) (u (ix2 i j)) := by
  pointwise [k0_pay1]
  rfl
theorem vel_at (i : Fin 256) (j : Fin 1024) : k0_pay2 g v (ix2 i j) = vel (g (ix2 i j)) (v (ix2 i j)) := by
  pointwise [k0_pay2]
  rfl
theorem delta_at (i : Fin 256) (j : Fin 1024) : k0_pay3 g w u v (ix2 i j) = delta (w (ix2 i j)) (g (ix2 i j)) (u (ix2 i j)) (v (ix2 i j)) := by
  pointwise [k0_pay3, mom_at, vel_at]
  rfl

end pay

variable (t : Fin cfg0.N)

theorem blk0 (i : Fin 256) (j : Fin 1024) (h : t.val * 256 + i.val < 256) :
    (iblk m c 0 t : Vec Ideal S256x1024 .f32) (ix2 i j) = W m c (ix2 ⟨t.val * 256 + i.val, h⟩ j) := by
  blk_point [iblk, V, idx t]
theorem blk2 (i : Fin 256) (j : Fin 1024) (h : t.val * 256 + i.val < 256) :
    (iblk m c 2 t : Vec Ideal S256x1024 .f32) (ix2 i j) = M m c (ix2 ⟨t.val * 256 + i.val, h⟩ j) := by
  blk_point [iblk, V, idx t]
theorem blk3 (i : Fin 256) (j : Fin 1024) (h : t.val * 256 + i.val < 256) :
    (iblk m c 3 t : Vec Ideal S256x1024 .f32) (ix2 i j) = U m c (ix2 ⟨t.val * 256 + i.val, h⟩ j) := by
  blk_point [iblk, V, idx t]
theorem blk1 (i : Fin 256) (j : Fin 1024) (h : t.val * 256 + i.val < 256) :
    (iblk m c 1 t : Vec Ideal S256x1024 .f32) (ix2 i j) = gr (Z m c) ⟨t.val * 256 + i.val, h⟩ j := by
  unfold gr
  blk_point [iblk, V, idx t]

theorem out4 : out0_4 (iblk m c 0 t) (iblk m c 1 t) (iblk m c 2 t) (iblk m c 3 t) = (iblk m c 1 t : Vec Ideal S256x1024 .f32) := by
  unfold out0_4; frame_out
theorem out5 : out0_5 (iblk m c 0 t) (iblk m c 1 t) (iblk m c 2 t) (iblk m c 3 t) = k0_pay3 (iblk m c 1 t) (iblk m c 0 t) (iblk m c 2 t) (iblk m c 3 t) := by
  unfold out0_5; frame_out
theorem out6 : out0_6 (iblk m c 0 t) (iblk m c 1 t) (iblk m c 2 t) (iblk m c 3 t) = k0_pay1 (iblk m c 1 t) (iblk m c 2 t) := by
  unfold out0_6; frame_out
theorem out7 : out0_7 (iblk m c 0 t) (iblk m c 1 t) (iblk m c 2 t) (iblk m c 3 t) = k0_pay2 (iblk m c 1 t) (iblk m c 3 t) := by
  unfold out0_7; frame_out

theorem emb4 (i : Fin 256) (j : Fin 1024) (h : t.val * 256 + i.val < 256) : (win0_4.blk t).view.emb (ix2 i j) = ix2 ⟨t.val * 256 + i.val, h⟩ j := by blk_ext [idx t]
theorem emb5 (i : Fin 256) (j : Fin 1024) (h : t.val * 256 + i.val < 256) : (win0_5.blk t).view.emb (ix2 i j) = ix2 ⟨t.val * 256 + i.val, h⟩ j := by blk_ext [idx t]
theorem emb6 (i : Fin 256) (j : Fin 1024) (h : t.val * 256 + i.val < 256) : (win0_6.blk t).view.emb (ix2 i j) = ix2 ⟨t.val * 256 + i.val, h⟩ j := by blk_ext [idx t]
theorem emb7 (i : Fin 256) (j : Fin 1024) (h : t.val * 256 + i.val < 256) : (win0_7.blk t).view.emb (ix2 i j) = ix2 ⟨t.val * 256 + i.val, h⟩ j := by blk_ext [idx t]

theorem final4 : (dats m 0 c).arrAt 4 cfg0.N = (fun x => gr (Z m c) (x 0) (x 1) : FVec Ideal S256x1024 .f32) := by
  refine (dats m 0 c).arrAt_eq_of_covers 4 _ (by decide +kernel) fun t hf y => ?_
  blk_simp
  rw [after0_4, out4]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb4 t i j h, blk1 m c t i j h]
  rfl
theorem final5 : (dats m 0 c).arrAt 5 cfg0.N = (fun x => dl (W m c) (M m c) (U m c) (Z m c) (x 0) (x 1) : FVec Ideal S256x1024 .f32) := by
  refine (dats m 0 c).arrAt_eq_of_covers 5 _ (by decide +kernel) fun t hf y => ?_
  blk_simp
  rw [after0_5, out5]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb5 t i j h, delta_at, blk0 m c t i j h, blk1 m c t i j h, blk2 m c t i j h, blk3 m c t i j h]
  rfl
theorem final6 : (dats m 0 c).arrAt 6 cfg0.N = (fun x => nm (M m c) (Z m c) (x 0) (x 1) : FVec Ideal S256x1024 .f32) := by
  refine (dats m 0 c).arrAt_eq_of_covers 6 _ (by decide +kernel) fun t hf y => ?_
  blk_simp
  rw [after0_6, out6]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb6 t i j h, mom_at, blk1 m c t i j h, blk2 m c t i j h]
  rfl
theorem final7 : (dats m 0 c).arrAt 7 cfg0.N = (fun x => nv (U m c) (Z m c) (x 0) (x 1) : FVec Ideal S256x1024 .f32) := by
  refine (dats m 0 c).arrAt_eq_of_covers 7 _ (by decide +kernel) fun t hf y => ?_
  blk_simp
  rw [after0_7, out7]
  have hN : t.val < 1 := lt_of_lt_of_le t.isLt (le_of_eq N_0)
  obtain ⟨i, j, rfl⟩ : ∃ (i : Fin 256) (j : Fin 1024), y = ix2 i j := ⟨y 0, y 1, eq_ix2 y⟩
  have h : t.val * 256 + i.val < 256 := by omega
  rw [emb7 t i j h, vel_at, blk1 m c t i j h, blk3 m c t i j h]
  rfl

end Cert.AdamXoIdeal.Value
-- ==== Proof.AdamXoRef.lean ====
/- What the reference's optimiser computes for w_xo, read stage by stage at an entry. -/
module

public import proofs.«01_k».proof.Proof.AdamXoVal
public import proofs.«01_k».proof.Proof.Gen.AdamXoRefIdeal.Run
public import proofs.«01_k».proof.Proof.Gen.AdamXoRefIdeal.Read

@[expose] public section

set_option maxRecDepth 16384

noncomputable section

namespace Cert.AdamXoRefIdeal.Value

open Cert.AdamXoRefIdeal Cert.AdamXoRefIdeal.Gen Idealize.ShloMosaic Idealize.ShloMosaic.TcCoe Idealize.SL.Sem
open Cert.AdamXoRefIdeal.Read Cert.Adam Cert.AdamXoIdeal.Value

variable (X0 X1 X2 : FVec Ideal S256x1024 .f32) (X3 : FVec Ideal S1280x1024 .f32)

theorem g_at (i : Fin 256) (j : Fin 1024) : val_main_v0 (F := Ideal) X3 (ix2 i j) = gr X3 i j := by
  pointwise [val_main_v0]
  rfl
theorem m_at (i : Fin 256) (j : Fin 1024) : val_main_v5 (F := Ideal) X1 X3 (ix2 i j) = nm X1 X3 i j := by
  pointwise [val_main_v5, val_main_v4, val_main_v3, val_main_v2, val_main_v1, val_main_cst, val_main_cst_0, g_at]
  rfl
theorem v_at (i : Fin 256) (j : Fin 1024) : val_main_v11 (F := Ideal) X2 X3 (ix2 i j) = nv X2 X3 i j := by
  pointwise [val_main_v11, val_main_v10, val_main_v9, val_main_v8, val_main_v7, val_main_v6, val_main_cst_1, val_main_cst_2, g_at]
  rfl
theorem d_at (i : Fin 256) (j : Fin 1024) : val_main_v24 (F := Ideal) X0 X1 X2 X3 (ix2 i j) = dl X0 X1 X2 X3 i j := by
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, m_at, v_at]
  rfl
theorem v0_at (i : Fin 256) (j : Fin 1024) : val_main_v0 (F := Ideal) X3 (ix2 i j) = gr X3 i j := g_at X3 i j
theorem v24_at (i : Fin 256) (j : Fin 1024) : val_main_v24 (F := Ideal) X0 X1 X2 X3 (ix2 i j) = dl X0 X1 X2 X3 i j := d_at X0 X1 X2 X3 i j
theorem v5_at (i : Fin 256) (j : Fin 1024) : val_main_v5 (F := Ideal) X1 X3 (ix2 i j) = nm X1 X3 i j := m_at X1 X3 i j
theorem v11_at (i : Fin 256) (j : Fin 1024) : val_main_v11 (F := Ideal) X2 X3 (ix2 i j) = nv X2 X3 i j := v_at X2 X3 i j

end Cert.AdamXoRefIdeal.Value
-- ==== Proof.AdamClaim.lean ====
/- The claims about the optimiser's kernels for the seven matrices: the reference's frame, and the equality of the two
   programs' results. -/
module

public import proofs.«01_k».proof.Defs
public import proofs.«01_k».proof.Proof.AdamUpVal
public import proofs.«01_k».proof.Proof.AdamUpRef
public import proofs.«01_k».proof.Proof.AdamDownVal
public import proofs.«01_k».proof.Proof.AdamDownRef
public import proofs.«01_k».proof.Proof.AdamInVal
public import proofs.«01_k».proof.Proof.AdamInRef
public import proofs.«01_k».proof.Proof.AdamOutVal
public import proofs.«01_k».proof.Proof.AdamOutRef
public import proofs.«01_k».proof.Proof.AdamXqVal
public import proofs.«01_k».proof.Proof.AdamXqRef
public import proofs.«01_k».proof.Proof.AdamXkvVal
public import proofs.«01_k».proof.Proof.AdamXkvRef
public import proofs.«01_k».proof.Proof.AdamXoVal
public import proofs.«01_k».proof.Proof.AdamXoRef
public import Idealize.ShloMosaic.Lib.Quiescent

@[expose] public section

noncomputable section

namespace Cert.Proof

open Idealize.ShloMosaic Idealize.ShloMosaic.TcCoe Idealize.SL.Sem

attribute [local instance] Cert.AdamUpIdeal.Gen.facts Cert.AdamUpRefIdeal.Gen.facts Cert.AdamDownIdeal.Gen.facts Cert.AdamDownRefIdeal.Gen.facts Cert.AdamInIdeal.Gen.facts Cert.AdamInRefIdeal.Gen.facts Cert.AdamOutIdeal.Gen.facts Cert.AdamOutRefIdeal.Gen.facts Cert.AdamXqIdeal.Gen.facts Cert.AdamXqRefIdeal.Gen.facts Cert.AdamXkvIdeal.Gen.facts Cert.AdamXkvRefIdeal.Gen.facts Cert.AdamXoIdeal.Gen.facts Cert.AdamXoRefIdeal.Gen.facts

theorem adamup_frame_ref : Cert.quiescent_AdamUpRefIdeal := fun m ρ _ =>
  (θ_run _ _ _).mono (fun r h => ⟨fun c => (h c).2.2.2.2, sem_eq_zero_of_no_sems (by decide) _⟩)
    (Cert.AdamUpRefIdeal.Value.run m ρ)

theorem adamup_algebraic : Cert.algebraic_AdamUpIdeal_AdamUpRefIdeal := by
  intro m ρ m' ρ' hpre hag
  refine ⟨fun c => (Cert.AdamUpIdeal.Gen.dats m 0 c).arrAt 4 (Cert.AdamUpIdeal.cfgs 0).N,
    fun c => (Cert.AdamUpIdeal.Gen.dats m 0 c).arrAt 5 (Cert.AdamUpIdeal.cfgs 0).N,
    fun c => (Cert.AdamUpIdeal.Gen.dats m 0 c).arrAt 6 (Cert.AdamUpIdeal.cfgs 0).N,
    fun c => (Cert.AdamUpIdeal.Gen.dats m 0 c).arrAt 7 (Cert.AdamUpIdeal.cfgs 0).N,
    Cert.AdamUpIdeal.Value.run_blocks m ρ, (θ_run _ _ _).mono (fun r h c => ?_) (Cert.AdamUpRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamUpIdeal.Value.final4 m c).symm
    rw [Cert.AdamUpRefIdeal.Read.val_main_v1_eq, a3]
    funext i
    rw [Idealize.ShloMosaic.eq_ix2 i]
    exact Cert.AdamUpRefIdeal.Value.v1_at _ _ _
  · refine Eq.trans ?_ (Cert.AdamUpIdeal.Value.final5 m c).symm
    rw [Cert.AdamUpRefIdeal.Read.val_main_v25_eq, a0, a1, a2, a3]
    funext i
    rw [Idealize.ShloMosaic.eq_ix2 i]
    exact Cert.AdamUpRefIdeal.Value.v25_at _ _ _ _ _ _
  · refine Eq.trans ?_ (Cert.AdamUpIdeal.Value.final6 m c).symm
    rw [Cert.AdamUpRefIdeal.Read.val_main_v6_eq, a1, a3]
    funext i
    rw [Idealize.ShloMosaic.eq_ix2 i]
    exact Cert.AdamUpRefIdeal.Value.v6_at _ _ _ _
  · refine Eq.trans ?_ (Cert.AdamUpIdeal.Value.final7 m c).symm
    rw [Cert.AdamUpRefIdeal.Read.val_main_v12_eq, a2, a3]
    funext i
    rw [Idealize.ShloMosaic.eq_ix2 i]
    exact Cert.AdamUpRefIdeal.Value.v12_at _ _ _ _

theorem adamdown_frame_ref : Cert.quiescent_AdamDownRefIdeal := fun m ρ _ =>
  (θ_run _ _ _).mono (fun r h => ⟨fun c => (h c).2.2.2.2, sem_eq_zero_of_no_sems (by decide) _⟩)
    (Cert.AdamDownRefIdeal.Value.run m ρ)

theorem adamdown_algebraic : Cert.algebraic_AdamDownIdeal_AdamDownRefIdeal := by
  intro m ρ m' ρ' hpre hag
  refine ⟨fun c => (Cert.AdamDownIdeal.Gen.dats m 0 c).arrAt 4 (Cert.AdamDownIdeal.cfgs 0).N,
    fun c => (Cert.AdamDownIdeal.Gen.dats m 0 c).arrAt 5 (Cert.AdamDownIdeal.cfgs 0).N,
    fun c => (Cert.AdamDownIdeal.Gen.dats m 0 c).arrAt 6 (Cert.AdamDownIdeal.cfgs 0).N,
    fun c => (Cert.AdamDownIdeal.Gen.dats m 0 c).arrAt 7 (Cert.AdamDownIdeal.cfgs 0).N,
    Cert.AdamDownIdeal.Value.run_blocks m ρ, (θ_run _ _ _).mono (fun r h c => ?_) (Cert.AdamDownRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamDownIdeal.Value.final4 m c).symm
    rw [Cert.AdamDownRefIdeal.Read.val_main_v0_eq, a3]
    funext i
    rw [Idealize.ShloMosaic.eq_ix2 i]
    exact Cert.AdamDownRefIdeal.Value.v0_at _ _ _
  · refine Eq.trans ?_ (Cert.AdamDownIdeal.Value.final5 m c).symm
    rw [Cert.AdamDownRefIdeal.Read.val_main_v24_eq, a0, a1, a2, a3]
    funext i
    rw [Idealize.ShloMosaic.eq_ix2 i]
    exact Cert.AdamDownRefIdeal.Value.v24_at _ _ _ _ _ _
  · refine Eq.trans ?_ (Cert.AdamDownIdeal.Value.final6 m c).symm
    rw [Cert.AdamDownRefIdeal.Read.val_main_v5_eq, a1, a3]
    funext i
    rw [Idealize.ShloMosaic.eq_ix2 i]
    exact Cert.AdamDownRefIdeal.Value.v5_at _ _ _ _
  · refine Eq.trans ?_ (Cert.AdamDownIdeal.Value.final7 m c).symm
    rw [Cert.AdamDownRefIdeal.Read.val_main_v11_eq, a2, a3]
    funext i
    rw [Idealize.ShloMosaic.eq_ix2 i]
    exact Cert.AdamDownRefIdeal.Value.v11_at _ _ _ _

theorem adamin_frame_ref : Cert.quiescent_AdamInRefIdeal := fun m ρ _ =>
  (θ_run _ _ _).mono (fun r h => ⟨fun c => (h c).2.2.2.2, sem_eq_zero_of_no_sems (by decide) _⟩)
    (Cert.AdamInRefIdeal.Value.run m ρ)

theorem adamin_algebraic : Cert.algebraic_AdamInIdeal_AdamInRefIdeal := by
  intro m ρ m' ρ' hpre hag
  refine ⟨fun c => (Cert.AdamInIdeal.Gen.dats m 0 c).arrAt 4 (Cert.AdamInIdeal.cfgs 0).N,
    fun c => (Cert.AdamInIdeal.Gen.dats m 0 c).arrAt 5 (Cert.AdamInIdeal.cfgs 0).N,
    fun c => (Cert.AdamInIdeal.Gen.dats m 0 c).arrAt 6 (Cert.AdamInIdeal.cfgs 0).N,
    fun c => (Cert.AdamInIdeal.Gen.dats m 0 c).arrAt 7 (Cert.AdamInIdeal.cfgs 0).N,
    Cert.AdamInIdeal.Value.run_blocks m ρ, (θ_run _ _ _).mono (fun r h c => ?_) (Cert.AdamInRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamInIdeal.Value.final4 m c).symm
    rw [Cert.AdamInRefIdeal.Read.val_main_v26_eq, a3]
    funext i
    rw [Idealize.ShloMosaic.eq_ix2 i]
    exact Cert.AdamInRefIdeal.Value.v26_at _ _ _
  · refine Eq.trans ?_ (Cert.AdamInIdeal.Value.final5 m c).symm
    rw [Cert.AdamInRefIdeal.Read.val_main_v27_eq, a0, a1, a2, a3]
    funext i
    rw [Idealize.ShloMosaic.eq_ix2 i]
    exact Cert.AdamInRefIdeal.Value.v27_at _ _ _ _ _ _
  · refine Eq.trans ?_ (Cert.AdamInIdeal.Value.final6 m c).symm
    rw [Cert.AdamInRefIdeal.Read.val_main_v28_eq, a1, a3]
    funext i
    rw [Idealize.ShloMosaic.eq_ix2 i]
    exact Cert.AdamInRefIdeal.Value.v28_at _ _ _ _
  · refine Eq.trans ?_ (Cert.AdamInIdeal.Value.final7 m c).symm
    rw [Cert.AdamInRefIdeal.Read.val_main_v29_eq, a2, a3]
    funext i
    rw [Idealize.ShloMosaic.eq_ix2 i]
    exact Cert.AdamInRefIdeal.Value.v29_at _ _ _ _

theorem adamout_frame_ref : Cert.quiescent_AdamOutRefIdeal := fun m ρ _ =>
  (θ_run _ _ _).mono (fun r h => ⟨fun c => (h c).2.2.2.2, sem_eq_zero_of_no_sems (by decide) _⟩)
    (Cert.AdamOutRefIdeal.Value.run m ρ)

theorem adamout_algebraic : Cert.algebraic_AdamOutIdeal_AdamOutRefIdeal := by
  intro m ρ m' ρ' hpre hag
  refine ⟨fun c => (Cert.AdamOutIdeal.Gen.dats m 0 c).arrAt 4 (Cert.AdamOutIdeal.cfgs 0).N,
    fun c => (Cert.AdamOutIdeal.Gen.dats m 0 c).arrAt 5 (Cert.AdamOutIdeal.cfgs 0).N,
    fun c => (Cert.AdamOutIdeal.Gen.dats m 0 c).arrAt 6 (Cert.AdamOutIdeal.cfgs 0).N,
    fun c => (Cert.AdamOutIdeal.Gen.dats m 0 c).arrAt 7 (Cert.AdamOutIdeal.cfgs 0).N,
    Cert.AdamOutIdeal.Value.run_blocks m ρ, (θ_run _ _ _).mono (fun r h c => ?_) (Cert.AdamOutRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamOutIdeal.Value.final4 m c).symm
    rw [Cert.AdamOutRefIdeal.Read.val_main_v0_eq, a3]
    funext i
    rw [Idealize.ShloMosaic.eq_ix2 i]
    exact Cert.AdamOutRefIdeal.Value.v0_at _ _ _
  · refine Eq.trans ?_ (Cert.AdamOutIdeal.Value.final5 m c).symm
    rw [Cert.AdamOutRefIdeal.Read.val_main_v24_eq, a0, a1, a2, a3]
    funext i
    rw [Idealize.ShloMosaic.eq_ix2 i]
    exact Cert.AdamOutRefIdeal.Value.v24_at _ _ _ _ _ _
  · refine Eq.trans ?_ (Cert.AdamOutIdeal.Value.final6 m c).symm
    rw [Cert.AdamOutRefIdeal.Read.val_main_v5_eq, a1, a3]
    funext i
    rw [Idealize.ShloMosaic.eq_ix2 i]
    exact Cert.AdamOutRefIdeal.Value.v5_at _ _ _ _
  · refine Eq.trans ?_ (Cert.AdamOutIdeal.Value.final7 m c).symm
    rw [Cert.AdamOutRefIdeal.Read.val_main_v11_eq, a2, a3]
    funext i
    rw [Idealize.ShloMosaic.eq_ix2 i]
    exact Cert.AdamOutRefIdeal.Value.v11_at _ _ _ _

theorem adamxq_frame_ref : Cert.quiescent_AdamXqRefIdeal := fun m ρ _ =>
  (θ_run _ _ _).mono (fun r h => ⟨fun c => (h c).2.2.2.2, sem_eq_zero_of_no_sems (by decide) _⟩)
    (Cert.AdamXqRefIdeal.Value.run m ρ)

theorem adamxq_algebraic : Cert.algebraic_AdamXqIdeal_AdamXqRefIdeal := by
  intro m ρ m' ρ' hpre hag
  refine ⟨fun c => (Cert.AdamXqIdeal.Gen.dats m 0 c).arrAt 4 (Cert.AdamXqIdeal.cfgs 0).N,
    fun c => (Cert.AdamXqIdeal.Gen.dats m 0 c).arrAt 5 (Cert.AdamXqIdeal.cfgs 0).N,
    fun c => (Cert.AdamXqIdeal.Gen.dats m 0 c).arrAt 6 (Cert.AdamXqIdeal.cfgs 0).N,
    fun c => (Cert.AdamXqIdeal.Gen.dats m 0 c).arrAt 7 (Cert.AdamXqIdeal.cfgs 0).N,
    Cert.AdamXqIdeal.Value.run_blocks m ρ, (θ_run _ _ _).mono (fun r h c => ?_) (Cert.AdamXqRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamXqIdeal.Value.final4 m c).symm
    rw [Cert.AdamXqRefIdeal.Read.val_main_v0_eq, a3]
    funext i
    rw [Idealize.ShloMosaic.eq_ix2 i]
    exact Cert.AdamXqRefIdeal.Value.v0_at _ _ _
  · refine Eq.trans ?_ (Cert.AdamXqIdeal.Value.final5 m c).symm
    rw [Cert.AdamXqRefIdeal.Read.val_main_v24_eq, a0, a1, a2, a3]
    funext i
    rw [Idealize.ShloMosaic.eq_ix2 i]
    exact Cert.AdamXqRefIdeal.Value.v24_at _ _ _ _ _ _
  · refine Eq.trans ?_ (Cert.AdamXqIdeal.Value.final6 m c).symm
    rw [Cert.AdamXqRefIdeal.Read.val_main_v5_eq, a1, a3]
    funext i
    rw [Idealize.ShloMosaic.eq_ix2 i]
    exact Cert.AdamXqRefIdeal.Value.v5_at _ _ _ _
  · refine Eq.trans ?_ (Cert.AdamXqIdeal.Value.final7 m c).symm
    rw [Cert.AdamXqRefIdeal.Read.val_main_v11_eq, a2, a3]
    funext i
    rw [Idealize.ShloMosaic.eq_ix2 i]
    exact Cert.AdamXqRefIdeal.Value.v11_at _ _ _ _

theorem adamxkv_frame_ref : Cert.quiescent_AdamXkvRefIdeal := fun m ρ _ =>
  (θ_run _ _ _).mono (fun r h => ⟨fun c => (h c).2.2.2.2, sem_eq_zero_of_no_sems (by decide) _⟩)
    (Cert.AdamXkvRefIdeal.Value.run m ρ)

theorem adamxkv_algebraic : Cert.algebraic_AdamXkvIdeal_AdamXkvRefIdeal := by
  intro m ρ m' ρ' hpre hag
  refine ⟨fun c => (Cert.AdamXkvIdeal.Gen.dats m 0 c).arrAt 4 (Cert.AdamXkvIdeal.cfgs 0).N,
    fun c => (Cert.AdamXkvIdeal.Gen.dats m 0 c).arrAt 5 (Cert.AdamXkvIdeal.cfgs 0).N,
    fun c => (Cert.AdamXkvIdeal.Gen.dats m 0 c).arrAt 6 (Cert.AdamXkvIdeal.cfgs 0).N,
    fun c => (Cert.AdamXkvIdeal.Gen.dats m 0 c).arrAt 7 (Cert.AdamXkvIdeal.cfgs 0).N,
    Cert.AdamXkvIdeal.Value.run_blocks m ρ, (θ_run _ _ _).mono (fun r h c => ?_) (Cert.AdamXkvRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamXkvIdeal.Value.final4 m c).symm
    rw [Cert.AdamXkvRefIdeal.Read.val_main_v1_eq, a3]
    funext i
    rw [Idealize.ShloMosaic.eq_ix2 i]
    exact Cert.AdamXkvRefIdeal.Value.v1_at _ _ _
  · refine Eq.trans ?_ (Cert.AdamXkvIdeal.Value.final5 m c).symm
    rw [Cert.AdamXkvRefIdeal.Read.val_main_v25_eq, a0, a1, a2, a3]
    funext i
    rw [Idealize.ShloMosaic.eq_ix2 i]
    exact Cert.AdamXkvRefIdeal.Value.v25_at _ _ _ _ _ _
  · refine Eq.trans ?_ (Cert.AdamXkvIdeal.Value.final6 m c).symm
    rw [Cert.AdamXkvRefIdeal.Read.val_main_v6_eq, a1, a3]
    funext i
    rw [Idealize.ShloMosaic.eq_ix2 i]
    exact Cert.AdamXkvRefIdeal.Value.v6_at _ _ _ _
  · refine Eq.trans ?_ (Cert.AdamXkvIdeal.Value.final7 m c).symm
    rw [Cert.AdamXkvRefIdeal.Read.val_main_v12_eq, a2, a3]
    funext i
    rw [Idealize.ShloMosaic.eq_ix2 i]
    exact Cert.AdamXkvRefIdeal.Value.v12_at _ _ _ _

theorem adamxo_frame_ref : Cert.quiescent_AdamXoRefIdeal := fun m ρ _ =>
  (θ_run _ _ _).mono (fun r h => ⟨fun c => (h c).2.2.2.2, sem_eq_zero_of_no_sems (by decide) _⟩)
    (Cert.AdamXoRefIdeal.Value.run m ρ)

theorem adamxo_algebraic : Cert.algebraic_AdamXoIdeal_AdamXoRefIdeal := by
  intro m ρ m' ρ' hpre hag
  refine ⟨fun c => (Cert.AdamXoIdeal.Gen.dats m 0 c).arrAt 4 (Cert.AdamXoIdeal.cfgs 0).N,
    fun c => (Cert.AdamXoIdeal.Gen.dats m 0 c).arrAt 5 (Cert.AdamXoIdeal.cfgs 0).N,
    fun c => (Cert.AdamXoIdeal.Gen.dats m 0 c).arrAt 6 (Cert.AdamXoIdeal.cfgs 0).N,
    fun c => (Cert.AdamXoIdeal.Gen.dats m 0 c).arrAt 7 (Cert.AdamXoIdeal.cfgs 0).N,
    Cert.AdamXoIdeal.Value.run_blocks m ρ, (θ_run _ _ _).mono (fun r h c => ?_) (Cert.AdamXoRefIdeal.Value.run m' ρ')⟩
  obtain ⟨h0, h1, h2, h3, h4⟩ := h c
  obtain ⟨a0, a1, a2, a3⟩ := hag c
  refine ⟨h0.trans ?_, h1.trans ?_, h2.trans ?_, h3.trans ?_, h4⟩
  · refine Eq.trans ?_ (Cert.AdamXoIdeal.Value.final4 m c).symm
    rw [Cert.AdamXoRefIdeal.Read.val_main_v0_eq, a3]
    funext i
    rw [Idealize.ShloMosaic.eq_ix2 i]
    exact Cert.AdamXoRefIdeal.Value.v0_at _ _ _
  · refine Eq.trans ?_ (Cert.AdamXoIdeal.Value.final5 m c).symm
    rw [Cert.AdamXoRefIdeal.Read.val_main_v24_eq, a0, a1, a2, a3]
    funext i
    rw [Idealize.ShloMosaic.eq_ix2 i]
    exact Cert.AdamXoRefIdeal.Value.v24_at _ _ _ _ _ _
  · refine Eq.trans ?_ (Cert.AdamXoIdeal.Value.final6 m c).symm
    rw [Cert.AdamXoRefIdeal.Read.val_main_v5_eq, a1, a3]
    funext i
    rw [Idealize.ShloMosaic.eq_ix2 i]
    exact Cert.AdamXoRefIdeal.Value.v5_at _ _ _ _
  · refine Eq.trans ?_ (Cert.AdamXoIdeal.Value.final7 m c).symm
    rw [Cert.AdamXoRefIdeal.Read.val_main_v11_eq, a2, a3]
    funext i
    rw [Idealize.ShloMosaic.eq_ix2 i]
    exact Cert.AdamXoRefIdeal.Value.v11_at _ _ _ _

end Cert.Proof

end
-- ==== Proof.NormMixVal.lean ====
/- The array the kernel of the mixers' norm leaves, as a function of the arguments. -/
module

public import proofs.«01_k».proof.Proof.NormMath
public import proofs.«01_k».proof.Proof.Gen.NormMixIdeal.Value
public import Idealize.ShloMosaic.Lib.Pipeline.ValueKit

@[expose] public section

set_option maxRecDepth 16384

noncomputable section

namespace Cert.NormMixIdeal.Value

open Cert.NormMixIdeal Cert.NormMixIdeal.Gen Idealize.ShloMosaic Idealize.ShloMosaic.TcCoe Idealize.SL.Sem
open Cert.Norm

variable (m : (ℓ : Loc nD τ sig) → Buf (Elt Ideal) ℓ) (c : Dev nD)

/-- The rows and the gain. -/
abbrev X : FVec Ideal S8192x1024 .f32 := m ((c : Thread nD τ).loc main_arg0)
abbrev N : FVec Ideal S1x1024 .f32 := m ((c : Thread nD τ).loc main_arg1)

/-- A row after the norm. -/
def H (X : FVec Ideal S8192x1024 .f32) (N : FVec Ideal S1x1024 .f32) (r : Fin 8192) (j : Fin 1024) : EReal :=
  nrm (fun k => X (ix2 r k)) (fun k => N (ix2 0 k)) j

theorem idx : ∀ t : Fin cfg0.N, win0_0.index t = ![t.val, 0] ∧ win0_1.index t = ![0, 0] ∧ win0_2.index t = ![t.val, 0] :=
  (by decide +kernel : ∀ t : Fin grid0.N, _)

theorem pay1_at (x : Vec Ideal S2048x1024 .f32) (g : Vec Ideal S1x1024 .f32) (r : Fin 2048) (j : Fin 1024) :
    k0_pay1 x g (ix2 r j) = nrm (fun k => x (ix2 r k)) (fun k => g (ix2 0 k)) j := by
  pointwise [k0_pay1]; rfl

theorem x_at (r : Fin 8192) (k : Fin 1024) : (V m c main_arg0 : FVec Ideal S8192x1024 .f32) (ix2 r k) = X m c (ix2 r k) := by
  rw [V_main_arg0]
theorem n_at (z : Fin 1) (k : Fin 1024) : (V m c main_arg1 : FVec Ideal S1x1024 .f32) (ix2 z k) = N m c (ix2 z k) := by
  rw [V_main_arg1]

variable (t : Fin cfg0.N)

theorem blk0 (r : Fin 2048) (k : Fin 1024) (h : t.val * 2048 + r.val < 8192) :
    (iblk m c 0 t : Vec Ideal S2048x1024 .f32) (ix2 r k) = X m c (ix2 ⟨t.val * 2048 + r.val, h⟩ k) := by
  refine Eq.trans ?_ (x_at m c _ _)
  blk_simp [iblk]
  exact congrArg _ (by blk_ext [idx t])
theorem blk1 (z : Fin 1) (k : Fin 1024) : (iblk m c 1 t : Vec Ideal S1x1024 .f32) (ix2 z k) = N m c (ix2 z k) := by
  refine Eq.trans ?_ (n_at m c z k)
  blk_simp [iblk]
  exact congrArg _ (by blk_ext [idx t])

theorem out2 : out0_2 (iblk m c 0 t) (iblk m c 1 t) = k0_pay1 (iblk m c 0 t) (iblk m c 1 t) := by
  unfold out0_2; frame_out

theorem emb2 (r : Fin 2048) (j : Fin 1024) (h : t.val * 2048 + r.val < 8192) :
    (win0_2.blk t).view.emb (ix2 r j) = ix2 ⟨t.val * 2048 + r.val, h⟩ j := by blk_ext [idx t]

theorem final2 : (dats m 0 c).arrAt 2 cfg0.N = (fun i => H (X m c) (N m c) (i 0) (i 1) : FVec Ideal S8192x1024 .bf16) := by
  refine (dats m 0 c).arrAt_eq_of_covers 2 _ (by decide +kernel) fun t hf y => ?_
  blk_simp
  rw [after0_2, out2]
  have hN : t.val < 4 := lt_of_lt_of_le t.isLt (le_of_eq N_0)
  obtain ⟨r, j, rfl⟩ : ∃ (r : Fin 2048) (j : Fin 1024), y = ix2 r j := ⟨y 0, y 1, eq_ix2 y⟩
  have h : t.val * 2048 + r.val < 8192 := by omega
  rw [emb2 t r j h]
  exact (pay1_at ..).trans
    (congrArg₂ (fun a b => nrm a b j) (funext fun k => blk0 m c t r k h) (funext fun k => blk1 m c t 0 k))

end Cert.NormMixIdeal.Value
-- ==== Proof.NormMixRef.lean ====
/- What the reference of the norm computes, read stage by stage at an entry. -/
module

public import proofs.«01_k».proof.Proof.NormMixVal
public import proofs.«01_k».proof.Proof.Gen.NormMixRefIdeal.Run
public import proofs.«01_k».proof.Proof.Gen.NormMixRefIdeal.Read

@[expose] public section

set_option maxRecDepth 16384

noncomputable section

namespace Cert.NormMixRefIdeal.Value

open Cert.NormMixRefIdeal Cert.NormMixRefIdeal.Gen Idealize.ShloMosaic Idealize.ShloMosaic.TcCoe Idealize.SL.Sem
open Cert.NormMixRefIdeal.Read Cert.Norm Cert.NormMixIdeal.Value

variable (X0 : FVec Ideal S8192x1024 .f32) (X1 : FVec Ideal S1x1024 .f32)

theorem v7_at (r : Fin 8192) (z : Fin 1) : val_main_v7 (F := Ideal) X0 (ix2 r z) = rs (fun k => X0 (ix2 r k)) := by
  pointwise [val_main_v7, val_main_v6, val_main_v5, val_main_v4, val_main_v3, val_main_v2, val_main_v1, val_main_v0,
    val_main_cst, val_main_cst_0, val_main_cst_1]
  rfl
theorem v12_at (r : Fin 8192) (j : Fin 1024) : val_main_v12 (F := Ideal) X0 X1 (ix2 r j) = H X0 X1 r j := by
  pointwise [val_main_v12, val_main_v11, val_main_v10, val_main_v9, val_main_v8, v7_at]
  rfl

end Cert.NormMixRefIdeal.Value
-- ==== Proof.NormMemVal.lean ====
/- The array the kernel of the memory's norm leaves, as a function of the arguments. -/
module

public import proofs.«01_k».proof.Proof.NormMath
public import proofs.«01_k».proof.Proof.Gen.NormMemIdeal.Value
public import Idealize.ShloMosaic.Lib.Pipeline.ValueKit

@[expose] public section

set_option maxRecDepth 16384

noncomputable section

namespace Cert.NormMemIdeal.Value

open Cert.NormMemIdeal Cert.NormMemIdeal.Gen Idealize.ShloMosaic Idealize.ShloMosaic.TcCoe Idealize.SL.Sem
open Cert.Norm

variable (m : (ℓ : Loc nD τ sig) → Buf (Elt Ideal) ℓ) (c : Dev nD)

/-- The rows and the gain. -/
abbrev X : FVec Ideal S256x1024 .f32 := m ((c : Thread nD τ).loc main_arg0)
abbrev N : FVec Ideal S1x1024 .f32 := m ((c : Thread nD τ).loc main_arg1)

/-- A row after the norm. -/
def H (X : FVec Ideal S256x1024 .f32) (N : FVec Ideal S1x1024 .f32) (r : Fin 256) (j : Fin 1024) : EReal :=
  nrm (fun k => X (ix2 r k)) (fun k => N (ix2 0 k)) j

theorem idx : ∀ t : Fin cfg0.N, win0_0.index t = ![0, 0] ∧ win0_1.index t = ![0, 0] ∧ win0_2.index t = ![0, 0] :=
  (by decide +kernel : ∀ t : Fin grid0.N, _)

theorem pay1_at (x : Vec Ideal S256x1024 .f32) (g : Vec Ideal S1x1024 .f32) (r : Fin 256) (j : Fin 1024) :
    k0_pay1 x g (ix2 r j) = nrm (fun k => x (ix2 r k)) (fun k => g (ix2 0 k)) j := by
  pointwise [k0_pay1]; rfl

theorem x_at (r : Fin 256) (k : Fin 1024) : (V m c main_arg0 : FVec Ideal S256x1024 .f32) (ix2 r k) = X m c (ix2 r k) := by
  rw [V_main_arg0]
theorem n_at (z : Fin 1) (k : Fin 1024) : (V m c main_arg1 : FVec Ideal S1x1024 .f32) (ix2 z k) = N m c (ix2 z k) := by
  rw [V_main_arg1]

variable (t : Fin cfg0.N)

theorem blk0 (r : Fin 256) (k : Fin 1024) :
    (iblk m c 0 t : Vec Ideal S256x1024 .f32) (ix2 r k) = X m c (ix2 r k) := by
  refine Eq.trans ?_ (x_at m c _ _)
  blk_simp [iblk]
  exact congrArg _ (by blk_ext [idx t])
theorem blk1 (z : Fin 1) (k : Fin 1024) : (iblk m c 1 t : Vec Ideal S1x1024 .f32) (ix2 z k) = N m c (ix2 z k) := by
  refine Eq.trans ?_ (n_at m c z k)
  blk_simp [iblk]
  exact congrArg _ (by blk_ext [idx t])

theorem out2 : out0_2 (iblk m c 0 t) (iblk m c 1 t) = k0_pay1 (iblk m c 0 t) (iblk m c 1 t) := by
  unfold out0_2; frame_out

theorem place2 (r : Fin 256) (j : Fin 1024) :
    (win0_2.blk t).view.emb (ix2 r j) = ix2 r j := by blk_ext [idx t]

theorem array2 : (dats m 0 c).arrAt 2 cfg0.N = (fun i => H (X m c) (N m c) (i 0) (i 1) : FVec Ideal S256x1024 .bf16) := by
  refine (dats m 0 c).arrAt_eq_of_covers 2 _ (by decide +kernel) fun t hf y => ?_
  blk_simp
  rw [after0_2, out2]
  have hN : t.val < 1 := lt_of_lt_of_le t.isLt (le_of_eq N_0)
  obtain ⟨r, j, rfl⟩ : ∃ (r : Fin 256) (j : Fin 1024), y = ix2 r j := ⟨y 0, y 1, eq_ix2 y⟩
  rw [place2 t r j]
  exact (pay1_at ..).trans
    (congrArg₂ (fun a b => nrm a b j) (funext fun k => blk0 m c t r k) (funext fun k => blk1 m c t 0 k))

end Cert.NormMemIdeal.Value
-- ==== Proof.NormMemRef.lean ====
/- What the reference of the norm computes, read stage by stage at an entry. -/
module

public import proofs.«01_k».proof.Proof.NormMemVal
public import proofs.«01_k».proof.Proof.Gen.NormMemRefIdeal.Run
public import proofs.«01_k».proof.Proof.Gen.NormMemRefIdeal.Read

@[expose] public section

set_option maxRecDepth 16384

noncomputable section

namespace Cert.NormMemRefIdeal.Value

open Cert.NormMemRefIdeal Cert.NormMemRefIdeal.Gen Idealize.ShloMosaic Idealize.ShloMosaic.TcCoe Idealize.SL.Sem
open Cert.NormMemRefIdeal.Read Cert.Norm Cert.NormMemIdeal.Value

variable (X0 : FVec Ideal S256x1024 .f32) (X1 : FVec Ideal S1x1024 .f32)

theorem v7_at (r : Fin 256) (z : Fin 1) : val_main_v7 (F := Ideal) X0 (ix2 r z) = rs (fun k => X0 (ix2 r k)) := by
  pointwise [val_main_v7, val_main_v6, val_main_v5, val_main_v4, val_main_v3, val_main_v2, val_main_v1, val_main_v0,
    val_main_cst, val_main_cst_0, val_main_cst_1]
  rfl
theorem v12_at (r : Fin 256) (j : Fin 1024) : val_main_v12 (F := Ideal) X0 X1 (ix2 r j) = H X0 X1 r j := by
  pointwise [val_main_v12, val_main_v11, val_main_v10, val_main_v9, val_main_v8, v7_at]
  rfl

end Cert.NormMemRefIdeal.Value
-- ==== Proof.NormMemBwdVal.lean ====
/- The array the kernel of the gradient of the memory's norm's gain leaves, as a function of the arguments. -/
module

public import proofs.«01_k».proof.Proof.NormMath
public import proofs.«01_k».proof.Proof.Gen.NormMemBwdIdeal.Value
public import Idealize.ShloMosaic.Lib.Pipeline.ValueKit

@[expose] public section

set_option maxRecDepth 16384

noncomputable section

namespace Cert.NormMemBwdIdeal.Value

open Cert.NormMemBwdIdeal Cert.NormMemBwdIdeal.Gen Idealize.ShloMosaic Idealize.ShloMosaic.TcCoe Idealize.SL.Sem
open Cert.Norm

variable (m : (ℓ : Loc nD τ sig) → Buf (Elt Ideal) ℓ) (c : Dev nD)

/-- The memory and the normalised memory's cotangent. -/
abbrev X : FVec Ideal S256x1024 .f32 := m ((c : Thread nD τ).loc main_arg0)
abbrev DY : FVec Ideal S256x1024 .f32 := m ((c : Thread nD τ).loc main_arg1)

/-- The gain's gradient: over the rows, the cotangent times the scaled row. -/
def G (X DY : FVec Ideal S256x1024 .f32) (z : Fin 1) (j : Fin 1024) : EReal :=
  ∑ r : Fin 256, DY (ix2 r j) * (X (ix2 r j) * rs (fun k => X (ix2 r k)))

theorem idx : ∀ t : Fin cfg0.N, win0_0.index t = ![0, 0] ∧ win0_1.index t = ![0, 0] ∧ win0_2.index t = ![0, 0] :=
  (by decide +kernel : ∀ t : Fin grid0.N, _)

theorem pay1_at (x y : Vec Ideal S256x1024 .f32) (z : Fin 1) (j : Fin 1024) : k0_pay1 x y (ix2 z j) = G x y z j := by
  pointwise [k0_pay1]; rfl

theorem x_at (r : Fin 256) (k : Fin 1024) : (V m c main_arg0 : FVec Ideal S256x1024 .f32) (ix2 r k) = X m c (ix2 r k) := by
  rw [V_main_arg0]
theorem dy_at (r : Fin 256) (k : Fin 1024) : (V m c main_arg1 : FVec Ideal S256x1024 .f32) (ix2 r k) = DY m c (ix2 r k) := by
  rw [V_main_arg1]

variable (t : Fin cfg0.N)

theorem blk0 (r : Fin 256) (k : Fin 1024) : (iblk m c 0 t : Vec Ideal S256x1024 .f32) (ix2 r k) = X m c (ix2 r k) := by
  refine Eq.trans ?_ (x_at m c _ _)
  blk_simp [iblk]
  exact congrArg _ (by blk_ext [idx t])
theorem blk1 (r : Fin 256) (k : Fin 1024) : (iblk m c 1 t : Vec Ideal S256x1024 .f32) (ix2 r k) = DY m c (ix2 r k) := by
  refine Eq.trans ?_ (dy_at m c _ _)
  blk_simp [iblk]
  exact congrArg _ (by blk_ext [idx t])

theorem out2 : outsAt0 m c t = k0_pay1 (iblk m c 0 t) (iblk m c 1 t) := by
  unfold outsAt0; frame_out

theorem emb2 (z : Fin 1) (j : Fin 1024) : (win0_2.blk t).view.emb (ix2 z j) = ix2 z j := by blk_ext [idx t]

theorem final2 : (dats m 0 c).arrAt 2 cfg0.N = (fun i => G (X m c) (DY m c) (i 0) (i 1) : FVec Ideal S1x1024 .f32) := by
  refine (dats m 0 c).arrAt_eq_of_covers 2 _ (by decide +kernel) fun t hf y => ?_
  blk_simp
  rw [after0_2, out2]
  obtain ⟨z, j, rfl⟩ : ∃ (z : Fin 1) (j : Fin 1024), y = ix2 z j := ⟨y 0, y 1, eq_ix2 y⟩
  rw [emb2 t z j]
  have e0 : (iblk m c 0 t : Vec Ideal S256x1024 .f32) = X m c := funext fun i => by rw [eq_ix2 i]; exact blk0 m c t _ _
  have e1 : (iblk m c 1 t : Vec Ideal S256x1024 .f32) = DY m c := funext fun i => by rw [eq_ix2 i]; exact blk1 m c t _ _
  exact (pay1_at ..).trans (congrArg₂ (fun a b => G a b z j) e0 e1)

end Cert.NormMemBwdIdeal.Value
-- ==== Proof.NormMemBwdRef.lean ====
/- What the reference of the norm's gain's gradient computes, read stage by stage at an entry. -/
module

public import proofs.«01_k».proof.Proof.NormMemBwdVal
public import proofs.«01_k».proof.Proof.Gen.NormMemBwdRefIdeal.Run
public import proofs.«01_k».proof.Proof.Gen.NormMemBwdRefIdeal.Read

@[expose] public section

set_option maxRecDepth 16384

noncomputable section

namespace Cert.NormMemBwdRefIdeal.Value

open Cert.NormMemBwdRefIdeal Cert.NormMemBwdRefIdeal.Gen Idealize.ShloMosaic Idealize.ShloMosaic.TcCoe Idealize.SL.Sem
open Cert.NormMemBwdRefIdeal.Read Cert.Norm Cert.NormMemBwdIdeal.Value

variable (X0 X1 : FVec Ideal S256x1024 .f32)

theorem v8_at (r : Fin 256) (z : Fin 1) : val_main_v8 (F := Ideal) X0 (ix2 r z) = rs (fun k => X0 (ix2 r k)) := by
  pointwise [val_main_v8, val_main_v7, val_main_v6, val_main_v5, val_main_v4, val_main_v3, val_main_v2, val_main_v1,
    val_main_cst_0, val_main_cst_1, val_main_cst_2]
  rfl
theorem v10_at (r : Fin 256) (j : Fin 1024) :
    val_main_v10 (F := Ideal) X0 (ix2 r j) = X0 (ix2 r j) * rs (fun k => X0 (ix2 r k)) := by
  pointwise [val_main_v10, val_main_v9, v8_at]
theorem v15_at (z : Fin 1) (j : Fin 1024) : val_main_v15 (F := Ideal) X0 X1 (ix2 z j) = G X0 X1 z j := by
  pointwise [val_main_v15, val_main_v14, val_main_v13, val_main_cst_3, v10_at]
  exact Finset.sum_congr rfl fun r _ => mul_comm _ _

end Cert.NormMemBwdRefIdeal.Value
-- ==== Proof.NormClaim.lean ====
/- The claims about the kernels of the norms that are calls of their own, and of the gradient of the memory's norm's gain: the reference's frame, and the equality of the two
   programs' results. -/
module

public import proofs.«01_k».proof.Defs
public import proofs.«01_k».proof.Proof.NormMixVal
public import proofs.«01_k».proof.Proof.NormMixRef
public import proofs.«01_k».proof.Proof.NormMemVal
public import proofs.«01_k».proof.Proof.NormMemRef
public import proofs.«01_k».proof.Proof.NormMemBwdVal
public import proofs.«01_k».proof.Proof.NormMemBwdRef
public import Idealize.ShloMosaic.Lib.Quiescent

@[expose] public section

noncomputable section

namespace Cert.Proof

open Idealize.ShloMosaic Idealize.ShloMosaic.TcCoe Idealize.SL.Sem

attribute [local instance] Cert.NormMixIdeal.Gen.facts Cert.NormMixRefIdeal.Gen.facts Cert.NormMemIdeal.Gen.facts Cert.NormMemRefIdeal.Gen.facts Cert.NormMemBwdIdeal.Gen.facts Cert.NormMemBwdRefIdeal.Gen.facts

theorem normmix_frame_ref : Cert.quiescent_NormMixRefIdeal := fun m ρ _ =>
  (θ_run _ _ _).mono (fun r h => ⟨fun c => (h c).2, sem_eq_zero_of_no_sems (by decide) _⟩)
    (Cert.NormMixRefIdeal.Value.run m ρ)

theorem normmix_algebraic : Cert.algebraic_NormMixIdeal_NormMixRefIdeal := by
  intro m ρ m' ρ' hpre hag
  refine ⟨fun c => (Cert.NormMixIdeal.Gen.dats m 0 c).arrAt 2 (Cert.NormMixIdeal.cfgs 0).N,
    Cert.NormMixIdeal.Value.run_blocks m ρ, (θ_run _ _ _).mono (fun r h c => ?_) (Cert.NormMixRefIdeal.Value.run m' ρ')⟩
  obtain ⟨h0, h1⟩ := h c
  obtain ⟨a0, a1⟩ := hag c
  refine ⟨h0.trans ?_, h1⟩
  · refine Eq.trans ?_ (Cert.NormMixIdeal.Value.final2 m c).symm
    rw [Cert.NormMixRefIdeal.Read.val_main_v12_eq, a0, a1]
    funext i
    rw [Idealize.ShloMosaic.eq_ix2 i]
    exact Cert.NormMixRefIdeal.Value.v12_at _ _ _ _

theorem normmem_frame_ref : Cert.quiescent_NormMemRefIdeal := fun m ρ _ =>
  (θ_run _ _ _).mono (fun r h => ⟨fun c => (h c).2, sem_eq_zero_of_no_sems (by decide) _⟩)
    (Cert.NormMemRefIdeal.Value.run m ρ)

theorem normmem_algebraic : Cert.algebraic_NormMemIdeal_NormMemRefIdeal := by
  intro m ρ m' ρ' hpre hag
  refine ⟨fun c => (Cert.NormMemIdeal.Gen.dats m 0 c).arrAt 2 (Cert.NormMemIdeal.cfgs 0).N,
    Cert.NormMemIdeal.Value.run_blocks m ρ, (θ_run _ _ _).mono (fun r h c => ?_) (Cert.NormMemRefIdeal.Value.run m' ρ')⟩
  obtain ⟨h0, h1⟩ := h c
  obtain ⟨a0, a1⟩ := hag c
  refine ⟨h0.trans ?_, h1⟩
  · refine Eq.trans ?_ (Cert.NormMemIdeal.Value.array2 m c).symm
    rw [Cert.NormMemRefIdeal.Read.val_main_v12_eq, a0, a1]
    funext i
    rw [Idealize.ShloMosaic.eq_ix2 i]
    exact Cert.NormMemRefIdeal.Value.v12_at _ _ _ _

theorem normmembwd_frame_ref : Cert.quiescent_NormMemBwdRefIdeal := fun m ρ _ =>
  (θ_run _ _ _).mono (fun r h => ⟨fun c => (h c).2, sem_eq_zero_of_no_sems (by decide) _⟩)
    (Cert.NormMemBwdRefIdeal.Value.run m ρ)

theorem normmembwd_algebraic : Cert.algebraic_NormMemBwdIdeal_NormMemBwdRefIdeal := by
  intro m ρ m' ρ' hpre hag
  refine ⟨fun c => (Cert.NormMemBwdIdeal.Gen.dats m 0 c).arrAt 2 (Cert.NormMemBwdIdeal.cfgs 0).N,
    Cert.NormMemBwdIdeal.Value.run_blocks m ρ, (θ_run _ _ _).mono (fun r h c => ?_) (Cert.NormMemBwdRefIdeal.Value.run m' ρ')⟩
  obtain ⟨h0, h1⟩ := h c
  obtain ⟨a0, a1⟩ := hag c
  refine ⟨h0.trans ?_, h1⟩
  · refine Eq.trans ?_ (Cert.NormMemBwdIdeal.Value.final2 m c).symm
    rw [Cert.NormMemBwdRefIdeal.Read.val_main_v15_eq, a0, a1]
    funext i
    rw [Idealize.ShloMosaic.eq_ix2 i]
    exact Cert.NormMemBwdRefIdeal.Value.v15_at _ _ _ _

end Cert.Proof

end
-- ==== Proof.GatesMath.lean ====
/- The decay gate over the extended reals in its two forms, sums over a window of a chunk of 64 rows, and a window sum read
   as such a sum. -/
module

public import Idealize.ShloMosaic.PureOps.Ideal
public import Mathlib.Algebra.BigOperators.Fin
public import Mathlib.Algebra.BigOperators.Intervals
public import Mathlib.Tactic.NormNum

@[expose] public section

noncomputable section

namespace Cert.Gates

open Idealize.ShloMosaic

/-- The logarithm of the sigmoid, over sixteen, as the kernel writes it. -/
def la (p : EReal) : EReal :=
  (min p 0 - Ideal.log (1 + Ideal.exp (-(max p (-p))))) * Ideal.ofBits .f32 0x3D800000#32

theorem c16 : Ideal.ofBits .f32 0x3D800000#32 = ((16⁻¹ : ℝ) : EReal) := by
  simp [Ideal.ofBits, Ideal.ieee, -EReal.coe_mul]; norm_num
theorem d16 : Ideal.ofBits .f32 0x41800000#32 = ((16 : ℝ) : EReal) := by
  simp [Ideal.ofBits, Ideal.ieee, -EReal.coe_mul]; norm_num

/-- The logarithm that the gate subtracts is finite. -/
theorem log_real (p : EReal) : ∃ l : ℝ, Ideal.log (1 + Ideal.exp (-(max p (-p)))) = (l : EReal) := by
  have key : ∀ e : ℝ, 0 ≤ e → ∃ l : ℝ, Ideal.log (1 + (e : EReal)) = (l : EReal) := by
    intro e he
    have h1 : (1 : EReal) + (e : EReal) = ((1 + e : ℝ) : EReal) := by rw [EReal.coe_add]; rfl
    refine ⟨Real.log (1 + e), ?_⟩
    rw [h1]
    have : 0 < 1 + e := by linarith
    exact if_neg (not_le.mpr this)
  induction p using EReal.rec with
  | bot => simpa using key 0 le_rfl
  | top => simpa using key 0 le_rfl
  | coe r =>
    have : (-(max (r : EReal) (-(r : EReal)))) = ((-(max r (-r)) : ℝ) : EReal) := by
      rw [EReal.coe_neg, ← EReal.coe_neg r, EReal.coe_strictMono.monotone.map_max]
    rw [this, Ideal.exp_coe]
    exact key _ (Real.exp_pos _).le

/-- The form with the softplus of the negated argument. -/
theorem la_eq (p : EReal) :
    Ideal.div (-(max (-p) 0 + Ideal.log (1 + Ideal.exp (-(max (-p) (- -p)))))) (Ideal.ofBits .f32 0x41800000#32) = la p := by
  unfold la
  rw [neg_neg, max_comm (-p) p]
  obtain ⟨l, hl⟩ := log_real p
  rw [hl, d16, c16]
  have h16 : ((16 : ℝ) : EReal) ≠ 0 := by exact_mod_cast (by norm_num : (16 : ℝ) ≠ 0)
  have hd : ∀ x : EReal, Ideal.div x ((16 : ℝ) : EReal) = x * ((16⁻¹ : ℝ) : EReal) := fun x => by
    simp [Ideal.div, h16, EReal.coe_inv]
    try rfl
  rw [hd, EReal.neg_add (.inr (EReal.coe_ne_top l)) (.inr (EReal.coe_ne_bot l))]
  have hm : -(max (-p) 0) = min p 0 := by
    rcases le_total p 0 with h | h
    · rw [min_eq_left h, max_eq_left (by rw [EReal.le_neg]; simpa using h), neg_neg]
    · rw [min_eq_right h, max_eq_right (by rw [EReal.neg_le]; simpa using h), neg_zero]
  rw [hm]

/-- Two windows that meet: rows back from `r`. -/
theorem back (f : ℕ → EReal) (s r : ℕ) (h : s ≤ r % 64) :
    (∑ i ∈ Finset.range (min s (r % 64 + 1)), f (r - i)) + ∑ i ∈ Finset.range (min s ((r - s) % 64 + 1)), f (r - s - i)
      = ∑ i ∈ Finset.range (min (2 * s) (r % 64 + 1)), f (r - i) := by
  have e1 : min s (r % 64 + 1) = s := by omega
  have e2 : min (2 * s) (r % 64 + 1) = s + min s ((r - s) % 64 + 1) := by omega
  rw [e1, e2, Finset.sum_range_add]
  exact congrArg _ (Finset.sum_congr rfl fun i _ => by rw [Nat.sub_sub])
theorem back' (f : ℕ → EReal) (s r : ℕ) (h : ¬s ≤ r % 64) :
    ∑ i ∈ Finset.range (min s (r % 64 + 1)), f (r - i) = ∑ i ∈ Finset.range (min (2 * s) (r % 64 + 1)), f (r - i) := by
  rw [show min s (r % 64 + 1) = min (2 * s) (r % 64 + 1) by omega]

/-- The same, rows on from `r`. -/
theorem fore (f : ℕ → EReal) (s r : ℕ) (h : r % 64 < 64 - s) :
    (∑ i ∈ Finset.range (min s (64 - r % 64)), f (r + i)) + ∑ i ∈ Finset.range (min s (64 - (r + s) % 64)), f (r + s + i)
      = ∑ i ∈ Finset.range (min (2 * s) (64 - r % 64)), f (r + i) := by
  have e1 : min s (64 - r % 64) = s := by omega
  have e2 : min (2 * s) (64 - r % 64) = s + min s (64 - (r + s) % 64) := by omega
  rw [e1, e2, Finset.sum_range_add]
  exact congrArg _ (Finset.sum_congr rfl fun i _ => by rw [Nat.add_assoc])
theorem fore' (f : ℕ → EReal) (s r : ℕ) (h : ¬r % 64 < 64 - s) :
    ∑ i ∈ Finset.range (min s (64 - r % 64)), f (r + i) = ∑ i ∈ Finset.range (min (2 * s) (64 - r % 64)), f (r + i) := by
  rw [show min s (64 - r % 64) = min (2 * s) (64 - r % 64) by omega]

/-- A sum over 128 entries of which only 16 from `a` on can differ from zero. -/
theorem sum_part (a : ℕ) (ha : a + 16 ≤ 128) (g : Fin 128 → EReal) (h0 : ∀ k : Fin 128, ¬(a ≤ k.val ∧ k.val < a + 16) → g k = 0) :
    ∑ k : Fin 128, g k = ∑ i : Fin 16, g ⟨a + i.val, by omega⟩ := by
  let G : ℕ → EReal := fun n => if h : n < 128 then g ⟨n, h⟩ else 0
  have e0 : ∑ k : Fin 128, g k = ∑ n ∈ Finset.range (a + (16 + (112 - a))), G n := by
    rw [show a + (16 + (112 - a)) = 128 by omega, ← Fin.sum_univ_eq_sum_range]
    exact Finset.sum_congr rfl fun k _ => by simp [G]
  have e1 : ∑ i : Fin 16, g ⟨a + i.val, by omega⟩ = ∑ n ∈ Finset.range 16, G (a + n) := by
    rw [← Fin.sum_univ_eq_sum_range (fun n => G (a + n))]
    exact Finset.sum_congr rfl fun i _ => by
      have : a + i.val < 128 := by omega
      simp [G, this]
  rw [e0, e1, Finset.sum_range_add, Finset.sum_range_add]
  have z : ∀ n, ¬(a ≤ n ∧ n < a + 16) → G n = 0 := fun n hn => by
    by_cases h : n < 128
    · simp only [G, dif_pos h]; exact h0 ⟨n, h⟩ hn
    · simp only [G, dif_neg h]
  rw [Finset.sum_eq_zero fun n hn => z n (by have := Finset.mem_range.1 hn; omega),
    Finset.sum_eq_zero (s := Finset.range (112 - a)) fun n _ => z _ (by omega), zero_add, add_zero]

theorem foldl_sum {α : Type} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- The last `i + 1` of a window of 64 that ends at row `i`. -/
theorem window (F : ℕ → EReal) (i : ℕ) (hi : i < 64) :
    (∑ k : Fin 64, if 63 ≤ i + k.val then F (i + k.val - 63) else 0) = ∑ t ∈ Finset.range (i + 1), F (i - t) := by
  rw [Fin.sum_univ_eq_sum_range (fun k => if 63 ≤ i + k then F (i + k - 63) else 0), ← Finset.sum_range_reflect]
  rw [← Finset.sum_subset (s₁ := Finset.range (i + 1)) (Finset.range_mono (by omega))]
  · exact Finset.sum_congr rfl fun t ht => by
      have := Finset.mem_range.1 ht
      rw [if_pos (by omega)]; congr 1; omega
  · intro t ht hn
    have := Finset.mem_range.1 ht
    have : ¬t < i + 1 := fun h => hn (Finset.mem_range.2 h)
    exact if_neg (by omega)

end Cert.Gates
-- ==== Proof.GatesVal.lean ====
/- The arrays the kernel of the decay gates leaves, as functions of the arguments. -/
module

public import proofs.«01_k».proof.Proof.GatesMath
public import proofs.«01_k».proof.Proof.Gen.GatesIdeal.Value
public import Idealize.ShloMosaic.Lib.Pipeline.ValueKit
public import Idealize.ShloMosaic.Lib.KernelVsHost

@[expose] public section

set_option maxRecDepth 16384

noncomputable section

namespace Cert.GatesIdeal.Value

open Cert.GatesIdeal Cert.GatesIdeal.Gen Idealize.ShloMosaic Idealize.ShloMosaic.TcCoe Idealize.SL.Sem
open Cert.Gates

variable (m : (ℓ : Loc nD τ sig) → Buf (Elt Ideal) ℓ) (c : Dev nD)

/-- The projection's second part, and the two directions' weights and biases. -/
abbrev Z : FVec Ideal S8192x1152 .f32 := m ((c : Thread nD τ).loc main_arg0)
abbrev WF : FVec Ideal S16x256 .f32 := m ((c : Thread nD τ).loc main_arg1)
abbrev CF : FVec Ideal S1x256 .f32 := m ((c : Thread nD τ).loc main_arg2)
abbrev WB : FVec Ideal S16x256 .f32 := m ((c : Thread nD τ).loc main_arg3)
abbrev CB : FVec Ideal S1x256 .f32 := m ((c : Thread nD τ).loc main_arg4)

/-- The gate's argument, from the sixteen columns of the part that start at `1024 + o`. -/
def pre (o : ℕ) (ho : o ≤ 16) (Z : FVec Ideal S8192x1152 .f32) (W : FVec Ideal S16x256 .f32) (C : FVec Ideal S1x256 .f32)
    (r : Fin 8192) (j : Fin 256) : EReal :=
  (∑ k : Fin 16, Z (ix2 r ⟨1024 + o + k.val, by omega⟩) * W (ix2 k j)) + C (ix2 0 j)
/-- A row's log decay; beyond the rows, zero. -/
def L (o : ℕ) (ho : o ≤ 16) (Z : FVec Ideal S8192x1152 .f32) (W : FVec Ideal S16x256 .f32) (C : FVec Ideal S1x256 .f32)
    (j : Fin 256) (r : ℕ) : EReal :=
  if h : r < 8192 then la (pre o ho Z W C ⟨r, h⟩ j) else 0
/-- The sums within the chunk: up to the row, and from the row on. -/
def BF (Z : FVec Ideal S8192x1152 .f32) (W : FVec Ideal S16x256 .f32) (C : FVec Ideal S1x256 .f32) (r : Fin 8192) (j : Fin 256) : EReal :=
  ∑ i ∈ Finset.range (r.val % 64 + 1), L 0 (by omega) Z W C j (r.val - i)
def BB (Z : FVec Ideal S8192x1152 .f32) (W : FVec Ideal S16x256 .f32) (C : FVec Ideal S1x256 .f32) (r : Fin 8192) (j : Fin 256) : EReal :=
  ∑ i ∈ Finset.range (64 - r.val % 64), L 16 (by omega) Z W C j (r.val + i)

theorem idx : ∀ t : Fin cfg0.N, win0_0.index t = ![t.val, 8] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

section pay

/-- One step of the sum up to a row, and of the sum from a row on. -/
def up (s : BitVec 32) (v : FVec Ideal S2048x256 .f32) : FVec Ideal S2048x256 .f32 :=
  addf v (select (cmpi .sge k0_pay1 (broadcast S2048x256 s)) (dynamicRotate 0 s none v rotates_S2048x256_d0)
    (broadcast S2048x256 (Scalar.ofBits .f32 0x00000000#32)))
def dn (q s : BitVec 32) (v : FVec Ideal S2048x256 .f32) : FVec Ideal S2048x256 .f32 :=
  addf v (select (cmpi .slt k0_pay1 (broadcast S2048x256 q)) (dynamicRotate 0 s none v rotates_S2048x256_d0)
    (broadcast S2048x256 (Scalar.ofBits .f32 0x00000000#32)))

theorem row_at (r : Fin 2048) (j : Fin 256) : k0_pay1 (ix2 r j) = BitVec.ofNat 32 (r.val % 64) := by
  have h : k0_pay1 (ix2 r j) = BitVec.ofNat 32 (0 * 2048 + r.val) &&& 63#32 := by
    refine congrArg (· &&& 63#32) ?_
    show BitVec.ofNat 32 _ = _
    congr 1
  rw [h, Nat.zero_mul, Nat.zero_add]
  apply BitVec.eq_of_toNat_eq
  rw [BitVec.toNat_and, BitVec.toNat_ofNat, BitVec.toNat_ofNat, BitVec.toNat_ofNat]
  have e : 63 % 2 ^ 32 = 2 ^ 6 - 1 := rfl
  rw [e, Nat.and_two_pow_sub_one_eq_mod]
  omega

theorem up_at (s : ℕ) (hs : s < 64) (hc : ∀ x : Fin 64, IntOp.cmpi .sge (BitVec.ofNat 32 x.val) (BitVec.ofNat 32 s) = if s ≤ x.val then 1#1 else 0#1)
    (v : FVec Ideal S2048x256 .f32) (r : Fin 2048) (j : Fin 256) :
    up (BitVec.ofNat 32 s) v (ix2 r j) = v (ix2 r j) + if s ≤ r.val % 64 then v (ix2 ⟨r.val - s, by omega⟩ j) else 0 := by
  have hq : cmpi .sge k0_pay1 (broadcast S2048x256 (BitVec.ofNat 32 s)) (ix2 r j) = if s ≤ r.val % 64 then 1#1 else 0#1 := by
    refine Eq.trans ?_ (hc ⟨r.val % 64, Nat.mod_lt _ (by omega)⟩)
    exact congrArg (fun a => IntOp.cmpi .sge a (BitVec.ofNat 32 s)) (row_at r j)
  refine congrArg (v (ix2 r j) + ·) ?_
  show Scalar.select _ _ _ = _
  rw [hq]
  by_cases h : s ≤ r.val % 64
  · rw [if_pos h, if_pos h]
    refine Eq.trans (if_pos rfl) (dynamicRotate_apply 0 _ v _ _ (ix2 ⟨r.val - s, by omega⟩ j) fun b => ?_)
    have hb : (BitVec.ofNat 32 s).toNat = s := by rw [BitVec.toNat_ofNat]; exact Nat.mod_eq_of_lt (by omega)
    rw [hb]
    match b with
    | ⟨0, _⟩ => show r.val - s = (r.val + 2048 - s % 2048) % 2048; omega
    | ⟨1, _⟩ => rfl
  · rw [if_neg h, if_neg h]
    refine Eq.trans (if_neg (by decide)) ?_
    pointwise

theorem dn_at (s : ℕ) (hs : s < 64) (hc : ∀ x : Fin 64, IntOp.cmpi .slt (BitVec.ofNat 32 x.val) (BitVec.ofNat 32 (64 - s)) = if x.val < 64 - s then 1#1 else 0#1)
    (v : FVec Ideal S2048x256 .f32) (r : Fin 2048) (j : Fin 256) :
    dn (BitVec.ofNat 32 (64 - s)) (BitVec.ofNat 32 (2048 - s)) v (ix2 r j)
      = v (ix2 r j) + if h : r.val % 64 < 64 - s then v (ix2 ⟨r.val + s, by omega⟩ j) else 0 := by
  have hq : cmpi .slt k0_pay1 (broadcast S2048x256 (BitVec.ofNat 32 (64 - s))) (ix2 r j) = if r.val % 64 < 64 - s then 1#1 else 0#1 := by
    refine Eq.trans ?_ (hc ⟨r.val % 64, Nat.mod_lt _ (by omega)⟩)
    exact congrArg (fun a => IntOp.cmpi .slt a (BitVec.ofNat 32 (64 - s))) (row_at r j)
  refine congrArg (v (ix2 r j) + ·) ?_
  show Scalar.select _ _ _ = _
  rw [hq]
  by_cases h : r.val % 64 < 64 - s
  · rw [if_pos h, dif_pos h]
    refine Eq.trans (if_pos rfl) (dynamicRotate_apply 0 _ v _ _ (ix2 ⟨r.val + s, by omega⟩ j) fun b => ?_)
    have hb : (BitVec.ofNat 32 (2048 - s)).toNat = 2048 - s := by rw [BitVec.toNat_ofNat]; exact Nat.mod_eq_of_lt (by omega)
    rw [hb]
    match b with
    | ⟨0, _⟩ => show r.val + s = (r.val + 2048 - (2048 - s) % 2048) % 2048; omega
    | ⟨1, _⟩ => rfl
  · rw [if_neg h, dif_neg h]
    refine Eq.trans (if_neg (by decide)) ?_
    pointwise

/-- Every row holds the sum of its last, or of its next, `w` rows within the chunk. -/
def Up (v : FVec Ideal S2048x256 .f32) (f : Fin 256 → ℕ → EReal) (w : ℕ) : Prop :=
  ∀ (r : Fin 2048) (j : Fin 256), v (ix2 r j) = ∑ i ∈ Finset.range (min w (r.val % 64 + 1)), f j (r.val - i)
def Dn (v : FVec Ideal S2048x256 .f32) (f : Fin 256 → ℕ → EReal) (w : ℕ) : Prop :=
  ∀ (r : Fin 2048) (j : Fin 256), v (ix2 r j) = ∑ i ∈ Finset.range (min w (64 - r.val % 64)), f j (r.val + i)

theorem Up.step {v : FVec Ideal S2048x256 .f32} {f : Fin 256 → ℕ → EReal} (s : ℕ) (hs : s < 64)
    (hc : ∀ x : Fin 64, IntOp.cmpi .sge (BitVec.ofNat 32 x.val) (BitVec.ofNat 32 s) = if s ≤ x.val then 1#1 else 0#1) (h : Up v f s) :
    Up (up (BitVec.ofNat 32 s) v) f (2 * s) := fun r j => by
  rw [up_at s hs hc]
  by_cases hr : s ≤ r.val % 64
  · rw [if_pos hr, h r j, h ⟨r.val - s, by omega⟩ j]; exact back (f j) s r.val hr
  · rw [if_neg hr, add_zero, h r j]; exact back' (f j) s r.val hr
theorem Dn.step {v : FVec Ideal S2048x256 .f32} {f : Fin 256 → ℕ → EReal} (s : ℕ) (hs : s < 64)
    (hc : ∀ x : Fin 64, IntOp.cmpi .slt (BitVec.ofNat 32 x.val) (BitVec.ofNat 32 (64 - s)) = if x.val < 64 - s then 1#1 else 0#1)
    (h : Dn v f s) : Dn (dn (BitVec.ofNat 32 (64 - s)) (BitVec.ofNat 32 (2048 - s)) v) f (2 * s) := fun r j => by
  rw [dn_at s hs hc]
  by_cases hr : r.val % 64 < 64 - s
  · rw [dif_pos hr, h r j, h ⟨r.val + s, by omega⟩ j]; exact fore (f j) s r.val hr
  · rw [dif_neg hr, add_zero, h r j]; exact fore' (f j) s r.val hr

variable (x : Vec Ideal S2048x128 .f32) (w : Vec Ideal S128x256 .bf16) (b : Vec Ideal S1x256 .f32)

/-- A tile's gates. -/
def base (r : Fin 2048) (j : Fin 256) : EReal := la ((∑ k : Fin 128, x (ix2 r k) * w (ix2 k j)) + b (ix2 0 j))
def tile : FVec Ideal S2048x256 .f32 :=
  mulf (k0_pay6 x w b) (broadcast S2048x256 (Scalar.ofBits .f32 0x3D800000#32))

theorem tile_at (r : Fin 2048) (j : Fin 256) : tile x w b (ix2 r j) = base x w b r j := by
  pointwise [tile, k0_pay6]
  show (_ - Ideal.log (1 + Ideal.exp (0 - max _ (-_)))) * _ = _
  rw [zero_sub]
  rfl

theorem pay5_eq : k0_pay5 k0_pay1 (k0_pay2 x w b) k0_pay3 (k0_pay4 x w b) (Scalar.ofBits .f32 0x00000000#32)
    = up 32#32 (up 16#32 (up 8#32 (up 4#32 (up 2#32 (up 1#32 (tile x w b)))))) := rfl
theorem pay7_eq : k0_pay7 k0_pay1 (k0_pay6 x w b) (Scalar.ofBits .f32 0x3D800000#32)
    = dn 32#32 2016#32 (dn 48#32 2032#32 (dn 56#32 2040#32 (dn 60#32 2044#32 (dn 62#32 2046#32 (dn 63#32 2047#32 (tile x w b)))))) := rfl

variable (f : Fin 256 → ℕ → EReal) (hf : ∀ (r : Fin 2048) (j : Fin 256), base x w b r j = f j r.val)

include hf in
theorem pay5_at (r : Fin 2048) (j : Fin 256) :
    k0_pay5 k0_pay1 (k0_pay2 x w b) k0_pay3 (k0_pay4 x w b) (Scalar.ofBits .f32 0x00000000#32) (ix2 r j)
      = ∑ i ∈ Finset.range (r.val % 64 + 1), f j (r.val - i) := by
  have h1 : Up (tile x w b) f 1 := fun r j => by
    rw [tile_at, hf, show min 1 (r.val % 64 + 1) = 1 by omega, Finset.sum_range_one, Nat.sub_zero]
  have h2 := h1.step 1 (by omega) (by decide)
  have h4 := h2.step 2 (by omega) (by decide)
  have h8 := h4.step 4 (by omega) (by decide)
  have h16 := h8.step 8 (by omega) (by decide)
  have h32 := h16.step 16 (by omega) (by decide)
  have h64 := h32.step 32 (by omega) (by decide)
  rw [pay5_eq]
  refine (h64 r j).trans ?_
  rw [show min (2 * 32) (r.val % 64 + 1) = r.val % 64 + 1 by omega]
include hf in
theorem pay7_at (r : Fin 2048) (j : Fin 256) :
    k0_pay7 k0_pay1 (k0_pay6 x w b) (Scalar.ofBits .f32 0x3D800000#32) (ix2 r j)
      = ∑ i ∈ Finset.range (64 - r.val % 64), f j (r.val + i) := by
  have h1 : Dn (tile x w b) f 1 := fun r j => by
    rw [tile_at, hf, show min 1 (64 - r.val % 64) = 1 by omega, Finset.sum_range_one, Nat.add_zero]
  have h2 := h1.step 1 (by omega) (by decide)
  have h4 := h2.step 2 (by omega) (by decide)
  have h8 := h4.step 4 (by omega) (by decide)
  have h16 := h8.step 8 (by omega) (by decide)
  have h32 := h16.step 16 (by omega) (by decide)
  have h64 := h32.step 32 (by omega) (by decide)
  rw [pay7_eq]
  refine (h64 r j).trans ?_
  rw [show min (2 * 32) (64 - r.val % 64) = 64 - r.val % 64 by omega]

end pay

theorem concat_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

theorem V_v2 : (V m c main_v2 : FVec Ideal S128x256 .bf16) = truncf .bf16 (concatenate S128x256 0
    [⟨S16x256, WF m c⟩, ⟨S112x256, broadcastInDim S112x256 ![] bcast_S_S112x256 (constant (F := Ideal) S_ .f32 0x00000000#32)⟩]
    concatenates_S16x256_S112x256_S128x256_d0) bitsLt_bf16_f32 := by
  change StableHlo.after hostOps0 _ _ = _
  simp only [StableHlo.after_cons, StableHlo.after_nil]
  after_results_simp
  refine congrArg (truncf .bf16 · bitsLt_bf16_f32) (concat_congr _ ?_ ?_)
  · after_results_simp
  · after_results_simp
theorem V_v7 : (V m c main_v7 : FVec Ideal S128x256 .bf16) = truncf .bf16 (concatenate S128x256 0
    [⟨S16x256, broadcastInDim S16x256 ![] bcast_S_S16x256 (constant (F := Ideal) S_ .f32 0x00000000#32)⟩,
     ⟨S112x256, concatenate S112x256 0 [⟨S16x256, WB m c⟩,
       ⟨S96x256, broadcastInDim S96x256 ![] bcast_S_S96x256 (constant (F := Ideal) S_ .f32 0x00000000#32)⟩]
       concatenates_S16x256_S96x256_S112x256_d0⟩]
    concatenates_S16x256_S112x256_S128x256_d0) bitsLt_bf16_f32 := by
  change StableHlo.after hostOps0 _ _ = _
  simp only [StableHlo.after_cons, StableHlo.after_nil]
  after_results_simp
  refine congrArg (truncf .bf16 · bitsLt_bf16_f32) (concat_congr _ ?_ ?_)
  · after_results_simp
  · after_results_simp
    refine concat_congr _ ?_ ?_
    · after_results_simp
    · after_results_simp

theorem wf_at (k : Fin 128) (j : Fin 256) :
    (V m c main_v2 : FVec Ideal S128x256 .bf16) (ix2 k j) = if h : k.val < 16 then WF m c (ix2 ⟨k.val, h⟩ j) else 0 := by
  rw [V_v2]
  by_cases h0 : k.val < 16
  · rw [dif_pos h0]; pointwise [h0]
  · rw [dif_neg h0]; pointwise [h0]
theorem wb_at (k : Fin 128) (j : Fin 256) :
    (V m c main_v7 : FVec Ideal S128x256 .bf16) (ix2 k j)
      = if h : 16 ≤ k.val ∧ k.val < 32 then WB m c (ix2 ⟨k.val - 16, by omega⟩ j) else 0 := by
  rw [V_v7]
  by_cases h0 : k.val < 16
  · rw [dif_neg (by omega)]; pointwise [h0]
  by_cases h1 : k.val - 16 < 16
  · rw [dif_pos (by omega)]; pointwise [h0, h1]
  · rw [dif_neg (by omega)]; pointwise [h0, h1]

variable (t : Fin cfg0.N)

theorem blk0 (r : Fin 2048) (k : Fin 128) (h : t.val * 2048 + r.val < 8192) :
    (iblk m c 0 t : Vec Ideal S2048x128 .f32) (ix2 r k) = Z m c (ix2 ⟨t.val * 2048 + r.val, h⟩ ⟨1024 + k.val, by omega⟩) := by
  refine Eq.trans ?_ (congrFun (V_main_arg0 m c) _)
  blk_simp [iblk]
  exact congrArg _ (by blk_ext [idx t])
theorem blk1 (k : Fin 128) (j : Fin 256) :
    (iblk m c 1 t : Vec Ideal S128x256 .bf16) (ix2 k j) = if h : k.val < 16 then WF m c (ix2 ⟨k.val, h⟩ j) else 0 := by
  refine Eq.trans ?_ (wf_at m c k j)
  blk_simp [iblk]
  exact congrArg _ (by blk_ext [idx t])
theorem blk2 (k : Fin 128) (j : Fin 256) :
    (iblk m c 2 t : Vec Ideal S128x256 .bf16) (ix2 k j)
      = if h : 16 ≤ k.val ∧ k.val < 32 then WB m c (ix2 ⟨k.val - 16, by omega⟩ j) else 0 := by
  refine Eq.trans ?_ (wb_at m c k j)
  blk_simp [iblk]
  exact congrArg _ (by blk_ext [idx t])
theorem blk3 (j : Fin 256) : (iblk m c 3 t : Vec Ideal S1x256 .f32) (ix2 0 j) = CF m c (ix2 0 j) := by
  refine Eq.trans ?_ (congrFun (V_main_arg2 m c) _)
  blk_simp [iblk]
  exact congrArg _ (by blk_ext [idx t])
theorem blk4 (j : Fin 256) : (iblk m c 4 t : Vec Ideal S1x256 .f32) (ix2 0 j) = CB m c (ix2 0 j) := by
  refine Eq.trans ?_ (congrFun (V_main_arg4 m c) _)
  blk_simp [iblk]
  exact congrArg _ (by blk_ext [idx t])

theorem base_f (r : Fin 2048) (j : Fin 256) (h : t.val * 2048 + r.val < 8192) :
    base (iblk m c 0 t) (iblk m c 1 t) (iblk m c 3 t) r j = L 0 (by omega) (Z m c) (WF m c) (CF m c) j (t.val * 2048 + r.val) := by
  unfold L base pre
  rw [dif_pos h, blk3]
  refine congrArg (fun y => la (y + _)) ?_
  rw [sum_part 0 (by omega) _ fun k hk => ?_]
  · refine Finset.sum_congr rfl fun i _ => ?_
    rw [blk0 m c t r _ h, blk1, dif_pos (show 0 + i.val < 16 by omega)]
    congr 3 <;> (apply Fin.ext; simp <;> omega)
  · rw [blk1, dif_neg (by omega), mul_zero]
theorem base_b (r : Fin 2048) (j : Fin 256) (h : t.val * 2048 + r.val < 8192) :
    base (iblk m c 0 t) (iblk m c 2 t) (iblk m c 4 t) r j = L 16 (by omega) (Z m c) (WB m c) (CB m c) j (t.val * 2048 + r.val) := by
  unfold L base pre
  rw [dif_pos h, blk4]
  refine congrArg (fun y => la (y + _)) ?_
  rw [sum_part 16 (by omega) _ fun k hk => ?_]
  · refine Finset.sum_congr rfl fun i _ => ?_
    rw [blk0 m c t r _ h, blk2, dif_pos (show 16 ≤ 16 + i.val ∧ 16 + i.val < 32 by omega)]
    congr 3 <;> (apply Fin.ext; simp <;> omega)
  · rw [blk2, dif_neg (by omega), mul_zero]

theorem out5 : out0_5 (iblk m c 0 t) (iblk m c 1 t) (iblk m c 2 t) (iblk m c 3 t) (iblk m c 4 t)
    = k0_pay5 k0_pay1 (k0_pay2 (iblk m c 0 t) (iblk m c 1 t) (iblk m c 3 t)) k0_pay3
        (k0_pay4 (iblk m c 0 t) (iblk m c 1 t) (iblk m c 3 t)) (Scalar.ofBits .f32 0x00000000#32) := by
  unfold_out out0_5; frame_out
theorem out6 : out0_6 (iblk m c 0 t) (iblk m c 1 t) (iblk m c 2 t) (iblk m c 3 t) (iblk m c 4 t)
    = k0_pay7 k0_pay1 (k0_pay6 (iblk m c 0 t) (iblk m c 2 t) (iblk m c 4 t)) (Scalar.ofBits .f32 0x3D800000#32) := by
  unfold_out out0_6; frame_out

theorem emb5 (r : Fin 2048) (j : Fin 256) (h : t.val * 2048 + r.val < 8192) :
    (win0_5.blk t).view.emb (ix2 r j) = ix2 ⟨t.val * 2048 + r.val, h⟩ j := by blk_ext [idx t]
theorem emb6 (r : Fin 2048) (j : Fin 256) (h : t.val * 2048 + r.val < 8192) :
    (win0_6.blk t).view.emb (ix2 r j) = ix2 ⟨t.val * 2048 + r.val, h⟩ j := by blk_ext [idx t]

theorem final5 : (dats m 0 c).arrAt 5 cfg0.N
    = (fun i => BF (Z m c) (WF m c) (CF m c) (i 0) (i 1) : FVec Ideal S8192x256 .f32) := by
  refine (dats m 0 c).arrAt_eq_of_covers 5 _ (by decide +kernel) fun t hf y => ?_
  blk_simp
  rw [after0_5, out5]
  have hN : t.val < 4 := lt_of_lt_of_le t.isLt (le_of_eq N_0)
  obtain ⟨r, j, rfl⟩ : ∃ (r : Fin 2048) (j : Fin 256), y = ix2 r j := ⟨y 0, y 1, eq_ix2 y⟩
  have h : t.val * 2048 + r.val < 8192 := by omega
  rw [emb5 t r j h]
  refine (pay5_at _ _ _ (fun j n => L 0 (by omega) (Z m c) (WF m c) (CF m c) j (t.val * 2048 + n))
    (fun r j => base_f m c t r j (by omega)) r j).trans ?_
  show _ = ∑ i ∈ Finset.range ((t.val * 2048 + r.val) % 64 + 1), L 0 _ _ _ _ _ (t.val * 2048 + r.val - i)
  rw [show (t.val * 2048 + r.val) % 64 = r.val % 64 by omega]
  refine Finset.sum_congr rfl fun i hi => ?_
  have := Finset.mem_range.1 hi
  exact congrArg _ (by omega)
theorem final6 : (dats m 0 c).arrAt 6 cfg0.N
    = (fun i => BB (Z m c) (WB m c) (CB m c) (i 0) (i 1) : FVec Ideal S8192x256 .f32) := by
  refine (dats m 0 c).arrAt_eq_of_covers 6 _ (by decide +kernel) fun t hf y => ?_
  blk_simp
  rw [after0_6, out6]
  have hN : t.val < 4 := lt_of_lt_of_le t.isLt (le_of_eq N_0)
  obtain ⟨r, j, rfl⟩ : ∃ (r : Fin 2048) (j : Fin 256), y = ix2 r j := ⟨y 0, y 1, eq_ix2 y⟩
  have h : t.val * 2048 + r.val < 8192 := by omega
  rw [emb6 t r j h]
  refine (pay7_at _ _ _ (fun j n => L 16 (by omega) (Z m c) (WB m c) (CB m c) j (t.val * 2048 + n))
    (fun r j => base_b m c t r j (by omega)) r j).trans ?_
  show _ = ∑ i ∈ Finset.range (64 - (t.val * 2048 + r.val) % 64), L 16 _ _ _ _ _ (t.val * 2048 + r.val + i)
  rw [show (t.val * 2048 + r.val) % 64 = r.val % 64 by omega]
  refine Finset.sum_congr rfl fun i hi => ?_
  exact congrArg _ (by omega)

end Cert.GatesIdeal.Value
-- ==== Proof.GatesRef.lean ====
/- What the reference of the decay gates computes, read stage by stage at an entry. -/
module

public import proofs.«01_k».proof.Proof.GatesVal
public import proofs.«01_k».proof.Proof.Gen.GatesRefIdeal.Run
public import proofs.«01_k».proof.Proof.Gen.GatesRefIdeal.Read

@[expose] public section

set_option maxRecDepth 16384

noncomputable section

namespace Cert.GatesRefIdeal.Value

open Cert.GatesRefIdeal Cert.GatesRefIdeal.Gen Idealize.ShloMosaic Idealize.ShloMosaic.TcCoe Idealize.SL.Sem
open Cert.GatesRefIdeal.Read Cert.Gates Cert.GatesIdeal.Value

/-- The window of 64 of one chunk, its position. -/
abbrev W : Shape := ⟨3, ![1, 64, 1]⟩
def pos : Fin 64 ≃ W.Idx where
  toFun k := ix3 (0 : Fin 1) k (0 : Fin 1)
  invFun i := i 1
  left_inv _ := rfl
  right_inv i := by
    ext a
    match a with
    | ⟨0, _⟩ => exact (Nat.lt_one_iff.1 (i 0).isLt).symm
    | ⟨1, _⟩ => rfl
    | ⟨2, _⟩ => exact (Nat.lt_one_iff.1 (i 2).isLt).symm

/-- A window sum over the extended reals, as a sum over the window's positions. -/
theorem windowSum {s t u : Shape} (wd st lo hi : Fin s.rank → ℕ) (x : FVec Ideal s .f32) (v : FVec Ideal u .f32)
    (h : s.ReduceWindows wd st lo hi t) (hu : 0 < u.numel) (j : t.Idx) :
    Host.reduceWindowAdd wd st lo hi x v h hu j
      = v (Shape.Idx.first hu) + ∑ p : (⟨s.rank, wd⟩ : Shape).Idx,
          if hin : ∀ a, lo a ≤ (j (a.cast h.1.symm)).val * st a + (p a).val ∧ (j (a.cast h.1.symm)).val * st a + (p a).val - lo a < s.size a
          then x (fun a => ⟨(j (a.cast h.1.symm)).val * st a + (p a).val - lo a, (hin a).2⟩) else v (Shape.Idx.first hu) := by
  rw [← Equiv.sum_comp (⟨s.rank, wd⟩ : Shape).rowMajor.symm, Fin.sum_univ_def]
  show Host.reduceWindow (fun a b : EReal => a + b) wd st lo hi x (fun _ : (⟨0, ![]⟩ : Shape).Idx => v (Shape.Idx.first hu)) h (by decide) j = _
  unfold Host.reduceWindow
  refine Eq.trans ?_ (foldl_sum (fun n => if hin : ∀ a, lo a ≤ (j (a.cast h.1.symm)).val * st a + ((⟨s.rank, wd⟩ : Shape).rowMajor.symm n a).val
      ∧ (j (a.cast h.1.symm)).val * st a + ((⟨s.rank, wd⟩ : Shape).rowMajor.symm n a).val - lo a < s.size a
    then x (fun a => ⟨(j (a.cast h.1.symm)).val * st a + ((⟨s.rank, wd⟩ : Shape).rowMajor.symm n a).val - lo a, (hin a).2⟩)
    else v (Shape.Idx.first hu)) (List.finRange (⟨s.rank, wd⟩ : Shape).numel) (v (Shape.Idx.first hu)))
  congr!

/-- The window sum that adds up each chunk's rows. -/
theorem cumsum_at (x : FVec Ideal S128x64x256 .f32) (v : FVec Ideal S_ .f32) (hv : ∀ i, v i = 0) (F : ℕ → EReal)
    (g : Fin 128) (i : Fin 64) (j : Fin 256) (hF : ∀ k : Fin 64, x (ix3 g k j) = F k.val) :
    Host.reduceWindowAdd ![1, 64, 1] ![1, 1, 1] ![0, 63, 0] ![0, 0, 0] x v
        reduceWindows_S128x64x256_S128x64x256_w1s1p0_0_w64s1p63_0_w1s1p0_0 h_S_ (ix3 g i j)
      = ∑ t ∈ Finset.range (i.val + 1), F (i.val - t) := by
  rw [← window F i.val i.isLt]
  refine (windowSum ..).trans ?_
  rw [hv, zero_add]
  refine (Equiv.sum_comp pos _).symm.trans ?_
  refine Finset.sum_congr rfl fun k _ => ?_
  by_cases h : 63 ≤ i.val + k.val
  · rw [if_pos h, dif_pos]
    · refine Eq.trans ?_ (hF ⟨i.val + k.val - 63, by omega⟩)
      refine congrArg x ?_
      ext a
      match a with
      | ⟨0, _⟩ => show g.val * 1 + 0 - 0 = g.val; omega
      | ⟨1, _⟩ => show i.val * 1 + k.val - 63 = i.val + k.val - 63; omega
      | ⟨2, _⟩ => show j.val * 1 + 0 - 0 = j.val; omega
    · intro a
      match a with
      | ⟨0, _⟩ => show 0 ≤ g.val * 1 + 0 ∧ g.val * 1 + 0 - 0 < 128; omega
      | ⟨1, _⟩ => show 63 ≤ i.val * 1 + k.val ∧ i.val * 1 + k.val - 63 < 64; omega
      | ⟨2, _⟩ => show 0 ≤ j.val * 1 + 0 ∧ j.val * 1 + 0 - 0 < 256; omega
  · rw [if_neg h, dif_neg]
    intro hin
    have : 63 ≤ i.val * 1 + k.val := (hin 1).1
    omega

/-- Rows by chunk and place. -/
theorem cast_at (x : FVec Ideal S8192x256 .f32) (h : S8192x256.ShapeCasts S128x64x256) (g : Fin 128) (i : Fin 64) (j : Fin 256) :
    shapeCast S128x64x256 x h (ix3 g i j) = x (ix2 ⟨g.val * 64 + i.val, by omega⟩ j) := by
  refine shapeCast_apply x h _ _ ?_
  rw [Shape.rowMajor_val_three, Shape.rowMajor_val_two]
  rfl
theorem cast_at' (x : FVec Ideal S128x64x256 .f32) (h : S128x64x256.ShapeCasts S8192x256) (r : Fin 8192) (j : Fin 256) :
    shapeCast S8192x256 x h (ix2 r j) = x (ix3 ⟨r.val / 64, by omega⟩ ⟨r.val % 64, by omega⟩ j) := by
  refine shapeCast_apply x h _ _ ?_
  rw [Shape.rowMajor_val_three, Shape.rowMajor_val_two]
  show (r.val / 64 * 64 + r.val % 64) * 256 + j.val = r.val * 256 + j.val
  rw [Nat.div_add_mod']

variable (X0 : FVec Ideal S8192x1152 .f32) (X1 : FVec Ideal S16x256 .f32) (X2 : FVec Ideal S1x256 .f32)
  (X3 : FVec Ideal S16x256 .f32) (X4 : FVec Ideal S1x256 .f32)

theorem v4_at (r : Fin 8192) (j : Fin 256) : val_main_v4 (F := Ideal) X0 X1 X2 (ix2 r j) = pre 0 (by omega) X0 X1 X2 r j := by
  pointwise [val_main_v4, val_main_v3, val_main_v2, val_main_v1, val_main_v0]
  rfl
theorem v10_at (r : Fin 8192) (j : Fin 256) : val_main_v10 (F := Ideal) X0 X3 X4 (ix2 r j) = pre 16 (by omega) X0 X3 X4 r j := by
  pointwise [val_main_v10, val_main_v9, val_main_v8, val_main_v1, val_main_v0]
  rfl

theorem une_self (x : EReal) : Ideal.cmp .une x x = 0#1 := by simp [Ideal.cmp]

theorem v7_at (r : Fin 8192) (j : Fin 256) : val_main_v7 (F := Ideal) X0 X1 X2 (ix2 r j) = L 0 (by omega) X0 X1 X2 j r.val := by
  unfold L
  rw [dif_pos r.isLt, ← la_eq]
  pointwise [val_main_v7, val_main_v6, val_main_v5, val_main_cst, val_main_call0_v1, val_main_call0_v0,
    val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2,
    val_main_call0_call0_v1, val_main_call0_call0_v0, val_main_call0_call0_cst, v4_at, une_self]
  rfl
theorem v13_at (r : Fin 8192) (j : Fin 256) : val_main_v13 (F := Ideal) X0 X3 X4 (ix2 r j) = L 16 (by omega) X0 X3 X4 j r.val := by
  unfold L
  rw [dif_pos r.isLt, ← la_eq]
  pointwise [val_main_v13, val_main_v12, val_main_v11, val_main_cst_0, val_main_call1_v1, val_main_call1_v0,
    val_main_call1_call0_v11, val_main_call1_call0_v10, val_main_call1_call0_v9, val_main_call1_call0_v8, val_main_call1_call0_v7,
    val_main_call1_call0_v6, val_main_call1_call0_v5, val_main_call1_call0_v4, val_main_call1_call0_v3, val_main_call1_call0_v2,
    val_main_call1_call0_v1, val_main_call1_call0_v0, val_main_call1_call0_cst, v10_at, une_self]
  rfl

theorem v16_at (r : Fin 8192) (j : Fin 256) : val_main_v16 (F := Ideal) X0 X1 X2 (ix2 r j) = BF X0 X1 X2 r j := by
  unfold val_main_v16 val_main_v15
  rw [cast_at']
  refine (cumsum_at _ _ (fun i => ?_) (fun n => L 0 (by omega) X0 X1 X2 j (r.val / 64 * 64 + n)) _ _ _ fun k => ?_).trans ?_
  · pointwise [val_main_call2_call0_v0, val_main_call2_call0_cst]
  · unfold val_main_v14
    rw [cast_at, v7_at]
  · unfold BF
    refine Finset.sum_congr rfl fun i hi => ?_
    have := Finset.mem_range.1 hi
    have e : r.val / 64 * 64 + (r.val % 64 - i) = r.val - i := by omega
    exact congrArg (L 0 (by omega) X0 X1 X2 j) e
theorem v21_at (r : Fin 8192) (j : Fin 256) : val_main_v21 (F := Ideal) X0 X3 X4 (ix2 r j) = BB X0 X3 X4 r j := by
  have e1 : val_main_v21 (F := Ideal) X0 X3 X4 (ix2 r j) = val_main_v20 (F := Ideal) X0 X3 X4 (ix2 r.rev j) :=
    congrArg (val_main_v20 (F := Ideal) X0 X3 X4) (by ext a; match a with | ⟨0, _⟩ => rfl | ⟨1, _⟩ => rfl)
  have hr : r.rev.val = 8191 - r.val := by rw [Fin.val_rev]; omega
  rw [e1]
  unfold val_main_v20 val_main_v19
  rw [cast_at']
  refine (cumsum_at _ _ (fun i => ?_) (fun n => L 16 (by omega) X0 X3 X4 j (8191 - (r.rev.val / 64 * 64 + n))) _ _ _ fun k => ?_).trans ?_
  · pointwise [val_main_call4_call0_v0, val_main_call4_call0_cst]
  · unfold val_main_v18
    rw [cast_at]
    have e2 : ∀ q : Fin 8192, val_main_v17 (F := Ideal) X0 X3 X4 (ix2 q j) = val_main_v13 (F := Ideal) X0 X3 X4 (ix2 q.rev j) := fun q =>
      congrArg (val_main_v13 (F := Ideal) X0 X3 X4) (by ext a; match a with | ⟨0, _⟩ => rfl | ⟨1, _⟩ => rfl)
    rw [e2, v13_at]
    refine congrArg (L 16 (by omega) X0 X3 X4 j) ?_
    rw [Fin.val_rev]
    show 8192 - (r.rev.val / 64 * 64 + k.val + 1) = 8191 - (r.rev.val / 64 * 64 + k.val)
    omega
  · unfold BB
    rw [show r.rev.val % 64 + 1 = 64 - r.val % 64 by omega]
    refine Finset.sum_congr rfl fun i hi => ?_
    have := Finset.mem_range.1 hi
    have e : 8191 - (r.rev.val / 64 * 64 + (r.rev.val % 64 - i)) = r.val + i := by omega
    exact congrArg (L 16 (by omega) X0 X3 X4 j) e

end Cert.GatesRefIdeal.Value
-- ==== Proof.GatesClaim.lean ====
/- The claims about the kernel of the decay gates: the reference's frame, and the equality of the two
   programs' results. -/
module

public import proofs.«01_k».proof.Defs
public import proofs.«01_k».proof.Proof.GatesVal
public import proofs.«01_k».proof.Proof.GatesRef
public import Idealize.ShloMosaic.Lib.Quiescent

@[expose] public section

noncomputable section

namespace Cert.Proof

open Idealize.ShloMosaic Idealize.ShloMosaic.TcCoe Idealize.SL.Sem

attribute [local instance] Cert.GatesIdeal.Gen.facts Cert.GatesRefIdeal.Gen.facts

theorem gates_frame_ref : Cert.quiescent_GatesRefIdeal := fun m ρ _ =>
  (θ_run _ _ _).mono (fun r h => ⟨fun c => (h c).2.2, sem_eq_zero_of_no_sems (by decide) _⟩)
    (Cert.GatesRefIdeal.Value.run m ρ)

theorem gates_algebraic : Cert.algebraic_GatesIdeal_GatesRefIdeal := by
  intro m ρ m' ρ' hpre hag
  refine ⟨fun c => (Cert.GatesIdeal.Gen.dats m 0 c).arrAt 5 (Cert.GatesIdeal.cfgs 0).N,
    fun c => (Cert.GatesIdeal.Gen.dats m 0 c).arrAt 6 (Cert.GatesIdeal.cfgs 0).N,
    Cert.GatesIdeal.Value.run_blocks m ρ, (θ_run _ _ _).mono (fun r h c => ?_) (Cert.GatesRefIdeal.Value.run m' ρ')⟩
  obtain ⟨h0, h1, h2⟩ := h c
  obtain ⟨a0, a1, a2, a3, a4⟩ := hag c
  refine ⟨h0.trans ?_, h1.trans ?_, h2⟩
  · refine Eq.trans ?_ (Cert.GatesIdeal.Value.final5 m c).symm
    rw [Cert.GatesRefIdeal.Read.val_main_v16_eq, a0, a1, a2]
    funext i
    rw [Idealize.ShloMosaic.eq_ix2 i]
    exact Cert.GatesRefIdeal.Value.v16_at _ _ _ _ _
  · refine Eq.trans ?_ (Cert.GatesIdeal.Value.final6 m c).symm
    rw [Cert.GatesRefIdeal.Read.val_main_v21_eq, a0, a3, a4]
    funext i
    rw [Idealize.ShloMosaic.eq_ix2 i]
    exact Cert.GatesRefIdeal.Value.v21_at _ _ _ _ _

end Cert.Proof

end
-- ==== Proof.lean ====
/- The claims about the step's calls, put together. -/
module

public import proofs.«01_k».proof.Proof.Gen.XaBwd.Frame
public import proofs.«01_k».proof.Proof.Gen.DownDx.Frame
public import proofs.«01_k».proof.Proof.Gen.UpDx.Frame
public import proofs.«01_k».proof.Proof.Gen.InDx.Frame
public import proofs.«01_k».proof.Proof.Gen.XqDx.Frame
public import proofs.«01_k».proof.Proof.Gen.InDwA.Frame
public import proofs.«01_k».proof.Proof.Gen.InDwB.Frame
public import proofs.«01_k».proof.Proof.Gen.UpDw.Skeleton
public import proofs.«01_k».proof.Proof.Gen.UpDw.Frame
public import proofs.«01_k».proof.Proof.Gen.DownDw.Skeleton
public import proofs.«01_k».proof.Proof.Gen.DownDw.Frame
public import proofs.«01_k».proof.Proof.Gen.Loss.Frame
public import proofs.«01_k».proof.Proof.Gen.Up.Frame
public import proofs.«01_k».proof.Proof.Gen.In.Frame
public import proofs.«01_k».proof.Proof.Gen.XaFwd.Frame
public import proofs.«01_k».proof.Proof.Gen.Out.Frame
public import proofs.«01_k».proof.Proof.Gen.OutDx.Frame
public import proofs.«01_k».proof.Proof.Gen.Kv.Frame
public import proofs.«01_k».proof.Proof.Gen.KvDx.Frame
public import proofs.«01_k».proof.Proof.Gen.AdamUp.Frame
public import proofs.«01_k».proof.Proof.Gen.AdamDown.Frame
public import proofs.«01_k».proof.Proof.Gen.AdamIn.Frame
public import proofs.«01_k».proof.Proof.Gen.AdamOut.Frame
public import proofs.«01_k».proof.Proof.Gen.AdamXq.Frame
public import proofs.«01_k».proof.Proof.Gen.AdamXkv.Frame
public import proofs.«01_k».proof.Proof.Gen.AdamXo.Frame
public import proofs.«01_k».proof.Proof.Gen.NormMix.Frame
public import proofs.«01_k».proof.Proof.Gen.NormMem.Frame
public import proofs.«01_k».proof.Proof.Gen.NormMemBwd.Frame
public import proofs.«01_k».proof.Proof.Gen.Gates.Frame
public import proofs.«01_k».proof.Proof.XaClaim
public import proofs.«01_k».proof.Proof.DownClaim
public import proofs.«01_k».proof.Proof.UpClaim
public import proofs.«01_k».proof.Proof.InDxClaim
public import proofs.«01_k».proof.Proof.XqDxClaim
public import proofs.«01_k».proof.Proof.InDwClaim
public import proofs.«01_k».proof.Proof.InDwBClaim
public import proofs.«01_k».proof.Proof.UpDwClaim
public import proofs.«01_k».proof.Proof.DownDwClaim
public import proofs.«01_k».proof.Proof.LossClaim
public import proofs.«01_k».proof.Proof.UpFClaim
public import proofs.«01_k».proof.Proof.InFClaim
public import proofs.«01_k».proof.Proof.XaFwdClaim
public import proofs.«01_k».proof.Proof.OutClaim
public import proofs.«01_k».proof.Proof.OutDxClaim
public import proofs.«01_k».proof.Proof.KvClaim
public import proofs.«01_k».proof.Proof.KvDxClaim
public import proofs.«01_k».proof.Proof.AdamClaim
public import proofs.«01_k».proof.Proof.NormClaim
public import proofs.«01_k».proof.Proof.GatesClaim
public import Idealize.ShloMosaic.Adequacy
public import Idealize.ShloMosaic.Init

@[expose] public section

noncomputable section

namespace Cert.Proof

open Idealize.ShloMosaic Idealize.SL.Sem Cert.XaBwd

theorem claim : Cert.Claim := ⟨Cert.XaBwd.Gen.facts, Cert.XaBwdIdeal.Gen.facts, Cert.XaRefIdeal.Gen.facts, Cert.DownDx.Gen.facts, Cert.DownDxIdeal.Gen.facts, Cert.DownDxRefIdeal.Gen.facts, Cert.UpDx.Gen.facts, Cert.UpDxIdeal.Gen.facts, Cert.UpDxRefIdeal.Gen.facts, Cert.InDx.Gen.facts, Cert.InDxIdeal.Gen.facts, Cert.InDxRefIdeal.Gen.facts, Cert.XqDx.Gen.facts, Cert.XqDxIdeal.Gen.facts, Cert.XqDxRefIdeal.Gen.facts, Cert.InDwA.Gen.facts, Cert.InDwAIdeal.Gen.facts, Cert.InDwARefIdeal.Gen.facts, Cert.InDwB.Gen.facts, Cert.InDwBIdeal.Gen.facts, Cert.InDwBRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.Loss.Gen.facts, Cert.LossIdeal.Gen.facts, Cert.LossRefIdeal.Gen.facts, Cert.Up.Gen.facts, Cert.UpIdeal.Gen.facts, Cert.UpRefIdeal.Gen.facts, Cert.In.Gen.facts, Cert.InIdeal.Gen.facts, Cert.InRefIdeal.Gen.facts, Cert.XaFwd.Gen.facts, Cert.XaFwdIdeal.Gen.facts, Cert.XaFwdRefIdeal.Gen.facts, Cert.Out.Gen.facts, Cert.OutIdeal.Gen.facts, Cert.OutRefIdeal.Gen.facts, Cert.OutDx.Gen.facts, Cert.OutDxIdeal.Gen.facts, Cert.OutDxRefIdeal.Gen.facts, Cert.Kv.Gen.facts, Cert.KvIdeal.Gen.facts, Cert.KvRefIdeal.Gen.facts, Cert.KvDx.Gen.facts, Cert.KvDxIdeal.Gen.facts, Cert.KvDxRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamXq.Gen.facts, Cert.AdamXqIdeal.Gen.facts, Cert.AdamXqRefIdeal.Gen.facts, Cert.AdamXkv.Gen.facts, Cert.AdamXkvIdeal.Gen.facts, Cert.AdamXkvRefIdeal.Gen.facts, Cert.AdamXo.Gen.facts, Cert.AdamXoIdeal.Gen.facts, Cert.AdamXoRefIdeal.Gen.facts, Cert.NormMix.Gen.facts, Cert.NormMixIdeal.Gen.facts, Cert.NormMixRefIdeal.Gen.facts, Cert.NormMem.Gen.facts, Cert.NormMemIdeal.Gen.facts, Cert.NormMemRefIdeal.Gen.facts, Cert.NormMemBwd.Gen.facts, Cert.NormMemBwdIdeal.Gen.facts, Cert.NormMemBwdRefIdeal.Gen.facts, Cert.Gates.Gen.facts, Cert.GatesIdeal.Gen.facts, Cert.GatesRefIdeal.Gen.facts, Cert.Pre_finite_q_k.Gen.facts, fun m ρ _ => Cert.XaBwd.Gen.frame m ρ,
  fun m ρ _ => Cert.XaBwdIdeal.Gen.frame m ρ,
  xa_frame_ref,
  fun m ρ _ => Cert.DownDx.Gen.frame m ρ,
  fun m ρ _ => Cert.DownDxIdeal.Gen.frame m ρ,
  down_frame_ref,
  fun m ρ _ => Cert.UpDx.Gen.frame m ρ,
  fun m ρ _ => Cert.UpDxIdeal.Gen.frame m ρ,
  up_frame_ref,
  fun m ρ _ => Cert.InDx.Gen.frame m ρ,
  fun m ρ _ => Cert.InDxIdeal.Gen.frame m ρ,
  indx_frame_ref,
  fun m ρ _ => Cert.XqDx.Gen.frame m ρ,
  fun m ρ _ => Cert.XqDxIdeal.Gen.frame m ρ,
  xqdx_frame_ref,
  fun m ρ _ => Cert.InDwA.Gen.frame m ρ,
  fun m ρ _ => Cert.InDwAIdeal.Gen.frame m ρ,
  indwa_frame_ref,
  fun m ρ _ => Cert.InDwB.Gen.frame m ρ,
  fun m ρ _ => Cert.InDwBIdeal.Gen.frame m ρ,
  indwb_frame_ref,
  updw_frame_bits,
  updw_frame,
  updw_frame_ref,
  downdw_frame_bits,
  downdw_frame,
  downdw_frame_ref,
  fun m ρ _ => Cert.Loss.Gen.frame m ρ,
  fun m ρ _ => Cert.LossIdeal.Gen.frame m ρ,
  loss_frame_ref,
  fun m ρ _ => Cert.Up.Gen.frame m ρ,
  fun m ρ _ => Cert.UpIdeal.Gen.frame m ρ,
  upf_frame_ref,
  fun m ρ _ => Cert.In.Gen.frame m ρ,
  fun m ρ _ => Cert.InIdeal.Gen.frame m ρ,
  inf_frame_ref,
  fun m ρ _ => Cert.XaFwd.Gen.frame m ρ,
  fun m ρ _ => Cert.XaFwdIdeal.Gen.frame m ρ,
  xaf_frame_ref,
  fun m ρ _ => Cert.Out.Gen.frame m ρ,
  fun m ρ _ => Cert.OutIdeal.Gen.frame m ρ,
  out_frame_ref,
  fun m ρ _ => Cert.OutDx.Gen.frame m ρ,
  fun m ρ _ => Cert.OutDxIdeal.Gen.frame m ρ,
  outdx_frame_ref,
  fun m ρ _ => Cert.Kv.Gen.frame m ρ,
  fun m ρ _ => Cert.KvIdeal.Gen.frame m ρ,
  kv_frame_ref,
  fun m ρ _ => Cert.KvDx.Gen.frame m ρ,
  fun m ρ _ => Cert.KvDxIdeal.Gen.frame m ρ,
  kvdx_frame_ref,
  fun m ρ _ => Cert.AdamUp.Gen.frame m ρ,
  fun m ρ _ => Cert.AdamUpIdeal.Gen.frame m ρ,
  adamup_frame_ref,
  fun m ρ _ => Cert.AdamDown.Gen.frame m ρ,
  fun m ρ _ => Cert.AdamDownIdeal.Gen.frame m ρ,
  adamdown_frame_ref,
  fun m ρ _ => Cert.AdamIn.Gen.frame m ρ,
  fun m ρ _ => Cert.AdamInIdeal.Gen.frame m ρ,
  adamin_frame_ref,
  fun m ρ _ => Cert.AdamOut.Gen.frame m ρ,
  fun m ρ _ => Cert.AdamOutIdeal.Gen.frame m ρ,
  adamout_frame_ref,
  fun m ρ _ => Cert.AdamXq.Gen.frame m ρ,
  fun m ρ _ => Cert.AdamXqIdeal.Gen.frame m ρ,
  adamxq_frame_ref,
  fun m ρ _ => Cert.AdamXkv.Gen.frame m ρ,
  fun m ρ _ => Cert.AdamXkvIdeal.Gen.frame m ρ,
  adamxkv_frame_ref,
  fun m ρ _ => Cert.AdamXo.Gen.frame m ρ,
  fun m ρ _ => Cert.AdamXoIdeal.Gen.frame m ρ,
  adamxo_frame_ref,
  fun m ρ _ => Cert.NormMix.Gen.frame m ρ,
  fun m ρ _ => Cert.NormMixIdeal.Gen.frame m ρ,
  normmix_frame_ref,
  fun m ρ _ => Cert.NormMem.Gen.frame m ρ,
  fun m ρ _ => Cert.NormMemIdeal.Gen.frame m ρ,
  normmem_frame_ref,
  fun m ρ _ => Cert.NormMemBwd.Gen.frame m ρ,
  fun m ρ _ => Cert.NormMemBwdIdeal.Gen.frame m ρ,
  normmembwd_frame_ref,
  fun m ρ _ => Cert.Gates.Gen.frame m ρ,
  fun m ρ _ => Cert.GatesIdeal.Gen.frame m ρ,
  gates_frame_ref,
  trivial,
  xa_algebraic,
  trivial,
  down_algebraic,
  trivial,
  up_algebraic,
  trivial,
  indx_algebraic,
  trivial,
  xqdx_algebraic,
  trivial,
  indwa_algebraic,
  trivial,
  indwb_algebraic,
  trivial,
  updw_algebraic,
  trivial,
  downdw_algebraic,
  trivial,
  loss_algebraic,
  trivial,
  upf_algebraic,
  trivial,
  inf_algebraic,
  trivial,
  xaf_algebraic,
  trivial,
  out_algebraic,
  trivial,
  outdx_algebraic,
  trivial,
  kv_algebraic,
  trivial,
  kvdx_algebraic,
  trivial,
  adamup_algebraic,
  trivial,
  adamdown_algebraic,
  trivial,
  adamin_algebraic,
  trivial,
  adamout_algebraic,
  trivial,
  adamxq_algebraic,
  trivial,
  adamxkv_algebraic,
  trivial,
  adamxo_algebraic,
  trivial,
  normmix_algebraic,
  trivial,
  normmem_algebraic,
  trivial,
  normmembwd_algebraic,
  trivial,
  gates_algebraic⟩

end Cert.Proof

end
